-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite22 [hPre_finite22 : Cert.Pre_finite22.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite22 [hPre_finite22 : Cert.Pre_finite22.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Kernel22Ideal_pre_finite22 [hKernel22Ideal : Cert.Kernel22Ideal.Facts] [hPre_finite22 : Cert.Pre_finite22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite22 m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Reference22Ideal_pre_finite22 [hReference22Ideal : Cert.Reference22Ideal.Facts] [hPre_finite22 : Cert.Pre_finite22.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite22 m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)) (v5 : (c : Dev Cert.Kernel8Ideal.nD) → Buf (Elt Ideal) ((c.tc : Thread Cert.Kernel8Ideal.nD Cert.Kernel8Ideal.τ).loc Cert.Kernel8Ideal.main_v0_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_v0_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_v7) = v1 c
          ∧ r.2.mem ((c.tc : Thread Cert.Reference8Ideal.nD Cert.Reference8Ideal.τ).loc Cert.Reference8Ideal.main_v8) = v2 c
          ∧ r.2.mem ((c.tc : Thread Cert.Reference8Ideal.nD Cert.Reference8Ideal.τ).loc Cert.Reference8Ideal.main_v9) = v3 c
          ∧ r.2.mem ((c.tc : Thread Cert.Reference8Ideal.nD Cert.Reference8Ideal.τ).loc Cert.Reference8Ideal.main_v10) = v4 c
          ∧ r.2.mem ((c.tc : Thread Cert.Reference8Ideal.nD Cert.Reference8Ideal.τ).loc Cert.Reference8Ideal.main_v11) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_v21) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v12) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v25) = v0 c
          ∧ r.2.mem ((c.tc : Thread Cert.Reference14Ideal.nD Cert.Reference14Ideal.τ).loc Cert.Reference14Ideal.main_v26) = v1 c
          ∧ r.2.mem ((c.tc : Thread Cert.Reference14Ideal.nD Cert.Reference14Ideal.τ).loc Cert.Reference14Ideal.main_v2) = v2 c
          ∧ r.2.mem ((c.tc : Thread Cert.Reference14Ideal.nD Cert.Reference14Ideal.τ).loc Cert.Reference14Ideal.main_v5) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v35) = v0 c
          ∧ r.2.mem ((c.tc : Thread Cert.Reference15Ideal.nD Cert.Reference15Ideal.τ).loc Cert.Reference15Ideal.main_v39) = v1 c
          ∧ r.2.mem ((c.tc : Thread Cert.Reference15Ideal.nD Cert.Reference15Ideal.τ).loc Cert.Reference15Ideal.main_v41) = v2 c
          ∧ r.2.mem ((c.tc : Thread Cert.Reference15Ideal.nD Cert.Reference15Ideal.τ).loc Cert.Reference15Ideal.main_v42) = v3 c
          ∧ r.2.mem ((c.tc : Thread Cert.Reference15Ideal.nD Cert.Reference15Ideal.τ).loc Cert.Reference15Ideal.main_v43) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v13) = v2 c
          ∧ r.2.mem ((c.tc : Thread Cert.Reference20Ideal.nD Cert.Reference20Ideal.τ).loc Cert.Reference20Ideal.main_v15) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v50) = v0 c
          ∧ r.2.mem ((c.tc : Thread Cert.Reference21Ideal.nD Cert.Reference21Ideal.τ).loc Cert.Reference21Ideal.main_v51) = v1 c
          ∧ r.2.mem ((c.tc : Thread Cert.Reference21Ideal.nD Cert.Reference21Ideal.τ).loc Cert.Reference21Ideal.main_v52) = v2 c
          ∧ r.2.mem ((c.tc : Thread Cert.Reference21Ideal.nD Cert.Reference21Ideal.τ).loc Cert.Reference21Ideal.main_v33) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def preserves_Kernel22_Kernel22Ideal : Prop :=
  IdealRules.named_const.Statement Cert.Kernel22Ideal.κ "mask" .f32 0xF149F2CA#32 ⊥

def algebraic_Kernel22Ideal_Reference22Ideal_pre_finite22 [hKernel22Ideal : Cert.Kernel22Ideal.Facts] [hReference22Ideal : Cert.Reference22Ideal.Facts] [hPre_finite22 : Cert.Pre_finite22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite22 m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v3_0)) (v1 : (c : Dev Cert.Kernel22Ideal.nD) → Buf (Elt Ideal) ((c.tc : Thread Cert.Kernel22Ideal.nD Cert.Kernel22Ideal.τ).loc Cert.Kernel22Ideal.main_v3_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v3_0) = v0 c
          ∧ r.2.mem ((c.tc : Thread Cert.Kernel22Ideal.nD Cert.Kernel22Ideal.τ).loc Cert.Kernel22Ideal.main_v3_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v81) = v0 c
          ∧ r.2.mem ((c.tc : Thread Cert.Reference22Ideal.nD Cert.Reference22Ideal.τ).loc Cert.Reference22Ideal.main_v84) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v88_0)) (v1 : (c : Dev Cert.KernelIdeal.nD) → Buf (Elt Ideal) ((c.tc : Thread Cert.KernelIdeal.nD Cert.KernelIdeal.τ).loc Cert.KernelIdeal.main_v88_1)) (v2 : (c : Dev Cert.KernelIdeal.nD) → Buf (Elt Ideal) ((c.tc : Thread Cert.KernelIdeal.nD Cert.KernelIdeal.τ).loc Cert.KernelIdeal.main_v88_2)) (v3 : (c : Dev Cert.KernelIdeal.nD) → Buf (Elt Ideal) ((c.tc : Thread Cert.KernelIdeal.nD Cert.KernelIdeal.τ).loc Cert.KernelIdeal.main_v88_3)) (v4 : (c : Dev Cert.KernelIdeal.nD) → Buf (Elt Ideal) ((c.tc : Thread Cert.KernelIdeal.nD Cert.KernelIdeal.τ).loc Cert.KernelIdeal.main_v88_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88_0) = v0 c
          ∧ r.2.mem ((c.tc : Thread Cert.KernelIdeal.nD Cert.KernelIdeal.τ).loc Cert.KernelIdeal.main_v88_1) = v1 c
          ∧ r.2.mem ((c.tc : Thread Cert.KernelIdeal.nD Cert.KernelIdeal.τ).loc Cert.KernelIdeal.main_v88_2) = v2 c
          ∧ r.2.mem ((c.tc : Thread Cert.KernelIdeal.nD Cert.KernelIdeal.τ).loc Cert.KernelIdeal.main_v88_3) = v3 c
          ∧ r.2.mem ((c.tc : Thread Cert.KernelIdeal.nD Cert.KernelIdeal.τ).loc Cert.KernelIdeal.main_v88_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v102) = v3 c
          ∧ r.2.mem ((c.tc : Thread Cert.ReferenceIdeal.nD Cert.ReferenceIdeal.τ).loc Cert.ReferenceIdeal.main_v103) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel : Cert.Kernel.Facts) (hKernelIdeal : Cert.KernelIdeal.Facts) (hReferenceIdeal : Cert.ReferenceIdeal.Facts) (hPre_finite22 : Cert.Pre_finite22.Facts) (hPre_finite : Cert.Pre_finite.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Kernel22Ideal_pre_finite22 (hKernel22Ideal := hKernel22Ideal) (hPre_finite22 := hPre_finite22)
    ∧ quiescent_Reference22Ideal (hReference22Ideal := hReference22Ideal)
    ∧ quiescent_Reference22Ideal_pre_finite22 (hReference22Ideal := hReference22Ideal) (hPre_finite22 := hPre_finite22)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_pre_finite22 (hKernel22Ideal := hKernel22Ideal) (hReference22Ideal := hReference22Ideal) (hPre_finite22 := hPre_finite22)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x512 : Shape := ⟨2, ![2048, 512]⟩
abbrev S2048x8 : Shape := ⟨2, ![2048, 8]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x8 : S_.BroadcastsInDim S2048x8 (![] : Fin 0 → Fin S2048x8.rank)
  reducesTo_S2048x8_S_d0_1 : S2048x8.ReducesTo [0, 1] S_

variable [Facts]

def fn_part1 {F : FTy → Type} [FloatOps F] (main_arg4 : FVec F S2048x512 .f32) (main_v16 : IVec S_ 1) (main_v17 : FVec F S2048x8 .f32) : IVec S_ 1 :=
  let main_cst_4 : FVec F S_ .f32 := constant S_ .f32 0x7F800000#32
  let main_v18 : FVec F S2048x8 .f32 := broadcastInDim S2048x8 ![] bcast_S_S2048x8 main_cst_4
  let main_v19 : IVec S2048x8 1 := cmpf .olt main_v17 main_v18
  let main_c_5 : IVec S_ 1 := constantI S_ 1 1#1
  let main_v20 : IVec S_ 1 := (fun x v => Host.reduce IntOp.andi x v reducesTo_S2048x8_S_d0_1 h_S_) main_v19 main_c_5
  let main_v21 : IVec S_ 1 := andi main_v16 main_v20
  let main_v22 : FVec F S2048x512 .f32 := Host.absf main_arg4
  let main_cst_6 : FVec F S_ .f32 := constant S_ .f32 0x7F800000#32
  let main_v23 : FVec F S2048x512 .f32 := broadcastInDim S2048x512 ![] bcast_S_S2048x512 main_cst_6
  let main_v24 : IVec S2048x512 1 := cmpf .olt main_v22 main_v23
  let main_c_7 : IVec S_ 1 := constantI S_ 1 1#1
  let main_v25 : IVec S_ 1 := (fun x v => Host.reduce IntOp.andi x v reducesTo_S2048x512_S_d0_1 h_S_) main_v24 main_c_7
  let main_v26 : IVec S_ 1 := andi main_v21 main_v25
  main_v26

def fn {F : FTy → Type} [FloatOps F] (main_arg0 : FVec F S2048x512 .bf16) (main_arg1 : FVec F S2048x512 .bf16) (main_arg2 : FVec F S2048x512 .bf16) (main_arg3 : FVec F S2048x8 .f32) (main_arg4 : FVec F S2048x512 .f32) : IVec S_ 1 :=
  let main_v0 : FVec F S2048x512 .f32 := (extf .f32 · bitsLt_bf16_f32) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_c : IVec S_ 1 := constantI S_ 1 1#1
  let main_v4 : IVec S_ 1 := (fun x v => Host.reduce IntOp.andi x v reducesTo_S2048x512_S_d0_1 h_S_) main_v3 main_c
  let main_v5 : FVec F S2048x512 .f32 := (extf .f32 · bitsLt_bf16_f32) main_arg1
  let main_v6 : FVec F S2048x512 .f32 := Host.absf main_v5
  let main_cst_0 : FVec F S_ .f32 := constant S_ .f32 0x7F800000#32
  let main_v7 : FVec F S2048x512 .f32 := broadcastInDim S2048x512 ![] bcast_S_S2048x512 main_cst_0
  let main_v8 : IVec S2048x512 1 := cmpf .olt main_v6 main_v7
  let main_c_1 : IVec S_ 1 := constantI S_ 1 1#1
  let main_v9 : IVec S_ 1 := (fun x v => Host.reduce IntOp.andi x v reducesTo_S2048x512_S_d0_1 h_S_) main_v8 main_c_1
  let main_v10 : IVec S_ 1 := andi main_v4 main_v9
  let main_v11 : FVec F S2048x512 .f32 := (extf .f32 · bitsLt_bf16_f32) main_arg2
  let main_v12 : FVec F S2048x512 .f32 := Host.absf main_v11
  let main_cst_2 : FVec F S_ .f32 := constant S_ .f32 0x7F800000#32
  let main_v13 : FVec F S2048x512 .f32 := broadcastInDim S2048x512 ![] bcast_S_S2048x512 main_cst_2
  let main_v14 : IVec S2048x512 1 := cmpf .olt main_v12 main_v13
  let main_c_3 : IVec S_ 1 := constantI S_ 1 1#1
  let main_v15 : IVec S_ 1 := (fun x v => Host.reduce IntOp.andi x v reducesTo_S2048x512_S_d0_1 h_S_) main_v14 main_c_3
  let main_v16 : IVec S_ 1 := andi main_v10 main_v15
  let main_v17 : FVec F S2048x8 .f32 := Host.absf main_arg3
  fn_part1 (F := F) main_arg4 main_v16 main_v17
-- ==== Pre_finite22.lean ====
abbrev S2048x512 : Shape := ⟨2, ![2048, 512]⟩
abbrev S2048x8 : Shape := ⟨2, ![2048, 8]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x8 : S_.BroadcastsInDim S2048x8 (![] : Fin 0 → Fin S2048x8.rank)
  reducesTo_S2048x8_S_d0_1 : S2048x8.ReducesTo [0, 1] S_

variable [Facts]

def fn_part1 {F : FTy → Type} [FloatOps F] (main_v16 : IVec S_ 1) (main_v17 : FVec F S2048x8 .f32) : IVec S_ 1 :=
  let main_cst_4 : FVec F S_ .f32 := constant S_ .f32 0x7F800000#32
  let main_v18 : FVec F S2048x8 .f32 := broadcastInDim S2048x8 ![] bcast_S_S2048x8 main_cst_4
  let main_v19 : IVec S2048x8 1 := cmpf .olt main_v17 main_v18
  let main_c_5 : IVec S_ 1 := constantI S_ 1 1#1
  let main_v20 : IVec S_ 1 := (fun x v => Host.reduce IntOp.andi x v reducesTo_S2048x8_S_d0_1 h_S_) main_v19 main_c_5
  let main_v21 : IVec S_ 1 := andi main_v16 main_v20
  main_v21

def fn {F : FTy → Type} [FloatOps F] (main_arg0 : FVec F S2048x512 .bf16) (main_arg1 : FVec F S2048x512 .bf16) (main_arg2 : FVec F S2048x512 .bf16) (main_arg3 : FVec F S2048x8 .f32) : IVec S_ 1 :=
  let main_v0 : FVec F S2048x512 .f32 := (extf .f32 · bitsLt_bf16_f32) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_c : IVec S_ 1 := constantI S_ 1 1#1
  let main_v4 : IVec S_ 1 := (fun x v => Host.reduce IntOp.andi x v reducesTo_S2048x512_S_d0_1 h_S_) main_v3 main_c
  let main_v5 : FVec F S2048x512 .f32 := (extf .f32 · bitsLt_bf16_f32) main_arg1
  let main_v6 : FVec F S2048x512 .f32 := Host.absf main_v5
  let main_cst_0 : FVec F S_ .f32 := constant S_ .f32 0x7F800000#32
  let main_v7 : FVec F S2048x512 .f32 := broadcastInDim S2048x512 ![] bcast_S_S2048x512 main_cst_0
  let main_v8 : IVec S2048x512 1 := cmpf .olt main_v6 main_v7
  let main_c_1 : IVec S_ 1 := constantI S_ 1 1#1
  let main_v9 : IVec S_ 1 := (fun x v => Host.reduce IntOp.andi x v reducesTo_S2048x512_S_d0_1 h_S_) main_v8 main_c_1
  let main_v10 : IVec S_ 1 := andi main_v4 main_v9
  let main_v11 : FVec F S2048x512 .f32 := (extf .f32 · bitsLt_bf16_f32) main_arg2
  let main_v12 : FVec F S2048x512 .f32 := Host.absf main_v11
  let main_cst_2 : FVec F S_ .f32 := constant S_ .f32 0x7F800000#32
  let main_v13 : FVec F S2048x512 .f32 := broadcastInDim S2048x512 ![] bcast_S_S2048x512 main_cst_2
  let main_v14 : IVec S2048x512 1 := cmpf .olt main_v12 main_v13
  let main_c_3 : IVec S_ 1 := constantI S_ 1 1#1
  let main_v15 : IVec S_ 1 := (fun x v => Host.reduce IntOp.andi x v reducesTo_S2048x512_S_d0_1 h_S_) main_v14 main_c_3
  let main_v16 : IVec S_ 1 := andi main_v10 main_v15
  let main_v17 : FVec F S2048x8 .f32 := Host.absf main_arg3
  fn_part1 (F := F) main_v16 main_v17
-- ==== Kernel2.lean ====
abbrev S8x2048x704 : Shape := ⟨3, ![8, 2048, 704]⟩
abbrev S8x704x1024 : Shape := ⟨3, ![8, 704, 1024]⟩
abbrev S2048x1024 : Shape := ⟨2, ![2048, 1024]⟩
abbrev S1x1024 : Shape := ⟨2, ![1, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S8x2048x704, .bf16⟩
  | .hbm, ⟨1, _⟩ => ⟨S8x704x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_9 : BitVec 32 := 0#32
  let v14 : BitVec 1 := Scalar.cmpi .ne v13 c0_i32_9
  v14

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v48 : BitVec 32 := Scalar.extui v0
  let c0_i32_26 : BitVec 32 := 0#32
  let v49 : BitVec 1 := Scalar.cmpi .ne v48 c0_i32_26
  v49

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v50 : BitVec 1 := Scalar.xori v0 v_true
  let v51 : BitVec 32 := Scalar.extui v50
  let c0_i32_27 : BitVec 32 := 0#32
  let v52 : BitVec 1 := Scalar.cmpi .ne v51 c0_i32_27
  v52

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference2Ideal.lean ====
abbrev S8x2048x704 : Shape := ⟨3, ![8, 2048, 704]⟩
abbrev S8x704x1024 : Shape := ⟨3, ![8, 704, 1024]⟩
abbrev S2048x1024 : Shape := ⟨2, ![2048, 1024]⟩
abbrev S1x1024 : Shape := ⟨2, ![1, 1024]⟩
abbrev S5632x1024 : Shape := ⟨2, ![5632, 1024]⟩
abbrev S1024x5632 : Shape := ⟨2, ![1024, 5632]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x8x704 : Shape := ⟨3, ![2048, 8, 704]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x704x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S8x704x1024, .f32⟩
  | .hbm, ⟨6, _⟩ => ⟨S5632x1024, .f32⟩
  | .hbm, ⟨7, _⟩ => ⟨S1024x5632, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x5632, .f32⟩
  | .hbm, ⟨28, _⟩ => ⟨S8x2048x704, .f32⟩
  | .hbm, ⟨29, _⟩ => ⟨S2048x8x704, .f32⟩
  | .hbm, ⟨30, _⟩ => ⟨S2048x5632, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel3.lean ====
abbrev S8x2048x704 : Shape := ⟨3, ![8, 2048, 704]⟩
abbrev S2048x1024 : Shape := ⟨2, ![2048, 1024]⟩
abbrev S8x704x1024 : Shape := ⟨3, ![8, 704, 1024]⟩
abbrev S1x1024x704 : Shape := ⟨3, ![1, 1024, 704]⟩
abbrev S1024x1024 : Shape := ⟨2, ![1024, 1024]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x2048x704, .bf16⟩
  | .hbm, ⟨1, _⟩ => ⟨S2048x1024, .bf16⟩
  | .hbm, ⟨2, _⟩ => ⟨S8x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8x2048x704 : Shape := ⟨3, ![8, 2048, 704]⟩
abbrev S2048x1024 : Shape := ⟨2, ![2048, 1024]⟩
abbrev S_ : Shape := ⟨0, ![]⟩
abbrev S1024x5632 : Shape := ⟨2, ![1024, 5632]⟩
abbrev S2048x5632 : Shape := ⟨2, ![2048, 5632]⟩
abbrev S2048x8x704 : Shape := ⟨3, ![2048, 8, 704]⟩
abbrev S5632x1024 : Shape := ⟨2, ![5632, 1024]⟩
abbrev S8x704x1024 : Shape := ⟨3, ![8, 704, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S2048x1024, .bf16⟩
  | .hbm, ⟨2, _⟩ => ⟨S_, .f32⟩
  | .hbm, ⟨3, _⟩ => ⟨S1024x5632, .f32⟩
  | .hbm, ⟨4, _⟩ => ⟨S2048x1024, .f32⟩
  | .hbm, ⟨5, _⟩ => ⟨S2048x5632, .f32⟩
  | .hbm, ⟨6, _⟩ => ⟨S8x2048x704, .f32⟩
  | .hbm, ⟨7, _⟩ => ⟨S2048x8x704, .f32⟩
  | .hbm, ⟨8, _⟩ => ⟨S2048x5632, .f32⟩
  | .hbm, ⟨9, _⟩ => ⟨S5632x1024, .f32⟩
  | .hbm, ⟨10, _⟩ => ⟨S1024x5632, .f32⟩
  | .hbm, ⟨11, _⟩ => ⟨S5632x1024, .f32⟩
  | .hbm, ⟨12, _⟩ => ⟨S8x704x1024, .f32⟩
  | .hbm, ⟨13, _⟩ => ⟨S8x704x1024, .bf16⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S4x2048x704 : Shape := ⟨3, ![4, 2048, 704]⟩
abbrev S2048x1024 : Shape := ⟨2, ![2048, 1024]⟩
abbrev S2816x1024 : Shape := ⟨2, ![2816, 1024]⟩
abbrev S1x1024x704 : Shape := ⟨3, ![1, 1024, 704]⟩
abbrev S1024x1024 : Shape := ⟨2, ![1024, 1024]⟩
abbrev S704x1024 : Shape := ⟨2, ![704, 1024]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .f32⟩
  | .hbm, ⟨2, _⟩ => ⟨S2816x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .f32⟩
  | .local _ .vmem, ⟨3, _⟩ => ⟨S1024x1024, .f32⟩
  | .local _ .vmem, ⟨4, _⟩ => ⟨S704x1024, .bf16⟩
  | .local _ .vmem, ⟨5, _⟩ => ⟨S704x1024, .bf16⟩
  | .local _ .vmem, ⟨6, _⟩ => ⟨S704x1024, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4x2048x704 : Shape := ⟨3, ![4, 2048, 704]⟩
abbrev S2048x1024 : Shape := ⟨2, ![2048, 1024]⟩
abbrev S_ : Shape := ⟨0, ![]⟩
abbrev S2816x1024 : Shape := ⟨2, ![2816, 1024]⟩
abbrev S2048x4x704 : Shape := ⟨3, ![2048, 4, 704]⟩
abbrev S2048x2816 : Shape := ⟨2, ![2048, 2816]⟩
abbrev S1024x2816 : Shape := ⟨2, ![1024, 2816]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S4x2048x704, .f32⟩
  | .hbm, ⟨5, _⟩ => ⟨S2048x4x704, .f32⟩
  | .hbm, ⟨6, _⟩ => ⟨S2048x2816, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S1024x2816, .f32⟩
  | .hbm, ⟨15, _⟩ => ⟨S2816x1024, .f32⟩
  | .hbm, ⟨16, _⟩ => ⟨S2816x1024, .bf16⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel5.lean ====
abbrev S2048x1024 : Shape := ⟨2, ![2048, 1024]⟩
abbrev S2816x1024 : Shape := ⟨2, ![2816, 1024]⟩
abbrev S4x2048x704 : Shape := ⟨3, ![4, 2048, 704]⟩
abbrev S1024x1024 : Shape := ⟨2, ![1024, 1024]⟩
abbrev S704x1024 : Shape := ⟨2, ![704, 1024]⟩
abbrev S1x1024x704 : Shape := ⟨3, ![1, 1024, 704]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S4x2048x704, .f32⟩
  | .local _ .vmem, ⟨0, _⟩ => ⟨S1024x1024, .f32⟩
  | .local _ .vmem, ⟨1, _⟩ => ⟨S1024x1024, .f32⟩
  | .local _ .vmem, ⟨2, _⟩ => ⟨S704x1024, .bf16⟩
  | .local _ .vmem, ⟨3, _⟩ => ⟨S704x1024, .bf16⟩
  | .local _ .vmem, ⟨4, _⟩ => ⟨S1x1024x704, .f32⟩
  | .local _ .vmem, ⟨5, _⟩ => ⟨S1x1024x704, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩
abbrev S2048x4x704 : Shape := ⟨3, ![2048, 4, 704]⟩
abbrev S4x2048x704 : Shape := ⟨3, ![4, 2048, 704]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S_, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x2816, .f32⟩
  | .hbm, ⟨13, _⟩ => ⟨S2048x4x704, .f32⟩
  | .hbm, ⟨14, _⟩ => ⟨S4x2048x704, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel6.lean ====
abbrev S2048x1024 : Shape := ⟨2, ![2048, 1024]⟩
abbrev S8x704x1024 : Shape := ⟨3, ![8, 704, 1024]⟩
abbrev S8x2048x704 : Shape := ⟨3, ![8, 2048, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S8x704x1024, .bf16⟩
  | .hbm, ⟨2, _⟩ => ⟨S8x2048x704, .f32⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .f32⟩
  | .local _ .vmem, ⟨5, _⟩ => ⟨S1x1024x704, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x1024 : Shape := ⟨2, ![2048, 1024]⟩
abbrev S8x704x1024 : Shape := ⟨3, ![8, 704, 1024]⟩
abbrev S5632x1024 : Shape := ⟨2, ![5632, 1024]⟩
abbrev S1024x5632 : Shape := ⟨2, ![1024, 5632]⟩
abbrev S2048x5632 : Shape := ⟨2, ![2048, 5632]⟩
abbrev S2048x8x704 : Shape := ⟨3, ![2048, 8, 704]⟩
abbrev S8x2048x704 : Shape := ⟨3, ![8, 2048, 704]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x704x1024, .bf16⟩
  | .hbm, ⟨2, _⟩ => ⟨S2048x1024, .f32⟩
  | .hbm, ⟨3, _⟩ => ⟨S8x704x1024, .f32⟩
  | .hbm, ⟨4, _⟩ => ⟨S5632x1024, .f32⟩
  | .hbm, ⟨5, _⟩ => ⟨S1024x5632, .f32⟩
  | .hbm, ⟨6, _⟩ => ⟨S2048x5632, .f32⟩
  | .hbm, ⟨7, _⟩ => ⟨S2048x8x704, .f32⟩
  | .hbm, ⟨8, _⟩ => ⟨S8x2048x704, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel7.lean ====
abbrev S4x2048x704 : Shape := ⟨3, ![4, 2048, 704]⟩
abbrev S2816x1024 : Shape := ⟨2, ![2816, 1024]⟩
abbrev S2048x1024 : Shape := ⟨2, ![2048, 1024]⟩
abbrev S1x512x704 : Shape := ⟨3, ![1, 512, 704]⟩
abbrev S704x1024 : Shape := ⟨2, ![704, 1024]⟩
abbrev S512x1024 : Shape := ⟨2, ![512, 1024]⟩
abbrev S512x704 : Shape := ⟨2, ![512, 704]⟩

abbrev nBuf : Space → Nat
  | .hbm => 4
  | .vmem => 9
  | .smem => 0
  | _ => 0

abbrev bufTy : (tb : Table) → Fin (tcTables nBuf tb) → BufTy
  | .hbm, ⟨0, _⟩ => ⟨S4x2048x704, .bf16⟩
  | .hbm, ⟨1, _⟩ => ⟨S2816x1024, .bf16⟩
  | .hbm, ⟨2, _⟩ => ⟨S2048x1024, .f32⟩
  | .hbm, ⟨3, _⟩ => ⟨S2048x1024, .f32⟩
  | .local _ .vmem, ⟨0, _⟩ => ⟨S1x512x704, .bf16⟩
  | .local _ .vmem, ⟨1, _⟩ => ⟨S1x512x704, .bf16⟩
  | .local _ .vmem, ⟨2, _⟩ => ⟨S704x1024, .bf16⟩
  | .local _ .vmem, ⟨3, _⟩ => ⟨S704x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference7Ideal.lean ====
abbrev S4x2048x704 : Shape := ⟨3, ![4, 2048, 704]⟩
abbrev S2816x1024 : Shape := ⟨2, ![2816, 1024]⟩
abbrev S2048x1024 : Shape := ⟨2, ![2048, 1024]⟩
abbrev S2048x4x704 : Shape := ⟨3, ![2048, 4, 704]⟩
abbrev S2048x2816 : Shape := ⟨2, ![2048, 2816]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S2816x1024, .bf16⟩
  | .hbm, ⟨2, _⟩ => ⟨S2048x1024, .f32⟩
  | .hbm, ⟨3, _⟩ => ⟨S4x2048x704, .f32⟩
  | .hbm, ⟨4, _⟩ => ⟨S2048x4x704, .f32⟩
  | .hbm, ⟨5, _⟩ => ⟨S2048x2816, .f32⟩
  | .hbm, ⟨6, _⟩ => ⟨S2816x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel8.lean ====
abbrev S2048x1024 : Shape := ⟨2, ![2048, 1024]⟩
abbrev S1024x4736 : Shape := ⟨2, ![1024, 4736]⟩
abbrev S2048x512 : Shape := ⟨2, ![2048, 512]⟩
abbrev S2048x128 : Shape := ⟨2, ![2048, 128]⟩
abbrev S2048x2048 : Shape := ⟨2, ![2048, 2048]⟩
abbrev S256x1024 : Shape := ⟨2, ![256, 1024]⟩
abbrev S256x512 : Shape := ⟨2, ![256, 512]⟩
abbrev S256x128 : Shape := ⟨2, ![256, 128]⟩
abbrev S256x2048 : Shape := ⟨2, ![256, 2048]⟩
abbrev S256x4736 : Shape := ⟨2, ![256, 4736]⟩

abbrev nBuf : Space → Nat
  | .hbm => 8
  | .vmem => 15
  | .smem => 0
  | _ => 0

abbrev bufTy : (tb : Table) → Fin (tcTables nBuf tb) → BufTy
  | .hbm, ⟨0, _⟩ => ⟨S2048x1024, .bf16⟩
  | .hbm, ⟨1, _⟩ => ⟨S1024x4736, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x128, .f32⟩
  | .hbm, ⟨6, _⟩ => ⟨S2048x1024, .f32⟩
  | .hbm, ⟨7, _⟩ => ⟨S2048x2048, .f32⟩
  | .local _ .vmem, ⟨0, _⟩ => ⟨S256x1024, .bf16⟩
  | .local _ .vmem, ⟨1, _⟩ => ⟨S256x1024, .bf16⟩
  | .local _ .vmem, ⟨2, _⟩ => ⟨S1024x4736, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x128, .f32⟩
  | .local _ .vmem, ⟨10, _⟩ => ⟨S256x128, .f32⟩
  | .local _ .vmem, ⟨11, _⟩ => ⟨S256x1024, .f32⟩
  | .local _ .vmem, ⟨12, _⟩ => ⟨S256x1024, .f32⟩
  | .local _ .vmem, ⟨13, _⟩ => ⟨S256x2048, .f32⟩
  | .local _ .vmem, ⟨14, _⟩ => ⟨S256x2048, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4736 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S2048x1024 : Shape := ⟨2, ![2048, 1024]⟩
abbrev S1024x4736 : Shape := ⟨2, ![1024, 4736]⟩
abbrev S2048x4736 : Shape := ⟨2, ![2048, 4736]⟩
abbrev S2048x512 : Shape := ⟨2, ![2048, 512]⟩
abbrev S2048x128 : Shape := ⟨2, ![2048, 128]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4736, .bf16⟩
  | .hbm, ⟨2, _⟩ => ⟨S2048x1024, .f32⟩
  | .hbm, ⟨3, _⟩ => ⟨S1024x4736, .f32⟩
  | .hbm, ⟨4, _⟩ => ⟨S2048x4736, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .bf16⟩
  | .hbm, ⟨9, _⟩ => ⟨S2048x512, .bf16⟩
  | .hbm, ⟨10, _⟩ => ⟨S2048x512, .bf16⟩
  | .hbm, ⟨11, _⟩ => ⟨S2048x128, .f32⟩
  | .hbm, ⟨12, _⟩ => ⟨S2048x1024, .f32⟩
  | .hbm, ⟨13, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel9.lean ====
abbrev S2048x4736 : Shape := ⟨2, ![2048, 4736]⟩
abbrev S1024x4736 : Shape := ⟨2, ![1024, 4736]⟩
abbrev S2048x1024 : Shape := ⟨2, ![2048, 1024]⟩
abbrev S1x1024 : Shape := ⟨2, ![1, 1024]⟩
abbrev S256x4736 : Shape := ⟨2, ![256, 4736]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2048x4736, .bf16⟩
  | .hbm, ⟨1, _⟩ => ⟨S1024x4736, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1x1024, .f32⟩
  | .local _ .vmem, ⟨0, _⟩ => ⟨S256x4736, .bf16⟩
  | .local _ .vmem, ⟨1, _⟩ => ⟨S256x4736, .bf16⟩
  | .local _ .vmem, ⟨2, _⟩ => ⟨S1024x4736, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S2048x4736, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v36 : BitVec 32 := Scalar.extui v0
  let c0_i32_17 : BitVec 32 := 0#32
  let v37 : BitVec 1 := Scalar.cmpi .ne v36 c0_i32_17
  v37

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v38 : BitVec 1 := Scalar.xori v0 v_true
  let v39 : BitVec 32 := Scalar.extui v38
  let c0_i32_18 : BitVec 32 := 0#32
  let v40 : BitVec 1 := Scalar.cmpi .ne v39 c0_i32_18
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4736 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4736 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S2048x4736 : Shape := ⟨2, ![2048, 4736]⟩
abbrev S1024x4736 : Shape := ⟨2, ![1024, 4736]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S2048x4736, .bf16⟩
  | .hbm, ⟨1, _⟩ => ⟨S1024x4736, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1024x4736, .f32⟩
  | .hbm, ⟨25, _⟩ => ⟨S2048x4736, .f32⟩
  | .hbm, ⟨26, _⟩ => ⟨S2048x4736, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | _, _ => ⟨S2048x4736, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel10.lean ====
abbrev S2048x1024 : Shape := ⟨2, ![2048, 1024]⟩
abbrev S2048x4736 : Shape := ⟨2, ![2048, 4736]⟩
abbrev S1024x4736 : Shape := ⟨2, ![1024, 4736]⟩
abbrev S512x256 : Shape := ⟨2, ![512, 256]⟩
abbrev S512x4736 : Shape := ⟨2, ![512, 4736]⟩
abbrev S256x4736 : Shape := ⟨2, ![256, 4736]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x4736, .bf16⟩
  | .hbm, ⟨2, _⟩ => ⟨S1024x4736, .bf16⟩
  | .local _ .vmem, ⟨0, _⟩ => ⟨S512x256, .bf16⟩
  | .local _ .vmem, ⟨1, _⟩ => ⟨S512x256, .bf16⟩
  | .local _ .vmem, ⟨2, _⟩ => ⟨S512x4736, .bf16⟩
  | .local _ .vmem, ⟨3, _⟩ => ⟨S512x4736, .bf16⟩
  | .local _ .vmem, ⟨4, _⟩ => ⟨S256x4736, .bf16⟩
  | .local _ .vmem, ⟨5, _⟩ => ⟨S256x4736, .bf16⟩
  | .local _ .vmem, ⟨6, _⟩ => ⟨S256x4736, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4736 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4736 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S2048x1024 : Shape := ⟨2, ![2048, 1024]⟩
abbrev S2048x4736 : Shape := ⟨2, ![2048, 4736]⟩
abbrev S_ : Shape := ⟨0, ![]⟩
abbrev S1024x4736 : Shape := ⟨2, ![1024, 4736]⟩
abbrev S4736x1024 : Shape := ⟨2, ![4736, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4736, .bf16⟩
  | .hbm, ⟨2, _⟩ => ⟨S_, .f32⟩
  | .hbm, ⟨3, _⟩ => ⟨S1024x4736, .f32⟩
  | .hbm, ⟨4, _⟩ => ⟨S2048x1024, .f32⟩
  | .hbm, ⟨5, _⟩ => ⟨S2048x4736, .f32⟩
  | .hbm, ⟨6, _⟩ => ⟨S2048x4736, .f32⟩
  | .hbm, ⟨7, _⟩ => ⟨S4736x1024, .f32⟩
  | .hbm, ⟨8, _⟩ => ⟨S1024x4736, .f32⟩
  | .hbm, ⟨9, _⟩ => ⟨S1024x4736, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8x2048x704 : Shape := ⟨3, ![8, 2048, 704]⟩
abbrev S2x4x2048x704 : Shape := ⟨4, ![2, 4, 2048, 704]⟩
abbrev S4x2048x704 : Shape := ⟨3, ![4, 2048, 704]⟩
abbrev S2x1x512x704 : Shape := ⟨4, ![2, 1, 512, 704]⟩
abbrev S1x512x704 : Shape := ⟨3, ![1, 512, 704]⟩
abbrev S1x1x512x704 : Shape := ⟨4, ![1, 1, 512, 704]⟩
abbrev S512x704 : Shape := ⟨2, ![512, 704]⟩

abbrev nBuf : Space → Nat
  | .hbm => 3
  | .vmem => 4
  | .smem => 0
  | _ => 0

abbrev bufTy : (tb : Table) → Fin (tcTables nBuf tb) → BufTy
  | .hbm, ⟨0, _⟩ => ⟨S8x2048x704, .f32⟩
  | .hbm, ⟨1, _⟩ => ⟨S2x4x2048x704, .f32⟩
  | .hbm, ⟨2, _⟩ => ⟨S4x2048x704, .bf16⟩
  | .local _ .vmem, ⟨0, _⟩ => ⟨S2x1x512x704, .f32⟩
  | .local _ .vmem, ⟨1, _⟩ => ⟨S2x1x512x704, .f32⟩
  | .local _ .vmem, ⟨2, _⟩ => ⟨S1x512x704, .bf16⟩
  | .local _ .vmem, ⟨3, _⟩ => ⟨S1x512x704, .bf16⟩
  | _, _ => ⟨S8x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x1x512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference12Ideal.lean ====
abbrev S8x2048x704 : Shape := ⟨3, ![8, 2048, 704]⟩
abbrev S2048x8x704 : Shape := ⟨3, ![2048, 8, 704]⟩
abbrev S2048x5632 : Shape := ⟨2, ![2048, 5632]⟩
abbrev S2048x2816 : Shape := ⟨2, ![2048, 2816]⟩
abbrev S_ : Shape := ⟨0, ![]⟩
abbrev S2048x4x704 : Shape := ⟨3, ![2048, 4, 704]⟩
abbrev S4x2048x704 : Shape := ⟨3, ![4, 2048, 704]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x704, .f32⟩
  | .hbm, ⟨1, _⟩ => ⟨S2048x8x704, .f32⟩
  | .hbm, ⟨2, _⟩ => ⟨S2048x5632, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x4x704, .f32⟩
  | .hbm, ⟨16, _⟩ => ⟨S4x2048x704, .f32⟩
  | .hbm, ⟨17, _⟩ => ⟨S4x2048x704, .bf16⟩
  | _, _ => ⟨S8x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== Kernel13.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel14.lean ====
abbrev S2048x512 : Shape := ⟨2, ![2048, 512]⟩
abbrev S2048x2048 : Shape := ⟨2, ![2048, 2048]⟩
abbrev S2048x1024 : Shape := ⟨2, ![2048, 1024]⟩
abbrev S512x1024 : Shape := ⟨2, ![512, 1024]⟩
abbrev S1024x1024 : Shape := ⟨2, ![1024, 1024]⟩
abbrev S256x512 : Shape := ⟨2, ![256, 512]⟩
abbrev S256x2048 : Shape := ⟨2, ![256, 2048]⟩
abbrev S256x1024 : Shape := ⟨2, ![256, 1024]⟩

abbrev nBuf : Space → Nat
  | .hbm => 11
  | .vmem => 19
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x2048, .f32⟩
  | .hbm, ⟨3, _⟩ => ⟨S2048x1024, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S2048x1024, .f32⟩
  | .hbm, ⟨8, _⟩ => ⟨S2048x1024, .bf16⟩
  | .hbm, ⟨9, _⟩ => ⟨S2048x1024, .f32⟩
  | .hbm, ⟨10, _⟩ => ⟨S2048x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference14Ideal.lean ====
abbrev S2048x512 : Shape := ⟨2, ![2048, 512]⟩
abbrev S2048x2048 : Shape := ⟨2, ![2048, 2048]⟩
abbrev S2048x1024 : Shape := ⟨2, ![2048, 1024]⟩
abbrev S512x1024 : Shape := ⟨2, ![512, 1024]⟩
abbrev S1024x1024 : Shape := ⟨2, ![1024, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x2048, .f32⟩
  | .hbm, ⟨3, _⟩ => ⟨S2048x1024, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S2048x512, .f32⟩
  | .hbm, ⟨8, _⟩ => ⟨S512x1024, .f32⟩
  | .hbm, ⟨9, _⟩ => ⟨S2048x1024, .f32⟩
  | .hbm, ⟨10, _⟩ => ⟨S2048x512, .f32⟩
  | .hbm, ⟨11, _⟩ => ⟨S512x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S1024x1024, .f32⟩
  | .hbm, ⟨35, _⟩ => ⟨S2048x1024, .f32⟩
  | .hbm, ⟨36, _⟩ => ⟨S2048x1024, .f32⟩
  | .hbm, ⟨37, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel15.lean ====
abbrev S2048x1024 : Shape := ⟨2, ![2048, 1024]⟩
abbrev S2048x2048 : Shape := ⟨2, ![2048, 2048]⟩
abbrev S512x1024 : Shape := ⟨2, ![512, 1024]⟩
abbrev S1024x1024 : Shape := ⟨2, ![1024, 1024]⟩
abbrev S2048x512 : Shape := ⟨2, ![2048, 512]⟩
abbrev S256x1024 : Shape := ⟨2, ![256, 1024]⟩
abbrev S256x2048 : Shape := ⟨2, ![256, 2048]⟩
abbrev S256x512 : Shape := ⟨2, ![256, 512]⟩

abbrev nBuf : Space → Nat
  | .hbm => 12
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x1024, .f32⟩
  | .hbm, ⟨3, _⟩ => ⟨S2048x1024, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S2048x512, .f32⟩
  | .hbm, ⟨8, _⟩ => ⟨S2048x512, .f32⟩
  | .hbm, ⟨9, _⟩ => ⟨S2048x2048, .bf16⟩
  | .hbm, ⟨10, _⟩ => ⟨S2048x1024, .bf16⟩
  | .hbm, ⟨11, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x2048, .bf16⟩
  | .local _ .vmem, ⟨16, _⟩ => ⟨S256x2048, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference15Ideal.lean ====
abbrev S2048x1024 : Shape := ⟨2, ![2048, 1024]⟩
abbrev S2048x2048 : Shape := ⟨2, ![2048, 2048]⟩
abbrev S512x1024 : Shape := ⟨2, ![512, 1024]⟩
abbrev S1024x1024 : Shape := ⟨2, ![1024, 1024]⟩
abbrev S_ : Shape := ⟨0, ![]⟩
abbrev S2048x512 : Shape := ⟨2, ![2048, 512]⟩

abbrev nBuf : Space → Nat
  | .hbm => 59
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x1024, .f32⟩
  | .hbm, ⟨3, _⟩ => ⟨S2048x1024, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S1024x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048x512, .f32⟩
  | .hbm, ⟨47, _⟩ => ⟨S512x1024, .f32⟩
  | .hbm, ⟨48, _⟩ => ⟨S2048x1024, .f32⟩
  | .hbm, ⟨49, _⟩ => ⟨S2048x512, .f32⟩
  | .hbm, ⟨50, _⟩ => ⟨S_, .f32⟩
  | .hbm, ⟨51, _⟩ => ⟨S2048x512, .f32⟩
  | .hbm, ⟨52, _⟩ => ⟨S512x1024, .f32⟩
  | .hbm, ⟨53, _⟩ => ⟨S2048x1024, .f32⟩
  | .hbm, ⟨54, _⟩ => ⟨S2048x512, .f32⟩
  | .hbm, ⟨55, _⟩ => ⟨S2048x2048, .f32⟩
  | .hbm, ⟨56, _⟩ => ⟨S2048x2048, .bf16⟩
  | .hbm, ⟨57, _⟩ => ⟨S2048x1024, .bf16⟩
  | .hbm, ⟨58, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel16.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference16Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S2048x512 : Shape := ⟨2, ![2048, 512]⟩
abbrev S2048x1024 : Shape := ⟨2, ![2048, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S512x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference17Ideal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S_, .f32⟩
  | .hbm, ⟨3, _⟩ => ⟨S512x1024, .f32⟩
  | .hbm, ⟨4, _⟩ => ⟨S2048x512, .f32⟩
  | .hbm, ⟨5, _⟩ => ⟨S2048x1024, .f32⟩
  | .hbm, ⟨6, _⟩ => ⟨S2048x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference18Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel19.lean ====
abbrev S2048x256 : Shape := ⟨2, ![2048, 256]⟩
abbrev S2048x1024 : Shape := ⟨2, ![2048, 1024]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S2048x1024, .bf16⟩
  | .hbm, ⟨2, _⟩ => ⟨S256x1024, .bf16⟩
  | .local _ .vmem, ⟨0, _⟩ => ⟨S512x256, .f32⟩
  | .local _ .vmem, ⟨1, _⟩ => ⟨S512x256, .f32⟩
  | .local _ .vmem, ⟨2, _⟩ => ⟨S512x1024, .bf16⟩
  | .local _ .vmem, ⟨3, _⟩ => ⟨S512x1024, .bf16⟩
  | .local _ .vmem, ⟨4, _⟩ => ⟨S256x1024, .bf16⟩
  | .local _ .vmem, ⟨5, _⟩ => ⟨S256x1024, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference19Ideal.lean ====
abbrev S2048x256 : Shape := ⟨2, ![2048, 256]⟩
abbrev S2048x1024 : Shape := ⟨2, ![2048, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x1024, .bf16⟩
  | .hbm, ⟨2, _⟩ => ⟨S_, .f32⟩
  | .hbm, ⟨3, _⟩ => ⟨S256x1024, .f32⟩
  | .hbm, ⟨4, _⟩ => ⟨S2048x1024, .f32⟩
  | .hbm, ⟨5, _⟩ => ⟨S2048x1024, .f32⟩
  | .hbm, ⟨6, _⟩ => ⟨S1024x256, .f32⟩
  | .hbm, ⟨7, _⟩ => ⟨S256x1024, .f32⟩
  | .hbm, ⟨8, _⟩ => ⟨S256x1024, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S2048x1024 : Shape := ⟨2, ![2048, 1024]⟩
abbrev S2048x256 : Shape := ⟨2, ![2048, 256]⟩
abbrev S1x1024 : Shape := ⟨2, ![1, 1024]⟩
abbrev S1024x1024 : Shape := ⟨2, ![1024, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S2048x1024, .f32⟩
  | .hbm, ⟨6, _⟩ => ⟨S2048x1024, .bf16⟩
  | .hbm, ⟨7, _⟩ => ⟨S2048x1024, .f32⟩
  | .hbm, ⟨8, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference20Ideal.lean ====
abbrev S2048x1024 : Shape := ⟨2, ![2048, 1024]⟩
abbrev S2048x256 : Shape := ⟨2, ![2048, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S2048 : Shape := ⟨1, ![2048]⟩
abbrev S2048x1 : Shape := ⟨2, ![2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S1024x1024, .f32⟩
  | .hbm, ⟨21, _⟩ => ⟨S2048x1024, .f32⟩
  | .hbm, ⟨22, _⟩ => ⟨S256x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel21.lean ====
abbrev S2048x1024 : Shape := ⟨2, ![2048, 1024]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1024x1024, .bf16⟩
  | .hbm, ⟨6, _⟩ => ⟨S2048x1024, .f32⟩
  | .hbm, ⟨7, _⟩ => ⟨S2048x1024, .bf16⟩
  | .hbm, ⟨8, _⟩ => ⟨S2048x1024, .bf16⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1024x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v57 : BitVec 1 := Scalar.cmpi .eq arg0 c0_i32
  let v58 : BitVec 32 := Scalar.extui v57
  let c0_i32_27 : BitVec 32 := 0#32
  let v59 : BitVec 1 := Scalar.cmpi .ne v58 c0_i32_27
  v59

def k0_cond2 (i : grid0.Coords) : BitVec 1 :=
  let arg0 : BitVec 32 := BitVec.ofNat 32 (i 0).val
  let c0_i32_28 : BitVec 32 := 0#32
  let v60 : BitVec 1 := Scalar.cmpi .sgt arg0 c0_i32_28
  let v61 : BitVec 32 := Scalar.extui v60
  let c0_i32_29 : BitVec 32 := 0#32
  let v62 : BitVec 1 := Scalar.cmpi .ne v61 c0_i32_29
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference21Ideal.lean ====
abbrev S2048x1024 : Shape := ⟨2, ![2048, 1024]⟩
abbrev S1x1024 : Shape := ⟨2, ![1, 1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1024x1024, .bf16⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S1024x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S2048, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .bf16⟩
  | .hbm, ⟨69, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Kernel22.lean ====
abbrev S2048x512 : Shape := ⟨2, ![2048, 512]⟩
abbrev S2048x8 : Shape := ⟨2, ![2048, 8]⟩
abbrev S8x2048 : Shape := ⟨2, ![8, 2048]⟩
abbrev S8x8x256 : Shape := ⟨3, ![8, 8, 256]⟩
abbrev S4x2048x128 : Shape := ⟨3, ![4, 2048, 128]⟩
abbrev S256x128 : Shape := ⟨2, ![256, 128]⟩
abbrev S2048x128 : Shape := ⟨2, ![2048, 128]⟩
abbrev S1x256x128 : Shape := ⟨3, ![1, 256, 128]⟩
abbrev S256x256 : Shape := ⟨2, ![256, 256]⟩
abbrev S256x1 : Shape := ⟨2, ![256, 1]⟩
abbrev S1x8x256 : Shape := ⟨3, ![1, 8, 256]⟩
abbrev S8x256 : Shape := ⟨2, ![8, 256]⟩
abbrev S256 : Shape := ⟨1, ![256]⟩
abbrev S1x256 : Shape := ⟨2, ![1, 256]⟩

abbrev nBuf : Space → Nat
  | .hbm => 9
  | .vmem => 11
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x8, .f32⟩
  | .hbm, ⟨4, _⟩ => ⟨S8x2048, .f32⟩
  | .hbm, ⟨5, _⟩ => ⟨S8x8x256, .f32⟩
  | .hbm, ⟨6, _⟩ => ⟨S8x8x256, .f32⟩
  | .hbm, ⟨7, _⟩ => ⟨S2048x512, .bf16⟩
  | .hbm, ⟨8, _⟩ => ⟨S4x2048x128, .f32⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S8x8x256, .f32⟩
  | .local _ .vmem, ⟨7, _⟩ => ⟨S256x128, .bf16⟩
  | .local _ .vmem, ⟨8, _⟩ => ⟨S256x128, .bf16⟩
  | .local _ .vmem, ⟨9, _⟩ => ⟨S1x256x128, .f32⟩
  | .local _ .vmem, ⟨10, _⟩ => ⟨S1x256x128, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32 : BitVec 32 := 0#32
  let arg1 : BitVec 32 := BitVec.ofNat 32 (i 1).val
  let v15 : BitVec 32 := Scalar.subi arg1 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_5 : BitVec 32 := 1#32
  ⟨c0_i32, v19, c1_i32_5⟩
def k0_mult1 (i : grid0.Coords) (k0_t1 : Fin (k0_t1_loop i).trips) : BitVec 32 :=
  let c0_i32 : BitVec 32 := 0#32
  let c1_i32_5 : BitVec 32 := 1#32
  let arg8 : BitVec 32 := Scf.iv c0_i32 c1_i32_5 k0_t1
  let c256_i32_36 : BitVec 32 := 256#32
  let v120 : BitVec 32 := Scalar.muli arg8 c256_i32_36
  v120
def k0_off1 (i : grid0.Coords) (k0_t1 : Fin (k0_t1_loop i).trips) : Fin 2 → Nat :=
  let c0_i32 : BitVec 32 := 0#32
  let c1_i32_5 : BitVec 32 := 1#32
  let arg8 : BitVec 32 := Scf.iv c0_i32 c1_i32_5 k0_t1
  let c256_i32_36 : BitVec 32 := 256#32
  let v120 : BitVec 32 := Scalar.muli arg8 c256_i32_36
  let v121 : BitVec 32 := v120
  let v122 : Index := Scalar.indexCast v121
  let c0_37 : Index := 0#32
  ![v122.toNat, 0]
def k0_off2 (i : grid0.Coords) (k0_t1 : Fin (k0_t1_loop i).trips) : Fin 3 → Nat :=
  let c0_i32 : BitVec 32 := 0#32
  let c1_i32_5 : BitVec 32 := 1#32
  let arg8 : BitVec 32 := Scf.iv c0_i32 c1_i32_5 k0_t1
  let v126 : Index := Scalar.indexCast arg8
  let c0_39 : Index := 0#32
  let c0_40 : Index := 0#32
  ![v126.toNat, 0, 0]
@[reducible] def k0_t2_loop (i : grid0.Coords) : Scf.Loop 32 :=
  let c0_i32 : BitVec 32 := 0#32
  let arg1 : BitVec 32 := BitVec.ofNat 32 (i 1).val
  let v15 : BitVec 32 := Scalar.subi arg1 c0_i32
  let c1_i32 : BitVec 32 := 1#32
  let v17 : BitVec 32 := Scalar.divsi v15 c1_i32
  let v18 : BitVec 32 := Scalar.muli v17 c1_i32
  let v19 : BitVec 32 := Scalar.addi c0_i32 v18
  let v16 : BitVec 32 := Scalar.addi c0_i32 v15
  let c1_i32_6 : BitVec 32 := 1#32
  ⟨v19, v16, c1_i32_6⟩
def k0_mult2 (i : grid0.Coords) (k0_t2 : Fin (k0_t2_loop i).trips) : BitVec 32 :=
  let c0_i32 : BitVec 32 := 0#32
  let arg1 : BitVec 32 := BitVec.ofNat 32 (i 1).val
  let v15 : BitVec 32 := Scalar.subi arg1 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_6 : BitVec 32 := 1#32
  let arg8 : BitVec 32 := Scf.iv v19 c1_i32_6 k0_t2
  let c256_i32_36 : BitVec 32 := 256#32
  let v120 : BitVec 32 := Scalar.muli arg8 c256_i32_36
  v120
def k0_off3 (i : grid0.Coords) (k0_t2 : Fin (k0_t2_loop i).trips) : Fin 2 → Nat :=
  let c0_i32 : BitVec 32 := 0#32
  let arg1 : BitVec 32 := BitVec.ofNat 32 (i 1).val
  let v15 : BitVec 32 := Scalar.subi arg1 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_6 : BitVec 32 := 1#32
  let arg8 : BitVec 32 := Scf.iv v19 c1_i32_6 k0_t2
  let c256_i32_36 : BitVec 32 := 256#32
  let v120 : BitVec 32 := Scalar.muli arg8 c256_i32_36
  let v121 : BitVec 32 := v120
  let v122 : Index := Scalar.indexCast v121
  let c0_37 : Index := 0#32
  ![v122.toNat, 0]
def k0_off4 (i : grid0.Coords) (k0_t2 : Fin (k0_t2_loop i).trips) : Fin 3 → Nat :=
  let c0_i32 : BitVec 32 := 0#32
  let arg1 : BitVec 32 := BitVec.ofNat 32 (i 1).val
  let v15 : BitVec 32 := Scalar.subi arg1 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_6 : BitVec 32 := 1#32
  let arg8 : BitVec 32 := Scf.iv v19 c1_i32_6 k0_t2
  let v126 : Index := Scalar.indexCast arg8
  let c0_39 : Index := 0#32
  let c0_40 : Index := 0#32
  ![v126.toNat, 0, 0]
def k0_mult3 (i : grid0.Coords) : BitVec 32 :=
  let arg1 : BitVec 32 := BitVec.ofNat 32 (i 1).val
  let c256_i32 : BitVec 32 := 256#32
  let v22 : BitVec 32 := Scalar.muli arg1 c256_i32
  v22
def k0_off5 (i : grid0.Coords) : Fin 2 → Nat :=
  let arg1 : BitVec 32 := BitVec.ofNat 32 (i 1).val
  let c256_i32 : BitVec 32 := 256#32
  let v22 : BitVec 32 := Scalar.muli arg1 c256_i32
  let v23 : BitVec 32 := v22
  let v24 : Index := Scalar.indexCast v23
  let c0_7 : Index := 0#32
  ![v24.toNat, 0]
def k0_off6 (i : grid0.Coords) : Fin 3 → Nat :=
  let arg1 : BitVec 32 := BitVec.ofNat 32 (i 1).val
  let v28 : Index := Scalar.indexCast arg1
  let c0_9 : Index := 0#32
  let c0_10 : Index := 0#32
  ![v28.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel22Ideal.lean ====
variable {F : FTy → Type} [FloatOps F] [Named F]
def κ : String → Option EReal := fun
  | "mask" => some ⊥
  | _ => none
-- ==== Reference22Ideal.lean ====
abbrev S2048x512 : Shape := ⟨2, ![2048, 512]⟩
abbrev S2048x8 : Shape := ⟨2, ![2048, 8]⟩
abbrev S2048x8x64 : Shape := ⟨3, ![2048, 8, 64]⟩
abbrev S8x2048x64 : Shape := ⟨3, ![8, 2048, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S4x2x2048 : Shape := ⟨3, ![4, 2, 2048]⟩
abbrev S4x2048x2 : Shape := ⟨3, ![4, 2048, 2]⟩
abbrev S4x2048x128 : Shape := ⟨3, ![4, 2048, 128]⟩

abbrev nBuf : Space → Nat
  | .hbm => 106
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x8, .f32⟩
  | .hbm, ⟨4, _⟩ => ⟨S2048x8, .f32⟩
  | .hbm, ⟨5, _⟩ => ⟨S2048x512, .f32⟩
  | .hbm, ⟨6, _⟩ => ⟨S2048x8x64, .f32⟩
  | .hbm, ⟨7, _⟩ => ⟨S8x2048x64, .f32⟩
  | .hbm, ⟨8, _⟩ => ⟨S2048x512, .f32⟩
  | .hbm, ⟨9, _⟩ => ⟨S2048x8x64, .f32⟩
  | .hbm, ⟨10, _⟩ => ⟨S8x2048x64, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S8x2048, .f32⟩
  | .hbm, ⟨16, _⟩ => ⟨S8x2048x1, .f32⟩
  | .hbm, ⟨17, _⟩ => ⟨S8x2048, .f32⟩
  | .hbm, ⟨18, _⟩ => ⟨S8x1x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S2048, .i32⟩
  | .hbm, ⟨24, _⟩ => ⟨S2048x1, .i32⟩
  | .hbm, ⟨25, _⟩ => ⟨S2048, .i32⟩
  | .hbm, ⟨26, _⟩ => ⟨S1x2048, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S1x2048x2048, .i1⟩
  | .hbm, ⟨31, _⟩ => ⟨S_, .f32⟩
  | .hbm, ⟨32, _⟩ => ⟨S_, .f32⟩
  | .hbm, ⟨33, _⟩ => ⟨S8x2048x2048, .i1⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S_, .f32⟩
  | .hbm, ⟨39, _⟩ => ⟨S8x2048, .f32⟩
  | .hbm, ⟨40, _⟩ => ⟨S8x2048, .f32⟩
  | .hbm, ⟨41, _⟩ => ⟨S8x2048x1, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S8x2048x2048, .f32⟩
  | .hbm, ⟨49, _⟩ => ⟨S8x2048x2048, .f32⟩
  | .hbm, ⟨50, _⟩ => ⟨S2048x512, .f32⟩
  | .hbm, ⟨51, _⟩ => ⟨S2048x8x64, .f32⟩
  | .hbm, ⟨52, _⟩ => ⟨S8x2048x64, .f32⟩
  | .hbm, ⟨53, _⟩ => ⟨S8x2048x64, .f32⟩
  | .hbm, ⟨54, _⟩ => ⟨S2048x8x64, .f32⟩
  | .hbm, ⟨55, _⟩ => ⟨S2048x512, .f32⟩
  | .hbm, ⟨56, _⟩ => ⟨S2048x8, .f32⟩
  | .hbm, ⟨57, _⟩ => ⟨S2048x512, .f32⟩
  | .hbm, ⟨58, _⟩ => ⟨S2048x8x64, .f32⟩
  | .hbm, ⟨59, _⟩ => ⟨S8x2048x64, .f32⟩
  | .hbm, ⟨60, _⟩ => ⟨S2048x512, .f32⟩
  | .hbm, ⟨61, _⟩ => ⟨S2048x8x64, .f32⟩
  | .hbm, ⟨62, _⟩ => ⟨S8x2048x64, .f32⟩
  | .hbm, ⟨63, _⟩ => ⟨S8x2048x2048, .f32⟩
  | .hbm, ⟨64, _⟩ => ⟨S_, .f32⟩
  | .hbm, ⟨65, _⟩ => ⟨S8x2048x2048, .f32⟩
  | .hbm, ⟨66, _⟩ => ⟨S8x2048x2048, .f32⟩
  | .hbm, ⟨67, _⟩ => ⟨S8x2048, .f32⟩
  | .hbm, ⟨68, _⟩ => ⟨S8x2048x1, .f32⟩
  | .hbm, ⟨69, _⟩ => ⟨S8x2048, .f32⟩
  | .hbm, ⟨70, _⟩ => ⟨S8x1x2048, .f32⟩
  | .hbm, ⟨71, _⟩ => ⟨S8x2048x2048, .f32⟩
  | .hbm, ⟨72, _⟩ => ⟨S8x2048x2048, .f32⟩
  | .hbm, ⟨73, _⟩ => ⟨S8x2048x2048, .f32⟩
  | .hbm, ⟨74, _⟩ => ⟨S8x2048x2048, .f32⟩
  | .hbm, ⟨75, _⟩ => ⟨S2048, .i32⟩
  | .hbm, ⟨76, _⟩ => ⟨S2048x1, .i32⟩
  | .hbm, ⟨77, _⟩ => ⟨S2048, .i32⟩
  | .hbm, ⟨78, _⟩ => ⟨S1x2048, .i32⟩
  | .hbm, ⟨79, _⟩ => ⟨S2048x2048, .i32⟩
  | .hbm, ⟨80, _⟩ => ⟨S2048x2048, .i32⟩
  | .hbm, ⟨81, _⟩ => ⟨S2048x2048, .i1⟩
  | .hbm, ⟨82, _⟩ => ⟨S1x2048x2048, .i1⟩
  | .hbm, ⟨83, _⟩ => ⟨S_, .f32⟩
  | .hbm, ⟨84, _⟩ => ⟨S_, .f32⟩
  | .hbm, ⟨85, _⟩ => ⟨S8x2048x2048, .i1⟩
  | .hbm, ⟨86, _⟩ => ⟨S8x2048x2048, .f32⟩
  | .hbm, ⟨87, _⟩ => ⟨S8x2048x2048, .f32⟩
  | .hbm, ⟨88, _⟩ => ⟨S_, .f32⟩
  | .hbm, ⟨89, _⟩ => ⟨S8x2048, .f32⟩
  | .hbm, ⟨90, _⟩ => ⟨S8x2048x1, .f32⟩
  | .hbm, ⟨91, _⟩ => ⟨S8x2048x2048, .f32⟩
  | .hbm, ⟨92, _⟩ => ⟨S8x2048x2048, .f32⟩
  | .hbm, ⟨93, _⟩ => ⟨S8x2048x2048, .f32⟩
  | .hbm, ⟨94, _⟩ => ⟨S_, .f32⟩
  | .hbm, ⟨95, _⟩ => ⟨S8x2048, .f32⟩
  | .hbm, ⟨96, _⟩ => ⟨S8x2048, .f32⟩
  | .hbm, ⟨97, _⟩ => ⟨S8x2048, .f32⟩
  | .hbm, ⟨98, _⟩ => ⟨S8x2048, .f32⟩
  | .hbm, ⟨99, _⟩ => ⟨S8x2048, .f32⟩
  | .hbm, ⟨100, _⟩ => ⟨S2048x512, .bf16⟩
  | .hbm, ⟨101, _⟩ => ⟨S4x2x2048, .f32⟩
  | .hbm, ⟨102, _⟩ => ⟨S4x2048x2, .f32⟩
  | .hbm, ⟨103, _⟩ => ⟨S_, .i32⟩
  | .hbm, ⟨104, _⟩ => ⟨S_, .f32⟩
  | .hbm, ⟨105, _⟩ => ⟨S4x2048x128, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_4 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_5 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v70 : Ref sig .tc := ⟨.hbm, 87, rfl⟩
abbrev main_cst_6 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_7 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_c : Ref sig .tc := ⟨.hbm, 103, rfl⟩
abbrev main_call2_v0 : Ref sig .tc := ⟨.hbm, 104, rfl⟩
abbrev main_v84 : Ref sig .tc := ⟨.hbm, 105, rfl⟩

abbrev nD : Nat := 1
abbrev τ : Topo := Topo.v7x

variable {F : FTy → Type} [FloatOps F]
-- ==== Kernel.lean ====
abbrev S2048x512 : Shape := ⟨2, ![2048, 512]⟩
abbrev S2048x8 : Shape := ⟨2, ![2048, 8]⟩
abbrev S2048x8x64 : Shape := ⟨3, ![2048, 8, 64]⟩
abbrev S8x2048x64 : Shape := ⟨3, ![8, 2048, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S4x2x2048 : Shape := ⟨3, ![4, 2, 2048]⟩
abbrev S4x2048x2 : Shape := ⟨3, ![4, 2048, 2]⟩
abbrev S4x2048x128 : Shape := ⟨3, ![4, 2048, 128]⟩
abbrev S8x8x256 : Shape := ⟨3, ![8, 8, 256]⟩
abbrev S4x8x8x256 : Shape := ⟨4, ![4, 8, 8, 256]⟩
abbrev S2048x128 : Shape := ⟨2, ![2048, 128]⟩
abbrev S1x2048x128 : Shape := ⟨3, ![1, 2048, 128]⟩
abbrev S256x128 : Shape := ⟨2, ![256, 128]⟩
abbrev S1x1x8x256 : Shape := ⟨4, ![1, 1, 8, 256]⟩
abbrev S1x8x256 : Shape := ⟨3, ![1, 8, 256]⟩
abbrev S8x256 : Shape := ⟨2, ![8, 256]⟩
abbrev S256 : Shape := ⟨1, ![256]⟩
abbrev S1x256 : Shape := ⟨2, ![1, 256]⟩
abbrev S256x256 : Shape := ⟨2, ![256, 256]⟩
abbrev S1x256x128 : Shape := ⟨3, ![1, 256, 128]⟩
abbrev S256x1 : Shape := ⟨2, ![256, 1]⟩

abbrev nBuf : Space → Nat
  | .hbm => 115
  | .vmem => 23
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x8, .f32⟩
  | .hbm, ⟨4, _⟩ => ⟨S2048x512, .f32⟩
  | .hbm, ⟨5, _⟩ => ⟨S2048x8, .f32⟩
  | .hbm, ⟨6, _⟩ => ⟨S2048x512, .f32⟩
  | .hbm, ⟨7, _⟩ => ⟨S2048x8x64, .f32⟩
  | .hbm, ⟨8, _⟩ => ⟨S8x2048x64, .f32⟩
  | .hbm, ⟨9, _⟩ => ⟨S2048x512, .f32⟩
  | .hbm, ⟨10, _⟩ => ⟨S2048x8x64, .f32⟩
  | .hbm, ⟨11, _⟩ => ⟨S8x2048x64, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S8x2048, .f32⟩
  | .hbm, ⟨17, _⟩ => ⟨S8x2048x1, .f32⟩
  | .hbm, ⟨18, _⟩ => ⟨S8x2048, .f32⟩
  | .hbm, ⟨19, _⟩ => ⟨S8x1x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S2048, .i32⟩
  | .hbm, ⟨25, _⟩ => ⟨S2048x1, .i32⟩
  | .hbm, ⟨26, _⟩ => ⟨S2048, .i32⟩
  | .hbm, ⟨27, _⟩ => ⟨S1x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S1x2048x2048, .i1⟩
  | .hbm, ⟨32, _⟩ => ⟨S_, .f32⟩
  | .hbm, ⟨33, _⟩ => ⟨S_, .f32⟩
  | .hbm, ⟨34, _⟩ => ⟨S8x2048x2048, .i1⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S_, .f32⟩
  | .hbm, ⟨40, _⟩ => ⟨S8x2048, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S8x2048x2048, .f32⟩
  | .hbm, ⟨50, _⟩ => ⟨S8x2048x2048, .f32⟩
  | .hbm, ⟨51, _⟩ => ⟨S2048x512, .f32⟩
  | .hbm, ⟨52, _⟩ => ⟨S2048x8x64, .f32⟩
  | .hbm, ⟨53, _⟩ => ⟨S8x2048x64, .f32⟩
  | .hbm, ⟨54, _⟩ => ⟨S8x2048x64, .f32⟩
  | .hbm, ⟨55, _⟩ => ⟨S2048x8x64, .f32⟩
  | .hbm, ⟨56, _⟩ => ⟨S2048x512, .f32⟩
  | .hbm, ⟨57, _⟩ => ⟨S2048x512, .bf16⟩
  | .hbm, ⟨58, _⟩ => ⟨S2048x8, .f32⟩
  | .hbm, ⟨59, _⟩ => ⟨S2048x512, .f32⟩
  | .hbm, ⟨60, _⟩ => ⟨S2048x8x64, .f32⟩
  | .hbm, ⟨61, _⟩ => ⟨S8x2048x64, .f32⟩
  | .hbm, ⟨62, _⟩ => ⟨S2048x512, .f32⟩
  | .hbm, ⟨63, _⟩ => ⟨S2048x8x64, .f32⟩
  | .hbm, ⟨64, _⟩ => ⟨S8x2048x64, .f32⟩
  | .hbm, ⟨65, _⟩ => ⟨S8x2048x2048, .f32⟩
  | .hbm, ⟨66, _⟩ => ⟨S_, .f32⟩
  | .hbm, ⟨67, _⟩ => ⟨S8x2048x2048, .f32⟩
  | .hbm, ⟨68, _⟩ => ⟨S8x2048x2048, .f32⟩
  | .hbm, ⟨69, _⟩ => ⟨S8x2048, .f32⟩
  | .hbm, ⟨70, _⟩ => ⟨S8x2048x1, .f32⟩
  | .hbm, ⟨71, _⟩ => ⟨S8x2048, .f32⟩
  | .hbm, ⟨72, _⟩ => ⟨S8x1x2048, .f32⟩
  | .hbm, ⟨73, _⟩ => ⟨S8x2048x2048, .f32⟩
  | .hbm, ⟨74, _⟩ => ⟨S8x2048x2048, .f32⟩
  | .hbm, ⟨75, _⟩ => ⟨S8x2048x2048, .f32⟩
  | .hbm, ⟨76, _⟩ => ⟨S8x2048x2048, .f32⟩
  | .hbm, ⟨77, _⟩ => ⟨S2048, .i32⟩
  | .hbm, ⟨78, _⟩ => ⟨S2048x1, .i32⟩
  | .hbm, ⟨79, _⟩ => ⟨S2048, .i32⟩
  | .hbm, ⟨80, _⟩ => ⟨S1x2048, .i32⟩
  | .hbm, ⟨81, _⟩ => ⟨S2048x2048, .i32⟩
  | .hbm, ⟨82, _⟩ => ⟨S2048x2048, .i32⟩
  | .hbm, ⟨83, _⟩ => ⟨S2048x2048, .i1⟩
  | .hbm, ⟨84, _⟩ => ⟨S1x2048x2048, .i1⟩
  | .hbm, ⟨85, _⟩ => ⟨S_, .f32⟩
  | .hbm, ⟨86, _⟩ => ⟨S_, .f32⟩
  | .hbm, ⟨87, _⟩ => ⟨S8x2048x2048, .i1⟩
  | .hbm, ⟨88, _⟩ => ⟨S8x2048x2048, .f32⟩
  | .hbm, ⟨89, _⟩ => ⟨S8x2048x2048, .f32⟩
  | .hbm, ⟨90, _⟩ => ⟨S_, .f32⟩
  | .hbm, ⟨91, _⟩ => ⟨S8x2048, .f32⟩
  | .hbm, ⟨92, _⟩ => ⟨S8x2048x1, .f32⟩
  | .hbm, ⟨93, _⟩ => ⟨S8x2048x2048, .f32⟩
  | .hbm, ⟨94, _⟩ => ⟨S8x2048x2048, .f32⟩
  | .hbm, ⟨95, _⟩ => ⟨S8x2048x2048, .f32⟩
  | .hbm, ⟨96, _⟩ => ⟨S_, .f32⟩
  | .hbm, ⟨97, _⟩ => ⟨S8x2048, .f32⟩
  | .hbm, ⟨98, _⟩ => ⟨S8x2048, .f32⟩
  | .hbm, ⟨99, _⟩ => ⟨S8x2048, .f32⟩
  | .hbm, ⟨100, _⟩ => ⟨S8x2048, .f32⟩
  | .hbm, ⟨101, _⟩ => ⟨S8x2048, .f32⟩
  | .hbm, ⟨102, _⟩ => ⟨S4x2x2048, .f32⟩
  | .hbm, ⟨103, _⟩ => ⟨S4x2048x2, .f32⟩
  | .hbm, ⟨104, _⟩ => ⟨S_, .i32⟩
  | .hbm, ⟨105, _⟩ => ⟨S_, .f32⟩
  | .hbm, ⟨106, _⟩ => ⟨S4x2048x128, .f32⟩
  | .hbm, ⟨107, _⟩ => ⟨S8x2048, .f32⟩
  | .hbm, ⟨108, _⟩ => ⟨S8x8x256, .f32⟩
  | .hbm, ⟨109, _⟩ => ⟨S8x8x256, .f32⟩
  | .hbm, ⟨110, _⟩ => ⟨S2048x512, .f32⟩
  | .hbm, ⟨111, _⟩ => ⟨S2048x512, .f32⟩
  | .hbm, ⟨112, _⟩ => ⟨S2048x512, .f32⟩
  | .hbm, ⟨113, _⟩ => ⟨S4x8x8x256, .f32⟩
  | .hbm, ⟨114, _⟩ => ⟨S4x2048x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .f32⟩
  | .local _ .vmem, ⟨3, _⟩ => ⟨S2048x128, .f32⟩
  | .local _ .vmem, ⟨4, _⟩ => ⟨S2048x128, .bf16⟩
  | .local _ .vmem, ⟨5, _⟩ => ⟨S2048x128, .bf16⟩
  | .local _ .vmem, ⟨6, _⟩ => ⟨S1x2048x128, .f32⟩
  | .local _ .vmem, ⟨7, _⟩ => ⟨S1x2048x128, .f32⟩
  | .local _ .vmem, ⟨8, _⟩ => ⟨S8x8x256, .f32⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S2048x128, .f32⟩
  | .local _ .vmem, ⟨14, _⟩ => ⟨S2048x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S1x1x8x256, .f32⟩
  | .local _ .vmem, ⟨20, _⟩ => ⟨S1x1x8x256, .f32⟩
  | .local _ .vmem, ⟨21, _⟩ => ⟨S1x2048x128, .f32⟩
  | .local _ .vmem, ⟨22, _⟩ => ⟨S1x2048x128, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_4 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_5 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v71 : Ref sig .tc := ⟨.hbm, 89, rfl⟩
abbrev main_cst_6 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_7 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_c : Ref sig .tc := ⟨.hbm, 104, rfl⟩
abbrev main_call2_v0 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88_0 : Ref sig .tc := ⟨.hbm, 110, rfl⟩
abbrev main_v88_1 : Ref sig .tc := ⟨.hbm, 111, rfl⟩
abbrev main_v88_2 : Ref sig .tc := ⟨.hbm, 112, rfl⟩
abbrev main_v88_3 : Ref sig .tc := ⟨.hbm, 113, rfl⟩
abbrev main_v88_4 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 8], ![false, false]⟩

def k0_off1 (i : grid0.Coords) : Fin 3 → Nat :=
  let arg1 : BitVec 32 := BitVec.ofNat 32 (i 1).val
  let v15 : Index := Scalar.indexCast arg1
  let c0_5 : Index := 0#32
  let c0_6 : Index := 0#32
  ![v15.toNat, 0, 0]
def k0_mult1 (i : grid0.Coords) : BitVec 32 :=
  let arg1 : BitVec 32 := BitVec.ofNat 32 (i 1).val
  let c256_i32 : BitVec 32 := 256#32
  let v42 : BitVec 32 := Scalar.muli arg1 c256_i32
  v42
def k0_off2 (i : grid0.Coords) : Fin 2 → Nat :=
  let arg1 : BitVec 32 := BitVec.ofNat 32 (i 1).val
  let c256_i32 : BitVec 32 := 256#32
  let v42 : BitVec 32 := Scalar.muli arg1 c256_i32
  let v43 : BitVec 32 := v42
  let v44 : Index := Scalar.indexCast v43
  let c0_16 : Index := 0#32
  ![v44.toNat, 0]
def k0_off3 (i : grid0.Coords) : Fin 3 → Nat :=
  let c0_19 : Index := 0#32
  let arg1 : BitVec 32 := BitVec.ofNat 32 (i 1).val
  let c256_i32 : BitVec 32 := 256#32
  let v42 : BitVec 32 := Scalar.muli arg1 c256_i32
  let v43 : BitVec 32 := v42
  let v53 : Index := Scalar.indexCast v43
  let c0_20 : Index := 0#32
  ![0, v53.toNat, 0]
@[reducible] def k0_t1_loop (i : grid0.Coords) : Scf.Loop 32 :=
  let arg1 : BitVec 32 := BitVec.ofNat 32 (i 1).val
  let c1_i32_15 : BitVec 32 := 1#32
  let v41 : BitVec 32 := Scalar.addi arg1 c1_i32_15
  let c8_i32 : BitVec 32 := 8#32
  let v157 : BitVec 32 := Scalar.subi c8_i32 v41
  let c1_i32_58 : BitVec 32 := 1#32
  let v159 : BitVec 32 := Scalar.divsi v157 c1_i32_58
  let v160 : BitVec 32 := Scalar.muli v159 c1_i32_58
  let v161 : BitVec 32 := Scalar.addi v41 v160
  let c1_i32_59 : BitVec 32 := 1#32
  ⟨v41, v161, c1_i32_59⟩
def k0_mult2 (i : grid0.Coords) (k0_t1 : Fin (k0_t1_loop i).trips) : BitVec 32 :=
  let arg1 : BitVec 32 := BitVec.ofNat 32 (i 1).val
  let c1_i32_15 : BitVec 32 := 1#32
  let v41 : BitVec 32 := Scalar.addi arg1 c1_i32_15
  let c1_i32_59 : BitVec 32 := 1#32
  let arg14 : BitVec 32 := Scf.iv v41 c1_i32_59 k0_t1
  let c256_i32_73 : BitVec 32 := 256#32
  let v189 : BitVec 32 := Scalar.muli arg14 c256_i32_73
  v189
def k0_off4 (i : grid0.Coords) (k0_t1 : Fin (k0_t1_loop i).trips) : Fin 2 → Nat :=
  let arg1 : BitVec 32 := BitVec.ofNat 32 (i 1).val
  let c1_i32_15 : BitVec 32 := 1#32
  let v41 : BitVec 32 := Scalar.addi arg1 c1_i32_15
  let c1_i32_59 : BitVec 32 := 1#32
  let arg14 : BitVec 32 := Scf.iv v41 c1_i32_59 k0_t1
  let c256_i32_73 : BitVec 32 := 256#32
  let v189 : BitVec 32 := Scalar.muli arg14 c256_i32_73
  let v190 : BitVec 32 := v189
  let v191 : Index := Scalar.indexCast v190
  let c0_74 : Index := 0#32
  ![v191.toNat, 0]
def k0_off5 (i : grid0.Coords) (k0_t1 : Fin (k0_t1_loop i).trips) : Fin 3 → Nat :=
  let c0_77 : Index := 0#32
  let arg1 : BitVec 32 := BitVec.ofNat 32 (i 1).val
  let c1_i32_15 : BitVec 32 := 1#32
  let v41 : BitVec 32 := Scalar.addi arg1 c1_i32_15
  let c1_i32_59 : BitVec 32 := 1#32
  let arg14 : BitVec 32 := Scf.iv v41 c1_i32_59 k0_t1
  let c256_i32_73 : BitVec 32 := 256#32
  let v189 : BitVec 32 := Scalar.muli arg14 c256_i32_73
  let v190 : BitVec 32 := v189
  let v200 : Index := Scalar.indexCast v190
  let c0_78 : Index := 0#32
  ![0, v200.toNat, 0]
@[reducible] def k0_t2_loop (i : grid0.Coords) : Scf.Loop 32 :=
  let arg1 : BitVec 32 := BitVec.ofNat 32 (i 1).val
  let c1_i32_15 : BitVec 32 := 1#32
  let v41 : BitVec 32 := Scalar.addi arg1 c1_i32_15
  let c8_i32 : BitVec 32 := 8#32
  let v157 : BitVec 32 := Scalar.subi c8_i32 v41
  let c1_i32_58 : BitVec 32 := 1#32
  let v159 : BitVec 32 := Scalar.divsi v157 c1_i32_58
  let v160 : BitVec 32 := Scalar.muli v159 c1_i32_58
  let v161 : BitVec 32 := Scalar.addi v41 v160
  let v158 : BitVec 32 := Scalar.addi v41 v157
  let c1_i32_60 : BitVec 32 := 1#32
  ⟨v161, v158, c1_i32_60⟩
def k0_mult3 (i : grid0.Coords) (k0_t2 : Fin (k0_t2_loop i).trips) : BitVec 32 :=
  let arg1 : BitVec 32 := BitVec.ofNat 32 (i 1).val
  let c1_i32_15 : BitVec 32 := 1#32
  let v41 : BitVec 32 := Scalar.addi arg1 c1_i32_15
  let c8_i32 : BitVec 32 := 8#32
  let v157 : BitVec 32 := Scalar.subi c8_i32 v41
  let c1_i32_58 : BitVec 32 := 1#32
  let v159 : BitVec 32 := Scalar.divsi v157 c1_i32_58
  let v160 : BitVec 32 := Scalar.muli v159 c1_i32_58
  let v161 : BitVec 32 := Scalar.addi v41 v160
  let c1_i32_60 : BitVec 32 := 1#32
  let arg14 : BitVec 32 := Scf.iv v161 c1_i32_60 k0_t2
  let c256_i32_73 : BitVec 32 := 256#32
  let v189 : BitVec 32 := Scalar.muli arg14 c256_i32_73
  v189
def k0_off6 (i : grid0.Coords) (k0_t2 : Fin (k0_t2_loop i).trips) : Fin 2 → Nat :=
  let arg1 : BitVec 32 := BitVec.ofNat 32 (i 1).val
  let c1_i32_15 : BitVec 32 := 1#32
  let v41 : BitVec 32 := Scalar.addi arg1 c1_i32_15
  let c8_i32 : BitVec 32 := 8#32
  let v157 : BitVec 32 := Scalar.subi c8_i32 v41
  let c1_i32_58 : BitVec 32 := 1#32
  let v159 : BitVec 32 := Scalar.divsi v157 c1_i32_58
  let v160 : BitVec 32 := Scalar.muli v159 c1_i32_58
  let v161 : BitVec 32 := Scalar.addi v41 v160
  let c1_i32_60 : BitVec 32 := 1#32
  let arg14 : BitVec 32 := Scf.iv v161 c1_i32_60 k0_t2
  let c256_i32_73 : BitVec 32 := 256#32
  let v189 : BitVec 32 := Scalar.muli arg14 c256_i32_73
  let v190 : BitVec 32 := v189
  let v191 : Index := Scalar.indexCast v190
  let c0_74 : Index := 0#32
  ![v191.toNat, 0]
def k0_off7 (i : grid0.Coords) (k0_t2 : Fin (k0_t2_loop i).trips) : Fin 3 → Nat :=
  let c0_77 : Index := 0#32
  let arg1 : BitVec 32 := BitVec.ofNat 32 (i 1).val
  let c1_i32_15 : BitVec 32 := 1#32
  let v41 : BitVec 32 := Scalar.addi arg1 c1_i32_15
  let c8_i32 : BitVec 32 := 8#32
  let v157 : BitVec 32 := Scalar.subi c8_i32 v41
  let c1_i32_58 : BitVec 32 := 1#32
  let v159 : BitVec 32 := Scalar.divsi v157 c1_i32_58
  let v160 : BitVec 32 := Scalar.muli v159 c1_i32_58
  let v161 : BitVec 32 := Scalar.addi v41 v160
  let c1_i32_60 : BitVec 32 := 1#32
  let arg14 : BitVec 32 := Scf.iv v161 c1_i32_60 k0_t2
  let c256_i32_73 : BitVec 32 := 256#32
  let v189 : BitVec 32 := Scalar.muli arg14 c256_i32_73
  let v190 : BitVec 32 := v189
  let v200 : Index := Scalar.indexCast v190
  let c0_78 : Index := 0#32
  ![0, v200.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S2048x512 : Shape := ⟨2, ![2048, 512]⟩
abbrev S2048x8 : Shape := ⟨2, ![2048, 8]⟩
abbrev S2048x8x64 : Shape := ⟨3, ![2048, 8, 64]⟩
abbrev S8x2048x64 : Shape := ⟨3, ![8, 2048, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8x64x2048 : Shape := ⟨3, ![8, 64, 2048]⟩
abbrev S4x2x8x256 : Shape := ⟨4, ![4, 2, 8, 256]⟩
abbrev S4x8x2x256 : Shape := ⟨4, ![4, 8, 2, 256]⟩
abbrev S2048x4x2 : Shape := ⟨3, ![2048, 4, 2]⟩
abbrev S4x2048x2 : Shape := ⟨3, ![4, 2048, 2]⟩
abbrev S4x8x8x256 : Shape := ⟨4, ![4, 8, 8, 256]⟩
abbrev S4x2048x128 : Shape := ⟨3, ![4, 2048, 128]⟩

abbrev nBuf : Space → Nat
  | .hbm => 139
  | .vmem => 0
  | .smem => 0
  | _ => 0

abbrev hbmTy0_0 (i : Nat) : BufTy := match i % 128 with
  | 0 => ⟨S2048x512, .bf16⟩
  | 1 => ⟨S2048x512, .bf16⟩
  | 2 => ⟨S2048x512, .bf16⟩
  | 3 => ⟨S2048x8, .f32⟩
  | 4 => ⟨S2048x512, .f32⟩
  | 5 => ⟨S2048x512, .f32⟩
  | 6 => ⟨S2048x512, .f32⟩
  | 7 => ⟨S2048x512, .f32⟩
  | 8 => ⟨S2048x8, .f32⟩
  | 9 => ⟨S2048x8x64, .f32⟩
  | 10 => ⟨S8x2048x64, .f32⟩
  | 11 => ⟨S2048x8x64, .f32⟩
  | 12 => ⟨S8x2048x64, .f32⟩
  | 13 => ⟨S8x2048x2048, .f32⟩
  | 14 => ⟨S_, .f32⟩
  | 15 => ⟨S8x2048x2048, .f32⟩
  | 16 => ⟨S8x2048x2048, .f32⟩
  | 17 => ⟨S8x2048, .f32⟩
  | 18 => ⟨S8x2048x1, .f32⟩
  | 19 => ⟨S8x2048, .f32⟩
  | 20 => ⟨S8x1x2048, .f32⟩
  | 21 => ⟨S8x2048x2048, .f32⟩
  | 22 => ⟨S8x2048x2048, .f32⟩
  | 23 => ⟨S8x2048x2048, .f32⟩
  | 24 => ⟨S8x2048x2048, .f32⟩
  | 25 => ⟨S2048, .i32⟩
  | 26 => ⟨S2048x1, .i32⟩
  | 27 => ⟨S2048, .i32⟩
  | 28 => ⟨S1x2048, .i32⟩
  | 29 => ⟨S2048x2048, .i32⟩
  | 30 => ⟨S2048x2048, .i32⟩
  | 31 => ⟨S2048x2048, .i1⟩
  | 32 => ⟨S1x2048x2048, .i1⟩
  | 33 => ⟨S_, .f32⟩
  | 34 => ⟨S_, .f32⟩
  | 35 => ⟨S8x2048x2048, .i1⟩
  | 36 => ⟨S8x2048x2048, .f32⟩
  | 37 => ⟨S8x2048x2048, .f32⟩
  | 38 => ⟨S_, .f32⟩
  | 39 => ⟨S8x2048x2048, .f32⟩
  | 40 => ⟨S_, .f32⟩
  | 41 => ⟨S8x2048, .f32⟩
  | 42 => ⟨S8x2048x1, .f32⟩
  | 43 => ⟨S8x2048x2048, .f32⟩
  | 44 => ⟨S8x2048x2048, .i1⟩
  | 45 => ⟨S8x2048x2048, .f32⟩
  | 46 => ⟨S_, .f32⟩
  | 47 => ⟨S8x2048, .f32⟩
  | 48 => ⟨S_, .f32⟩
  | 49 => ⟨S8x2048, .f32⟩
  | 50 => ⟨S8x2048, .f32⟩
  | 51 => ⟨S_, .f32⟩
  | 52 => ⟨S8x2048, .f32⟩
  | 53 => ⟨S8x2048, .i1⟩
  | 54 => ⟨S_, .f32⟩
  | 55 => ⟨S8x2048, .f32⟩
  | 56 => ⟨S8x2048, .i1⟩
  | 57 => ⟨S_, .f32⟩
  | 58 => ⟨S8x2048, .f32⟩
  | 59 => ⟨S_, .f32⟩
  | 60 => ⟨S8x2048, .f32⟩
  | 61 => ⟨S_, .f32⟩
  | 62 => ⟨S8x2048, .f32⟩
  | 63 => ⟨S8x2048, .f32⟩
  | 64 => ⟨S8x2048, .f32⟩
  | 65 => ⟨S8x2048x1, .f32⟩
  | 66 => ⟨S8x2048x2048, .f32⟩
  | 67 => ⟨S8x2048x2048, .f32⟩
  | 68 => ⟨S8x2048x2048, .f32⟩
  | 69 => ⟨S_, .f32⟩
  | 70 => ⟨S8x2048, .f32⟩
  | 71 => ⟨S8x2048x1, .f32⟩
  | 72 => ⟨S8x2048x2048, .f32⟩
  | 73 => ⟨S8x2048x2048, .f32⟩
  | 74 => ⟨S8x2048x1, .f32⟩
  | 75 => ⟨S_, .f32⟩
  | 76 => ⟨S8x2048x1, .f32⟩
  | 77 => ⟨S8x2048x1, .f32⟩
  | 78 => ⟨S2048x8x64, .f32⟩
  | 79 => ⟨S8x2048x64, .f32⟩
  | 80 => ⟨S8x2048x64, .f32⟩
  | 81 => ⟨S2048x8x64, .f32⟩
  | 82 => ⟨S2048x512, .f32⟩
  | 83 => ⟨S2048x8x64, .f32⟩
  | 84 => ⟨S8x2048x64, .f32⟩
  | 85 => ⟨S8x64x2048, .f32⟩
  | 86 => ⟨S8x2048x64, .f32⟩
  | 87 => ⟨S8x2048x2048, .f32⟩
  | 88 => ⟨S2048x8x64, .f32⟩
  | 89 => ⟨S2048x512, .f32⟩
  | 90 => ⟨S8x2048x2048, .f32⟩
  | 91 => ⟨S8x2048x2048, .f32⟩
  | 92 => ⟨S8x2048x2048, .f32⟩
  | 93 => ⟨S_, .f32⟩
  | 94 => ⟨S8x2048, .f32⟩
  | 95 => ⟨S8x2048x1, .f32⟩
  | 96 => ⟨S8x2048x1, .f32⟩
  | 97 => ⟨S8x2048x2048, .f32⟩
  | 98 => ⟨S8x2048x2048, .f32⟩
  | 99 => ⟨S_, .f32⟩
  | 100 => ⟨S8x2048, .f32⟩
  | 101 => ⟨S8x2048x2048, .f32⟩
  | 102 => ⟨S8x2048x2048, .f32⟩
  | 103 => ⟨S8x2048x2048, .f32⟩
  | 104 => ⟨S_, .f32⟩
  | 105 => ⟨S8x2048x2048, .f32⟩
  | 106 => ⟨S8x2048x2048, .f32⟩
  | 107 => ⟨S_, .f32⟩
  | 108 => ⟨S8x2048, .f32⟩
  | 109 => ⟨S8x2048x1, .f32⟩
  | 110 => ⟨S_, .f32⟩
  | 111 => ⟨S8x2048, .f32⟩
  | 112 => ⟨S8x1x2048, .f32⟩
  | 113 => ⟨S_, .f32⟩
  | 114 => ⟨S8x2048, .f32⟩
  | 115 => ⟨S2048x8, .f32⟩
  | 116 => ⟨S_, .f32⟩
  | 117 => ⟨S8x2048, .f32⟩
  | 118 => ⟨S2048x8, .f32⟩
  | 119 => ⟨S_, .f32⟩
  | 120 => ⟨S8x2048x2048, .f32⟩
  | 121 => ⟨S8x2048x2048, .f32⟩
  | 122 => ⟨S8x2048x64, .f32⟩
  | 123 => ⟨S8x2048x64, .f32⟩
  | 124 => ⟨S2048x8x64, .f32⟩
  | 125 => ⟨S2048x512, .f32⟩
  | 126 => ⟨S2048x8x64, .f32⟩
  | 127 => ⟨S2048x512, .f32⟩
  | _ => ⟨S2048x512, .bf16⟩

abbrev hbmTy0_1 (i : Nat) : BufTy := match i % 128 with
  | 0 => ⟨S8x2048, .f32⟩
  | 1 => ⟨S4x2x8x256, .f32⟩
  | 2 => ⟨S4x8x2x256, .f32⟩
  | 3 => ⟨S2048x4x2, .f32⟩
  | 4 => ⟨S4x2048x2, .f32⟩
  | 5 => ⟨S_, .i32⟩
  | 6 => ⟨S_, .f32⟩
  | 7 => ⟨S4x8x8x256, .f32⟩
  | 8 => ⟨S_, .i32⟩
  | 9 => ⟨S_, .f32⟩
  | 10 => ⟨S4x2048x128, .f32⟩
  | _ => ⟨S2048x512, .bf16⟩

abbrev hbmTy (i : Nat) : BufTy := match i / 128 with
  | 0 => hbmTy0_0 i
  | 1 => hbmTy0_1 i
  | _ => ⟨S2048x512, .bf16⟩

abbrev bufTy : (tb : Table) → Fin (tcTables nBuf tb) → BufTy
  | .hbm, ⟨i, _⟩ => hbmTy i
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_0 : Ref sig .tc := ⟨.hbm, 33, rfl⟩
abbrev main_call0_v0 : Ref sig .tc := ⟨.hbm, 34, rfl⟩
abbrev main_v27_1 : Ref sig .tc := ⟨.hbm, 35, rfl⟩
abbrev main_call0_v2 : Ref sig .tc := ⟨.hbm, 36, rfl⟩
abbrev main_v27_0 : Ref sig .tc := ⟨.hbm, 37, rfl⟩
abbrev main_call0_cst : Ref sig .tc := ⟨.hbm, 38, rfl⟩
abbrev main_v27_2 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_11 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_12 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_call1_cst : Ref sig .tc := ⟨.hbm, 104, rfl⟩
abbrev main_call1_v0 : Ref sig .tc := ⟨.hbm, 105, rfl⟩
abbrev main_v80 : Ref sig .tc := ⟨.hbm, 106, rfl⟩
abbrev main_cst_13 : Ref sig .tc := ⟨.hbm, 107, rfl⟩
abbrev main_v81 : Ref sig .tc := ⟨.hbm, 108, rfl⟩
abbrev main_v82 : Ref sig .tc := ⟨.hbm, 109, rfl⟩
abbrev main_cst_14 : Ref sig .tc := ⟨.hbm, 110, rfl⟩
abbrev main_v83 : Ref sig .tc := ⟨.hbm, 111, rfl⟩
abbrev main_v84 : Ref sig .tc := ⟨.hbm, 112, rfl⟩
abbrev main_cst_15 : Ref sig .tc := ⟨.hbm, 113, rfl⟩
abbrev main_v85 : Ref sig .tc := ⟨.hbm, 114, rfl⟩
abbrev main_v86 : Ref sig .tc := ⟨.hbm, 115, rfl⟩
abbrev main_cst_16 : Ref sig .tc := ⟨.hbm, 116, rfl⟩
abbrev main_v87 : Ref sig .tc := ⟨.hbm, 117, rfl⟩
abbrev main_v88 : Ref sig .tc := ⟨.hbm, 118, rfl⟩
abbrev main_cst_17 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_c : Ref sig .tc := ⟨.hbm, 133, rfl⟩
abbrev main_call2_v0 : Ref sig .tc := ⟨.hbm, 134, rfl⟩
abbrev main_v102 : Ref sig .tc := ⟨.hbm, 135, rfl⟩
abbrev main_c_18 : Ref sig .tc := ⟨.hbm, 136, rfl⟩
abbrev main_call3_v0 : Ref sig .tc := ⟨.hbm, 137, rfl⟩
abbrev main_v103 : Ref sig .tc := ⟨.hbm, 138, rfl⟩

abbrev nD : Nat := 1
abbrev τ : Topo := Topo.v7x

variable {F : FTy → Type} [FloatOps F]
-- ==== Proof.RunA.lean ====
/- The body of the attention-gradient kernel run once, at any floats: what it leaves in each of its five output buffers,
   as functions of its inputs and of what the two buffers that stay in place (dq and the row sums) held before. -/
module

public import proofs.«01_k».proof.Proof.Gen.KernelIdeal.Skeleton
public import proofs.«01_k».proof.Proof.Gen.KernelIdeal.Loops
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The condition of the body's one conditional: the key chunk is the first of its pair of heads. -/
abbrev cond0_0 (i : grid0.Coords) : Prop := Scalar.cmpi .ne (Scalar.extui (Scalar.cmpi .eq (BitVec.ofNat 32 (i 1).val) 0#32)) 0#32 = 1#1

-- (the run's proof term is large: checking it walks past the default budget)
set_option maxHeartbeats 2000000 in
/-- The whole body, first key chunk of its pair of heads. -/
def runA (c : Dev nD) (i : grid0.Coords) (arg2 : Memref sig .tc .vmem S2048x128 .bf16) (harg2 : arg2.IsWhole) (arg3 : Memref sig .tc .vmem S2048x128 .f32) (harg3 : arg3.IsWhole) (arg4 : Memref sig .tc .vmem S2048x128 .bf16) (harg4 : arg4.IsWhole) (arg5 : Memref sig .tc .vmem S1x2048x128 .f32) (harg5 : arg5.IsWhole) (arg6 : Memref sig .tc .vmem S8x8x256 .f32) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2048x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x1x8x256 .f32) (harg12 : arg12.IsWhole) (arg13 : Memref sig .tc .vmem S1x2048x128 .f32) (harg13 : arg13.IsWhole) (hc0 : cond0_0 i)
    (x0 : Vec F S2048x128 .bf16) (x1 : Vec F S2048x128 .f32) (x2 : Vec F S2048x128 .bf16) (x3 : Vec F S1x2048x128 .f32) (x4 : Vec F S8x8x256 .f32) (x5 : Vec F S256x128 .bf16) (x6 : Vec F S256x128 .bf16)
    (d7 : Vec F S2048x128 .f32) (d8 : Vec F S256x128 .f32) (d9 : Vec F S256x128 .f32) (d10 : Vec F S1x1x8x256 .f32) (d11 : Vec F S1x2048x128 .f32) :
    Σ' (o7 : Vec F S2048x128 .f32) (o8 : Vec F S256x128 .f32) (o9 : Vec F S256x128 .f32) (o10 : Vec F S1x1x8x256 .f32), { o11 : Vec F S1x2048x128 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d7 ∗ owns (c : Thread nD τ) arg10 fullShare d8 ∗ owns (c : Thread nD τ) arg11 fullShare d9 ∗ owns (c : Thread nD τ) arg12 fullShare d10 ∗ owns (c : Thread nD τ) arg13 fullShare d11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare o7 ∗ owns (c : Thread nD τ) arg10 fullShare o8 ∗ owns (c : Thread nD τ) arg11 fullShare o9 ∗ owns (c : Thread nD τ) arg12 fullShare o10 ∗ owns (c : Thread nD τ) arg13 fullShare o11) -∗ K ⟨⟩))
          ⊢ wp frame (wpE (defs₀ (F := F)) Variants.none c none) E (cc0_mix_dattn i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_mix_dattn_eq_skeleton]; unfold cc0_mix_dattn_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    iexists _; isplitr; swap; · iexact H11
    ipureintro; rfl

end Cert.KernelIdeal.Hand

end
-- ==== Proof.Frame.lean ====
/- The attention-gradient kernel runs to its end from any memory and leaves its arguments as they were, at any floats:
   what it computes is stated nowhere here (its five outputs are handed back at some contents). -/
module

public import proofs.«01_k».proof.Proof.RunB
public import Idealize.ShloMosaic.Lib.Claim
public import Idealize.ShloMosaic.Lib.Pipeline.FrameBody
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two grid coordinates of a point: the pair of heads, then the key chunk. -/
theorem coords_pair : ∀ t : Fin grid0.N, (grid0.coords t 0).val = t.val / 8 := by decide +kernel
theorem coords_chunk : ∀ t : Fin grid0.N, (grid0.coords t 1).val = t.val % 8 := by decide +kernel

/-- The body's condition holds at the first key chunk of each pair of heads. -/
theorem hcond0_0 : ∀ t : Fin grid0.N, cond0_0 (grid0.coords t) ↔ t.val % 8 = 0 := by decide +kernel

/-- Window 0's current staging buffer. -/
abbrev ms0_0 (t : Fin cfg0.N) := (cfg0.win 0).stage (cfg0.slots t 0)
/-- Window 1's current staging buffer. -/
abbrev ms0_1 (t : Fin cfg0.N) := (cfg0.win 1).stage (cfg0.slots t 1)
/-- Window 2's current staging buffer. -/
abbrev ms0_2 (t : Fin cfg0.N) := (cfg0.win 2).stage (cfg0.slots t 2)
/-- Window 3's current staging buffer. -/
abbrev ms0_3 (t : Fin cfg0.N) := (cfg0.win 3).stage (cfg0.slots t 3)
/-- Window 4's current staging buffer. -/
abbrev ms0_4 (t : Fin cfg0.N) := (cfg0.win 4).stage (cfg0.slots t 4)
/-- Window 5's current staging buffer. -/
abbrev ms0_5 (t : Fin cfg0.N) := (cfg0.win 5).stage (cfg0.slots t 5)
/-- Window 6's current staging buffer. -/
abbrev ms0_6 (t : Fin cfg0.N) := (cfg0.win 6).stage (cfg0.slots t 6)
/-- Window 7's current staging buffer. -/
abbrev ms0_7 (t : Fin cfg0.N) := (cfg0.win 7).stage (cfg0.slots t 7)
/-- Window 8's current staging buffer. -/
abbrev ms0_8 (t : Fin cfg0.N) := (cfg0.win 8).stage (cfg0.slots t 8)
/-- Window 9's current staging buffer. -/
abbrev ms0_9 (t : Fin cfg0.N) := (cfg0.win 9).stage (cfg0.slots t 9)
/-- Window 10's current staging buffer. -/
abbrev ms0_10 (t : Fin cfg0.N) := (cfg0.win 10).stage (cfg0.slots t 10)
/-- Window 11's current staging buffer. -/
abbrev ms0_11 (t : Fin cfg0.N) := (cfg0.win 11).stage (cfg0.slots t 11)

/-! ## The run's data: inputs in place, outputs unnamed -/

/-- The output windows, of which nothing is said. -/
def forgets0 : Fin 12 → Bool := fun w => 7 ≤ w.val

/-- Each input's buffer holds its block after the body at every point; the outputs are unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-! Each input's buffer holds its block before the body too, fetched at that point or not. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 2400000 in
/-- The body at any point, from the two runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  by_cases h0 : t.val % 8 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) d7 d8 d9 d10 d11).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iexists _; iexact H11
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runB c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) d7 d8 d9 d10 d11).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iexists _; iexact H11

/-- The body table's row at a point is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- the launch's implicit arguments are found by unfolding plain definitions in a metavariable's type
set_option backward.isDefEq.respectTransparency.types false in
/-- The launch: every run ends, with the inputs unchanged and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main_quiescent m ρ)
  obtain ⟨h, -⟩ := h
  have hin : ∀ w, (cfg0.win w).isOut = false → r.2.mem ((cfg0.spec w).arr.view.loc (c.tc : Thread nD τ)) = V m c (Pipeline.arrRef spec0 w) :=
    fun w hw => Eq.trans ((congrFun (((dats m 0 c).toRForget forgets0).ArrAt_in w hw _) _).mp ((h c).1 w)) (A_eq m c w)
  exact ⟨(hin 0 rfl).trans (V_main_arg0 m c), (hin 5 rfl).trans (V_main_arg1 m c), (hin 6 rfl).trans (V_main_arg2 m c),
    ((h c).2 main_arg3 (Pipeline.mem_restRefs_of main_arg3 (by decide) (by decide))).trans (V_main_arg3 m c),
    (hin 1 rfl).trans (V_main_arg4 m c)⟩

/-- The frame: arguments unchanged and counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.Ops.lean ====
/- Arrays of real numbers among the arrays of ideal values, and what the vector operations of the attention-gradient kernel
   do to them: every operation takes arrays of reals to the array of reals one expects. -/
module

public import proofs.«01_k».proof.Proof.Gen.KernelIdeal.Skeleton
public import Idealize.ShloMosaic.Lib.Pointwise
public import Idealize.ShloMosaic.Lib.WordCmp
public import Idealize.ShloMosaic.Lib.Pointwise.Tactic

@[expose] public section

set_option maxRecDepth 16384

noncomputable section

namespace Cert.KernelIdeal.Hand

open Idealize.ShloMosaic Idealize.ShloMosaic.TcCoe Idealize.ShloMosaic.Tactic
open Cert.KernelIdeal.Gen
open Idealize.ShloMosaic.WordCmp

/-- A real matrix, as an array of ideal values. -/
def up2 {a b : ℕ} (f : Fin a → Fin b → ℝ) : (⟨2, ![a, b]⟩ : Shape).Idx → EReal := fun x => ((f (x 0) (x 1) : ℝ) : EReal)
/-- The same at more axes. -/
def up3 {a b d : ℕ} (f : Fin a → Fin b → Fin d → ℝ) : (⟨3, ![a, b, d]⟩ : Shape).Idx → EReal := fun x => ((f (x 0) (x 1) (x 2) : ℝ) : EReal)
def up4 {a b d e : ℕ} (f : Fin a → Fin b → Fin d → Fin e → ℝ) : (⟨4, ![a, b, d, e]⟩ : Shape).Idx → EReal :=
  fun x => ((f (x 0) (x 1) (x 2) (x 3) : ℝ) : EReal)
/-- A mask. -/
def bm {a b : ℕ} (p : Fin a → Fin b → Bool) : (⟨2, ![a, b]⟩ : Shape).Idx → BitVec 1 := fun x => if p (x 0) (x 1) then 1#1 else 0#1

/-- A finite sum of reals, among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

section
variable {a b : ℕ} (f g : Fin a → Fin b → ℝ) (p : Fin a → Fin b → Bool)

theorem up2_mul {φ : FTy} : mulf (F := Ideal) (φ := φ) (up2 f) (up2 g) = up2 fun r s => f r s * g r s := by
  funext x; exact (EReal.coe_mul _ _).symm
theorem up2_add {φ : FTy} : addf (F := Ideal) (φ := φ) (up2 f) (up2 g) = up2 fun r s => f r s + g r s := by
  funext x; exact (EReal.coe_add _ _).symm
theorem up2_sub {φ : FTy} : subf (F := Ideal) (φ := φ) (up2 f) (up2 g) = up2 fun r s => f r s - g r s := by
  funext x; exact (EReal.coe_sub _ _).symm
theorem up2_exp {φ : FTy} : exp (F := Ideal) (φ := φ) (up2 f) = up2 fun r s => Real.exp (f r s) := by
  funext x; exact Ideal.exp_coe _
theorem up2_truncf {φ ψ : FTy} (h : ψ.bits < φ.bits) : truncf (F := Ideal) (φ := φ) ψ (up2 f) h = up2 f := rfl
theorem up2_extf {φ ψ : FTy} (h : φ.bits < ψ.bits) : extf (F := Ideal) (φ := φ) ψ (up2 f) h = up2 f := rfl
theorem up2_select {φ : FTy} : select (α := Ideal φ) (bm p) (up2 f) (up2 g) = up2 fun r s => if p r s then f r s else g r s := by
  funext x; show (if (if p (x 0) (x 1) then 1#1 else 0#1) = 1#1 then _ else _) = _
  unfold up2; cases h : p (x 0) (x 1) <;> simp [h]
end

/-! The zero arrays the kernel writes out. -/

theorem z_256x128 : broadcast S256x128 (Scalar.ofBits (F := Ideal) .f32 0x00000000#32) = up2 fun (_ : Fin 256) (_ : Fin 128) => (0 : ℝ) := by
  funext x; pointwise [up2]; simp
theorem z_256x128b : broadcast S256x128 (Scalar.ofBits (F := Ideal) .bf16 0x0000#16) = up2 fun (_ : Fin 256) (_ : Fin 128) => (0 : ℝ) := by
  funext x; pointwise [up2]; simp
theorem z_256x256 : broadcast S256x256 (Scalar.ofBits (F := Ideal) .f32 0x00000000#32) = up2 fun (_ : Fin 256) (_ : Fin 256) => (0 : ℝ) := by
  funext x; pointwise [up2]; simp
theorem z_8x256 : broadcast S8x256 (Scalar.ofBits (F := Ideal) .f32 0x00000000#32) = up2 fun (_ : Fin 8) (_ : Fin 256) => (0 : ℝ) := by
  funext x; pointwise [up2]; simp
theorem z_1x256 : broadcast S1x256 (Scalar.ofBits (F := Ideal) .f32 0x00000000#32) = up2 fun (_ : Fin 1) (_ : Fin 256) => (0 : ℝ) := by
  funext x; pointwise [up2]; simp
theorem z_2048x128 : broadcast S2048x128 (Scalar.ofBits (F := Ideal) .f32 0x00000000#32) = up2 fun (_ : Fin 2048) (_ : Fin 128) => (0 : ℝ) := by
  funext x; pointwise [up2]; simp
/-- The scale 1/8. -/
theorem eighth : broadcast S256x128 (Scalar.ofBits (F := Ideal) .f32 0x3E000000#32) = up2 fun (_ : Fin 256) (_ : Fin 128) => (1 / 8 : ℝ) := by
  funext x; pointwise [up2]
  simp [Ideal.ofBits, Ideal.ieee, -EReal.coe_mul]; norm_num
theorem eighthb : broadcast S256x128 (Scalar.ofBits (F := Ideal) .bf16 0x3E00#16) = up2 fun (_ : Fin 256) (_ : Fin 128) => (1 / 8 : ℝ) := by
  funext x; pointwise [up2]
  simp [Ideal.ofBits, Ideal.ieee, -EReal.coe_mul]; norm_num

/-! The three products. -/

theorem mm_nt (f : Fin 256 → Fin 128 → ℝ) (g : Fin 256 → Fin 128 → ℝ) :
    matmul (F := Ideal) (φ₁ := .bf16) (φ₂ := .bf16) dot_S256x128_S256x128_S256x256_1_1_0_0_n_n none (up2 f) (up2 g) (constant S256x256 .f32 0x00000000#32)
      = up2 fun r s => ∑ l, f r l * g s l := by
  funext x
  pointwise [dot_S256x128_S256x128_S256x256_1_1_0_0_n_n]
  simp only [up2, coe_sum, EReal.coe_mul]
  rfl

theorem mm_nn (f : Fin 256 → Fin 256 → ℝ) (g : Fin 256 → Fin 128 → ℝ) :
    matmul (F := Ideal) (φ₁ := .bf16) (φ₂ := .bf16) dot_S256x256_S256x128_S256x128_1_0_0_1_n_n none (up2 f) (up2 g) (constant S256x128 .f32 0x00000000#32)
      = up2 fun r l => ∑ s, f r s * g s l := by
  funext x
  pointwise [dot_S256x256_S256x128_S256x128_1_0_0_1_n_n]
  simp only [up2, coe_sum, EReal.coe_mul]
  rfl

theorem mm_tn (f : Fin 256 → Fin 256 → ℝ) (g : Fin 256 → Fin 128 → ℝ) :
    matmul (F := Ideal) (φ₁ := .bf16) (φ₂ := .bf16) dot_S256x256_S256x128_S256x128_0_0_1_1_n_n none (up2 f) (up2 g) (constant S256x128 .f32 0x00000000#32)
      = up2 fun s l => ∑ r, f r s * g r l := by
  funext x
  pointwise [dot_S256x256_S256x128_S256x128_0_0_1_1_n_n]
  simp only [up2, coe_sum, EReal.coe_mul]
  rfl

/-! Row and column sums, kept as a column or a row. -/

theorem red_row (f : Fin 256 → Fin 128 → ℝ) (h₁) (h₂) :
    shapeCast S256x1 (multiReduction (F := Ideal) (φ := .f32) .add [1] S256 (up2 f) 0x00000000#32 reduces_S256x128_S256 h₁ h₂) shapeCasts_S256_S256x1
      = up2 fun r (_ : Fin 1) => ∑ l, f r l := by
  funext x
  pointwise []
  simp only [up2, coe_sum]
  rfl
theorem red_row2 (f : Fin 256 → Fin 256 → ℝ) (h₁) (h₂) :
    shapeCast S256x1 (multiReduction (F := Ideal) (φ := .f32) .add [1] S256 (up2 f) 0x00000000#32 reduces_S256x256_S256 h₁ h₂) shapeCasts_S256_S256x1
      = up2 fun r (_ : Fin 1) => ∑ l, f r l := by
  funext x
  pointwise []
  simp only [up2, coe_sum]
  rfl
theorem red_col (f : Fin 256 → Fin 256 → ℝ) (h₁) (h₂) :
    shapeCast S1x256 (multiReduction (F := Ideal) (φ := .f32) .add [0] S256 (up2 f) 0x00000000#32 reduces_S256x256_S256_2 h₁ h₂) shapeCasts_S256_S1x256
      = up2 fun (_ : Fin 1) s => ∑ r, f r s := by
  funext x
  pointwise []
  simp only [up2, coe_sum]
  rfl
theorem red_col8 (f : Fin 8 → Fin 256 → ℝ) (h₁) (h₂) :
    shapeCast S1x256 (multiReduction (F := Ideal) (φ := .f32) .add [0] S256 (up2 f) 0x00000000#32 reduces_S8x256_S256 h₁ h₂) shapeCasts_S256_S1x256
      = up2 fun (_ : Fin 1) s => ∑ r, f r s := by
  funext x
  pointwise []
  simp only [up2, coe_sum]
  rfl

/-! Reshapes and broadcasts. -/

theorem bc_row (f : Fin 1 → Fin 256 → ℝ) : broadcastTo (α := Ideal .f32) S256x256 (up2 f) broadcasts_S1x256_S256x256 = up2 fun (_ : Fin 256) s => f 0 s := by
  funext x; pointwise [up2]
theorem bc_row8 (f : Fin 1 → Fin 256 → ℝ) : broadcastTo (α := Ideal .f32) S8x256 (up2 f) broadcasts_S1x256_S8x256 = up2 fun (_ : Fin 8) s => f 0 s := by
  funext x; pointwise [up2]
theorem bc_col (f : Fin 256 → Fin 1 → ℝ) : broadcastTo (α := Ideal .f32) S256x256 (up2 f) broadcasts_S256x1_S256x256 = up2 fun r (_ : Fin 256) => f r 0 := by
  funext x; pointwise [up2]
theorem bc_col128 (f : Fin 256 → Fin 1 → ℝ) : broadcastTo (α := Ideal .f32) S256x128 (up2 f) broadcasts_S256x1_S256x128 = up2 fun r (_ : Fin 128) => f r 0 := by
  funext x; pointwise [up2]
theorem sc_id {φ : FTy} (f : Fin 256 → Fin 128 → ℝ) : shapeCast (α := Ideal φ) S256x128 (up2 f) shapeCasts_S256x128_S256x128 = up2 f := by
  funext x; pointwise [up2]
theorem sc_id1 {φ : FTy} (f : Fin 1 → Fin 256 → ℝ) : shapeCast (α := Ideal φ) S1x256 (up2 f) shapeCasts_S1x256_S1x256 = up2 f := by
  funext x; pointwise [up2]
theorem sc_id2 {φ : FTy} (f : Fin 256 → Fin 1 → ℝ) : shapeCast (α := Ideal φ) S256x1 (up2 f) shapeCasts_S256x1_S256x1 = up2 f := by
  funext x; pointwise [up2]
theorem sc_idBig {φ : FTy} (f : Fin 2048 → Fin 128 → ℝ) : shapeCast (α := Ideal φ) S2048x128 (up2 f) shapeCasts_S2048x128_S2048x128 = up2 f := by
  funext x; pointwise [up2]
theorem sc_32 {φ : FTy} (f : Fin 1 → Fin 256 → Fin 128 → ℝ) : shapeCast (α := Ideal φ) S256x128 (up3 f) shapeCasts_S1x256x128_S256x128 = up2 (f 0) := by
  funext x; pointwise [up2, up3]
theorem sc_23 {φ : FTy} (f : Fin 256 → Fin 128 → ℝ) : shapeCast (α := Ideal φ) S1x256x128 (up2 f) shapeCasts_S256x128_S1x256x128 = up3 fun _ => f := by
  funext x; pointwise [up2, up3]
theorem sc_23Big {φ : FTy} (f : Fin 2048 → Fin 128 → ℝ) : shapeCast (α := Ideal φ) S1x2048x128 (up2 f) shapeCasts_S2048x128_S1x2048x128 = up3 fun _ => f := by
  funext x; pointwise [up2, up3]
theorem sc_ct {φ : FTy} (f : Fin 1 → Fin 8 → Fin 256 → ℝ) : shapeCast (α := Ideal φ) S8x256 (up3 f) shapeCasts_S1x8x256_S8x256 = up2 (f 0) := by
  funext x; pointwise [up2, up3]
theorem sc_dcs {φ : FTy} (f : Fin 8 → Fin 256 → ℝ) : shapeCast (α := Ideal φ) S1x1x8x256 (up2 f) shapeCasts_S8x256_S1x1x8x256 = up4 fun _ _ => f := by
  funext x; pointwise [up2, up4]

/-! The masks. -/

theorem ofBool_ite (b : Bool) : BitVec.ofBool b = if b = true then 1#1 else 0#1 := by cases b <;> rfl

theorem m_lt : k0_pay44 = bm fun (_ : Fin 256) (l : Fin 128) => decide (l.val < 64) := by
  funext x; unfold_payloads; pointwise [bm]
  have h : (x 1).val < 128 := (x 1).isLt
  rw [cmpi_slt_ofNat (by omega) (by norm_num), ofBool_ite]
theorem m_tri : k0_pay54 = bm fun (r : Fin 256) (s : Fin 256) => decide (s.val ≤ r.val) := by
  funext x; unfold_payloads; pointwise [bm]
  have h : (x 1).val < 256 := (x 1).isLt
  have h' : (x 0).val < 256 := (x 0).isLt
  rw [cmpi_sge_ofNat (by omega) (by omega), ofBool_ite]
theorem m_lane0 : cmpi .eq (iota .tc S256x128 32 [1] iota_S256x128_d1_w32) (broadcast S256x128 0#32) = bm fun (_ : Fin 256) (l : Fin 128) => decide (l.val = 0) := by
  funext x; pointwise [bm]
  have h : (x 1).val < 128 := (x 1).isLt
  rw [cmpi_eq_eq, ofBool_ite]
  congr 2; exact decide_eq_decide.mpr (ofNat_eq_ofNat_iff (by omega) (by norm_num))
theorem m_lane1 : cmpi .eq (iota .tc S256x128 32 [1] iota_S256x128_d1_w32) (broadcast S256x128 1#32) = bm fun (_ : Fin 256) (l : Fin 128) => decide (l.val = 1) := by
  funext x; pointwise [bm]
  have h : (x 1).val < 128 := (x 1).isLt
  rw [cmpi_eq_eq, ofBool_ite]
  congr 2; exact decide_eq_decide.mpr (ofNat_eq_ofNat_iff (by omega) (by norm_num))
theorem m_row8 (w : BitVec 32) (n : ℕ) (hw : w = BitVec.ofNat 32 n) (hn : n < 8) :
    cmpi .eq (iota .tc S8x256 32 [0] iota_S8x256_d0_w32) (broadcast S8x256 w) = bm fun (r : Fin 8) (_ : Fin 256) => decide (r.val = n) := by
  subst hw
  funext x; pointwise [bm]
  have h : (x 0).val < 8 := (x 0).isLt
  rw [cmpi_eq_eq, ofBool_ite]
  congr 2; exact decide_eq_decide.mpr (ofNat_eq_ofNat_iff (by omega) (by omega))
theorem m_not (p : Fin 256 → Fin 128 → Bool) : xori (bm p) (constantI S256x128 1 1#1) = bm fun r l => !p r l := by
  funext x; pointwise [bm]
  have key : ∀ q : Bool, IntOp.xori (if q = true then 1#1 else 0#1) 1#1 = if (!q) = true then 1#1 else 0#1 := by decide
  exact key _

end Cert.KernelIdeal.Hand

end
-- ==== Proof.Tile.lean ====
/- One tile of the attention gradient, 256 queries against 256 keys, over the reals: what each stored or carried value of the
   kernel's body is worth when its operands are arrays of reals. -/
module

public import proofs.«01_k».proof.Proof.Ops

@[expose] public section

set_option maxRecDepth 16384
set_option backward.isDefEq.respectTransparency false

noncomputable section

namespace Cert.KernelIdeal.Hand

open Idealize.ShloMosaic Idealize.ShloMosaic.TcCoe Idealize.ShloMosaic.Tactic
open Cert.KernelIdeal.Gen

/-! ## The real tile -/

/-- Lane `l` of a pair of heads belongs to head `e`. -/
def inh (e : Fin 2) (l : Fin 128) : Bool := decide (l.val / 64 = e.val)
/-- Lane `e` of a row statistic. -/
def lane (e : Fin 2) : Fin 128 := ⟨e.val, by omega⟩

section
variable (k v : Fin 256 → Fin 128 → ℝ) (c : Fin 2 → Fin 256 → ℝ) (q d o L : Fin 256 → Fin 128 → ℝ) (m : Fin 256 → Fin 256 → Bool) (e : Fin 2)

/-- Head `e`'s scaled keys, zero on the other head's lanes; and its values. -/
def tK (s : Fin 256) (l : Fin 128) : ℝ := if inh e l then k s l * (1 / 8) else 0
def tV (s : Fin 256) (l : Fin 128) : ℝ := if inh e l then v s l else 0
/-- The row sum of gradient times output, on head `e`'s lanes. -/
def tD (r : Fin 256) : ℝ := ∑ l, if inh e l then d r l * o r l else 0
/-- The probabilities, zero outside the mask. -/
def tP (r s : Fin 256) : ℝ := if m r s then Real.exp (∑ l, q r l * tK k e s l - c e s - L r (lane e)) else 0
/-- The gradient of the scores. -/
def tS (r s : Fin 256) : ℝ := tP k c q L m e r s * (∑ l, d r l * tV v e s l - tD d o e r)
/-- The tile's part of the queries' gradient, and of the row sums. -/
def tQ (r : Fin 256) (l : Fin 128) : ℝ := ∑ s, tS k v c q d o L m 0 r s * tK k 0 s l + ∑ s, tS k v c q d o L m 1 r s * tK k 1 s l
def tR (r : Fin 256) (l : Fin 128) : ℝ := if l.val = 1 then ∑ s, tS k v c q d o L m 1 r s else if l.val = 0 then ∑ s, tS k v c q d o L m 0 r s else 0
end

/-- The mask of the tile on the diagonal, and of those below it. -/
def mTri : Fin 256 → Fin 256 → Bool := fun r s => decide (s.val ≤ r.val)
def mAll : Fin 256 → Fin 256 → Bool := fun _ _ => true

theorem inh_zero (l : Fin 128) : inh 0 l = decide (l.val < 64) := by
  unfold inh; exact decide_eq_decide.mpr (by simp (proj := false) only [Fin.val_zero]; omega)
theorem inh_one (l : Fin 128) : inh 1 l = !decide (l.val < 64) := by
  unfold inh; rw [← decide_not]; exact decide_eq_decide.mpr (by simp (proj := false) only [Fin.val_one]; omega)

theorem lane_sum (f : Fin 128 → ℝ) (e : Fin 2) : (∑ l, if decide (l.val = e.val) = true then f l else 0) = f (lane e) := by
  rw [Finset.sum_eq_single (lane e)]
  · simp [lane]
  · intro b _ hb; rw [if_neg]; simp (proj := false) only [decide_eq_true_eq]; intro h; exact hb (Fin.ext h)
  · simp
theorem lane_sum0 (f : Fin 128 → ℝ) : (∑ l, if decide (l.val = 0) = true then f l else 0) = f (lane 0) := lane_sum f 0
theorem lane_sum1 (f : Fin 128 → ℝ) : (∑ l, if decide (l.val = 1) = true then f l else 0) = f (lane 1) := lane_sum f 1

/-! ## Heads of the keys, values and column terms -/

theorem p47 (k : Fin 256 → Fin 128 → ℝ) : k0_pay47 (F := Ideal) (up2 k) = up2 (tK k 0) := by
  unfold k0_pay47 k0_pay45 k0_pay46
  simp (proj := false) only [m_lt, eighthb, z_256x128b, up2_mul, up2_select]
  unfold tK; simp (proj := false) only [inh_zero]
theorem p48 (k : Fin 256 → Fin 128 → ℝ) : k0_pay48 (F := Ideal) (up2 k) = up2 (tK k 1) := by
  unfold k0_pay48 k0_pay45 k0_pay46
  simp (proj := false) only [m_lt, eighthb, z_256x128b, up2_mul, up2_select]
  congr 1; funext s l; unfold tK; rw [inh_one]; by_cases h : l.val < 64 <;> simp [h]
theorem p49 (v : Fin 256 → Fin 128 → ℝ) : k0_pay49 (F := Ideal) (up2 v) = up2 (tV v 0) := by
  unfold k0_pay49 k0_pay46
  simp (proj := false) only [m_lt, z_256x128b]
  erw [up2_select (φ := .bf16)]
  unfold tV; simp (proj := false) only [inh_zero]
theorem p50 (v : Fin 256 → Fin 128 → ℝ) : k0_pay50 (F := Ideal) (up2 v) = up2 (tV v 1) := by
  unfold k0_pay50 k0_pay46
  simp (proj := false) only [m_lt, z_256x128b]
  erw [up2_select (φ := .bf16)]
  congr 1; funext s l; unfold tV; rw [inh_one]; by_cases h : l.val < 64 <;> simp [h]

theorem row_sum8 (f : Fin 8 → ℝ) (n : ℕ) (hn : n < 8) : (∑ l, if decide (l.val = n) = true then f l else 0) = f ⟨n, hn⟩ := by
  rw [Finset.sum_eq_single ⟨n, hn⟩]
  · simp
  · intro b _ hb; rw [if_neg]; simp (proj := false) only [decide_eq_true_eq]; intro h; exact hb (Fin.ext h)
  · simp

theorem p52 (i : grid0.Coords) (ct : Fin 1 → Fin 8 → Fin 256 → ℝ) :
    k0_pay52 (F := Ideal) i (up3 ct) = up2 fun (_ : Fin 1) s => ct 0 ⟨2 * (i 0).val, by have := (i 0).isLt; change (i 0).val < 4 at this; omega⟩ s := by
  have h4 : (i 0).val < 4 := (i 0).isLt
  unfold k0_pay52 k0_pay51
  simp (proj := false) only [sc_ct, z_8x256]
  rw [m_row8 _ (2 * (i 0).val) (by simp [Scalar.muli, IntOp.muli, BitVec.ofNat_mul]) (by omega)]
  simp (proj := false) only [up2_select, red_col8]
  congr 1; funext _ s
  exact row_sum8 (fun r => ct 0 r s) _ _
theorem p53 (i : grid0.Coords) (ct : Fin 1 → Fin 8 → Fin 256 → ℝ) :
    k0_pay53 (F := Ideal) i (up3 ct) = up2 fun (_ : Fin 1) s => ct 0 ⟨2 * (i 0).val + 1, by have := (i 0).isLt; change (i 0).val < 4 at this; omega⟩ s := by
  have h4 : (i 0).val < 4 := (i 0).isLt
  unfold k0_pay53 k0_pay51
  simp (proj := false) only [sc_ct, z_8x256]
  rw [m_row8 _ (2 * (i 0).val + 1) (by simp [Scalar.muli, Scalar.addi, IntOp.muli, IntOp.addi, BitVec.ofNat_mul, BitVec.ofNat_add]) (by omega)]
  simp (proj := false) only [up2_select, red_col8]
  congr 1; funext _ s
  exact row_sum8 (fun r => ct 0 r s) _ _

/-! ## The diagonal tile -/

section
variable (k v : Fin 256 → Fin 128 → ℝ) (c : Fin 2 → Fin 256 → ℝ) (q d o L : Fin 256 → Fin 128 → ℝ)

theorem p58 : k0_pay58 (F := Ideal) (up2 d) (up2 o) = up2 fun r l => d r l * o r l := by
  unfold k0_pay58; simp (proj := false) only [sc_id, up2_extf, up2_mul]
theorem p63 : k0_pay63 (F := Ideal) k0_pay44 (up2 d) (up2 o) = up2 fun r (_ : Fin 1) => tD d o 0 r := by
  unfold k0_pay63; simp (proj := false) only [p58, m_lt, z_256x128, up2_select, red_row]
  unfold tD; simp (proj := false) only [inh_zero]
theorem p64 : k0_pay64 (F := Ideal) (up2 (tK k 0)) (up2 fun (_ : Fin 1) s => c 0 s) k0_pay54 (up2 q) (up3 fun (_ : Fin 1) => L) = up2 (tP k c q L mTri 0) := by
  unfold k0_pay64 k0_pay59
  simp (proj := false) only [mm_nt, bc_row, up2_sub, m_lane0, z_256x128, z_256x256, sc_32, up2_select, red_row, bc_col, up2_exp, m_tri, lane_sum0]
  rfl
theorem p65 : k0_pay65 (F := Ideal) (up2 (tV v 0)) (up2 d) = up2 fun r s => ∑ l, d r l * tV v 0 s l := by
  unfold k0_pay65 k0_pay60; simp (proj := false) only [up2_truncf]; exact mm_nt _ _
theorem p66 (P W : Fin 256 → Fin 256 → ℝ) (D : Fin 256 → ℝ) :
    k0_pay66 (F := Ideal) (up2 fun r (_ : Fin 1) => D r) (up2 P) (up2 W) = up2 fun r s => P r s * (W r s - D r) := by
  unfold k0_pay66; simp (proj := false) only [bc_col, up2_sub, up2_mul]
theorem p68 (P W : Fin 256 → Fin 256 → ℝ) (D : Fin 256 → ℝ) (K : Fin 256 → Fin 128 → ℝ) :
    k0_pay68 (F := Ideal) (up2 K) k0_pay61 (up2 fun r (_ : Fin 1) => D r) (up2 P) (up2 W) = up2 fun r l => ∑ s, P r s * (W r s - D r) * K s l := by
  unfold k0_pay68 k0_pay67 k0_pay61; simp (proj := false) only [p66, up2_truncf, mm_nn, z_256x128, up2_add, zero_add]
theorem p69 (P W : Fin 256 → Fin 256 → ℝ) (D : Fin 256 → ℝ) :
    k0_pay69 (F := Ideal) (iota .tc S256x128 32 [1] iota_S256x128_d1_w32) k0_pay62 (up2 fun r (_ : Fin 1) => D r) (up2 P) (up2 W)
      = up2 fun r l => if decide (l.val = 0) = true then ∑ s, P r s * (W r s - D r) else 0 := by
  unfold k0_pay69 k0_pay62; simp (proj := false) only [p66, red_row2, sc_id2, bc_col128, m_lane0, z_256x128, up2_select]
theorem p70 (P W : Fin 256 → Fin 256 → ℝ) (D : Fin 256 → ℝ) (A : Fin 256 → Fin 128 → ℝ) :
    k0_pay70 (F := Ideal) (up2 A) (up2 q) (up2 fun r (_ : Fin 1) => D r) (up2 P) (up2 W) = up2 fun s l => A s l + ∑ r, P r s * (W r s - D r) * q r l := by
  unfold k0_pay70 k0_pay67; simp (proj := false) only [p66, up2_truncf, mm_tn, up2_add]
theorem p71 (P : Fin 256 → Fin 256 → ℝ) (A : Fin 256 → Fin 128 → ℝ) :
    k0_pay71 (F := Ideal) (up2 A) (up2 d) (up2 P) = up2 fun s l => A s l + ∑ r, P r s * d r l := by
  unfold k0_pay71; simp (proj := false) only [up2_truncf, mm_tn, up2_add]
theorem p72 (P W : Fin 256 → Fin 256 → ℝ) (D : Fin 256 → ℝ) (A : Fin 256 → ℝ) :
    k0_pay72 (F := Ideal) (up2 fun (_ : Fin 1) s => A s) (up2 fun r (_ : Fin 1) => D r) (up2 P) (up2 W) = up2 fun (_ : Fin 1) s => A s + ∑ r, P r s * (W r s - D r) := by
  unfold k0_pay72; simp (proj := false) only [p66, red_col, up2_add]
theorem p73 : k0_pay73 (F := Ideal) (up2 (tK k 1)) (up2 fun (_ : Fin 1) s => c 1 s) k0_pay54 (up2 q) (up2 L) = up2 (tP k c q L mTri 1) := by
  unfold k0_pay73
  simp (proj := false) only [mm_nt, bc_row, up2_sub, m_lane1, z_256x128, z_256x256, up2_select, red_row, bc_col, up2_exp, m_tri, lane_sum1]
  rfl
theorem p74 : k0_pay74 (F := Ideal) k0_pay44 (up2 (tK k 1)) (up2 (tV v 1)) (up2 fun (_ : Fin 1) s => c 1 s) k0_pay54 (up2 q) (up2 fun r l => d r l * o r l) (up2 L) (up2 d)
    = up2 (tS k v c q d o L mTri 1) := by
  unfold k0_pay74
  simp (proj := false) only [p73, m_lt, m_not, z_256x128, up2_select, red_row, mm_nt, bc_col, up2_sub, up2_mul]
  unfold tS tD; simp (proj := false) only [inh_one]
theorem p76 (S : Fin 256 → Fin 256 → ℝ) (A : Fin 256 → Fin 128 → ℝ) :
    k0_pay76 (F := Ideal) (up2 A) (up2 q) (up2 S) = up2 fun s l => A s l + ∑ r, S r s * q r l := by
  unfold k0_pay76 k0_pay75; simp (proj := false) only [up2_truncf, mm_tn, up2_add]
theorem p77 (P : Fin 256 → Fin 256 → ℝ) (A : Fin 256 → Fin 128 → ℝ) :
    k0_pay77 (F := Ideal) (up2 A) (up2 d) (up2 P) = up2 fun s l => A s l + ∑ r, P r s * d r l := by
  unfold k0_pay77; simp (proj := false) only [up2_truncf, mm_tn, up2_add]
theorem p78 (S : Fin 256 → Fin 256 → ℝ) (A : Fin 256 → ℝ) :
    k0_pay78 (F := Ideal) (up2 fun (_ : Fin 1) s => A s) (up2 S) = up2 fun (_ : Fin 1) s => A s + ∑ r, S r s := by
  unfold k0_pay78; simp (proj := false) only [red_col, up2_add]
theorem p79 (S : Fin 256 → Fin 256 → ℝ) (A B K : Fin 256 → Fin 128 → ℝ) :
    k0_pay79 (F := Ideal) (up2 K) (up2 A) (up2 S) (up2 B) = up2 fun r l => B r l + (A r l + ∑ s, S r s * K s l) := by
  unfold k0_pay79 k0_pay75; simp (proj := false) only [up2_truncf, mm_nn, up2_add, sc_id]
theorem p80 (S : Fin 256 → Fin 256 → ℝ) (A B : Fin 256 → Fin 128 → ℝ) :
    k0_pay80 (F := Ideal) (iota .tc S256x128 32 [1] iota_S256x128_d1_w32) (up2 A) (up2 S) (up3 fun (_ : Fin 1) => B)
      = up3 fun (_ : Fin 1) r l => B r l + (if decide (l.val = 1) = true then ∑ s, S r s else A r l) := by
  unfold k0_pay80; simp (proj := false) only [m_lane1, red_row2, sc_id2, bc_col128, up2_select, sc_32, up2_add, sc_23]

/-! ## A later tile -/

theorem p4 : k0_pay4 (F := Ideal) (up2 d) (up2 o) = up2 fun r l => d r l * o r l := by
  unfold k0_pay4; simp (proj := false) only [sc_id, up2_extf, up2_mul]
theorem p5 : k0_pay5 (F := Ideal) (up3 fun (_ : Fin 1) => L) = up2 L := by
  unfold k0_pay5; exact sc_32 (φ := .f32) _
theorem p8 : k0_pay8 (F := Ideal) (up2 (tK k 0)) (up2 fun (_ : Fin 1) s => c 0 s) (up2 q) (up3 fun (_ : Fin 1) => L) = up2 (tP k c q L mAll 0) := by
  unfold k0_pay8
  simp (proj := false) only [p5, mm_nt, bc_row, up2_sub, m_lane0, z_256x128, up2_select, red_row, bc_col, up2_exp, lane_sum0]
  rfl
theorem p9 : k0_pay9 (F := Ideal) k0_pay44 (up2 (tK k 0)) (up2 (tV v 0)) (up2 fun (_ : Fin 1) s => c 0 s) (up2 q) (up2 d) (up2 o) (up3 fun (_ : Fin 1) => L)
    = up2 (tS k v c q d o L mAll 0) := by
  unfold k0_pay9 k0_pay6
  simp (proj := false) only [p8, p4, m_lt, z_256x128, up2_select, red_row, up2_truncf, mm_nt, bc_col, up2_sub, up2_mul]
  unfold tS tD; simp (proj := false) only [inh_zero]
theorem p11 : k0_pay11 (F := Ideal) k0_pay44 (up2 (tK k 0)) (up2 (tV v 0)) (up2 fun (_ : Fin 1) s => c 0 s) (up2 q) (up2 d) (up2 o) (up3 fun (_ : Fin 1) => L)
    = up2 fun r l => ∑ s, tS k v c q d o L mAll 0 r s * tK k 0 s l := by
  unfold k0_pay11 k0_pay10
  simp (proj := false) only [p9, up2_truncf, mm_nn, z_256x128, up2_add, zero_add]
theorem p13 (S : Fin 256 → Fin 256 → ℝ) :
    k0_pay13 (F := Ideal) (iota .tc S256x128 32 [1] iota_S256x128_d1_w32) k0_pay7 (up2 S) k0_pay12
      = up2 fun r l => if decide (l.val = 0) = true then ∑ s, S r s else 0 := by
  unfold k0_pay13 k0_pay7 k0_pay12; simp (proj := false) only [red_row2, sc_id2, bc_col128, m_lane0, z_256x128, up2_select]
theorem p14 (S : Fin 256 → Fin 256 → ℝ) (A : Fin 256 → Fin 128 → ℝ) :
    k0_pay14 (F := Ideal) (up2 A) (up2 q) (up2 S) = up2 fun s l => A s l + ∑ r, S r s * q r l := by
  unfold k0_pay14; simp (proj := false) only [mm_tn, up2_add]
theorem p15 (P : Fin 256 → Fin 256 → ℝ) (A : Fin 256 → Fin 128 → ℝ) :
    k0_pay15 (F := Ideal) (up2 A) (up2 d) (up2 P) = up2 fun s l => A s l + ∑ r, P r s * d r l := by
  unfold k0_pay15; simp (proj := false) only [up2_truncf, mm_tn, up2_add]
theorem p16 (S : Fin 256 → Fin 256 → ℝ) (A : Fin 256 → ℝ) :
    k0_pay16 (F := Ideal) (up2 fun (_ : Fin 1) s => A s) (up2 S) = up2 fun (_ : Fin 1) s => A s + ∑ r, S r s := by
  unfold k0_pay16; simp (proj := false) only [red_col, up2_add]
theorem p17 : k0_pay17 (F := Ideal) (up2 (tK k 1)) (up2 fun (_ : Fin 1) s => c 1 s) (up2 q) (up2 L) = up2 (tP k c q L mAll 1) := by
  unfold k0_pay17
  simp (proj := false) only [mm_nt, bc_row, up2_sub, m_lane1, z_256x128, up2_select, red_row, bc_col, up2_exp, lane_sum1]
  rfl
theorem p18 : k0_pay18 (F := Ideal) k0_pay44 (up2 (tK k 1)) (up2 (tV v 1)) (up2 fun (_ : Fin 1) s => c 1 s) (up2 q) (up2 fun r l => d r l * o r l) (up2 L) (up2 d)
    = up2 (tS k v c q d o L mAll 1) := by
  unfold k0_pay18
  simp (proj := false) only [p17, m_lt, m_not, z_256x128, up2_select, red_row, mm_nt, bc_col, up2_sub, up2_mul]
  unfold tS tD; simp (proj := false) only [inh_one]
theorem p20 (A : Fin 256 → Fin 128 → ℝ) : k0_pay20 (F := Ideal) k0_pay44 (up2 (tK k 1)) (up2 (tV v 1)) (up2 fun (_ : Fin 1) s => c 1 s) (up2 q) (up2 fun r l => d r l * o r l) (up2 L) (up2 d) (up2 A)
    = up2 fun r l => A r l + ∑ s, tS k v c q d o L mAll 1 r s * tK k 1 s l := by
  unfold k0_pay20 k0_pay19
  simp (proj := false) only [p18, up2_truncf, mm_nn, up2_add]
theorem p22 : k0_pay22 (F := Ideal) k0_pay44 (up2 (tK k 1)) (up2 (tV v 1)) (up2 fun (_ : Fin 1) s => c 1 s) (up2 q) (up2 fun r l => d r l * o r l) (up2 L) (up2 d)
    = up2 fun r (_ : Fin 128) => ∑ s, tS k v c q d o L mAll 1 r s := by
  unfold k0_pay22
  simp (proj := false) only [p18, red_row2, sc_id2, bc_col128]
theorem p84 (A B : Fin 256 → Fin 128 → ℝ) : k0_pay84 (F := Ideal) (up2 A) (up2 B) = up2 fun r l => B r l + A r l := by
  unfold k0_pay84; simp (proj := false) only [up2_add, sc_id]
theorem p85 (A B C : Fin 256 → Fin 128 → ℝ) :
    k0_pay85 (F := Ideal) (up2 A) (k0_pay21 (iota .tc S256x128 32 [1] iota_S256x128_d1_w32)) (up2 B) (up3 fun (_ : Fin 1) => C)
      = up3 fun (_ : Fin 1) r l => C r l + (if decide (l.val = 1) = true then B r l else A r l) := by
  unfold k0_pay85 k0_pay21; simp (proj := false) only [m_lane1, up2_select, sc_32, up2_add, sc_23]
theorem p81 (S : Fin 256 → Fin 256 → ℝ) (A : Fin 256 → Fin 128 → ℝ) :
    k0_pay81 (F := Ideal) (up2 A) (up2 q) (up2 S) = up2 fun s l => A s l + ∑ r, S r s * q r l := by
  unfold k0_pay81; simp (proj := false) only [mm_tn, up2_add]
theorem p82 (P : Fin 256 → Fin 256 → ℝ) (A : Fin 256 → Fin 128 → ℝ) :
    k0_pay82 (F := Ideal) (up2 A) (up2 d) (up2 P) = up2 fun s l => A s l + ∑ r, P r s * d r l := by
  unfold k0_pay82; simp (proj := false) only [up2_truncf, mm_tn, up2_add]
theorem p83 (S : Fin 256 → Fin 256 → ℝ) (A : Fin 256 → ℝ) :
    k0_pay83 (F := Ideal) (up2 fun (_ : Fin 1) s => A s) (up2 S) = up2 fun (_ : Fin 1) s => A s + ∑ r, S r s := by
  unfold k0_pay83; simp (proj := false) only [red_col, up2_add]

/-! ## What is stored at the end -/

theorem p1_91 (A B : Fin 256 → Fin 128 → ℝ) :
    k0_pay1 (F := Ideal) (k0_pay91 k0_pay44 (up2 A) (up2 B)) (Scalar.ofBits .f32 0x3E000000#32)
      = up2 fun s l => (if inh 0 l then A s l else B s l) * (1 / 8) := by
  unfold k0_pay1 k0_pay91; simp (proj := false) only [m_lt, up2_select, eighth, up2_mul, sc_id, inh_zero]
theorem p2 (A B : Fin 256 → Fin 128 → ℝ) :
    k0_pay2 (F := Ideal) k0_pay44 (up2 A) (up2 B) = up2 fun s l => if inh 0 l then A s l else B s l := by
  unfold k0_pay2; simp (proj := false) only [m_lt, up2_select, sc_id, inh_zero]
theorem p3 (A B : Fin 256 → ℝ) :
    k0_pay3 (F := Ideal) (up2 fun (_ : Fin 1) s => A s) (up2 fun (_ : Fin 1) s => B s)
      = up4 fun (_ : Fin 1) (_ : Fin 1) (h : Fin 8) s => if h.val = 0 then A s else if h.val = 1 then B s else 0 := by
  unfold k0_pay3
  simp (proj := false) only [m_row8 0#32 0 rfl (by omega), m_row8 1#32 1 rfl (by omega), z_8x256, sc_id1, bc_row8, up2_select, sc_dcs, decide_eq_true_eq]
theorem p42 : k0_pay42 (F := Ideal) = up2 fun (_ : Fin 2048) (_ : Fin 128) => (0 : ℝ) := by
  unfold k0_pay42; simp (proj := false) only [z_2048x128, sc_idBig]
theorem p43 : k0_pay43 (F := Ideal) = up3 fun (_ : Fin 1) (_ : Fin 2048) (_ : Fin 128) => (0 : ℝ) := by
  unfold k0_pay43; simp (proj := false) only [z_2048x128, sc_23Big]
theorem p55 : k0_pay55 (F := Ideal) (Scalar.ofBits .f32 0x00000000#32) = up2 fun (_ : Fin 256) (_ : Fin 128) => (0 : ℝ) := z_256x128
theorem p56 : k0_pay56 (F := Ideal) = up2 fun (_ : Fin 256) (_ : Fin 128) => (0 : ℝ) := z_256x128
theorem p57 : k0_pay57 (F := Ideal) = up2 fun (_ : Fin 1) (_ : Fin 256) => (0 : ℝ) := z_1x256

end

end Cert.KernelIdeal.Hand

end
-- ==== Proof.Trip.lean ====
/- One trip of the key chunk's loop over the later query blocks, over the reals. -/
module

public import proofs.«01_k».proof.Proof.Tile
public import proofs.«01_k».proof.Proof.Gen.KernelIdeal.Loops
public import Idealize.ShloMosaic.Lib.Pipeline.Value
public import Idealize.ShloMosaic.Lib.Pipeline.FrameBody
public import Idealize.ShloMosaic.Lib.WritesUnit

@[expose] public section

set_option maxRecDepth 16384
set_option backward.isDefEq.respectTransparency false

noncomputable section

namespace Cert.KernelIdeal.Hand

open Idealize.ShloMosaic Idealize.ShloMosaic.TcCoe Idealize.ShloMosaic.Tactic
open Cert.KernelIdeal.Gen

/-! ## Blocks of 256 rows -/

/-- Rows `256 b + r` of a tall array. -/
def blk (b : ℕ) (f : Fin 2048 → Fin 128 → ℝ) : Fin 256 → Fin 128 → ℝ := fun r l => f ⟨(256 * b + r.val) % 2048, Nat.mod_lt _ (by norm_num)⟩ l
/-- A block of rows, placed among zero rows. -/
def putb (b : ℕ) (T : Fin 256 → Fin 128 → ℝ) : Fin 2048 → Fin 128 → ℝ := fun r l => if r.val / 256 = b then T ⟨r.val % 256, Nat.mod_lt _ (by norm_num)⟩ l else 0

/-- The rows a block load reads. -/
abbrev rows2 {e : EltTy} (v : View sig .tc .vmem S2048x128 e) (off : Fin 2 → ℕ) (h : ∀ a, off a + S256x128.size a ≤ S2048x128.size a)
    (X : BufTy.Contents (Elt Ideal) v.ty) : S256x128.Idx → Elt Ideal e :=
  v.readAt (Elt Ideal) (Rect.unit (s := S2048x128) off S256x128.size h).toLoadRect X
abbrev rows3 {e : EltTy} (v : View sig .tc .vmem S1x2048x128 e) (off : Fin 3 → ℕ) (h : ∀ a, off a + S1x256x128.size a ≤ S1x2048x128.size a)
    (X : BufTy.Contents (Elt Ideal) v.ty) : S1x256x128.Idx → Elt Ideal e :=
  v.readAt (Elt Ideal) (Rect.unit (s := S1x2048x128) off S1x256x128.size h).toLoadRect X

theorem ld_rows2 (Y : S2048x128.Idx → EReal) (f : Fin 2048 → Fin 128 → ℝ) (hY : Y = up2 f) (off : Fin 2 → ℕ)
    (h : ∀ a, off a + S256x128.size a ≤ S2048x128.size a) (b : ℕ) (hoff : off = ![256 * b, 0]) :
    (fun x : S256x128.Idx => Y ((Rect.unit (s := S2048x128) off S256x128.size h).emb x)) = up2 (blk b f) := by
  subst hoff; subst hY
  have hb : 256 * b + 256 ≤ 2048 := h 0
  funext x
  show ((f _ _ : ℝ) : EReal) = ((f _ _ : ℝ) : EReal)
  have h0 : (x 0).val < 256 := (x 0).isLt
  congr 2
  · apply Fin.ext; show 256 * b + 1 * (x 0).val = (256 * b + (x 0).val) % 2048; rw [Nat.mod_eq_of_lt (by omega)]; omega
  · apply Fin.ext; show 0 + 1 * (x 1).val = (x 1).val; omega

theorem ld_rows3 (Y : S1x2048x128.Idx → EReal) (f : Fin 2048 → Fin 128 → ℝ) (hY : Y = up3 fun (_ : Fin 1) => f) (off : Fin 3 → ℕ)
    (h : ∀ a, off a + S1x256x128.size a ≤ S1x2048x128.size a) (b : ℕ) (hoff : off = ![0, 256 * b, 0]) :
    (fun x : S1x256x128.Idx => Y ((Rect.unit (s := S1x2048x128) off S1x256x128.size h).emb x)) = up3 fun (_ : Fin 1) => blk b f := by
  subst hoff; subst hY
  have hb : 256 * b + 256 ≤ 2048 := h 1
  funext x
  show ((f _ _ : ℝ) : EReal) = ((f _ _ : ℝ) : EReal)
  have h0 : (x 1).val < 256 := (x 1).isLt
  congr 2
  · apply Fin.ext; show 256 * b + 1 * (x 1).val = (256 * b + (x 1).val) % 2048; rw [Nat.mod_eq_of_lt (by omega)]; omega
  · apply Fin.ext; show 0 + 1 * (x 2).val = (x 2).val; omega

section
variable (f : Fin 2048 → Fin 128 → ℝ) (b : ℕ)

theorem rows2_f32 (v : View sig .tc .vmem S2048x128 .f32) (X) (hX : v.read (Elt Ideal) X = up2 f) (off) (h) (hoff : off = ![256 * b, 0]) :
    rows2 v off h X = up2 (blk b f) := ld_rows2 _ f hX off h b hoff
theorem rows2_bf16 (v : View sig .tc .vmem S2048x128 .bf16) (X) (hX : v.read (Elt Ideal) X = up2 f) (off) (h) (hoff : off = ![256 * b, 0]) :
    rows2 v off h X = up2 (blk b f) := ld_rows2 _ f hX off h b hoff
theorem rows3_f32 (v : View sig .tc .vmem S1x2048x128 .f32) (X) (hX : v.read (Elt Ideal) X = up3 fun (_ : Fin 1) => f) (off) (h) (hoff : off = ![0, 256 * b, 0]) :
    rows3 v off h X = up3 fun (_ : Fin 1) => blk b f := ld_rows3 _ f hX off h b hoff

/-- A stored block of rows that adds `T` to the rows it finds. -/
theorem wr_rows2 (v : View sig .tc .vmem S2048x128 .f32) (X) (L : List (View.Piece (Elt Ideal) S2048x128 .f32)) (hX : v.read (Elt Ideal) (v.writes (Elt Ideal) X L) = up2 f) (off)
    (h : ∀ a, off a + S256x128.size a ≤ S2048x128.size a) (hoff : off = ![256 * b, 0]) (T : Fin 256 → Fin 128 → ℝ) :
    v.read (Elt Ideal) (v.writes (Elt Ideal) X ((⟨Rect.unit (s := S2048x128) off S256x128.size h, up2 fun r l => blk b f r l + T r l⟩ : View.Piece (Elt Ideal) S2048x128 .f32) :: L))
      = up2 fun r l => f r l + putb b T r l := by
  funext y
  have hb : 256 * b + 256 ≤ 2048 := by have := h 0; rw [hoff] at this; exact this
  have y0 : (y 0).val < 2048 := (y 0).isLt
  have y1 : (y 1).val < 128 := (y 1).isLt
  by_cases hy : (y 0).val / 256 = b
  · refine (View.read_writes_cons_unit_of_mem v X h _ L y
      (fun a => match a with | 0 => ⟨(y 0).val % 256, Nat.mod_lt _ (by norm_num)⟩ | 1 => y 1) hoff (fun a => ?_)).trans ?_
    · match a with
      | 0 => show (y 0).val = 256 * b + (y 0).val % 256; omega
      | 1 => show (y 1).val = 0 + (y 1).val; omega
    · show ((_ : ℝ) : EReal) = ((_ : ℝ) : EReal)
      congr 1
      show blk b f ⟨(y 0).val % 256, _⟩ (y 1) + T ⟨(y 0).val % 256, _⟩ (y 1) = f (y 0) (y 1) + putb b T (y 0) (y 1)
      unfold blk putb
      rw [if_pos hy]
      congr 2
      apply Fin.ext; show (256 * b + (y 0).val % 256) % 2048 = (y 0).val; omega
  · refine (View.read_writes_cons_unit_of_not_mem v X h _ L y hoff 0 ?_).trans ?_
    · show (y 0).val < 256 * b ∨ 256 * b + 256 ≤ (y 0).val; omega
    · rw [hX]; show ((_ : ℝ) : EReal) = ((_ : ℝ) : EReal)
      congr 1
      show f (y 0) (y 1) = f (y 0) (y 1) + putb b T (y 0) (y 1)
      unfold putb; rw [if_neg hy, add_zero]

theorem wr_rows3 (v : View sig .tc .vmem S1x2048x128 .f32) (X) (L : List (View.Piece (Elt Ideal) S1x2048x128 .f32)) (hX : v.read (Elt Ideal) (v.writes (Elt Ideal) X L) = up3 fun (_ : Fin 1) => f) (off)
    (h : ∀ a, off a + S1x256x128.size a ≤ S1x2048x128.size a) (hoff : off = ![0, 256 * b, 0]) (T : Fin 256 → Fin 128 → ℝ) :
    v.read (Elt Ideal) (v.writes (Elt Ideal) X ((⟨Rect.unit (s := S1x2048x128) off S1x256x128.size h, up3 fun (_ : Fin 1) r l => blk b f r l + T r l⟩ : View.Piece (Elt Ideal) S1x2048x128 .f32) :: L))
      = up3 fun (_ : Fin 1) r l => f r l + putb b T r l := by
  funext y
  have hb : 256 * b + 256 ≤ 2048 := by have := h 1; rw [hoff] at this; exact this
  have y0 : (y 0).val < 1 := (y 0).isLt
  have y1 : (y 1).val < 2048 := (y 1).isLt
  by_cases hy : (y 1).val / 256 = b
  · refine (View.read_writes_cons_unit_of_mem v X h _ L y
      (fun a => match a with | 0 => y 0 | 1 => ⟨(y 1).val % 256, Nat.mod_lt _ (by norm_num)⟩ | 2 => y 2) hoff (fun a => ?_)).trans ?_
    · match a with
      | 0 => show (y 0).val = 0 + (y 0).val; omega
      | 1 => show (y 1).val = 256 * b + (y 1).val % 256; omega
      | 2 => show (y 2).val = 0 + (y 2).val; omega
    · show ((_ : ℝ) : EReal) = ((_ : ℝ) : EReal)
      congr 1
      show blk b f ⟨(y 1).val % 256, _⟩ (y 2) + T ⟨(y 1).val % 256, _⟩ (y 2) = f (y 1) (y 2) + putb b T (y 1) (y 2)
      unfold blk putb
      rw [if_pos hy]
      congr 2
      apply Fin.ext; show (256 * b + (y 1).val % 256) % 2048 = (y 1).val; omega
  · refine (View.read_writes_cons_unit_of_not_mem v X h _ L y hoff 1 ?_).trans ?_
    · show (y 1).val < 256 * b ∨ 256 * b + 256 ≤ (y 1).val; omega
    · rw [hX]; show ((_ : ℝ) : EReal) = ((_ : ℝ) : EReal)
      congr 1
      show f (y 1) (y 2) = f (y 1) (y 2) + putb b T (y 1) (y 2)
      unfold putb; rw [if_neg hy, add_zero]
end

/-! ## The trip count and the trips' rows -/

theorem trips_t1 (i : grid0.Coords) : (k0_t1_loop i).trips = 7 - (i 1).val := by
  have key : ∀ j : Fin 8, Scf.trips (Scalar.addi (BitVec.ofNat 32 j.val) 1#32)
    (Scalar.addi (Scalar.addi (BitVec.ofNat 32 j.val) 1#32) (Scalar.muli (Scalar.divsi (Scalar.subi 8#32 (Scalar.addi (BitVec.ofNat 32 j.val) 1#32)) 1#32) 1#32)) 1#32 = 7 - j.val := by decide +kernel
  exact key (i 1)

theorem off4_eq (i : grid0.Coords) (k : Fin (k0_t1_loop i).trips) : k0_off4 i k = ![256 * ((i 1).val + 1 + k.val), 0] := by
  have h1 : (i 1).val < 8 := (i 1).isLt
  have hk := lt_of_lt_of_eq k.isLt (trips_t1 i)
  have key : ∀ j k : Fin 8, (Scalar.indexCast (Scalar.muli (Scf.iv (Scalar.addi (BitVec.ofNat 32 j.val) 1#32) 1#32 k.val) 256#32)).toNat = 256 * (j.val + 1 + k.val) := by decide +kernel
  unfold k0_off4; dsimp only
  exact congrArg (fun n => ![n, 0]) (key (i 1) ⟨k.val, by omega⟩)
theorem off5_eq (i : grid0.Coords) (k : Fin (k0_t1_loop i).trips) : k0_off5 i k = ![0, 256 * ((i 1).val + 1 + k.val), 0] := by
  have h1 : (i 1).val < 8 := (i 1).isLt
  have hk := lt_of_lt_of_eq k.isLt (trips_t1 i)
  have key : ∀ j k : Fin 8, (Scalar.indexCast (Scalar.muli (Scf.iv (Scalar.addi (BitVec.ofNat 32 j.val) 1#32) 1#32 k.val) 256#32)).toNat = 256 * (j.val + 1 + k.val) := by decide +kernel
  unfold k0_off5; dsimp only
  exact congrArg (fun n => ![0, n, 0]) (key (i 1) ⟨k.val, by omega⟩)
theorem off2_eq (i : grid0.Coords) : k0_off2 i = ![256 * (i 1).val, 0] := by
  have key : ∀ j : Fin 8, (Scalar.indexCast (Scalar.muli (BitVec.ofNat 32 j.val) 256#32)).toNat = 256 * j.val := by decide +kernel
  unfold k0_off2; dsimp only
  exact congrArg (fun n => ![n, 0]) (key (i 1))
theorem off3_eq (i : grid0.Coords) : k0_off3 i = ![0, 256 * (i 1).val, 0] := by
  have key : ∀ j : Fin 8, (Scalar.indexCast (Scalar.muli (BitVec.ofNat 32 j.val) 256#32)).toNat = 256 * j.val := by decide +kernel
  unfold k0_off3; dsimp only
  exact congrArg (fun n => ![0, n, 0]) (key (i 1))
theorem off1_eq (i : grid0.Coords) : k0_off1 i = ![(i 1).val, 0, 0] := by
  have key : ∀ j : Fin 8, (Scalar.indexCast (BitVec.ofNat 32 j.val)).toNat = j.val := by decide +kernel
  unfold k0_off1; dsimp only
  exact congrArg (fun n => ![n, 0, 0]) (key (i 1))

/-! ## One trip -/

set_option maxHeartbeats 1000000 in
theorem trip_eq (𝒱 : Variants) (c : Dev nD) (bd : Option 𝒱.V) (i : grid0.Coords) (arg2 : Memref sig .tc .vmem S2048x128 .bf16) (harg2 : arg2.IsWhole) (arg3 : Memref sig .tc .vmem S2048x128 .f32) (harg3 : arg3.IsWhole) (arg4 : Memref sig .tc .vmem S2048x128 .bf16) (harg4 : arg4.IsWhole) (arg5 : Memref sig .tc .vmem S1x2048x128 .f32) (harg5 : arg5.IsWhole) (arg6 : Memref sig .tc .vmem S8x8x256 .f32) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2048x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x1x8x256 .f32) (harg12 : arg12.IsWhole) (arg13 : Memref sig .tc .vmem S1x2048x128 .f32) (harg13 : arg13.IsWhole) (v3 : IVec S256x128 32) (v5 : IVec S256x128 1) (v11 : FVec Ideal S256x128 .bf16) (v12 : FVec Ideal S256x128 .bf16) (v13 : Vec Ideal S256x128 .bf16) (v14 : FVec Ideal S256x128 .bf16) (v25 : FVec Ideal S1x256 .f32) (v34 : FVec Ideal S1x256 .f32) (v38 : FVec Ideal S256x128 .f32) (v39 : FVec Ideal S256x128 .f32) (v40 : FVec Ideal S1x256 .f32) (v41 : BitVec 32) (v43 : BitVec 32) (v45 : Vec Ideal S256x128 .bf16) (v56 : FVec Ideal S256x128 .bf16) (v84 : FVec Ideal S256x128 .f32) (v91 : FVec Ideal S256x128 .f32) (v93 : FVec Ideal S256x128 .f32) (v96 : FVec Ideal S256x128 .f32) (v99 : FVec Ideal S1x256 .f32) (v119 : FVec Ideal S256x256 .f32) (v123 : FVec Ideal S256x256 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin (k0_t1_loop i).trips) (c0 c1 : FVec Ideal S256x128 .f32) (c2 : FVec Ideal S1x256 .f32) (c3 c4 : FVec Ideal S256x128 .f32) (c5 : FVec Ideal S1x256 .f32) (f_arg9 : BufTy.Contents (Elt Ideal) arg9.view.ty) (f_arg13 : BufTy.Contents (Elt Ideal) arg13.view.ty)
    (h4 : ∀ a, k0_off4 i k a + S256x128.size a ≤ S2048x128.size a) (h5 : ∀ a, k0_off5 i k a + S1x256x128.size a ≤ S1x2048x128.size a) :
    tripR_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 v11 v12 v13 v14 v25 v34 v38 v39 v40 v41 v43 v45 v56 v84 v91 v93 v96 v99 v119 v123 X_arg2 X_arg3 X_arg4 X_arg5 k (c0, c1, c2, c3, c4, c5) f_arg9 f_arg13
      = (k0_pay14 c0 (rows2 arg2.view (k0_off4 i k) h4 X_arg2) (k0_pay10 v5 v11 v13 v25 (rows2 arg2.view (k0_off4 i k) h4 X_arg2) (rows2 arg3.view (k0_off4 i k) h4 X_arg3) (rows2 arg4.view (k0_off4 i k) h4 X_arg4) (rows3 arg5.view (k0_off5 i k) h5 X_arg5)), k0_pay15 c1 (k0_pay6 (rows2 arg3.view (k0_off4 i k) h4 X_arg3)) (k0_pay8 v11 v25 (rows2 arg2.view (k0_off4 i k) h4 X_arg2) (rows3 arg5.view (k0_off5 i k) h5 X_arg5)), k0_pay16 c2 (k0_pay9 v5 v11 v13 v25 (rows2 arg2.view (k0_off4 i k) h4 X_arg2) (rows2 arg3.view (k0_off4 i k) h4 X_arg3) (rows2 arg4.view (k0_off4 i k) h4 X_arg4) (rows3 arg5.view (k0_off5 i k) h5 X_arg5)),
         k0_pay81 c3 (rows2 arg2.view (k0_off4 i k) h4 X_arg2) (k0_pay19 v5 v12 v14 v34 (rows2 arg2.view (k0_off4 i k) h4 X_arg2) (k0_pay4 (rows2 arg3.view (k0_off4 i k) h4 X_arg3) (rows2 arg4.view (k0_off4 i k) h4 X_arg4)) (k0_pay5 (rows3 arg5.view (k0_off5 i k) h5 X_arg5)) (k0_pay6 (rows2 arg3.view (k0_off4 i k) h4 X_arg3))), k0_pay82 c4 (k0_pay6 (rows2 arg3.view (k0_off4 i k) h4 X_arg3)) (k0_pay17 v12 v34 (rows2 arg2.view (k0_off4 i k) h4 X_arg2) (k0_pay5 (rows3 arg5.view (k0_off5 i k) h5 X_arg5))),
         k0_pay83 c5 (k0_pay18 v5 v12 v14 v34 (rows2 arg2.view (k0_off4 i k) h4 X_arg2) (k0_pay4 (rows2 arg3.view (k0_off4 i k) h4 X_arg3) (rows2 arg4.view (k0_off4 i k) h4 X_arg4)) (k0_pay5 (rows3 arg5.view (k0_off5 i k) h5 X_arg5)) (k0_pay6 (rows2 arg3.view (k0_off4 i k) h4 X_arg3))))
    ∧ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 v11 v12 v13 v14 v25 v34 v38 v39 v40 v41 v43 v45 v56 v84 v91 v93 v96 v99 v119 v123 X_arg2 X_arg3 X_arg4 X_arg5 k (c0, c1, c2, c3, c4, c5) f_arg9 f_arg13
      = ([⟨Rect.unit (s := S2048x128) (k0_off4 i k) S256x128.size h4, k0_pay84 (k0_pay20 v5 v12 v14 v34 (rows2 arg2.view (k0_off4 i k) h4 X_arg2) (k0_pay4 (rows2 arg3.view (k0_off4 i k) h4 X_arg3) (rows2 arg4.view (k0_off4 i k) h4 X_arg4)) (k0_pay5 (rows3 arg5.view (k0_off5 i k) h5 X_arg5)) (k0_pay6 (rows2 arg3.view (k0_off4 i k) h4 X_arg3)) (k0_pay11 v5 v11 v13 v25 (rows2 arg2.view (k0_off4 i k) h4 X_arg2) (rows2 arg3.view (k0_off4 i k) h4 X_arg3) (rows2 arg4.view (k0_off4 i k) h4 X_arg4) (rows3 arg5.view (k0_off5 i k) h5 X_arg5))) (rows2 arg9.view (k0_off4 i k) h4 f_arg9)⟩],
         [⟨Rect.unit (s := S1x2048x128) (k0_off5 i k) S1x256x128.size h5, k0_pay85 (k0_pay13 v3 k0_pay7 (k0_pay9 v5 v11 v13 v25 (rows2 arg2.view (k0_off4 i k) h4 X_arg2) (rows2 arg3.view (k0_off4 i k) h4 X_arg3) (rows2 arg4.view (k0_off4 i k) h4 X_arg4) (rows3 arg5.view (k0_off5 i k) h5 X_arg5)) k0_pay12) (k0_pay21 v3) (k0_pay22 v5 v12 v14 v34 (rows2 arg2.view (k0_off4 i k) h4 X_arg2) (k0_pay4 (rows2 arg3.view (k0_off4 i k) h4 X_arg3) (rows2 arg4.view (k0_off4 i k) h4 X_arg4)) (k0_pay5 (rows3 arg5.view (k0_off5 i k) h5 X_arg5)) (k0_pay6 (rows2 arg3.view (k0_off4 i k) h4 X_arg3))) (rows3 arg13.view (k0_off5 i k) h5 f_arg13)⟩]) := by
  unfold tripR_k0_t1 tripL_k0_t1 trip_k0_t1; dsimp only; sl_unfold_words
  exact ⟨rfl, rfl⟩

section
variable (K V : Fin 256 → Fin 128 → ℝ) (C : Fin 2 → Fin 256 → ℝ) (Q D O L : Fin 2048 → Fin 128 → ℝ) (b : ℕ) (m : Fin 256 → Fin 256 → Bool) (e : Fin 2)
/-- The tile's values, for query block `b`. -/
def bP : Fin 256 → Fin 256 → ℝ := tP K C (blk b Q) (blk b L) m e
def bS : Fin 256 → Fin 256 → ℝ := tS K V C (blk b Q) (blk b D) (blk b O) (blk b L) m e
def bQ : Fin 256 → Fin 128 → ℝ := tQ K V C (blk b Q) (blk b D) (blk b O) (blk b L) m
def bR : Fin 256 → Fin 128 → ℝ := tR K V C (blk b Q) (blk b D) (blk b O) (blk b L) m
/-- Its parts of the gradients of the keys, of the values and of the column terms. -/
def bK (s : Fin 256) (l : Fin 128) : ℝ := ∑ r, bS K V C Q D O L b m e r s * blk b Q r l
def bV (s : Fin 256) (l : Fin 128) : ℝ := ∑ r, bP K C Q L b m e r s * blk b D r l
def bC (s : Fin 256) : ℝ := ∑ r, bS K V C Q D O L b m e r s
end

theorem p10v (k v : Fin 256 → Fin 128 → ℝ) (c : Fin 2 → Fin 256 → ℝ) (q d o L : Fin 256 → Fin 128 → ℝ) :
    k0_pay10 (F := Ideal) k0_pay44 (up2 (tK k 0)) (up2 (tV v 0)) (up2 fun (_ : Fin 1) s => c 0 s) (up2 q) (up2 d) (up2 o) (up3 fun (_ : Fin 1) => L) = up2 (tS k v c q d o L mAll 0) := by
  unfold k0_pay10; rw [p9]; exact up2_truncf _ _
theorem p19v (k v : Fin 256 → Fin 128 → ℝ) (c : Fin 2 → Fin 256 → ℝ) (q d o L : Fin 256 → Fin 128 → ℝ) :
    k0_pay19 (F := Ideal) k0_pay44 (up2 (tK k 1)) (up2 (tV v 1)) (up2 fun (_ : Fin 1) s => c 1 s) (up2 q) (up2 fun r l => d r l * o r l) (up2 L) (up2 d) = up2 (tS k v c q d o L mAll 1) := by
  unfold k0_pay19; rw [p18]; exact up2_truncf _ _
theorem p6v (d : Fin 256 → Fin 128 → ℝ) : k0_pay6 (F := Ideal) (up2 d) = up2 d := rfl

theorem tR_alt (k v : Fin 256 → Fin 128 → ℝ) (c : Fin 2 → Fin 256 → ℝ) (q d o L : Fin 256 → Fin 128 → ℝ) (m : Fin 256 → Fin 256 → Bool) (r : Fin 256) (l : Fin 128) :
    (if decide (l.val = 1) = true then ∑ s, tS k v c q d o L m 1 r s else if decide (l.val = 0) = true then ∑ s, tS k v c q d o L m 0 r s else 0) = tR k v c q d o L m r l := by
  unfold tR; simp only [decide_eq_true_eq]

set_option maxHeartbeats 1000000 in
theorem trip_val (𝒱 : Variants) (c : Dev nD) (bd : Option 𝒱.V) (i : grid0.Coords) (arg2 : Memref sig .tc .vmem S2048x128 .bf16) (harg2 : arg2.IsWhole) (arg3 : Memref sig .tc .vmem S2048x128 .f32) (harg3 : arg3.IsWhole) (arg4 : Memref sig .tc .vmem S2048x128 .bf16) (harg4 : arg4.IsWhole) (arg5 : Memref sig .tc .vmem S1x2048x128 .f32) (harg5 : arg5.IsWhole) (arg6 : Memref sig .tc .vmem S8x8x256 .f32) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2048x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x1x8x256 .f32) (harg12 : arg12.IsWhole) (arg13 : Memref sig .tc .vmem S1x2048x128 .f32) (harg13 : arg13.IsWhole) (v38 : FVec Ideal S256x128 .f32) (v39 : FVec Ideal S256x128 .f32) (v40 : FVec Ideal S1x256 .f32) (v41 : BitVec 32) (v43 : BitVec 32) (v45 : Vec Ideal S256x128 .bf16) (v56 : FVec Ideal S256x128 .bf16) (v84 : FVec Ideal S256x128 .f32) (v91 : FVec Ideal S256x128 .f32) (v93 : FVec Ideal S256x128 .f32) (v96 : FVec Ideal S256x128 .f32) (v99 : FVec Ideal S1x256 .f32) (v119 : FVec Ideal S256x256 .f32) (v123 : FVec Ideal S256x256 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin (k0_t1_loop i).trips) (f_arg9 : BufTy.Contents (Elt Ideal) arg9.view.ty) (f_arg13 : BufTy.Contents (Elt Ideal) arg13.view.ty) (K V : Fin 256 → Fin 128 → ℝ) (C : Fin 2 → Fin 256 → ℝ) (Q D O L B R : Fin 2048 → Fin 128 → ℝ) (a0 a1 : Fin 256 → Fin 128 → ℝ) (a2 : Fin 256 → ℝ) (a3 a4 : Fin 256 → Fin 128 → ℝ) (a5 : Fin 256 → ℝ)
    (hq : arg2.view.read (Elt Ideal) X_arg2 = up2 Q) (hd : arg3.view.read (Elt Ideal) X_arg3 = up2 D) (ho : arg4.view.read (Elt Ideal) X_arg4 = up2 O)
    (hL : arg5.view.read (Elt Ideal) X_arg5 = up3 fun (_ : Fin 1) => L)
    (h9 : arg9.view.read (Elt Ideal) f_arg9 = up2 B) (h13 : arg13.view.read (Elt Ideal) f_arg13 = up3 fun (_ : Fin 1) => R)
    (h4 : ∀ a, k0_off4 i k a + S256x128.size a ≤ S2048x128.size a) (h5 : ∀ a, k0_off5 i k a + S1x256x128.size a ≤ S1x2048x128.size a) :
    tripR_k0_t1 (F := Ideal) 𝒱 c bd i arg2 harg2 arg3 harg3 arg4 harg4 arg5 harg5 arg6 harg6 arg7 harg7 arg8 harg8 arg9 harg9 arg10 harg10 arg11 harg11 arg12 harg12 arg13 harg13 (iota .tc S256x128 32 [1] iota_S256x128_d1_w32) k0_pay44 (up2 (tK K 0)) (up2 (tK K 1)) (up2 (tV V 0)) (up2 (tV V 1)) (up2 fun (_ : Fin 1) s => C 0 s) (up2 fun (_ : Fin 1) s => C 1 s) v38 v39 v40 v41 v43 v45 v56 v84 v91 v93 v96 v99 v119 v123 X_arg2 X_arg3 X_arg4 X_arg5 k (up2 a0, up2 a1, up2 fun (_ : Fin 1) s => a2 s, up2 a3, up2 a4, up2 fun (_ : Fin 1) s => a5 s) f_arg9 f_arg13
      = (up2 fun s l => a0 s l + bK K V C Q D O L ((i 1).val + 1 + k.val) mAll 0 s l, up2 fun s l => a1 s l + bV K C Q D L ((i 1).val + 1 + k.val) mAll 0 s l, up2 fun (_ : Fin 1) s => a2 s + bC K V C Q D O L ((i 1).val + 1 + k.val) mAll 0 s,
         up2 fun s l => a3 s l + bK K V C Q D O L ((i 1).val + 1 + k.val) mAll 1 s l, up2 fun s l => a4 s l + bV K C Q D L ((i 1).val + 1 + k.val) mAll 1 s l, up2 fun (_ : Fin 1) s => a5 s + bC K V C Q D O L ((i 1).val + 1 + k.val) mAll 1 s)
    ∧ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 (iota .tc S256x128 32 [1] iota_S256x128_d1_w32) k0_pay44 (up2 (tK K 0)) (up2 (tK K 1)) (up2 (tV V 0)) (up2 (tV V 1)) (up2 fun (_ : Fin 1) s => C 0 s) (up2 fun (_ : Fin 1) s => C 1 s) v38 v39 v40 v41 v43 v45 v56 v84 v91 v93 v96 v99 v119 v123 X_arg2 X_arg3 X_arg4 X_arg5 k (up2 a0, up2 a1, up2 fun (_ : Fin 1) s => a2 s, up2 a3, up2 a4, up2 fun (_ : Fin 1) s => a5 s) f_arg9 f_arg13
      = ([⟨Rect.unit (s := S2048x128) (k0_off4 i k) S256x128.size h4, up2 fun r l => blk ((i 1).val + 1 + k.val) B r l + bQ K V C Q D O L ((i 1).val + 1 + k.val) mAll r l⟩],
         [⟨Rect.unit (s := S1x2048x128) (k0_off5 i k) S1x256x128.size h5, up3 fun (_ : Fin 1) r l => blk ((i 1).val + 1 + k.val) R r l + bR K V C Q D O L ((i 1).val + 1 + k.val) mAll r l⟩]) := by
  rw [(trip_eq (h4 := h4) (h5 := h5) ..).1,
    (trip_eq (h4 := h4) (h5 := h5) ..).2]
  rw [rows2_bf16 Q _ _ _ hq _ h4 (off4_eq i k), rows2_f32 D _ _ _ hd _ h4 (off4_eq i k), rows2_bf16 O _ _ _ ho _ h4 (off4_eq i k), rows3_f32 L _ _ _ hL _ h5 (off5_eq i k),
    rows2_f32 B _ _ _ h9 _ h4 (off4_eq i k), rows3_f32 R _ _ _ h13 _ h5 (off5_eq i k)]
  simp (proj := false) only [p4, p5, p6v, p8, p9, p10v, p11, p17, p18, p19v, p20, p22, p14, p15, p16, p81, p82, p83, p84, p13, p85, tR_alt]
  exact ⟨rfl, rfl⟩

set_option maxHeartbeats 1000000 in
/-- What the loop's carried values and the two running buffers hold before trip `N`. -/
theorem loop_val (𝒱 : Variants) (c : Dev nD) (bd : Option 𝒱.V) (i : grid0.Coords) (arg2 : Memref sig .tc .vmem S2048x128 .bf16) (harg2 : arg2.IsWhole) (arg3 : Memref sig .tc .vmem S2048x128 .f32) (harg3 : arg3.IsWhole) (arg4 : Memref sig .tc .vmem S2048x128 .bf16) (harg4 : arg4.IsWhole) (arg5 : Memref sig .tc .vmem S1x2048x128 .f32) (harg5 : arg5.IsWhole) (arg6 : Memref sig .tc .vmem S8x8x256 .f32) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2048x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x1x8x256 .f32) (harg12 : arg12.IsWhole) (arg13 : Memref sig .tc .vmem S1x2048x128 .f32) (harg13 : arg13.IsWhole) (v38 : FVec Ideal S256x128 .f32) (v39 : FVec Ideal S256x128 .f32) (v40 : FVec Ideal S1x256 .f32) (v41 : BitVec 32) (v43 : BitVec 32) (v45 : Vec Ideal S256x128 .bf16) (v56 : FVec Ideal S256x128 .bf16) (v84 : FVec Ideal S256x128 .f32) (v91 : FVec Ideal S256x128 .f32) (v93 : FVec Ideal S256x128 .f32) (v96 : FVec Ideal S256x128 .f32) (v99 : FVec Ideal S1x256 .f32) (v119 : FVec Ideal S256x256 .f32) (v123 : FVec Ideal S256x256 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (G_arg9 : BufTy.Contents (Elt Ideal) arg9.view.ty) (G_arg13 : BufTy.Contents (Elt Ideal) arg13.view.ty) (K V : Fin 256 → Fin 128 → ℝ) (C : Fin 2 → Fin 256 → ℝ) (Q D O L B R : Fin 2048 → Fin 128 → ℝ) (a0 a1 : Fin 256 → Fin 128 → ℝ) (a2 : Fin 256 → ℝ) (a3 a4 : Fin 256 → Fin 128 → ℝ) (a5 : Fin 256 → ℝ)
    (hq : arg2.view.read (Elt Ideal) X_arg2 = up2 Q) (hd : arg3.view.read (Elt Ideal) X_arg3 = up2 D) (ho : arg4.view.read (Elt Ideal) X_arg4 = up2 O)
    (hL : arg5.view.read (Elt Ideal) X_arg5 = up3 fun (_ : Fin 1) => L)
    (h9 : arg9.view.read (Elt Ideal) G_arg9 = up2 B) (h13 : arg13.view.read (Elt Ideal) G_arg13 = up3 fun (_ : Fin 1) => R) (N : ℕ) (hN : N ≤ 7 - (i 1).val) :
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 (iota .tc S256x128 32 [1] iota_S256x128_d1_w32) k0_pay44 (up2 (tK K 0)) (up2 (tK K 1)) (up2 (tV V 0)) (up2 (tV V 1)) (up2 fun (_ : Fin 1) s => C 0 s) (up2 fun (_ : Fin 1) s => C 1 s) v38 v39 v40 v41 v43 v45 v56 v84 v91 v93 v96 v99 v119 v123 X_arg2 X_arg3 X_arg4 X_arg5 G_arg9 G_arg13 (up2 a0, up2 a1, up2 fun (_ : Fin 1) s => a2 s, up2 a3, up2 a4, up2 fun (_ : Fin 1) s => a5 s) N).1
      = (up2 fun s l => a0 s l + ∑ n ∈ Finset.range N, bK K V C Q D O L ((i 1).val + 1 + n) mAll 0 s l, up2 fun s l => a1 s l + ∑ n ∈ Finset.range N, bV K C Q D L ((i 1).val + 1 + n) mAll 0 s l, up2 fun (_ : Fin 1) s => a2 s + ∑ n ∈ Finset.range N, bC K V C Q D O L ((i 1).val + 1 + n) mAll 0 s,
         up2 fun s l => a3 s l + ∑ n ∈ Finset.range N, bK K V C Q D O L ((i 1).val + 1 + n) mAll 1 s l, up2 fun s l => a4 s l + ∑ n ∈ Finset.range N, bV K C Q D L ((i 1).val + 1 + n) mAll 1 s l, up2 fun (_ : Fin 1) s => a5 s + ∑ n ∈ Finset.range N, bC K V C Q D O L ((i 1).val + 1 + n) mAll 1 s)
    ∧ arg9.view.read (Elt Ideal) (arg9.view.writes (Elt Ideal) G_arg9 (st_k0_t1 (F := Ideal) 𝒱 c bd i arg2 harg2 arg3 harg3 arg4 harg4 arg5 harg5 arg6 harg6 arg7 harg7 arg8 harg8 arg9 harg9 arg10 harg10 arg11 harg11 arg12 harg12 arg13 harg13 (iota .tc S256x128 32 [1] iota_S256x128_d1_w32) k0_pay44 (up2 (tK K 0)) (up2 (tK K 1)) (up2 (tV V 0)) (up2 (tV V 1)) (up2 fun (_ : Fin 1) s => C 0 s) (up2 fun (_ : Fin 1) s => C 1 s) v38 v39 v40 v41 v43 v45 v56 v84 v91 v93 v96 v99 v119 v123 X_arg2 X_arg3 X_arg4 X_arg5 G_arg9 G_arg13 (up2 a0, up2 a1, up2 fun (_ : Fin 1) s => a2 s, up2 a3, up2 a4, up2 fun (_ : Fin 1) s => a5 s) N).2.1) = (up2 fun r l => B r l + ∑ n ∈ Finset.range N, putb ((i 1).val + 1 + n) (bQ K V C Q D O L ((i 1).val + 1 + n) mAll) r l)
    ∧ arg13.view.read (Elt Ideal) (arg13.view.writes (Elt Ideal) G_arg13 (st_k0_t1 (F := Ideal) 𝒱 c bd i arg2 harg2 arg3 harg3 arg4 harg4 arg5 harg5 arg6 harg6 arg7 harg7 arg8 harg8 arg9 harg9 arg10 harg10 arg11 harg11 arg12 harg12 arg13 harg13 (iota .tc S256x128 32 [1] iota_S256x128_d1_w32) k0_pay44 (up2 (tK K 0)) (up2 (tK K 1)) (up2 (tV V 0)) (up2 (tV V 1)) (up2 fun (_ : Fin 1) s => C 0 s) (up2 fun (_ : Fin 1) s => C 1 s) v38 v39 v40 v41 v43 v45 v56 v84 v91 v93 v96 v99 v119 v123 X_arg2 X_arg3 X_arg4 X_arg5 G_arg9 G_arg13 (up2 a0, up2 a1, up2 fun (_ : Fin 1) s => a2 s, up2 a3, up2 a4, up2 fun (_ : Fin 1) s => a5 s) N).2.2) = up3 fun (_ : Fin 1) r l => R r l + ∑ n ∈ Finset.range N, putb ((i 1).val + 1 + n) (bR K V C Q D O L ((i 1).val + 1 + n) mAll) r l := by
  induction N with
  | zero =>
    simp (proj := false) only [Finset.range_zero, Finset.sum_empty, add_zero]
    exact ⟨rfl, h9, h13⟩
  | succ N ih =>
    obtain ⟨ih1, ih2, ih3⟩ := ih (by omega)
    have hk : N < (k0_t1_loop i).trips := by rw [trips_t1]; omega
    have h4 : ∀ a, k0_off4 i ⟨N, hk⟩ a + S256x128.size a ≤ S2048x128.size a := by
      rw [off4_eq]; intro a
      match a with
      | 0 => show 256 * ((i 1).val + 1 + N) + 256 ≤ 2048; omega
      | 1 => show 0 + 128 ≤ 128; omega
    have h5 : ∀ a, k0_off5 i ⟨N, hk⟩ a + S1x256x128.size a ≤ S1x2048x128.size a := by
      rw [off5_eq]; intro a
      match a with
      | 0 => show 0 + 1 ≤ 1; omega
      | 1 => show 256 * ((i 1).val + 1 + N) + 256 ≤ 2048; omega
      | 2 => show 0 + 128 ≤ 128; omega
    rw [st_k0_t1_succ (k := ⟨N, hk⟩)]
    rw [ih1]
    rw [(trip_val (hq := hq) (hd := hd) (ho := ho) (hL := hL) (h9 := ih2) (h13 := ih3) (h4 := h4) (h5 := h5) ..).1,
      (trip_val (hq := hq) (hd := hd) (ho := ho) (hL := hL) (h9 := ih2) (h13 := ih3) (h4 := h4) (h5 := h5) ..).2]
    refine ⟨?_, ?_, ?_⟩
    · simp (proj := false) only [Finset.sum_range_succ, add_assoc]
    · refine (wr_rows2 _ _ _ _ _ ih2 _ h4 (off4_eq i _) _).trans ?_
      simp (proj := false) only [Finset.sum_range_succ, add_assoc]
    · refine (wr_rows3 _ _ _ _ _ ih3 _ h5 (off5_eq i _) _).trans ?_
      simp (proj := false) only [Finset.sum_range_succ, add_assoc]

end Cert.KernelIdeal.Hand

end
-- ==== Proof.Form.lean ====
/- What one run of the body leaves in its output buffers, written out: the stores onto the two buffers that stay in place, in
   terms of the values of the diagonal tile and of the loop over the tiles below it. -/
module

public import proofs.«01_k».proof.Proof.RunA
public import proofs.«01_k».proof.Proof.RunB
public import proofs.«01_k».proof.Proof.Trip

@[expose] public section

set_option maxRecDepth 16384

noncomputable section

namespace Cert.KernelIdeal.Hand

open Idealize.ShloMosaic Idealize.ShloMosaic.TcCoe Idealize.ShloMosaic.Tactic
open Cert.KernelIdeal.Gen

/-- A whole block load of the keys or values, and the load of one chunk's column terms. -/
abbrev whole2 (v : View sig .tc .vmem S256x128 .bf16) (X : BufTy.Contents (Elt Ideal) v.ty) : Vec Ideal S256x128 .bf16 :=
  v.readAt (Elt Ideal) (Rect.unit (s := S256x128) ![0, 0] S256x128.size inb_S256x128_S256x128_0_0).toLoadRect X
abbrev chunk3 (v : View sig .tc .vmem S8x8x256 .f32) (off : Fin 3 → ℕ) (h : ∀ a, off a + S1x8x256.size a ≤ S8x8x256.size a) (X : BufTy.Contents (Elt Ideal) v.ty) : Vec Ideal S1x8x256 .f32 :=
  v.readAt (Elt Ideal) (Rect.unit (s := S8x8x256) off S1x8x256.size h).toLoadRect X

set_option maxHeartbeats 2000000 in
theorem formB (c : Dev nD) (i : grid0.Coords) (arg2 : Memref sig .tc .vmem S2048x128 .bf16) (harg2 : arg2.IsWhole) (arg3 : Memref sig .tc .vmem S2048x128 .f32) (harg3 : arg3.IsWhole) (arg4 : Memref sig .tc .vmem S2048x128 .bf16) (harg4 : arg4.IsWhole) (arg5 : Memref sig .tc .vmem S1x2048x128 .f32) (harg5 : arg5.IsWhole) (arg6 : Memref sig .tc .vmem S8x8x256 .f32) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2048x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x1x8x256 .f32) (harg12 : arg12.IsWhole) (arg13 : Memref sig .tc .vmem S1x2048x128 .f32) (harg13 : arg13.IsWhole) (hc0 : ¬ cond0_0 i)
    (x0 : Vec Ideal S2048x128 .bf16) (x1 : Vec Ideal S2048x128 .f32) (x2 : Vec Ideal S2048x128 .bf16) (x3 : Vec Ideal S1x2048x128 .f32) (x4 : Vec Ideal S8x8x256 .f32) (x5 : Vec Ideal S256x128 .bf16) (x6 : Vec Ideal S256x128 .bf16)
    (d7 : Vec Ideal S2048x128 .f32) (d8 : Vec Ideal S256x128 .f32) (d9 : Vec Ideal S256x128 .f32) (d10 : Vec Ideal S1x1x8x256 .f32) (d11 : Vec Ideal S1x2048x128 .f32)
    (h1 : ∀ a, k0_off1 i a + S1x8x256.size a ≤ S8x8x256.size a) (h2 : ∀ a, k0_off2 i a + S256x128.size a ≤ S2048x128.size a) (h3 : ∀ a, k0_off3 i a + S1x256x128.size a ≤ S1x2048x128.size a)
    (v11 : FVec Ideal S256x128 .bf16) (hv11 : k0_pay47 (whole2 arg7.view (harg7.unread x5)) = v11) (v12 : FVec Ideal S256x128 .bf16) (hv12 : k0_pay48 (whole2 arg7.view (harg7.unread x5)) = v12) (v13 : Vec Ideal S256x128 .bf16) (hv13 : k0_pay49 (whole2 arg8.view (harg8.unread x6)) = v13) (v14 : FVec Ideal S256x128 .bf16) (hv14 : k0_pay50 (whole2 arg8.view (harg8.unread x6)) = v14) (v25 : FVec Ideal S1x256 .f32) (hv25 : k0_pay52 i (chunk3 arg6.view (k0_off1 i) h1 (harg6.unread x4)) = v25) (v34 : FVec Ideal S1x256 .f32) (hv34 : k0_pay53 i (chunk3 arg6.view (k0_off1 i) h1 (harg6.unread x4)) = v34) (v45 : Vec Ideal S256x128 .bf16) (hv45 : rows2 arg2.view (k0_off2 i) h2 (harg2.unread x0) = v45) (v47 : Vec Ideal S256x128 .f32) (hv47 : rows2 arg3.view (k0_off2 i) h2 (harg3.unread x1) = v47) (v49 : Vec Ideal S256x128 .bf16) (hv49 : rows2 arg4.view (k0_off2 i) h2 (harg4.unread x2) = v49) (v54 : Vec Ideal S1x256x128 .f32) (hv54 : rows3 arg5.view (k0_off3 i) h3 (harg5.unread x3) = v54) (v62 : FVec Ideal S256x1 .f32) (hv62 : k0_pay63 k0_pay44 v47 v49 = v62) (v77 : FVec Ideal S256x256 .f32) (hv77 : k0_pay64 v11 v25 k0_pay54 v45 v54 = v77) (v78 : FVec Ideal S256x256 .f32) (hv78 : k0_pay65 v13 v47 = v78) (v84 : FVec Ideal S256x128 .f32) (hv84 : k0_pay68 v11 k0_pay61 v62 v77 v78 = v84) (v91 : FVec Ideal S256x128 .f32) (hv91 : k0_pay69 (iota .tc S256x128 32 [1] iota_S256x128_d1_w32) k0_pay62 v62 v77 v78 = v91) (v93 : FVec Ideal S256x128 .f32) (hv93 : k0_pay70 (k0_pay55 (Scalar.ofBits .f32 0x00000000#32)) v45 v62 v77 v78 = v93) (v96 : FVec Ideal S256x128 .f32) (hv96 : k0_pay71 k0_pay56 (k0_pay60 v47) v77 = v96) (v99 : FVec Ideal S1x256 .f32) (hv99 : k0_pay72 k0_pay57 v62 v77 v78 = v99) (v119 : FVec Ideal S256x256 .f32) (hv119 : k0_pay73 v12 v34 k0_pay54 v45 (k0_pay59 v54) = v119) (v123 : FVec Ideal S256x256 .f32) (hv123 : k0_pay74 k0_pay44 v12 v14 v34 k0_pay54 v45 (k0_pay58 v47 v49) (k0_pay59 v54) (k0_pay60 v47) = v123) (v135 : FVec Ideal S256x128 .f32) (hv135 : k0_pay76 (k0_pay55 (Scalar.ofBits .f32 0x00000000#32)) v45 v123 = v135) (v138 : FVec Ideal S256x128 .f32) (hv138 : k0_pay77 k0_pay56 (k0_pay60 v47) v119 = v138) (v141 : FVec Ideal S1x256 .f32) (hv141 : k0_pay78 k0_pay57 v123 = v141) (v148 : FVec Ideal S256x128 .f32) (hv148 : k0_pay79 v12 v84 v123 (rows2 arg9.view (k0_off2 i) h2 (harg9.unread d7)) = v148) (v156 : FVec Ideal S1x256x128 .f32) (hv156 : k0_pay80 (iota .tc S256x128 32 [1] iota_S256x128_d1_w32) v91 v123 (rows3 arg13.view (k0_off3 i) h3 (harg13.unread d11)) = v156) :
    ∃ (b10 : BufTy.Contents (Elt Ideal) arg10.view.ty) (b11 : BufTy.Contents (Elt Ideal) arg11.view.ty) (b12 : BufTy.Contents (Elt Ideal) arg12.view.ty),
      ∀ st1 st2, st1 = st_k0_t1 (F := Ideal) Variants.none c none i arg2 harg2 arg3 harg3 arg4 harg4 arg5 harg5 arg6 harg6 arg7 harg7 arg8 harg8 arg9 harg9 arg10 harg10 arg11 harg11 arg12 harg12 arg13 harg13 (iota .tc S256x128 32 [1] iota_S256x128_d1_w32) k0_pay44 v11 v12 v13 v14 v25 v34 (k0_pay55 (Scalar.ofBits .f32 0x00000000#32)) k0_pay56 k0_pay57 (Scalar.addi (BitVec.ofNat 32 (i 1).val) 1#32) (Scalar.muli (BitVec.ofNat 32 (i 1).val) 256#32) v45 (k0_pay60 v47) v84 v91 v93 v96 v99 v119 v123 (harg2.unread x0) (harg3.unread x1) (harg4.unread x2) (harg5.unread x3) (arg9.view.writes (Elt Ideal) (harg9.unread d7) [⟨Rect.unit (s := S2048x128) (k0_off2 i) S256x128.size h2, v148⟩]) (arg13.view.writes (Elt Ideal) (harg13.unread d11) [⟨Rect.unit (s := S1x2048x128) (k0_off3 i) S1x256x128.size h3, v156⟩]) (v93, v96, v99, v135, v138, v141) (Scf.trips (k0_t1_loop i).lb (k0_t1_loop i).ub (k0_t1_loop i).st) →
        st2 = st_k0_t2 (F := Ideal) Variants.none c none i arg2 harg2 arg3 harg3 arg4 harg4 arg5 harg5 arg6 harg6 arg7 harg7 arg8 harg8 arg9 harg9 arg10 harg10 arg11 harg11 arg12 harg12 arg13 harg13 (iota .tc S256x128 32 [1] iota_S256x128_d1_w32) k0_pay44 v11 v12 v13 v14 v25 v34 (k0_pay55 (Scalar.ofBits .f32 0x00000000#32)) k0_pay56 k0_pay57 (Scalar.addi (BitVec.ofNat 32 (i 1).val) 1#32) (Scalar.muli (BitVec.ofNat 32 (i 1).val) 256#32) v45 (k0_pay60 v47) v84 v91 v93 v96 v99 v119 v123 (Scalar.addi (Scalar.addi (BitVec.ofNat 32 (i 1).val) 1#32) (Scalar.muli (Scalar.divsi (Scalar.subi 8#32 (Scalar.addi (BitVec.ofNat 32 (i 1).val) 1#32)) 1#32) 1#32)) (harg2.unread x0) (harg3.unread x1) (harg4.unread x2) (harg5.unread x3) (arg9.view.writes (Elt Ideal) (harg9.unread d7) (st1.2.1 ++ [⟨Rect.unit (s := S2048x128) (k0_off2 i) S256x128.size h2, v148⟩])) (arg13.view.writes (Elt Ideal) (harg13.unread d11) (st1.2.2 ++ [⟨Rect.unit (s := S1x2048x128) (k0_off3 i) S1x256x128.size h3, v156⟩])) st1.1 (Scf.trips (k0_t2_loop i).lb (k0_t2_loop i).ub (k0_t2_loop i).st) →
      (runB (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 d7 d8 d9 d10 d11).1 = arg9.view.read (Elt Ideal) (arg9.view.writes (Elt Ideal) (harg9.unread d7) (st2.2.1 ++ (st1.2.1 ++ [⟨Rect.unit (s := S2048x128) (k0_off2 i) S256x128.size h2, v148⟩])))
      ∧ (runB (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 d7 d8 d9 d10 d11).2.1 = arg10.view.read (Elt Ideal) (arg10.view.writes (Elt Ideal) b10 [⟨Rect.unit (s := S256x128) ![0, 0] S256x128.size inb_S256x128_S256x128_0_0, k0_pay1 (k0_pay91 k0_pay44 st2.1.1 st2.1.2.2.2.1) (Scalar.ofBits .f32 0x3E000000#32)⟩])
      ∧ (runB (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 d7 d8 d9 d10 d11).2.2.1 = arg11.view.read (Elt Ideal) (arg11.view.writes (Elt Ideal) b11 [⟨Rect.unit (s := S256x128) ![0, 0] S256x128.size inb_S256x128_S256x128_0_0, k0_pay2 k0_pay44 st2.1.2.1 st2.1.2.2.2.2.1⟩])
      ∧ (runB (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 d7 d8 d9 d10 d11).2.2.2.1 = arg12.view.read (Elt Ideal) (arg12.view.writes (Elt Ideal) b12 [⟨Rect.unit (s := S1x1x8x256) ![0, 0, 0, 0] S1x1x8x256.size inb_S1x1x8x256_S1x1x8x256_0_0_0_0, k0_pay3 st2.1.2.2.1 st2.1.2.2.2.2.2⟩])
      ∧ (runB (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 d7 d8 d9 d10 d11).2.2.2.2.1 = arg13.view.read (Elt Ideal) (arg13.view.writes (Elt Ideal) (harg13.unread d11) (st2.2.2 ++ (st1.2.2 ++ [⟨Rect.unit (s := S1x2048x128) (k0_off3 i) S1x256x128.size h3, v156⟩]))) := by
  refine ⟨harg10.unread d8, harg11.unread d9, harg12.unread d10, ?_⟩
  · intro st1 st2 h1 h2
    subst h2; subst h1
    subst hv11
    subst hv12
    subst hv13
    subst hv14
    subst hv25
    subst hv34
    subst hv45
    subst hv47
    subst hv49
    subst hv54
    subst hv62
    subst hv77
    subst hv78
    subst hv84
    subst hv91
    subst hv93
    subst hv96
    subst hv99
    subst hv119
    subst hv123
    subst hv135
    subst hv138
    subst hv141
    subst hv148
    subst hv156
    unfold runB; dsimp only; sl_unfold_words
    refine ⟨rfl, by congr 4, by congr 4, by congr 4, rfl⟩

set_option maxHeartbeats 2000000 in
theorem formA (c : Dev nD) (i : grid0.Coords) (arg2 : Memref sig .tc .vmem S2048x128 .bf16) (harg2 : arg2.IsWhole) (arg3 : Memref sig .tc .vmem S2048x128 .f32) (harg3 : arg3.IsWhole) (arg4 : Memref sig .tc .vmem S2048x128 .bf16) (harg4 : arg4.IsWhole) (arg5 : Memref sig .tc .vmem S1x2048x128 .f32) (harg5 : arg5.IsWhole) (arg6 : Memref sig .tc .vmem S8x8x256 .f32) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2048x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x1x8x256 .f32) (harg12 : arg12.IsWhole) (arg13 : Memref sig .tc .vmem S1x2048x128 .f32) (harg13 : arg13.IsWhole) (hc0 : cond0_0 i)
    (x0 : Vec Ideal S2048x128 .bf16) (x1 : Vec Ideal S2048x128 .f32) (x2 : Vec Ideal S2048x128 .bf16) (x3 : Vec Ideal S1x2048x128 .f32) (x4 : Vec Ideal S8x8x256 .f32) (x5 : Vec Ideal S256x128 .bf16) (x6 : Vec Ideal S256x128 .bf16)
    (d7 : Vec Ideal S2048x128 .f32) (d8 : Vec Ideal S256x128 .f32) (d9 : Vec Ideal S256x128 .f32) (d10 : Vec Ideal S1x1x8x256 .f32) (d11 : Vec Ideal S1x2048x128 .f32)
    (h1 : ∀ a, k0_off1 i a + S1x8x256.size a ≤ S8x8x256.size a) (h2 : ∀ a, k0_off2 i a + S256x128.size a ≤ S2048x128.size a) (h3 : ∀ a, k0_off3 i a + S1x256x128.size a ≤ S1x2048x128.size a)
    (v11 : FVec Ideal S256x128 .bf16) (hv11 : k0_pay47 (whole2 arg7.view (harg7.unread x5)) = v11) (v12 : FVec Ideal S256x128 .bf16) (hv12 : k0_pay48 (whole2 arg7.view (harg7.unread x5)) = v12) (v13 : Vec Ideal S256x128 .bf16) (hv13 : k0_pay49 (whole2 arg8.view (harg8.unread x6)) = v13) (v14 : FVec Ideal S256x128 .bf16) (hv14 : k0_pay50 (whole2 arg8.view (harg8.unread x6)) = v14) (v25 : FVec Ideal S1x256 .f32) (hv25 : k0_pay52 i (chunk3 arg6.view (k0_off1 i) h1 (harg6.unread x4)) = v25) (v34 : FVec Ideal S1x256 .f32) (hv34 : k0_pay53 i (chunk3 arg6.view (k0_off1 i) h1 (harg6.unread x4)) = v34) (v45 : Vec Ideal S256x128 .bf16) (hv45 : rows2 arg2.view (k0_off2 i) h2 (harg2.unread x0) = v45) (v47 : Vec Ideal S256x128 .f32) (hv47 : rows2 arg3.view (k0_off2 i) h2 (harg3.unread x1) = v47) (v49 : Vec Ideal S256x128 .bf16) (hv49 : rows2 arg4.view (k0_off2 i) h2 (harg4.unread x2) = v49) (v54 : Vec Ideal S1x256x128 .f32) (hv54 : rows3 arg5.view (k0_off3 i) h3 (harg5.unread x3) = v54) (v62 : FVec Ideal S256x1 .f32) (hv62 : k0_pay63 k0_pay44 v47 v49 = v62) (v77 : FVec Ideal S256x256 .f32) (hv77 : k0_pay64 v11 v25 k0_pay54 v45 v54 = v77) (v78 : FVec Ideal S256x256 .f32) (hv78 : k0_pay65 v13 v47 = v78) (v84 : FVec Ideal S256x128 .f32) (hv84 : k0_pay68 v11 k0_pay61 v62 v77 v78 = v84) (v91 : FVec Ideal S256x128 .f32) (hv91 : k0_pay69 (iota .tc S256x128 32 [1] iota_S256x128_d1_w32) k0_pay62 v62 v77 v78 = v91) (v93 : FVec Ideal S256x128 .f32) (hv93 : k0_pay70 (k0_pay55 (Scalar.ofBits .f32 0x00000000#32)) v45 v62 v77 v78 = v93) (v96 : FVec Ideal S256x128 .f32) (hv96 : k0_pay71 k0_pay56 (k0_pay60 v47) v77 = v96) (v99 : FVec Ideal S1x256 .f32) (hv99 : k0_pay72 k0_pay57 v62 v77 v78 = v99) (v119 : FVec Ideal S256x256 .f32) (hv119 : k0_pay73 v12 v34 k0_pay54 v45 (k0_pay59 v54) = v119) (v123 : FVec Ideal S256x256 .f32) (hv123 : k0_pay74 k0_pay44 v12 v14 v34 k0_pay54 v45 (k0_pay58 v47 v49) (k0_pay59 v54) (k0_pay60 v47) = v123) (v135 : FVec Ideal S256x128 .f32) (hv135 : k0_pay76 (k0_pay55 (Scalar.ofBits .f32 0x00000000#32)) v45 v123 = v135) (v138 : FVec Ideal S256x128 .f32) (hv138 : k0_pay77 k0_pay56 (k0_pay60 v47) v119 = v138) (v141 : FVec Ideal S1x256 .f32) (hv141 : k0_pay78 k0_pay57 v123 = v141) (v148 : FVec Ideal S256x128 .f32) (hv148 : k0_pay79 v12 v84 v123 (rows2 arg9.view (k0_off2 i) h2 (arg9.view.writes (Elt Ideal) arg9.view.junk [⟨Rect.unit (s := S2048x128) ![0, 0] S2048x128.size inb_S2048x128_S2048x128_0_0, k0_pay42 (F := Ideal)⟩])) = v148) (v156 : FVec Ideal S1x256x128 .f32) (hv156 : k0_pay80 (iota .tc S256x128 32 [1] iota_S256x128_d1_w32) v91 v123 (rows3 arg13.view (k0_off3 i) h3 (arg13.view.writes (Elt Ideal) arg13.view.junk [⟨Rect.unit (s := S1x2048x128) ![0, 0, 0] S1x2048x128.size inb_S1x2048x128_S1x2048x128_0_0_0, k0_pay43 (F := Ideal)⟩])) = v156) :
    ∃ (b10 : BufTy.Contents (Elt Ideal) arg10.view.ty) (b11 : BufTy.Contents (Elt Ideal) arg11.view.ty) (b12 : BufTy.Contents (Elt Ideal) arg12.view.ty),
      ∀ st1 st2, st1 = st_k0_t1 (F := Ideal) Variants.none c none i arg2 harg2 arg3 harg3 arg4 harg4 arg5 harg5 arg6 harg6 arg7 harg7 arg8 harg8 arg9 harg9 arg10 harg10 arg11 harg11 arg12 harg12 arg13 harg13 (iota .tc S256x128 32 [1] iota_S256x128_d1_w32) k0_pay44 v11 v12 v13 v14 v25 v34 (k0_pay55 (Scalar.ofBits .f32 0x00000000#32)) k0_pay56 k0_pay57 (Scalar.addi (BitVec.ofNat 32 (i 1).val) 1#32) (Scalar.muli (BitVec.ofNat 32 (i 1).val) 256#32) v45 (k0_pay60 v47) v84 v91 v93 v96 v99 v119 v123 (harg2.unread x0) (harg3.unread x1) (harg4.unread x2) (harg5.unread x3) (arg9.view.writes (Elt Ideal) arg9.view.junk [⟨Rect.unit (s := S2048x128) (k0_off2 i) S256x128.size h2, v148⟩, ⟨Rect.unit (s := S2048x128) ![0, 0] S2048x128.size inb_S2048x128_S2048x128_0_0, k0_pay42 (F := Ideal)⟩]) (arg13.view.writes (Elt Ideal) arg13.view.junk [⟨Rect.unit (s := S1x2048x128) (k0_off3 i) S1x256x128.size h3, v156⟩, ⟨Rect.unit (s := S1x2048x128) ![0, 0, 0] S1x2048x128.size inb_S1x2048x128_S1x2048x128_0_0_0, k0_pay43 (F := Ideal)⟩]) (v93, v96, v99, v135, v138, v141) (Scf.trips (k0_t1_loop i).lb (k0_t1_loop i).ub (k0_t1_loop i).st) →
        st2 = st_k0_t2 (F := Ideal) Variants.none c none i arg2 harg2 arg3 harg3 arg4 harg4 arg5 harg5 arg6 harg6 arg7 harg7 arg8 harg8 arg9 harg9 arg10 harg10 arg11 harg11 arg12 harg12 arg13 harg13 (iota .tc S256x128 32 [1] iota_S256x128_d1_w32) k0_pay44 v11 v12 v13 v14 v25 v34 (k0_pay55 (Scalar.ofBits .f32 0x00000000#32)) k0_pay56 k0_pay57 (Scalar.addi (BitVec.ofNat 32 (i 1).val) 1#32) (Scalar.muli (BitVec.ofNat 32 (i 1).val) 256#32) v45 (k0_pay60 v47) v84 v91 v93 v96 v99 v119 v123 (Scalar.addi (Scalar.addi (BitVec.ofNat 32 (i 1).val) 1#32) (Scalar.muli (Scalar.divsi (Scalar.subi 8#32 (Scalar.addi (BitVec.ofNat 32 (i 1).val) 1#32)) 1#32) 1#32)) (harg2.unread x0) (harg3.unread x1) (harg4.unread x2) (harg5.unread x3) (arg9.view.writes (Elt Ideal) arg9.view.junk (st1.2.1 ++ [⟨Rect.unit (s := S2048x128) (k0_off2 i) S256x128.size h2, v148⟩, ⟨Rect.unit (s := S2048x128) ![0, 0] S2048x128.size inb_S2048x128_S2048x128_0_0, k0_pay42 (F := Ideal)⟩])) (arg13.view.writes (Elt Ideal) arg13.view.junk (st1.2.2 ++ [⟨Rect.unit (s := S1x2048x128) (k0_off3 i) S1x256x128.size h3, v156⟩, ⟨Rect.unit (s := S1x2048x128) ![0, 0, 0] S1x2048x128.size inb_S1x2048x128_S1x2048x128_0_0_0, k0_pay43 (F := Ideal)⟩])) st1.1 (Scf.trips (k0_t2_loop i).lb (k0_t2_loop i).ub (k0_t2_loop i).st) →
      (runA (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 d7 d8 d9 d10 d11).1 = arg9.view.read (Elt Ideal) (arg9.view.writes (Elt Ideal) arg9.view.junk (st2.2.1 ++ (st1.2.1 ++ [⟨Rect.unit (s := S2048x128) (k0_off2 i) S256x128.size h2, v148⟩, ⟨Rect.unit (s := S2048x128) ![0, 0] S2048x128.size inb_S2048x128_S2048x128_0_0, k0_pay42 (F := Ideal)⟩])))
      ∧ (runA (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 d7 d8 d9 d10 d11).2.1 = arg10.view.read (Elt Ideal) (arg10.view.writes (Elt Ideal) b10 [⟨Rect.unit (s := S256x128) ![0, 0] S256x128.size inb_S256x128_S256x128_0_0, k0_pay1 (k0_pay91 k0_pay44 st2.1.1 st2.1.2.2.2.1) (Scalar.ofBits .f32 0x3E000000#32)⟩])
      ∧ (runA (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 d7 d8 d9 d10 d11).2.2.1 = arg11.view.read (Elt Ideal) (arg11.view.writes (Elt Ideal) b11 [⟨Rect.unit (s := S256x128) ![0, 0] S256x128.size inb_S256x128_S256x128_0_0, k0_pay2 k0_pay44 st2.1.2.1 st2.1.2.2.2.2.1⟩])
      ∧ (runA (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 d7 d8 d9 d10 d11).2.2.2.1 = arg12.view.read (Elt Ideal) (arg12.view.writes (Elt Ideal) b12 [⟨Rect.unit (s := S1x1x8x256) ![0, 0, 0, 0] S1x1x8x256.size inb_S1x1x8x256_S1x1x8x256_0_0_0_0, k0_pay3 st2.1.2.2.1 st2.1.2.2.2.2.2⟩])
      ∧ (runA (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 d7 d8 d9 d10 d11).2.2.2.2.1 = arg13.view.read (Elt Ideal) (arg13.view.writes (Elt Ideal) arg13.view.junk (st2.2.2 ++ (st1.2.2 ++ [⟨Rect.unit (s := S1x2048x128) (k0_off3 i) S1x256x128.size h3, v156⟩, ⟨Rect.unit (s := S1x2048x128) ![0, 0, 0] S1x2048x128.size inb_S1x2048x128_S1x2048x128_0_0_0, k0_pay43 (F := Ideal)⟩]))) := by
  refine ⟨harg10.unread d8, harg11.unread d9, harg12.unread d10, ?_⟩
  · intro st1 st2 h1 h2
    subst h2; subst h1
    subst hv11
    subst hv12
    subst hv13
    subst hv14
    subst hv25
    subst hv34
    subst hv45
    subst hv47
    subst hv49
    subst hv54
    subst hv62
    subst hv77
    subst hv78
    subst hv84
    subst hv91
    subst hv93
    subst hv96
    subst hv99
    subst hv119
    subst hv123
    subst hv135
    subst hv138
    subst hv141
    subst hv148
    subst hv156
    unfold runA; dsimp only; sl_unfold_words
    refine ⟨rfl, by congr 4, by congr 4, by congr 4, rfl⟩

end Cert.KernelIdeal.Hand

end
-- ==== Proof.Tail.lean ====
/- What one run of the body adds to the gradients, over the reals: for its pair of heads and its chunk of keys, the diagonal tile's
   parts and those of every later block of queries. -/
module

public import proofs.«01_k».proof.Proof.Form
public import Idealize.ShloMosaic.Lib.VecWindow

@[expose] public section

set_option maxRecDepth 16384
set_option backward.isDefEq.respectTransparency false

noncomputable section

namespace Cert.KernelIdeal.Hand

open Idealize.ShloMosaic Idealize.ShloMosaic.TcCoe Idealize.ShloMosaic.Tactic
open Cert.KernelIdeal.Gen

section
variable (K V : Fin 256 → Fin 128 → ℝ) (C : Fin 2 → Fin 256 → ℝ) (Q D O L : Fin 2048 → Fin 128 → ℝ) (j : ℕ) (e : Fin 2)
/-- Chunk `j`'s parts: of the queries' gradient and the row sums, on every row; then its keys', values' and column terms' gradients. -/
def cQ (r : Fin 2048) (l : Fin 128) : ℝ := putb j (bQ K V C Q D O L j mTri) r l + ∑ n ∈ Finset.range (7 - j), putb (j + 1 + n) (bQ K V C Q D O L (j + 1 + n) mAll) r l
def cR (r : Fin 2048) (l : Fin 128) : ℝ := putb j (bR K V C Q D O L j mTri) r l + ∑ n ∈ Finset.range (7 - j), putb (j + 1 + n) (bR K V C Q D O L (j + 1 + n) mAll) r l
def cK (s : Fin 256) (l : Fin 128) : ℝ := bK K V C Q D O L j mTri e s l + ∑ n ∈ Finset.range (7 - j), bK K V C Q D O L (j + 1 + n) mAll e s l
def cV (s : Fin 256) (l : Fin 128) : ℝ := bV K C Q D L j mTri e s l + ∑ n ∈ Finset.range (7 - j), bV K C Q D L (j + 1 + n) mAll e s l
def cC (s : Fin 256) : ℝ := bC K V C Q D O L j mTri e s + ∑ n ∈ Finset.range (7 - j), bC K V C Q D O L (j + 1 + n) mAll e s
end

theorem trips_t2 (i : grid0.Coords) : Scf.trips (k0_t2_loop i).lb (k0_t2_loop i).ub (k0_t2_loop i).st = 0 := by
  have key : ∀ j : Fin 8, Scf.trips (Scalar.addi (Scalar.addi (BitVec.ofNat 32 j.val) 1#32) (Scalar.muli (Scalar.divsi (Scalar.subi 8#32 (Scalar.addi (BitVec.ofNat 32 j.val) 1#32)) 1#32) 1#32))
    (Scalar.addi (Scalar.addi (BitVec.ofNat 32 j.val) 1#32) (Scalar.subi 8#32 (Scalar.addi (BitVec.ofNat 32 j.val) 1#32))) 1#32 = 0 := by decide +kernel
  exact key (i 1)
theorem trips_t1' (i : grid0.Coords) : Scf.trips (k0_t1_loop i).lb (k0_t1_loop i).ub (k0_t1_loop i).st = 7 - (i 1).val := trips_t1 i

theorem p59v (f : Fin 256 → Fin 128 → ℝ) : k0_pay59 (F := Ideal) (up3 fun (_ : Fin 1) => f) = up2 f := by
  unfold k0_pay59; simp (proj := false) only [sc_32]
theorem p60v (f : Fin 256 → Fin 128 → ℝ) : k0_pay60 (F := Ideal) (up2 f) = up2 f := rfl

/-- The pair's two heads' column terms at the chunk's keys. -/
def colOf (i : grid0.Coords) (CT : Fin 8 → Fin 8 → Fin 256 → ℝ) : Fin 2 → Fin 256 → ℝ :=
  fun e s => CT (i 1) ⟨2 * (i 0).val + e.val, by have h := (i 0).isLt; change (i 0).val < 4 at h; omega⟩ s
/-- The chunk's column terms, as its load reads them. -/
theorem chunk3_val (i : grid0.Coords) (CT : Fin 8 → Fin 8 → Fin 256 → ℝ) (v : View sig .tc .vmem S8x8x256 .f32) (X : BufTy.Contents (Elt Ideal) v.ty) (hX : v.read (Elt Ideal) X = up3 CT)
    (h : ∀ a, k0_off1 i a + S1x8x256.size a ≤ S8x8x256.size a) : chunk3 v (k0_off1 i) h X = up3 fun (_ : Fin 1) h s => CT (i 1) h s := by
  have hj : (i 1).val < 8 := (i 1).isLt
  have key : ∀ (Y : S8x8x256.Idx → EReal) (_ : Y = up3 CT) (off : Fin 3 → ℕ) (h : ∀ a, off a + S1x8x256.size a ≤ S8x8x256.size a) (_ : off = ![(i 1).val, 0, 0]),
      (fun x : S1x8x256.Idx => Y ((Rect.unit (s := S8x8x256) off S1x8x256.size h).emb x)) = up3 fun (_ : Fin 1) h s => CT (i 1) h s := by
    intro Y hY off h hoff; subst hoff; subst hY
    funext x
    show ((CT _ _ _ : ℝ) : EReal) = ((CT _ _ _ : ℝ) : EReal)
    have h0 : (x 0).val < 1 := (x 0).isLt
    congr 2
    · apply Fin.ext; show (i 1).val + 1 * (x 0).val = (i 1).val; omega
    · apply Fin.ext; show 0 + 1 * (x 1).val = (x 1).val; omega
    · apply Fin.ext; show 0 + 1 * (x 2).val = (x 2).val; omega
  exact key _ hX _ h (off1_eq i)

set_option maxHeartbeats 1000000 in
/-- After the diagonal tile's stores, the loop over the later blocks brings the running sums to the chunk's totals. -/
theorem tail_val (c : Dev nD) (i : grid0.Coords) (arg2 : Memref sig .tc .vmem S2048x128 .bf16) (harg2 : arg2.IsWhole) (arg3 : Memref sig .tc .vmem S2048x128 .f32) (harg3 : arg3.IsWhole) (arg4 : Memref sig .tc .vmem S2048x128 .bf16) (harg4 : arg4.IsWhole) (arg5 : Memref sig .tc .vmem S1x2048x128 .f32) (harg5 : arg5.IsWhole) (arg6 : Memref sig .tc .vmem S8x8x256 .f32) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2048x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x1x8x256 .f32) (harg12 : arg12.IsWhole) (arg13 : Memref sig .tc .vmem S1x2048x128 .f32) (harg13 : arg13.IsWhole)  (v38 : FVec Ideal S256x128 .f32) (v39 : FVec Ideal S256x128 .f32) (v40 : FVec Ideal S1x256 .f32) (v41 : BitVec 32) (v43 : BitVec 32) (v45 : Vec Ideal S256x128 .bf16) (v56 : FVec Ideal S256x128 .bf16) (v84 : FVec Ideal S256x128 .f32) (v91 : FVec Ideal S256x128 .f32) (v93 : FVec Ideal S256x128 .f32) (v96 : FVec Ideal S256x128 .f32) (v99 : FVec Ideal S1x256 .f32) (v119 : FVec Ideal S256x256 .f32) (v123 : FVec Ideal S256x256 .f32) (v161 : BitVec 32)
    (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)
    (G9 : BufTy.Contents (Elt Ideal) arg9.view.ty) (L9 : List (View.Piece (Elt Ideal) S2048x128 .f32)) (G13 : BufTy.Contents (Elt Ideal) arg13.view.ty) (L13 : List (View.Piece (Elt Ideal) S1x2048x128 .f32))
    (K V : Fin 256 → Fin 128 → ℝ) (C : Fin 2 → Fin 256 → ℝ) (Q D O L B R : Fin 2048 → Fin 128 → ℝ)
    (hq : arg2.view.read (Elt Ideal) X_arg2 = up2 Q) (hd : arg3.view.read (Elt Ideal) X_arg3 = up2 D) (ho : arg4.view.read (Elt Ideal) X_arg4 = up2 O)
    (hL : arg5.view.read (Elt Ideal) X_arg5 = up3 fun (_ : Fin 1) => L)
    (h9 : arg9.view.read (Elt Ideal) (arg9.view.writes (Elt Ideal) G9 L9) = up2 B) (h13 : arg13.view.read (Elt Ideal) (arg13.view.writes (Elt Ideal) G13 L13) = up3 fun (_ : Fin 1) => R)
    (h2 : ∀ a, k0_off2 i a + S256x128.size a ≤ S2048x128.size a) (h3 : ∀ a, k0_off3 i a + S1x256x128.size a ≤ S1x2048x128.size a)
    (st1 st2) (e1 : st1 = st_k0_t1 (F := Ideal) Variants.none c none i arg2 harg2 arg3 harg3 arg4 harg4 arg5 harg5 arg6 harg6 arg7 harg7 arg8 harg8 arg9 harg9 arg10 harg10 arg11 harg11 arg12 harg12 arg13 harg13 (iota .tc S256x128 32 [1] iota_S256x128_d1_w32) k0_pay44 (up2 (tK K 0)) (up2 (tK K 1)) (up2 (tV V 0)) (up2 (tV V 1)) (up2 fun (_ : Fin 1) s => C 0 s) (up2 fun (_ : Fin 1) s => C 1 s) v38 v39 v40 v41 v43 v45 v56 v84 v91 v93 v96 v99 v119 v123 X_arg2 X_arg3 X_arg4 X_arg5 (arg9.view.writes (Elt Ideal) G9 (⟨Rect.unit (s := S2048x128) (k0_off2 i) S256x128.size h2, up2 fun r l => blk (i 1).val B r l + bQ K V C Q D O L (i 1).val mTri r l⟩ :: L9)) (arg13.view.writes (Elt Ideal) G13 (⟨Rect.unit (s := S1x2048x128) (k0_off3 i) S1x256x128.size h3, up3 fun (_ : Fin 1) r l => blk (i 1).val R r l + bR K V C Q D O L (i 1).val mTri r l⟩ :: L13)) (up2 (bK K V C Q D O L (i 1).val mTri 0), up2 (bV K C Q D L (i 1).val mTri 0), up2 fun (_ : Fin 1) s => bC K V C Q D O L (i 1).val mTri 0 s, up2 (bK K V C Q D O L (i 1).val mTri 1), up2 (bV K C Q D L (i 1).val mTri 1), up2 fun (_ : Fin 1) s => bC K V C Q D O L (i 1).val mTri 1 s) (Scf.trips (k0_t1_loop i).lb (k0_t1_loop i).ub (k0_t1_loop i).st))
    (e2 : st2 = st_k0_t2 (F := Ideal) Variants.none c none i arg2 harg2 arg3 harg3 arg4 harg4 arg5 harg5 arg6 harg6 arg7 harg7 arg8 harg8 arg9 harg9 arg10 harg10 arg11 harg11 arg12 harg12 arg13 harg13 (iota .tc S256x128 32 [1] iota_S256x128_d1_w32) k0_pay44 (up2 (tK K 0)) (up2 (tK K 1)) (up2 (tV V 0)) (up2 (tV V 1)) (up2 fun (_ : Fin 1) s => C 0 s) (up2 fun (_ : Fin 1) s => C 1 s) v38 v39 v40 v41 v43 v45 v56 v84 v91 v93 v96 v99 v119 v123 v161 X_arg2 X_arg3 X_arg4 X_arg5 (arg9.view.writes (Elt Ideal) G9 (st1.2.1 ++ (⟨Rect.unit (s := S2048x128) (k0_off2 i) S256x128.size h2, up2 fun r l => blk (i 1).val B r l + bQ K V C Q D O L (i 1).val mTri r l⟩ :: L9))) (arg13.view.writes (Elt Ideal) G13 (st1.2.2 ++ (⟨Rect.unit (s := S1x2048x128) (k0_off3 i) S1x256x128.size h3, up3 fun (_ : Fin 1) r l => blk (i 1).val R r l + bR K V C Q D O L (i 1).val mTri r l⟩ :: L13))) st1.1 (Scf.trips (k0_t2_loop i).lb (k0_t2_loop i).ub (k0_t2_loop i).st)) :
    st2.1 = (up2 (cK K V C Q D O L (i 1).val 0), up2 (cV K C Q D L (i 1).val 0), up2 fun (_ : Fin 1) s => cC K V C Q D O L (i 1).val 0 s, up2 (cK K V C Q D O L (i 1).val 1), up2 (cV K C Q D L (i 1).val 1), up2 fun (_ : Fin 1) s => cC K V C Q D O L (i 1).val 1 s)
    ∧ arg9.view.read (Elt Ideal) (arg9.view.writes (Elt Ideal) G9 (st2.2.1 ++ (st1.2.1 ++ (⟨Rect.unit (s := S2048x128) (k0_off2 i) S256x128.size h2, up2 fun r l => blk (i 1).val B r l + bQ K V C Q D O L (i 1).val mTri r l⟩ :: L9)))) = (up2 fun r l => B r l + cQ K V C Q D O L (i 1).val r l)
    ∧ arg13.view.read (Elt Ideal) (arg13.view.writes (Elt Ideal) G13 (st2.2.2 ++ (st1.2.2 ++ (⟨Rect.unit (s := S1x2048x128) (k0_off3 i) S1x256x128.size h3, up3 fun (_ : Fin 1) r l => blk (i 1).val R r l + bR K V C Q D O L (i 1).val mTri r l⟩ :: L13)))) = up3 fun (_ : Fin 1) r l => R r l + cR K V C Q D O L (i 1).val r l := by
  rw [trips_t2] at e2
  rw [trips_t1'] at e1
  have g1 : st2.1 = st1.1 := by rw [e2]; rfl
  have g2 : st2.2.1 = [] := by rw [e2]; rfl
  have g3 : st2.2.2 = [] := by rw [e2]; rfl
  have k9 := wr_rows2 B (i 1).val arg9.view G9 L9 h9 _ h2 (off2_eq i) (bQ K V C Q D O L (i 1).val mTri)
  have k13 := wr_rows3 R (i 1).val arg13.view G13 L13 h13 _ h3 (off3_eq i) (bR K V C Q D O L (i 1).val mTri)
  have h := loop_val Variants.none c none i arg2 harg2 arg3 harg3 arg4 harg4 arg5 harg5 arg6 harg6 arg7 harg7 arg8 harg8 arg9 harg9 arg10 harg10 arg11 harg11 arg12 harg12 arg13 harg13 v38 v39 v40 v41 v43 v45 v56 v84 v91 v93 v96 v99 v119 v123 X_arg2 X_arg3 X_arg4 X_arg5 _ _ K V C Q D O L _ _ (bK K V C Q D O L (i 1).val mTri 0) (bV K C Q D L (i 1).val mTri 0) (bC K V C Q D O L (i 1).val mTri 0) (bK K V C Q D O L (i 1).val mTri 1) (bV K C Q D L (i 1).val mTri 1) (bC K V C Q D O L (i 1).val mTri 1) hq hd ho hL k9 k13 (7 - (i 1).val) le_rfl
  rw [← e1] at h
  obtain ⟨a1, a2, a3⟩ := h
  rw [g1, g2, g3, List.nil_append, List.nil_append, View.writes_append, View.writes_append]
  refine ⟨a1, a2.trans ?_, a3.trans ?_⟩
  · funext y; exact congrArg Real.toEReal (add_assoc _ _ _)
  · funext y; exact congrArg Real.toEReal (add_assoc _ _ _)

end Cert.KernelIdeal.Hand

end
-- ==== Proof.Body.lean ====
/- What one run of the body adds to the gradients, over the reals: for its pair of heads and its chunk of keys, the diagonal tile's
   parts and those of every later block of queries. -/
module

public import proofs.«01_k».proof.Proof.Tail
public import Idealize.ShloMosaic.Lib.VecWindow

@[expose] public section

set_option maxRecDepth 16384
set_option backward.isDefEq.respectTransparency false

noncomputable section

namespace Cert.KernelIdeal.Hand

open Idealize.ShloMosaic Idealize.ShloMosaic.TcCoe Idealize.ShloMosaic.Tactic
open Cert.KernelIdeal.Gen

set_option maxHeartbeats 1000000 in
theorem bodyB (c : Dev nD) (i : grid0.Coords) (arg2 : Memref sig .tc .vmem S2048x128 .bf16) (harg2 : arg2.IsWhole) (arg3 : Memref sig .tc .vmem S2048x128 .f32) (harg3 : arg3.IsWhole) (arg4 : Memref sig .tc .vmem S2048x128 .bf16) (harg4 : arg4.IsWhole) (arg5 : Memref sig .tc .vmem S1x2048x128 .f32) (harg5 : arg5.IsWhole) (arg6 : Memref sig .tc .vmem S8x8x256 .f32) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2048x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x1x8x256 .f32) (harg12 : arg12.IsWhole) (arg13 : Memref sig .tc .vmem S1x2048x128 .f32) (harg13 : arg13.IsWhole) (hc0 : ¬ cond0_0 i)

    (d8 : Vec Ideal S256x128 .f32) (d9 : Vec Ideal S256x128 .f32) (d10 : Vec Ideal S1x1x8x256 .f32)  (K V : Fin 256 → Fin 128 → ℝ) (CT : Fin 8 → Fin 8 → Fin 256 → ℝ) (Q D O L B R : Fin 2048 → Fin 128 → ℝ) :
    (runB (F := Ideal) c i arg2 harg2 arg3 harg3 arg4 harg4 arg5 harg5 arg6 harg6 arg7 harg7 arg8 harg8 arg9 harg9 arg10 harg10 arg11 harg11 arg12 harg12 arg13 harg13 hc0 (up2 Q) (up2 D) (up2 O) (up3 fun (_ : Fin 1) => L) (up3 CT) (up2 K) (up2 V) (up2 B) d8 d9 d10 (up3 fun (_ : Fin 1) => R)).1 = (up2 fun r l => B r l + cQ K V (colOf i CT) Q D O L (i 1).val r l)
    ∧ (runB (F := Ideal) c i arg2 harg2 arg3 harg3 arg4 harg4 arg5 harg5 arg6 harg6 arg7 harg7 arg8 harg8 arg9 harg9 arg10 harg10 arg11 harg11 arg12 harg12 arg13 harg13 hc0 (up2 Q) (up2 D) (up2 O) (up3 fun (_ : Fin 1) => L) (up3 CT) (up2 K) (up2 V) (up2 B) d8 d9 d10 (up3 fun (_ : Fin 1) => R)).2.1 = (up2 fun s l => (if inh 0 l then cK K V (colOf i CT) Q D O L (i 1).val 0 s l else cK K V (colOf i CT) Q D O L (i 1).val 1 s l) * (1 / 8))
    ∧ (runB (F := Ideal) c i arg2 harg2 arg3 harg3 arg4 harg4 arg5 harg5 arg6 harg6 arg7 harg7 arg8 harg8 arg9 harg9 arg10 harg10 arg11 harg11 arg12 harg12 arg13 harg13 hc0 (up2 Q) (up2 D) (up2 O) (up3 fun (_ : Fin 1) => L) (up3 CT) (up2 K) (up2 V) (up2 B) d8 d9 d10 (up3 fun (_ : Fin 1) => R)).2.2.1 = (up2 fun s l => if inh 0 l then cV K (colOf i CT) Q D L (i 1).val 0 s l else cV K (colOf i CT) Q D L (i 1).val 1 s l)
    ∧ (runB (F := Ideal) c i arg2 harg2 arg3 harg3 arg4 harg4 arg5 harg5 arg6 harg6 arg7 harg7 arg8 harg8 arg9 harg9 arg10 harg10 arg11 harg11 arg12 harg12 arg13 harg13 hc0 (up2 Q) (up2 D) (up2 O) (up3 fun (_ : Fin 1) => L) (up3 CT) (up2 K) (up2 V) (up2 B) d8 d9 d10 (up3 fun (_ : Fin 1) => R)).2.2.2.1 = (up4 fun (_ : Fin 1) (_ : Fin 1) (h : Fin 8) s => if h.val = 0 then cC K V (colOf i CT) Q D O L (i 1).val 0 s else if h.val = 1 then cC K V (colOf i CT) Q D O L (i 1).val 1 s else 0)
    ∧ (runB (F := Ideal) c i arg2 harg2 arg3 harg3 arg4 harg4 arg5 harg5 arg6 harg6 arg7 harg7 arg8 harg8 arg9 harg9 arg10 harg10 arg11 harg11 arg12 harg12 arg13 harg13 hc0 (up2 Q) (up2 D) (up2 O) (up3 fun (_ : Fin 1) => L) (up3 CT) (up2 K) (up2 V) (up2 B) d8 d9 d10 (up3 fun (_ : Fin 1) => R)).2.2.2.2.1 = up3 fun (_ : Fin 1) r l => R r l + cR K V (colOf i CT) Q D O L (i 1).val r l := by
  have h2 : ∀ a, k0_off2 i a + S256x128.size a ≤ S2048x128.size a := k0_off2_inb i
  have h3 : ∀ a, k0_off3 i a + S1x256x128.size a ≤ S1x2048x128.size a := k0_off3_inb i
  have h1 : ∀ a, k0_off1 i a + S1x8x256.size a ≤ S8x8x256.size a := k0_off1_inb i
  have wK : whole2 arg7.view (harg7.unread (up2 K)) = up2 K := (View.readAt_full _ _ _).trans (harg7.read_unread _)
  have wV : whole2 arg8.view (harg8.unread (up2 V)) = up2 V := (View.readAt_full _ _ _).trans (harg8.read_unread _)
  have wC : chunk3 arg6.view (k0_off1 i) h1 (harg6.unread (up3 CT)) = up3 fun (_ : Fin 1) h s => CT (i 1) h s := chunk3_val i CT _ _ (harg6.read_unread _) h1
  have wQ : rows2 arg2.view (k0_off2 i) h2 (harg2.unread (up2 Q)) = up2 (blk (i 1).val Q) := rows2_bf16 Q _ _ _ (harg2.read_unread _) _ h2 (off2_eq i)
  have wD : rows2 arg3.view (k0_off2 i) h2 (harg3.unread (up2 D)) = up2 (blk (i 1).val D) := rows2_f32 D _ _ _ (harg3.read_unread _) _ h2 (off2_eq i)
  have wO : rows2 arg4.view (k0_off2 i) h2 (harg4.unread (up2 O)) = up2 (blk (i 1).val O) := rows2_bf16 O _ _ _ (harg4.read_unread _) _ h2 (off2_eq i)
  have wL : rows3 arg5.view (k0_off3 i) h3 (harg5.unread (up3 fun (_ : Fin 1) => L)) = up3 fun (_ : Fin 1) => blk (i 1).val L := rows3_f32 L _ _ _ (harg5.read_unread _) _ h3 (off3_eq i)
  refine Exists.elim (formB c i arg2 harg2 arg3 harg3 arg4 harg4 arg5 harg5 arg6 harg6 arg7 harg7 arg8 harg8 arg9 harg9 arg10 harg10 arg11 harg11 arg12 harg12 arg13 harg13 hc0 (up2 Q) (up2 D) (up2 O) (up3 fun (_ : Fin 1) => L) (up3 CT) (up2 K) (up2 V) (up2 B) d8 d9 d10 (up3 fun (_ : Fin 1) => R) h1 h2 h3
    (up2 (tK K 0)) (by rw [wK, p47]) (up2 (tK K 1)) (by rw [wK, p48]) (up2 (tV V 0)) (by rw [wV, p49]) (up2 (tV V 1)) (by rw [wV, p50])
    (up2 fun (_ : Fin 1) s => (colOf i CT) 0 s) (by rw [wC, p52]; rfl) (up2 fun (_ : Fin 1) s => (colOf i CT) 1 s) (by rw [wC, p53]; rfl)
    _ wQ _ wD _ wO _ wL
    (up2 fun r (_ : Fin 1) => tD (blk (i 1).val D) (blk (i 1).val O) 0 r) (by rw [p63])
    (up2 (tP K (colOf i CT) (blk (i 1).val Q) (blk (i 1).val L) mTri 0)) (by rw [p64])
    (up2 fun r s => ∑ l, (blk (i 1).val D) r l * tV V 0 s l) (by rw [p65])
    (up2 fun r l => ∑ s, tS K V (colOf i CT) (blk (i 1).val Q) (blk (i 1).val D) (blk (i 1).val O) (blk (i 1).val L) mTri 0 r s * tK K 0 s l) (by rw [p68]; rfl)
    (up2 fun r l => if decide (l.val = 0) = true then ∑ s, tS K V (colOf i CT) (blk (i 1).val Q) (blk (i 1).val D) (blk (i 1).val O) (blk (i 1).val L) mTri 0 r s else 0) (by rw [p69]; rfl)
    (up2 (bK K V (colOf i CT) Q D O L (i 1).val mTri 0)) (by rw [p55, p70]; simp (proj := false) only [zero_add]; rfl)
    (up2 (bV K (colOf i CT) Q D L (i 1).val mTri 0)) (by rw [p56, p60v, p71]; simp (proj := false) only [zero_add]; rfl)
    (up2 fun (_ : Fin 1) s => bC K V (colOf i CT) Q D O L (i 1).val mTri 0 s) (by rw [p57, p72]; simp (proj := false) only [zero_add]; rfl)
    (up2 (tP K (colOf i CT) (blk (i 1).val Q) (blk (i 1).val L) mTri 1)) (by rw [p59v, p73])
    (up2 (tS K V (colOf i CT) (blk (i 1).val Q) (blk (i 1).val D) (blk (i 1).val O) (blk (i 1).val L) mTri 1)) (by rw [p59v, p58, p60v, p74])
    (up2 (bK K V (colOf i CT) Q D O L (i 1).val mTri 1)) (by rw [p55, p76]; simp (proj := false) only [zero_add]; rfl)
    (up2 (bV K (colOf i CT) Q D L (i 1).val mTri 1)) (by rw [p56, p60v, p77]; simp (proj := false) only [zero_add]; rfl)
    (up2 fun (_ : Fin 1) s => bC K V (colOf i CT) Q D O L (i 1).val mTri 1 s) (by rw [p57, p78]; simp (proj := false) only [zero_add]; rfl)
    (up2 fun r l => blk (i 1).val B r l + bQ K V (colOf i CT) Q D O L (i 1).val mTri r l) (by rw [rows2_f32 B _ _ _ (harg9.read_unread _) _ h2 (off2_eq i), p79]; rfl)
    (up3 fun (_ : Fin 1) r l => blk (i 1).val R r l + bR K V (colOf i CT) Q D O L (i 1).val mTri r l) (by rw [rows3_f32 R _ _ _ (harg13.read_unread _) _ h3 (off3_eq i), p80]; simp (proj := false) only [tR_alt]; rfl)) fun b10 H => H.elim fun b11 H => H.elim fun b12 H => ?_
  have HET := fun st1 st2 e1 e2 => And.intro (H st1 st2 e1 e2) (tail_val c i arg2 harg2 arg3 harg3 arg4 harg4 arg5 harg5 arg6 harg6 arg7 harg7 arg8 harg8 arg9 harg9 arg10 harg10 arg11 harg11 arg12 harg12 arg13 harg13 _ _ _ _ _ _ _ _ _ _ _ _ _ _ _ _ _ _ _ (harg9.unread (up2 B)) [] (harg13.unread (up3 fun (_ : Fin 1) => R)) [] K V (colOf i CT) Q D O L B R
    (harg2.read_unread _) (harg3.read_unread _) (harg4.read_unread _) (harg5.read_unread _) (harg9.read_unread _) (harg13.read_unread _) h2 h3 st1 st2 e1 e2)
  have HT' := HET _ _ rfl rfl
  have HE := HT'.1
  have HT := HT'.2
  refine ⟨HE.1.trans (HT.2.1.trans ?_), HE.2.1.trans ((View.read_writes_full _ _ _ _ _).trans ?_), HE.2.2.1.trans ((View.read_writes_full _ _ _ _ _).trans ?_), HE.2.2.2.1.trans ((View.read_writes_full _ _ _ _ _).trans ?_), HE.2.2.2.2.trans (HT.2.2.trans ?_)⟩
  · rfl
  · rw [HT.1]; exact p1_91 _ _
  · rw [HT.1]; exact p2 _ _
  · rw [HT.1]; exact p3 _ _
  · rfl

set_option maxHeartbeats 1000000 in
theorem bodyA (c : Dev nD) (i : grid0.Coords) (arg2 : Memref sig .tc .vmem S2048x128 .bf16) (harg2 : arg2.IsWhole) (arg3 : Memref sig .tc .vmem S2048x128 .f32) (harg3 : arg3.IsWhole) (arg4 : Memref sig .tc .vmem S2048x128 .bf16) (harg4 : arg4.IsWhole) (arg5 : Memref sig .tc .vmem S1x2048x128 .f32) (harg5 : arg5.IsWhole) (arg6 : Memref sig .tc .vmem S8x8x256 .f32) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2048x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x1x8x256 .f32) (harg12 : arg12.IsWhole) (arg13 : Memref sig .tc .vmem S1x2048x128 .f32) (harg13 : arg13.IsWhole) (hc0 : cond0_0 i)

    (d7 : Vec Ideal S2048x128 .f32) (d8 : Vec Ideal S256x128 .f32) (d9 : Vec Ideal S256x128 .f32) (d10 : Vec Ideal S1x1x8x256 .f32) (d11 : Vec Ideal S1x2048x128 .f32) (K V : Fin 256 → Fin 128 → ℝ) (CT : Fin 8 → Fin 8 → Fin 256 → ℝ) (Q D O L  : Fin 2048 → Fin 128 → ℝ) :
    (runA (F := Ideal) c i arg2 harg2 arg3 harg3 arg4 harg4 arg5 harg5 arg6 harg6 arg7 harg7 arg8 harg8 arg9 harg9 arg10 harg10 arg11 harg11 arg12 harg12 arg13 harg13 hc0 (up2 Q) (up2 D) (up2 O) (up3 fun (_ : Fin 1) => L) (up3 CT) (up2 K) (up2 V) d7 d8 d9 d10 d11).1 = (up2 fun r l => cQ K V (colOf i CT) Q D O L (i 1).val r l)
    ∧ (runA (F := Ideal) c i arg2 harg2 arg3 harg3 arg4 harg4 arg5 harg5 arg6 harg6 arg7 harg7 arg8 harg8 arg9 harg9 arg10 harg10 arg11 harg11 arg12 harg12 arg13 harg13 hc0 (up2 Q) (up2 D) (up2 O) (up3 fun (_ : Fin 1) => L) (up3 CT) (up2 K) (up2 V) d7 d8 d9 d10 d11).2.1 = (up2 fun s l => (if inh 0 l then cK K V (colOf i CT) Q D O L (i 1).val 0 s l else cK K V (colOf i CT) Q D O L (i 1).val 1 s l) * (1 / 8))
    ∧ (runA (F := Ideal) c i arg2 harg2 arg3 harg3 arg4 harg4 arg5 harg5 arg6 harg6 arg7 harg7 arg8 harg8 arg9 harg9 arg10 harg10 arg11 harg11 arg12 harg12 arg13 harg13 hc0 (up2 Q) (up2 D) (up2 O) (up3 fun (_ : Fin 1) => L) (up3 CT) (up2 K) (up2 V) d7 d8 d9 d10 d11).2.2.1 = (up2 fun s l => if inh 0 l then cV K (colOf i CT) Q D L (i 1).val 0 s l else cV K (colOf i CT) Q D L (i 1).val 1 s l)
    ∧ (runA (F := Ideal) c i arg2 harg2 arg3 harg3 arg4 harg4 arg5 harg5 arg6 harg6 arg7 harg7 arg8 harg8 arg9 harg9 arg10 harg10 arg11 harg11 arg12 harg12 arg13 harg13 hc0 (up2 Q) (up2 D) (up2 O) (up3 fun (_ : Fin 1) => L) (up3 CT) (up2 K) (up2 V) d7 d8 d9 d10 d11).2.2.2.1 = (up4 fun (_ : Fin 1) (_ : Fin 1) (h : Fin 8) s => if h.val = 0 then cC K V (colOf i CT) Q D O L (i 1).val 0 s else if h.val = 1 then cC K V (colOf i CT) Q D O L (i 1).val 1 s else 0)
    ∧ (runA (F := Ideal) c i arg2 harg2 arg3 harg3 arg4 harg4 arg5 harg5 arg6 harg6 arg7 harg7 arg8 harg8 arg9 harg9 arg10 harg10 arg11 harg11 arg12 harg12 arg13 harg13 hc0 (up2 Q) (up2 D) (up2 O) (up3 fun (_ : Fin 1) => L) (up3 CT) (up2 K) (up2 V) d7 d8 d9 d10 d11).2.2.2.2.1 = up3 fun (_ : Fin 1) r l => cR K V (colOf i CT) Q D O L (i 1).val r l := by
  have h2 : ∀ a, k0_off2 i a + S256x128.size a ≤ S2048x128.size a := k0_off2_inb i
  have h3 : ∀ a, k0_off3 i a + S1x256x128.size a ≤ S1x2048x128.size a := k0_off3_inb i
  have h1 : ∀ a, k0_off1 i a + S1x8x256.size a ≤ S8x8x256.size a := k0_off1_inb i
  have wK : whole2 arg7.view (harg7.unread (up2 K)) = up2 K := (View.readAt_full _ _ _).trans (harg7.read_unread _)
  have wV : whole2 arg8.view (harg8.unread (up2 V)) = up2 V := (View.readAt_full _ _ _).trans (harg8.read_unread _)
  have wC : chunk3 arg6.view (k0_off1 i) h1 (harg6.unread (up3 CT)) = up3 fun (_ : Fin 1) h s => CT (i 1) h s := chunk3_val i CT _ _ (harg6.read_unread _) h1
  have wQ : rows2 arg2.view (k0_off2 i) h2 (harg2.unread (up2 Q)) = up2 (blk (i 1).val Q) := rows2_bf16 Q _ _ _ (harg2.read_unread _) _ h2 (off2_eq i)
  have wD : rows2 arg3.view (k0_off2 i) h2 (harg3.unread (up2 D)) = up2 (blk (i 1).val D) := rows2_f32 D _ _ _ (harg3.read_unread _) _ h2 (off2_eq i)
  have wO : rows2 arg4.view (k0_off2 i) h2 (harg4.unread (up2 O)) = up2 (blk (i 1).val O) := rows2_bf16 O _ _ _ (harg4.read_unread _) _ h2 (off2_eq i)
  have wL : rows3 arg5.view (k0_off3 i) h3 (harg5.unread (up3 fun (_ : Fin 1) => L)) = up3 fun (_ : Fin 1) => blk (i 1).val L := rows3_f32 L _ _ _ (harg5.read_unread _) _ h3 (off3_eq i)
  refine Exists.elim (formA c i arg2 harg2 arg3 harg3 arg4 harg4 arg5 harg5 arg6 harg6 arg7 harg7 arg8 harg8 arg9 harg9 arg10 harg10 arg11 harg11 arg12 harg12 arg13 harg13 hc0 (up2 Q) (up2 D) (up2 O) (up3 fun (_ : Fin 1) => L) (up3 CT) (up2 K) (up2 V) d7 d8 d9 d10 d11 h1 h2 h3
    (up2 (tK K 0)) (by rw [wK, p47]) (up2 (tK K 1)) (by rw [wK, p48]) (up2 (tV V 0)) (by rw [wV, p49]) (up2 (tV V 1)) (by rw [wV, p50])
    (up2 fun (_ : Fin 1) s => (colOf i CT) 0 s) (by rw [wC, p52]; rfl) (up2 fun (_ : Fin 1) s => (colOf i CT) 1 s) (by rw [wC, p53]; rfl)
    _ wQ _ wD _ wO _ wL
    (up2 fun r (_ : Fin 1) => tD (blk (i 1).val D) (blk (i 1).val O) 0 r) (by rw [p63])
    (up2 (tP K (colOf i CT) (blk (i 1).val Q) (blk (i 1).val L) mTri 0)) (by rw [p64])
    (up2 fun r s => ∑ l, (blk (i 1).val D) r l * tV V 0 s l) (by rw [p65])
    (up2 fun r l => ∑ s, tS K V (colOf i CT) (blk (i 1).val Q) (blk (i 1).val D) (blk (i 1).val O) (blk (i 1).val L) mTri 0 r s * tK K 0 s l) (by rw [p68]; rfl)
    (up2 fun r l => if decide (l.val = 0) = true then ∑ s, tS K V (colOf i CT) (blk (i 1).val Q) (blk (i 1).val D) (blk (i 1).val O) (blk (i 1).val L) mTri 0 r s else 0) (by rw [p69]; rfl)
    (up2 (bK K V (colOf i CT) Q D O L (i 1).val mTri 0)) (by rw [p55, p70]; simp (proj := false) only [zero_add]; rfl)
    (up2 (bV K (colOf i CT) Q D L (i 1).val mTri 0)) (by rw [p56, p60v, p71]; simp (proj := false) only [zero_add]; rfl)
    (up2 fun (_ : Fin 1) s => bC K V (colOf i CT) Q D O L (i 1).val mTri 0 s) (by rw [p57, p72]; simp (proj := false) only [zero_add]; rfl)
    (up2 (tP K (colOf i CT) (blk (i 1).val Q) (blk (i 1).val L) mTri 1)) (by rw [p59v, p73])
    (up2 (tS K V (colOf i CT) (blk (i 1).val Q) (blk (i 1).val D) (blk (i 1).val O) (blk (i 1).val L) mTri 1)) (by rw [p59v, p58, p60v, p74])
    (up2 (bK K V (colOf i CT) Q D O L (i 1).val mTri 1)) (by rw [p55, p76]; simp (proj := false) only [zero_add]; rfl)
    (up2 (bV K (colOf i CT) Q D L (i 1).val mTri 1)) (by rw [p56, p60v, p77]; simp (proj := false) only [zero_add]; rfl)
    (up2 fun (_ : Fin 1) s => bC K V (colOf i CT) Q D O L (i 1).val mTri 1 s) (by rw [p57, p78]; simp (proj := false) only [zero_add]; rfl)
    (up2 fun r l => blk (i 1).val (fun _ _ => 0) r l + bQ K V (colOf i CT) Q D O L (i 1).val mTri r l) (by rw [rows2_f32 (fun _ _ => 0) _ _ _ ((View.read_writes_full _ _ _ _ _).trans p42) _ h2 (off2_eq i), p79]; rfl)
    (up3 fun (_ : Fin 1) r l => blk (i 1).val (fun _ _ => 0) r l + bR K V (colOf i CT) Q D O L (i 1).val mTri r l) (by rw [rows3_f32 (fun _ _ => 0) _ _ _ ((View.read_writes_full _ _ _ _ _).trans p43) _ h3 (off3_eq i), p80]; simp (proj := false) only [tR_alt]; rfl)) fun b10 H => H.elim fun b11 H => H.elim fun b12 H => ?_
  have HET := fun st1 st2 e1 e2 => And.intro (H st1 st2 e1 e2) (tail_val c i arg2 harg2 arg3 harg3 arg4 harg4 arg5 harg5 arg6 harg6 arg7 harg7 arg8 harg8 arg9 harg9 arg10 harg10 arg11 harg11 arg12 harg12 arg13 harg13 _ _ _ _ _ _ _ _ _ _ _ _ _ _ _ _ _ _ _ arg9.view.junk [⟨Rect.unit (s := S2048x128) ![0, 0] S2048x128.size inb_S2048x128_S2048x128_0_0, k0_pay42 (F := Ideal)⟩] arg13.view.junk [⟨Rect.unit (s := S1x2048x128) ![0, 0, 0] S1x2048x128.size inb_S1x2048x128_S1x2048x128_0_0_0, k0_pay43 (F := Ideal)⟩] K V (colOf i CT) Q D O L (fun _ _ => 0) (fun _ _ => 0)
    (harg2.read_unread _) (harg3.read_unread _) (harg4.read_unread _) (harg5.read_unread _) ((View.read_writes_full _ _ _ _ _).trans p42) ((View.read_writes_full _ _ _ _ _).trans p43) h2 h3 st1 st2 e1 e2)
  have HT' := HET _ _ rfl rfl
  have HE := HT'.1
  have HT := HT'.2
  refine ⟨HE.1.trans (HT.2.1.trans ?_), HE.2.1.trans ((View.read_writes_full _ _ _ _ _).trans ?_), HE.2.2.1.trans ((View.read_writes_full _ _ _ _ _).trans ?_), HE.2.2.2.1.trans ((View.read_writes_full _ _ _ _ _).trans ?_), HE.2.2.2.2.trans (HT.2.2.trans ?_)⟩
  · simp (proj := false) only [zero_add]
  · rw [HT.1]; exact p1_91 _ _
  · rw [HT.1]; exact p2 _ _
  · rw [HT.1]; exact p3 _ _
  · simp (proj := false) only [zero_add]

end Cert.KernelIdeal.Hand

end
-- ==== Proof.Steps.lean ====
/- The attention-gradient kernel's run over the reals: from arrays that hold real numbers, each point of the
   grid leaves its outputs' blocks at closed sums. -/
module

public import proofs.«01_k».proof.Proof.Frame
public import proofs.«01_k».proof.Proof.Body
public import Idealize.ShloMosaic.Lib.Pipeline.Value

@[expose] public section

set_option maxRecDepth 16384
set_option backward.isDefEq.respectTransparency false

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Hand

local notation "𝕄" => MT nD τ sig Unit (Elt Ideal) ℕ (UR sig nD τ) ℕ

/-- The real arrays a device's launch finds: queries, keys, values, the output's gradient, the output, each row's log-sum (by pair of
    heads), and the column terms (by chunk of keys, then head). -/
structure Reals where
  q : Fin 2048 → Fin 512 → ℝ
  k : Fin 2048 → Fin 512 → ℝ
  v : Fin 2048 → Fin 512 → ℝ
  d : Fin 2048 → Fin 512 → ℝ
  o : Fin 2048 → Fin 512 → ℝ
  l : Fin 4 → Fin 2048 → Fin 128 → ℝ
  ct : Fin 8 → Fin 8 → Fin 256 → ℝ

/-- A pair of heads' columns. -/
def colsOf (f : Fin 2048 → Fin 512 → ℝ) (p : ℕ) : Fin 2048 → Fin 128 → ℝ := fun r l => f r ⟨(p * 128 + l.val) % 512, Nat.mod_lt _ (by decide)⟩
/-- A pair of heads' columns at one chunk of rows. -/
def tileOf (f : Fin 2048 → Fin 512 → ℝ) (p j : ℕ) : Fin 256 → Fin 128 → ℝ :=
  fun s l => f ⟨(j * 256 + s.val) % 2048, Nat.mod_lt _ (by decide)⟩ ⟨(p * 128 + l.val) % 512, Nat.mod_lt _ (by decide)⟩
/-- A pair of heads' column terms at one chunk. -/
def termOf (CT : Fin 8 → Fin 8 → Fin 256 → ℝ) (p j : ℕ) : Fin 2 → Fin 256 → ℝ :=
  fun e s => CT ⟨j % 8, Nat.mod_lt _ (by decide)⟩ ⟨(2 * p + e.val) % 8, Nat.mod_lt _ (by decide)⟩ s
def lseOf (f : Fin 4 → Fin 2048 → Fin 128 → ℝ) (p : ℕ) : Fin 2048 → Fin 128 → ℝ := f ⟨p % 4, Nat.mod_lt _ (by decide)⟩

section
variable (X : Reals) (p j : ℕ)
/-- Chunk `j`'s part of pair `p`'s query gradient and row sums; its key, value and column gradients. -/
def partQ : Fin 2048 → Fin 128 → ℝ := cQ (tileOf X.k p j) (tileOf X.v p j) (termOf X.ct p j) (colsOf X.q p) (colsOf X.d p) (colsOf X.o p) (lseOf X.l p) j
def partR : Fin 2048 → Fin 128 → ℝ := cR (tileOf X.k p j) (tileOf X.v p j) (termOf X.ct p j) (colsOf X.q p) (colsOf X.d p) (colsOf X.o p) (lseOf X.l p) j
def partK (e : Fin 2) : Fin 256 → Fin 128 → ℝ := cK (tileOf X.k p j) (tileOf X.v p j) (termOf X.ct p j) (colsOf X.q p) (colsOf X.d p) (colsOf X.o p) (lseOf X.l p) j e
def partV (e : Fin 2) : Fin 256 → Fin 128 → ℝ := cV (tileOf X.k p j) (termOf X.ct p j) (colsOf X.q p) (colsOf X.d p) (lseOf X.l p) j e
def partC (e : Fin 2) : Fin 256 → ℝ := cC (tileOf X.k p j) (tileOf X.v p j) (termOf X.ct p j) (colsOf X.q p) (colsOf X.d p) (colsOf X.o p) (lseOf X.l p) j e
/-- The query gradient's tile and the row sums' after `n` chunks. -/
def sumQ (n : ℕ) : Fin 2048 → Fin 128 → ℝ := fun r l => ∑ j ∈ Finset.range n, partQ X p j r l
def sumR (n : ℕ) : Fin 2048 → Fin 128 → ℝ := fun r l => ∑ j ∈ Finset.range n, partR X p j r l
/-- The key and value gradients' tiles, and the column sums'. -/
def tileK : Fin 256 → Fin 128 → ℝ := fun s l => (if inh 0 l then partK X p j 0 s l else partK X p j 1 s l) * (1/8)
def tileV : Fin 256 → Fin 128 → ℝ := fun s l => if inh 0 l then partV X p j 0 s l else partV X p j 1 s l
def tileC : Fin 8 → Fin 256 → ℝ := fun h s => if h.val = 0 then partC X p j 0 s else if h.val = 1 then partC X p j 1 s else 0
end

/-- The arrays as the region finds them hold these reals. -/
structure Holds (m : (ℓ : Loc nD τ sig) → Buf (Elt Ideal) ℓ) (c : Dev nD) (X : Reals) : Prop where
  q : V m c main_arg0 = up2 X.q
  k : V m c main_arg1 = up2 X.k
  v : V m c main_arg2 = up2 X.v
  d : V m c main_arg4 = up2 X.d
  o : V m c main_v44 = up2 X.o
  l : V m c main_v84 = up3 X.l
  ct : V m c main_v87 = up3 X.ct

variable (m : (ℓ : Loc nD τ sig) → Buf (Elt Ideal) ℓ) (ρ : Dev nD → PrngReg) (X : Dev nD → Reals) (H : ∀ c, Holds m c (X c))

/-! Where each window's block lies. -/

theorem ix0 : ∀ t : Fin grid0.N, win0_0.index t 0 = 0 ∧ win0_0.index t 1 = t.val / 8 := by decide +kernel
theorem ix1 : ∀ t : Fin grid0.N, win0_1.index t 0 = 0 ∧ win0_1.index t 1 = t.val / 8 := by decide +kernel
theorem ix2 : ∀ t : Fin grid0.N, win0_2.index t 0 = 0 ∧ win0_2.index t 1 = t.val / 8 := by decide +kernel
theorem ix3 : ∀ t : Fin grid0.N, win0_3.index t 0 = t.val / 8 ∧ win0_3.index t 1 = 0 ∧ win0_3.index t 2 = 0 := by decide +kernel
theorem ix4 : ∀ t : Fin grid0.N, win0_4.index t 0 = 0 ∧ win0_4.index t 1 = 0 ∧ win0_4.index t 2 = 0 := by decide +kernel
theorem ix5 : ∀ t : Fin grid0.N, win0_5.index t 0 = t.val % 8 ∧ win0_5.index t 1 = t.val / 8 := by decide +kernel
theorem ix6 : ∀ t : Fin grid0.N, win0_6.index t 0 = t.val % 8 ∧ win0_6.index t 1 = t.val / 8 := by decide +kernel
theorem ix7 : ∀ t : Fin grid0.N, win0_7.index t 0 = 0 ∧ win0_7.index t 1 = t.val / 8 := by decide +kernel
theorem ix8 : ∀ t : Fin grid0.N, win0_8.index t 0 = t.val % 8 ∧ win0_8.index t 1 = t.val / 8 := by decide +kernel
theorem ix9 : ∀ t : Fin grid0.N, win0_9.index t 0 = t.val % 8 ∧ win0_9.index t 1 = t.val / 8 := by decide +kernel
theorem ix10 : ∀ t : Fin grid0.N, win0_10.index t 0 = t.val / 8 ∧ win0_10.index t 1 = t.val % 8 ∧ win0_10.index t 2 = 0 ∧ win0_10.index t 3 = 0 := by decide +kernel
theorem ix11 : ∀ t : Fin grid0.N, win0_11.index t 0 = t.val / 8 ∧ win0_11.index t 1 = 0 ∧ win0_11.index t 2 = 0 := by decide +kernel

theorem lt32 (t : Fin cfg0.N) : t.val < 32 := t.isLt

/-! The inputs' blocks. -/

include H in
theorem iblk0 (c : Dev nD) (t : Fin cfg0.N) : iblk m c 0 t = up2 (colsOf (X c).q (t.val / 8)) := by
  unfold iblk
  rw [show V m c (Pipeline.arrRef spec0 0) = up2 (X c).q from (H c).q]
  have ht := lt32 t
  obtain ⟨e0, e1⟩ := ix0 t
  funext x
  have h0 : (x 0).val < 2048 := (x 0).isLt
  have h1 : (x 1).val < 128 := (x 1).isLt
  show (((X c).q _ _ : ℝ) : EReal) = (((X c).q _ _ : ℝ) : EReal)
  congr 2
  · apply Fin.ext; show win0_0.index t 0 * 2048 + 1 * (x 0).val = (x 0).val; rw [e0]; omega
  · apply Fin.ext; show win0_0.index t 1 * 128 + 1 * (x 1).val = (t.val / 8 * 128 + (x 1).val) % 512; rw [e1]; omega
include H in
theorem iblk1 (c : Dev nD) (t : Fin cfg0.N) : iblk m c 1 t = up2 (colsOf (X c).d (t.val / 8)) := by
  unfold iblk
  rw [show V m c (Pipeline.arrRef spec0 1) = up2 (X c).d from (H c).d]
  have ht := lt32 t
  obtain ⟨e0, e1⟩ := ix1 t
  funext x
  have h0 : (x 0).val < 2048 := (x 0).isLt
  have h1 : (x 1).val < 128 := (x 1).isLt
  show (((X c).d _ _ : ℝ) : EReal) = (((X c).d _ _ : ℝ) : EReal)
  congr 2
  · apply Fin.ext; show win0_1.index t 0 * 2048 + 1 * (x 0).val = (x 0).val; rw [e0]; omega
  · apply Fin.ext; show win0_1.index t 1 * 128 + 1 * (x 1).val = (t.val / 8 * 128 + (x 1).val) % 512; rw [e1]; omega
include H in
theorem iblk2 (c : Dev nD) (t : Fin cfg0.N) : iblk m c 2 t = up2 (colsOf (X c).o (t.val / 8)) := by
  unfold iblk
  rw [show V m c (Pipeline.arrRef spec0 2) = up2 (X c).o from (H c).o]
  have ht := lt32 t
  obtain ⟨e0, e1⟩ := ix2 t
  funext x
  have h0 : (x 0).val < 2048 := (x 0).isLt
  have h1 : (x 1).val < 128 := (x 1).isLt
  show (((X c).o _ _ : ℝ) : EReal) = (((X c).o _ _ : ℝ) : EReal)
  congr 2
  · apply Fin.ext; show win0_2.index t 0 * 2048 + 1 * (x 0).val = (x 0).val; rw [e0]; omega
  · apply Fin.ext; show win0_2.index t 1 * 128 + 1 * (x 1).val = (t.val / 8 * 128 + (x 1).val) % 512; rw [e1]; omega
include H in
theorem iblk5 (c : Dev nD) (t : Fin cfg0.N) : iblk m c 5 t = up2 (tileOf (X c).k (t.val / 8) (t.val % 8)) := by
  unfold iblk
  rw [show V m c (Pipeline.arrRef spec0 5) = up2 (X c).k from (H c).k]
  have ht := lt32 t
  obtain ⟨e0, e1⟩ := ix5 t
  funext x
  have h0 : (x 0).val < 256 := (x 0).isLt
  have h1 : (x 1).val < 128 := (x 1).isLt
  show (((X c).k _ _ : ℝ) : EReal) = (((X c).k _ _ : ℝ) : EReal)
  congr 2
  · apply Fin.ext; show win0_5.index t 0 * 256 + 1 * (x 0).val = (t.val % 8 * 256 + (x 0).val) % 2048; rw [e0]; omega
  · apply Fin.ext; show win0_5.index t 1 * 128 + 1 * (x 1).val = (t.val / 8 * 128 + (x 1).val) % 512; rw [e1]; omega
include H in
theorem iblk6 (c : Dev nD) (t : Fin cfg0.N) : iblk m c 6 t = up2 (tileOf (X c).v (t.val / 8) (t.val % 8)) := by
  unfold iblk
  rw [show V m c (Pipeline.arrRef spec0 6) = up2 (X c).v from (H c).v]
  have ht := lt32 t
  obtain ⟨e0, e1⟩ := ix6 t
  funext x
  have h0 : (x 0).val < 256 := (x 0).isLt
  have h1 : (x 1).val < 128 := (x 1).isLt
  show (((X c).v _ _ : ℝ) : EReal) = (((X c).v _ _ : ℝ) : EReal)
  congr 2
  · apply Fin.ext; show win0_6.index t 0 * 256 + 1 * (x 0).val = (t.val % 8 * 256 + (x 0).val) % 2048; rw [e0]; omega
  · apply Fin.ext; show win0_6.index t 1 * 128 + 1 * (x 1).val = (t.val / 8 * 128 + (x 1).val) % 512; rw [e1]; omega
include H in
theorem iblk3 (c : Dev nD) (t : Fin cfg0.N) : iblk m c 3 t = up3 (fun (_ : Fin 1) => lseOf (X c).l (t.val / 8)) := by
  unfold iblk
  rw [show V m c (Pipeline.arrRef spec0 3) = up3 (X c).l from (H c).l]
  have ht := lt32 t
  obtain ⟨e0, e1, e2⟩ := ix3 t
  funext x
  have h0 : (x 0).val < 1 := (x 0).isLt
  have h1 : (x 1).val < 2048 := (x 1).isLt
  have h2 : (x 2).val < 128 := (x 2).isLt
  show (((X c).l _ _ _ : ℝ) : EReal) = (((X c).l _ _ _ : ℝ) : EReal)
  congr 2
  · apply Fin.ext; show win0_3.index t 0 * 1 + 1 * (x 0).val = t.val / 8 % 4; rw [e0]; omega
  · apply Fin.ext; show win0_3.index t 1 * 2048 + 1 * (x 1).val = (x 1).val; rw [e1]; omega
  · apply Fin.ext; show win0_3.index t 2 * 128 + 1 * (x 2).val = (x 2).val; rw [e2]; omega
include H in
theorem iblk4 (c : Dev nD) (t : Fin cfg0.N) : iblk m c 4 t = up3 ((X c).ct) := by
  unfold iblk
  rw [show V m c (Pipeline.arrRef spec0 4) = up3 (X c).ct from (H c).ct]
  have ht := lt32 t
  obtain ⟨e0, e1, e2⟩ := ix4 t
  funext x
  have h0 : (x 0).val < 8 := (x 0).isLt
  have h1 : (x 1).val < 8 := (x 1).isLt
  have h2 : (x 2).val < 256 := (x 2).isLt
  show (((X c).ct _ _ _ : ℝ) : EReal) = (((X c).ct _ _ _ : ℝ) : EReal)
  congr 2
  · apply Fin.ext; show win0_4.index t 0 * 8 + 1 * (x 0).val = (x 0).val; rw [e0]; omega
  · apply Fin.ext; show win0_4.index t 1 * 8 + 1 * (x 1).val = (x 1).val; rw [e1]; omega
  · apply Fin.ext; show win0_4.index t 2 * 256 + 1 * (x 2).val = (x 2).val; rw [e2]; omega

/-- The column terms the body reads at a point. -/
theorem colOf_point (CT : Fin 8 → Fin 8 → Fin 256 → ℝ) (t : Fin cfg0.N) : colOf (grid0.coords t) CT = termOf CT (t.val / 8) (t.val % 8) := by
  have ht := lt32 t
  have h0 := coords_pair t
  have h1 := coords_chunk t
  funext e s
  have he := e.isLt
  unfold colOf termOf
  have a1 : (grid0.coords t 1 : Fin 8) = ⟨t.val % 8 % 8, Nat.mod_lt _ (by decide)⟩ := by
    apply Fin.ext; show (grid0.coords t 1).val = _; rw [h1]; dsimp only; omega
  rw [a1]
  congr 1
  apply Fin.ext; show 2 * (grid0.coords t 0).val + e.val = _; rw [h0]; dsimp only; omega

/-! ## The run's data -/

/-- Each input's buffer holds its block; each output's what the chunks so far give. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => up2 (sumQ (X c) (t.val / 8) (t.val % 8 + 1))
    | ⟨8, _⟩ => up2 (tileK (X c) (t.val / 8) (t.val % 8))
    | ⟨9, _⟩ => up2 (tileV (X c) (t.val / 8) (t.val % 8))
    | ⟨10, _⟩ => up4 fun (_ : Fin 1) (_ : Fin 1) => tileC (X c) (t.val / 8) (t.val % 8)
    | ⟨11, _⟩ => up3 fun (_ : Fin 1) => sumR (X c) (t.val / 8) (t.val % 8 + 1)
  Φ _ := Pipeline.ΦA spec0 c
  q _ := fullShare
  owed _ := 0

theorem A_eq (c : Dev nD) (w : Fin cfg0.W) : (dats m X 0 c).A w = V m c (Pipeline.arrRef spec0 w) := by
  dsimp only [dats]

theorem after0_0 (c : Dev nD) (t : Fin cfg0.N) : (dats m X 0 c).after 0 t = iblk m c 0 t := by dsimp only [dats]
theorem after0_1 (c : Dev nD) (t : Fin cfg0.N) : (dats m X 0 c).after 1 t = iblk m c 1 t := by dsimp only [dats]
theorem after0_2 (c : Dev nD) (t : Fin cfg0.N) : (dats m X 0 c).after 2 t = iblk m c 2 t := by dsimp only [dats]
theorem after0_3 (c : Dev nD) (t : Fin cfg0.N) : (dats m X 0 c).after 3 t = iblk m c 3 t := by dsimp only [dats]
theorem after0_4 (c : Dev nD) (t : Fin cfg0.N) : (dats m X 0 c).after 4 t = iblk m c 4 t := by dsimp only [dats]
theorem after0_5 (c : Dev nD) (t : Fin cfg0.N) : (dats m X 0 c).after 5 t = iblk m c 5 t := by dsimp only [dats]
theorem after0_6 (c : Dev nD) (t : Fin cfg0.N) : (dats m X 0 c).after 6 t = iblk m c 6 t := by dsimp only [dats]
theorem after0_7 (c : Dev nD) (t : Fin cfg0.N) : (dats m X 0 c).after 7 t = up2 (sumQ (X c) (t.val / 8) (t.val % 8 + 1)) := by dsimp only [dats]
theorem after0_8 (c : Dev nD) (t : Fin cfg0.N) : (dats m X 0 c).after 8 t = up2 (tileK (X c) (t.val / 8) (t.val % 8)) := by dsimp only [dats]
theorem after0_9 (c : Dev nD) (t : Fin cfg0.N) : (dats m X 0 c).after 9 t = up2 (tileV (X c) (t.val / 8) (t.val % 8)) := by dsimp only [dats]
theorem after0_10 (c : Dev nD) (t : Fin cfg0.N) : (dats m X 0 c).after 10 t = (up4 fun (_ : Fin 1) (_ : Fin 1) => tileC (X c) (t.val / 8) (t.val % 8)) := by dsimp only [dats]
theorem after0_11 (c : Dev nD) (t : Fin cfg0.N) : (dats m X 0 c).after 11 t = (up3 fun (_ : Fin 1) => sumR (X c) (t.val / 8) (t.val % 8 + 1)) := by dsimp only [dats]
theorem before0_0 (c : Dev nD) (t : Fin cfg0.N) (d) : (dats m X 0 c).before 0 t d = iblk m c 0 t :=
  before0_0_of m (dats m X 0 c) (A_eq m X c 0) (after0_0 m X c) t d
theorem before0_1 (c : Dev nD) (t : Fin cfg0.N) (d) : (dats m X 0 c).before 1 t d = iblk m c 1 t :=
  before0_1_of m (dats m X 0 c) (A_eq m X c 1) (after0_1 m X c) t d
theorem before0_2 (c : Dev nD) (t : Fin cfg0.N) (d) : (dats m X 0 c).before 2 t d = iblk m c 2 t :=
  before0_2_of m (dats m X 0 c) (A_eq m X c 2) (after0_2 m X c) t d
theorem before0_3 (c : Dev nD) (t : Fin cfg0.N) (d) : (dats m X 0 c).before 3 t d = iblk m c 3 t :=
  before0_3_of m (dats m X 0 c) (A_eq m X c 3) (after0_3 m X c) t d
theorem before0_4 (c : Dev nD) (t : Fin cfg0.N) (d) : (dats m X 0 c).before 4 t d = iblk m c 4 t :=
  before0_4_of m (dats m X 0 c) (A_eq m X c 4) (after0_4 m X c) t d
theorem before0_5 (c : Dev nD) (t : Fin cfg0.N) (d) : (dats m X 0 c).before 5 t d = iblk m c 5 t :=
  before0_5_of m (dats m X 0 c) (A_eq m X c 5) (after0_5 m X c) t d
theorem before0_6 (c : Dev nD) (t : Fin cfg0.N) (d) : (dats m X 0 c).before 6 t d = iblk m c 6 t :=
  before0_6_of m (dats m X 0 c) (A_eq m X c 6) (after0_6 m X c) t d
/-- After the pair's first chunk an accumulated output's buffer holds what the chunks before gave. -/
theorem before0_7 (c : Dev nD) (t : Fin cfg0.N) (h0 : ¬t.val % 8 = 0) (d) : (dats m X 0 c).before 7 t d = up2 (sumQ (X c) (t.val / 8) (t.val % 8)) := by
  have ht : t.val ≠ 0 := fun h => h0 (by rw [h])
  rw [(dats m X 0 c).before_out_kept 7 rfl t ht (by
      rw [Bool.eq_false_iff]; intro hf; have := (flush0_7 _).mp hf; dsimp only at this; omega) (fun _ => rfl) (fun _ _ => rfl) d, after0_7]
  rw [show ((⟨t.val - 1, Nat.lt_of_le_of_lt (Nat.sub_le _ _) t.isLt⟩ : Fin cfg0.N).val / 8) = t.val / 8 by dsimp only; omega,
    show ((⟨t.val - 1, Nat.lt_of_le_of_lt (Nat.sub_le _ _) t.isLt⟩ : Fin cfg0.N).val % 8 + 1) = t.val % 8 by dsimp only; omega]
/-- After the pair's first chunk an accumulated output's buffer holds what the chunks before gave. -/
theorem before0_11 (c : Dev nD) (t : Fin cfg0.N) (h0 : ¬t.val % 8 = 0) (d) : (dats m X 0 c).before 11 t d = (up3 fun (_ : Fin 1) => sumR (X c) (t.val / 8) (t.val % 8)) := by
  have ht : t.val ≠ 0 := fun h => h0 (by rw [h])
  rw [(dats m X 0 c).before_out_kept 11 rfl t ht (by
      rw [Bool.eq_false_iff]; intro hf; have := (flush0_11 _).mp hf; dsimp only at this; omega) (fun _ => rfl) (fun _ _ => rfl) d, after0_11]
  rw [show ((⟨t.val - 1, Nat.lt_of_le_of_lt (Nat.sub_le _ _) t.isLt⟩ : Fin cfg0.N).val / 8) = t.val / 8 by dsimp only; omega,
    show ((⟨t.val - 1, Nat.lt_of_le_of_lt (Nat.sub_le _ _) t.isLt⟩ : Fin cfg0.N).val % 8 + 1) = t.val % 8 by dsimp only; omega]
/-- What the body is called with at point `t`, and what it returns. -/
def bodyPre (c : Dev nD) (t : Fin cfg0.N) : sProp 𝕄 :=
  iprop((dats m X 0 c).Φ t.castSucc ∗ (dats m X 0 c).owesAt () t.castSucc
    ∗ (∃ d, owns (c : Thread nD τ) (ms0_0 t) fullShare ((dats m X 0 c).before 0 t d))
    ∗ (∃ d, owns (c : Thread nD τ) (ms0_1 t) fullShare ((dats m X 0 c).before 1 t d))
    ∗ (∃ d, owns (c : Thread nD τ) (ms0_2 t) fullShare ((dats m X 0 c).before 2 t d))
    ∗ (∃ d, owns (c : Thread nD τ) (ms0_3 t) fullShare ((dats m X 0 c).before 3 t d))
    ∗ (∃ d, owns (c : Thread nD τ) (ms0_4 t) fullShare ((dats m X 0 c).before 4 t d))
    ∗ (∃ d, owns (c : Thread nD τ) (ms0_5 t) fullShare ((dats m X 0 c).before 5 t d))
    ∗ (∃ d, owns (c : Thread nD τ) (ms0_6 t) fullShare ((dats m X 0 c).before 6 t d))
    ∗ (∃ d, owns (c : Thread nD τ) (ms0_7 t) fullShare ((dats m X 0 c).before 7 t d))
    ∗ (∃ d, owns (c : Thread nD τ) (ms0_8 t) fullShare ((dats m X 0 c).before 8 t d))
    ∗ (∃ d, owns (c : Thread nD τ) (ms0_9 t) fullShare ((dats m X 0 c).before 9 t d))
    ∗ (∃ d, owns (c : Thread nD τ) (ms0_10 t) fullShare ((dats m X 0 c).before 10 t d))
    ∗ (∃ d, owns (c : Thread nD τ) (ms0_11 t) fullShare ((dats m X 0 c).before 11 t d)))
def bodyPost (c : Dev nD) (t : Fin cfg0.N) : sProp 𝕄 :=
  iprop((dats m X 0 c).Φ t.succ ∗ (dats m X 0 c).owesAt () t.succ
    ∗ owns (c : Thread nD τ) (ms0_0 t) fullShare ((dats m X 0 c).after 0 t)
    ∗ owns (c : Thread nD τ) (ms0_1 t) fullShare ((dats m X 0 c).after 1 t)
    ∗ owns (c : Thread nD τ) (ms0_2 t) fullShare ((dats m X 0 c).after 2 t)
    ∗ owns (c : Thread nD τ) (ms0_3 t) fullShare ((dats m X 0 c).after 3 t)
    ∗ owns (c : Thread nD τ) (ms0_4 t) fullShare ((dats m X 0 c).after 4 t)
    ∗ owns (c : Thread nD τ) (ms0_5 t) fullShare ((dats m X 0 c).after 5 t)
    ∗ owns (c : Thread nD τ) (ms0_6 t) fullShare ((dats m X 0 c).after 6 t)
    ∗ owns (c : Thread nD τ) (ms0_7 t) fullShare ((dats m X 0 c).after 7 t)
    ∗ owns (c : Thread nD τ) (ms0_8 t) fullShare ((dats m X 0 c).after 8 t)
    ∗ owns (c : Thread nD τ) (ms0_9 t) fullShare ((dats m X 0 c).after 9 t)
    ∗ owns (c : Thread nD τ) (ms0_10 t) fullShare ((dats m X 0 c).after 10 t)
    ∗ owns (c : Thread nD τ) (ms0_11 t) fullShare ((dats m X 0 c).after 11 t))

/-- A run's five outputs replaced by their values. -/
theorem at_values {A B C D E : Type} {P : A → B → C → D → E → Prop} (R : Σ' (a : A) (b : B) (c : C) (d : D), {e : E // P a b c d e}) {a : A} {b : B} {c : C} {d : D} {e : E}
    (h1 : R.1 = a) (h2 : R.2.1 = b) (h3 : R.2.2.1 = c) (h4 : R.2.2.2.1 = d) (h5 : R.2.2.2.2.1 = e) : P a b c d e := by
  obtain ⟨a', b', c', d', e', h⟩ := R
  dsimp only at h1 h2 h3 h4 h5
  subst h1; subst h2; subst h3; subst h4; subst h5
  exact h

set_option maxHeartbeats 2400000 in
include H in
/-- The body at a pair's first chunk. -/
theorem soundA (c : Dev nD) (t : Fin cfg0.N) (h0 : t.val % 8 = 0) :
    bodyPre m X c t ⊢ wp frame (wpE (defs₀ (F := Ideal)) Variants.none c none) Set.univ (bodyAt0 t) (fun _ => bodyPost m X c t) := by
  unfold bodyPre bodyPost bodyAt0
  simp only [before0_0, before0_1, before0_2, before0_3, before0_4, before0_5, before0_6]
  have E7 : sumQ (X c) (t.val / 8) (t.val % 8 + 1) = partQ (X c) (t.val / 8) (t.val % 8) := by
    funext r l; unfold sumQ; rw [h0, Finset.sum_range_one]
  have E11 : sumR (X c) (t.val / 8) (t.val % 8 + 1) = partR (X c) (t.val / 8) (t.val % 8) := by
    funext r l; unfold sumR; rw [h0, Finset.sum_range_one]
  rw [show (dats m X 0 c).Φ t.succ = (dats m X 0 c).Φ t.castSucc from rfl,
    show (dats m X 0 c).owesAt () t.succ = (dats m X 0 c).owesAt () t.castSucc from rfl,
    after0_0, after0_1, after0_2, after0_3, after0_4, after0_5, after0_6, after0_7, after0_8, after0_9, after0_10, after0_11, iblk0 m X H, iblk1 m X H, iblk2 m X H, iblk3 m X H, iblk4 m X H, iblk5 m X H, iblk6 m X H, E7, E11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨v7, v8, v9, v10, v11⟩ := bodyA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) ((hcond0_0 t).mpr h0) ((dats m X 0 c).before 7 t d7) ((dats m X 0 c).before 8 t d8) ((dats m X 0 c).before 9 t d9) ((dats m X 0 c).before 10 t d10) ((dats m X 0 c).before 11 t d11) (tileOf (X c).k (t.val / 8) (t.val % 8)) (tileOf (X c).v (t.val / 8) (t.val % 8)) (X c).ct (colsOf (X c).q (t.val / 8)) (colsOf (X c).d (t.val / 8)) (colsOf (X c).o (t.val / 8)) (lseOf (X c).l (t.val / 8))
  rw [colOf_point, coords_chunk] at v7 v8 v9 v10 v11
  have W := at_values (runA (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) ((hcond0_0 t).mpr h0) (up2 (colsOf (X c).q (t.val / 8))) (up2 (colsOf (X c).d (t.val / 8))) (up2 (colsOf (X c).o (t.val / 8))) (up3 fun (_ : Fin 1) => lseOf (X c).l (t.val / 8)) (up3 (X c).ct) (up2 (tileOf (X c).k (t.val / 8) (t.val % 8))) (up2 (tileOf (X c).v (t.val / 8) (t.val % 8))) ((dats m X 0 c).before 7 t d7) ((dats m X 0 c).before 8 t d8) ((dats m X 0 c).before 9 t d9) ((dats m X 0 c).before 10 t d10) ((dats m X 0 c).before 11 t d11)) v7 v8 v9 v10 v11
  iapply (W Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 2400000 in
include H in
/-- The body at a pair's every later chunk. -/
theorem soundB (c : Dev nD) (t : Fin cfg0.N) (h0 : ¬t.val % 8 = 0) :
    bodyPre m X c t ⊢ wp frame (wpE (defs₀ (F := Ideal)) Variants.none c none) Set.univ (bodyAt0 t) (fun _ => bodyPost m X c t) := by
  unfold bodyPre bodyPost bodyAt0
  simp only [before0_0, before0_1, before0_2, before0_3, before0_4, before0_5, before0_6, before0_7 m X c t h0, before0_11 m X c t h0]
  have E7 : sumQ (X c) (t.val / 8) (t.val % 8 + 1) = fun r l => sumQ (X c) (t.val / 8) (t.val % 8) r l + partQ (X c) (t.val / 8) (t.val % 8) r l := by
    funext r l; unfold sumQ; rw [Finset.sum_range_succ]
  have E11 : sumR (X c) (t.val / 8) (t.val % 8 + 1) = fun r l => sumR (X c) (t.val / 8) (t.val % 8) r l + partR (X c) (t.val / 8) (t.val % 8) r l := by
    funext r l; unfold sumR; rw [Finset.sum_range_succ]
  rw [show (dats m X 0 c).Φ t.succ = (dats m X 0 c).Φ t.castSucc from rfl,
    show (dats m X 0 c).owesAt () t.succ = (dats m X 0 c).owesAt () t.castSucc from rfl,
    after0_0, after0_1, after0_2, after0_3, after0_4, after0_5, after0_6, after0_7, after0_8, after0_9, after0_10, after0_11, iblk0 m X H, iblk1 m X H, iblk2 m X H, iblk3 m X H, iblk4 m X H, iblk5 m X H, iblk6 m X H, E7, E11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨v7, v8, v9, v10, v11⟩ := bodyB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (fun h => h0 ((hcond0_0 t).mp h)) ((dats m X 0 c).before 8 t d8) ((dats m X 0 c).before 9 t d9) ((dats m X 0 c).before 10 t d10) (tileOf (X c).k (t.val / 8) (t.val % 8)) (tileOf (X c).v (t.val / 8) (t.val % 8)) (X c).ct (colsOf (X c).q (t.val / 8)) (colsOf (X c).d (t.val / 8)) (colsOf (X c).o (t.val / 8)) (lseOf (X c).l (t.val / 8)) (sumQ (X c) (t.val / 8) (t.val % 8)) (sumR (X c) (t.val / 8) (t.val % 8))
  rw [colOf_point, coords_chunk] at v7 v8 v9 v10 v11
  have W := at_values (runB (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (fun h => h0 ((hcond0_0 t).mp h)) (up2 (colsOf (X c).q (t.val / 8))) (up2 (colsOf (X c).d (t.val / 8))) (up2 (colsOf (X c).o (t.val / 8))) (up3 fun (_ : Fin 1) => lseOf (X c).l (t.val / 8)) (up3 (X c).ct) (up2 (tileOf (X c).k (t.val / 8) (t.val % 8))) (up2 (tileOf (X c).v (t.val / 8) (t.val % 8))) (up2 (sumQ (X c) (t.val / 8) (t.val % 8))) ((dats m X 0 c).before 8 t d8) ((dats m X 0 c).before 9 t d9) ((dats m X 0 c).before 10 t d10) (up3 fun (_ : Fin 1) => sumR (X c) (t.val / 8) (t.val % 8))) v7 v8 v9 v10 v11
  iapply (W Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.KernelIdeal.Val

end
-- ==== Proof.Soft.lean ====
/- The attention of one device over the reals, written plainly: masked scores, their exponentials, the probabilities, the output and
   the gradient of the scores; and what the kernel's tiles are in these terms. -/
module

public import proofs.«01_k».proof.Proof.Steps

@[expose] public section

set_option maxRecDepth 16384

noncomputable section

namespace Cert.KernelIdeal.Val

open Cert.KernelIdeal.Hand

/-- Column `x` of head `h`. -/
def cl (h : Fin 8) (x : Fin 64) : Fin 512 := ⟨64 * h.val + x.val, by omega⟩
/-- Row `s` of chunk `j`. -/
def rowAt (j : ℕ) (s : Fin 256) : Fin 2048 := ⟨(256 * j + s.val) % 2048, Nat.mod_lt _ (by norm_num)⟩

section
variable (q k v d : Fin 2048 → Fin 512 → ℝ) (c : Fin 2048 → Fin 8 → ℝ) (T : Fin 8 → Fin 2048 → ℝ) (h : Fin 8) (r s : Fin 2048)
/-- The scores with their row and column terms. -/
def sco : ℝ := (∑ x, q r (cl h x) * k s (cl h x)) * (1 / 8) + (c r h + -c s h)
/-- Their exponentials below the diagonal, each row shifted by `T`. -/
def expo : ℝ := if s ≤ r then Real.exp (sco q k c h r s - T h r) else 0
/-- Each row's sum, the probabilities, the output, and the gradient of the scores. -/
def tot : ℝ := ∑ s, expo q k c T h r s
def prob : ℝ := expo q k c T h r s / tot q k c T h r
def attn (x : Fin 64) : ℝ := ∑ s, prob q k c T h r s * v s (cl h x)
def dprob : ℝ := ∑ x, d r (cl h x) * v s (cl h x)
def dsco : ℝ := prob q k c T h r s * (dprob v d h r s - ∑ x, d r (cl h x) * attn q k v c T h r x)
/-- Each row's log-sum, without the row's own term. -/
def lsum : ℝ := T h r + Real.log (tot q k c T h r) - c r h

theorem expo_nonneg : 0 ≤ expo q k c T h r s := by
  unfold expo; split_ifs <;> positivity
theorem tot_pos : 0 < tot q k c T h r :=
  Finset.sum_pos' (fun s _ => expo_nonneg q k c T h r s) ⟨r, Finset.mem_univ _, by unfold expo; rw [if_pos le_rfl]; exact Real.exp_pos _⟩
theorem expo_above (hs : ¬s ≤ r) : expo q k c T h r s = 0 := if_neg hs
theorem prob_above (hs : ¬s ≤ r) : prob q k c T h r s = 0 := by unfold prob; rw [expo_above q k c T h r s hs, zero_div]
theorem dsco_above (hs : ¬s ≤ r) : dsco q k v d c T h r s = 0 := by unfold dsco; rw [prob_above q k c T h r s hs, zero_mul]
/-- A probability from its score, its row's log-sum and its column's term. -/
theorem prob_exp (hs : s ≤ r) : Real.exp ((∑ x, q r (cl h x) * k s (cl h x)) * (1 / 8) - c s h - lsum q k c T h r) = prob q k c T h r s := by
  unfold prob expo; rw [if_pos hs, lsum, sco]
  rw [show (∑ x, q r (cl h x) * k s (cl h x)) * (1 / 8) - c s h - (T h r + Real.log (tot q k c T h r) - c r h)
    = ((∑ x, q r (cl h x) * k s (cl h x)) * (1 / 8) + (c r h + -c s h) - T h r) - Real.log (tot q k c T h r) by ring,
    Real.exp_sub, Real.exp_log (tot_pos q k c T h r)]
end

/-- What the call finds: the arguments, the output and the log-sums. -/
def found (q k v d : Fin 2048 → Fin 512 → ℝ) (c : Fin 2048 → Fin 8 → ℝ) (T : Fin 8 → Fin 2048 → ℝ) : Reals where
  q := q
  k := k
  v := v
  d := d
  o := fun r l => attn q k v c T ⟨l.val / 64, by omega⟩ r ⟨l.val % 64, by omega⟩
  l := fun p r l => if h : l.val < 2 then lsum q k c T ⟨2 * p.val + l.val, by omega⟩ r else 0
  ct := fun j h s => c ⟨256 * j.val + s.val, by omega⟩ h

/-- Head `e` of pair `p`. -/
def hd (p : Fin 4) (e : Fin 2) : Fin 8 := ⟨2 * p.val + e.val, by omega⟩

/-- Lane of column `x` of a pair's head `e`. -/
def ln (e : Fin 2) (x : Fin 64) : Fin 128 := ⟨64 * e.val + x.val, by omega⟩

/-- A sum over one head's lanes of a pair. -/
theorem sum_lanes (f : Fin 128 → ℝ) (e : Fin 2) : (∑ l, if inh e l then f l else 0) = ∑ x : Fin 64, f (ln e x) := by
  rw [← Fintype.sum_equiv (finProdFinEquiv (m := 2) (n := 64)) (fun y => if inh e (finProdFinEquiv y) then f (finProdFinEquiv y) else 0) _ fun y => rfl,
    Fintype.sum_prod_type, Finset.sum_eq_single e]
  · refine Finset.sum_congr rfl fun x _ => ?_
    rw [if_pos]
    · congr 1; apply Fin.ext; show x.val + 64 * e.val = 64 * e.val + x.val; omega
    · unfold inh; apply decide_eq_true; show (x.val + 64 * e.val) / 64 = e.val; omega
  · intro y _ hy
    refine Finset.sum_eq_zero fun x _ => if_neg ?_
    unfold inh; rw [decide_eq_true_eq]
    intro hh; apply hy; apply Fin.ext
    have : (x.val + 64 * y.val) / 64 = e.val := hh
    omega
  · intro hh; exact absurd (Finset.mem_univ _) hh

/-- A sum over all rows, by chunks. -/
theorem sum_chunks (f : Fin 2048 → ℝ) : ∑ s, f s = ∑ j ∈ Finset.range 8, ∑ s : Fin 256, f (rowAt j s) := by
  rw [← Fintype.sum_equiv (finProdFinEquiv (m := 8) (n := 256)) (fun y => f (finProdFinEquiv y)) _ fun y => rfl,
    Fintype.sum_prod_type, Finset.sum_range]
  refine Finset.sum_congr rfl fun j _ => Finset.sum_congr rfl fun s _ => ?_
  congr 1; apply Fin.ext
  show s.val + 256 * j.val = (256 * j.val + s.val) % 2048
  omega

section
variable (q k v d : Fin 2048 → Fin 512 → ℝ) (c : Fin 2048 → Fin 8 → ℝ) (T : Fin 8 → Fin 2048 → ℝ)
variable (p : Fin 4) (e : Fin 2) (b j : ℕ) (hj : j < 8)

theorem cols_apply (f : Fin 2048 → Fin 512 → ℝ) (r : Fin 256) (x : Fin 64) :
    blk b (colsOf f p.val) r (ln e x) = f (rowAt b r) (cl (hd p e) x) := by
  unfold blk colsOf rowAt cl hd ln
  congr 1; apply Fin.ext; dsimp only; omega
theorem tile_apply (f : Fin 2048 → Fin 512 → ℝ) (s : Fin 256) (x : Fin 64) :
    tileOf f p.val j s (ln e x) = f (rowAt j s) (cl (hd p e) x) := by
  unfold tileOf rowAt cl hd ln
  congr 1
  · apply Fin.ext; dsimp only; omega
  · apply Fin.ext; dsimp only; omega

/-- A tile's scores, gradient products and output products, as sums over a head's columns. -/
theorem tile_scores (r s : Fin 256) : ∑ l, blk b (colsOf q p.val) r l * tK (tileOf k p.val j) e s l = (∑ x, q (rowAt b r) (cl (hd p e) x) * k (rowAt j s) (cl (hd p e) x)) * (1 / 8) := by
  have : ∀ l, blk b (colsOf q p.val) r l * tK (tileOf k p.val j) e s l = if inh e l then blk b (colsOf q p.val) r l * (tileOf k p.val j s l * (1 / 8)) else 0 := by
    intro l; unfold tK; split_ifs <;> simp
  rw [Finset.sum_congr rfl fun l _ => this l, sum_lanes, Finset.sum_mul]
  refine Finset.sum_congr rfl fun x _ => ?_
  rw [cols_apply, tile_apply]; ring
theorem tile_dprob (r s : Fin 256) : ∑ l, blk b (colsOf d p.val) r l * tV (tileOf v p.val j) e s l = dprob v d (hd p e) (rowAt b r) (rowAt j s) := by
  have : ∀ l, blk b (colsOf d p.val) r l * tV (tileOf v p.val j) e s l = if inh e l then blk b (colsOf d p.val) r l * tileOf v p.val j s l else 0 := by
    intro l; unfold tV; split_ifs <;> simp
  rw [Finset.sum_congr rfl fun l _ => this l, sum_lanes]; unfold dprob
  refine Finset.sum_congr rfl fun x _ => ?_
  rw [cols_apply, tile_apply]
theorem tile_outs (r : Fin 256) : tD (blk b (colsOf d p.val)) (blk b (colsOf (found q k v d c T).o p.val)) e r
    = ∑ x, d (rowAt b r) (cl (hd p e) x) * attn q k v c T (hd p e) (rowAt b r) x := by
  unfold tD; rw [sum_lanes]
  refine Finset.sum_congr rfl fun x _ => ?_
  rw [cols_apply, cols_apply]; congr 1
  show attn q k v c T ⟨(64 * (hd p e).val + x.val) / 64, _⟩ _ ⟨(64 * (hd p e).val + x.val) % 64, _⟩ = _
  congr 1
  · apply Fin.ext; dsimp only; omega
  · apply Fin.ext; dsimp only; omega
include hj in
theorem tile_term (s : Fin 256) : termOf (found q k v d c T).ct p.val j e s = c (rowAt j s) (hd p e) := by
  show c ⟨256 * (j % 8) + s.val, _⟩ ⟨(2 * p.val + e.val) % 8, _⟩ = _
  unfold rowAt hd
  congr 1
  · apply Fin.ext; dsimp only; omega
  · apply Fin.ext; dsimp only; omega
theorem tile_lsum (r : Fin 256) : blk b (lseOf (found q k v d c T).l p.val) r (lane e) = lsum q k c T (hd p e) (rowAt b r) := by
  show (if h : e.val < 2 then lsum q k c T ⟨2 * (p.val % 4) + e.val, _⟩ _ else 0) = _
  rw [dif_pos e.isLt]; unfold hd rowAt
  congr 1
  apply Fin.ext; dsimp only; omega

variable (m : Fin 256 → Fin 256 → Bool) (hm : ∀ r s, m r s = true ↔ rowAt j s ≤ rowAt b r)

include hj hm in
/-- A tile's probabilities. -/
theorem bP_eq (r s : Fin 256) : bP (tileOf k p.val j) (termOf (found q k v d c T).ct p.val j) (colsOf q p.val) (lseOf (found q k v d c T).l p.val) b m e r s
    = prob q k c T (hd p e) (rowAt b r) (rowAt j s) := by
  unfold bP tP
  rw [tile_scores, tile_term q k v d c T p e j hj, tile_lsum]
  by_cases h : m r s = true
  · rw [if_pos h, prob_exp _ _ _ _ _ _ _ ((hm r s).mp h)]
  · rw [if_neg h, prob_above _ _ _ _ _ _ _ fun h' => h ((hm r s).mpr h')]
include hj hm in
/-- A tile's score gradients. -/
theorem bS_eq (r s : Fin 256) : bS (tileOf k p.val j) (tileOf v p.val j) (termOf (found q k v d c T).ct p.val j) (colsOf q p.val) (colsOf d p.val) (colsOf (found q k v d c T).o p.val) (lseOf (found q k v d c T).l p.val) b m e r s
    = dsco q k v d c T (hd p e) (rowAt b r) (rowAt j s) := by
  have hP := bP_eq q k v d c T p e b j hj m hm r s
  unfold bP at hP
  unfold bS tS
  rw [hP, tile_dprob, tile_outs]; rfl
end

theorem tri_mask (j : ℕ) (hj : j < 8) (r s : Fin 256) : mTri r s = true ↔ rowAt j s ≤ rowAt j r := by
  unfold mTri rowAt; rw [decide_eq_true_eq, Fin.mk_le_mk]; omega
theorem all_mask (b j : ℕ) (hb : b < 8) (h : j < b) (r s : Fin 256) : mAll r s = true ↔ rowAt j s ≤ rowAt b r := by
  unfold mAll rowAt; rw [Fin.mk_le_mk]; refine ⟨fun _ => by omega, fun _ => rfl⟩
theorem above (b j : ℕ) (hj : j < 8) (h : b < j) (r s : Fin 256) : ¬rowAt j s ≤ rowAt b r := by
  unfold rowAt; rw [Fin.mk_le_mk]; omega

/-- A block row's sum over chunks: the diagonal tile where its block is the chunk's, a lower tile where it is later. -/
theorem sum_rows (F : ℕ → Fin 256 → Fin 128 → ℝ) (F' : ℕ → ℕ → Fin 256 → Fin 128 → ℝ) (G : ℕ → ℝ) (b : ℕ) (hb : b < 8) (ρ : Fin 256) (l : Fin 128)
    (r : Fin 2048) (hr : r.val = 256 * b + ρ.val) (h0 : F b ρ l = G b) (h1 : ∀ j, j < b → F' j b ρ l = G j) (h2 : ∀ j, j < 8 → b < j → G j = 0) :
    ∑ j ∈ Finset.range 8, (putb j (F j) r l + ∑ n ∈ Finset.range (7 - j), putb (j + 1 + n) (F' j (j + 1 + n)) r l) = ∑ j ∈ Finset.range 8, G j := by
  have hd : r.val / 256 = b := by omega
  have hm : (⟨r.val % 256, Nat.mod_lt _ (by norm_num)⟩ : Fin 256) = ρ := Fin.ext (by dsimp only; omega)
  refine Finset.sum_congr rfl fun j hj => ?_
  have hj := Finset.mem_range.mp hj
  unfold putb
  rw [hd, hm]
  rcases Nat.lt_trichotomy j b with hlt | heq | hgt
  · rw [if_neg (by omega), zero_add, Finset.sum_eq_single (b - j - 1)]
    · rw [if_pos (by omega), show j + 1 + (b - j - 1) = b by omega, h1 j hlt]
    · intro n _ hn; exact if_neg (by omega)
    · intro hn; exact absurd (Finset.mem_range.mpr (by omega)) hn
  · subst heq
    rw [if_pos rfl, h0, Finset.sum_eq_zero fun n _ => if_neg (by omega), add_zero]
  · rw [if_neg (by omega), zero_add, h2 j hj hgt]
    exact Finset.sum_eq_zero fun n _ => if_neg (by omega)

/-- A chunk's sum over the blocks from its own on. -/
theorem sum_from (G : ℕ → ℝ) (j : ℕ) (hj : j < 8) (h : ∀ b, b < j → G b = 0) :
    G j + ∑ n ∈ Finset.range (7 - j), G (j + 1 + n) = ∑ b ∈ Finset.range 8, G b := by
  interval_cases j <;> simp [Finset.sum_range_succ, h] <;> ring

end Cert.KernelIdeal.Val

end
-- ==== Proof.RefVal.lean ====
/- What the reference computes from real arrays: its scores, their exponentials, the row sums, the probabilities and the attention output, which the
   kernel's host operations compute too. -/
module

public import proofs.«01_k».proof.Proof.Gen.ReferenceIdeal.Read
public import proofs.«01_k».proof.Proof.Soft
public import Idealize.ShloMosaic.Lib.SortNet.Extract

@[expose] public section

set_option maxRecDepth 16384
set_option backward.isDefEq.respectTransparency false

noncomputable section

namespace Cert.ReferenceIdeal.Real

open Idealize.ShloMosaic Idealize.ShloMosaic.TcCoe Idealize.ShloMosaic.Tactic
open Cert.ReferenceIdeal.Gen Cert.ReferenceIdeal.Read
open Cert.KernelIdeal.Hand (up2 up3 up4 coe_sum)
open Cert.KernelIdeal.Val (cl sco expo tot prob attn dprob dsco lsum tot_pos)

variable (q k v d : Fin 2048 → Fin 512 → ℝ) (c : Fin 2048 → Fin 8 → ℝ) (T : Fin 8 → Fin 2048 → ℝ)

/-! The constants. -/
theorem bot_bits : FloatOps.ofBits (F := Ideal) .f32 0xFF800000#32 = (⊥ : EReal) := by
  simp [Ideal.ofBits, Ideal.ieee]
theorem zero_bits : FloatOps.ofBits (F := Ideal) .f32 0x00000000#32 = ((0 : ℝ) : EReal) := by
  simp [Ideal.ofBits, Ideal.ieee]
theorem one_bits : FloatOps.ofBits (F := Ideal) .f32 0x3F800000#32 = ((1 : ℝ) : EReal) := by
  simp [Ideal.ofBits, Ideal.ieee, -EReal.coe_mul]; norm_num
theorem eighth_bits : FloatOps.ofBits (F := Ideal) .f32 0x3E000000#32 = ((1 / 8 : ℝ) : EReal) := by
  simp [Ideal.ofBits, Ideal.ieee, -EReal.coe_mul]; norm_num

/-! The heads of the four arrays. -/
theorem heads_q : val_main_v5 (F := Ideal) (up2 q) = up3 fun h r x => q r (cl h x) := by
  funext i
  rw [val_main_v5_apply, val_main_v4_apply, val_main_v0_apply]
  have h0 : (i 0).val < 8 := (i 0).isLt; have h1 : (i 1).val < 2048 := (i 1).isLt; have h2 : (i 2).val < 64 := (i 2).isLt
  exact congrArg (fun z : ℝ => (z : EReal)) (congrArg₂ q (Fin.ext (show (((i 1).val * 8 + (i 0).val) * 64 + (i 2).val) / 512 = (i 1).val by omega))
    (Fin.ext (show (((i 1).val * 8 + (i 0).val) * 64 + (i 2).val) % 512 = 64 * (i 0).val + (i 2).val by omega)))
theorem heads_k : val_main_v7 (F := Ideal) (up2 k) = up3 fun h r x => k r (cl h x) := heads_q k
theorem heads_v : val_main_v57 (F := Ideal) (up2 v) = up3 fun h r x => v r (cl h x) := heads_q v
theorem heads_d : val_main_v62 (F := Ideal) (up2 d) = up3 fun h r x => d r (cl h x) := heads_q d

/-! The scores. -/
theorem products : val_main_v8 (F := Ideal) (up2 q) (up2 k) = up3 fun h r s => ∑ x, q r (cl h x) * k s (cl h x) := by
  funext i
  rw [val_main_v8_apply, heads_q, heads_k]
  show _ = ((∑ x, q _ _ * k _ _ : ℝ) : EReal)
  rw [coe_sum]
  exact Finset.sum_congr rfl fun x _ => (EReal.coe_mul _ _).symm
theorem scores : val_main_v18 (F := Ideal) (up2 q) (up2 k) (up2 c) = up3 (sco q k c) := by
  funext i
  rw [val_main_v18_apply, val_main_v10_apply, products, val_main_v9_apply, val_main_cst_apply, eighth_bits, val_main_v17_apply, val_main_v15_apply, val_main_v12_apply,
    val_main_v11_apply, val_main_v16_apply, val_main_v14_apply, val_main_v13_apply, val_main_v3_apply]
  show ((∑ x, q _ _ * k _ _ : ℝ) : EReal) * ((1 / 8 : ℝ) : EReal) + (((c (i 1) (i 0) : ℝ) : EReal) + -((c (i 2) (i 0) : ℝ) : EReal)) = ((sco q k c (i 0) (i 1) (i 2) : ℝ) : EReal)
  rw [← EReal.coe_mul, ← EReal.coe_neg, ← EReal.coe_add, ← EReal.coe_add]; rfl
/-- The diagonal's mask. -/
theorem mask (i) : val_main_v27_1 (F := Ideal) i = if i 2 ≤ i 1 then 1#1 else 0#1 := by
  rw [val_main_v27_1_apply, val_main_v26_apply, val_main_v25_apply, val_main_v23_apply, val_main_v24_apply, val_main_v20_apply, val_main_v22_apply, val_main_v19_apply, val_main_v21_apply]
  have h1 : (i 1).val < 2048 := (i 1).isLt; have h2 : (i 2).val < 2048 := (i 2).isLt
  show IntOp.cmpi .sge (BitVec.ofNat 32 (i 1).val) (BitVec.ofNat 32 (i 2).val) = _
  rw [WordCmp.cmpi_sge_ofNat (by omega) (by omega)]
  by_cases h : (i 2).val ≤ (i 1).val
  · rw [if_pos (show i 2 ≤ i 1 from h), decide_eq_true h]; rfl
  · rw [if_neg (show ¬i 2 ≤ i 1 from h), decide_eq_false h]; rfl
theorem masked (i) : val_main_v27_0 (F := Ideal) (up2 q) (up2 k) (up2 c) i = if i 2 ≤ i 1 then ((sco q k c (i 0) (i 1) (i 2) : ℝ) : EReal) else ⊥ := by
  rw [val_main_v27_0_apply, scores, mask, val_main_call0_v2_apply, val_main_call0_v0_apply, val_main_cst_0_apply, bot_bits]
  split_ifs <;> rfl

/-! The rows' maxima are real: each row has an entry on the diagonal. -/
theorem tops : ∃ T : Fin 8 → Fin 2048 → ℝ, val_main_v28 (F := Ideal) (up2 q) (up2 k) (up2 c) = up2 T := by
  have key : ∀ i, ∃ t : ℝ, val_main_v28 (F := Ideal) (up2 q) (up2 k) (up2 c) i = (t : EReal) := by
    intro i
    unfold val_main_v28
    rw [Host.reduce_eq_foldl, val_main_cst_1_apply, bot_bits]
    generalize hl : ((List.finRange S8x2048x2048.numel).map S8x2048x2048.rowMajor.symm).filter
      (fun n => reducesTo_S8x2048x2048_S8x2048_d2.drop n = i) = l
    let f : S8x2048x2048.Idx → EReal := fun n => val_main_v27_0 (F := Ideal) (up2 q) (up2 k) (up2 c) n
    have top : ∀ n, f n ≠ ⊤ := fun n => by
      show val_main_v27_0 (F := Ideal) (up2 q) (up2 k) (up2 c) n ≠ ⊤
      rw [masked]; split_ifs
      · exact EReal.coe_ne_top _
      · exact bot_ne_top
    let n₀ : S8x2048x2048.Idx := fun a => match a with | ⟨0, _⟩ => i 0 | ⟨1, _⟩ => i 1 | ⟨2, _⟩ => i 1
    have diag : f n₀ ≠ ⊥ := by
      show val_main_v27_0 (F := Ideal) (up2 q) (up2 k) (up2 c) n₀ ≠ ⊥
      rw [masked, if_pos (show n₀ 2 ≤ n₀ 1 from le_refl (i 1))]; exact EReal.coe_ne_bot _
    have mem : n₀ ∈ l := by
      rw [← hl, List.mem_filter]
      refine ⟨List.mem_map.2 ⟨S8x2048x2048.rowMajor n₀, List.mem_finRange _, Equiv.symm_apply_apply _ _⟩, decide_eq_true (funext fun a => ?_)⟩
      match a with
      | ⟨0, _⟩ => rfl
      | ⟨1, _⟩ => rfl
    show ∃ t : ℝ, l.foldl (fun acc n => max acc (f n)) ⊥ = (t : EReal)
    have hb : l.foldl (fun acc n => max acc (f n)) ⊥ ≠ ⊥ := fun h => diag (le_bot_iff.1 (h ▸ (SortNet.le_foldl_max f l ⊥).2 n₀ mem))
    have ht : l.foldl (fun acc n => max acc (f n)) ⊥ ≠ ⊤ := by
      rcases SortNet.foldl_max_mem f l ⊥ with h | ⟨n, _, h⟩
      · rw [h]; exact bot_ne_top
      · rw [h]; exact top n
    exact ⟨_, (EReal.coe_toReal ht hb).symm⟩
  refine ⟨fun h r => (key (fun a => match a with | ⟨0, _⟩ => h | ⟨1, _⟩ => r)).choose, funext fun i => ?_⟩
  have := (key (fun a => match a with | ⟨0, _⟩ => i 0 | ⟨1, _⟩ => i 1)).choose_spec
  refine Eq.trans (congrArg _ (funext fun a => ?_)) this
  match a with
  | ⟨0, _⟩ => rfl
  | ⟨1, _⟩ => rfl

section
variable (hT : val_main_v28 (F := Ideal) (up2 q) (up2 k) (up2 c) = up2 T)
include hT

/-! The exponentials, the rows' sums and the probabilities. -/
theorem exp_shift (h : Fin 8) (r s : Fin 2048) :
    Ideal.exp ((if s ≤ r then ((sco q k c h r s : ℝ) : EReal) else ⊥) - ((T h r : ℝ) : EReal)) = ((expo q k c T h r s : ℝ) : EReal) := by
  unfold expo
  split_ifs
  · rw [← EReal.coe_sub, Ideal.exp_coe]
  · rw [EReal.bot_sub, Ideal.exp_bot]; rfl
theorem exps : val_main_v48 (F := Ideal) (up2 q) (up2 k) (up2 c) = up3 (expo q k c T) := by
  funext i
  rw [val_main_v48_apply, val_main_v47_apply, val_main_v46_apply, val_main_v45_apply, val_main_v35_apply, val_main_v34_apply, val_main_cst_3_apply, bot_bits, hT, masked]
  show Ideal.exp (_ - max ⊥ ((T (i 0) (i 1) : ℝ) : EReal)) = _
  rw [max_eq_right bot_le]
  exact exp_shift q k c T hT _ _ _
theorem sums : val_main_v49 (F := Ideal) (up2 q) (up2 k) (up2 c) = up2 (tot q k c T) := by
  funext i
  rw [val_main_v49_apply, exps q k c T hT, val_main_cst_9_apply, zero_bits]
  show ((0 : ℝ) : EReal) + _ = ((∑ s, expo q k c T (i 0) (i 1) s : ℝ) : EReal)
  rw [coe_sum, EReal.coe_zero, zero_add]; rfl
theorem sums3 (i) : val_main_v50 (F := Ideal) (up2 q) (up2 k) (up2 c) i = ((tot q k c T (i 0) (i 1) : ℝ) : EReal) := by
  rw [val_main_v50_apply, sums q k c T hT]; rfl
theorem div_tot (h : Fin 8) (r : Fin 2048) (x : ℝ) : Ideal.div (x : EReal) ((tot q k c T h r : ℝ) : EReal) = ((x / tot q k c T h r : ℝ) : EReal) := by
  rw [Ideal.div_coe (tot_pos q k c T h r).ne', ← EReal.coe_mul]; congr 1; ring
theorem probs : val_main_v52 (F := Ideal) (up2 q) (up2 k) (up2 c) = up3 (prob q k c T) := by
  funext i
  rw [val_main_v52_apply, exps q k c T hT, val_main_v51_apply, sums3 q k c T hT]
  exact div_tot q k c T hT _ _ _

/-! The attention output. -/
theorem outs : val_main_v58 (F := Ideal) (up2 q) (up2 k) (up2 v) (up2 c) = up3 (attn q k v c T) := by
  funext i
  rw [val_main_v58_apply, probs q k c T hT, heads_v]
  show _ = ((∑ s, prob q k c T (i 0) (i 1) s * v s (cl (i 0) (i 2)) : ℝ) : EReal)
  rw [coe_sum]
  exact Finset.sum_congr rfl fun x _ => (EReal.coe_mul _ _).symm
theorem output : val_main_v60 (F := Ideal) (up2 q) (up2 k) (up2 v) (up2 c) = up2 (Cert.KernelIdeal.Val.found q k v d c T).o := by
  funext i
  rw [val_main_v60_apply, val_main_v59_apply, outs q k v c T hT]
  have h0 : (i 0).val < 2048 := (i 0).isLt; have h1 : (i 1).val < 512 := (i 1).isLt
  show ((attn q k v c T _ _ _ : ℝ) : EReal) = ((attn q k v c T _ _ _ : ℝ) : EReal)
  congr 2
  · exact Fin.ext (show ((i 0).val * 512 + (i 1).val) / 64 % 8 = (i 1).val / 64 by omega)
  · exact Fin.ext (show ((i 0).val * 512 + (i 1).val) / 512 = (i 0).val by omega)
  · exact Fin.ext (show ((i 0).val * 512 + (i 1).val) % 64 = (i 1).val % 64 by omega)
end

end Cert.ReferenceIdeal.Real

end
-- ==== Proof.ValueRun.lean ====
/- The attention-gradient kernel's run over the reals: from arrays that hold real numbers, each of the five outputs ends at a
   closed sum over the grid's points. -/
module

public import proofs.«01_k».proof.Proof.Steps
public import Idealize.ShloMosaic.Lib.Claim

@[expose] public section

set_option maxRecDepth 16384
set_option backward.isDefEq.respectTransparency false

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Hand

local notation "𝕄" => MT nD τ sig Unit (Elt Ideal) ℕ (UR sig nD τ) ℕ

variable (m : (ℓ : Loc nD τ sig) → Buf (Elt Ideal) ℓ) (ρ : Dev nD → PrngReg) (X : Dev nD → Reals)

/-- The body table's row at a point is the body there. -/
theorem body_obligation (H : ∀ c, Holds m c (X c)) (c : Dev nD) : BodyObligation (dats m X 0 c) (defs₀ (F := Ideal)) Variants.none () Set.univ := fun t => by
  rw [bigSep_W0, bigSep_W0, Hand.defs₀_row]
  by_cases h0 : t.val % 8 = 0
  · exact triple_restated (soundA m X H c t h0) rfl .rfl fun _ => .rfl
  · exact triple_restated (soundB m X H c t h0) rfl .rfl fun _ => .rfl

-- the launch's implicit arguments are found by unfolding plain definitions in a metavariable's type
set_option backward.isDefEq.respectTransparency.types false in
/-- The launch: every array of the call ends at what the data gives. -/
theorem run_main (H : ∀ c, Holds m c (X c)) : θ_run defs (onTc (τ := τ) (main (F := Ideal))) (s₀ m ρ) (fun r => (Pipeline.FramePost cfgs (dats m X) 0 (V m)) r ∧ r.2.sem = fun _ => 0) :=
  Pipeline.θ_run_frame (Q' := _) cfgs (dats m X) (0 : Fin 1) launch0 defs₀ Variants.none m ρ main
    (hbody := fun c => (body_obligation m X H c).loose) (hshare := fun c => (dats m X 0 c).share_full fun _ => rfl)
    (howed := fun _ _ => rfl) (V := V m) (hmain := hmain m Variants.none) (hA := A_eq m X) (hΦ := fun _ _ => rfl)

/-! ## The outputs' arrays after the run -/

/-- The gradients of the queries, keys and values, the column sums by pair, chunk and head, and the row sums by pair. -/
def outQ (X : Reals) : Fin 2048 → Fin 512 → ℝ := fun r l => sumQ X (l.val / 128) 8 r ⟨l.val % 128, Nat.mod_lt _ (by decide)⟩
def outK (X : Reals) : Fin 2048 → Fin 512 → ℝ := fun r l => tileK X (l.val / 128) (r.val / 256) ⟨r.val % 256, Nat.mod_lt _ (by decide)⟩ ⟨l.val % 128, Nat.mod_lt _ (by decide)⟩
def outV (X : Reals) : Fin 2048 → Fin 512 → ℝ := fun r l => tileV X (l.val / 128) (r.val / 256) ⟨r.val % 256, Nat.mod_lt _ (by decide)⟩ ⟨l.val % 128, Nat.mod_lt _ (by decide)⟩
def outC (X : Reals) : Fin 4 → Fin 8 → Fin 8 → Fin 256 → ℝ := fun p j h s => tileC X p.val j.val h s
def outR (X : Reals) : Fin 4 → Fin 2048 → Fin 128 → ℝ := fun p => sumR X p.val 8

set_option maxHeartbeats 1000000 in
theorem final7 (c : Dev nD) : (dats m X 0 c).arrAt 7 cfg0.N = up2 (outQ (X c)) := by
  refine (dats m X 0 c).arrAt_eq_of_cover 7 (up2 (outQ (X c))) (fun t hf => ?_) fun i => ?_
  · have ht := lt32 t
    have h7 := (flush0_7 t).mp hf
    obtain ⟨e0, e1⟩ := ix7 t
    show (cfg0.win 7).cut (grid0.coords t) ((dats m X 0 c).after 7 t) = _
    rw [after0_7]
    funext x
    have h0 : (x 0).val < 2048 := (x 0).isLt
    have h1 : (x 1).val < 128 := (x 1).isLt
    have b0 : win0_7.index t 0 * 2048 + 1 * (x 0).val < 2048 := by rw [e0]; omega
    have b1 : win0_7.index t 1 * 128 + 1 * (x 1).val < 512 := by rw [e1]; omega
    show ((sumQ (X c) (t.val / 8) (t.val % 8 + 1) (x 0) (x 1) : ℝ) : EReal) = ((outQ (X c) ⟨win0_7.index t 0 * 2048 + 1 * (x 0).val, b0⟩ ⟨win0_7.index t 1 * 128 + 1 * (x 1).val, b1⟩ : ℝ) : EReal)
    unfold outQ
    have k0 : (⟨win0_7.index t 0 * 2048 + 1 * (x 0).val, b0⟩ : Fin 2048) = x 0 := Fin.ext (by dsimp only; rw [e0]; omega)
    have k1 : (⟨(win0_7.index t 1 * 128 + 1 * (x 1).val) % 128, Nat.mod_lt _ (by decide)⟩ : Fin 128) = x 1 := Fin.ext (by dsimp only; rw [e1]; omega)
    dsimp only
    rw [k0, k1, show t.val % 8 + 1 = 8 by omega, show (win0_7.index t 1 * 128 + 1 * (x 1).val) / 128 = t.val / 8 by rw [e1]; omega]
  · have h0 : (i 0 : ℕ) < 2048 := (i 0).isLt
    have h1 : (i 1 : ℕ) < 512 := (i 1).isLt
    have hN : cfg0.N = 32 := N_0
    obtain ⟨t, htv⟩ : ∃ t : Fin cfg0.N, t.val = (i 1 : ℕ) / 128 * 8 + 7 := ⟨⟨(i 1 : ℕ) / 128 * 8 + 7, by omega⟩, rfl⟩
    have ht := lt32 t
    obtain ⟨e0, e1⟩ := ix7 t
    refine ⟨t, (flush0_7 t).mpr (by omega), ?_⟩
    show i ∈ ((View.whole main_v88_0).slice (win0_7.rect t)).set
    rw [View.set_slice_whole, Rect.mem_set_unit]
    intro a
    match a with
    | ⟨0, _⟩ =>
      show win0_7.index t 0 * 2048 ≤ (i 0 : ℕ) ∧ (i 0 : ℕ) < win0_7.index t 0 * 2048 + 2048
      rw [e0]; omega
    | ⟨1, _⟩ =>
      show win0_7.index t 1 * 128 ≤ (i 1 : ℕ) ∧ (i 1 : ℕ) < win0_7.index t 1 * 128 + 128
      rw [e1]; omega

set_option maxHeartbeats 1000000 in
theorem final8 (c : Dev nD) : (dats m X 0 c).arrAt 8 cfg0.N = up2 (outK (X c)) := by
  refine (dats m X 0 c).arrAt_eq_of_cover 8 (up2 (outK (X c))) (fun t hf => ?_) fun i => ?_
  · have ht := lt32 t
    obtain ⟨e0, e1⟩ := ix8 t
    show (cfg0.win 8).cut (grid0.coords t) ((dats m X 0 c).after 8 t) = _
    rw [after0_8]
    funext x
    have h0 : (x 0).val < 256 := (x 0).isLt
    have h1 : (x 1).val < 128 := (x 1).isLt
    have b0 : win0_8.index t 0 * 256 + 1 * (x 0).val < 2048 := by rw [e0]; omega
    have b1 : win0_8.index t 1 * 128 + 1 * (x 1).val < 512 := by rw [e1]; omega
    show ((tileK (X c) (t.val / 8) (t.val % 8) (x 0) (x 1) : ℝ) : EReal) = ((outK (X c) ⟨win0_8.index t 0 * 256 + 1 * (x 0).val, b0⟩ ⟨win0_8.index t 1 * 128 + 1 * (x 1).val, b1⟩ : ℝ) : EReal)
    unfold outK
    have k0 : (⟨(win0_8.index t 0 * 256 + 1 * (x 0).val) % 256, Nat.mod_lt _ (by decide)⟩ : Fin 256) = x 0 := Fin.ext (by dsimp only; rw [e0]; omega)
    have k1 : (⟨(win0_8.index t 1 * 128 + 1 * (x 1).val) % 128, Nat.mod_lt _ (by decide)⟩ : Fin 128) = x 1 := Fin.ext (by dsimp only; rw [e1]; omega)
    dsimp only
    rw [k0, k1, show (win0_8.index t 0 * 256 + 1 * (x 0).val) / 256 = t.val % 8 by rw [e0]; omega, show (win0_8.index t 1 * 128 + 1 * (x 1).val) / 128 = t.val / 8 by rw [e1]; omega]
  · have h0 : (i 0 : ℕ) < 2048 := (i 0).isLt
    have h1 : (i 1 : ℕ) < 512 := (i 1).isLt
    have hN : cfg0.N = 32 := N_0
    obtain ⟨t, htv⟩ : ∃ t : Fin cfg0.N, t.val = (i 1 : ℕ) / 128 * 8 + (i 0 : ℕ) / 256 := ⟨⟨(i 1 : ℕ) / 128 * 8 + (i 0 : ℕ) / 256, by omega⟩, rfl⟩
    have ht := lt32 t
    obtain ⟨e0, e1⟩ := ix8 t
    refine ⟨t, flush0_8 t, ?_⟩
    show i ∈ ((View.whole main_v88_1).slice (win0_8.rect t)).set
    rw [View.set_slice_whole, Rect.mem_set_unit]
    intro a
    match a with
    | ⟨0, _⟩ =>
      show win0_8.index t 0 * 256 ≤ (i 0 : ℕ) ∧ (i 0 : ℕ) < win0_8.index t 0 * 256 + 256
      rw [e0]; omega
    | ⟨1, _⟩ =>
      show win0_8.index t 1 * 128 ≤ (i 1 : ℕ) ∧ (i 1 : ℕ) < win0_8.index t 1 * 128 + 128
      rw [e1]; omega

set_option maxHeartbeats 1000000 in
theorem final9 (c : Dev nD) : (dats m X 0 c).arrAt 9 cfg0.N = up2 (outV (X c)) := by
  refine (dats m X 0 c).arrAt_eq_of_cover 9 (up2 (outV (X c))) (fun t hf => ?_) fun i => ?_
  · have ht := lt32 t
    obtain ⟨e0, e1⟩ := ix9 t
    show (cfg0.win 9).cut (grid0.coords t) ((dats m X 0 c).after 9 t) = _
    rw [after0_9]
    funext x
    have h0 : (x 0).val < 256 := (x 0).isLt
    have h1 : (x 1).val < 128 := (x 1).isLt
    have b0 : win0_9.index t 0 * 256 + 1 * (x 0).val < 2048 := by rw [e0]; omega
    have b1 : win0_9.index t 1 * 128 + 1 * (x 1).val < 512 := by rw [e1]; omega
    show ((tileV (X c) (t.val / 8) (t.val % 8) (x 0) (x 1) : ℝ) : EReal) = ((outV (X c) ⟨win0_9.index t 0 * 256 + 1 * (x 0).val, b0⟩ ⟨win0_9.index t 1 * 128 + 1 * (x 1).val, b1⟩ : ℝ) : EReal)
    unfold outV
    have k0 : (⟨(win0_9.index t 0 * 256 + 1 * (x 0).val) % 256, Nat.mod_lt _ (by decide)⟩ : Fin 256) = x 0 := Fin.ext (by dsimp only; rw [e0]; omega)
    have k1 : (⟨(win0_9.index t 1 * 128 + 1 * (x 1).val) % 128, Nat.mod_lt _ (by decide)⟩ : Fin 128) = x 1 := Fin.ext (by dsimp only; rw [e1]; omega)
    dsimp only
    rw [k0, k1, show (win0_9.index t 0 * 256 + 1 * (x 0).val) / 256 = t.val % 8 by rw [e0]; omega, show (win0_9.index t 1 * 128 + 1 * (x 1).val) / 128 = t.val / 8 by rw [e1]; omega]
  · have h0 : (i 0 : ℕ) < 2048 := (i 0).isLt
    have h1 : (i 1 : ℕ) < 512 := (i 1).isLt
    have hN : cfg0.N = 32 := N_0
    obtain ⟨t, htv⟩ : ∃ t : Fin cfg0.N, t.val = (i 1 : ℕ) / 128 * 8 + (i 0 : ℕ) / 256 := ⟨⟨(i 1 : ℕ) / 128 * 8 + (i 0 : ℕ) / 256, by omega⟩, rfl⟩
    have ht := lt32 t
    obtain ⟨e0, e1⟩ := ix9 t
    refine ⟨t, flush0_9 t, ?_⟩
    show i ∈ ((View.whole main_v88_2).slice (win0_9.rect t)).set
    rw [View.set_slice_whole, Rect.mem_set_unit]
    intro a
    match a with
    | ⟨0, _⟩ =>
      show win0_9.index t 0 * 256 ≤ (i 0 : ℕ) ∧ (i 0 : ℕ) < win0_9.index t 0 * 256 + 256
      rw [e0]; omega
    | ⟨1, _⟩ =>
      show win0_9.index t 1 * 128 ≤ (i 1 : ℕ) ∧ (i 1 : ℕ) < win0_9.index t 1 * 128 + 128
      rw [e1]; omega

set_option maxHeartbeats 1000000 in
theorem final10 (c : Dev nD) : (dats m X 0 c).arrAt 10 cfg0.N = up4 (outC (X c)) := by
  refine (dats m X 0 c).arrAt_eq_of_cover 10 (up4 (outC (X c))) (fun t hf => ?_) fun i => ?_
  · have ht := lt32 t
    obtain ⟨e0, e1, e2, e3⟩ := ix10 t
    show (cfg0.win 10).cut (grid0.coords t) ((dats m X 0 c).after 10 t) = _
    rw [after0_10]
    funext x
    have h0 : (x 0).val < 1 := (x 0).isLt
    have h1 : (x 1).val < 1 := (x 1).isLt
    have h2 : (x 2).val < 8 := (x 2).isLt
    have h3 : (x 3).val < 256 := (x 3).isLt
    have b0 : win0_10.index t 0 * 1 + 1 * (x 0).val < 4 := by rw [e0]; omega
    have b1 : win0_10.index t 1 * 1 + 1 * (x 1).val < 8 := by rw [e1]; omega
    have b2 : win0_10.index t 2 * 8 + 1 * (x 2).val < 8 := by rw [e2]; omega
    have b3 : win0_10.index t 3 * 256 + 1 * (x 3).val < 256 := by rw [e3]; omega
    show ((tileC (X c) (t.val / 8) (t.val % 8) (x 2) (x 3) : ℝ) : EReal) = ((outC (X c) ⟨win0_10.index t 0 * 1 + 1 * (x 0).val, b0⟩ ⟨win0_10.index t 1 * 1 + 1 * (x 1).val, b1⟩ ⟨win0_10.index t 2 * 8 + 1 * (x 2).val, b2⟩ ⟨win0_10.index t 3 * 256 + 1 * (x 3).val, b3⟩ : ℝ) : EReal)
    unfold outC
    have k2 : (⟨win0_10.index t 2 * 8 + 1 * (x 2).val, b2⟩ : Fin 8) = x 2 := Fin.ext (by dsimp only; rw [e2]; omega)
    have k3 : (⟨win0_10.index t 3 * 256 + 1 * (x 3).val, b3⟩ : Fin 256) = x 3 := Fin.ext (by dsimp only; rw [e3]; omega)
    rw [k2, k3]
    dsimp only
    rw [show win0_10.index t 0 * 1 + 1 * (x 0).val = t.val / 8 by rw [e0]; omega, show win0_10.index t 1 * 1 + 1 * (x 1).val = t.val % 8 by rw [e1]; omega]
  · have h0 : (i 0 : ℕ) < 4 := (i 0).isLt
    have h1 : (i 1 : ℕ) < 8 := (i 1).isLt
    have h2 : (i 2 : ℕ) < 8 := (i 2).isLt
    have h3 : (i 3 : ℕ) < 256 := (i 3).isLt
    have hN : cfg0.N = 32 := N_0
    obtain ⟨t, htv⟩ : ∃ t : Fin cfg0.N, t.val = (i 0 : ℕ) * 8 + (i 1 : ℕ) := ⟨⟨(i 0 : ℕ) * 8 + (i 1 : ℕ), by omega⟩, rfl⟩
    have ht := lt32 t
    obtain ⟨e0, e1, e2, e3⟩ := ix10 t
    refine ⟨t, flush0_10 t, ?_⟩
    show i ∈ ((View.whole main_v88_3).slice (win0_10.rect t)).set
    rw [View.set_slice_whole, Rect.mem_set_unit]
    intro a
    match a with
    | ⟨0, _⟩ =>
      show win0_10.index t 0 * 1 ≤ (i 0 : ℕ) ∧ (i 0 : ℕ) < win0_10.index t 0 * 1 + 1
      rw [e0]; omega
    | ⟨1, _⟩ =>
      show win0_10.index t 1 * 1 ≤ (i 1 : ℕ) ∧ (i 1 : ℕ) < win0_10.index t 1 * 1 + 1
      rw [e1]; omega
    | ⟨2, _⟩ =>
      show win0_10.index t 2 * 8 ≤ (i 2 : ℕ) ∧ (i 2 : ℕ) < win0_10.index t 2 * 8 + 8
      rw [e2]; omega
    | ⟨3, _⟩ =>
      show win0_10.index t 3 * 256 ≤ (i 3 : ℕ) ∧ (i 3 : ℕ) < win0_10.index t 3 * 256 + 256
      rw [e3]; omega

set_option maxHeartbeats 1000000 in
theorem final11 (c : Dev nD) : (dats m X 0 c).arrAt 11 cfg0.N = up3 (outR (X c)) := by
  refine (dats m X 0 c).arrAt_eq_of_cover 11 (up3 (outR (X c))) (fun t hf => ?_) fun i => ?_
  · have ht := lt32 t
    have h7 := (flush0_11 t).mp hf
    obtain ⟨e0, e1, e2⟩ := ix11 t
    show (cfg0.win 11).cut (grid0.coords t) ((dats m X 0 c).after 11 t) = _
    rw [after0_11]
    funext x
    have h0 : (x 0).val < 1 := (x 0).isLt
    have h1 : (x 1).val < 2048 := (x 1).isLt
    have h2 : (x 2).val < 128 := (x 2).isLt
    have b0 : win0_11.index t 0 * 1 + 1 * (x 0).val < 4 := by rw [e0]; omega
    have b1 : win0_11.index t 1 * 2048 + 1 * (x 1).val < 2048 := by rw [e1]; omega
    have b2 : win0_11.index t 2 * 128 + 1 * (x 2).val < 128 := by rw [e2]; omega
    show ((sumR (X c) (t.val / 8) (t.val % 8 + 1) (x 1) (x 2) : ℝ) : EReal) = ((outR (X c) ⟨win0_11.index t 0 * 1 + 1 * (x 0).val, b0⟩ ⟨win0_11.index t 1 * 2048 + 1 * (x 1).val, b1⟩ ⟨win0_11.index t 2 * 128 + 1 * (x 2).val, b2⟩ : ℝ) : EReal)
    unfold outR
    have k1 : (⟨win0_11.index t 1 * 2048 + 1 * (x 1).val, b1⟩ : Fin 2048) = x 1 := Fin.ext (by dsimp only; rw [e1]; omega)
    have k2 : (⟨win0_11.index t 2 * 128 + 1 * (x 2).val, b2⟩ : Fin 128) = x 2 := Fin.ext (by dsimp only; rw [e2]; omega)
    rw [k1, k2]
    dsimp only
    rw [show t.val % 8 + 1 = 8 by omega, show win0_11.index t 0 * 1 + 1 * (x 0).val = t.val / 8 by rw [e0]; omega]
  · have h0 : (i 0 : ℕ) < 4 := (i 0).isLt
    have h1 : (i 1 : ℕ) < 2048 := (i 1).isLt
    have h2 : (i 2 : ℕ) < 128 := (i 2).isLt
    have hN : cfg0.N = 32 := N_0
    obtain ⟨t, htv⟩ : ∃ t : Fin cfg0.N, t.val = (i 0 : ℕ) * 8 + 7 := ⟨⟨(i 0 : ℕ) * 8 + 7, by omega⟩, rfl⟩
    have ht := lt32 t
    obtain ⟨e0, e1, e2⟩ := ix11 t
    refine ⟨t, (flush0_11 t).mpr (by omega), ?_⟩
    show i ∈ ((View.whole main_v88_4).slice (win0_11.rect t)).set
    rw [View.set_slice_whole, Rect.mem_set_unit]
    intro a
    match a with
    | ⟨0, _⟩ =>
      show win0_11.index t 0 * 1 ≤ (i 0 : ℕ) ∧ (i 0 : ℕ) < win0_11.index t 0 * 1 + 1
      rw [e0]; omega
    | ⟨1, _⟩ =>
      show win0_11.index t 1 * 2048 ≤ (i 1 : ℕ) ∧ (i 1 : ℕ) < win0_11.index t 1 * 2048 + 2048
      rw [e1]; omega
    | ⟨2, _⟩ =>
      show win0_11.index t 2 * 128 ≤ (i 2 : ℕ) ∧ (i 2 : ℕ) < win0_11.index t 2 * 128 + 128
      rw [e2]; omega

set_option maxHeartbeats 2000000 in
/-- From arrays that hold reals, every run ends with the five outputs at these sums and the arguments as they were. -/
theorem run (H : ∀ c, Holds m c (X c)) : θ_run defs (onTc (τ := τ) (main (F := Ideal))) ⟨m, fun _ => 0, ρ⟩ (fun r => ∀ c : Dev nD,
      (r.2.mem ((c.tc : Thread nD τ).loc main_v88_0) = up2 (outQ (X c))
      ∧ r.2.mem ((c.tc : Thread nD τ).loc main_v88_1) = up2 (outK (X c))
      ∧ r.2.mem ((c.tc : Thread nD τ).loc main_v88_2) = up2 (outV (X c))
      ∧ r.2.mem ((c.tc : Thread nD τ).loc main_v88_3) = up4 (outC (X c))
      ∧ r.2.mem ((c.tc : Thread nD τ).loc main_v88_4) = up3 (outR (X c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hrun := (θ_run defs _ _).mono (fun _ h => h.1) (run_main m ρ X H)
  refine (θ_run defs _ _).mono (fun r h c => ⟨?_, h.2 c⟩) (θ_run_and hrun (frame_of m ρ (dats m X) (A_eq m X) hrun))
  have h := (h.1 c).1
  exact ⟨(h 7).trans (final7 m X c), (h 8).trans (final8 m X c), (h 9).trans (final9 m X c), (h 10).trans (final10 m X c), (h 11).trans (final11 m X c)⟩

end Cert.KernelIdeal.Val

end
-- ==== Proof.Outs.lean ====
/- The kernel's five outputs over the reals, as the plain sums over all rows or all columns. -/
module

public import proofs.«01_k».proof.Proof.Soft
public import proofs.«01_k».proof.Proof.ValueRun

@[expose] public section

set_option maxRecDepth 16384

noncomputable section

namespace Cert.KernelIdeal.Val

open Cert.KernelIdeal.Hand

variable (q k v d : Fin 2048 → Fin 512 → ℝ) (c : Fin 2048 → Fin 8 → ℝ) (T : Fin 8 → Fin 2048 → ℝ)

theorem inh_ln (e e' : Fin 2) (x : Fin 64) : inh e (ln e' x) = decide (e = e') := by
  unfold inh ln
  refine decide_eq_decide.mpr ⟨fun h => ?_, fun h => ?_⟩
  · apply Fin.ext; dsimp only at h; omega
  · subst h; dsimp only; omega
theorem tK_ln (p j : ℕ) (e e' : Fin 2) (s : Fin 256) (x : Fin 64) : tK (tileOf k p j) e s (ln e' x) = if e = e' then tileOf k p j s (ln e x) * (1 / 8) else 0 := by
  unfold tK; rw [inh_ln]
  by_cases h : e = e'
  · subst h; simp
  · simp [h]

variable (p : Fin 4) (e : Fin 2) (x : Fin 64)

theorem col_pair : (cl (hd p e) x).val / 128 = p.val := by unfold cl hd; dsimp only; omega
theorem col_lane : (⟨(cl (hd p e) x).val % 128, Nat.mod_lt _ (by decide)⟩ : Fin 128) = ln e x := by
  unfold cl hd ln; apply Fin.ext; dsimp only; omega
theorem row_blk (r : Fin 2048) : rowAt (r.val / 256) ⟨r.val % 256, Nat.mod_lt _ (by norm_num)⟩ = r := by
  unfold rowAt; apply Fin.ext; dsimp only; omega
theorem blk_lt (r : Fin 2048) : r.val / 256 < 8 := by omega

/-- The gradient of the queries. -/
theorem outQ_eq (r : Fin 2048) : outQ (found q k v d c T) r (cl (hd p e) x) = ∑ s, dsco q k v d c T (hd p e) r s * (1 / 8) * k s (cl (hd p e) x) := by
  unfold outQ sumQ partQ cQ
  rw [col_pair, col_lane, sum_chunks]
  have key : ∀ (b j : ℕ) (hj : j < 8) (m : Fin 256 → Fin 256 → Bool) (hm : ∀ r s, m r s = true ↔ rowAt j s ≤ rowAt b r) (ρ : Fin 256),
      bQ (tileOf k p.val j) (tileOf v p.val j) (termOf (found q k v d c T).ct p.val j) (colsOf q p.val) (colsOf d p.val) (colsOf (found q k v d c T).o p.val) (lseOf (found q k v d c T).l p.val) b m ρ (ln e x)
      = ∑ s, dsco q k v d c T (hd p e) (rowAt b ρ) (rowAt j s) * (1 / 8) * k (rowAt j s) (cl (hd p e) x) := by
    intro b j hj m hm ρ
    unfold bQ tQ
    have hS := fun e s => bS_eq q k v d c T p e b j hj m hm ρ s
    unfold bS at hS
    simp only [hS, tK_ln]
    rw [← Finset.sum_add_distrib]
    refine Finset.sum_congr rfl fun s _ => ?_
    rw [tile_apply, tile_apply]
    have he : e = 0 ∨ e = 1 := by fin_cases e <;> simp
    rcases he with rfl | rfl <;> simp <;> ring
  refine sum_rows (fun j => bQ (tileOf k p.val j) (tileOf v p.val j) (termOf (found q k v d c T).ct p.val j) (colsOf q p.val) (colsOf d p.val) (colsOf (found q k v d c T).o p.val) (lseOf (found q k v d c T).l p.val) j mTri)
    (fun j b => bQ (tileOf k p.val j) (tileOf v p.val j) (termOf (found q k v d c T).ct p.val j) (colsOf q p.val) (colsOf d p.val) (colsOf (found q k v d c T).o p.val) (lseOf (found q k v d c T).l p.val) b mAll)
    (fun j => ∑ s, dsco q k v d c T (hd p e) r (rowAt j s) * (1 / 8) * k (rowAt j s) (cl (hd p e) x)) (r.val / 256) (blk_lt r) ⟨r.val % 256, Nat.mod_lt _ (by norm_num)⟩ (ln e x) r (by dsimp only; omega) ?_ ?_ ?_
  · rw [key _ _ (blk_lt r) mTri (tri_mask _ (blk_lt r)), row_blk]
  · intro j hj
    rw [key _ _ (by have := blk_lt r; omega) mAll (all_mask _ _ (blk_lt r) hj), row_blk]
  · intro j hj hb
    refine Finset.sum_eq_zero fun s _ => ?_
    have := above _ j hj hb ⟨r.val % 256, Nat.mod_lt _ (by norm_num)⟩ s
    rw [row_blk] at this
    rw [dsco_above _ _ _ _ _ _ _ _ _ this, zero_mul, zero_mul]

/-- The row sums. -/
theorem outR_eq (r : Fin 2048) (l : Fin 128) : outR (found q k v d c T) p r l = if h : l.val < 2 then ∑ s, dsco q k v d c T (hd p ⟨l.val, h⟩) r s else 0 := by
  have G : ∀ e : Fin 2, ∀ (b j : ℕ) (hj : j < 8) (m : Fin 256 → Fin 256 → Bool) (hm : ∀ r s, m r s = true ↔ rowAt j s ≤ rowAt b r) (ρ : Fin 256),
      ∑ s, tS (tileOf k p.val j) (tileOf v p.val j) (termOf (found q k v d c T).ct p.val j) (blk b (colsOf q p.val)) (blk b (colsOf d p.val)) (blk b (colsOf (found q k v d c T).o p.val)) (blk b (lseOf (found q k v d c T).l p.val)) m e ρ s
      = ∑ s, dsco q k v d c T (hd p e) (rowAt b ρ) (rowAt j s) := fun e b j hj m hm ρ =>
    Finset.sum_congr rfl fun s _ => bS_eq q k v d c T p e b j hj m hm ρ s
  have key : ∀ (b j : ℕ) (hj : j < 8) (m : Fin 256 → Fin 256 → Bool) (hm : ∀ r s, m r s = true ↔ rowAt j s ≤ rowAt b r) (ρ : Fin 256),
      bR (tileOf k p.val j) (tileOf v p.val j) (termOf (found q k v d c T).ct p.val j) (colsOf q p.val) (colsOf d p.val) (colsOf (found q k v d c T).o p.val) (lseOf (found q k v d c T).l p.val) b m ρ l
      = if h : l.val < 2 then ∑ s, dsco q k v d c T (hd p ⟨l.val, h⟩) (rowAt b ρ) (rowAt j s) else 0 := by
    intro b j hj m hm ρ
    unfold bR tR
    rw [G 0 b j hj m hm ρ, G 1 b j hj m hm ρ]
    by_cases h1 : l.val = 1
    · rw [if_pos h1, dif_pos (by omega), show (⟨l.val, by omega⟩ : Fin 2) = 1 from Fin.ext h1]
    · by_cases h0 : l.val = 0
      · rw [if_neg h1, if_pos h0, dif_pos (by omega), show (⟨l.val, by omega⟩ : Fin 2) = 0 from Fin.ext h0]
      · rw [if_neg h1, if_neg h0, dif_neg (by omega)]
  unfold outR sumR partR cR
  have hs := sum_rows (fun j => bR (tileOf k p.val j) (tileOf v p.val j) (termOf (found q k v d c T).ct p.val j) (colsOf q p.val) (colsOf d p.val) (colsOf (found q k v d c T).o p.val) (lseOf (found q k v d c T).l p.val) j mTri)
    (fun j b => bR (tileOf k p.val j) (tileOf v p.val j) (termOf (found q k v d c T).ct p.val j) (colsOf q p.val) (colsOf d p.val) (colsOf (found q k v d c T).o p.val) (lseOf (found q k v d c T).l p.val) b mAll)
    (fun j => if h : l.val < 2 then ∑ s, dsco q k v d c T (hd p ⟨l.val, h⟩) r (rowAt j s) else 0) (r.val / 256) (blk_lt r) ⟨r.val % 256, Nat.mod_lt _ (by norm_num)⟩ l r (by dsimp only; omega)
    (by rw [key _ _ (blk_lt r) mTri (tri_mask _ (blk_lt r)), row_blk])
    (by intro j hj; rw [key _ _ (by have := blk_lt r; omega) mAll (all_mask _ _ (blk_lt r) hj), row_blk])
    (by
      intro j hj hb
      split_ifs
      · refine Finset.sum_eq_zero fun s _ => ?_
        have := above _ j hj hb ⟨r.val % 256, Nat.mod_lt _ (by norm_num)⟩ s
        rw [row_blk] at this
        exact dsco_above _ _ _ _ _ _ _ _ _ this
      · rfl)
  refine hs.trans ?_
  by_cases h : l.val < 2
  · simp only [dif_pos h]; rw [sum_chunks]
  · simp only [dif_neg h]; exact Finset.sum_const_zero

/-- One chunk's sum over the blocks of rows. -/
theorem chunk_sum (j : ℕ) (hj : j < 8) (g : (Fin 256 → Fin 256 → Bool) → ℕ → ℝ) (f : Fin 2048 → ℝ)
    (h : ∀ (b : ℕ) (m : Fin 256 → Fin 256 → Bool), (∀ r s, m r s = true ↔ rowAt j s ≤ rowAt b r) → g m b = ∑ r, f (rowAt b r))
    (h0 : ∀ (b : ℕ) (r : Fin 256), b < j → f (rowAt b r) = 0) :
    g mTri j + ∑ n ∈ Finset.range (7 - j), g mAll (j + 1 + n) = ∑ r, f r := by
  rw [sum_chunks, ← sum_from (fun b => ∑ r, f (rowAt b r)) j hj fun b hb => Finset.sum_eq_zero fun r _ => h0 b r hb, h j mTri (tri_mask j hj)]
  congr 1
  refine Finset.sum_congr rfl fun n hn => ?_
  have := Finset.mem_range.mp hn
  exact h _ mAll (all_mask _ _ (by omega) (by omega))

theorem partK_eq (j : ℕ) (hj : j < 8) (s : Fin 256) : partK (found q k v d c T) p.val j e s (ln e x) = ∑ r, dsco q k v d c T (hd p e) r (rowAt j s) * q r (cl (hd p e) x) := by
  unfold partK cK
  refine chunk_sum j hj (fun m b => bK (tileOf k p.val j) (tileOf v p.val j) (termOf (found q k v d c T).ct p.val j) (colsOf q p.val) (colsOf d p.val) (colsOf (found q k v d c T).o p.val) (lseOf (found q k v d c T).l p.val) b m e s (ln e x)) _ ?_ ?_
  · intro b m hm
    unfold bK
    exact Finset.sum_congr rfl fun r _ => by rw [bS_eq q k v d c T p e b j hj m hm r s, cols_apply]
  · intro b r hb; rw [dsco_above _ _ _ _ _ _ _ _ _ (above b j hj hb r s), zero_mul]
theorem partV_eq (j : ℕ) (hj : j < 8) (s : Fin 256) : partV (found q k v d c T) p.val j e s (ln e x) = ∑ r, prob q k c T (hd p e) r (rowAt j s) * d r (cl (hd p e) x) := by
  unfold partV cV
  refine chunk_sum j hj (fun m b => bV (tileOf k p.val j) (termOf (found q k v d c T).ct p.val j) (colsOf q p.val) (colsOf d p.val) (lseOf (found q k v d c T).l p.val) b m e s (ln e x)) _ ?_ ?_
  · intro b m hm
    unfold bV
    exact Finset.sum_congr rfl fun r _ => by rw [bP_eq q k v d c T p e b j hj m hm r s, cols_apply]
  · intro b r hb; rw [prob_above _ _ _ _ _ _ _ (above b j hj hb r s), zero_mul]
theorem partC_eq (j : ℕ) (hj : j < 8) (s : Fin 256) : partC (found q k v d c T) p.val j e s = ∑ r, dsco q k v d c T (hd p e) r (rowAt j s) := by
  unfold partC cC
  refine chunk_sum j hj (fun m b => bC (tileOf k p.val j) (tileOf v p.val j) (termOf (found q k v d c T).ct p.val j) (colsOf q p.val) (colsOf d p.val) (colsOf (found q k v d c T).o p.val) (lseOf (found q k v d c T).l p.val) b m e s) _ ?_ ?_
  · intro b m hm
    unfold bC
    exact Finset.sum_congr rfl fun r _ => bS_eq q k v d c T p e b j hj m hm r s
  · intro b r hb; exact dsco_above _ _ _ _ _ _ _ _ _ (above b j hj hb r s)

/-- The gradient of the keys. -/
theorem outK_eq (s : Fin 2048) : outK (found q k v d c T) s (cl (hd p e) x) = ∑ r, dsco q k v d c T (hd p e) r s * (1 / 8) * q r (cl (hd p e) x) := by
  unfold outK tileK
  rw [col_pair, col_lane, inh_ln]
  have he : e = 0 ∨ e = 1 := by fin_cases e <;> simp
  have hp := partK_eq q k v d c T p e x (s.val / 256) (blk_lt s) ⟨s.val % 256, Nat.mod_lt _ (by norm_num)⟩
  rw [row_blk] at hp
  have fin : (∑ r, dsco q k v d c T (hd p e) r s * q r (cl (hd p e) x)) * (1 / 8) = ∑ r, dsco q k v d c T (hd p e) r s * (1 / 8) * q r (cl (hd p e) x) := by
    rw [Finset.sum_mul]; exact Finset.sum_congr rfl fun r _ => by ring
  rw [← fin, ← hp]
  rcases he with rfl | rfl <;> simp
/-- The gradient of the values. -/
theorem outV_eq (s : Fin 2048) : outV (found q k v d c T) s (cl (hd p e) x) = ∑ r, d r (cl (hd p e) x) * prob q k c T (hd p e) r s := by
  unfold outV tileV
  rw [col_pair, col_lane, inh_ln]
  have he : e = 0 ∨ e = 1 := by fin_cases e <;> simp
  have hp := partV_eq q k v d c T p e x (s.val / 256) (blk_lt s) ⟨s.val % 256, Nat.mod_lt _ (by norm_num)⟩
  rw [row_blk] at hp
  rw [← Finset.sum_congr rfl fun r _ => mul_comm (prob q k c T (hd p e) r s) (d r (cl (hd p e) x)), ← hp]
  rcases he with rfl | rfl <;> simp
/-- The column sums. -/
theorem outC_eq (j h : Fin 8) (s : Fin 256) : outC (found q k v d c T) p j h s = if hh : h.val < 2 then ∑ r, dsco q k v d c T (hd p ⟨h.val, hh⟩) r (rowAt j.val s) else 0 := by
  unfold outC tileC
  rw [partC_eq q k v d c T p 0 j.val j.isLt, partC_eq q k v d c T p 1 j.val j.isLt]
  by_cases h0 : h.val = 0
  · rw [if_pos h0, dif_pos (by omega), show (⟨h.val, by omega⟩ : Fin 2) = 0 from Fin.ext h0]
  · by_cases h1 : h.val = 1
    · rw [if_neg h0, if_pos h1, dif_pos (by omega), show (⟨h.val, by omega⟩ : Fin 2) = 1 from Fin.ext h1]
    · rw [if_neg h0, if_neg h1, dif_neg (by omega)]

end Cert.KernelIdeal.Val

end
-- ==== Proof.RefGrad.lean ====
/- The gradients the reference computes from real arrays: through the probabilities to the scores, and from there to the queries, keys, values, row and
   column terms. -/
module

public import proofs.«01_k».proof.Proof.RefVal
public import proofs.«01_k».proof.Proof.Outs
public import Idealize.ShloMosaic.Lib.Pointwise.Tactic

@[expose] public section

set_option maxRecDepth 16384
set_option backward.isDefEq.respectTransparency false

noncomputable section

namespace Cert.ReferenceIdeal.Real

open Idealize.ShloMosaic Idealize.ShloMosaic.TcCoe Idealize.ShloMosaic.Tactic
open Cert.ReferenceIdeal.Gen Cert.ReferenceIdeal.Read
open Cert.KernelIdeal.Hand (up2 up3 up4 coe_sum)
open Cert.KernelIdeal.Val (cl hd rowAt sco expo tot prob attn dprob dsco lsum tot_pos prob_above dsco_above expo_above found outQ outK outV outC outR outQ_eq outK_eq outV_eq
  outC_eq outR_eq)

variable (q k v d : Fin 2048 → Fin 512 → ℝ) (c : Fin 2048 → Fin 8 → ℝ) (T : Fin 8 → Fin 2048 → ℝ)

/-- A column's head and its place there. -/
def lh (l : Fin 512) : Fin 8 := ⟨l.val / 64, by omega⟩
def lx (l : Fin 512) : Fin 64 := ⟨l.val % 64, by omega⟩
theorem lane (l : Fin 512) : ∃ p e x, l = cl (hd p e) x ∧ lh l = hd p e ∧ lx l = x := by
  refine ⟨⟨l.val / 128, by omega⟩, ⟨l.val / 64 % 2, by omega⟩, lx l, Fin.ext ?_, Fin.ext ?_, rfl⟩
  · show l.val = 64 * (2 * (l.val / 128) + l.val / 64 % 2) + l.val % 64; omega
  · show l.val / 64 = 2 * (l.val / 128) + l.val / 64 % 2; omega

/-- A sum over one index, from zero. -/
theorem sum_one (x : Fin 1 → EReal) : ((0 : ℝ) : EReal) + ∑ k : Fin 1, x k = x 0 := by
  rw [Fin.sum_univ_one, EReal.coe_zero, zero_add]
/-- A real matrix's entry at equal places. -/
theorem at_eq (f : Fin 8 → Fin 2048 → ℝ) {a a' : Fin 8} {b b' : Fin 2048} (ha : a.val = a'.val) (hb : b.val = b'.val) :
    ((f a b : ℝ) : EReal) = ((f a' b' : ℝ) : EReal) := by rw [Fin.ext ha, Fin.ext hb]

/-- The gradient of the scores as the reference spells it: the quotient's two parts, masked. -/
theorem dsco_quotient (h : Fin 8) (r s : Fin 2048) :
    (if s ≤ r then (dprob v d h r s / tot q k c T h r
      + -(∑ t, dprob v d h r t * (1 / (tot q k c T h r * tot q k c T h r)) * expo q k c T h r t)) * expo q k c T h r s else 0) = dsco q k v d c T h r s := by
  split_ifs with hs
  · have hz := (tot_pos q k c T h r).ne'
    have e : ∑ x, d r (cl h x) * attn q k v c T h r x = ∑ t, expo q k c T h r t / tot q k c T h r * dprob v d h r t := by
      unfold attn dprob prob
      simp only [Finset.mul_sum]
      rw [Finset.sum_comm]
      exact Finset.sum_congr rfl fun t _ => Finset.sum_congr rfl fun x _ => by ring
    unfold dsco
    rw [e]; unfold prob
    have e2 : ∑ t, expo q k c T h r t / tot q k c T h r * dprob v d h r t
        = tot q k c T h r * ∑ t, dprob v d h r t * (1 / (tot q k c T h r * tot q k c T h r)) * expo q k c T h r t := by
      rw [Finset.mul_sum]
      refine Finset.sum_congr rfl fun t _ => ?_
      field_simp
    rw [e2]
    generalize (∑ t, dprob v d h r t * (1 / (tot q k c T h r * tot q k c T h r)) * expo q k c T h r t) = S
    field_simp
    ring
  · exact (dsco_above q k v d c T h r s hs).symm

section
variable (hT : val_main_v28 (F := Ideal) (up2 q) (up2 k) (up2 c) = up2 T)
include hT

/-! The values' gradient. -/
theorem dv_heads (i) : val_main_v64 (F := Ideal) (up2 q) (up2 k) (up2 c) (up2 d) i = ((∑ r, d r (cl (i 0) (i 2)) * prob q k c T (i 0) r (i 1) : ℝ) : EReal) := by
  rw [val_main_v64_apply, val_main_v63_apply, heads_d, probs q k c T hT, coe_sum]
  exact Finset.sum_congr rfl fun x _ => (EReal.coe_mul _ _).symm

theorem ref_v : val_main_v67 (F := Ideal) (up2 q) (up2 k) (up2 c) (up2 d) = up2 (outV (found q k v d c T)) := by
  funext i
  rw [val_main_v67_apply, val_main_v66_apply, dv_heads q k d c T hT]
  have h0 : (i 0).val < 2048 := (i 0).isLt; have h1 : (i 1).val < 512 := (i 1).isLt
  obtain ⟨p, e, x, hl, hh, hx⟩ := lane (i 1)
  have e0 : (idx_main_v66 (idx_main_v67 i)) 0 = hd p e := Fin.ext ((show ((i 0).val * 512 + (i 1).val) / 64 % 8 = (i 1).val / 64 by omega).trans (congrArg Fin.val hh))
  have e1 : (idx_main_v66 (idx_main_v67 i)) 1 = i 0 := Fin.ext (show ((i 0).val * 512 + (i 1).val) / 512 = (i 0).val by omega)
  have e2 : (idx_main_v66 (idx_main_v67 i)) 2 = x := Fin.ext ((show ((i 0).val * 512 + (i 1).val) % 64 = (i 1).val % 64 by omega).trans (congrArg Fin.val hx))
  rw [e0, e1, e2]
  show _ = ((outV (found q k v d c T) (i 0) (i 1) : ℝ) : EReal)
  rw [hl, outV_eq]

/-! The gradient of the scores. -/
omit hT in
theorem dprobs : val_main_v65 (F := Ideal) (up2 v) (up2 d) = up3 (dprob v d) := by
  funext i
  rw [val_main_v65_apply, heads_d, heads_v]
  show _ = ((∑ x, d _ _ * v _ _ : ℝ) : EReal)
  rw [coe_sum]
  exact Finset.sum_congr rfl fun x _ => (EReal.coe_mul _ _).symm
theorem inv_sq (i) : val_main_v55 (F := Ideal) (up2 q) (up2 k) (up2 c) i = ((1 / (tot q k c T (i 0) (i 1) * tot q k c T (i 0) (i 1)) : ℝ) : EReal) := by
  rw [val_main_v55_apply, val_main_v54_apply, val_main_cst_10_apply, one_bits, val_main_v53_apply, sums3 q k c T hT]
  show Ideal.div ((1 : ℝ) : EReal) (((tot q k c T (i 0) (i 1) : ℝ) : EReal) * ((tot q k c T (i 0) (i 1) : ℝ) : EReal)) = _
  have hz := (tot_pos q k c T (i 0) (i 1)).ne'
  rw [← EReal.coe_mul, Ideal.div_coe (mul_ne_zero hz hz), ← EReal.coe_mul, one_mul]
theorem inner (i) : val_main_v71 (F := Ideal) (up2 q) (up2 k) (up2 v) (up2 c) (up2 d) i
    = ((∑ t, dprob v d (i 0) (i 1) t * (1 / (tot q k c T (i 0) (i 1) * tot q k c T (i 0) (i 1))) * expo q k c T (i 0) (i 1) t : ℝ) : EReal) := by
  rw [val_main_v71_apply, val_main_cst_11_apply, zero_bits, EReal.coe_zero, zero_add, coe_sum]
  refine Finset.sum_congr rfl fun t _ => ?_
  rw [val_main_v70_apply, val_main_v69_apply, val_main_v68_apply, inv_sq q k c T hT, exps q k c T hT, dprobs v d, EReal.coe_mul, EReal.coe_mul]; rfl
theorem shift (i) : val_main_v76 (F := Ideal) (up2 q) (up2 k) (up2 v) (up2 c) (up2 d) i
    = ((-(∑ t, dprob v d (i 0) (i 1) t * (1 / (tot q k c T (i 0) (i 1) * tot q k c T (i 0) (i 1))) * expo q k c T (i 0) (i 1) t) : ℝ) : EReal) := by
  rw [val_main_v76_apply, val_main_cst_12_apply, zero_bits, sum_one, val_main_v73_apply, val_main_v72_apply, inner q k v d c T hT]
  have h0 : (i 0).val < 8 := (i 0).isLt; have h1 : (i 1).val < 2048 := (i 1).isLt
  refine (EReal.coe_neg _).symm.trans (at_eq (fun a b => -(∑ t, dprob v d a b t * (1 / (tot q k c T a b * tot q k c T a b)) * expo q k c T a b t)) ?_ ?_)
  · show (((i 0).val * 2048 + (i 1).val) * 1 + 0) / 2048 = (i 0).val; omega
  · show (((i 0).val * 2048 + (i 1).val) * 1 + 0) % 2048 = (i 1).val; omega
theorem dscores : val_main_v80 (F := Ideal) (up2 q) (up2 k) (up2 v) (up2 c) (up2 d) = up3 (dsco q k v d c T) := by
  funext i
  rw [val_main_v80_apply, mask, val_main_call1_v0_apply, val_main_call1_cst_apply, zero_bits, val_main_v79_apply, val_main_v78_apply, val_main_v77_apply, shift q k v d c T hT,
    exps q k c T hT, val_main_v75_apply, val_main_v74_apply, sums3 q k c T hT, dprobs v d]
  show (if (if i 2 ≤ i 1 then 1#1 else 0#1) = 1#1 then (Ideal.div ((dprob v d (i 0) (i 1) (i 2) : ℝ) : EReal) ((tot q k c T (i 0) (i 1) : ℝ) : EReal)
      + ((-(∑ t, dprob v d (i 0) (i 1) t * (1 / (tot q k c T (i 0) (i 1) * tot q k c T (i 0) (i 1))) * expo q k c T (i 0) (i 1) t) : ℝ) : EReal)) * ((expo q k c T (i 0) (i 1) (i 2) : ℝ) : EReal)
    else ((0 : ℝ) : EReal)) = ((dsco q k v d c T (i 0) (i 1) (i 2) : ℝ) : EReal)
  rw [div_tot q k c T hT, ← dsco_quotient]
  by_cases hs : i 2 ≤ i 1
  · rw [if_pos hs, if_pos rfl, if_pos hs, EReal.coe_mul, EReal.coe_add]
  · rw [if_neg hs, if_neg (by decide), if_neg hs]

/-! The queries' and keys' gradients. -/
theorem scaled : val_main_v90 (F := Ideal) (up2 q) (up2 k) (up2 v) (up2 c) (up2 d) = up3 fun h r s => dsco q k v d c T h r s * (1 / 8) := by
  funext i
  rw [val_main_v90_apply, dscores q k v d c T hT, val_main_v89_apply, val_main_cst_17_apply, eighth_bits]
  exact (EReal.coe_mul _ _).symm
theorem dq_heads (i) : val_main_v92 (F := Ideal) (up2 q) (up2 k) (up2 v) (up2 c) (up2 d) i = ((∑ s, dsco q k v d c T (i 0) (i 1) s * (1 / 8) * k s (cl (i 0) (i 2)) : ℝ) : EReal) := by
  rw [val_main_v92_apply, heads_k, scaled q k v d c T hT, coe_sum]
  exact Finset.sum_congr rfl fun x _ => (EReal.coe_mul _ _).symm
theorem dk_heads (i) : val_main_v91 (F := Ideal) (up2 q) (up2 k) (up2 v) (up2 c) (up2 d) i = ((∑ r, dsco q k v d c T (i 0) r (i 1) * (1 / 8) * q r (cl (i 0) (i 2)) : ℝ) : EReal) := by
  rw [val_main_v91_apply, heads_q, scaled q k v d c T hT, coe_sum]
  exact Finset.sum_congr rfl fun x _ => (EReal.coe_mul _ _).symm

theorem ref_q : val_main_v96 (F := Ideal) (up2 q) (up2 k) (up2 v) (up2 c) (up2 d) = up2 (outQ (found q k v d c T)) := by
  funext i
  rw [val_main_v96_apply, val_main_v95_apply, dq_heads q k v d c T hT]
  have h0 : (i 0).val < 2048 := (i 0).isLt; have h1 : (i 1).val < 512 := (i 1).isLt
  obtain ⟨p, e, x, hl, hh, hx⟩ := lane (i 1)
  have e0 : (idx_main_v95 (idx_main_v96 i)) 0 = hd p e := Fin.ext ((show ((i 0).val * 512 + (i 1).val) / 64 % 8 = (i 1).val / 64 by omega).trans (congrArg Fin.val hh))
  have e1 : (idx_main_v95 (idx_main_v96 i)) 1 = i 0 := Fin.ext (show ((i 0).val * 512 + (i 1).val) / 512 = (i 0).val by omega)
  have e2 : (idx_main_v95 (idx_main_v96 i)) 2 = x := Fin.ext ((show ((i 0).val * 512 + (i 1).val) % 64 = (i 1).val % 64 by omega).trans (congrArg Fin.val hx))
  rw [e0, e1, e2]
  show _ = ((outQ (found q k v d c T) (i 0) (i 1) : ℝ) : EReal)
  rw [hl, outQ_eq]

theorem ref_k : val_main_v94 (F := Ideal) (up2 q) (up2 k) (up2 v) (up2 c) (up2 d) = up2 (outK (found q k v d c T)) := by
  funext i
  rw [val_main_v94_apply, val_main_v93_apply, dk_heads q k v d c T hT]
  have h0 : (i 0).val < 2048 := (i 0).isLt; have h1 : (i 1).val < 512 := (i 1).isLt
  obtain ⟨p, e, x, hl, hh, hx⟩ := lane (i 1)
  have e0 : (idx_main_v93 (idx_main_v94 i)) 0 = hd p e := Fin.ext ((show ((i 0).val * 512 + (i 1).val) / 64 % 8 = (i 1).val / 64 by omega).trans (congrArg Fin.val hh))
  have e1 : (idx_main_v93 (idx_main_v94 i)) 1 = i 0 := Fin.ext (show ((i 0).val * 512 + (i 1).val) / 512 = (i 0).val by omega)
  have e2 : (idx_main_v93 (idx_main_v94 i)) 2 = x := Fin.ext ((show ((i 0).val * 512 + (i 1).val) % 64 = (i 1).val % 64 by omega).trans (congrArg Fin.val hx))
  rw [e0, e1, e2]
  show _ = ((outK (found q k v d c T) (i 0) (i 1) : ℝ) : EReal)
  rw [hl, outK_eq]

/-! The column and row sums. -/
theorem col_sum (i) : val_main_v83 (F := Ideal) (up2 q) (up2 k) (up2 v) (up2 c) (up2 d) i = ((∑ r, dsco q k v d c T (i 0) r (i 1) : ℝ) : EReal) := by
  rw [val_main_v83_apply, val_main_cst_14_apply, zero_bits, dscores q k v d c T hT, EReal.coe_zero, zero_add, coe_sum]; rfl
theorem row_sum (i) : val_main_v81 (F := Ideal) (up2 q) (up2 k) (up2 v) (up2 c) (up2 d) i = ((∑ s, dsco q k v d c T (i 0) (i 1) s : ℝ) : EReal) := by
  rw [val_main_v81_apply, val_main_cst_13_apply, zero_bits, dscores q k v d c T hT, EReal.coe_zero, zero_add, coe_sum]; rfl
theorem col_sums (i) : val_main_v99 (F := Ideal) (up2 q) (up2 k) (up2 v) (up2 c) (up2 d) i = ((∑ r, dsco q k v d c T (hd (i 0) (i 2)) r (rowAt (i 1).val (i 3)) : ℝ) : EReal) := by
  rw [val_main_v99_apply, val_main_v98_apply, val_main_v97_apply, val_main_v86_apply, val_main_v85_apply, val_main_cst_15_apply, zero_bits, sum_one, val_main_v84_apply,
    col_sum q k v d c T hT]
  have h0 : (i 0).val < 4 := (i 0).isLt; have h1 : (i 1).val < 8 := (i 1).isLt; have h2 : (i 2).val < 2 := (i 2).isLt; have h3 : (i 3).val < 256 := (i 3).isLt
  refine at_eq (fun a b => ∑ r, dsco q k v d c T a r b) ?_ ?_
  · show (((((((i 0).val * 2 + (i 2).val) * 8 + (i 1).val) * 256 + (i 3).val) / 2048) * 1 + 0) * 2048 + ((((i 0).val * 2 + (i 2).val) * 8 + (i 1).val) * 256 + (i 3).val) % 2048) / 2048
      = 2 * (i 0).val + (i 2).val
    omega
  · show (((((((i 0).val * 2 + (i 2).val) * 8 + (i 1).val) * 256 + (i 3).val) / 2048) * 1 + 0) * 2048 + ((((i 0).val * 2 + (i 2).val) * 8 + (i 1).val) * 256 + (i 3).val) % 2048) % 2048
      = (256 * (i 1).val + (i 3).val) % 2048
    omega
theorem row_sums (i) : val_main_v101 (F := Ideal) (up2 q) (up2 k) (up2 v) (up2 c) (up2 d) i = ((∑ s, dsco q k v d c T (hd (i 0) (i 2)) (i 1) s : ℝ) : EReal) := by
  rw [val_main_v101_apply, val_main_v100_apply, val_main_v88_apply, val_main_v87_apply, val_main_cst_16_apply, zero_bits, sum_one, val_main_v82_apply,
    row_sum q k v d c T hT]
  have h0 : (i 0).val < 4 := (i 0).isLt; have h1 : (i 1).val < 2048 := (i 1).isLt; have h2 : (i 2).val < 2 := (i 2).isLt
  have hm : (((i 1).val * 4 + (i 0).val) * 2 + (i 2).val) % 8 = 2 * (i 0).val + (i 2).val := by omega
  have hq : (((i 1).val * 4 + (i 0).val) * 2 + (i 2).val) / 8 = (i 1).val := by omega
  refine at_eq (fun a b => ∑ s, dsco q k v d c T a b s) ?_ ?_
  · show (((((i 1).val * 4 + (i 0).val) * 2 + (i 2).val) % 8 * 2048 + (((i 1).val * 4 + (i 0).val) * 2 + (i 2).val) / 8) * 1 + 0) / 2048 = 2 * (i 0).val + (i 2).val
    rw [hm, hq]; omega
  · show (((((i 1).val * 4 + (i 0).val) * 2 + (i 2).val) % 8 * 2048 + (((i 1).val * 4 + (i 0).val) * 2 + (i 2).val) / 8) * 1 + 0) % 2048 = (i 1).val
    rw [hm, hq]; omega
omit hT in
/-- The padding's zero. -/
theorem pad_zero : FloatOps.sitofp (F := Ideal) .f32 0#32 = ((0 : ℝ) : EReal) := by
  show (((0#32 : BitVec 32).toInt : ℝ) : EReal) = _
  simp
theorem ref_c : val_main_v102 (F := Ideal) (up2 q) (up2 k) (up2 v) (up2 c) (up2 d) = up4 (outC (found q k v d c T)) := by
  funext i
  have e := col_sums q k v d c T hT
  unfold val_main_v102
  generalize val_main_v99 (F := Ideal) (up2 q) (up2 k) (up2 v) (up2 c) (up2 d) = y at e
  pointwise []
  show _ = ((outC (found q k v d c T) (i 0) (i 1) (i 2) (i 3) : ℝ) : EReal)
  rw [outC_eq]
  by_cases h : (i 2).val < 2
  · rw [dif_pos h, dif_pos h, e]; rfl
  · rw [dif_neg h, dif_neg h, val_main_call2_v0_apply, val_main_c_apply, pad_zero]
theorem ref_r : val_main_v103 (F := Ideal) (up2 q) (up2 k) (up2 v) (up2 c) (up2 d) = up3 (outR (found q k v d c T)) := by
  funext i
  have e := row_sums q k v d c T hT
  unfold val_main_v103
  generalize val_main_v101 (F := Ideal) (up2 q) (up2 k) (up2 v) (up2 c) (up2 d) = y at e
  pointwise []
  show _ = ((outR (found q k v d c T) (i 0) (i 1) (i 2) : ℝ) : EReal)
  rw [outR_eq]
  by_cases h : (i 2).val < 2
  · rw [dif_pos h, dif_pos h, e]; rfl
  · rw [dif_neg h, dif_neg h, val_main_call3_v0_apply, val_main_c_18_apply, pad_zero]
end

end Cert.ReferenceIdeal.Real

end
-- ==== Proof.Prefix.lean ====
/- What the host operations before the attention-gradient kernel leave in the three arrays it reads besides the arguments, as terms over the arguments:
   the attention output, each row's log-sum, and the column terms. The scores, their exponentials and the output are the reference's own. -/
module

public import proofs.«01_k».proof.Proof.RefGrad
public import Idealize.ShloMosaic.Lib.StableHlo.RunRead

@[expose] public section

set_option maxRecDepth 16384
set_option backward.isDefEq.respectTransparency false

noncomputable section

namespace Cert.KernelIdeal.Val

open Idealize.ShloMosaic Idealize.ShloMosaic.TcCoe Idealize.ShloMosaic.Tactic Idealize.ShloMosaic.StableHlo
open Cert.KernelIdeal.Gen
open Cert.ReferenceIdeal.Read (val_main_v60 val_main_v28 val_main_v11)

variable (m : (ℓ : Loc nD τ sig) → Buf (Elt Ideal) ℓ) (c : Dev nD)

set_option maxHeartbeats 4000000 in
/-- The attention output the kernel is given. -/
theorem V_o : V m c main_v44
    = truncf (F := Ideal) (φ := .f32) .bf16 (val_main_v60 (F := Ideal) (m ((c.tc : Thread nD τ).loc main_arg0)) (m ((c.tc : Thread nD τ).loc main_arg1)) (m ((c.tc : Thread nD τ).loc main_arg2)) (m ((c.tc : Thread nD τ).loc main_arg3))) bitsLt_bf16_f32 := by
  unfold_abbrev_sides
  simp only [hostOps0, hostOps0_1, hostOps0_2, hostOps0_3, hostOps0_4, hostOps0_5, hostOps0_6, List.flatten_cons, List.flatten_nil, List.append_nil, List.cons_append,
    List.nil_append, TRef.binary, TRef.nullary, TRef.ternary, TRef.unary, TRef.toBuf, TRef.ofBuf, cast_eq]
  after_reads_simp
  rfl

/-- The largest score of each row. -/
def topOf (x0 x1 : (⟨S2048x512, .bf16⟩ : BufTy).Contents (Elt Ideal)) (x3 : (⟨S2048x8, .f32⟩ : BufTy).Contents (Elt Ideal)) : FVec Ideal S8x2048 .f32 :=
  val_main_v28 (F := Ideal) x0 x1 x3
/-- The exponentials of the scores less it. -/
def expOf (x0 x1 : (⟨S2048x512, .bf16⟩ : BufTy).Contents (Elt Ideal)) (x3 : (⟨S2048x8, .f32⟩ : BufTy).Contents (Elt Ideal)) : FVec Ideal S8x2048x2048 .f32 :=
  Host.exp (subf (Cert.ReferenceIdeal.Read.val_main_v27_0 (F := Ideal) x0 x1 x3)
    (broadcastInDim S8x2048x2048 ![0, 1, 2] bcast_S8x2048x1_S8x2048x2048_0_1_2 (broadcastInDim S8x2048x1 ![0, 1] bcast_S8x2048_S8x2048x1_0_1 (topOf x0 x1 x3))))
/-- Each row's log-sum less its row term. -/
def logOf (x0 x1 : (⟨S2048x512, .bf16⟩ : BufTy).Contents (Elt Ideal)) (x3 : (⟨S2048x8, .f32⟩ : BufTy).Contents (Elt Ideal)) : FVec Ideal S8x2048 .f32 :=
  subf (addf (topOf x0 x1 x3) (Host.log (Host.reduceAdd (expOf x0 x1 x3) (constant S_ .f32 0x00000000#32) reducesTo_S8x2048x2048_S8x2048_d2 h_S_))) (val_main_v11 (F := Ideal) x3)

set_option maxHeartbeats 4000000 in
theorem V_l : V m c main_v84 = pad (α := Ideal .f32) S4x2048x128 ![0, 0, 0] ![0, 0, 126] ![0, 0, 0]
      (transpose S4x2048x2 [0, 2, 1] (shapeCast S4x2x2048 (logOf (m ((c.tc : Thread nD τ).loc main_arg0)) (m ((c.tc : Thread nD τ).loc main_arg1)) (m ((c.tc : Thread nD τ).loc main_arg3))) shapeCasts_S8x2048_S4x2x2048)
        transposes_S4x2x2048_S4x2048x2_0_2_1) (sitofp (F := Ideal) .f32 (constantI S_ 32 0#32)) pads_S4x2048x2_S4x2048x128_000_000_01260 h_S_ := by
  unfold_abbrev_sides
  simp only [hostOps0, hostOps0_1, hostOps0_2, hostOps0_3, hostOps0_4, hostOps0_5, hostOps0_6, List.flatten_cons, List.flatten_nil, List.append_nil, List.cons_append,
    List.nil_append, TRef.binary, TRef.nullary, TRef.ternary, TRef.unary, TRef.toBuf, TRef.ofBuf, cast_eq]
  after_reads_simp
  rfl

set_option maxHeartbeats 4000000 in
theorem V_ct : V m c main_v87 = transpose S8x8x256 [1, 0, 2] (shapeCast S8x8x256 (val_main_v11 (F := Ideal) (m ((c.tc : Thread nD τ).loc main_arg3))) shapeCasts_S8x2048_S8x8x256)
        transposes_S8x8x256_S8x8x256_1_0_2 := by
  unfold_abbrev_sides
  simp only [hostOps0, hostOps0_1, hostOps0_2, hostOps0_3, hostOps0_4, hostOps0_5, hostOps0_6, List.flatten_cons, List.flatten_nil, List.append_nil, List.cons_append,
    List.nil_append, TRef.binary, TRef.nullary, TRef.ternary, TRef.unary, TRef.toBuf, TRef.ofBuf, cast_eq]
  after_reads_simp
  rfl

/-! The same over real arguments. -/
section
open Cert.KernelIdeal.Hand (up2 up3 coe_sum)
open Cert.KernelIdeal.Gen (V_main_arg0 V_main_arg1 V_main_arg2 V_main_arg4)
open Cert.ReferenceIdeal.Real (masked exp_shift output pad_zero zero_bits tops)
variable (q k v d : Fin 2048 → Fin 512 → ℝ) (e : Fin 2048 → Fin 8 → ℝ) (T : Fin 8 → Fin 2048 → ℝ)
  (hT : val_main_v28 (F := Ideal) (up2 q) (up2 k) (up2 e) = up2 T)
include hT

theorem expOf_real : expOf (up2 q) (up2 k) (up2 e) = up3 (expo q k e T) := by
  funext i
  unfold expOf topOf
  rw [hT]
  generalize hx : Cert.ReferenceIdeal.Read.val_main_v27_0 (F := Ideal) (up2 q) (up2 k) (up2 e) = x
  pointwise []
  rw [← hx, masked]
  exact exp_shift q k e T hT _ _ _
theorem logOf_real : logOf (up2 q) (up2 k) (up2 e) = up2 (fun h r => lsum q k e T h r) := by
  funext i
  unfold logOf topOf
  rw [hT, expOf_real q k e T hT]
  pointwise []
  rw [Cert.ReferenceIdeal.Read.val_main_v11_apply]
  show ((T (i 0) (i 1) : ℝ) : EReal) + Ideal.log (∑ x, ((expo q k e T (i 0) (i 1) x : ℝ) : EReal)) - ((e (i 1) (i 0) : ℝ) : EReal) = ((lsum q k e T (i 0) (i 1) : ℝ) : EReal)
  have ht : ∑ x, ((expo q k e T (i 0) (i 1) x : ℝ) : EReal) = ((tot q k e T (i 0) (i 1) : ℝ) : EReal) := (coe_sum _ _).symm
  rw [ht, Ideal.log_coe, if_neg (not_le.2 (tot_pos q k e T (i 0) (i 1))), ← EReal.coe_add, ← EReal.coe_sub]
  rfl
omit hT in
theorem ct_real : transpose S8x8x256 [1, 0, 2] (shapeCast S8x8x256 (val_main_v11 (F := Ideal) (up2 e)) shapeCasts_S8x2048_S8x8x256) transposes_S8x8x256_S8x8x256_1_0_2
    = up3 (found q k v d e T).ct := by
  funext i
  have hy := fun i => Cert.ReferenceIdeal.Read.val_main_v11_apply (F := Ideal) (up2 e) i
  generalize val_main_v11 (F := Ideal) (up2 e) = y at hy ⊢
  pointwise []
  rw [hy]
  show ((e _ (i 1) : ℝ) : EReal) = ((e _ (i 1) : ℝ) : EReal)
  exact congrArg (fun z : ℝ => (z : EReal)) (congrArg (fun z => e z (i 1)) (Fin.ext (show (i 0).val * 256 + (i 2).val = 256 * (i 0).val + (i 2).val by omega)))
theorem l_real : pad (α := Ideal .f32) S4x2048x128 ![0, 0, 0] ![0, 0, 126] ![0, 0, 0]
      (transpose S4x2048x2 [0, 2, 1] (shapeCast S4x2x2048 (logOf (up2 q) (up2 k) (up2 e)) shapeCasts_S8x2048_S4x2x2048)
        transposes_S4x2x2048_S4x2048x2_0_2_1) (sitofp (F := Ideal) .f32 (constantI S_ 32 0#32)) pads_S4x2048x2_S4x2048x128_000_000_01260 h_S_
    = up3 (found q k v d e T).l := by
  funext i
  rw [logOf_real q k e T hT]
  pointwise []
  show _ = (((if h : (i 2).val < 2 then lsum q k e T ⟨2 * (i 0).val + (i 2).val, _⟩ (i 1) else 0 : ℝ)) : EReal)
  by_cases h : (i 2).val < 2
  · rw [dif_pos h, dif_pos h]
    exact congrArg (fun z : ℝ => (z : EReal)) (congrArg (fun z => lsum q k e T z (i 1)) (Fin.ext (show (i 0).val * 2 + (i 2).val = 2 * (i 0).val + (i 2).val by omega)))
  · rw [dif_neg h, dif_neg h, pad_zero]

/-- From real arguments the region finds real arrays: the arguments, their attention output, log-sums and column terms. -/
theorem holds (h0 : m ((c.tc : Thread nD τ).loc main_arg0) = up2 q) (h1 : m ((c.tc : Thread nD τ).loc main_arg1) = up2 k)
    (h2 : m ((c.tc : Thread nD τ).loc main_arg2) = up2 v) (h3 : m ((c.tc : Thread nD τ).loc main_arg3) = up2 e)
    (h4 : m ((c.tc : Thread nD τ).loc main_arg4) = up2 d) : Holds m c (found q k v d e T) where
  q := (V_main_arg0 m c).trans h0
  k := (V_main_arg1 m c).trans h1
  v := (V_main_arg2 m c).trans h2
  d := (V_main_arg4 m c).trans h4
  o := by rw [V_o, h0, h1, h2, h3, output q k v d e T hT]; rfl
  l := by rw [V_l, h0, h1, h3]; exact l_real q k v d e T hT
  ct := by rw [V_ct, h3]; exact ct_real q k v d e T
end

end Cert.KernelIdeal.Val

end
-- ==== Proof.Finite.lean ====
/- The precondition, read: an argument array all of whose entries are finite is an array of real numbers. -/
module

public import proofs.«01_k».proof.Defs
public import proofs.«01_k».proof.Proof.Gen.Pre_finite
public import proofs.«01_k».proof.Proof.Ops
public import Idealize.ShloMosaic.Lib.ReduceAll

@[expose] public section

set_option maxRecDepth 16384
set_option backward.isDefEq.respectTransparency false

noncomputable section

namespace Cert.Finite

open Idealize.ShloMosaic Idealize.ShloMosaic.TcCoe Idealize.ShloMosaic.Tactic
open Cert.KernelIdeal.Hand (up2)
open Cert.Pre_finite

instance : Subsingleton S_.Idx := ⟨fun a b => funext fun i => i.elim0⟩

theorem top_bits : FloatOps.ofBits (F := Ideal) .f32 0x7F800000#32 = (⊤ : EReal) := by
  simp [Ideal.ofBits, Ideal.ieee]

theorem andi_one {a b : BitVec 1} (h : IntOp.andi a b = 1#1) : a = 1#1 ∧ b = 1#1 := by
  revert a b; decide

/-- A comparison of a magnitude with infinity. -/
theorem below (x : EReal) (h : FloatOps.cmpf (F := Ideal) (φ := .f32) .olt (FloatOps.hostAbsf (F := Ideal) (φ := .f32) x) (FloatOps.ofBits (F := Ideal) .f32 0x7F800000#32) = 1#1) : x ≠ ⊤ ∧ x ≠ ⊥ := by
  rw [top_bits] at h
  have h' : max x (-x) < ⊤ := by
    by_contra hn
    have h : BitVec.ofBool (decide (max x (-x) < ⊤)) = 1#1 := h
    rw [decide_eq_false hn] at h
    exact absurd h (by decide)
  refine ⟨fun e => ?_, fun e => ?_⟩
  · rw [e, max_eq_left le_top] at h'; exact lt_irrefl _ h'
  · rw [e, EReal.neg_bot, max_eq_right le_top] at h'; exact lt_irrefl _ h'

theorem up_of {a b : ℕ} (x : (⟨2, ![a, b]⟩ : Shape).Idx → EReal) (h : ∀ i, x i ≠ ⊤ ∧ x i ≠ ⊥) : ∃ f : Fin a → Fin b → ℝ, x = up2 f := by
  refine ⟨fun r s => (x (fun i => match i with | ⟨0, _⟩ => r | ⟨1, _⟩ => s)).toReal, funext fun i => ?_⟩
  have e : (fun i' => match i' with | ⟨0, _⟩ => i 0 | ⟨1, _⟩ => i 1 : (⟨2, ![a, b]⟩ : Shape).Idx) = i := funext fun j => match j with
    | ⟨0, _⟩ => rfl
    | ⟨1, _⟩ => rfl
  show x i = ((x _).toReal : EReal)
  rw [e]
  exact (EReal.coe_toReal (h i).1 (h i).2).symm

section
variable [Facts]
theorem reals (x0 x1 x2 : FVec Ideal S2048x512 .bf16) (x3 : FVec Ideal S2048x8 .f32) (x4 : FVec Ideal S2048x512 .f32)
    (h : fn (F := Ideal) x0 x1 x2 x3 x4 = fun _ => 1#1) :
    ∃ (q k v d : Fin 2048 → Fin 512 → ℝ) (c : Fin 2048 → Fin 8 → ℝ), x0 = up2 q ∧ x1 = up2 k ∧ x2 = up2 v ∧ x3 = up2 c ∧ x4 = up2 d := by
  have h' := congrFun h (Shape.Idx.first Facts.h_S_)
  unfold fn fn_part1 at h'
  obtain ⟨h', h4⟩ := andi_one h'
  obtain ⟨h', h3⟩ := andi_one h'
  obtain ⟨h', h2⟩ := andi_one h'
  obtain ⟨h0, h1⟩ := andi_one h'
  obtain ⟨q, hq⟩ := up_of x0 fun i => below _ (Host.reduce_andi_all _ _ _ _ _ h0 i)
  obtain ⟨k, hk⟩ := up_of x1 fun i => below _ (Host.reduce_andi_all _ _ _ _ _ h1 i)
  obtain ⟨v, hv⟩ := up_of x2 fun i => below _ (Host.reduce_andi_all _ _ _ _ _ h2 i)
  obtain ⟨c, hc⟩ := up_of x3 fun i => below _ (Host.reduce_andi_all _ _ _ _ _ h3 i)
  obtain ⟨d, hd⟩ := up_of x4 fun i => below _ (Host.reduce_andi_all _ _ _ _ _ h4 i)
  exact ⟨q, k, v, d, c, hq, hk, hv, hc, hd⟩
end

end Cert.Finite

end
-- ==== Proof.KFrame.lean ====
/- The compiled program and the idealized one have the same text (no rewrite was made), so the first one's frame is the
   second one's, read at bits. -/
module

public import proofs.«01_k».proof.Proof.Frame
public import proofs.«01_k».proof.Proof.Gen.Kernel.Frame

@[expose] public section

set_option maxRecDepth 16384

noncomputable section

namespace Cert.KernelIdeal.Hand

open Idealize.ShloMosaic Idealize.ShloMosaic.TcCoe
open Idealize.SL Idealize.SL.Sem

variable {F : FTy → Type} [FloatOps F]

set_option maxHeartbeats 40000000 in
theorem defs₀_eq : @Cert.Kernel.defs₀ F _ _ = @Cert.KernelIdeal.defs₀ F _ _ := by
  unfold Cert.Kernel.defs₀ Cert.KernelIdeal.defs₀
  refine congrArg (Defs.onTc (nD := nD) (τ := τ) (sig := sig) (Val := Elt F) (Λ := Λ₀)) (funext fun l => funext fun x => ?_)
  match l, x with
  | 0, (t, s) => rfl

set_option maxHeartbeats 40000000 in
theorem defs_eq : @Cert.Kernel.defs F _ _ = @Cert.KernelIdeal.defs F _ _ :=
  congrArg (Pipeline.defs (Cert.KernelIdeal.pcfgs (F := F))) defs₀_eq

set_option maxHeartbeats 40000000 in
theorem main_eq : @Cert.Kernel.main F _ _ = @Cert.KernelIdeal.main F _ _ := rfl

set_option maxHeartbeats 4000000 in
/-- The compiled program's frame, at any floats. -/
theorem frame_kernel (m : (ℓ : Loc Cert.Kernel.nD Cert.Kernel.τ Cert.Kernel.sig) → Buf (Elt F) ℓ) (ρ : Dev Cert.Kernel.nD → PrngReg) :
    θ_run Cert.Kernel.defs (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) :=
  have key : ∀ D, D = defs (F := F) → ∀ M, M = main (F := F) → θ_run D (onTc (τ := τ) M) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
    intro D hD M hM; subst hD; subst hM; exact frame (F := F) m ρ
  key _ defs_eq _ main_eq

end Cert.KernelIdeal.Hand

end
-- ==== Proof.Sums.lean ====
/- A long sum cut into blocks of equal length, and an array's places by their coordinates. -/
module

public import Mathlib.Algebra.BigOperators.Fin
public import Idealize.ShloMosaic.Lib.ValueIdx
public import Idealize.ShloMosaic.PureOps.Ideal.Laws
public import Mathlib.Data.EReal.Operations

@[expose] public section

namespace Cert.Sums

theorem place {a b n : ℕ} (h : a * b = n) (j : Fin a) (k : Fin b) : j.val * b + k.val < n := by
  have := k.isLt
  calc j.val * b + k.val < j.val * b + b := by omega
    _ = (j.val + 1) * b := (Nat.succ_mul _ _).symm
    _ ≤ a * b := Nat.mul_le_mul_right _ j.isLt
    _ = n := h

/-- The sum over `a·b` places is the sum over `a` blocks of `b` places. -/
theorem sum_blocks {M : Type*} [AddCommMonoid M] {a b n : ℕ} (h : a * b = n) (f : Fin n → M) :
    ∑ i, f i = ∑ j : Fin a, ∑ k : Fin b, f ⟨j.val * b + k.val, place h j k⟩ := by
  subst h
  rw [← Equiv.sum_comp finProdFinEquiv, Fintype.sum_prod_type]
  refine Finset.sum_congr rfl fun j _ => Finset.sum_congr rfl fun k _ => congrArg f (Fin.ext ?_)
  show k.val + b * j.val = j.val * b + k.val
  rw [Nat.mul_comm, Nat.add_comm]

/-- Over the extended reals too a nonnegative real factor moves into a sum. -/
theorem sum_mul {ι : Type*} (s : Finset ι) (f : ι → EReal) (h : ℝ) (h0 : 0 ≤ h) : (∑ i ∈ s, f i) * (h : EReal) = ∑ i ∈ s, f i * (h : EReal) := by
  classical
  induction s using Finset.induction_on with
  | empty => simp
  | insert a s ha ih =>
    rw [Finset.sum_insert ha, Finset.sum_insert ha, EReal.right_distrib_of_nonneg_of_ne_top (EReal.coe_nonneg.2 h0) (EReal.coe_ne_top h), ih]

open Idealize.ShloMosaic

/-- The constant one half. -/
theorem half : (Scalar.ofBits (F := Ideal) .f32 0x3F000000#32 : EReal) = ((1 / 2 : ℝ) : EReal) := by
  show Ideal.ofBits .f32 0x3F000000#32 = _
  simp [Ideal.ofBits, Ideal.ieee, -EReal.coe_mul]; norm_num

/-- A product of rows halved, and the product with one factor halved first. -/
theorem halved {ι : Type*} [Fintype ι] (x y : ι → EReal) :
    (∑ i, x i * y i) * (Scalar.ofBits (F := Ideal) .f32 0x3F000000#32 : EReal) = ∑ i, (Scalar.ofBits (F := Ideal) .f32 0x3F000000#32 : EReal) * x i * y i := by
  rw [half, sum_mul _ _ _ (by norm_num)]
  refine Finset.sum_congr rfl fun i _ => ?_
  rw [mul_comm, mul_assoc]

/-! The whole block is read and written from its first place. -/

theorem z2 : (![0, 0] : Fin 2 → Nat) = fun _ => 0 := funext fun a => by fin_cases a <;> rfl
theorem z3 : (![0, 0, 0] : Fin 3 → Nat) = fun _ => 0 := funext fun a => by fin_cases a <;> rfl

/-- A place of a matrix, and of a stack of matrices. -/
abbrev at2 {n0 n1 : ℕ} (i : Fin n0) (j : Fin n1) : Shape.Idx ⟨2, ![n0, n1]⟩ := fun a => match a with
  | ⟨0, _⟩ => i
  | ⟨1, _⟩ => j
abbrev at3 {n0 n1 n2 : ℕ} (i : Fin n0) (j : Fin n1) (k : Fin n2) : Shape.Idx ⟨3, ![n0, n1, n2]⟩ := fun a => match a with
  | ⟨0, _⟩ => i
  | ⟨1, _⟩ => j
  | ⟨2, _⟩ => k

theorem at2_eta {n0 n1 : ℕ} (i : Shape.Idx ⟨2, ![n0, n1]⟩) : at2 (i 0) (i 1) = i := funext fun a => by
  match a with
  | ⟨0, _⟩ => rfl
  | ⟨1, _⟩ => rfl
theorem at3_eta {n0 n1 n2 : ℕ} (i : Shape.Idx ⟨3, ![n0, n1, n2]⟩) : at3 (i 0) (i 1) (i 2) = i := funext fun a => by
  match a with
  | ⟨0, _⟩ => rfl
  | ⟨1, _⟩ => rfl
  | ⟨2, _⟩ => rfl

end Cert.Sums
-- ==== Proof.Dwi.lean ====
/- The gradient of the feed-forward's first weight: what the call's two row blocks add up to, and the reference's one product. -/
module

public import proofs.«01_k».proof.Proof.Gen.Kernel3Ideal.Value
public import proofs.«01_k».proof.Proof.Gen.Reference3Ideal.Read
public import proofs.«01_k».proof.Proof.Sums
public import Idealize.ShloMosaic.Lib.Pointwise
public import Idealize.ShloMosaic.Lib.Pointwise.Tactic

@[expose] public section

set_option maxRecDepth 16384
set_option backward.isDefEq.respectTransparency false

noncomputable section

namespace Cert.Kernel3Ideal.Val

open Idealize.ShloMosaic Idealize.ShloMosaic.TcCoe Idealize.ShloMosaic.Tactic
open Cert.Kernel3Ideal.Gen Cert.Kernel3Ideal.Value Cert.Sums
open Idealize.ShloMosaic.Pipeline (Dat)

section
variable {F : FTy → Type} [FloatOps F]
variable (c : Dev nD) (i : grid0.Coords) (a2 : Memref sig .tc .vmem S1x1024x704 .bf16) (h2 : a2.IsWhole) (a3 : Memref sig .tc .vmem S1024x1024 .bf16) (h3 : a3.IsWhole)
  (a4 : Memref sig .tc .vmem S1x704x1024 .bf16) (h4 : a4.IsWhole) (a5 : Memref sig .tc .vmem S704x1024 .f32) (h5 : a5.IsWhole)
  (x : Vec F S1x1024x704 .bf16) (y : Vec F S1024x1024 .bf16) (s : Vec F S704x1024 .f32)

/-- The first row block leaves its product in the accumulator. -/
theorem first (hc0 : cond0_0 i) (hc1 : ¬cond0_1 i) (hc2 : ¬cond0_2 i) : sout0_A_0 c i a2 h2 a3 h3 a4 h4 a5 h5 hc0 hc1 hc2 x y = k0_pay2 x y := by
  unfold sout0_A_0
  rw [View.read_writes_eq_canon _ _ _ (scover0_A_0 c i a2 h2 a3 h3 a4 h4 a5 h5 hc0 hc1 hc2 x y)]
  unfold kernelRun0_A
  dsimp only
  rw [View.canon_unit_zero z2]
  simp only [View.readAt_eq_ld, h2.read_unread, h3.read_unread, View.ld_unit_zero (S := S1x1024x704) z3, View.ld_unit_zero (S := S1024x1024) z2]

/-- The last row block's product is added to what the accumulator holds, and the sum stored. -/
theorem last (hc0 : ¬cond0_0 i) (hc1 : cond0_1 i) (hc2 : cond0_2 i) : out0_B_2 c i a2 h2 a3 h3 a4 h4 a5 h5 hc0 hc1 hc2 x y s = k0_pay4 (k0_pay3 x y s) := by
  unfold out0_B_2
  rw [View.read_writes_eq_canon _ _ _ (cover0_B_2 c i a2 h2 a3 h3 a4 h4 a5 h5 hc0 hc1 hc2 x y s)]
  unfold kernelRun0_B
  dsimp only
  sl_unfold_words
  rw [View.canon_unit_zero z3, View.readCov_unit_zero (S := S704x1024) _ z2]
  simp only [View.readAt_eq_ld, h2.read_unread, h3.read_unread, h5.read_unread, View.ld_unit_zero (S := S1x1024x704) z3, View.ld_unit_zero (S := S1024x1024) z2,
    View.ld_unit_zero (S := S704x1024) z2]
end

/-! Over the reals. -/

/-- A row block's product: the sum over the block's rows. -/
theorem prod_apply (x : Vec Ideal S1x1024x704 .bf16) (y : Vec Ideal S1024x1024 .bf16) (f : Fin 704) (d : Fin 1024) :
    k0_pay1 (F := Ideal) x y (at2 f d) = ∑ r : Fin 1024, x (at3 0 r f) * y (at2 r d) := by
  unfold k0_pay1
  pointwise [dot_S1024x704_S1024x1024_S704x1024_0_0_1_1_n_n]
  rfl

/-- The two row blocks' products, added: what the call stores at a place. -/
theorem stored (x x' : Vec Ideal S1x1024x704 .bf16) (y y' : Vec Ideal S1024x1024 .bf16) (f : Fin 704) (d : Fin 1024) :
    k0_pay4 (F := Ideal) (k0_pay3 x' y' (k0_pay2 x y)) (at3 0 f d) = (∑ r : Fin 1024, x (at3 0 r f) * y (at2 r d)) + ∑ r : Fin 1024, x' (at3 0 r f) * y' (at2 r d) := by
  rw [← prod_apply, ← prod_apply]
  unfold k0_pay4 k0_pay3 k0_pay2
  simp only [shapeCast_self]
  generalize k0_pay1 (F := Ideal) x y = p
  generalize k0_pay1 (F := Ideal) x' y' = p'
  pointwise
  rfl

variable (m : (ℓ : Loc nD τ sig) → Buf (Elt Ideal) ℓ) (c : Dev nD) (A : Vec Ideal S8x2048x704 .bf16) (B : Vec Ideal S2048x1024 .bf16)
  (hA : m ((c : Thread nD τ).loc main_arg0) = A) (hB : m ((c : Thread nD τ).loc main_arg1) = B)

theorem ix0 : ∀ t : Fin grid0.N, win0_0.index t 0 = t.val / 2 ∧ win0_0.index t 1 = t.val % 2 ∧ win0_0.index t 2 = 0 := by decide +kernel
theorem ix1 : ∀ t : Fin grid0.N, win0_1.index t 0 = t.val % 2 ∧ win0_1.index t 1 = 0 := by decide +kernel

/-- The block's rows among all rows. -/
abbrev row (k : Fin 2) (r : Fin 1024) : Fin 2048 := ⟨k.val * 1024 + r.val, place rfl k r⟩

include hA in
/-- The activation gradients' block: a shard and a block of rows. -/
theorem blk0 (t : Fin cfg0.N) (s : Fin 8) (k : Fin 2) (hs : t.val / 2 = s.val) (hk : t.val % 2 = k.val) (r : Fin 1024) (f : Fin 704) :
    (iblk m c 0 t : Vec Ideal S1x1024x704 .bf16) (at3 0 r f) = A (at3 s (row k r) f) := by
  obtain ⟨e0, e1, e2⟩ := ix0 t
  unfold iblk
  rw [show V m c (Pipeline.arrRef spec0 0) = A from hA]
  refine congrArg A (funext fun a => ?_)
  match a with
  | ⟨0, _⟩ => apply Fin.ext; show win0_0.index t 0 * 1 + 1 * 0 = s.val; omega
  | ⟨1, _⟩ => apply Fin.ext; show win0_0.index t 1 * 1024 + 1 * r.val = k.val * 1024 + r.val; omega
  | ⟨2, _⟩ => apply Fin.ext; show win0_0.index t 2 * 704 + 1 * f.val = f.val; omega

include hB in
/-- The normalised inputs' block: a block of rows. -/
theorem blk1 (t : Fin cfg0.N) (k : Fin 2) (hk : t.val % 2 = k.val) (r : Fin 1024) (d : Fin 1024) :
    (iblk m c 1 t : Vec Ideal S1024x1024 .bf16) (at2 r d) = B (at2 (row k r) d) := by
  obtain ⟨e0, e1⟩ := ix1 t
  unfold iblk
  rw [show V m c (Pipeline.arrRef spec0 1) = B from hB]
  refine congrArg B (funext fun a => ?_)
  match a with
  | ⟨0, _⟩ => apply Fin.ext; show win0_1.index t 0 * 1024 + 1 * r.val = k.val * 1024 + r.val; omega
  | ⟨1, _⟩ => apply Fin.ext; show win0_1.index t 1 * 1024 + 1 * d.val = d.val; omega

include hA hB in
/-- Each place of the array the call leaves holds the whole sum over the rows. -/
theorem entry (s : Fin 8) (f : Fin 704) (d : Fin 1024) :
    (G2 m c : Vec Ideal S8x704x1024 .bf16) (at3 s f d) = ∑ r : Fin 2048, A (at3 s r f) * B (at2 r d) := by
  have hs := s.isLt
  have hr : run2Of (at3 s f d) = s.val := by
    show 1 * (s.val / 1 - 0) + 1 * (f.val / 704 - 0) + 1 * (d.val / 1024 - 0) = s.val
    have := f.isLt; have := d.isLt; omega
  have hl : loc2Of (at3 s f d) = at3 0 f d := funext fun a => by
    match a with
    | ⟨0, _⟩ => exact Fin.ext (Nat.mod_one _)
    | ⟨1, _⟩ => exact Fin.ext (Nat.mod_eq_of_lt f.isLt)
    | ⟨2, _⟩ => exact Fin.ext (Nat.mod_eq_of_lt d.isLt)
  have hp : pt2Of (at3 s f d) = 2 * s.val + 1 := by rw [pt2Of, hr]
  have hb : 2 * s.val + 1 < cfg0.N := by rw [show cfg0.N = 16 from N_0]; omega
  have hb' : 2 * s.val < cfg0.N := by omega
  have e : (G2 m c : Vec Ideal S8x704x1024 .bf16) (at3 s f d) = (outsAt0 m c (2 * s.val + 1) hb).1 (at3 0 f d) := by
    unfold G2
    rw [dif_pos (by rw [hp]; exact hb), hl, outsAt0_sweep, fold0_congr m c _ _ (2 * s.val + 1) (by omega) hp]
  have o : outsAt0 m c (2 * s.val + 1) hb = _ := outsAt0_B m c ⟨2 * s.val + 1, hb⟩
    (by show ¬(2 * s.val + 1) % 2 = 0; omega) (by show (2 * s.val + 1) % 2 = 1; omega) (by show (2 * s.val + 1) % 2 = 1; omega)
  have o' : outsAt0 m c (2 * s.val) hb' = _ := outsAt0_A m c ⟨2 * s.val, hb'⟩
    (by show 2 * s.val % 2 = 0; omega) (by show ¬2 * s.val % 2 = 1; omega) (by show ¬2 * s.val % 2 = 1; omega)
  rw [e, o]
  dsimp only
  rw [last]
  rw [show outsAt0 m c (2 * s.val + 1 - 1) _ = _ from o']
  dsimp only
  rw [first, stored, sum_blocks (a := 2) (b := 1024) rfl, Fin.sum_univ_two]
  refine congrArg₂ (· + ·) (Finset.sum_congr rfl fun r _ => ?_) (Finset.sum_congr rfl fun r _ => ?_)
  · rw [blk0 m c A hA _ s 0 (by show 2 * s.val / 2 = _; omega) (by show 2 * s.val % 2 = 0; omega), blk1 m c B hB _ 0 (by show 2 * s.val % 2 = 0; omega)]
  · rw [blk0 m c A hA _ s 1 (by show (2 * s.val + 1) / 2 = _; omega) (by show (2 * s.val + 1) % 2 = 1; omega), blk1 m c B hB _ 1 (by show (2 * s.val + 1) % 2 = 1; omega)]

open Cert.Reference3Ideal.Read in
/-- The reference's product at a place. -/
theorem ref_entry (s : Fin 8) (f : Fin 704) (d : Fin 1024) :
    (val_main_v10 (F := Ideal) A B : Vec Ideal S8x704x1024 .bf16) (at3 s f d) = ∑ r : Fin 2048, A (at3 s r f) * B (at2 r d) := by
  have hs := s.isLt; have hf := f.isLt; have hd := d.isLt
  rw [val_main_v10_apply, val_main_v9_apply, val_main_v8_apply, val_main_v7_apply, val_main_v6_apply]
  refine Finset.sum_congr rfl fun r _ => ?_
  have hr := r.isLt
  rw [val_main_v5_apply, val_main_v4_apply, val_main_v3_apply, val_main_v1_apply]
  refine congrArg₂ (· * ·) (congrArg A (funext fun a => ?_)) (congrArg B (funext fun a => ?_))
  · match a with
    | ⟨0, _⟩ => apply Fin.ext; show (r.val * 5632 + ((s.val * 704 + f.val) * 1024 + d.val) / 1024) / 704 % 8 = s.val; omega
    | ⟨1, _⟩ => apply Fin.ext; show (r.val * 5632 + ((s.val * 704 + f.val) * 1024 + d.val) / 1024) / 5632 = r.val; omega
    | ⟨2, _⟩ => apply Fin.ext; show (r.val * 5632 + ((s.val * 704 + f.val) * 1024 + d.val) / 1024) % 704 = f.val; omega
  · match a with
    | ⟨0, _⟩ => rfl
    | ⟨1, _⟩ => apply Fin.ext; show ((s.val * 704 + f.val) * 1024 + d.val) % 1024 = d.val; omega

include hA hB in
theorem same : (G2 m c : Vec Ideal S8x704x1024 .bf16) = Cert.Reference3Ideal.Read.val_main_v10 (F := Ideal) A B := funext fun i => by
  rw [← at3_eta i]
  exact (entry m c A B hA hB _ _ _).trans (ref_entry A B _ _ _).symm

end Cert.Kernel3Ideal.Val

end
-- ==== Proof.Dwo.lean ====
/- The gradient of the feed-forward's second weight: half of what the call's two row blocks add up to, and the reference's one product. -/
module

public import proofs.«01_k».proof.Proof.Gen.Kernel4Ideal.Value
public import proofs.«01_k».proof.Proof.Gen.Reference4Ideal.Read
public import proofs.«01_k».proof.Proof.Sums
public import Idealize.ShloMosaic.Lib.Pointwise
public import Idealize.ShloMosaic.Lib.Pointwise.Tactic

@[expose] public section

set_option maxRecDepth 16384
set_option backward.isDefEq.respectTransparency false

noncomputable section

namespace Cert.Kernel4Ideal.Val

open Idealize.ShloMosaic Idealize.ShloMosaic.TcCoe Idealize.ShloMosaic.Tactic
open Cert.Kernel4Ideal.Gen Cert.Kernel4Ideal.Value Cert.Sums

section
variable {F : FTy → Type} [FloatOps F]
variable (c : Dev nD) (i : grid0.Coords) (a2 : Memref sig .tc .vmem S1x1024x704 .bf16) (h2 : a2.IsWhole) (a3 : Memref sig .tc .vmem S1024x1024 .f32) (h3 : a3.IsWhole)
  (a4 : Memref sig .tc .vmem S704x1024 .bf16) (h4 : a4.IsWhole) (a5 : Memref sig .tc .vmem S704x1024 .f32) (h5 : a5.IsWhole)
  (x : Vec F S1x1024x704 .bf16) (y : Vec F S1024x1024 .f32) (s : Vec F S704x1024 .f32)

/-- The first row block leaves its product in the accumulator. -/
theorem first (hc0 : cond0_0 i) (hc1 : ¬cond0_1 i) (hc2 : ¬cond0_2 i) : sout0_A_0 c i a2 h2 a3 h3 a4 h4 a5 h5 hc0 hc1 hc2 x y = k0_pay2 x y := by
  unfold sout0_A_0
  rw [View.read_writes_eq_canon _ _ _ (scover0_A_0 c i a2 h2 a3 h3 a4 h4 a5 h5 hc0 hc1 hc2 x y)]
  unfold kernelRun0_A
  dsimp only
  rw [View.canon_unit_zero z2]
  simp only [View.readAt_eq_ld, h2.read_unread, h3.read_unread, View.ld_unit_zero (S := S1x1024x704) z3, View.ld_unit_zero (S := S1024x1024) z2]

/-- The last row block's product is added to what the accumulator holds, and the sum stored. -/
theorem last (hc0 : ¬cond0_0 i) (hc1 : cond0_1 i) (hc2 : cond0_2 i) : out0_B_2 c i a2 h2 a3 h3 a4 h4 a5 h5 hc0 hc1 hc2 x y s = k0_pay4 (k0_pay3 x y s) := by
  unfold out0_B_2
  rw [View.read_writes_eq_canon _ _ _ (cover0_B_2 c i a2 h2 a3 h3 a4 h4 a5 h5 hc0 hc1 hc2 x y s)]
  unfold kernelRun0_B
  dsimp only
  sl_unfold_words
  rw [View.canon_unit_zero z2, View.readCov_unit_zero (S := S704x1024) _ z2]
  simp only [View.readAt_eq_ld, h2.read_unread, h3.read_unread, h5.read_unread, View.ld_unit_zero (S := S1x1024x704) z3, View.ld_unit_zero (S := S1024x1024) z2,
    View.ld_unit_zero (S := S704x1024) z2]
end

/-! Over the reals. -/

/-- The constant one half, as both programs write it. -/
abbrev hf : EReal := Scalar.ofBits (F := Ideal) .f32 0x3F000000#32

/-- A row block's product: the sum over the block's rows. -/
theorem prod_apply (x : Vec Ideal S1x1024x704 .bf16) (y : Vec Ideal S1024x1024 .f32) (f : Fin 704) (d : Fin 1024) :
    k0_pay1 (F := Ideal) x y (at2 f d) = ∑ r : Fin 1024, y (at2 r d) * x (at3 0 r f) := by
  unfold k0_pay1
  pointwise [dot_S1024x704_S1024x1024_S704x1024_0_0_1_1_n_n]
  exact Finset.sum_congr rfl fun r _ => mul_comm (G := EReal) _ _

/-- The two row blocks' products, added and halved: what the call stores at a place. -/
theorem stored (x x' : Vec Ideal S1x1024x704 .bf16) (y y' : Vec Ideal S1024x1024 .f32) (f : Fin 704) (d : Fin 1024) :
    k0_pay4 (F := Ideal) (k0_pay3 x' y' (k0_pay2 x y)) (at2 f d)
      = ((∑ r : Fin 1024, y (at2 r d) * x (at3 0 r f)) + ∑ r : Fin 1024, y' (at2 r d) * x' (at3 0 r f)) * hf := by
  rw [← prod_apply, ← prod_apply]
  unfold k0_pay4 k0_pay3 k0_pay2
  simp only [shapeCast_self]
  rfl

variable (m : (ℓ : Loc nD τ sig) → Buf (Elt Ideal) ℓ) (c : Dev nD) (A : Vec Ideal S4x2048x704 .bf16) (B : Vec Ideal S2048x1024 .f32)
  (hA : m ((c : Thread nD τ).loc main_arg0) = A) (hB : m ((c : Thread nD τ).loc main_arg1) = B)

theorem ix0 : ∀ t : Fin grid0.N, win0_0.index t 0 = t.val / 2 ∧ win0_0.index t 1 = t.val % 2 ∧ win0_0.index t 2 = 0 := by decide +kernel
theorem ix1 : ∀ t : Fin grid0.N, win0_1.index t 0 = t.val % 2 ∧ win0_1.index t 1 = 0 := by decide +kernel

/-- The block's rows among all rows. -/
abbrev row (k : Fin 2) (r : Fin 1024) : Fin 2048 := ⟨k.val * 1024 + r.val, place rfl k r⟩

include hA in
/-- The activations' block: a shard and a block of rows. -/
theorem blk0 (t : Fin cfg0.N) (s : Fin 4) (k : Fin 2) (hs : t.val / 2 = s.val) (hk : t.val % 2 = k.val) (r : Fin 1024) (f : Fin 704) :
    (iblk m c 0 t : Vec Ideal S1x1024x704 .bf16) (at3 0 r f) = A (at3 s (row k r) f) := by
  obtain ⟨e0, e1, e2⟩ := ix0 t
  unfold iblk
  rw [show V m c (Pipeline.arrRef spec0 0) = A from hA]
  refine congrArg A (funext fun a => ?_)
  match a with
  | ⟨0, _⟩ => apply Fin.ext; show win0_0.index t 0 * 1 + 1 * 0 = s.val; omega
  | ⟨1, _⟩ => apply Fin.ext; show win0_0.index t 1 * 1024 + 1 * r.val = k.val * 1024 + r.val; omega
  | ⟨2, _⟩ => apply Fin.ext; show win0_0.index t 2 * 704 + 1 * f.val = f.val; omega

include hB in
/-- The cotangents' block: a block of rows. -/
theorem blk1 (t : Fin cfg0.N) (k : Fin 2) (hk : t.val % 2 = k.val) (r : Fin 1024) (d : Fin 1024) :
    (iblk m c 1 t : Vec Ideal S1024x1024 .f32) (at2 r d) = B (at2 (row k r) d) := by
  obtain ⟨e0, e1⟩ := ix1 t
  unfold iblk
  rw [show V m c (Pipeline.arrRef spec0 1) = B from hB]
  refine congrArg B (funext fun a => ?_)
  match a with
  | ⟨0, _⟩ => apply Fin.ext; show win0_1.index t 0 * 1024 + 1 * r.val = k.val * 1024 + r.val; omega
  | ⟨1, _⟩ => apply Fin.ext; show win0_1.index t 1 * 1024 + 1 * d.val = d.val; omega

include hA hB in
/-- Each place of the array the call leaves holds half the whole sum over the rows. -/
theorem entry (g : Fin 2816) (d : Fin 1024) (s : Fin 4) (f : Fin 704) (hg : g.val = s.val * 704 + f.val) :
    (G2 m c : Vec Ideal S2816x1024 .bf16) (at2 g d) = (∑ r : Fin 2048, B (at2 r d) * A (at3 s r f)) * hf := by
  have hs := s.isLt; have hf := f.isLt; have hd := d.isLt
  have hr : run2Of (at2 g d) = s.val := by
    show 1 * (g.val / 704 - 0) + 1 * (d.val / 1024 - 0) = s.val
    omega
  have hl : loc2Of (at2 g d) = at2 f d := funext fun a => by
    match a with
    | ⟨0, _⟩ => apply Fin.ext; show g.val % 704 = f.val; omega
    | ⟨1, _⟩ => exact Fin.ext (Nat.mod_eq_of_lt d.isLt)
  have hp : pt2Of (at2 g d) = 2 * s.val + 1 := by rw [pt2Of, hr]
  have hb : 2 * s.val + 1 < cfg0.N := by rw [show cfg0.N = 8 from N_0]; omega
  have hb' : 2 * s.val < cfg0.N := by omega
  have e : (G2 m c : Vec Ideal S2816x1024 .bf16) (at2 g d) = (outsAt0 m c (2 * s.val + 1) hb).1 (at2 f d) := by
    unfold G2
    rw [dif_pos (by rw [hp]; exact hb), hl, outsAt0_sweep, fold0_congr m c _ _ (2 * s.val + 1) (by omega) hp]
  have o : outsAt0 m c (2 * s.val + 1) hb = _ := outsAt0_B m c ⟨2 * s.val + 1, hb⟩
    (by show ¬(2 * s.val + 1) % 2 = 0; omega) (by show (2 * s.val + 1) % 2 = 1; omega) (by show (2 * s.val + 1) % 2 = 1; omega)
  have o' : outsAt0 m c (2 * s.val) hb' = _ := outsAt0_A m c ⟨2 * s.val, hb'⟩
    (by show 2 * s.val % 2 = 0; omega) (by show ¬2 * s.val % 2 = 1; omega) (by show ¬2 * s.val % 2 = 1; omega)
  rw [e, o]
  dsimp only
  rw [last]
  rw [show outsAt0 m c (2 * s.val + 1 - 1) _ = _ from o']
  dsimp only
  rw [first, stored, sum_blocks (a := 2) (b := 1024) rfl, Fin.sum_univ_two]
  refine congrArg (· * Val.hf) (congrArg₂ (· + ·) (Finset.sum_congr rfl fun r _ => ?_) (Finset.sum_congr rfl fun r _ => ?_))
  · rw [blk0 m c A hA _ s 0 (by show 2 * s.val / 2 = _; omega) (by show 2 * s.val % 2 = 0; omega), blk1 m c B hB _ 0 (by show 2 * s.val % 2 = 0; omega)]
  · rw [blk0 m c A hA _ s 1 (by show (2 * s.val + 1) / 2 = _; omega) (by show (2 * s.val + 1) % 2 = 1; omega), blk1 m c B hB _ 1 (by show (2 * s.val + 1) % 2 = 1; omega)]

open Cert.Reference4Ideal.Read in
/-- The reference's product at a place. -/
theorem ref_entry (g : Fin 2816) (d : Fin 1024) (s : Fin 4) (f : Fin 704) (hg : g.val = s.val * 704 + f.val) :
    (val_main_v11 (F := Ideal) A B : Vec Ideal S2816x1024 .bf16) (at2 g d) = ∑ r : Fin 2048, hf * B (at2 r d) * A (at3 s r f) := by
  have hs := s.isLt; have hf := f.isLt; have hd := d.isLt
  rw [val_main_v11_apply, val_main_v10_apply, val_main_v9_apply]
  refine Finset.sum_congr rfl fun r _ => ?_
  have hr := r.isLt
  rw [val_main_v8_apply, val_main_v7_apply, val_main_v3_apply, val_main_v2_apply, val_main_v1_apply]
  refine congrArg₂ (· * ·) (congrArg₂ (· * ·) rfl (congrArg B (funext fun a => ?_))) (congrArg A (funext fun a => ?_))
  · match a with
    | ⟨0, _⟩ => rfl
    | ⟨1, _⟩ => rfl
  · match a with
    | ⟨0, _⟩ => apply Fin.ext; show (r.val * 2816 + g.val) / 704 % 4 = s.val; omega
    | ⟨1, _⟩ => apply Fin.ext; show (r.val * 2816 + g.val) / 2816 = r.val; omega
    | ⟨2, _⟩ => apply Fin.ext; show (r.val * 2816 + g.val) % 704 = f.val; omega

include hA hB in
theorem same : (G2 m c : Vec Ideal S2816x1024 .bf16) = Cert.Reference4Ideal.Read.val_main_v11 (F := Ideal) A B := funext fun i => by
  rw [← at2_eta i]
  have h0 : (i 0).val < 2816 := (i 0).isLt
  let s : Fin 4 := ⟨(i 0).val / 704, by omega⟩
  let f : Fin 704 := ⟨(i 0).val % 704, by omega⟩
  have hg : (i 0).val = s.val * 704 + f.val := by show (i 0).val = (i 0).val / 704 * 704 + (i 0).val % 704; omega
  exact (entry m c A B hA hB _ _ s f hg).trans ((halved _ _).trans (ref_entry A B _ _ s f hg).symm)

end Cert.Kernel4Ideal.Val

end
-- ==== Proof.Dact.lean ====
/- The gradient of the feed-forward's activation: each block the call leaves is half its rows times its shard of the second weight. -/
module

public import proofs.«01_k».proof.Proof.Gen.Kernel5Ideal.Value
public import proofs.«01_k».proof.Proof.Gen.Reference5Ideal.Read
public import proofs.«01_k».proof.Proof.Sums
public import Idealize.ShloMosaic.Lib.Pointwise
public import Idealize.ShloMosaic.Lib.Pointwise.Tactic

@[expose] public section

set_option maxRecDepth 16384
set_option backward.isDefEq.respectTransparency false

noncomputable section

namespace Cert.Kernel5Ideal.Val

open Idealize.ShloMosaic Idealize.ShloMosaic.TcCoe Idealize.ShloMosaic.Tactic
open Cert.Kernel5Ideal.Gen Cert.Kernel5Ideal.Value Cert.Sums

/-- The constant one half, as both programs write it. -/
abbrev hf : EReal := Scalar.ofBits (F := Ideal) .f32 0x3F000000#32

/-- A block's product: the sum over the width of the stream, halved. -/
theorem stored (x : Vec Ideal S1024x1024 .f32) (y : Vec Ideal S704x1024 .bf16) (r : Fin 1024) (f : Fin 704) :
    out0_2 (F := Ideal) x y (at3 0 r f) = (∑ d : Fin 1024, x (at2 r d) * y (at2 f d)) * hf := by
  unfold out0_2
  rw [View.canon_unit_zero z3, View.ld_unit_zero (S := S1024x1024) z2, View.ld_unit_zero (S := S704x1024) z2]
  unfold k0_pay1
  pointwise [dot_S1024x1024_S704x1024_S1024x704_1_1_0_0_n_n]
  rfl

variable (m : (ℓ : Loc nD τ sig) → Buf (Elt Ideal) ℓ) (c : Dev nD) (A : Vec Ideal S2048x1024 .f32) (B : Vec Ideal S2816x1024 .bf16)
  (hA : m ((c : Thread nD τ).loc main_arg0) = A) (hB : m ((c : Thread nD τ).loc main_arg1) = B)

theorem ix0 : ∀ t : Fin grid0.N, win0_0.index t 0 = t.val % 2 ∧ win0_0.index t 1 = 0 := by decide +kernel
theorem ix1 : ∀ t : Fin grid0.N, win0_1.index t 0 = t.val / 2 ∧ win0_1.index t 1 = 0 := by decide +kernel
theorem ix2 : ∀ t : Fin grid0.N, win0_2.flush t = true ∧ win0_2.index t 0 = t.val / 2 ∧ win0_2.index t 1 = t.val % 2 ∧ win0_2.index t 2 = 0 := by decide +kernel

/-- A shard's row of the weight among all rows. -/
abbrev at_shard (s : Fin 4) (f : Fin 704) : Fin 2816 := ⟨s.val * 704 + f.val, place rfl s f⟩

include hA in
/-- The cotangents' block: a block of rows. -/
theorem blk0 (t : Fin cfg0.N) (R : Fin 2048) (r : Fin 1024) (h : R.val = t.val % 2 * 1024 + r.val) (d : Fin 1024) :
    (iblk m c 0 t : Vec Ideal S1024x1024 .f32) (at2 r d) = A (at2 R d) := by
  obtain ⟨e0, e1⟩ := ix0 t
  unfold iblk
  rw [show V m c (Pipeline.arrRef spec0 0) = A from hA]
  refine congrArg A (funext fun a => ?_)
  match a with
  | ⟨0, _⟩ => apply Fin.ext; show win0_0.index t 0 * 1024 + 1 * r.val = R.val; omega
  | ⟨1, _⟩ => apply Fin.ext; show win0_0.index t 1 * 1024 + 1 * d.val = d.val; omega

include hB in
/-- The weight's block: a shard of its rows. -/
theorem blk1 (t : Fin cfg0.N) (s : Fin 4) (h : s.val = t.val / 2) (f : Fin 704) (d : Fin 1024) :
    (iblk m c 1 t : Vec Ideal S704x1024 .bf16) (at2 f d) = B (at2 (at_shard s f) d) := by
  obtain ⟨e0, e1⟩ := ix1 t
  unfold iblk
  rw [show V m c (Pipeline.arrRef spec0 1) = B from hB]
  refine congrArg B (funext fun a => ?_)
  match a with
  | ⟨0, _⟩ => apply Fin.ext; show win0_1.index t 0 * 704 + 1 * f.val = s.val * 704 + f.val; omega
  | ⟨1, _⟩ => apply Fin.ext; show win0_1.index t 1 * 1024 + 1 * d.val = d.val; omega

include hA hB in
/-- Each place of the array the call leaves. -/
theorem entry (s : Fin 4) (R : Fin 2048) (f : Fin 704) :
    ((dats m 0 c).arrAt 2 cfg0.N : Vec Ideal S4x2048x704 .f32) (at3 s R f) = (∑ d : Fin 1024, A (at2 R d) * B (at2 (at_shard s f) d)) * hf := by
  have hs := s.isLt; have hR := R.isLt
  have hN : cfg0.N = 8 := N_0
  let t : Fin cfg0.N := ⟨2 * s.val + R.val / 1024, by omega⟩
  have tv : t.val = 2 * s.val + R.val / 1024 := rfl
  let r : Fin 1024 := ⟨R.val % 1024, by omega⟩
  obtain ⟨hfl, e0, e1, e2⟩ := ix2 t
  have e : ((cfg0.win 2).blk t).view.emb (at3 (n0 := 1) (n1 := 1024) (n2 := 704) 0 r f) = at3 s R f := funext fun a => by
    match a with
    | ⟨0, _⟩ => apply Fin.ext; show win0_2.index t 0 * 1 + 1 * 0 = s.val; omega
    | ⟨1, _⟩ => apply Fin.ext; show win0_2.index t 1 * 1024 + 1 * (R.val % 1024) = R.val; omega
    | ⟨2, _⟩ => apply Fin.ext; show win0_2.index t 2 * 704 + 1 * f.val = f.val; omega
  rw [← e]
  refine (congrFun (blocks2 m c t hfl) (at3 (n0 := 1) (n1 := 1024) (n2 := 704) 0 r f)).trans ?_
  rw [flushed2]
  refine (stored (iblk m c 0 t) (iblk m c 1 t) r f).trans (congrArg (· * hf) (Finset.sum_congr rfl fun d _ => ?_))
  rw [blk0 m c A hA t R r (by show R.val = t.val % 2 * 1024 + R.val % 1024; omega), blk1 m c B hB t s (by omega)]

open Cert.Reference5Ideal.Read in
/-- The reference's product at a place. -/
theorem ref_entry (s : Fin 4) (R : Fin 2048) (f : Fin 704) :
    (val_main_v9 (F := Ideal) A B : Vec Ideal S4x2048x704 .f32) (at3 s R f) = ∑ d : Fin 1024, hf * A (at2 R d) * B (at2 (at_shard s f) d) := by
  have hs := s.isLt; have hf := f.isLt; have hR := R.isLt
  rw [val_main_v9_apply, val_main_v8_apply, val_main_v7_apply]
  refine Finset.sum_congr rfl fun d _ => ?_
  rw [val_main_v6_apply, val_main_v5_apply, val_main_v1_apply]
  refine congrArg₂ (· * ·) (congrArg₂ (· * ·) rfl (congrArg A (funext fun a => ?_))) (congrArg B (funext fun a => ?_))
  · match a with
    | ⟨0, _⟩ => apply Fin.ext; show ((R.val * 4 + s.val) * 704 + f.val) / 2816 = R.val; omega
    | ⟨1, _⟩ => rfl
  · match a with
    | ⟨0, _⟩ => apply Fin.ext; show ((R.val * 4 + s.val) * 704 + f.val) % 2816 = s.val * 704 + f.val; omega
    | ⟨1, _⟩ => rfl

include hA hB in
theorem same : ((dats m 0 c).arrAt 2 cfg0.N : Vec Ideal S4x2048x704 .f32) = Cert.Reference5Ideal.Read.val_main_v9 (F := Ideal) A B := funext fun i => by
  rw [← at3_eta i]
  exact (entry m c A B hA hB _ _ _).trans ((halved _ _).trans (ref_entry A B _ _ _).symm)

end Cert.Kernel5Ideal.Val

end
-- ==== Proof.Ffin.lean ====
/- The feed-forward's first product: each block the call leaves is its rows times its shard of the weight. -/
module

public import proofs.«01_k».proof.Proof.Gen.Kernel6Ideal.Value
public import proofs.«01_k».proof.Proof.Gen.Reference6Ideal.Read
public import proofs.«01_k».proof.Proof.Sums
public import Idealize.ShloMosaic.Lib.Pointwise
public import Idealize.ShloMosaic.Lib.Pointwise.Tactic

@[expose] public section

set_option maxRecDepth 16384
set_option backward.isDefEq.respectTransparency false

noncomputable section

namespace Cert.Kernel6Ideal.Val

open Idealize.ShloMosaic Idealize.ShloMosaic.TcCoe Idealize.ShloMosaic.Tactic
open Cert.Kernel6Ideal.Gen Cert.Kernel6Ideal.Value Cert.Sums

/-- A block's product: the sum over the width of the stream. -/
theorem stored (x : Vec Ideal S1024x1024 .bf16) (y : Vec Ideal S1x704x1024 .bf16) (r : Fin 1024) (f : Fin 704) :
    out0_2 (F := Ideal) x y (at3 0 r f) = ∑ d : Fin 1024, x (at2 r d) * y (at3 0 f d) := by
  unfold out0_2
  rw [View.canon_unit_zero z3, View.ld_unit_zero (S := S1024x1024) z2, View.ld_unit_zero (S := S1x704x1024) z3]
  unfold k0_pay1
  pointwise [dot_S1024x1024_S704x1024_S1024x704_1_1_0_0_n_n]
  rfl

variable (m : (ℓ : Loc nD τ sig) → Buf (Elt Ideal) ℓ) (c : Dev nD) (A : Vec Ideal S2048x1024 .bf16) (B : Vec Ideal S8x704x1024 .bf16)
  (hA : m ((c : Thread nD τ).loc main_arg0) = A) (hB : m ((c : Thread nD τ).loc main_arg1) = B)

theorem ix0 : ∀ t : Fin grid0.N, win0_0.index t 0 = t.val % 2 ∧ win0_0.index t 1 = 0 := by decide +kernel
theorem ix1 : ∀ t : Fin grid0.N, win0_1.index t 0 = t.val / 2 ∧ win0_1.index t 1 = 0 ∧ win0_1.index t 2 = 0 := by decide +kernel
theorem ix2 : ∀ t : Fin grid0.N, win0_2.flush t = true ∧ win0_2.index t 0 = t.val / 2 ∧ win0_2.index t 1 = t.val % 2 ∧ win0_2.index t 2 = 0 := by decide +kernel

include hA in
/-- The normalised inputs' block: a block of rows. -/
theorem blk0 (t : Fin cfg0.N) (R : Fin 2048) (r : Fin 1024) (h : R.val = t.val % 2 * 1024 + r.val) (d : Fin 1024) :
    (iblk m c 0 t : Vec Ideal S1024x1024 .bf16) (at2 r d) = A (at2 R d) := by
  obtain ⟨e0, e1⟩ := ix0 t
  unfold iblk
  rw [show V m c (Pipeline.arrRef spec0 0) = A from hA]
  refine congrArg A (funext fun a => ?_)
  match a with
  | ⟨0, _⟩ => apply Fin.ext; show win0_0.index t 0 * 1024 + 1 * r.val = R.val; omega
  | ⟨1, _⟩ => apply Fin.ext; show win0_0.index t 1 * 1024 + 1 * d.val = d.val; omega

include hB in
/-- The weight's block: a shard. -/
theorem blk1 (t : Fin cfg0.N) (s : Fin 8) (h : s.val = t.val / 2) (f : Fin 704) (d : Fin 1024) :
    (iblk m c 1 t : Vec Ideal S1x704x1024 .bf16) (at3 0 f d) = B (at3 s f d) := by
  obtain ⟨e0, e1, e2⟩ := ix1 t
  unfold iblk
  rw [show V m c (Pipeline.arrRef spec0 1) = B from hB]
  refine congrArg B (funext fun a => ?_)
  match a with
  | ⟨0, _⟩ => apply Fin.ext; show win0_1.index t 0 * 1 + 1 * 0 = s.val; omega
  | ⟨1, _⟩ => apply Fin.ext; show win0_1.index t 1 * 704 + 1 * f.val = f.val; omega
  | ⟨2, _⟩ => apply Fin.ext; show win0_1.index t 2 * 1024 + 1 * d.val = d.val; omega

include hA hB in
/-- Each place of the array the call leaves. -/
theorem entry (s : Fin 8) (R : Fin 2048) (f : Fin 704) :
    ((dats m 0 c).arrAt 2 cfg0.N : Vec Ideal S8x2048x704 .f32) (at3 s R f) = ∑ d : Fin 1024, A (at2 R d) * B (at3 s f d) := by
  have hs := s.isLt; have hR := R.isLt
  have hN : cfg0.N = 16 := N_0
  let t : Fin cfg0.N := ⟨2 * s.val + R.val / 1024, by omega⟩
  have tv : t.val = 2 * s.val + R.val / 1024 := rfl
  let r : Fin 1024 := ⟨R.val % 1024, by omega⟩
  obtain ⟨hf, e0, e1, e2⟩ := ix2 t
  have e : ((cfg0.win 2).blk t).view.emb (at3 (n0 := 1) (n1 := 1024) (n2 := 704) 0 r f) = at3 s R f := funext fun a => by
    match a with
    | ⟨0, _⟩ => apply Fin.ext; show win0_2.index t 0 * 1 + 1 * 0 = s.val; omega
    | ⟨1, _⟩ => apply Fin.ext; show win0_2.index t 1 * 1024 + 1 * (R.val % 1024) = R.val; omega
    | ⟨2, _⟩ => apply Fin.ext; show win0_2.index t 2 * 704 + 1 * f.val = f.val; omega
  rw [← e]
  refine (congrFun (blocks2 m c t hf) (at3 (n0 := 1) (n1 := 1024) (n2 := 704) 0 r f)).trans ?_
  rw [flushed2]
  refine (stored (iblk m c 0 t) (iblk m c 1 t) r f).trans (Finset.sum_congr rfl fun d _ => ?_)
  rw [blk0 m c A hA t R r (by show R.val = t.val % 2 * 1024 + R.val % 1024; omega), blk1 m c B hB t s (by omega)]

open Cert.Reference6Ideal.Read in
/-- The reference's product at a place. -/
theorem ref_entry (s : Fin 8) (R : Fin 2048) (f : Fin 704) :
    (val_main_v6 (F := Ideal) A B : Vec Ideal S8x2048x704 .f32) (at3 s R f) = ∑ d : Fin 1024, A (at2 R d) * B (at3 s f d) := by
  have hs := s.isLt; have hf := f.isLt; have hR := R.isLt
  rw [val_main_v6_apply, val_main_v5_apply, val_main_v4_apply]
  refine Finset.sum_congr rfl fun d _ => ?_
  have hd := d.isLt
  rw [val_main_v0_apply, val_main_v3_apply, val_main_v2_apply, val_main_v1_apply]
  refine congrArg₂ (· * ·) (congrArg A (funext fun a => ?_)) (congrArg B (funext fun a => ?_))
  · match a with
    | ⟨0, _⟩ => apply Fin.ext; show ((R.val * 8 + s.val) * 704 + f.val) / 5632 = R.val; omega
    | ⟨1, _⟩ => rfl
  · match a with
    | ⟨0, _⟩ => apply Fin.ext; show (((R.val * 8 + s.val) * 704 + f.val) % 5632 * 1024 + d.val) / 720896 = s.val; omega
    | ⟨1, _⟩ => apply Fin.ext; show (((R.val * 8 + s.val) * 704 + f.val) % 5632 * 1024 + d.val) / 1024 % 704 = f.val; omega
    | ⟨2, _⟩ => apply Fin.ext; show (((R.val * 8 + s.val) * 704 + f.val) % 5632 * 1024 + d.val) % 1024 = d.val; omega

include hA hB in
theorem same : ((dats m 0 c).arrAt 2 cfg0.N : Vec Ideal S8x2048x704 .f32) = Cert.Reference6Ideal.Read.val_main_v6 (F := Ideal) A B := funext fun i => by
  rw [← at3_eta i]
  exact (entry m c A B hA hB _ _ _).trans (ref_entry A B _ _ _).symm

end Cert.Kernel6Ideal.Val

end
-- ==== Proof.Ffout.lean ====
/- The feed-forward's second product: half of what the call's four shards add up to, added to the stream. -/
module

public import proofs.«01_k».proof.Proof.Gen.Kernel7Ideal.Value
public import proofs.«01_k».proof.Proof.Gen.Reference7Ideal.Read
public import proofs.«01_k».proof.Proof.Sums
public import Idealize.ShloMosaic.Lib.Pointwise
public import Idealize.ShloMosaic.Lib.Pointwise.Tactic

@[expose] public section

set_option maxRecDepth 16384
set_option backward.isDefEq.respectTransparency false

noncomputable section

namespace Cert.Kernel7Ideal.Val

open Idealize.ShloMosaic Idealize.ShloMosaic.TcCoe Idealize.ShloMosaic.Tactic
open Cert.Kernel7Ideal.Gen Cert.Kernel7Ideal.Value Cert.Sums

section
variable {F : FTy → Type} [FloatOps F]
variable (c : Dev nD) (i : grid0.Coords) (a2 : Memref sig .tc .vmem S1x512x704 .bf16) (h2 : a2.IsWhole) (a3 : Memref sig .tc .vmem S704x1024 .bf16) (h3 : a3.IsWhole)
  (a4 : Memref sig .tc .vmem S512x1024 .f32) (h4 : a4.IsWhole) (a5 : Memref sig .tc .vmem S512x1024 .f32) (h5 : a5.IsWhole)
  (a6 : Memref sig .tc .vmem S512x1024 .f32) (h6 : a6.IsWhole)
  (x : Vec F S1x512x704 .bf16) (y : Vec F S704x1024 .bf16) (z s : Vec F S512x1024 .f32)

/-- The first shard leaves its product in the accumulator. -/
theorem first (hc0 : cond0_0 i) (hc1 : ¬cond0_1 i) (hc2 : ¬cond0_2 i) : sout0_A_0 c i a2 h2 a3 h3 a4 h4 a5 h5 a6 h6 hc0 hc1 hc2 x y z = k0_pay2 x y := by
  unfold sout0_A_0
  rw [View.read_writes_eq_canon _ _ _ (scover0_A_0 c i a2 h2 a3 h3 a4 h4 a5 h5 a6 h6 hc0 hc1 hc2 x y z)]
  unfold kernelRun0_A
  dsimp only
  rw [View.canon_unit_zero z2]
  simp only [View.readAt_eq_ld, h2.read_unread, h3.read_unread, View.ld_unit_zero (S := S1x512x704) z3, View.ld_unit_zero (S := S704x1024) z2]

/-- A further shard adds its product. -/
theorem further (hc0 : ¬cond0_0 i) (hc1 : cond0_1 i) (hc2 : ¬cond0_2 i) : sout0_B_0 c i a2 h2 a3 h3 a4 h4 a5 h5 a6 h6 hc0 hc1 hc2 x y z s = k0_pay3 x y s := by
  unfold sout0_B_0
  rw [View.read_writes_eq_canon _ _ _ (scover0_B_0 c i a2 h2 a3 h3 a4 h4 a5 h5 a6 h6 hc0 hc1 hc2 x y z s)]
  unfold kernelRun0_B
  dsimp only
  rw [View.canon_unit_zero z2]
  simp only [View.readAt_eq_ld, h2.read_unread, h3.read_unread, h6.read_unread, View.ld_unit_zero (S := S1x512x704) z3, View.ld_unit_zero (S := S704x1024) z2,
    View.ld_unit_zero (S := S512x1024) z2]

/-- The last shard's product is added to what the accumulator holds, and the result stored. -/
theorem last (hc0 : ¬cond0_0 i) (hc1 : cond0_1 i) (hc2 : cond0_2 i) :
    out0_C_3 c i a2 h2 a3 h3 a4 h4 a5 h5 a6 h6 hc0 hc1 hc2 x y z s = k0_pay4 (k0_pay3 x y s) z := by
  unfold out0_C_3
  rw [View.read_writes_eq_canon _ _ _ (cover0_C_3 c i a2 h2 a3 h3 a4 h4 a5 h5 a6 h6 hc0 hc1 hc2 x y z s)]
  unfold kernelRun0_C
  dsimp only
  sl_unfold_words
  rw [View.canon_unit_zero z2, View.readCov_unit_zero (S := S512x1024) _ z2]
  simp only [View.readAt_eq_ld, h2.read_unread, h3.read_unread, h4.read_unread, h6.read_unread, View.ld_unit_zero (S := S1x512x704) z3,
    View.ld_unit_zero (S := S704x1024) z2, View.ld_unit_zero (S := S512x1024) z2]
end

/-! Over the reals. -/

/-- The constant one half, as both programs write it. -/
abbrev hf : EReal := Scalar.ofBits (F := Ideal) .f32 0x3F000000#32

/-- A shard's product: the sum over the shard's width. -/
theorem prod_apply (x : Vec Ideal S1x512x704 .bf16) (y : Vec Ideal S704x1024 .bf16) (r : Fin 512) (d : Fin 1024) :
    k0_pay1 (F := Ideal) x y (at2 r d) = ∑ f : Fin 704, x (at3 0 r f) * y (at2 f d) := by
  unfold k0_pay1
  pointwise [dot_S512x704_S704x1024_S512x1024_1_0_0_1_n_n]
  rfl

/-- The four shards' products, added and halved, and the stream: what the call stores at a place. -/
theorem stored (x : Fin 4 → Vec Ideal S1x512x704 .bf16) (y : Fin 4 → Vec Ideal S704x1024 .bf16) (z : Vec Ideal S512x1024 .f32) (r : Fin 512) (d : Fin 1024) :
    k0_pay4 (F := Ideal) (k0_pay3 (x 3) (y 3) (k0_pay3 (x 2) (y 2) (k0_pay3 (x 1) (y 1) (k0_pay2 (x 0) (y 0))))) z (at2 r d)
      = (∑ k : Fin 4, ∑ f : Fin 704, x k (at3 0 r f) * y k (at2 f d)) * hf + z (at2 r d) := by
  rw [Fin.sum_univ_four, ← prod_apply, ← prod_apply, ← prod_apply, ← prod_apply]
  unfold k0_pay4 k0_pay3 k0_pay2
  simp only [shapeCast_self]
  rfl

variable (m : (ℓ : Loc nD τ sig) → Buf (Elt Ideal) ℓ) (c : Dev nD) (A : Vec Ideal S4x2048x704 .bf16) (B : Vec Ideal S2816x1024 .bf16) (C : Vec Ideal S2048x1024 .f32)
  (hA : m ((c : Thread nD τ).loc main_arg0) = A) (hB : m ((c : Thread nD τ).loc main_arg1) = B) (hC : m ((c : Thread nD τ).loc main_arg2) = C)

theorem ix0 : ∀ t : Fin grid0.N, win0_0.index t 0 = t.val % 4 ∧ win0_0.index t 1 = t.val / 4 ∧ win0_0.index t 2 = 0 := by decide +kernel
theorem ix1 : ∀ t : Fin grid0.N, win0_1.index t 0 = t.val % 4 ∧ win0_1.index t 1 = 0 := by decide +kernel
theorem ix2 : ∀ t : Fin grid0.N, win0_2.index t 0 = t.val / 4 ∧ win0_2.index t 1 = 0 := by decide +kernel

/-- A shard's row of the weight among all rows. -/
abbrev row (k : Fin 4) (f : Fin 704) : Fin 2816 := ⟨k.val * 704 + f.val, place rfl k f⟩

include hA in
/-- The activations' block: a shard and a block of rows. -/
theorem blk0 (t : Fin cfg0.N) (k : Fin 4) (hk : t.val % 4 = k.val) (R : Fin 2048) (r : Fin 512) (h : R.val = t.val / 4 * 512 + r.val) (f : Fin 704) :
    (iblk m c 0 t : Vec Ideal S1x512x704 .bf16) (at3 0 r f) = A (at3 k R f) := by
  obtain ⟨e0, e1, e2⟩ := ix0 t
  unfold iblk
  rw [show V m c (Pipeline.arrRef spec0 0) = A from hA]
  refine congrArg A (funext fun a => ?_)
  match a with
  | ⟨0, _⟩ => apply Fin.ext; show win0_0.index t 0 * 1 + 1 * 0 = k.val; omega
  | ⟨1, _⟩ => apply Fin.ext; show win0_0.index t 1 * 512 + 1 * r.val = R.val; omega
  | ⟨2, _⟩ => apply Fin.ext; show win0_0.index t 2 * 704 + 1 * f.val = f.val; omega

include hB in
/-- The weight's block: a shard of its rows. -/
theorem blk1 (t : Fin cfg0.N) (k : Fin 4) (hk : t.val % 4 = k.val) (f : Fin 704) (d : Fin 1024) :
    (iblk m c 1 t : Vec Ideal S704x1024 .bf16) (at2 f d) = B (at2 (row k f) d) := by
  obtain ⟨e0, e1⟩ := ix1 t
  unfold iblk
  rw [show V m c (Pipeline.arrRef spec0 1) = B from hB]
  refine congrArg B (funext fun a => ?_)
  match a with
  | ⟨0, _⟩ => apply Fin.ext; show win0_1.index t 0 * 704 + 1 * f.val = k.val * 704 + f.val; omega
  | ⟨1, _⟩ => apply Fin.ext; show win0_1.index t 1 * 1024 + 1 * d.val = d.val; omega

include hC in
/-- The stream's block: a block of rows. -/
theorem blk2 (t : Fin cfg0.N) (R : Fin 2048) (r : Fin 512) (h : R.val = t.val / 4 * 512 + r.val) (d : Fin 1024) :
    (iblk m c 2 t : Vec Ideal S512x1024 .f32) (at2 r d) = C (at2 R d) := by
  obtain ⟨e0, e1⟩ := ix2 t
  unfold iblk
  rw [show V m c (Pipeline.arrRef spec0 2) = C from hC]
  refine congrArg C (funext fun a => ?_)
  match a with
  | ⟨0, _⟩ => apply Fin.ext; show win0_2.index t 0 * 512 + 1 * r.val = R.val; omega
  | ⟨1, _⟩ => apply Fin.ext; show win0_2.index t 1 * 1024 + 1 * d.val = d.val; omega

include hA hB hC in
/-- Each place of the array the call leaves. -/
theorem entry (R : Fin 2048) (d : Fin 1024) :
    (G3 m c : Vec Ideal S2048x1024 .f32) (at2 R d)
      = (∑ k : Fin 4, ∑ f : Fin 704, A (at3 k R f) * B (at2 (row k f) d)) * hf + C (at2 R d) := by
  have hR := R.isLt; have hd := d.isLt
  have hN : cfg0.N = 16 := N_0
  let i : ℕ := R.val / 512
  have hi : i = R.val / 512 := rfl
  let r : Fin 512 := ⟨R.val % 512, by omega⟩
  have hl : loc3Of (at2 R d) = at2 r d := funext fun a => by
    match a with
    | ⟨0, _⟩ => rfl
    | ⟨1, _⟩ => exact Fin.ext (Nat.mod_eq_of_lt d.isLt)
  have hp : pt3Of (at2 R d) = 4 * i + 3 := by
    show 4 * (1 * (R.val / 512 - 0) + 1 * (d.val / 1024 - 0)) + 3 = _; omega
  have b (k : Fin 4) : 4 * i + k.val < cfg0.N := by have := k.isLt; omega
  have e : (G3 m c : Vec Ideal S2048x1024 .f32) (at2 R d) = (outsAt0 m c (4 * i + 3) (b 3)).1 (at2 r d) := by
    unfold G3
    rw [dif_pos (by rw [hp]; exact b 3), hl, outsAt0_sweep, fold0_congr m c _ _ (4 * i + 3) (by omega) hp]
  have o3 : outsAt0 m c (4 * i + 3) (b 3) = _ := outsAt0_C m c ⟨4 * i + 3, b 3⟩
    (by show ¬(4 * i + 3) % 4 = 0; omega) (by show 1 ≤ (4 * i + 3) % 4; omega) (by show (4 * i + 3) % 4 = 3; omega)
  have o2 : outsAt0 m c (4 * i + 2) (b 2) = _ := outsAt0_B m c ⟨4 * i + 2, b 2⟩
    (by show ¬(4 * i + 2) % 4 = 0; omega) (by show 1 ≤ (4 * i + 2) % 4; omega) (by show ¬(4 * i + 2) % 4 = 3; omega)
  have o1 : outsAt0 m c (4 * i + 1) (b 1) = _ := outsAt0_B m c ⟨4 * i + 1, b 1⟩
    (by show ¬(4 * i + 1) % 4 = 0; omega) (by show 1 ≤ (4 * i + 1) % 4; omega) (by show ¬(4 * i + 1) % 4 = 3; omega)
  have o0 : outsAt0 m c (4 * i) (b 0) = _ := outsAt0_A m c ⟨4 * i, b 0⟩
    (by show 4 * i % 4 = 0; omega) (by show ¬1 ≤ 4 * i % 4; omega) (by show ¬4 * i % 4 = 3; omega)
  rw [e, o3]
  dsimp only
  rw [last]
  rw [show outsAt0 m c (4 * i + 3 - 1) _ = _ from o2]
  dsimp only
  rw [further]
  rw [show outsAt0 m c (4 * i + 2 - 1) _ = _ from o1]
  dsimp only
  rw [further]
  rw [show outsAt0 m c (4 * i + 1 - 1) _ = _ from o0]
  dsimp only
  rw [first]
  refine (stored (fun k => iblk m c 0 ⟨4 * i + k.val, b k⟩) (fun k => iblk m c 1 ⟨4 * i + k.val, b k⟩) _ r d).trans ?_
  have hr : R.val = i * 512 + r.val := by show R.val = R.val / 512 * 512 + R.val % 512; omega
  rw [blk2 m c C hC _ R r (by show R.val = (4 * i + 3) / 4 * 512 + r.val; omega)]
  refine congrArg (· * hf + C (at2 R d)) (Finset.sum_congr rfl fun k _ => Finset.sum_congr rfl fun f _ => ?_)
  have hk := k.isLt
  rw [blk0 m c A hA _ k (by show (4 * i + k.val) % 4 = _; omega) R r (by show R.val = (4 * i + k.val) / 4 * 512 + r.val; omega),
    blk1 m c B hB _ k (by show (4 * i + k.val) % 4 = _; omega)]

open Cert.Reference7Ideal.Read in
/-- The reference's result at a place. -/
theorem ref_entry (R : Fin 2048) (d : Fin 1024) :
    (val_main_v7 (F := Ideal) A B C : Vec Ideal S2048x1024 .f32) (at2 R d)
      = (∑ k : Fin 4, ∑ f : Fin 704, A (at3 k R f) * B (at2 (row k f) d)) * hf + C (at2 R d) := by
  rw [val_main_v7_apply, val_main_v6_apply, val_main_v5_apply, val_main_v4_apply, sum_blocks (a := 4) (b := 704) rfl]
  refine (add_comm (G := EReal) _ _).trans (congrArg₂ (· + ·) ((mul_comm (G := EReal) _ _).trans (congrArg₂ (· * ·) ?_ rfl)) rfl)
  refine Finset.sum_congr rfl fun k _ => Finset.sum_congr rfl fun f _ => ?_
  have hk := k.isLt; have hf := f.isLt; have hR := R.isLt
  rw [val_main_v2_apply, val_main_v1_apply, val_main_v0_apply, val_main_v3_apply]
  refine congrArg₂ (· * ·) (congrArg A (funext fun a => ?_)) (congrArg B (funext fun a => ?_))
  · match a with
    | ⟨0, _⟩ => apply Fin.ext; show (R.val * 2816 + (k.val * 704 + f.val)) / 704 % 4 = k.val; omega
    | ⟨1, _⟩ => apply Fin.ext; show (R.val * 2816 + (k.val * 704 + f.val)) / 2816 = R.val; omega
    | ⟨2, _⟩ => apply Fin.ext; show (R.val * 2816 + (k.val * 704 + f.val)) % 704 = f.val; omega
  · match a with
    | ⟨0, _⟩ => rfl
    | ⟨1, _⟩ => rfl

include hA hB hC in
theorem same : (G3 m c : Vec Ideal S2048x1024 .f32) = Cert.Reference7Ideal.Read.val_main_v7 (F := Ideal) A B C := funext fun i => by
  rw [← at2_eta i]
  exact (entry m c A B C hA hB hC _ _).trans (ref_entry A B C _ _).symm

end Cert.Kernel7Ideal.Val

end
-- ==== Proof.Inproj.lean ====
/- The mixer's input product: the call's six arrays are the reference's six ranges of columns. -/
module

public import proofs.«01_k».proof.Proof.Gen.Kernel8Ideal.Value
public import proofs.«01_k».proof.Proof.Gen.Reference8Ideal.Read
public import proofs.«01_k».proof.Proof.Sums
public import Idealize.ShloMosaic.Lib.Pointwise
public import Idealize.ShloMosaic.Lib.Pointwise.Tactic

@[expose] public section

set_option maxRecDepth 16384
set_option backward.isDefEq.respectTransparency false

noncomputable section

namespace Cert.Kernel8Ideal.Val

open Idealize.ShloMosaic Idealize.ShloMosaic.TcCoe Idealize.ShloMosaic.Tactic
open Cert.Kernel8Ideal.Gen Cert.Kernel8Ideal.Value Cert.Sums

/-- A block's product: the sum over the width of the stream. -/
theorem prod_apply (x : Vec Ideal S256x1024 .bf16) (y : Vec Ideal S1024x4736 .bf16) (r : Fin 256) (j : Fin 4736) :
    k0_pay1 (F := Ideal) x y (at2 r j) = ∑ d : Fin 1024, x (at2 r d) * y (at2 d j) := by
  unfold k0_pay1
  pointwise [dot_S256x1024_S1024x4736_S256x4736_1_0_0_1_n_n]
  rfl

variable (m : (ℓ : Loc nD τ sig) → Buf (Elt Ideal) ℓ) (c : Dev nD) (A : Vec Ideal S2048x1024 .bf16) (B : Vec Ideal S1024x4736 .bf16)
  (hA : m ((c : Thread nD τ).loc main_arg0) = A) (hB : m ((c : Thread nD τ).loc main_arg1) = B)

theorem ix0 : ∀ t : Fin grid0.N, win0_0.index t 0 = t.val ∧ win0_0.index t 1 = 0 := by decide +kernel
theorem ix1 : ∀ t : Fin grid0.N, win0_1.index t 0 = 0 ∧ win0_1.index t 1 = 0 := by decide +kernel

include hA in
/-- The inputs' block: a block of rows. -/
theorem blk0 (t : Fin cfg0.N) (R : Fin 2048) (r : Fin 256) (h : R.val = t.val * 256 + r.val) (d : Fin 1024) :
    (iblk m c 0 t : Vec Ideal S256x1024 .bf16) (at2 r d) = A (at2 R d) := by
  obtain ⟨e0, e1⟩ := ix0 t
  unfold iblk
  rw [show V m c (Pipeline.arrRef spec0 0) = A from hA]
  refine congrArg A (funext fun a => ?_)
  match a with
  | ⟨0, _⟩ => apply Fin.ext; show win0_0.index t 0 * 256 + 1 * r.val = R.val; omega
  | ⟨1, _⟩ => apply Fin.ext; show win0_0.index t 1 * 1024 + 1 * d.val = d.val; omega

include hB in
/-- The weight's block: the whole weight. -/
theorem blk1 (t : Fin cfg0.N) (d : Fin 1024) (j : Fin 4736) : (iblk m c 1 t : Vec Ideal S1024x4736 .bf16) (at2 d j) = B (at2 d j) := by
  obtain ⟨e0, e1⟩ := ix1 t
  unfold iblk
  rw [show V m c (Pipeline.arrRef spec0 1) = B from hB]
  refine congrArg B (funext fun a => ?_)
  match a with
  | ⟨0, _⟩ => apply Fin.ext; show win0_1.index t 0 * 1024 + 1 * d.val = d.val; omega
  | ⟨1, _⟩ => apply Fin.ext; show win0_1.index t 1 * 4736 + 1 * j.val = j.val; omega

/-- The whole product at a place. -/
def whole (R : Fin 2048) (j : Fin 4736) : EReal := ∑ d : Fin 1024, A (at2 R d) * B (at2 d j)

include hA hB in
theorem prod_whole (t : Fin cfg0.N) (R : Fin 2048) (r : Fin 256) (h : R.val = t.val * 256 + r.val) (j : Fin 4736) :
    k0_pay1 (F := Ideal) (iblk m c 0 t) (iblk m c 1 t) (at2 r j) = whole A B R j := by
  refine (prod_apply (iblk m c 0 t) (iblk m c 1 t) r j).trans (Finset.sum_congr rfl fun d _ => ?_)
  rw [blk0 m c A hA t R r h, blk1 m c B hB]

/-- The rows a point of the grid writes cover all rows. -/
theorem point_of (R : Fin 2048) : ∃ (t : Fin cfg0.N) (r : Fin 256), R.val = t.val * 256 + r.val := by
  have := R.isLt
  have hN : cfg0.N = 8 := N_0
  exact ⟨⟨R.val / 256, by omega⟩, ⟨R.val % 256, by omega⟩, by show R.val = R.val / 256 * 256 + R.val % 256; omega⟩

open Cert.Reference8Ideal.Read in
theorem ref_whole (R : Fin 2048) (j : Fin 4736) : (val_main_v2 (F := Ideal) A B : Vec Ideal Cert.Reference8Ideal.S2048x4736 .f32) (at2 R j) = whole A B R j := by
  rw [val_main_v2_apply]
  refine Finset.sum_congr rfl fun d _ => ?_
  rw [val_main_v0_apply, val_main_v1_apply]
  refine congrArg₂ (· * ·) (congrArg A (funext fun a => ?_)) (congrArg B (funext fun a => ?_))
  · match a with
    | ⟨0, _⟩ => rfl
    | ⟨1, _⟩ => rfl
  · match a with
    | ⟨0, _⟩ => rfl
    | ⟨1, _⟩ => rfl

include hA hB in
/-- An array whose blocks hold a range of the product's columns holds what the reference's range of columns does. -/
theorem range {W : ℕ} (o : ℕ) (ho : ∀ j : Fin W, o + j.val < 4736) (arr ref : Shape.Idx ⟨2, ![2048, W]⟩ → EReal)
    (harr : ∀ (t : Fin cfg0.N) (R : Fin 2048) (r : Fin 256) (j : Fin W), R.val = t.val * 256 + r.val →
      arr (at2 R j) = k0_pay1 (F := Ideal) (iblk m c 0 t) (iblk m c 1 t) (at2 r ⟨o + j.val, ho j⟩))
    (href : ∀ (R : Fin 2048) (j : Fin W), ref (at2 R j)
      = (Cert.Reference8Ideal.Read.val_main_v2 (F := Ideal) A B : Vec Ideal Cert.Reference8Ideal.S2048x4736 .f32) (at2 R ⟨o + j.val, ho j⟩)) :
    arr = ref := funext fun i => by
  rw [← at2_eta i]
  obtain ⟨t, r, h⟩ := point_of (i 0)
  rw [href, ref_whole]
  exact (harr t _ r _ h).trans (prod_whole m c A B hA hB t _ r h _)

/-! The queries: the first 512 columns. -/

theorem ix2 : ∀ t : Fin grid0.N, win0_2.flush t = true ∧ win0_2.index t 0 = t.val ∧ win0_2.index t 1 = 0 := by decide +kernel

theorem stored2 (x : Vec Ideal S256x1024 .bf16) (y : Vec Ideal S1024x4736 .bf16) (r : Fin 256) (j : Fin 512) :
    out0_2 (F := Ideal) x y (at2 r j) = k0_pay1 (F := Ideal) x y (at2 r ⟨0 + j.val, by omega⟩) := by
  unfold out0_2
  rw [View.canon_unit_zero z2, View.ld_unit_zero (S := S256x1024) z2, View.ld_unit_zero (S := S1024x4736) z2]
  unfold k0_pay2
  generalize k0_pay1 (F := Ideal) x y = p
  pointwise
  rfl

open Cert.Reference8Ideal.Read in
include hA hB in
theorem same2 : ((dats m 0 c).arrAt 2 cfg0.N : Vec Ideal S2048x512 .bf16) = Cert.Reference8Ideal.Read.val_main_v6 (F := Ideal) A B := by
  refine range m c A B hA hB 0 (fun j => by have := j.isLt; omega) _ _ (fun t R r j h => ?_) (fun R j => ?_)
  · obtain ⟨hf, e0, e1⟩ := ix2 t
    have e : ((cfg0.win 2).blk t).view.emb (at2 (n0 := 256) (n1 := 512) r j) = at2 R j := funext fun a => by
      match a with
      | ⟨0, _⟩ => apply Fin.ext; show win0_2.index t 0 * 256 + 1 * r.val = R.val; omega
      | ⟨1, _⟩ => apply Fin.ext; show win0_2.index t 1 * 512 + 1 * j.val = j.val; omega
    rw [← e]
    refine (congrFun (blocks2 m c t hf) (at2 (n0 := 256) (n1 := 512) r j)).trans ?_
    rw [flushed2]
    exact stored2 (iblk m c 0 t) (iblk m c 1 t) r j
  · rw [val_main_v6_apply, val_main_v3_apply]
    exact congrArg (val_main_v2 (F := Ideal) A B) (funext fun a => by
      match a with
      | ⟨0, _⟩ => rfl
      | ⟨1, _⟩ => exact Fin.ext (Nat.zero_add _).symm)

/-! The keys: the next 512. -/

theorem ix3 : ∀ t : Fin grid0.N, win0_3.flush t = true ∧ win0_3.index t 0 = t.val ∧ win0_3.index t 1 = 0 := by decide +kernel

theorem stored3 (x : Vec Ideal S256x1024 .bf16) (y : Vec Ideal S1024x4736 .bf16) (r : Fin 256) (j : Fin 512) :
    out0_3 (F := Ideal) x y (at2 r j) = k0_pay1 (F := Ideal) x y (at2 r ⟨512 + j.val, by omega⟩) := by
  unfold out0_3
  rw [View.canon_unit_zero z2, View.ld_unit_zero (S := S256x1024) z2, View.ld_unit_zero (S := S1024x4736) z2]
  unfold k0_pay3
  generalize k0_pay1 (F := Ideal) x y = p
  pointwise
  rfl

open Cert.Reference8Ideal.Read in
include hA hB in
theorem same3 : ((dats m 0 c).arrAt 3 cfg0.N : Vec Ideal S2048x512 .bf16) = Cert.Reference8Ideal.Read.val_main_v7 (F := Ideal) A B := by
  refine range m c A B hA hB 512 (fun j => by have := j.isLt; omega) _ _ (fun t R r j h => ?_) (fun R j => ?_)
  · obtain ⟨hf, e0, e1⟩ := ix3 t
    have e : ((cfg0.win 3).blk t).view.emb (at2 (n0 := 256) (n1 := 512) r j) = at2 R j := funext fun a => by
      match a with
      | ⟨0, _⟩ => apply Fin.ext; show win0_3.index t 0 * 256 + 1 * r.val = R.val; omega
      | ⟨1, _⟩ => apply Fin.ext; show win0_3.index t 1 * 512 + 1 * j.val = j.val; omega
    rw [← e]
    refine (congrFun (blocks3 m c t hf) (at2 (n0 := 256) (n1 := 512) r j)).trans ?_
    rw [flushed3]
    exact stored3 (iblk m c 0 t) (iblk m c 1 t) r j
  · rw [val_main_v7_apply, val_main_v4_apply]
    exact congrArg (val_main_v2 (F := Ideal) A B) (funext fun a => by
      match a with
      | ⟨0, _⟩ => rfl
      | ⟨1, _⟩ => rfl)

/-! The values: the next 512. -/

theorem ix4 : ∀ t : Fin grid0.N, win0_4.flush t = true ∧ win0_4.index t 0 = t.val ∧ win0_4.index t 1 = 0 := by decide +kernel

theorem stored4 (x : Vec Ideal S256x1024 .bf16) (y : Vec Ideal S1024x4736 .bf16) (r : Fin 256) (j : Fin 512) :
    out0_4 (F := Ideal) x y (at2 r j) = k0_pay1 (F := Ideal) x y (at2 r ⟨1024 + j.val, by omega⟩) := by
  unfold out0_4
  rw [View.canon_unit_zero z2, View.ld_unit_zero (S := S256x1024) z2, View.ld_unit_zero (S := S1024x4736) z2]
  unfold k0_pay4
  generalize k0_pay1 (F := Ideal) x y = p
  pointwise
  rfl

open Cert.Reference8Ideal.Read in
include hA hB in
theorem same4 : ((dats m 0 c).arrAt 4 cfg0.N : Vec Ideal S2048x512 .bf16) = Cert.Reference8Ideal.Read.val_main_v8 (F := Ideal) A B := by
  refine range m c A B hA hB 1024 (fun j => by have := j.isLt; omega) _ _ (fun t R r j h => ?_) (fun R j => ?_)
  · obtain ⟨hf, e0, e1⟩ := ix4 t
    have e : ((cfg0.win 4).blk t).view.emb (at2 (n0 := 256) (n1 := 512) r j) = at2 R j := funext fun a => by
      match a with
      | ⟨0, _⟩ => apply Fin.ext; show win0_4.index t 0 * 256 + 1 * r.val = R.val; omega
      | ⟨1, _⟩ => apply Fin.ext; show win0_4.index t 1 * 512 + 1 * j.val = j.val; omega
    rw [← e]
    refine (congrFun (blocks4 m c t hf) (at2 (n0 := 256) (n1 := 512) r j)).trans ?_
    rw [flushed4]
    exact stored4 (iblk m c 0 t) (iblk m c 1 t) r j
  · rw [val_main_v8_apply, val_main_v5_apply]
    exact congrArg (val_main_v2 (F := Ideal) A B) (funext fun a => by
      match a with
      | ⟨0, _⟩ => rfl
      | ⟨1, _⟩ => rfl)

/-! The forget gates' inputs: the next 128. -/

theorem ix5 : ∀ t : Fin grid0.N, win0_5.flush t = true ∧ win0_5.index t 0 = t.val ∧ win0_5.index t 1 = 0 := by decide +kernel

theorem stored5 (x : Vec Ideal S256x1024 .bf16) (y : Vec Ideal S1024x4736 .bf16) (r : Fin 256) (j : Fin 128) :
    out0_5 (F := Ideal) x y (at2 r j) = k0_pay1 (F := Ideal) x y (at2 r ⟨1536 + j.val, by omega⟩) := by
  unfold out0_5
  rw [View.canon_unit_zero z2, View.ld_unit_zero (S := S256x1024) z2, View.ld_unit_zero (S := S1024x4736) z2]
  unfold k0_pay5
  generalize k0_pay1 (F := Ideal) x y = p
  pointwise
  rfl

open Cert.Reference8Ideal.Read in
include hA hB in
theorem same5 : ((dats m 0 c).arrAt 5 cfg0.N : Vec Ideal S2048x128 .f32) = Cert.Reference8Ideal.Read.val_main_v9 (F := Ideal) A B := by
  refine range m c A B hA hB 1536 (fun j => by have := j.isLt; omega) _ _ (fun t R r j h => ?_) (fun R j => ?_)
  · obtain ⟨hf, e0, e1⟩ := ix5 t
    have e : ((cfg0.win 5).blk t).view.emb (at2 (n0 := 256) (n1 := 128) r j) = at2 R j := funext fun a => by
      match a with
      | ⟨0, _⟩ => apply Fin.ext; show win0_5.index t 0 * 256 + 1 * r.val = R.val; omega
      | ⟨1, _⟩ => apply Fin.ext; show win0_5.index t 1 * 128 + 1 * j.val = j.val; omega
    rw [← e]
    refine (congrFun (blocks5 m c t hf) (at2 (n0 := 256) (n1 := 128) r j)).trans ?_
    rw [flushed5]
    exact stored5 (iblk m c 0 t) (iblk m c 1 t) r j
  · rw [val_main_v9_apply]
    exact congrArg (val_main_v2 (F := Ideal) A B) (funext fun a => by
      match a with
      | ⟨0, _⟩ => rfl
      | ⟨1, _⟩ => rfl)

/-! The convolution's inputs: the next 1024. -/

theorem ix6 : ∀ t : Fin grid0.N, win0_6.flush t = true ∧ win0_6.index t 0 = t.val ∧ win0_6.index t 1 = 0 := by decide +kernel

theorem stored6 (x : Vec Ideal S256x1024 .bf16) (y : Vec Ideal S1024x4736 .bf16) (r : Fin 256) (j : Fin 1024) :
    out0_6 (F := Ideal) x y (at2 r j) = k0_pay1 (F := Ideal) x y (at2 r ⟨1664 + j.val, by omega⟩) := by
  unfold out0_6
  rw [View.canon_unit_zero z2, View.ld_unit_zero (S := S256x1024) z2, View.ld_unit_zero (S := S1024x4736) z2]
  unfold k0_pay6
  generalize k0_pay1 (F := Ideal) x y = p
  pointwise
  rfl

open Cert.Reference8Ideal.Read in
include hA hB in
theorem same6 : ((dats m 0 c).arrAt 6 cfg0.N : Vec Ideal S2048x1024 .f32) = Cert.Reference8Ideal.Read.val_main_v10 (F := Ideal) A B := by
  refine range m c A B hA hB 1664 (fun j => by have := j.isLt; omega) _ _ (fun t R r j h => ?_) (fun R j => ?_)
  · obtain ⟨hf, e0, e1⟩ := ix6 t
    have e : ((cfg0.win 6).blk t).view.emb (at2 (n0 := 256) (n1 := 1024) r j) = at2 R j := funext fun a => by
      match a with
      | ⟨0, _⟩ => apply Fin.ext; show win0_6.index t 0 * 256 + 1 * r.val = R.val; omega
      | ⟨1, _⟩ => apply Fin.ext; show win0_6.index t 1 * 1024 + 1 * j.val = j.val; omega
    rw [← e]
    refine (congrFun (blocks6 m c t hf) (at2 (n0 := 256) (n1 := 1024) r j)).trans ?_
    rw [flushed6]
    exact stored6 (iblk m c 0 t) (iblk m c 1 t) r j
  · rw [val_main_v10_apply]
    exact congrArg (val_main_v2 (F := Ideal) A B) (funext fun a => by
      match a with
      | ⟨0, _⟩ => rfl
      | ⟨1, _⟩ => rfl)

/-! The gates' inputs: the last 2048. -/

theorem ix7 : ∀ t : Fin grid0.N, win0_7.flush t = true ∧ win0_7.index t 0 = t.val ∧ win0_7.index t 1 = 0 := by decide +kernel

theorem stored7 (x : Vec Ideal S256x1024 .bf16) (y : Vec Ideal S1024x4736 .bf16) (r : Fin 256) (j : Fin 2048) :
    out0_7 (F := Ideal) x y (at2 r j) = k0_pay1 (F := Ideal) x y (at2 r ⟨2688 + j.val, by omega⟩) := by
  unfold out0_7
  rw [View.canon_unit_zero z2, View.ld_unit_zero (S := S256x1024) z2, View.ld_unit_zero (S := S1024x4736) z2]
  unfold k0_pay7
  generalize k0_pay1 (F := Ideal) x y = p
  pointwise
  rfl

open Cert.Reference8Ideal.Read in
include hA hB in
theorem same7 : ((dats m 0 c).arrAt 7 cfg0.N : Vec Ideal S2048x2048 .f32) = Cert.Reference8Ideal.Read.val_main_v11 (F := Ideal) A B := by
  refine range m c A B hA hB 2688 (fun j => by have := j.isLt; omega) _ _ (fun t R r j h => ?_) (fun R j => ?_)
  · obtain ⟨hf, e0, e1⟩ := ix7 t
    have e : ((cfg0.win 7).blk t).view.emb (at2 (n0 := 256) (n1 := 2048) r j) = at2 R j := funext fun a => by
      match a with
      | ⟨0, _⟩ => apply Fin.ext; show win0_7.index t 0 * 256 + 1 * r.val = R.val; omega
      | ⟨1, _⟩ => apply Fin.ext; show win0_7.index t 1 * 2048 + 1 * j.val = j.val; omega
    rw [← e]
    refine (congrFun (blocks7 m c t hf) (at2 (n0 := 256) (n1 := 2048) r j)).trans ?_
    rw [flushed7]
    exact stored7 (iblk m c 0 t) (iblk m c 1 t) r j
  · rw [val_main_v11_apply]
    exact congrArg (val_main_v2 (F := Ideal) A B) (funext fun a => by
      match a with
      | ⟨0, _⟩ => rfl
      | ⟨1, _⟩ => rfl)

end Cert.Kernel8Ideal.Val

end
-- ==== Proof.Dwin.lean ====
/- The gradient of the mixer's input weight: what the call's four row blocks add up to, and the reference's one product. -/
module

public import proofs.«01_k».proof.Proof.Gen.Kernel10Ideal.Value
public import proofs.«01_k».proof.Proof.Gen.Reference10Ideal.Read
public import proofs.«01_k».proof.Proof.Sums
public import Idealize.ShloMosaic.Lib.Pointwise
public import Idealize.ShloMosaic.Lib.Pointwise.Tactic

@[expose] public section

set_option maxRecDepth 16384
set_option backward.isDefEq.respectTransparency false

noncomputable section

namespace Cert.Kernel10Ideal.Val

open Idealize.ShloMosaic Idealize.ShloMosaic.TcCoe Idealize.ShloMosaic.Tactic
open Cert.Kernel10Ideal.Gen Cert.Kernel10Ideal.Value Cert.Sums

section
variable {F : FTy → Type} [FloatOps F]
variable (c : Dev nD) (i : grid0.Coords) (a2 : Memref sig .tc .vmem S512x256 .bf16) (h2 : a2.IsWhole) (a3 : Memref sig .tc .vmem S512x4736 .bf16) (h3 : a3.IsWhole)
  (a4 : Memref sig .tc .vmem S256x4736 .bf16) (h4 : a4.IsWhole) (a5 : Memref sig .tc .vmem S256x4736 .f32) (h5 : a5.IsWhole)
  (x : Vec F S512x256 .bf16) (y : Vec F S512x4736 .bf16) (s : Vec F S256x4736 .f32)

/-- The first row block leaves its product in the accumulator. -/
theorem first (hc0 : cond0_0 i) (hc1 : ¬cond0_1 i) (hc2 : ¬cond0_2 i) : sout0_A_0 c i a2 h2 a3 h3 a4 h4 a5 h5 hc0 hc1 hc2 x y = k0_pay2 x y := by
  unfold sout0_A_0
  rw [View.read_writes_eq_canon _ _ _ (scover0_A_0 c i a2 h2 a3 h3 a4 h4 a5 h5 hc0 hc1 hc2 x y)]
  unfold kernelRun0_A
  dsimp only
  rw [View.canon_unit_zero z2]
  simp only [View.readAt_eq_ld, h2.read_unread, h3.read_unread, View.ld_unit_zero (S := S512x256) z2, View.ld_unit_zero (S := S512x4736) z2]

/-- A further row block adds its product. -/
theorem further (hc0 : ¬cond0_0 i) (hc1 : cond0_1 i) (hc2 : ¬cond0_2 i) : sout0_B_0 c i a2 h2 a3 h3 a4 h4 a5 h5 hc0 hc1 hc2 x y s = k0_pay3 x y s := by
  unfold sout0_B_0
  rw [View.read_writes_eq_canon _ _ _ (scover0_B_0 c i a2 h2 a3 h3 a4 h4 a5 h5 hc0 hc1 hc2 x y s)]
  unfold kernelRun0_B
  dsimp only
  rw [View.canon_unit_zero z2]
  simp only [View.readAt_eq_ld, h2.read_unread, h3.read_unread, h5.read_unread, View.ld_unit_zero (S := S512x256) z2, View.ld_unit_zero (S := S512x4736) z2,
    View.ld_unit_zero (S := S256x4736) z2]

/-- The last row block's product is added to what the accumulator holds, and the sum stored. -/
theorem last (hc0 : ¬cond0_0 i) (hc1 : cond0_1 i) (hc2 : cond0_2 i) : out0_C_2 c i a2 h2 a3 h3 a4 h4 a5 h5 hc0 hc1 hc2 x y s = k0_pay4 (k0_pay3 x y s) := by
  unfold out0_C_2
  rw [View.read_writes_eq_canon _ _ _ (cover0_C_2 c i a2 h2 a3 h3 a4 h4 a5 h5 hc0 hc1 hc2 x y s)]
  unfold kernelRun0_C
  dsimp only
  sl_unfold_words
  rw [View.canon_unit_zero z2, View.readCov_unit_zero (S := S256x4736) _ z2]
  simp only [View.readAt_eq_ld, h2.read_unread, h3.read_unread, h5.read_unread, View.ld_unit_zero (S := S512x256) z2, View.ld_unit_zero (S := S512x4736) z2,
    View.ld_unit_zero (S := S256x4736) z2]
end

/-! Over the reals. -/

/-- A row block's product: the sum over the block's rows. -/
theorem prod_apply (x : Vec Ideal S512x256 .bf16) (y : Vec Ideal S512x4736 .bf16) (p : Fin 256) (q : Fin 4736) :
    k0_pay1 (F := Ideal) x y (at2 p q) = ∑ r : Fin 512, x (at2 r p) * y (at2 r q) := by
  unfold k0_pay1
  pointwise [dot_S512x256_S512x4736_S256x4736_0_0_1_1_n_n]
  rfl

/-- The four row blocks' products, added: what the call stores at a place. -/
theorem stored (x : Fin 4 → Vec Ideal S512x256 .bf16) (y : Fin 4 → Vec Ideal S512x4736 .bf16) (p : Fin 256) (q : Fin 4736) :
    k0_pay4 (F := Ideal) (k0_pay3 (x 3) (y 3) (k0_pay3 (x 2) (y 2) (k0_pay3 (x 1) (y 1) (k0_pay2 (x 0) (y 0))))) (at2 p q)
      = ∑ k : Fin 4, ∑ r : Fin 512, x k (at2 r p) * y k (at2 r q) := by
  rw [Fin.sum_univ_four, ← prod_apply, ← prod_apply, ← prod_apply, ← prod_apply]
  unfold k0_pay4 k0_pay3 k0_pay2
  simp only [shapeCast_self]
  rfl

variable (m : (ℓ : Loc nD τ sig) → Buf (Elt Ideal) ℓ) (c : Dev nD) (A : Vec Ideal S2048x1024 .bf16) (B : Vec Ideal S2048x4736 .bf16)
  (hA : m ((c : Thread nD τ).loc main_arg0) = A) (hB : m ((c : Thread nD τ).loc main_arg1) = B)

theorem ix0 : ∀ t : Fin grid0.N, win0_0.index t 0 = t.val % 4 ∧ win0_0.index t 1 = t.val / 4 := by decide +kernel
theorem ix1 : ∀ t : Fin grid0.N, win0_1.index t 0 = t.val % 4 ∧ win0_1.index t 1 = 0 := by decide +kernel

/-- The block's rows among all rows. -/
abbrev row (k : Fin 4) (r : Fin 512) : Fin 2048 := ⟨k.val * 512 + r.val, place rfl k r⟩

include hA in
/-- The inputs' block: a block of rows and one of columns. -/
theorem blk0 (t : Fin cfg0.N) (k : Fin 4) (hk : t.val % 4 = k.val) (P : Fin 1024) (p : Fin 256) (h : P.val = t.val / 4 * 256 + p.val) (r : Fin 512) :
    (iblk m c 0 t : Vec Ideal S512x256 .bf16) (at2 r p) = A (at2 (row k r) P) := by
  obtain ⟨e0, e1⟩ := ix0 t
  unfold iblk
  rw [show V m c (Pipeline.arrRef spec0 0) = A from hA]
  refine congrArg A (funext fun a => ?_)
  match a with
  | ⟨0, _⟩ => apply Fin.ext; show win0_0.index t 0 * 512 + 1 * r.val = k.val * 512 + r.val; omega
  | ⟨1, _⟩ => apply Fin.ext; show win0_0.index t 1 * 256 + 1 * p.val = P.val; omega

include hB in
/-- The cotangents' block: a block of rows. -/
theorem blk1 (t : Fin cfg0.N) (k : Fin 4) (hk : t.val % 4 = k.val) (r : Fin 512) (q : Fin 4736) :
    (iblk m c 1 t : Vec Ideal S512x4736 .bf16) (at2 r q) = B (at2 (row k r) q) := by
  obtain ⟨e0, e1⟩ := ix1 t
  unfold iblk
  rw [show V m c (Pipeline.arrRef spec0 1) = B from hB]
  refine congrArg B (funext fun a => ?_)
  match a with
  | ⟨0, _⟩ => apply Fin.ext; show win0_1.index t 0 * 512 + 1 * r.val = k.val * 512 + r.val; omega
  | ⟨1, _⟩ => apply Fin.ext; show win0_1.index t 1 * 4736 + 1 * q.val = q.val; omega

include hA hB in
/-- Each place of the array the call leaves holds the whole sum over the rows. -/
theorem entry (P : Fin 1024) (q : Fin 4736) :
    (G2 m c : Vec Ideal S1024x4736 .bf16) (at2 P q) = ∑ r : Fin 2048, A (at2 r P) * B (at2 r q) := by
  have hP := P.isLt; have hq := q.isLt
  have hN : cfg0.N = 16 := N_0
  let i : ℕ := P.val / 256
  have hi : i = P.val / 256 := rfl
  let p : Fin 256 := ⟨P.val % 256, by omega⟩
  have hl : loc2Of (at2 P q) = at2 p q := funext fun a => by
    match a with
    | ⟨0, _⟩ => rfl
    | ⟨1, _⟩ => exact Fin.ext (Nat.mod_eq_of_lt q.isLt)
  have hp : pt2Of (at2 P q) = 4 * i + 3 := by
    show 4 * (1 * (P.val / 256 - 0) + 1 * (q.val / 4736 - 0)) + 3 = _; omega
  have b (k : Fin 4) : 4 * i + k.val < cfg0.N := by have := k.isLt; omega
  have e : (G2 m c : Vec Ideal S1024x4736 .bf16) (at2 P q) = (outsAt0 m c (4 * i + 3) (b 3)).1 (at2 p q) := by
    unfold G2
    rw [dif_pos (by rw [hp]; exact b 3), hl, outsAt0_sweep, fold0_congr m c _ _ (4 * i + 3) (by omega) hp]
  have o3 : outsAt0 m c (4 * i + 3) (b 3) = _ := outsAt0_C m c ⟨4 * i + 3, b 3⟩
    (by show ¬(4 * i + 3) % 4 = 0; omega) (by show 1 ≤ (4 * i + 3) % 4; omega) (by show (4 * i + 3) % 4 = 3; omega)
  have o2 : outsAt0 m c (4 * i + 2) (b 2) = _ := outsAt0_B m c ⟨4 * i + 2, b 2⟩
    (by show ¬(4 * i + 2) % 4 = 0; omega) (by show 1 ≤ (4 * i + 2) % 4; omega) (by show ¬(4 * i + 2) % 4 = 3; omega)
  have o1 : outsAt0 m c (4 * i + 1) (b 1) = _ := outsAt0_B m c ⟨4 * i + 1, b 1⟩
    (by show ¬(4 * i + 1) % 4 = 0; omega) (by show 1 ≤ (4 * i + 1) % 4; omega) (by show ¬(4 * i + 1) % 4 = 3; omega)
  have o0 : outsAt0 m c (4 * i) (b 0) = _ := outsAt0_A m c ⟨4 * i, b 0⟩
    (by show 4 * i % 4 = 0; omega) (by show ¬1 ≤ 4 * i % 4; omega) (by show ¬4 * i % 4 = 3; omega)
  rw [e, o3]
  dsimp only
  rw [last]
  rw [show outsAt0 m c (4 * i + 3 - 1) _ = _ from o2]
  dsimp only
  rw [further]
  rw [show outsAt0 m c (4 * i + 2 - 1) _ = _ from o1]
  dsimp only
  rw [further]
  rw [show outsAt0 m c (4 * i + 1 - 1) _ = _ from o0]
  dsimp only
  rw [first, sum_blocks (a := 4) (b := 512) rfl]
  refine (stored (fun k => iblk m c 0 ⟨4 * i + k.val, b k⟩) (fun k => iblk m c 1 ⟨4 * i + k.val, b k⟩) p q).trans ?_
  have hr : P.val = i * 256 + p.val := by show P.val = P.val / 256 * 256 + P.val % 256; omega
  refine Finset.sum_congr rfl fun k _ => Finset.sum_congr rfl fun f _ => ?_
  have hk := k.isLt
  rw [blk0 m c A hA _ k (by show (4 * i + k.val) % 4 = _; omega) P p (by show P.val = (4 * i + k.val) / 4 * 256 + p.val; omega),
    blk1 m c B hB _ k (by show (4 * i + k.val) % 4 = _; omega)]

open Cert.Reference10Ideal.Read in
/-- The reference's product at a place. -/
theorem ref_entry (P : Fin 1024) (q : Fin 4736) :
    (val_main_v6 (F := Ideal) A B : Vec Ideal S1024x4736 .bf16) (at2 P q) = ∑ r : Fin 2048, A (at2 r P) * B (at2 r q) := by
  rw [val_main_v6_apply, val_main_v5_apply, val_main_v4_apply]
  refine Finset.sum_congr rfl fun r _ => ?_
  rw [val_main_v3_apply, val_main_v1_apply]
  refine (mul_comm (G := EReal) _ _).trans (congrArg₂ (· * ·) (congrArg A (funext fun a => ?_)) (congrArg B (funext fun a => ?_)))
  · match a with
    | ⟨0, _⟩ => rfl
    | ⟨1, _⟩ => rfl
  · match a with
    | ⟨0, _⟩ => rfl
    | ⟨1, _⟩ => rfl

include hA hB in
theorem same : (G2 m c : Vec Ideal S1024x4736 .bf16) = Cert.Reference10Ideal.Read.val_main_v6 (F := Ideal) A B := funext fun i => by
  rw [← at2_eta i]
  exact (entry m c A B hA hB _ _).trans (ref_entry A B _ _).symm

end Cert.Kernel10Ideal.Val

end
-- ==== Proof.Norm.lean ====
/- The normalisation of a row by its root mean square: what the call leaves at a place, and what the reference does. -/
module

public import proofs.«01_k».proof.Proof.Gen.Kernel13Ideal.Value
public import proofs.«01_k».proof.Proof.Gen.Reference13Ideal.Read
public import proofs.«01_k».proof.Proof.Sums
public import Idealize.ShloMosaic.Lib.Pointwise
public import Idealize.ShloMosaic.Lib.Pointwise.Tactic

@[expose] public section

set_option maxRecDepth 16384
set_option backward.isDefEq.respectTransparency false

noncomputable section

namespace Cert.Kernel13Ideal.Val

open Idealize.ShloMosaic Idealize.ShloMosaic.TcCoe Idealize.ShloMosaic.Tactic
open Cert.Kernel13Ideal.Gen Cert.Kernel13Ideal.Value Cert.Sums

/-- A row's value at a place, over the root of its mean square, times the gain. -/
def nrm (v : Fin 1024 → EReal) (d : Fin 1024) (g : EReal) : EReal :=
  v d * Ideal.rsqrt (Ideal.div (∑ k, v k * v k) (Ideal.ofBits .f32 0x44800000#32) + Ideal.ofBits .f32 0x358637BD#32) * g

/-- A block's stored value. -/
theorem stored (x : Vec Ideal S512x1024 .f32) (y : Vec Ideal S1x1024 .f32) (r : Fin 512) (d : Fin 1024) :
    out0_2 (F := Ideal) x y (at2 r d) = nrm (fun k => x (at2 r k)) d (y (at2 0 d)) := by
  unfold out0_2
  rw [View.canon_unit_zero z2, View.ld_unit_zero (S := S512x1024) z2, View.ld_unit_zero (S := S1x1024) z2]
  unfold k0_pay1
  pointwise
  rfl

variable (m : (ℓ : Loc nD τ sig) → Buf (Elt Ideal) ℓ) (c : Dev nD) (A : Vec Ideal S2048x1024 .f32) (B : Vec Ideal S1x1024 .f32)
  (hA : m ((c : Thread nD τ).loc main_arg0) = A) (hB : m ((c : Thread nD τ).loc main_arg1) = B)

theorem ix0 : ∀ t : Fin grid0.N, win0_0.index t 0 = t.val ∧ win0_0.index t 1 = 0 := by decide +kernel
theorem ix1 : ∀ t : Fin grid0.N, win0_1.index t 0 = 0 ∧ win0_1.index t 1 = 0 := by decide +kernel
theorem ix2 : ∀ t : Fin grid0.N, win0_2.flush t = true ∧ win0_2.index t 0 = t.val ∧ win0_2.index t 1 = 0 := by decide +kernel

include hA in
/-- The stream's block: a block of rows. -/
theorem blk0 (t : Fin cfg0.N) (R : Fin 2048) (r : Fin 512) (h : R.val = t.val * 512 + r.val) (d : Fin 1024) :
    (iblk m c 0 t : Vec Ideal S512x1024 .f32) (at2 r d) = A (at2 R d) := by
  obtain ⟨e0, e1⟩ := ix0 t
  unfold iblk
  rw [show V m c (Pipeline.arrRef spec0 0) = A from hA]
  refine congrArg A (funext fun a => ?_)
  match a with
  | ⟨0, _⟩ => apply Fin.ext; show win0_0.index t 0 * 512 + 1 * r.val = R.val; omega
  | ⟨1, _⟩ => apply Fin.ext; show win0_0.index t 1 * 1024 + 1 * d.val = d.val; omega

include hB in
/-- The gain's block: the whole gain. -/
theorem blk1 (t : Fin cfg0.N) (d : Fin 1024) : (iblk m c 1 t : Vec Ideal S1x1024 .f32) (at2 0 d) = B (at2 0 d) := by
  obtain ⟨e0, e1⟩ := ix1 t
  unfold iblk
  rw [show V m c (Pipeline.arrRef spec0 1) = B from hB]
  refine congrArg B (funext fun a => ?_)
  match a with
  | ⟨0, _⟩ => apply Fin.ext; show win0_1.index t 0 * 1 + 1 * 0 = 0; omega
  | ⟨1, _⟩ => apply Fin.ext; show win0_1.index t 1 * 1024 + 1 * d.val = d.val; omega

include hA hB in
/-- Each place of the array the call leaves. -/
theorem entry (R : Fin 2048) (d : Fin 1024) :
    ((dats m 0 c).arrAt 2 cfg0.N : Vec Ideal S2048x1024 .bf16) (at2 R d) = nrm (fun k => A (at2 R k)) d (B (at2 0 d)) := by
  have hR := R.isLt
  have hN : cfg0.N = 4 := N_0
  let t : Fin cfg0.N := ⟨R.val / 512, by omega⟩
  have tv : t.val = R.val / 512 := rfl
  let r : Fin 512 := ⟨R.val % 512, by omega⟩
  obtain ⟨hf, e0, e1⟩ := ix2 t
  have e : ((cfg0.win 2).blk t).view.emb (at2 (n0 := 512) (n1 := 1024) r d) = at2 R d := funext fun a => by
    match a with
    | ⟨0, _⟩ => apply Fin.ext; show win0_2.index t 0 * 512 + 1 * (R.val % 512) = R.val; omega
    | ⟨1, _⟩ => apply Fin.ext; show win0_2.index t 1 * 1024 + 1 * d.val = d.val; omega
  rw [← e]
  refine (congrFun (blocks2 m c t hf) (at2 (n0 := 512) (n1 := 1024) r d)).trans ?_
  rw [flushed2]
  refine (stored (iblk m c 0 t) (iblk m c 1 t) r d).trans ?_
  rw [blk1 m c B hB t d]
  exact congrArg (fun v => nrm v d (B (at2 0 d))) (funext fun k => blk0 m c A hA t R r (by show R.val = t.val * 512 + R.val % 512; omega) k)

open Cert.Reference13Ideal.Read in
/-- The reference's value at a place. -/
theorem ref_entry (R : Fin 2048) (d : Fin 1024) :
    (val_main_v12 (F := Ideal) A B : Vec Ideal S2048x1024 .bf16) (at2 R d) = nrm (fun k => A (at2 R k)) d (B (at2 0 d)) := by
  have e8 (k : Fin 1024) : idx_main_v1 (idx_main_v2 (idx_main_v8 (at2 R d))) k = at2 R k := funext fun a => by
    match a with
    | ⟨0, _⟩ => rfl
    | ⟨1, _⟩ => rfl
  have e10 : idx_main_v10 (at2 R d) = at2 0 d := funext fun a => by
    match a with
    | ⟨0, _⟩ => rfl
    | ⟨1, _⟩ => rfl
  rw [val_main_v12_apply, val_main_v11_apply, val_main_v9_apply, val_main_v8_apply, val_main_v7_apply, val_main_v6_apply, val_main_v4_apply, val_main_v2_apply,
    val_main_v1_apply, val_main_v3_apply, val_main_v5_apply, val_main_v10_apply, e10]
  refine congrArg (fun q : EReal => A (at2 R d) * Ideal.rsqrt (Ideal.div q (Ideal.ofBits .f32 0x44800000#32) + Ideal.ofBits .f32 0x358637BD#32) * B (at2 0 d)) ?_
  refine (congrArg₂ (· + ·) (show _ = (0 : EReal) from ?_) (Finset.sum_congr rfl fun k _ => ?_)).trans (zero_add _)
  · show Ideal.ofBits .f32 0x00000000#32 = 0
    simp [Ideal.ofBits, Ideal.ieee]
  · rw [val_main_v0_apply, e8]
    rfl

include hA hB in
theorem same : ((dats m 0 c).arrAt 2 cfg0.N : Vec Ideal S2048x1024 .bf16) = Cert.Reference13Ideal.Read.val_main_v12 (F := Ideal) A B := funext fun i => by
  rw [← at2_eta i]
  exact (entry m c A B hA hB _ _).trans (ref_entry A B _ _).symm

end Cert.Kernel13Ideal.Val

end
-- ==== Proof.Products.lean ====
/- The calls that need no precondition: the frames of their references, and their claims over the reals. -/
module

public import proofs.«01_k».proof.Defs
public import proofs.«01_k».proof.Proof.Dwi
public import proofs.«01_k».proof.Proof.Gen.Reference3Ideal.Run
public import proofs.«01_k».proof.Proof.Dwo
public import proofs.«01_k».proof.Proof.Gen.Reference4Ideal.Run
public import proofs.«01_k».proof.Proof.Dact
public import proofs.«01_k».proof.Proof.Gen.Reference5Ideal.Run
public import proofs.«01_k».proof.Proof.Ffin
public import proofs.«01_k».proof.Proof.Gen.Reference6Ideal.Run
public import proofs.«01_k».proof.Proof.Ffout
public import proofs.«01_k».proof.Proof.Gen.Reference7Ideal.Run
public import proofs.«01_k».proof.Proof.Inproj
public import proofs.«01_k».proof.Proof.Gen.Reference8Ideal.Run
public import proofs.«01_k».proof.Proof.Dwin
public import proofs.«01_k».proof.Proof.Gen.Reference10Ideal.Run
public import proofs.«01_k».proof.Proof.Norm
public import proofs.«01_k».proof.Proof.Gen.Reference13Ideal.Run
public import Idealize.ShloMosaic.Adequacy
public import Idealize.ShloMosaic.Init

@[expose] public section

set_option maxRecDepth 16384
set_option backward.isDefEq.respectTransparency false

noncomputable section

namespace Cert.Proof

open Idealize.ShloMosaic Idealize.SL.Sem

/-! The gradient of the feed-forward's first weight. -/

theorem dwi_frame : Cert.quiescent_Reference3Ideal (hReference3Ideal := Cert.Reference3Ideal.Gen.facts) := fun m ρ _ =>
  (θ_run Cert.Reference3Ideal.defs _ _).mono (fun _ h => ⟨fun c => (h c).2, funext fun s => by nomatch s⟩) (Cert.Reference3Ideal.Value.run (F := Ideal) m ρ)

theorem dwi : Cert.algebraic_Kernel3Ideal_Reference3Ideal (hKernel3Ideal := Cert.Kernel3Ideal.Gen.facts) (hReference3Ideal := Cert.Reference3Ideal.Gen.facts) := by
  intro m g m' g' _ hargs
  refine ⟨fun c => Cert.Kernel3Ideal.Value.G2 m c, Cert.Kernel3Ideal.Value.run m g,
    (θ_run Cert.Reference3Ideal.defs _ _).mono (fun r h c => ?_) (Cert.Reference3Ideal.Value.run (F := Ideal) m' g')⟩
  obtain ⟨a0, b⟩ := h c
  obtain ⟨g0, g1⟩ := hargs c
  exact ⟨a0.trans ((Cert.Reference3Ideal.Read.val_main_v10_eq _ _).trans (Cert.Kernel3Ideal.Val.same m c _ _ g0.symm g1.symm).symm), b⟩

/-! The gradient of the feed-forward's second weight. -/

theorem dwo_frame : Cert.quiescent_Reference4Ideal (hReference4Ideal := Cert.Reference4Ideal.Gen.facts) := fun m ρ _ =>
  (θ_run Cert.Reference4Ideal.defs _ _).mono (fun _ h => ⟨fun c => (h c).2, funext fun s => by nomatch s⟩) (Cert.Reference4Ideal.Value.run (F := Ideal) m ρ)

theorem dwo : Cert.algebraic_Kernel4Ideal_Reference4Ideal (hKernel4Ideal := Cert.Kernel4Ideal.Gen.facts) (hReference4Ideal := Cert.Reference4Ideal.Gen.facts) := by
  intro m g m' g' _ hargs
  refine ⟨fun c => Cert.Kernel4Ideal.Value.G2 m c, Cert.Kernel4Ideal.Value.run m g,
    (θ_run Cert.Reference4Ideal.defs _ _).mono (fun r h c => ?_) (Cert.Reference4Ideal.Value.run (F := Ideal) m' g')⟩
  obtain ⟨a0, b⟩ := h c
  obtain ⟨g0, g1⟩ := hargs c
  exact ⟨a0.trans ((Cert.Reference4Ideal.Read.val_main_v11_eq _ _).trans (Cert.Kernel4Ideal.Val.same m c _ _ g0.symm g1.symm).symm), b⟩

/-! The gradient of the feed-forward's activation. -/

theorem dact_frame : Cert.quiescent_Reference5Ideal (hReference5Ideal := Cert.Reference5Ideal.Gen.facts) := fun m ρ _ =>
  (θ_run Cert.Reference5Ideal.defs _ _).mono (fun _ h => ⟨fun c => (h c).2, funext fun s => by nomatch s⟩) (Cert.Reference5Ideal.Value.run (F := Ideal) m ρ)

theorem dact : Cert.algebraic_Kernel5Ideal_Reference5Ideal (hKernel5Ideal := Cert.Kernel5Ideal.Gen.facts) (hReference5Ideal := Cert.Reference5Ideal.Gen.facts) := by
  intro m g m' g' _ hargs
  refine ⟨fun c => (Cert.Kernel5Ideal.Gen.dats m 0 c).arrAt 2 Cert.Kernel5Ideal.cfg0.N, Cert.Kernel5Ideal.Value.run_blocks m g,
    (θ_run Cert.Reference5Ideal.defs _ _).mono (fun r h c => ?_) (Cert.Reference5Ideal.Value.run (F := Ideal) m' g')⟩
  obtain ⟨a0, b⟩ := h c
  obtain ⟨g0, g1⟩ := hargs c
  exact ⟨a0.trans ((Cert.Reference5Ideal.Read.val_main_v9_eq _ _).trans (Cert.Kernel5Ideal.Val.same m c _ _ g0.symm g1.symm).symm), b⟩

/-! The feed-forward's first product. -/

theorem ffin_frame : Cert.quiescent_Reference6Ideal (hReference6Ideal := Cert.Reference6Ideal.Gen.facts) := fun m ρ _ =>
  (θ_run Cert.Reference6Ideal.defs _ _).mono (fun _ h => ⟨fun c => (h c).2, funext fun s => by nomatch s⟩) (Cert.Reference6Ideal.Value.run (F := Ideal) m ρ)

theorem ffin : Cert.algebraic_Kernel6Ideal_Reference6Ideal (hKernel6Ideal := Cert.Kernel6Ideal.Gen.facts) (hReference6Ideal := Cert.Reference6Ideal.Gen.facts) := by
  intro m g m' g' _ hargs
  refine ⟨fun c => (Cert.Kernel6Ideal.Gen.dats m 0 c).arrAt 2 Cert.Kernel6Ideal.cfg0.N, Cert.Kernel6Ideal.Value.run_blocks m g,
    (θ_run Cert.Reference6Ideal.defs _ _).mono (fun r h c => ?_) (Cert.Reference6Ideal.Value.run (F := Ideal) m' g')⟩
  obtain ⟨a0, b⟩ := h c
  obtain ⟨g0, g1⟩ := hargs c
  exact ⟨a0.trans ((Cert.Reference6Ideal.Read.val_main_v6_eq _ _).trans (Cert.Kernel6Ideal.Val.same m c _ _ g0.symm g1.symm).symm), b⟩

/-! The feed-forward's second product. -/

theorem ffout_frame : Cert.quiescent_Reference7Ideal (hReference7Ideal := Cert.Reference7Ideal.Gen.facts) := fun m ρ _ =>
  (θ_run Cert.Reference7Ideal.defs _ _).mono (fun _ h => ⟨fun c => (h c).2, funext fun s => by nomatch s⟩) (Cert.Reference7Ideal.Value.run (F := Ideal) m ρ)

theorem ffout : Cert.algebraic_Kernel7Ideal_Reference7Ideal (hKernel7Ideal := Cert.Kernel7Ideal.Gen.facts) (hReference7Ideal := Cert.Reference7Ideal.Gen.facts) := by
  intro m g m' g' _ hargs
  refine ⟨fun c => Cert.Kernel7Ideal.Value.G3 m c, Cert.Kernel7Ideal.Value.run m g,
    (θ_run Cert.Reference7Ideal.defs _ _).mono (fun r h c => ?_) (Cert.Reference7Ideal.Value.run (F := Ideal) m' g')⟩
  obtain ⟨a0, b⟩ := h c
  obtain ⟨g0, g1, g2⟩ := hargs c
  exact ⟨a0.trans ((Cert.Reference7Ideal.Read.val_main_v7_eq _ _ _).trans (Cert.Kernel7Ideal.Val.same m c _ _ _ g0.symm g1.symm g2.symm).symm), b⟩

/-! The mixer's input product. -/

theorem inproj_frame : Cert.quiescent_Reference8Ideal (hReference8Ideal := Cert.Reference8Ideal.Gen.facts) := fun m ρ _ =>
  (θ_run Cert.Reference8Ideal.defs _ _).mono (fun _ h => ⟨fun c => (h c).2.2.2.2.2.2, funext fun s => by nomatch s⟩) (Cert.Reference8Ideal.Value.run (F := Ideal) m ρ)

theorem inproj : Cert.algebraic_Kernel8Ideal_Reference8Ideal (hKernel8Ideal := Cert.Kernel8Ideal.Gen.facts) (hReference8Ideal := Cert.Reference8Ideal.Gen.facts) := by
  intro m g m' g' _ hargs
  refine ⟨fun c => (Cert.Kernel8Ideal.Gen.dats m 0 c).arrAt 2 Cert.Kernel8Ideal.cfg0.N, fun c => (Cert.Kernel8Ideal.Gen.dats m 0 c).arrAt 3 Cert.Kernel8Ideal.cfg0.N, fun c => (Cert.Kernel8Ideal.Gen.dats m 0 c).arrAt 4 Cert.Kernel8Ideal.cfg0.N, fun c => (Cert.Kernel8Ideal.Gen.dats m 0 c).arrAt 5 Cert.Kernel8Ideal.cfg0.N, fun c => (Cert.Kernel8Ideal.Gen.dats m 0 c).arrAt 6 Cert.Kernel8Ideal.cfg0.N, fun c => (Cert.Kernel8Ideal.Gen.dats m 0 c).arrAt 7 Cert.Kernel8Ideal.cfg0.N, Cert.Kernel8Ideal.Value.run_blocks m g,
    (θ_run Cert.Reference8Ideal.defs _ _).mono (fun r h c => ?_) (Cert.Reference8Ideal.Value.run (F := Ideal) m' g')⟩
  obtain ⟨a0, a1, a2, a3, a4, a5, b⟩ := h c
  obtain ⟨g0, g1⟩ := hargs c
  exact ⟨a0.trans ((Cert.Reference8Ideal.Read.val_main_v6_eq _ _).trans (Cert.Kernel8Ideal.Val.same2 m c _ _ g0.symm g1.symm).symm),
    a1.trans ((Cert.Reference8Ideal.Read.val_main_v7_eq _ _).trans (Cert.Kernel8Ideal.Val.same3 m c _ _ g0.symm g1.symm).symm),
    a2.trans ((Cert.Reference8Ideal.Read.val_main_v8_eq _ _).trans (Cert.Kernel8Ideal.Val.same4 m c _ _ g0.symm g1.symm).symm),
    a3.trans ((Cert.Reference8Ideal.Read.val_main_v9_eq _ _).trans (Cert.Kernel8Ideal.Val.same5 m c _ _ g0.symm g1.symm).symm),
    a4.trans ((Cert.Reference8Ideal.Read.val_main_v10_eq _ _).trans (Cert.Kernel8Ideal.Val.same6 m c _ _ g0.symm g1.symm).symm),
    a5.trans ((Cert.Reference8Ideal.Read.val_main_v11_eq _ _).trans (Cert.Kernel8Ideal.Val.same7 m c _ _ g0.symm g1.symm).symm), b⟩

/-! The gradient of the mixer's input weight. -/

theorem dwin_frame : Cert.quiescent_Reference10Ideal (hReference10Ideal := Cert.Reference10Ideal.Gen.facts) := fun m ρ _ =>
  (θ_run Cert.Reference10Ideal.defs _ _).mono (fun _ h => ⟨fun c => (h c).2, funext fun s => by nomatch s⟩) (Cert.Reference10Ideal.Value.run (F := Ideal) m ρ)

theorem dwin : Cert.algebraic_Kernel10Ideal_Reference10Ideal (hKernel10Ideal := Cert.Kernel10Ideal.Gen.facts) (hReference10Ideal := Cert.Reference10Ideal.Gen.facts) := by
  intro m g m' g' _ hargs
  refine ⟨fun c => Cert.Kernel10Ideal.Value.G2 m c, Cert.Kernel10Ideal.Value.run m g,
    (θ_run Cert.Reference10Ideal.defs _ _).mono (fun r h c => ?_) (Cert.Reference10Ideal.Value.run (F := Ideal) m' g')⟩
  obtain ⟨a0, b⟩ := h c
  obtain ⟨g0, g1⟩ := hargs c
  exact ⟨a0.trans ((Cert.Reference10Ideal.Read.val_main_v6_eq _ _).trans (Cert.Kernel10Ideal.Val.same m c _ _ g0.symm g1.symm).symm), b⟩

/-! The normalisation. -/

theorem norm_frame : Cert.quiescent_Reference13Ideal (hReference13Ideal := Cert.Reference13Ideal.Gen.facts) := fun m ρ _ =>
  (θ_run Cert.Reference13Ideal.defs _ _).mono (fun _ h => ⟨fun c => (h c).2, funext fun s => by nomatch s⟩) (Cert.Reference13Ideal.Value.run (F := Ideal) m ρ)

theorem norm : Cert.algebraic_Kernel13Ideal_Reference13Ideal (hKernel13Ideal := Cert.Kernel13Ideal.Gen.facts) (hReference13Ideal := Cert.Reference13Ideal.Gen.facts) := by
  intro m g m' g' _ hargs
  refine ⟨fun c => (Cert.Kernel13Ideal.Gen.dats m 0 c).arrAt 2 Cert.Kernel13Ideal.cfg0.N, Cert.Kernel13Ideal.Value.run_blocks m g,
    (θ_run Cert.Reference13Ideal.defs _ _).mono (fun r h c => ?_) (Cert.Reference13Ideal.Value.run (F := Ideal) m' g')⟩
  obtain ⟨a0, b⟩ := h c
  obtain ⟨g0, g1⟩ := hargs c
  exact ⟨a0.trans ((Cert.Reference13Ideal.Read.val_main_v12_eq _ _).trans (Cert.Kernel13Ideal.Val.same m c _ _ g0.symm g1.symm).symm), b⟩

end Cert.Proof

end
-- ==== Proof.Rms.lean ====
/- The gradient of the root-mean-square norm of a row, in closed form and as differentiation gives it: over the extended reals the two agree. -/
module

public import proofs.«01_k».proof.Proof.Sums

@[expose] public section

noncomputable section

namespace Cert.Rms

open Idealize.ShloMosaic Cert.Sums

/-- The width, the small constant added to the mean square, and minus one half. -/
abbrev width : EReal := Ideal.ofBits .f32 0x44800000#32
abbrev small : EReal := Ideal.ofBits .f32 0x358637BD#32
abbrev minusHalf : EReal := Ideal.ofBits .f32 0xBF000000#32

/-- A row's mean square, and the inverse of its root. -/
def square (x : Fin 1024 → EReal) : EReal := Ideal.div (∑ k, x k * x k) width + small
def scale (x : Fin 1024 → EReal) : EReal := Ideal.rsqrt (square x)

/-- The closed form: `x` the row, `t` the gradient of the scaled row, `e` what comes by the residual. -/
def closed (x t : Fin 1024 → EReal) (e : EReal) (d : Fin 1024) : EReal :=
  e + scale x * (t d - x d * scale x * Ideal.div (∑ k, t k * (x k * scale x)) width)

/-- What comes to the row through its mean square. -/
def through (x t : Fin 1024 → EReal) : EReal :=
  Ideal.div ((∑ k, x k * t k) * (minusHalf * Ideal.div (scale x) (square x))) width

/-- The form of differentiation: by the factor `x` itself, and by the two factors of each square. -/
def differentiated (x t : Fin 1024 → EReal) (e : EReal) (d : Fin 1024) : EReal :=
  e + t d * scale x + x d * through x t + through x t * x d

theorem width_eq : width = ((1024 : ℝ) : EReal) := by
  simp [width, Ideal.ofBits, Ideal.ieee, -EReal.coe_mul]; norm_num

theorem minusHalf_eq : minusHalf = ((-1 / 2 : ℝ) : EReal) := by
  simp [minusHalf, Ideal.ofBits, Ideal.ieee, -EReal.coe_mul]; norm_num

theorem small_eq : ∃ r : ℝ, 0 < r ∧ small = (r : EReal) := by
  refine ⟨8796093 * (2 : ℝ) ^ (-43 : ℤ), by positivity, ?_⟩
  simp [small, Ideal.ofBits, Ideal.ieee, -EReal.coe_mul]

theorem div_width (y : EReal) : Ideal.div y width = y * ((1 / 1024 : ℝ) : EReal) := by
  unfold Ideal.div
  rw [width_eq, if_neg (by simp), ← EReal.coe_inv, one_div]

theorem mul_self_nonneg' (x : EReal) : 0 ≤ x * x := by
  induction x with
  | bot => simp
  | coe r => rw [← EReal.coe_mul]; exact EReal.coe_nonneg.2 (mul_self_nonneg r)
  | top => simp

/-- A mean square is infinite or a positive real. -/
theorem square_cases (x : Fin 1024 → EReal) : square x = ⊤ ∨ ∃ r : ℝ, 0 < r ∧ square x = (r : EReal) := by
  obtain ⟨s, hs, es⟩ := small_eq
  have h0 : 0 ≤ Ideal.div (∑ k, x k * x k) width := by
    rw [div_width]
    exact mul_nonneg (Finset.sum_nonneg fun k _ => mul_self_nonneg' (x k)) (EReal.coe_nonneg.2 (by norm_num))
  unfold square
  rw [es]
  generalize Ideal.div (∑ k, x k * x k) width = a at h0
  induction a with
  | bot => simp at h0
  | coe r => exact .inr ⟨r + s, by have := EReal.coe_nonneg.1 h0; linarith, (EReal.coe_add r s).symm⟩
  | top => exact .inl (EReal.top_add_coe s)

theorem double (y : EReal) : y + y = y * ((2 : ℝ) : EReal) := by
  induction y with
  | bot => rw [EReal.bot_mul_coe_of_pos (by norm_num)]; rfl
  | coe r => rw [← EReal.coe_add, ← EReal.coe_mul, mul_two]
  | top => rw [EReal.top_mul_coe_of_pos (by norm_num)]; rfl

theorem closed_eq (x t : Fin 1024 → EReal) (e : EReal) (d : Fin 1024) : closed x t e d = differentiated x t e d := by
  unfold closed differentiated through
  rcases square_cases x with h | ⟨s, hs, h⟩
  · have hr : scale x = 0 := by unfold scale; rw [h]; rfl
    have hd : Ideal.div 0 (square x) = 0 := by unfold Ideal.div; rw [h, if_neg EReal.top_ne_zero, zero_mul]
    rw [hr, hd, mul_zero minusHalf, mul_zero (∑ k, x k * t k), div_width 0, div_width]
    simp
  · let p : ℝ := (Real.sqrt s)⁻¹
    have hp : 0 ≤ p := inv_nonneg.2 (Real.sqrt_nonneg s)
    have hpp : p * p = s⁻¹ := by show (Real.sqrt s)⁻¹ * (Real.sqrt s)⁻¹ = _; rw [← mul_inv, Real.mul_self_sqrt hs.le]
    have hr : scale x = (p : EReal) := by
      unfold scale
      rw [h]
      show (if s < 0 then ⊥ else if s = 0 then ⊤ else (((Real.sqrt s)⁻¹ : ℝ) : EReal)) = _
      rw [if_neg hs.le.not_gt, if_neg hs.ne']
    have hd : Ideal.div (p : EReal) (square x) = ((p * s⁻¹ : ℝ) : EReal) := by
      unfold Ideal.div
      rw [h, if_neg (by simpa using hs.ne'), ← EReal.coe_inv, ← EReal.coe_mul]
    have hS : ∑ k, t k * (x k * (p : EReal)) = (∑ k, x k * t k) * (p : EReal) := by
      rw [sum_mul _ _ _ hp]
      exact Finset.sum_congr rfl fun k _ => by rw [← mul_assoc, mul_comm (t k)]
    rw [hr, hd, hS, div_width, div_width, minusHalf_eq]
    generalize ∑ k, x k * t k = S
    generalize x d = X
    generalize t d = T
    have l : (p : EReal) * (T - X * (p : EReal) * (S * (p : EReal) * ((1 / 1024 : ℝ) : EReal))) = T * (p : EReal) + X * S * ((-(p * p * p * (1 / 1024)) : ℝ) : EReal) := by
      rw [sub_eq_add_neg, EReal.left_distrib_of_nonneg_of_ne_top (EReal.coe_nonneg.2 hp) (EReal.coe_ne_top p), mul_comm (p : EReal) T, EReal.coe_neg, mul_neg, mul_neg,
        EReal.coe_mul, EReal.coe_mul, EReal.coe_mul]
      congr 2
      ac_rfl
    have r : X * (S * (((-1 / 2 : ℝ) : EReal) * ((p * s⁻¹ : ℝ) : EReal)) * ((1 / 1024 : ℝ) : EReal)) = X * S * ((-1 / 2 * (p * s⁻¹) * (1 / 1024) : ℝ) : EReal) := by
      rw [EReal.coe_mul (-1 / 2 * (p * s⁻¹)), EReal.coe_mul (-1 / 2)]
      ac_rfl
    rw [l, mul_comm _ X, add_assoc (e + _), double, r, mul_assoc (X * S), ← EReal.coe_mul, ← hpp, ← add_assoc]
    congr 3
    ring

end Cert.Rms

end
-- ==== Proof.Dn.lean ====
/- The gradient through the feed-forward network's first product and the norm before it: what the call's blocks leave, and the reference's arrays. -/
module

public import proofs.«01_k».proof.Proof.Gen.Kernel2Ideal.Value
public import proofs.«01_k».proof.Proof.Gen.Reference2Ideal.Read
public import proofs.«01_k».proof.Proof.Rms
public import Idealize.ShloMosaic.Lib.Pointwise
public import Idealize.ShloMosaic.Lib.Pointwise.Tactic

@[expose] public section

set_option maxRecDepth 16384
set_option backward.isDefEq.respectTransparency false

noncomputable section

namespace Cert.Kernel2Ideal.Val

open Idealize.ShloMosaic Idealize.ShloMosaic.TcCoe Idealize.ShloMosaic.Tactic
open Cert.Kernel2Ideal.Gen Cert.Kernel2Ideal.Value Cert.Sums Cert.Rms

section
variable {F : FTy → Type} [FloatOps F]
variable (c : Dev nD) (i : grid0.Coords) (a2 : Memref sig .tc .vmem S1x1024x704 .bf16) (h2 : a2.IsWhole) (a3 : Memref sig .tc .vmem S1x704x1024 .bf16) (h3 : a3.IsWhole)
  (a4 : Memref sig .tc .vmem S1024x1024 .f32) (h4 : a4.IsWhole) (a5 : Memref sig .tc .vmem S1x1024 .f32) (h5 : a5.IsWhole) (a6 : Memref sig .tc .vmem S1024x1024 .f32) (h6 : a6.IsWhole)
  (a7 : Memref sig .tc .vmem S1024x1024 .f32) (h7 : a7.IsWhole) (a8 : Memref sig .tc .vmem S1x1024 .f32) (h8 : a8.IsWhole) (a9 : Memref sig .tc .vmem S1024x1024 .f32) (h9 : a9.IsWhole)
  (x : Vec F S1x1024x704 .bf16) (w : Vec F S1x704x1024 .bf16) (h : Vec F S1024x1024 .f32) (g : Vec F S1x1024 .f32) (e : Vec F S1024x1024 .f32) (s : Vec F S1x1024 .f32)
  (p : Vec F S1024x1024 .f32)

/-- The first shard leaves its product in the accumulator. -/
theorem first (hc0 : cond0_0 i) (hc1 : ¬cond0_1 i) (hc2 : ¬cond0_2 i) :
    sout0_A_0 c i a2 h2 a3 h3 a4 h4 a5 h5 a6 h6 a7 h7 a8 h8 a9 h9 hc0 hc1 hc2 x w h g e = k0_pay2 x w := by
  unfold sout0_A_0
  rw [View.read_writes_eq_canon _ _ _ (scover0_A_0 c i a2 h2 a3 h3 a4 h4 a5 h5 a6 h6 a7 h7 a8 h8 a9 h9 hc0 hc1 hc2 x w h g e)]
  unfold kernelRun0_A
  dsimp only
  sl_unfold_words
  rw [View.canon_unit_zero z2]
  simp only [View.readAt_eq_ld, h2.read_unread, h3.read_unread, h4.read_unread, h5.read_unread, h6.read_unread, h8.read_unread, h9.read_unread, View.ld_unit_zero (S := S1x1024x704) z3,
    View.ld_unit_zero (S := S1x704x1024) z3, View.ld_unit_zero (S := S1024x1024) z2, View.ld_unit_zero (S := S1x1024) z2]

/-- A further shard adds its product. -/
theorem further (hc0 : ¬cond0_0 i) (hc1 : cond0_1 i) (hc2 : ¬cond0_2 i) :
    sout0_B_0 c i a2 h2 a3 h3 a4 h4 a5 h5 a6 h6 a7 h7 a8 h8 a9 h9 hc0 hc1 hc2 x w h g e p = k0_pay3 x w p := by
  unfold sout0_B_0
  rw [View.read_writes_eq_canon _ _ _ (scover0_B_0 c i a2 h2 a3 h3 a4 h4 a5 h5 a6 h6 a7 h7 a8 h8 a9 h9 hc0 hc1 hc2 x w h g e p)]
  unfold kernelRun0_B
  dsimp only
  sl_unfold_words
  rw [View.canon_unit_zero z2]
  simp only [View.readAt_eq_ld, h2.read_unread, h3.read_unread, h4.read_unread, h5.read_unread, h6.read_unread, h8.read_unread, h9.read_unread, View.ld_unit_zero (S := S1x1024x704) z3,
    View.ld_unit_zero (S := S1x704x1024) z3, View.ld_unit_zero (S := S1024x1024) z2, View.ld_unit_zero (S := S1x1024) z2]

/-- The last shard's product is added, and the rows' gradient stored. -/
theorem rowsC (hc0 : ¬cond0_0 i) (hc1 : cond0_1 i) (hc2 : cond0_2 i) (hc3 : cond0_3 i) (hc4 : ¬cond0_4 i) :
    out0_C_5 c i a2 h2 a3 h3 a4 h4 a5 h5 a6 h6 a7 h7 a8 h8 a9 h9 hc0 hc1 hc2 hc3 hc4 x w h g e p = k0_pay7 (k0_pay3 x w p) h g e := by
  unfold out0_C_5
  rw [View.read_writes_eq_canon _ _ _ (cover0_C_5 c i a2 h2 a3 h3 a4 h4 a5 h5 a6 h6 a7 h7 a8 h8 a9 h9 hc0 hc1 hc2 hc3 hc4 x w h g e p)]
  unfold kernelRun0_C
  dsimp only
  sl_unfold_words
  rw [View.canon_unit_zero z2, View.readCov_unit_zero (S := S1024x1024) _ z2]
  simp only [View.readAt_eq_ld, h2.read_unread, h3.read_unread, h4.read_unread, h5.read_unread, h6.read_unread, h8.read_unread, h9.read_unread, View.ld_unit_zero (S := S1x1024x704) z3,
    View.ld_unit_zero (S := S1x704x1024) z3, View.ld_unit_zero (S := S1024x1024) z2, View.ld_unit_zero (S := S1x1024) z2]

theorem rowsD (hc0 : ¬cond0_0 i) (hc1 : cond0_1 i) (hc2 : cond0_2 i) (hc3 : ¬cond0_3 i) (hc4 : cond0_4 i) :
    out0_D_5 c i a2 h2 a3 h3 a4 h4 a5 h5 a6 h6 a7 h7 a8 h8 a9 h9 hc0 hc1 hc2 hc3 hc4 x w h g e s p = k0_pay7 (k0_pay3 x w p) h g e := by
  unfold out0_D_5
  rw [View.read_writes_eq_canon _ _ _ (cover0_D_5 c i a2 h2 a3 h3 a4 h4 a5 h5 a6 h6 a7 h7 a8 h8 a9 h9 hc0 hc1 hc2 hc3 hc4 x w h g e s p)]
  unfold kernelRun0_D
  dsimp only
  sl_unfold_words
  rw [View.canon_unit_zero z2, View.readCov_unit_zero (S := S1024x1024) _ z2]
  simp only [View.readAt_eq_ld, h2.read_unread, h3.read_unread, h4.read_unread, h5.read_unread, h6.read_unread, h8.read_unread, h9.read_unread, View.ld_unit_zero (S := S1x1024x704) z3,
    View.ld_unit_zero (S := S1x704x1024) z3, View.ld_unit_zero (S := S1024x1024) z2, View.ld_unit_zero (S := S1x1024) z2]

/-- The first row block starts the gain's gradient, and the second adds to it. -/
theorem gainC (hc0 : ¬cond0_0 i) (hc1 : cond0_1 i) (hc2 : cond0_2 i) (hc3 : cond0_3 i) (hc4 : ¬cond0_4 i) :
    out0_C_6 c i a2 h2 a3 h3 a4 h4 a5 h5 a6 h6 a7 h7 a8 h8 a9 h9 hc0 hc1 hc2 hc3 hc4 x w h g e p = k0_pay8 (k0_pay3 x w p) h := by
  unfold out0_C_6
  rw [View.read_writes_eq_canon _ _ _ (cover0_C_6 c i a2 h2 a3 h3 a4 h4 a5 h5 a6 h6 a7 h7 a8 h8 a9 h9 hc0 hc1 hc2 hc3 hc4 x w h g e p)]
  unfold kernelRun0_C
  dsimp only
  sl_unfold_words
  rw [View.canon_unit_zero z2, View.readCov_unit_zero (S := S1024x1024) _ z2]
  simp only [View.readAt_eq_ld, h2.read_unread, h3.read_unread, h4.read_unread, h5.read_unread, h6.read_unread, h8.read_unread, h9.read_unread, View.ld_unit_zero (S := S1x1024x704) z3,
    View.ld_unit_zero (S := S1x704x1024) z3, View.ld_unit_zero (S := S1024x1024) z2, View.ld_unit_zero (S := S1x1024) z2]

theorem gainD (hc0 : ¬cond0_0 i) (hc1 : cond0_1 i) (hc2 : cond0_2 i) (hc3 : ¬cond0_3 i) (hc4 : cond0_4 i) :
    out0_D_6 c i a2 h2 a3 h3 a4 h4 a5 h5 a6 h6 a7 h7 a8 h8 a9 h9 hc0 hc1 hc2 hc3 hc4 x w h g e s p = k0_pay9 (k0_pay3 x w p) h s := by
  unfold out0_D_6
  rw [View.read_writes_eq_canon _ _ _ (cover0_D_6 c i a2 h2 a3 h3 a4 h4 a5 h5 a6 h6 a7 h7 a8 h8 a9 h9 hc0 hc1 hc2 hc3 hc4 x w h g e s p)]
  unfold kernelRun0_D
  dsimp only
  sl_unfold_words
  rw [View.canon_unit_zero z2, View.readCov_unit_zero (S := S1024x1024) _ z2]
  simp only [View.readAt_eq_ld, h2.read_unread, h3.read_unread, h4.read_unread, h5.read_unread, h6.read_unread, h8.read_unread, h9.read_unread, View.ld_unit_zero (S := S1x1024x704) z3,
    View.ld_unit_zero (S := S1x704x1024) z3, View.ld_unit_zero (S := S1024x1024) z2, View.ld_unit_zero (S := S1x1024) z2]
end

/-! Over the reals. -/

/-- A shard's product, at a place of a block. -/
theorem prod_apply (x : Vec Ideal S1x1024x704 .bf16) (w : Vec Ideal S1x704x1024 .bf16) (r d : Fin 1024) :
    k0_pay1 (F := Ideal) x w (at2 r d) = ∑ f : Fin 704, x (at3 0 r f) * w (at3 0 f d) := by
  unfold k0_pay1
  pointwise [dot_S1024x704_S704x1024_S1024x1024_1_0_0_1_n_n]
  rfl

section
variable (p : Vec Ideal S1024x1024 .f32) (h : Vec Ideal S1024x1024 .f32) (g : Vec Ideal S1x1024 .f32) (e : Vec Ideal S1024x1024 .f32)

theorem scale_apply (r : Fin 1024) (z : Fin 1) : k0_pay4 (F := Ideal) h (at2 r z) = scale fun k => h (at2 r k) := by
  unfold k0_pay4
  pointwise
  rfl

theorem normed_apply (r d : Fin 1024) : k0_pay5 (F := Ideal) h (at2 r d) = h (at2 r d) * scale fun k => h (at2 r k) := by
  unfold k0_pay5
  generalize hp : k0_pay4 (F := Ideal) h = p
  pointwise
  rw [← hp]
  exact congrArg (h (at2 r d) * ·) (scale_apply h r 0)

theorem gain_apply (d : Fin 1024) : k0_pay6 (F := Ideal) p h (at2 0 d) = ∑ r : Fin 1024, p (at2 r d) * (h (at2 r d) * scale fun k => h (at2 r k)) := by
  unfold k0_pay6
  generalize hq : k0_pay5 (F := Ideal) h = q
  pointwise
  subst hq
  exact Finset.sum_congr rfl fun r _ => congrArg (p (at2 r d) * ·) (normed_apply h r d)

theorem rows_apply (r d : Fin 1024) :
    k0_pay7 (F := Ideal) p h g e (at2 r d) = closed (fun k => h (at2 r k)) (fun k => p (at2 r k) * g (at2 0 k)) (e (at2 r d)) d := by
  unfold k0_pay7
  generalize hq : k0_pay5 (F := Ideal) h = q
  generalize hs : k0_pay4 (F := Ideal) h = s
  pointwise
  subst hq hs
  unfold closed
  refine congrArg₂ (· + ·) rfl (congrArg₂ (· * ·) (scale_apply h r 0) (congrArg₂ (· - ·) rfl (congrArg₂ (· * ·) (normed_apply h r d)
    (congrArg (Ideal.div · width) (Finset.sum_congr rfl fun k _ => congrArg₂ (· * ·) rfl (normed_apply h r k))))))
end

variable (m : (ℓ : Loc nD τ sig) → Buf (Elt Ideal) ℓ) (c : Dev nD) (A : Vec Ideal S8x2048x704 .bf16) (B : Vec Ideal S8x704x1024 .bf16) (H : Vec Ideal S2048x1024 .f32)
  (G : Vec Ideal S1x1024 .f32) (E : Vec Ideal S2048x1024 .f32)
  (hA : m ((c : Thread nD τ).loc main_arg0) = A) (hB : m ((c : Thread nD τ).loc main_arg1) = B) (hH : m ((c : Thread nD τ).loc main_arg2) = H)
  (hG : m ((c : Thread nD τ).loc main_arg3) = G) (hE : m ((c : Thread nD τ).loc main_arg4) = E)

theorem ix0 : ∀ t : Fin grid0.N, win0_0.index t 0 = t.val % 8 ∧ win0_0.index t 1 = t.val / 8 ∧ win0_0.index t 2 = 0 := by decide +kernel
theorem ix1 : ∀ t : Fin grid0.N, win0_1.index t 0 = t.val % 8 ∧ win0_1.index t 1 = 0 ∧ win0_1.index t 2 = 0 := by decide +kernel
theorem ix2 : ∀ t : Fin grid0.N, win0_2.index t 0 = t.val / 8 ∧ win0_2.index t 1 = 0 := by decide +kernel
theorem ix3 : ∀ t : Fin grid0.N, win0_3.index t 0 = 0 ∧ win0_3.index t 1 = 0 := by decide +kernel
theorem ix4 : ∀ t : Fin grid0.N, win0_4.index t 0 = t.val / 8 ∧ win0_4.index t 1 = 0 := by decide +kernel

include hA in
/-- The activation gradients' block: a shard and a block of rows; the weight's: a shard. -/
theorem blk0 (t : Fin cfg0.N) (s : Fin 8) (hs : t.val % 8 = s.val) (R : Fin 2048) (r : Fin 1024) (h : R.val = t.val / 8 * 1024 + r.val) (f : Fin 704) :
    (iblk m c 0 t : Vec Ideal S1x1024x704 .bf16) (at3 0 r f) = A (at3 s R f) := by
  obtain ⟨e0, e1, e2⟩ := ix0 t
  unfold iblk
  rw [show V m c (Pipeline.arrRef spec0 0) = A from hA]
  refine congrArg A (funext fun a => ?_)
  match a with
  | ⟨0, _⟩ => apply Fin.ext; show win0_0.index t 0 * 1 + 1 * 0 = s.val; omega
  | ⟨1, _⟩ => apply Fin.ext; show win0_0.index t 1 * 1024 + 1 * r.val = R.val; omega
  | ⟨2, _⟩ => apply Fin.ext; show win0_0.index t 2 * 704 + 1 * f.val = f.val; omega

include hB in
theorem blk1 (t : Fin cfg0.N) (s : Fin 8) (hs : t.val % 8 = s.val) (f : Fin 704) (d : Fin 1024) :
    (iblk m c 1 t : Vec Ideal S1x704x1024 .bf16) (at3 0 f d) = B (at3 s f d) := by
  obtain ⟨e0, e1, e2⟩ := ix1 t
  unfold iblk
  rw [show V m c (Pipeline.arrRef spec0 1) = B from hB]
  refine congrArg B (funext fun a => ?_)
  match a with
  | ⟨0, _⟩ => apply Fin.ext; show win0_1.index t 0 * 1 + 1 * 0 = s.val; omega
  | ⟨1, _⟩ => apply Fin.ext; show win0_1.index t 1 * 704 + 1 * f.val = f.val; omega
  | ⟨2, _⟩ => apply Fin.ext; show win0_1.index t 2 * 1024 + 1 * d.val = d.val; omega

include hH in
/-- The rows' block of the stream and of its gradient, and the gain whole. -/
theorem blk2 (t : Fin cfg0.N) (R : Fin 2048) (r : Fin 1024) (h : R.val = t.val / 8 * 1024 + r.val) (d : Fin 1024) :
    (iblk m c 2 t : Vec Ideal S1024x1024 .f32) (at2 r d) = H (at2 R d) := by
  obtain ⟨e0, e1⟩ := ix2 t
  unfold iblk
  rw [show V m c (Pipeline.arrRef spec0 2) = H from hH]
  refine congrArg H (funext fun a => ?_)
  match a with
  | ⟨0, _⟩ => apply Fin.ext; show win0_2.index t 0 * 1024 + 1 * r.val = R.val; omega
  | ⟨1, _⟩ => apply Fin.ext; show win0_2.index t 1 * 1024 + 1 * d.val = d.val; omega

include hG in
theorem blk3 (t : Fin cfg0.N) (d : Fin 1024) : (iblk m c 3 t : Vec Ideal S1x1024 .f32) (at2 0 d) = G (at2 0 d) := by
  obtain ⟨e0, e1⟩ := ix3 t
  unfold iblk
  rw [show V m c (Pipeline.arrRef spec0 3) = G from hG]
  refine congrArg G (funext fun a => ?_)
  match a with
  | ⟨0, _⟩ => apply Fin.ext; show win0_3.index t 0 * 1 + 1 * 0 = 0; omega
  | ⟨1, _⟩ => apply Fin.ext; show win0_3.index t 1 * 1024 + 1 * d.val = d.val; omega

include hE in
theorem blk4 (t : Fin cfg0.N) (R : Fin 2048) (r : Fin 1024) (h : R.val = t.val / 8 * 1024 + r.val) (d : Fin 1024) :
    (iblk m c 4 t : Vec Ideal S1024x1024 .f32) (at2 r d) = E (at2 R d) := by
  obtain ⟨e0, e1⟩ := ix4 t
  unfold iblk
  rw [show V m c (Pipeline.arrRef spec0 4) = E from hE]
  refine congrArg E (funext fun a => ?_)
  match a with
  | ⟨0, _⟩ => apply Fin.ext; show win0_4.index t 0 * 1024 + 1 * r.val = R.val; omega
  | ⟨1, _⟩ => apply Fin.ext; show win0_4.index t 1 * 1024 + 1 * d.val = d.val; omega

/-- A shard's part of the product at a place, the whole product, a row of the stream, and a row's term of the gain's gradient. -/
def part (R : Fin 2048) (d : Fin 1024) (s : Fin 8) : EReal := ∑ f : Fin 704, A (at3 s R f) * B (at3 s f d)
def whole (R : Fin 2048) (d : Fin 1024) : EReal := ∑ s : Fin 8, part A B R d s
abbrev line (R : Fin 2048) : Fin 1024 → EReal := fun k => H (at2 R k)
def term (d : Fin 1024) (R : Fin 2048) : EReal := whole A B R d * (H (at2 R d) * scale (line H R))

include hA hB in
theorem prod_part (t : Fin cfg0.N) (s : Fin 8) (hs : t.val % 8 = s.val) (R : Fin 2048) (r : Fin 1024) (h : R.val = t.val / 8 * 1024 + r.val) (d : Fin 1024) :
    k0_pay1 (F := Ideal) (iblk m c 0 t) (iblk m c 1 t) (at2 r d) = part A B R d s :=
  (prod_apply (iblk m c 0 t) (iblk m c 1 t) r d).trans (Finset.sum_congr rfl fun f _ => by rw [blk0 m c A hA t s hs R r h, blk1 m c B hB t s hs])

include hH in
theorem line_eq (t : Fin cfg0.N) (R : Fin 2048) (r : Fin 1024) (h : R.val = t.val / 8 * 1024 + r.val) :
    (fun k => (iblk m c 2 t : Vec Ideal S1024x1024 .f32) (at2 r k)) = line H R := funext fun k => blk2 m c H hH t R r h k

include hA hB in
/-- The accumulator after each shard but the last: the shards' parts so far. -/
theorem acc_left (i : Fin 2) (R : Fin 2048) (r : Fin 1024) (h : R.val = i.val * 1024 + r.val) (d : Fin 1024) : ∀ (k : ℕ) (hk : k < 7) (hn : 8 * i.val + k < cfg0.N),
    (outsAt0 m c (8 * i.val + k) hn).2.2 (at2 r d) = ∑ s : Fin (k + 1), part A B R d ⟨s.val, by omega⟩
  | 0, hk, hn => by
    have hi := i.isLt
    rw [show outsAt0 m c (8 * i.val + 0) hn = _ from outsAt0_A m c ⟨8 * i.val + 0, hn⟩ (by show (8 * i.val + 0) % 8 = 0; omega) (by show ¬1 ≤ (8 * i.val + 0) % 8; omega)
      (by show ¬(8 * i.val + 0) % 8 = 7; omega)]
    dsimp only
    rw [first, Fin.sum_univ_one]
    refine Eq.trans ?_ (prod_part m c A B hA hB ⟨8 * i.val + 0, hn⟩ 0 (by show (8 * i.val + 0) % 8 = 0; omega) R r
      (by show R.val = (8 * i.val + 0) / 8 * 1024 + r.val; omega) d)
    unfold k0_pay2
    simp only [shapeCast_self]
  | k + 1, hk, hn => by
    have hi := i.isLt
    rw [show outsAt0 m c (8 * i.val + (k + 1)) hn = _ from outsAt0_B m c ⟨8 * i.val + (k + 1), hn⟩ (by show ¬(8 * i.val + (k + 1)) % 8 = 0; omega)
      (by show 1 ≤ (8 * i.val + (k + 1)) % 8; omega) (by show ¬(8 * i.val + (k + 1)) % 8 = 7; omega)]
    dsimp only
    rw [further, Fin.sum_univ_castSucc]
    refine Eq.trans ?_ (congrArg₂ (· + ·) (acc_left i R r h d k (by omega) (by omega)) (prod_part m c A B hA hB ⟨8 * i.val + (k + 1), hn⟩ ⟨k + 1, by omega⟩
      (by show (8 * i.val + (k + 1)) % 8 = k + 1; omega) R r (by show R.val = (8 * i.val + (k + 1)) / 8 * 1024 + r.val; omega) d))
    unfold k0_pay3
    simp only [shapeCast_self]
    rfl

/-- The accumulator with the last shard's product added. -/
abbrev full (i : Fin 2) (hn : 8 * i.val + 7 < cfg0.N) : FVec Ideal S1024x1024 .f32 :=
  k0_pay3 (F := Ideal) (iblk m c 0 ⟨8 * i.val + 7, hn⟩) (iblk m c 1 ⟨8 * i.val + 7, hn⟩) (outsAt0 m c (8 * i.val + 6) (by omega)).2.2

include hA hB in
theorem full_apply (i : Fin 2) (hn : 8 * i.val + 7 < cfg0.N) (R : Fin 2048) (r : Fin 1024) (h : R.val = i.val * 1024 + r.val) (d : Fin 1024) :
    full m c i hn (at2 r d) = whole A B R d := by
  have hi := i.isLt
  unfold whole full
  rw [Fin.sum_univ_castSucc]
  refine Eq.trans ?_ (congrArg₂ (· + ·) (acc_left m c A B hA hB i R r h d 6 (by omega) (by omega)) (prod_part m c A B hA hB ⟨8 * i.val + 7, hn⟩ 7
    (by show (8 * i.val + 7) % 8 = 7; omega) R r (by show R.val = (8 * i.val + 7) / 8 * 1024 + r.val; omega) d))
  unfold k0_pay3
  simp only [shapeCast_self]
  rfl

/-- What the last shard's point leaves in the rows' block. -/
theorem rows_left (i : Fin 2) (hn : 8 * i.val + 7 < cfg0.N) : (outsAt0 m c (8 * i.val + 7) hn).1
    = k0_pay7 (F := Ideal) (full m c i hn) (iblk m c 2 ⟨8 * i.val + 7, hn⟩) (iblk m c 3 ⟨8 * i.val + 7, hn⟩) (iblk m c 4 ⟨8 * i.val + 7, hn⟩) := by
  have hi := i.isLt
  by_cases h0 : i.val = 0
  · rw [show outsAt0 m c (8 * i.val + 7) hn = _ from outsAt0_C m c ⟨8 * i.val + 7, hn⟩ (by show ¬(8 * i.val + 7) % 8 = 0; omega) (by show 1 ≤ (8 * i.val + 7) % 8; omega)
      (by show (8 * i.val + 7) % 8 = 7; omega) (by show 8 * i.val + 7 < 8; omega) (by show ¬8 ≤ 8 * i.val + 7; omega)]
    dsimp only
    rw [rowsC]
    rfl
  · rw [show outsAt0 m c (8 * i.val + 7) hn = _ from outsAt0_D m c ⟨8 * i.val + 7, hn⟩ (by show ¬(8 * i.val + 7) % 8 = 0; omega) (by show 1 ≤ (8 * i.val + 7) % 8; omega)
      (by show (8 * i.val + 7) % 8 = 7; omega) (by show ¬8 * i.val + 7 < 8; omega) (by show 8 ≤ 8 * i.val + 7; omega)]
    dsimp only
    rw [rowsD]
    rfl

include hA hB hH hG hE in
/-- Each place of the first array the call leaves. -/
theorem entry (R : Fin 2048) (d : Fin 1024) :
    (G5 m c : Vec Ideal S2048x1024 .f32) (at2 R d) = closed (line H R) (fun k => whole A B R k * G (at2 0 k)) (E (at2 R d)) d := by
  have hR := R.isLt; have hd := d.isLt
  have hN : cfg0.N = 16 := N_0
  let i : Fin 2 := ⟨R.val / 1024, by omega⟩
  have hi : i.val = R.val / 1024 := rfl
  let r : Fin 1024 := ⟨R.val % 1024, by omega⟩
  have hr : R.val = i.val * 1024 + r.val := by show R.val = R.val / 1024 * 1024 + R.val % 1024; omega
  have hl : loc5Of (at2 R d) = at2 r d := funext fun a => by
    match a with
    | ⟨0, _⟩ => rfl
    | ⟨1, _⟩ => exact Fin.ext (Nat.mod_eq_of_lt d.isLt)
  have hp : pt5Of (at2 R d) = 8 * i.val + 7 := by
    show 8 * (1 * (R.val / 1024 - 0) + 1 * (d.val / 1024 - 0)) + 7 = _; omega
  have hn : 8 * i.val + 7 < cfg0.N := by omega
  have e : (G5 m c : Vec Ideal S2048x1024 .f32) (at2 R d) = (outsAt0 m c (8 * i.val + 7) hn).1 (at2 r d) := by
    unfold G5
    rw [dif_pos (by rw [hp]; exact hn), hl, outsAt0_sweep, fold0_congr m c _ _ (8 * i.val + 7) (by omega) hp]
  have hr' : R.val = (⟨8 * i.val + 7, hn⟩ : Fin cfg0.N).val / 8 * 1024 + r.val := by show R.val = (8 * i.val + 7) / 8 * 1024 + r.val; omega
  rw [e, rows_left]
  refine (rows_apply (full m c i hn) (iblk m c 2 ⟨8 * i.val + 7, hn⟩) (iblk m c 3 ⟨8 * i.val + 7, hn⟩) (iblk m c 4 ⟨8 * i.val + 7, hn⟩) r d).trans ?_
  rw [line_eq m c H hH _ R r hr', blk4 m c E hE _ R r hr']
  exact congrArg (fun f => closed (line H R) f (E (at2 R d)) d) (funext fun k => by rw [full_apply m c A B hA hB i hn R r hr, blk3 m c G hG])

include hA hB hH in
theorem gain_part (i : Fin 2) (hn : 8 * i.val + 7 < cfg0.N) (d : Fin 1024) :
    k0_pay6 (F := Ideal) (full m c i hn) (iblk m c 2 ⟨8 * i.val + 7, hn⟩) (at2 0 d) = ∑ r : Fin 1024, term A B H d ⟨i.val * 1024 + r.val, by omega⟩ := by
  refine (gain_apply (full m c i hn) (iblk m c 2 ⟨8 * i.val + 7, hn⟩) d).trans (Finset.sum_congr rfl fun r _ => ?_)
  have hr : i.val * 1024 + r.val < 2048 := by omega
  have hr' : (⟨i.val * 1024 + r.val, hr⟩ : Fin 2048).val = (⟨8 * i.val + 7, hn⟩ : Fin cfg0.N).val / 8 * 1024 + r.val := by
    show i.val * 1024 + r.val = (8 * i.val + 7) / 8 * 1024 + r.val; omega
  rw [full_apply m c A B hA hB i hn ⟨i.val * 1024 + r.val, hr⟩ r rfl, line_eq m c H hH _ ⟨i.val * 1024 + r.val, hr⟩ r hr', blk2 m c H hH _ ⟨i.val * 1024 + r.val, hr⟩ r hr']
  rfl

/-- Between the two row blocks' ends the gain's gradient is carried. -/
theorem gain_kept : ∀ (k : ℕ) (hk : k < 7) (hn : 8 + k < cfg0.N), (outsAt0 m c (8 + k) hn).2.1 = (outsAt0 m c 7 (by omega)).2.1
  | 0, hk, hn => by
    rw [show outsAt0 m c (8 + 0) hn = _ from outsAt0_A m c ⟨8 + 0, hn⟩ (by show (8 + 0) % 8 = 0; omega) (by show ¬1 ≤ (8 + 0) % 8; omega)
      (by show ¬(8 + 0) % 8 = 7; omega)]
    dsimp only
    rfl
  | k + 1, hk, hn => by
    rw [show outsAt0 m c (8 + (k + 1)) hn = _ from outsAt0_B m c ⟨8 + (k + 1), hn⟩ (by show ¬(8 + (k + 1)) % 8 = 0; omega)
      (by show 1 ≤ (8 + (k + 1)) % 8; omega) (by show ¬(8 + (k + 1)) % 8 = 7; omega)]
    dsimp only
    exact gain_kept k (by omega) (by omega)

include hA hB hH in
/-- Each place of the second array the call leaves. -/
theorem entry_gain (d : Fin 1024) : (G6 m c : Vec Ideal S1x1024 .f32) (at2 0 d) = ∑ R : Fin 2048, term A B H d R := by
  have hd := d.isLt
  have hN : cfg0.N = 16 := N_0
  have hn : 15 < cfg0.N := by omega
  have hl : loc6Of (at2 0 d) = at2 0 d := funext fun a => by
    match a with
    | ⟨0, _⟩ => rfl
    | ⟨1, _⟩ => exact Fin.ext (Nat.mod_eq_of_lt d.isLt)
  have hp : pt6Of (at2 0 d) = 15 := by
    show 16 * (1 * (0 / 1 - 0) + 1 * (d.val / 1024 - 0)) + 15 = _; omega
  have e : (G6 m c : Vec Ideal S1x1024 .f32) (at2 0 d) = (outsAt0 m c 15 hn).2.1 (at2 0 d) := by
    unfold G6
    rw [dif_pos (by rw [hp]; exact hn), hl, outsAt0_sweep, fold0_congr m c _ _ 15 (by omega) hp]
  have o : outsAt0 m c 15 hn = _ := outsAt0_D m c ⟨15, hn⟩ (by show ¬15 % 8 = 0; omega) (by show 1 ≤ 15 % 8; omega) (by show 15 % 8 = 7; omega) (by show ¬15 < 8; omega)
    (by show 8 ≤ 15; omega)
  have o' : outsAt0 m c 7 (by omega) = _ := outsAt0_C m c ⟨7, by omega⟩ (by show ¬7 % 8 = 0; omega) (by show 1 ≤ 7 % 8; omega) (by show 7 % 8 = 7; omega) (by show 7 < 8; omega)
    (by show ¬8 ≤ 7; omega)
  rw [e, o]
  dsimp only
  rw [gainD]
  rw [show (outsAt0 m c (15 - 1) _).2.1 = _ from gain_kept m c 6 (by omega) (by omega), o']
  dsimp only
  rw [gainC, sum_blocks (a := 2) (b := 1024) rfl, Fin.sum_univ_two]
  refine Eq.trans ?_ (congrArg₂ (· + ·) (gain_part m c A B H hA hB hH 0 (by show 8 * 0 + 7 < cfg0.N; omega) d) (gain_part m c A B H hA hB hH 1 hn d))
  unfold k0_pay9 k0_pay8
  simp only [shapeCast_self]
  rfl

/-! The reference. -/

open Cert.Reference2Ideal.Read

theorem zero_bits : FloatOps.ofBits (F := Ideal) .f32 0x00000000#32 = (0 : EReal) := by
  show Ideal.ofBits .f32 0x00000000#32 = 0
  simp [Ideal.ofBits, Ideal.ieee]

theorem ref_square (R : Fin 2048) : val_main_v9 (F := Ideal) H (at2 R 0) = square (line H R) := by
  rw [val_main_v9_apply, val_main_v7_apply, val_main_v5_apply, val_main_v4_apply, val_main_v6_apply, val_main_v8_apply]
  refine congrArg (fun q : EReal => Ideal.div q width + small) ((congrArg₂ (· + ·) zero_bits (Finset.sum_congr rfl fun k _ => ?_)).trans (zero_add _))
  rw [val_main_v3_apply, show idx_main_v4 (idx_main_v5 (at2 R 0)) k = at2 R k from funext fun a => by
    match a with
    | ⟨0, _⟩ => rfl
    | ⟨1, _⟩ => rfl]
  rfl

theorem ref_scale (R : Fin 2048) : val_main_v10 (F := Ideal) H (at2 R 0) = scale (line H R) := by
  rw [val_main_v10_apply, ref_square]
  rfl

theorem ref_normed (R : Fin 2048) (d : Fin 1024) : val_main_v15 (F := Ideal) H (at2 R d) = H (at2 R d) * scale (line H R) := by
  rw [val_main_v15_apply, val_main_v14_apply, show idx_main_v14 (at2 R d) = at2 R 0 from funext fun a => by
    match a with
    | ⟨0, _⟩ => rfl
    | ⟨1, _⟩ => rfl, ref_scale]
  rfl

theorem ref_whole (R : Fin 2048) (d : Fin 1024) : val_main_v22 (F := Ideal) A B (at2 R d) = whole A B R d := by
  have hR := R.isLt; have hd := d.isLt
  rw [val_main_v22_apply, sum_blocks (a := 8) (b := 704) rfl]
  refine Finset.sum_congr rfl fun s _ => Finset.sum_congr rfl fun f _ => ?_
  have hs := s.isLt; have hf := f.isLt
  rw [val_main_v21_apply, val_main_v20_apply, val_main_v19_apply, val_main_v2_apply, val_main_v1_apply, val_main_v0_apply]
  refine congrArg₂ (· * ·) (congrArg A (funext fun a => ?_)) (congrArg B (funext fun a => ?_))
  · match a with
    | ⟨0, _⟩ => apply Fin.ext; show (R.val * 5632 + (s.val * 704 + f.val)) / 704 % 8 = s.val; omega
    | ⟨1, _⟩ => apply Fin.ext; show (R.val * 5632 + (s.val * 704 + f.val)) / 5632 = R.val; omega
    | ⟨2, _⟩ => apply Fin.ext; show (R.val * 5632 + (s.val * 704 + f.val)) % 704 = f.val; omega
  · match a with
    | ⟨0, _⟩ => apply Fin.ext; show ((s.val * 704 + f.val) * 1024 + d.val) / 720896 = s.val; omega
    | ⟨1, _⟩ => apply Fin.ext; show ((s.val * 704 + f.val) * 1024 + d.val) / 1024 % 704 = f.val; omega
    | ⟨2, _⟩ => apply Fin.ext; show ((s.val * 704 + f.val) * 1024 + d.val) % 1024 = d.val; omega

theorem ref_scaled (R : Fin 2048) (d : Fin 1024) : val_main_v27 (F := Ideal) A B G (at2 R d) = whole A B R d * G (at2 0 d) := by
  rw [val_main_v27_apply, ref_whole, val_main_v26_apply, show idx_main_v26 (at2 R d) = at2 0 d from funext fun a => by
    match a with
    | ⟨0, _⟩ => rfl
    | ⟨1, _⟩ => rfl]
  rfl

theorem ref_through (R : Fin 2048) (d : Fin 1024) :
    val_main_v38 (F := Ideal) A B H G (at2 R d) = through (line H R) fun k => whole A B R k * G (at2 0 k) := by
  rw [val_main_v38_apply, val_main_v37_apply]
  refine (congrArg₂ (· + ·) zero_bits (Fin.sum_univ_one _)).trans ((zero_add _).trans ?_)
  rw [show idx_main_v37 (idx_main_v38 (at2 R d)) 0 = at2 R 0 from funext fun a => by
    match a with
    | ⟨0, _⟩ => rfl
    | ⟨1, _⟩ => rfl]
  rw [val_main_v36_apply, val_main_v34_apply, val_main_v13_apply, val_main_v11_apply, ref_scale, ref_square, val_main_v30_apply, val_main_v29_apply,
    val_main_v12_apply, val_main_v35_apply]
  refine congrArg (fun q : EReal => Ideal.div (q * (minusHalf * Ideal.div (scale (line H R)) (square (line H R)))) width)
    ((congrArg₂ (· + ·) zero_bits (Finset.sum_congr rfl fun k _ => ?_)).trans (zero_add _))
  rw [val_main_v28_apply, show idx_main_v29 (idx_main_v30 (at2 R 0)) k = at2 R k from funext fun a => by
    match a with
    | ⟨0, _⟩ => exact Fin.ext (by show R.val * 1 + 0 = R.val; omega)
    | ⟨1, _⟩ => rfl, ref_scaled]
  rfl

theorem ref_entry (R : Fin 2048) (d : Fin 1024) :
    val_main_v42 (F := Ideal) A B H G E (at2 R d) = differentiated (line H R) (fun k => whole A B R k * G (at2 0 k)) (E (at2 R d)) d := by
  rw [val_main_v42_apply, val_main_v40_apply, val_main_v33_apply, val_main_v32_apply, val_main_v39_apply, val_main_v41_apply, ref_through, ref_scaled, val_main_v31_apply,
    show idx_main_v31 (at2 R d) = at2 R 0 from funext fun a => by
    match a with
    | ⟨0, _⟩ => rfl
    | ⟨1, _⟩ => rfl, ref_scale]
  rfl

theorem ref_gain (d : Fin 1024) : val_main_v25 (F := Ideal) A B H (at2 0 d) = ∑ R : Fin 2048, term A B H d R := by
  rw [val_main_v25_apply, val_main_v24_apply]
  refine (congrArg₂ (· + ·) zero_bits (Finset.sum_congr rfl fun R _ => ?_)).trans (zero_add _)
  rw [val_main_v23_apply, show idx_main_v24 (idx_main_v25 (at2 0 d)) R = at2 R d from funext fun a => by
    match a with
    | ⟨0, _⟩ => rfl
    | ⟨1, _⟩ => exact Fin.ext (by show 0 * 1024 + d.val = d.val; omega), ref_normed, ref_whole]
  exact mul_comm _ _

include hA hB hH hG hE in
theorem same_rows : (G5 m c : Vec Ideal S2048x1024 .f32) = val_main_v42 (F := Ideal) A B H G E := funext fun i => by
  rw [← at2_eta i]
  exact (entry m c A B H G E hA hB hH hG hE _ _).trans ((closed_eq _ _ _ _).trans (ref_entry A B H G E _ _).symm)

include hA hB hH in
theorem same_gain : (G6 m c : Vec Ideal S1x1024 .f32) = val_main_v25 (F := Ideal) A B H := funext fun i => by
  rw [← (congrArg (fun z : Fin 1 => at2 (n0 := 1) (n1 := 1024) z (i 1)) (Subsingleton.elim (0 : Fin 1) (i 0))).trans (at2_eta i)]
  exact (entry_gain m c A B H hA hB hH _).trans (ref_gain A B H _).symm

end Cert.Kernel2Ideal.Val

end
-- ==== Proof.Du.lean ====
/- The gradient through the mixer's input product and the norm before it: what the call's row blocks leave, and the reference's arrays. -/
module

public import proofs.«01_k».proof.Proof.Gen.Kernel9Ideal.Value
public import proofs.«01_k».proof.Proof.Gen.Reference9Ideal.Read
public import proofs.«01_k».proof.Proof.Rms
public import Idealize.ShloMosaic.Lib.Pointwise
public import Idealize.ShloMosaic.Lib.Pointwise.Tactic

@[expose] public section

set_option maxRecDepth 16384
set_option backward.isDefEq.respectTransparency false

noncomputable section

namespace Cert.Kernel9Ideal.Val

open Idealize.ShloMosaic Idealize.ShloMosaic.TcCoe Idealize.ShloMosaic.Tactic
open Cert.Kernel9Ideal.Gen Cert.Kernel9Ideal.Value Cert.Sums Cert.Rms

section
variable {F : FTy → Type} [FloatOps F]
variable (c : Dev nD) (i : grid0.Coords) (a1 : Memref sig .tc .vmem S256x4736 .bf16) (h1 : a1.IsWhole) (a2 : Memref sig .tc .vmem S1024x4736 .bf16) (h2 : a2.IsWhole)
  (a3 : Memref sig .tc .vmem S256x1024 .f32) (h3 : a3.IsWhole) (a4 : Memref sig .tc .vmem S1x1024 .f32) (h4 : a4.IsWhole) (a5 : Memref sig .tc .vmem S256x1024 .f32) (h5 : a5.IsWhole)
  (a6 : Memref sig .tc .vmem S256x1024 .f32) (h6 : a6.IsWhole) (a7 : Memref sig .tc .vmem S1x1024 .f32) (h7 : a7.IsWhole)
  (x : Vec F S256x4736 .bf16) (w : Vec F S1024x4736 .bf16) (h : Vec F S256x1024 .f32) (g : Vec F S1x1024 .f32) (e : Vec F S256x1024 .f32) (s : Vec F S1x1024 .f32)

/-- Every row block stores its rows' gradient. -/
theorem rowsA (hc0 : cond0_0 i) (hc1 : ¬cond0_1 i) : out0_A_5 c i a1 h1 a2 h2 a3 h3 a4 h4 a5 h5 a6 h6 a7 h7 hc0 hc1 x w h g e = k0_pay7 x w h g e := by
  unfold out0_A_5
  rw [View.read_writes_eq_canon _ _ _ (cover0_A_5 c i a1 h1 a2 h2 a3 h3 a4 h4 a5 h5 a6 h6 a7 h7 hc0 hc1 x w h g e)]
  unfold kernelRun0_A
  dsimp only
  sl_unfold_words
  rw [View.canon_unit_zero z2]
  simp only [View.readAt_eq_ld, h1.read_unread, h2.read_unread, h3.read_unread, h4.read_unread, h5.read_unread, View.ld_unit_zero (S := S256x4736) z2,
    View.ld_unit_zero (S := S1024x4736) z2, View.ld_unit_zero (S := S256x1024) z2, View.ld_unit_zero (S := S1x1024) z2]

theorem rowsB (hc0 : ¬cond0_0 i) (hc1 : cond0_1 i) : out0_B_5 c i a1 h1 a2 h2 a3 h3 a4 h4 a5 h5 a6 h6 a7 h7 hc0 hc1 x w h g e s = k0_pay7 x w h g e := by
  unfold out0_B_5
  rw [View.read_writes_eq_canon _ _ _ (cover0_B_5 c i a1 h1 a2 h2 a3 h3 a4 h4 a5 h5 a6 h6 a7 h7 hc0 hc1 x w h g e s)]
  unfold kernelRun0_B
  dsimp only
  sl_unfold_words
  rw [View.canon_unit_zero z2]
  simp only [View.readAt_eq_ld, h1.read_unread, h2.read_unread, h3.read_unread, h4.read_unread, h5.read_unread, View.ld_unit_zero (S := S256x4736) z2,
    View.ld_unit_zero (S := S1024x4736) z2, View.ld_unit_zero (S := S256x1024) z2, View.ld_unit_zero (S := S1x1024) z2]

/-- The first row block starts the gain's gradient, and a further one adds to it. -/
theorem gainA (hc0 : cond0_0 i) (hc1 : ¬cond0_1 i) : out0_A_6 c i a1 h1 a2 h2 a3 h3 a4 h4 a5 h5 a6 h6 a7 h7 hc0 hc1 x w h g e = k0_pay1 (k0_pay6 x w h) := by
  unfold out0_A_6
  rw [View.read_writes_eq_canon _ _ _ (cover0_A_6 c i a1 h1 a2 h2 a3 h3 a4 h4 a5 h5 a6 h6 a7 h7 hc0 hc1 x w h g e)]
  unfold kernelRun0_A
  dsimp only
  sl_unfold_words
  rw [View.canon_unit_zero z2]
  simp only [View.readAt_eq_ld, h1.read_unread, h2.read_unread, h3.read_unread, View.ld_unit_zero (S := S256x4736) z2,
    View.ld_unit_zero (S := S1024x4736) z2, View.ld_unit_zero (S := S256x1024) z2]

theorem gainB (hc0 : ¬cond0_0 i) (hc1 : cond0_1 i) : out0_B_6 c i a1 h1 a2 h2 a3 h3 a4 h4 a5 h5 a6 h6 a7 h7 hc0 hc1 x w h g e s = k0_pay2 (k0_pay6 x w h) s := by
  unfold out0_B_6
  rw [View.read_writes_eq_canon _ _ _ (cover0_B_6 c i a1 h1 a2 h2 a3 h3 a4 h4 a5 h5 a6 h6 a7 h7 hc0 hc1 x w h g e s)]
  unfold kernelRun0_B
  dsimp only
  sl_unfold_words
  rw [View.canon_unit_zero z2]
  simp only [View.readAt_eq_ld, h1.read_unread, h2.read_unread, h3.read_unread, h7.read_unread, View.ld_unit_zero (S := S256x4736) z2,
    View.ld_unit_zero (S := S1024x4736) z2, View.ld_unit_zero (S := S256x1024) z2, View.ld_unit_zero (S := S1x1024) z2]
end

/-! Over the reals. -/

section
variable (x : Vec Ideal S256x4736 .bf16) (w : Vec Ideal S1024x4736 .bf16) (h : Vec Ideal S256x1024 .f32) (g : Vec Ideal S1x1024 .f32) (e : Vec Ideal S256x1024 .f32)

/-- The product, at a place of a block. -/
def prod (r : Fin 256) (d : Fin 1024) : EReal := ∑ j : Fin 4736, x (at2 r j) * w (at2 d j)

theorem prod_apply (r : Fin 256) (d : Fin 1024) : k0_pay3 (F := Ideal) x w (at2 r d) = prod x w r d := by
  unfold k0_pay3
  pointwise [dot_S256x4736_S1024x4736_S256x1024_1_1_0_0_n_n]
  rfl

theorem scale_apply (r : Fin 256) (z : Fin 1) : k0_pay4 (F := Ideal) h (at2 r z) = scale fun k => h (at2 r k) := by
  unfold k0_pay4
  pointwise
  rfl

theorem normed_apply (r : Fin 256) (d : Fin 1024) : k0_pay5 (F := Ideal) h (at2 r d) = h (at2 r d) * scale fun k => h (at2 r k) := by
  unfold k0_pay5
  generalize hp : k0_pay4 (F := Ideal) h = p
  pointwise
  rw [← hp]
  exact congrArg (h (at2 r d) * ·) (scale_apply h r 0)

theorem gain_apply (d : Fin 1024) : k0_pay6 (F := Ideal) x w h (at2 0 d) = ∑ r : Fin 256, prod x w r d * (h (at2 r d) * scale fun k => h (at2 r k)) := by
  unfold k0_pay6
  generalize hp : k0_pay3 (F := Ideal) x w = p
  generalize hq : k0_pay5 (F := Ideal) h = q
  pointwise
  subst hp hq
  exact Finset.sum_congr rfl fun r _ => congrArg₂ (· * ·) (prod_apply x w r d) (normed_apply h r d)

theorem rows_apply (r : Fin 256) (d : Fin 1024) :
    k0_pay7 (F := Ideal) x w h g e (at2 r d) = closed (fun k => h (at2 r k)) (fun k => prod x w r k * g (at2 0 k)) (e (at2 r d)) d := by
  unfold k0_pay7
  generalize hp : k0_pay3 (F := Ideal) x w = p
  generalize hq : k0_pay5 (F := Ideal) h = q
  generalize hs : k0_pay4 (F := Ideal) h = s
  pointwise
  subst hp hq hs
  unfold closed
  refine congrArg₂ (· + ·) rfl (congrArg₂ (· * ·) (scale_apply h r 0) (congrArg₂ (· - ·) (congrArg₂ (· * ·) (prod_apply x w r d) rfl) (congrArg₂ (· * ·) (normed_apply h r d)
    (congrArg (Ideal.div · width) (Finset.sum_congr rfl fun k _ => congrArg₂ (· * ·) (congrArg₂ (· * ·) (prod_apply x w r k) rfl) (normed_apply h r k))))))
end

variable (m : (ℓ : Loc nD τ sig) → Buf (Elt Ideal) ℓ) (c : Dev nD) (A : Vec Ideal S2048x4736 .bf16) (B : Vec Ideal S1024x4736 .bf16) (H : Vec Ideal S2048x1024 .f32)
  (G : Vec Ideal S1x1024 .f32) (E : Vec Ideal S2048x1024 .f32)
  (hA : m ((c : Thread nD τ).loc main_arg0) = A) (hB : m ((c : Thread nD τ).loc main_arg1) = B) (hH : m ((c : Thread nD τ).loc main_arg2) = H)
  (hG : m ((c : Thread nD τ).loc main_arg3) = G) (hE : m ((c : Thread nD τ).loc main_arg4) = E)

theorem ix0 : ∀ t : Fin grid0.N, win0_0.index t 0 = t.val ∧ win0_0.index t 1 = 0 := by decide +kernel
theorem ix1 : ∀ t : Fin grid0.N, win0_1.index t 0 = 0 ∧ win0_1.index t 1 = 0 := by decide +kernel
theorem ix2 : ∀ t : Fin grid0.N, win0_2.index t 0 = t.val ∧ win0_2.index t 1 = 0 := by decide +kernel
theorem ix3 : ∀ t : Fin grid0.N, win0_3.index t 0 = 0 ∧ win0_3.index t 1 = 0 := by decide +kernel
theorem ix4 : ∀ t : Fin grid0.N, win0_4.index t 0 = t.val ∧ win0_4.index t 1 = 0 := by decide +kernel
theorem ix5 : ∀ t : Fin grid0.N, win0_5.flush t = true ∧ win0_5.index t 0 = t.val ∧ win0_5.index t 1 = 0 := by decide +kernel
theorem ix6 : ∀ t : Fin grid0.N, (win0_6.flush t = true ↔ t.val = 7) ∧ win0_6.index t 0 = 0 ∧ win0_6.index t 1 = 0 := by decide +kernel

include hA in
/-- The blocks of the rows, and the weight and the gain whole. -/
theorem blk0 (t : Fin cfg0.N) (R : Fin 2048) (r : Fin 256) (h : R.val = t.val * 256 + r.val) (j : Fin 4736) :
    (iblk m c 0 t : Vec Ideal S256x4736 .bf16) (at2 r j) = A (at2 R j) := by
  obtain ⟨e0, e1⟩ := ix0 t
  unfold iblk
  rw [show V m c (Pipeline.arrRef spec0 0) = A from hA]
  refine congrArg A (funext fun a => ?_)
  match a with
  | ⟨0, _⟩ => apply Fin.ext; show win0_0.index t 0 * 256 + 1 * r.val = R.val; omega
  | ⟨1, _⟩ => apply Fin.ext; show win0_0.index t 1 * 4736 + 1 * j.val = j.val; omega

include hB in
theorem blk1 (t : Fin cfg0.N) (d : Fin 1024) (j : Fin 4736) : (iblk m c 1 t : Vec Ideal S1024x4736 .bf16) (at2 d j) = B (at2 d j) := by
  obtain ⟨e0, e1⟩ := ix1 t
  unfold iblk
  rw [show V m c (Pipeline.arrRef spec0 1) = B from hB]
  refine congrArg B (funext fun a => ?_)
  match a with
  | ⟨0, _⟩ => apply Fin.ext; show win0_1.index t 0 * 1024 + 1 * d.val = d.val; omega
  | ⟨1, _⟩ => apply Fin.ext; show win0_1.index t 1 * 4736 + 1 * j.val = j.val; omega

include hH in
theorem blk2 (t : Fin cfg0.N) (R : Fin 2048) (r : Fin 256) (h : R.val = t.val * 256 + r.val) (d : Fin 1024) :
    (iblk m c 2 t : Vec Ideal S256x1024 .f32) (at2 r d) = H (at2 R d) := by
  obtain ⟨e0, e1⟩ := ix2 t
  unfold iblk
  rw [show V m c (Pipeline.arrRef spec0 2) = H from hH]
  refine congrArg H (funext fun a => ?_)
  match a with
  | ⟨0, _⟩ => apply Fin.ext; show win0_2.index t 0 * 256 + 1 * r.val = R.val; omega
  | ⟨1, _⟩ => apply Fin.ext; show win0_2.index t 1 * 1024 + 1 * d.val = d.val; omega

include hG in
theorem blk3 (t : Fin cfg0.N) (d : Fin 1024) : (iblk m c 3 t : Vec Ideal S1x1024 .f32) (at2 0 d) = G (at2 0 d) := by
  obtain ⟨e0, e1⟩ := ix3 t
  unfold iblk
  rw [show V m c (Pipeline.arrRef spec0 3) = G from hG]
  refine congrArg G (funext fun a => ?_)
  match a with
  | ⟨0, _⟩ => apply Fin.ext; show win0_3.index t 0 * 1 + 1 * 0 = 0; omega
  | ⟨1, _⟩ => apply Fin.ext; show win0_3.index t 1 * 1024 + 1 * d.val = d.val; omega

include hE in
theorem blk4 (t : Fin cfg0.N) (R : Fin 2048) (r : Fin 256) (h : R.val = t.val * 256 + r.val) (d : Fin 1024) :
    (iblk m c 4 t : Vec Ideal S256x1024 .f32) (at2 r d) = E (at2 R d) := by
  obtain ⟨e0, e1⟩ := ix4 t
  unfold iblk
  rw [show V m c (Pipeline.arrRef spec0 4) = E from hE]
  refine congrArg E (funext fun a => ?_)
  match a with
  | ⟨0, _⟩ => apply Fin.ext; show win0_4.index t 0 * 256 + 1 * r.val = R.val; omega
  | ⟨1, _⟩ => apply Fin.ext; show win0_4.index t 1 * 1024 + 1 * d.val = d.val; omega

/-- The whole product at a place, a row of the stream, and a row's term of the gain's gradient. -/
def whole (R : Fin 2048) (d : Fin 1024) : EReal := ∑ j : Fin 4736, A (at2 R j) * B (at2 d j)
abbrev line (R : Fin 2048) : Fin 1024 → EReal := fun k => H (at2 R k)
def term (d : Fin 1024) (R : Fin 2048) : EReal := whole A B R d * (H (at2 R d) * scale (line H R))

include hA hB in
theorem prod_whole (t : Fin cfg0.N) (R : Fin 2048) (r : Fin 256) (h : R.val = t.val * 256 + r.val) (d : Fin 1024) :
    prod (iblk m c 0 t) (iblk m c 1 t) r d = whole A B R d :=
  Finset.sum_congr rfl fun j _ => by rw [blk0 m c A hA t R r h, blk1 m c B hB]

include hH in
theorem line_eq (t : Fin cfg0.N) (R : Fin 2048) (r : Fin 256) (h : R.val = t.val * 256 + r.val) :
    (fun k => (iblk m c 2 t : Vec Ideal S256x1024 .f32) (at2 r k)) = line H R := funext fun k => blk2 m c H hH t R r h k

/-- What every point leaves in the rows' block. -/
theorem rows_left (t : Fin cfg0.N) : (outsAt0 m c t.val t.isLt).1 = k0_pay7 (F := Ideal) (iblk m c 0 t) (iblk m c 1 t) (iblk m c 2 t) (iblk m c 3 t) (iblk m c 4 t) := by
  have hN : cfg0.N = 8 := N_0
  have ht := t.isLt
  by_cases h0 : t.val % 8 = 0
  · rw [outsAt0_A m c t h0 (by omega)]
    dsimp only
    rw [rowsA]
  · rw [outsAt0_B m c t h0 (by omega)]
    dsimp only
    rw [rowsB]

include hA hB hH hG hE in
/-- Each place of the first array the call leaves. -/
theorem entry (R : Fin 2048) (d : Fin 1024) :
    ((dats m 0 c).arrAt 5 cfg0.N : Vec Ideal S2048x1024 .f32) (at2 R d) = closed (line H R) (fun k => whole A B R k * G (at2 0 k)) (E (at2 R d)) d := by
  have hR := R.isLt
  have hN : cfg0.N = 8 := N_0
  let t : Fin cfg0.N := ⟨R.val / 256, by omega⟩
  let r : Fin 256 := ⟨R.val % 256, by omega⟩
  obtain ⟨hf, e0, e1⟩ := ix5 t
  have tv : t.val = R.val / 256 := rfl
  have hr : R.val = t.val * 256 + r.val := by show R.val = R.val / 256 * 256 + R.val % 256; omega
  have e : ((cfg0.win 5).blk t).view.emb (at2 (n0 := 256) (n1 := 1024) r d) = at2 R d := funext fun a => by
    match a with
    | ⟨0, _⟩ => apply Fin.ext; show win0_5.index t 0 * 256 + 1 * (R.val % 256) = R.val; omega
    | ⟨1, _⟩ => apply Fin.ext; show win0_5.index t 1 * 1024 + 1 * d.val = d.val; omega
  rw [← e]
  refine (congrFun (blocks5 m c t hf) (at2 (n0 := 256) (n1 := 1024) r d)).trans ?_
  rw [flushed5, rows_left]
  refine (rows_apply (iblk m c 0 t) (iblk m c 1 t) (iblk m c 2 t) (iblk m c 3 t) (iblk m c 4 t) r d).trans ?_
  rw [e, line_eq m c H hH t R r hr, blk4 m c E hE t R r hr]
  exact congrArg (fun f => closed (line H R) f (E (at2 R d)) d) (funext fun k => by rw [prod_whole m c A B hA hB t R r hr, blk3 m c G hG])

include hA hB hH in
theorem gain_part (n : ℕ) (hn : n < cfg0.N) (d : Fin 1024) :
    k0_pay6 (F := Ideal) (iblk m c 0 ⟨n, hn⟩) (iblk m c 1 ⟨n, hn⟩) (iblk m c 2 ⟨n, hn⟩) (at2 0 d)
      = ∑ r : Fin 256, term A B H d ⟨n * 256 + r.val, by have hN : cfg0.N = 8 := N_0; omega⟩ := by
  refine (gain_apply (iblk m c 0 ⟨n, hn⟩) (iblk m c 1 ⟨n, hn⟩) (iblk m c 2 ⟨n, hn⟩) d).trans (Finset.sum_congr rfl fun r _ => ?_)
  have hr : n * 256 + r.val < 2048 := by have hN : cfg0.N = 8 := N_0; omega
  rw [prod_whole m c A B hA hB ⟨n, hn⟩ ⟨n * 256 + r.val, hr⟩ r rfl, line_eq m c H hH ⟨n, hn⟩ ⟨n * 256 + r.val, hr⟩ r rfl, blk2 m c H hH ⟨n, hn⟩ ⟨n * 256 + r.val, hr⟩ r rfl]
  rfl

include hA hB hH in
/-- The gain's gradient after each row block: the terms of the rows so far. -/
theorem gain_left (d : Fin 1024) : ∀ (n : ℕ) (hn : n < cfg0.N),
    (outsAt0 m c n hn).2 (at2 0 d) = ∑ k : Fin (n + 1), ∑ r : Fin 256, term A B H d ⟨k.val * 256 + r.val, by have hN : cfg0.N = 8 := N_0; omega⟩
  | 0, hn => by
    rw [show outsAt0 m c 0 hn = _ from outsAt0_A m c ⟨0, hn⟩ (by show 0 % 8 = 0; omega) (by show ¬1 ≤ 0; omega)]
    dsimp only
    rw [gainA, Fin.sum_univ_one]
    refine Eq.trans ?_ (gain_part m c A B H hA hB hH 0 hn d)
    unfold k0_pay1
    simp only [shapeCast_self]
  | n + 1, hn => by
    have hN : cfg0.N = 8 := N_0
    rw [show outsAt0 m c (n + 1) hn = _ from outsAt0_B m c ⟨n + 1, hn⟩ (by show ¬(n + 1) % 8 = 0; omega) (by show 1 ≤ n + 1; omega)]
    dsimp only
    rw [gainB, Fin.sum_univ_castSucc]
    refine Eq.trans ?_ (congrArg₂ (· + ·) (gain_left d n (by omega)) (gain_part m c A B H hA hB hH (n + 1) hn d))
    unfold k0_pay2
    simp only [shapeCast_self]
    rfl

include hA hB hH in
/-- Each place of the second array the call leaves. -/
theorem entry_gain (d : Fin 1024) : ((dats m 0 c).arrAt 6 cfg0.N : Vec Ideal S1x1024 .f32) (at2 0 d) = ∑ R : Fin 2048, term A B H d R := by
  have hN : cfg0.N = 8 := N_0
  let t : Fin cfg0.N := ⟨7, by omega⟩
  obtain ⟨hf, e0, e1⟩ := ix6 t
  have e : ((cfg0.win 6).blk t).view.emb (at2 (n0 := 1) (n1 := 1024) 0 d) = at2 0 d := funext fun a => by
    match a with
    | ⟨0, _⟩ => apply Fin.ext; show win0_6.index t 0 * 1 + 1 * 0 = 0; omega
    | ⟨1, _⟩ => apply Fin.ext; show win0_6.index t 1 * 1024 + 1 * d.val = d.val; omega
  rw [← e]
  refine (congrFun ((dats m 0 c).read_blk_arrAt_eq_flushed 6 (fun s s' hs hs' hne => absurd (Fin.ext (((ix6 s).1.1 hs).trans ((ix6 s').1.1 hs').symm)) hne)
    cfg0.N t t.isLt (hf.2 rfl)) (at2 (n0 := 1) (n1 := 1024) 0 d)).trans ?_
  rw [flushed6]
  exact (gain_left m c A B H hA hB hH d 7 t.isLt).trans (sum_blocks (a := 8) (b := 256) rfl _).symm

/-! The reference. -/

open Cert.Reference9Ideal.Read

theorem zero_bits : FloatOps.ofBits (F := Ideal) .f32 0x00000000#32 = (0 : EReal) := by
  show Ideal.ofBits .f32 0x00000000#32 = 0
  simp [Ideal.ofBits, Ideal.ieee]

theorem ref_square (R : Fin 2048) : val_main_v6 (F := Ideal) H (at2 R 0) = square (line H R) := by
  rw [val_main_v6_apply, val_main_v4_apply, val_main_v2_apply, val_main_v1_apply, val_main_v3_apply, val_main_v5_apply]
  refine congrArg (fun q : EReal => Ideal.div q width + small) ((congrArg₂ (· + ·) zero_bits (Finset.sum_congr rfl fun k _ => ?_)).trans (zero_add _))
  rw [val_main_v0_apply, show idx_main_v1 (idx_main_v2 (at2 R 0)) k = at2 R k from funext fun a => by
    match a with
    | ⟨0, _⟩ => rfl
    | ⟨1, _⟩ => rfl]
  rfl

theorem ref_scale (R : Fin 2048) : val_main_v7 (F := Ideal) H (at2 R 0) = scale (line H R) := by
  rw [val_main_v7_apply, ref_square]
  rfl

theorem ref_normed (R : Fin 2048) (d : Fin 1024) : val_main_v12 (F := Ideal) H (at2 R d) = H (at2 R d) * scale (line H R) := by
  rw [val_main_v12_apply, val_main_v11_apply, show idx_main_v11 (at2 R d) = at2 R 0 from funext fun a => by
    match a with
    | ⟨0, _⟩ => rfl
    | ⟨1, _⟩ => rfl, ref_scale]
  rfl

theorem ref_whole (R : Fin 2048) (d : Fin 1024) : val_main_v18 (F := Ideal) A B (at2 R d) = whole A B R d := by
  rw [val_main_v18_apply]
  refine Finset.sum_congr rfl fun j _ => ?_
  rw [val_main_v17_apply, val_main_v15_apply]
  refine congrArg₂ (· * ·) (congrArg A (funext fun a => ?_)) (congrArg B (funext fun a => ?_))
  · match a with
    | ⟨0, _⟩ => rfl
    | ⟨1, _⟩ => rfl
  · match a with
    | ⟨0, _⟩ => rfl
    | ⟨1, _⟩ => rfl

theorem ref_scaled (R : Fin 2048) (d : Fin 1024) : val_main_v23 (F := Ideal) A B G (at2 R d) = whole A B R d * G (at2 0 d) := by
  rw [val_main_v23_apply, ref_whole, val_main_v22_apply, show idx_main_v22 (at2 R d) = at2 0 d from funext fun a => by
    match a with
    | ⟨0, _⟩ => rfl
    | ⟨1, _⟩ => rfl]
  rfl

theorem ref_through (R : Fin 2048) (d : Fin 1024) :
    val_main_v34 (F := Ideal) A B H G (at2 R d) = through (line H R) fun k => whole A B R k * G (at2 0 k) := by
  rw [val_main_v34_apply, val_main_v33_apply]
  refine (congrArg₂ (· + ·) zero_bits (Fin.sum_univ_one _)).trans ((zero_add _).trans ?_)
  rw [show idx_main_v33 (idx_main_v34 (at2 R d)) 0 = at2 R 0 from funext fun a => by
    match a with
    | ⟨0, _⟩ => rfl
    | ⟨1, _⟩ => rfl]
  rw [val_main_v32_apply, val_main_v30_apply, val_main_v10_apply, val_main_v8_apply, ref_scale, ref_square, val_main_v26_apply, val_main_v25_apply,
    val_main_v9_apply, val_main_v31_apply]
  refine congrArg (fun q : EReal => Ideal.div (q * (minusHalf * Ideal.div (scale (line H R)) (square (line H R)))) width)
    ((congrArg₂ (· + ·) zero_bits (Finset.sum_congr rfl fun k _ => ?_)).trans (zero_add _))
  rw [val_main_v24_apply, show idx_main_v25 (idx_main_v26 (at2 R 0)) k = at2 R k from funext fun a => by
    match a with
    | ⟨0, _⟩ => exact Fin.ext (by show R.val * 1 + 0 = R.val; omega)
    | ⟨1, _⟩ => rfl, ref_scaled]
  rfl

theorem ref_entry (R : Fin 2048) (d : Fin 1024) :
    val_main_v38 (F := Ideal) A B H G E (at2 R d) = differentiated (line H R) (fun k => whole A B R k * G (at2 0 k)) (E (at2 R d)) d := by
  rw [val_main_v38_apply, val_main_v36_apply, val_main_v29_apply, val_main_v28_apply, val_main_v35_apply, val_main_v37_apply, ref_through, ref_scaled, val_main_v27_apply,
    show idx_main_v27 (at2 R d) = at2 R 0 from funext fun a => by
    match a with
    | ⟨0, _⟩ => rfl
    | ⟨1, _⟩ => rfl, ref_scale]
  rfl

theorem ref_gain (d : Fin 1024) : val_main_v21 (F := Ideal) A B H (at2 0 d) = ∑ R : Fin 2048, term A B H d R := by
  rw [val_main_v21_apply, val_main_v20_apply]
  refine (congrArg₂ (· + ·) zero_bits (Finset.sum_congr rfl fun R _ => ?_)).trans (zero_add _)
  rw [val_main_v19_apply, show idx_main_v20 (idx_main_v21 (at2 0 d)) R = at2 R d from funext fun a => by
    match a with
    | ⟨0, _⟩ => rfl
    | ⟨1, _⟩ => exact Fin.ext (by show 0 * 1024 + d.val = d.val; omega), ref_normed, ref_whole]
  exact mul_comm _ _

include hA hB hH hG hE in
theorem same_rows : ((dats m 0 c).arrAt 5 cfg0.N : Vec Ideal S2048x1024 .f32) = val_main_v38 (F := Ideal) A B H G E := funext fun i => by
  rw [← at2_eta i]
  exact (entry m c A B H G E hA hB hH hG hE _ _).trans ((closed_eq _ _ _ _).trans (ref_entry A B H G E _ _).symm)

include hA hB hH in
theorem same_gain : ((dats m 0 c).arrAt 6 cfg0.N : Vec Ideal S1x1024 .f32) = val_main_v21 (F := Ideal) A B H := funext fun i => by
  rw [← (congrArg (fun z : Fin 1 => at2 (n0 := 1) (n1 := 1024) z (i 1)) (Subsingleton.elim (0 : Fin 1) (i 0))).trans (at2_eta i)]
  exact (entry_gain m c A B H hA hB hH _).trans (ref_gain A B H _).symm

end Cert.Kernel9Ideal.Val

end
-- ==== Proof.Norms.lean ====
/- The calls fused with the gradient of the norm: the frames of their references, and their claims over the reals. -/
module

public import proofs.«01_k».proof.Defs
public import proofs.«01_k».proof.Proof.Dn
public import proofs.«01_k».proof.Proof.Gen.Reference2Ideal.Run
public import proofs.«01_k».proof.Proof.Du
public import proofs.«01_k».proof.Proof.Gen.Reference9Ideal.Run
public import Idealize.ShloMosaic.Adequacy
public import Idealize.ShloMosaic.Init

@[expose] public section

set_option maxRecDepth 16384
set_option backward.isDefEq.respectTransparency false

noncomputable section

namespace Cert.Proof

open Idealize.ShloMosaic Idealize.SL.Sem

/-! The gradient through the feed-forward's first product and its norm. -/

theorem dn_frame : Cert.quiescent_Reference2Ideal (hReference2Ideal := Cert.Reference2Ideal.Gen.facts) := fun m ρ _ =>
  (θ_run Cert.Reference2Ideal.defs _ _).mono (fun _ h => ⟨fun c => (h c).2.2, funext fun s => by nomatch s⟩) (Cert.Reference2Ideal.Value.run (F := Ideal) m ρ)

theorem dn : Cert.algebraic_Kernel2Ideal_Reference2Ideal (hKernel2Ideal := Cert.Kernel2Ideal.Gen.facts) (hReference2Ideal := Cert.Reference2Ideal.Gen.facts) := by
  intro m g m' g' _ hargs
  refine ⟨fun c => Cert.Kernel2Ideal.Value.G5 m c, fun c => Cert.Kernel2Ideal.Value.G6 m c, Cert.Kernel2Ideal.Value.run m g,
    (θ_run Cert.Reference2Ideal.defs _ _).mono (fun r h c => ?_) (Cert.Reference2Ideal.Value.run (F := Ideal) m' g')⟩
  obtain ⟨a0, a1, b⟩ := h c
  obtain ⟨g0, g1, g2, g3, g4⟩ := hargs c
  exact ⟨a0.trans ((Cert.Reference2Ideal.Read.val_main_v42_eq m' c).trans (Cert.Kernel2Ideal.Val.same_rows m c _ _ _ _ _ g0.symm g1.symm g2.symm g3.symm g4.symm).symm),
    a1.trans ((Cert.Reference2Ideal.Read.val_main_v25_eq _ _ _).trans (Cert.Kernel2Ideal.Val.same_gain m c _ _ _ g0.symm g1.symm g2.symm).symm), b⟩

/-! The gradient through the mixer's input projection and its norm. -/

theorem du_frame : Cert.quiescent_Reference9Ideal (hReference9Ideal := Cert.Reference9Ideal.Gen.facts) := fun m ρ _ =>
  (θ_run Cert.Reference9Ideal.defs _ _).mono (fun _ h => ⟨fun c => (h c).2.2, funext fun s => by nomatch s⟩) (Cert.Reference9Ideal.Value.run (F := Ideal) m ρ)

theorem du : Cert.algebraic_Kernel9Ideal_Reference9Ideal (hKernel9Ideal := Cert.Kernel9Ideal.Gen.facts) (hReference9Ideal := Cert.Reference9Ideal.Gen.facts) := by
  intro m g m' g' _ hargs
  refine ⟨fun c => (Cert.Kernel9Ideal.Gen.dats m 0 c).arrAt 5 Cert.Kernel9Ideal.cfg0.N, fun c => (Cert.Kernel9Ideal.Gen.dats m 0 c).arrAt 6 Cert.Kernel9Ideal.cfg0.N, Cert.Kernel9Ideal.Value.run_blocks m g,
    (θ_run Cert.Reference9Ideal.defs _ _).mono (fun r h c => ?_) (Cert.Reference9Ideal.Value.run (F := Ideal) m' g')⟩
  obtain ⟨a0, a1, b⟩ := h c
  obtain ⟨g0, g1, g2, g3, g4⟩ := hargs c
  exact ⟨a0.trans ((Cert.Reference9Ideal.Read.val_main_v38_eq m' c).trans (Cert.Kernel9Ideal.Val.same_rows m c _ _ _ _ _ g0.symm g1.symm g2.symm g3.symm g4.symm).symm),
    a1.trans ((Cert.Reference9Ideal.Read.val_main_v21_eq _ _ _).trans (Cert.Kernel9Ideal.Val.same_gain m c _ _ _ g0.symm g1.symm g2.symm).symm), b⟩

end Cert.Proof

end
-- ==== Proof.Gate.lean ====
/- The logistic function over the extended reals, as the kernel and the host write it, and its constants. -/
module

public import Idealize.ShloMosaic.PureOps.Ideal.Laws
public import Mathlib.Data.EReal.Operations
public import proofs.«01_k».proof.Proof.Sums

@[expose] public section

set_option maxRecDepth 16384
set_option backward.isDefEq.respectTransparency false

noncomputable section

namespace Cert.Gate

open Idealize.ShloMosaic

/-- The logistic function. -/
def sg (z : EReal) : EReal := Ideal.div 1 (1 + Ideal.exp (-z))

theorem sg_sub (z : EReal) : Ideal.div 1 (1 + Ideal.exp (0 - z)) = sg z := by
  unfold sg
  rw [sub_eq_add_neg, zero_add]

theorem one_bits : (FloatOps.ofBits (F := Ideal) .f32 0x3F800000#32 : EReal) = 1 := by
  show Ideal.ofBits .f32 0x3F800000#32 = _
  simp [Ideal.ofBits, Ideal.ieee, -EReal.coe_mul]; norm_num

/-- The host's form. -/
theorem sg_host (a b z : Ideal .f32) (ha : a = FloatOps.ofBits (F := Ideal) .f32 0x3F800000#32) (hb : b = FloatOps.ofBits (F := Ideal) .f32 0x3F800000#32) :
    FloatOps.hostDivf (F := Ideal) (φ := .f32) a (FloatOps.addf b (FloatOps.hostUnary .exp (FloatOps.hostNegf z))) = sg z := by
  rw [ha, hb, one_bits]
  rfl

open Cert.Sums

/-! A row of two gates' inputs has the first gate's columns, then the second's. A row of an array and a whole matrix, by their coordinates. -/

abbrev lo (j : Fin 1024) : Fin 2048 := ⟨j.val, by omega⟩
abbrev hi (j : Fin 1024) : Fin 2048 := ⟨1024 + j.val, by omega⟩
abbrev row {n p : ℕ} (a : Shape.Idx ⟨2, ![n, p]⟩ → EReal) (r : Fin n) : Fin p → EReal := fun k => a (at2 r k)
abbrev rowLo {n : ℕ} (a : Shape.Idx ⟨2, ![n, 2048]⟩ → EReal) (r : Fin n) : Fin 1024 → EReal := fun k => a (at2 r (lo k))
abbrev rowHi {n : ℕ} (a : Shape.Idx ⟨2, ![n, 2048]⟩ → EReal) (r : Fin n) : Fin 1024 → EReal := fun k => a (at2 r (hi k))
abbrev mat {n p : ℕ} (a : Shape.Idx ⟨2, ![n, p]⟩ → EReal) : Fin n → Fin p → EReal := fun k e => a (at2 k e)

end Cert.Gate

end
-- ==== Proof.Mixout.lean ====
/- The mixer's gates and its output product: what the call leaves of its four results, and the reference's. -/
module

public import proofs.«01_k».proof.Proof.Gen.Kernel14Ideal.Value
public import proofs.«01_k».proof.Proof.Gen.Reference14Ideal.Read
public import proofs.«01_k».proof.Proof.Gate
public import Idealize.ShloMosaic.Lib.Pointwise
public import Idealize.ShloMosaic.Lib.Pointwise.Tactic

@[expose] public section

set_option maxRecDepth 16384
set_option backward.isDefEq.respectTransparency false

noncomputable section

namespace Cert.Kernel14Ideal.Val

open Idealize.ShloMosaic Idealize.ShloMosaic.TcCoe Idealize.ShloMosaic.Tactic
open Cert.Kernel14Ideal.Gen Cert.Kernel14Ideal.Value Cert.Sums Cert.Gate

/-! One row: `x`, `y` the outputs of the attention and the convolution, `u`, `v` the weights raising them, `z`, `s` the gates' inputs, `w` the output weight. -/

def raise (x : Fin 512 → EReal) (u : Fin 512 → Fin 1024 → EReal) (k : Fin 1024) : EReal := ∑ i, x i * u i k
def merge (x y : Fin 512 → EReal) (u v : Fin 512 → Fin 1024 → EReal) (z s : Fin 1024 → EReal) (k : Fin 1024) : EReal :=
  sg (z k) * raise x u k + sg (s k) * raise y v k
def out (x y : Fin 512 → EReal) (u v : Fin 512 → Fin 1024 → EReal) (z s : Fin 1024 → EReal) (h : Fin 1024 → EReal) (w : Fin 1024 → Fin 1024 → EReal) (j : Fin 1024) : EReal :=
  h j + ∑ k, merge x y u v z s k * w k j

/-! The blocks. -/

section
variable (x y : Vec Ideal S256x512 .bf16) (z : Vec Ideal S256x2048 .f32) (h : Vec Ideal S256x1024 .f32) (u v : Vec Ideal S512x1024 .bf16) (w : Vec Ideal S1024x1024 .bf16)

theorem raise3_apply (r : Fin 256) (k : Fin 1024) : k0_pay3 (F := Ideal) x u (at2 r k) = raise (row x r) (mat u) k := by
  unfold k0_pay3
  pointwise [dot_S256x512_S512x1024_S256x1024_1_0_0_1_n_n]
  rfl

theorem merge_apply (r : Fin 256) (k : Fin 1024) :
    k0_pay5 (F := Ideal) x u y v z (at2 r k) = merge (row x r) (row y r) (mat u) (mat v) (rowLo z r) (rowHi z r) k := by
  unfold k0_pay5
  generalize hp : k0_pay3 (F := Ideal) x u = p
  generalize hq : k0_pay4 (F := Ideal) y v = q
  pointwise
  subst hp hq
  exact congrArg₂ (· + ·) (congrArg₂ (· * ·) (sg_sub _) (raise3_apply x u r k)) (congrArg₂ (· * ·) (sg_sub _) (raise3_apply y v r k))

theorem stored9 (r : Fin 256) (k : Fin 1024) : out0_9 (F := Ideal) x y z h u v w (at2 r k) = raise (row x r) (mat u) k := by
  unfold out0_9 k0_pay6
  rw [View.canon_unit_zero z2, View.ld_unit_zero (S := S256x512) z2, View.ld_unit_zero (S := S512x1024) z2, shapeCast_self]
  exact raise3_apply x u r k

theorem stored10 (r : Fin 256) (k : Fin 1024) : out0_10 (F := Ideal) x y z h u v w (at2 r k) = raise (row y r) (mat v) k := by
  unfold out0_10 k0_pay7
  rw [View.canon_unit_zero z2, View.ld_unit_zero (S := S256x512) z2, View.ld_unit_zero (S := S512x1024) z2, shapeCast_self]
  exact raise3_apply y v r k

theorem loaded : k0_pay8 (F := Ideal) x y z h u v w = k0_pay5 x u y v z := by
  unfold k0_pay8
  simp only [View.ld_unit_zero (S := S256x512) z2, View.ld_unit_zero (S := S512x1024) z2, View.ld_unit_zero (S := S256x2048) z2]

theorem stored8 (r : Fin 256) (k : Fin 1024) :
    out0_8 (F := Ideal) x y z h u v w (at2 r k) = merge (row x r) (row y r) (mat u) (mat v) (rowLo z r) (rowHi z r) k := by
  unfold out0_8 k0_pay1
  rw [View.canon_unit_zero z2, shapeCast_self, loaded]
  exact merge_apply x y z u v r k

theorem stored7 (r : Fin 256) (j : Fin 1024) :
    out0_7 (F := Ideal) x y z h u v w (at2 r j) = out (row x r) (row y r) (mat u) (mat v) (rowLo z r) (rowHi z r) (row h r) (mat w) j := by
  unfold out0_7
  rw [View.canon_unit_zero z2, loaded, View.ld_unit_zero (S := S256x1024) z2, View.ld_unit_zero (S := S1024x1024) z2]
  unfold k0_pay2
  generalize hp : k0_pay5 (F := Ideal) x u y v z = p
  pointwise [dot_S256x1024_S1024x1024_S256x1024_1_0_0_1_n_n]
  subst hp
  exact congrArg (h (at2 r j) + ·) (Finset.sum_congr rfl fun k _ => congrArg (· * w (at2 k j)) (merge_apply x y z u v r k))
end

variable (m : (ℓ : Loc nD τ sig) → Buf (Elt Ideal) ℓ) (c : Dev nD) (X Y : Vec Ideal S2048x512 .bf16) (Z : Vec Ideal S2048x2048 .f32) (H : Vec Ideal S2048x1024 .f32)
  (A C : Vec Ideal S512x1024 .bf16) (W : Vec Ideal S1024x1024 .bf16)
  (hX : m ((c : Thread nD τ).loc main_arg0) = X) (hY : m ((c : Thread nD τ).loc main_arg1) = Y) (hZ : m ((c : Thread nD τ).loc main_arg2) = Z)
  (hH : m ((c : Thread nD τ).loc main_arg3) = H) (hA : m ((c : Thread nD τ).loc main_arg4) = A) (hC : m ((c : Thread nD τ).loc main_arg5) = C)
  (hW : m ((c : Thread nD τ).loc main_arg6) = W)

theorem ixR : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) := by decide +kernel
theorem ixW : ∀ t : Fin grid0.N, (win0_4.index t 0 = 0 ∧ win0_4.index t 1 = 0) ∧ (win0_5.index t 0 = 0 ∧ win0_5.index t 1 = 0)
    ∧ (win0_6.index t 0 = 0 ∧ win0_6.index t 1 = 0) := by decide +kernel
theorem ixO : ∀ t : Fin grid0.N, (win0_7.flush t = true ∧ win0_7.index t 0 = t.val ∧ win0_7.index t 1 = 0) ∧ (win0_8.flush t = true ∧ win0_8.index t 0 = t.val ∧ win0_8.index t 1 = 0)
    ∧ (win0_9.flush t = true ∧ win0_9.index t 0 = t.val ∧ win0_9.index t 1 = 0) ∧ (win0_10.flush t = true ∧ win0_10.index t 0 = t.val ∧ win0_10.index t 1 = 0) := by decide +kernel

section
variable (t : Fin cfg0.N) (R : Fin 2048) (r : Fin 256) (h : R.val = t.val * 256 + r.val)

include hX h in
theorem blk0 : row (iblk m c 0 t : Vec Ideal S256x512 .bf16) r = row X R := funext fun k => by
  obtain ⟨⟨e0, e1⟩, -⟩ := ixR t
  show (iblk m c 0 t : Vec Ideal S256x512 .bf16) (at2 r k) = X (at2 R k)
  unfold iblk
  rw [show V m c (Pipeline.arrRef spec0 0) = X from hX]
  refine congrArg X (funext fun a => ?_)
  match a with
  | ⟨0, _⟩ => apply Fin.ext; show win0_0.index t 0 * 256 + 1 * r.val = R.val; omega
  | ⟨1, _⟩ => apply Fin.ext; show win0_0.index t 1 * 512 + 1 * k.val = k.val; omega

include hY h in
theorem blk1 : row (iblk m c 1 t : Vec Ideal S256x512 .bf16) r = row Y R := funext fun k => by
  obtain ⟨-, ⟨e0, e1⟩, -⟩ := ixR t
  show (iblk m c 1 t : Vec Ideal S256x512 .bf16) (at2 r k) = Y (at2 R k)
  unfold iblk
  rw [show V m c (Pipeline.arrRef spec0 1) = Y from hY]
  refine congrArg Y (funext fun a => ?_)
  match a with
  | ⟨0, _⟩ => apply Fin.ext; show win0_1.index t 0 * 256 + 1 * r.val = R.val; omega
  | ⟨1, _⟩ => apply Fin.ext; show win0_1.index t 1 * 512 + 1 * k.val = k.val; omega

include hZ h in
theorem blk2 (k : Fin 2048) : (iblk m c 2 t : Vec Ideal S256x2048 .f32) (at2 r k) = Z (at2 R k) := by
  obtain ⟨-, -, ⟨e0, e1⟩, -⟩ := ixR t
  unfold iblk
  rw [show V m c (Pipeline.arrRef spec0 2) = Z from hZ]
  refine congrArg Z (funext fun a => ?_)
  match a with
  | ⟨0, _⟩ => apply Fin.ext; show win0_2.index t 0 * 256 + 1 * r.val = R.val; omega
  | ⟨1, _⟩ => apply Fin.ext; show win0_2.index t 1 * 2048 + 1 * k.val = k.val; omega

include hZ h in
theorem blk2_lo : rowLo (iblk m c 2 t : Vec Ideal S256x2048 .f32) r = rowLo Z R := funext fun k => blk2 m c Z hZ t R r h (lo k)
include hZ h in
theorem blk2_hi : rowHi (iblk m c 2 t : Vec Ideal S256x2048 .f32) r = rowHi Z R := funext fun k => blk2 m c Z hZ t R r h (hi k)

include hH h in
theorem blk3 : row (iblk m c 3 t : Vec Ideal S256x1024 .f32) r = row H R := funext fun k => by
  obtain ⟨-, -, -, e0, e1⟩ := ixR t
  show (iblk m c 3 t : Vec Ideal S256x1024 .f32) (at2 r k) = H (at2 R k)
  unfold iblk
  rw [show V m c (Pipeline.arrRef spec0 3) = H from hH]
  refine congrArg H (funext fun a => ?_)
  match a with
  | ⟨0, _⟩ => apply Fin.ext; show win0_3.index t 0 * 256 + 1 * r.val = R.val; omega
  | ⟨1, _⟩ => apply Fin.ext; show win0_3.index t 1 * 1024 + 1 * k.val = k.val; omega

include hA in
theorem blk4 : mat (iblk m c 4 t : Vec Ideal S512x1024 .bf16) = mat A := funext fun j => funext fun k => by
  obtain ⟨⟨e0, e1⟩, -⟩ := ixW t
  show (iblk m c 4 t : Vec Ideal S512x1024 .bf16) (at2 j k) = A (at2 j k)
  unfold iblk
  rw [show V m c (Pipeline.arrRef spec0 4) = A from hA]
  refine congrArg A (funext fun a => ?_)
  match a with
  | ⟨0, _⟩ => apply Fin.ext; show win0_4.index t 0 * 512 + 1 * j.val = j.val; omega
  | ⟨1, _⟩ => apply Fin.ext; show win0_4.index t 1 * 1024 + 1 * k.val = k.val; omega

include hC in
theorem blk5 : mat (iblk m c 5 t : Vec Ideal S512x1024 .bf16) = mat C := funext fun j => funext fun k => by
  obtain ⟨-, ⟨e0, e1⟩, -⟩ := ixW t
  show (iblk m c 5 t : Vec Ideal S512x1024 .bf16) (at2 j k) = C (at2 j k)
  unfold iblk
  rw [show V m c (Pipeline.arrRef spec0 5) = C from hC]
  refine congrArg C (funext fun a => ?_)
  match a with
  | ⟨0, _⟩ => apply Fin.ext; show win0_5.index t 0 * 512 + 1 * j.val = j.val; omega
  | ⟨1, _⟩ => apply Fin.ext; show win0_5.index t 1 * 1024 + 1 * k.val = k.val; omega

include hW in
theorem blk6 : mat (iblk m c 6 t : Vec Ideal S1024x1024 .bf16) = mat W := funext fun j => funext fun k => by
  obtain ⟨-, -, e0, e1⟩ := ixW t
  show (iblk m c 6 t : Vec Ideal S1024x1024 .bf16) (at2 j k) = W (at2 j k)
  unfold iblk
  rw [show V m c (Pipeline.arrRef spec0 6) = W from hW]
  refine congrArg W (funext fun a => ?_)
  match a with
  | ⟨0, _⟩ => apply Fin.ext; show win0_6.index t 0 * 1024 + 1 * j.val = j.val; omega
  | ⟨1, _⟩ => apply Fin.ext; show win0_6.index t 1 * 1024 + 1 * k.val = k.val; omega
end

/-- Two arrays agree if they agree at every row of every point of the grid. -/
theorem rows {n : ℕ} (a b : Shape.Idx ⟨2, ![2048, n]⟩ → EReal)
    (hab : ∀ (t : Fin cfg0.N) (R : Fin 2048) (r : Fin 256) (j : Fin n), R.val = t.val * 256 + r.val → a (at2 R j) = b (at2 R j)) : a = b := funext fun i => by
  rw [← at2_eta i]
  have hN : cfg0.N = 8 := N_0
  have hR : (i 0).val < 2048 := (i 0).isLt
  exact hab ⟨(i 0).val / 256, by omega⟩ (i 0) ⟨(i 0).val % 256, by omega⟩ (i 1) (by show (i 0).val = (i 0).val / 256 * 256 + (i 0).val % 256; omega)

/-! The reference. -/

open Cert.Reference14Ideal.Read

theorem ref_raiseX (R : Fin 2048) (k : Fin 1024) : val_main_v2 (F := Ideal) X A (at2 R k) = raise (row X R) (mat A) k := by
  rw [val_main_v2_apply]
  refine Finset.sum_congr rfl fun i _ => ?_
  rw [val_main_v0_apply, val_main_v1_apply]
  refine congrArg₂ (· * ·) (congrArg X (funext fun a => ?_)) (congrArg A (funext fun a => ?_))
  · match a with
    | ⟨0, _⟩ => rfl
    | ⟨1, _⟩ => rfl
  · match a with
    | ⟨0, _⟩ => rfl
    | ⟨1, _⟩ => rfl

theorem ref_raiseY (R : Fin 2048) (k : Fin 1024) : val_main_v5 (F := Ideal) Y C (at2 R k) = raise (row Y R) (mat C) k := by
  rw [val_main_v5_apply]
  refine Finset.sum_congr rfl fun i _ => ?_
  rw [val_main_v3_apply, val_main_v4_apply]
  refine congrArg₂ (· * ·) (congrArg Y (funext fun a => ?_)) (congrArg C (funext fun a => ?_))
  · match a with
    | ⟨0, _⟩ => rfl
    | ⟨1, _⟩ => rfl
  · match a with
    | ⟨0, _⟩ => rfl
    | ⟨1, _⟩ => rfl

theorem ref_lo (R : Fin 2048) (k : Fin 1024) : val_main_v13 (F := Ideal) Z (at2 R k) = sg (rowLo Z R k) := by
  rw [val_main_v13_apply, val_main_v11_apply, val_main_v9_apply, val_main_v8_apply, val_main_v6_apply, show idx_main_v6 (at2 R k) = at2 R (lo k) from funext fun a => by
    match a with
    | ⟨0, _⟩ => rfl
    | ⟨1, _⟩ => rfl]
  exact sg_host _ _ _ (val_main_v12_apply _) (val_main_v10_apply _)

theorem ref_hi (R : Fin 2048) (k : Fin 1024) : val_main_v20 (F := Ideal) Z (at2 R k) = sg (rowHi Z R k) := by
  rw [val_main_v20_apply, val_main_v18_apply, val_main_v16_apply, val_main_v15_apply, val_main_v7_apply, show idx_main_v7 (at2 R k) = at2 R (hi k) from funext fun a => by
    match a with
    | ⟨0, _⟩ => rfl
    | ⟨1, _⟩ => rfl]
  exact sg_host _ _ _ (val_main_v19_apply _) (val_main_v17_apply _)

theorem ref_merge (R : Fin 2048) (k : Fin 1024) :
    val_main_v22 (F := Ideal) X Y Z A C (at2 R k) = merge (row X R) (row Y R) (mat A) (mat C) (rowLo Z R) (rowHi Z R) k := by
  rw [val_main_v22_apply, val_main_v14_apply, val_main_v21_apply, ref_lo, ref_hi, ref_raiseX, ref_raiseY]
  rfl

theorem ref_out (R : Fin 2048) (j : Fin 1024) :
    val_main_v25 (F := Ideal) X Y Z H A C W (at2 R j) = out (row X R) (row Y R) (mat A) (mat C) (rowLo Z R) (rowHi Z R) (row H R) (mat W) j := by
  rw [val_main_v25_apply, val_main_v24_apply]
  refine congrArg (H (at2 R j) + ·) (Finset.sum_congr rfl fun k _ => ?_)
  rw [val_main_v23_apply, show lidx_main_v24 (at2 R j) k = at2 R k from funext fun a => by
    match a with
    | ⟨0, _⟩ => rfl
    | ⟨1, _⟩ => rfl, ref_merge]
  refine congrArg (merge (row X R) (row Y R) (mat A) (mat C) (rowLo Z R) (rowHi Z R) k * ·) (congrArg W (funext fun a => ?_))
  match a with
  | ⟨0, _⟩ => rfl
  | ⟨1, _⟩ => rfl

/-! The four results. -/

include hX hY hZ hH hA hC hW in
theorem same7 : ((dats m 0 c).arrAt 7 cfg0.N : Vec Ideal S2048x1024 .f32) = val_main_v25 (F := Ideal) X Y Z H A C W := rows _ _ fun t R r j h => by
  obtain ⟨⟨hf, e0, e1⟩, -⟩ := ixO t
  rw [ref_out]
  have e : ((cfg0.win 7).blk t).view.emb (at2 (n0 := 256) (n1 := 1024) r j) = at2 R j := funext fun a => by
    match a with
    | ⟨0, _⟩ => apply Fin.ext; show win0_7.index t 0 * 256 + 1 * r.val = R.val; omega
    | ⟨1, _⟩ => apply Fin.ext; show win0_7.index t 1 * 1024 + 1 * j.val = j.val; omega
  rw [← e]
  refine (congrFun (blocks7 m c t hf) (at2 (n0 := 256) (n1 := 1024) r j)).trans ?_
  rw [flushed7]
  refine (stored7 (iblk m c 0 t) (iblk m c 1 t) (iblk m c 2 t) (iblk m c 3 t) (iblk m c 4 t) (iblk m c 5 t) (iblk m c 6 t) r j).trans ?_
  rw [blk0 m c X hX t R r h, blk1 m c Y hY t R r h, blk2_lo m c Z hZ t R r h, blk2_hi m c Z hZ t R r h, blk3 m c H hH t R r h, blk4 m c A hA t, blk5 m c C hC t, blk6 m c W hW t]

include hX hY hZ hA hC in
theorem same8 : ((dats m 0 c).arrAt 8 cfg0.N : Vec Ideal S2048x1024 .bf16) = val_main_v26 (F := Ideal) X Y Z A C := rows _ _ fun t R r j h => by
  obtain ⟨-, ⟨hf, e0, e1⟩, -⟩ := ixO t
  rw [val_main_v26_apply, ref_merge]
  have e : ((cfg0.win 8).blk t).view.emb (at2 (n0 := 256) (n1 := 1024) r j) = at2 R j := funext fun a => by
    match a with
    | ⟨0, _⟩ => apply Fin.ext; show win0_8.index t 0 * 256 + 1 * r.val = R.val; omega
    | ⟨1, _⟩ => apply Fin.ext; show win0_8.index t 1 * 1024 + 1 * j.val = j.val; omega
  rw [← e]
  refine (congrFun (blocks8 m c t hf) (at2 (n0 := 256) (n1 := 1024) r j)).trans ?_
  rw [flushed8]
  refine (stored8 (iblk m c 0 t) (iblk m c 1 t) (iblk m c 2 t) (iblk m c 3 t) (iblk m c 4 t) (iblk m c 5 t) (iblk m c 6 t) r j).trans ?_
  rw [blk0 m c X hX t R r h, blk1 m c Y hY t R r h, blk2_lo m c Z hZ t R r h, blk2_hi m c Z hZ t R r h, blk4 m c A hA t, blk5 m c C hC t]
  rfl

include hX hA in
theorem same9 : ((dats m 0 c).arrAt 9 cfg0.N : Vec Ideal S2048x1024 .f32) = val_main_v2 (F := Ideal) X A := rows _ _ fun t R r j h => by
  obtain ⟨-, -, ⟨hf, e0, e1⟩, -⟩ := ixO t
  rw [ref_raiseX]
  have e : ((cfg0.win 9).blk t).view.emb (at2 (n0 := 256) (n1 := 1024) r j) = at2 R j := funext fun a => by
    match a with
    | ⟨0, _⟩ => apply Fin.ext; show win0_9.index t 0 * 256 + 1 * r.val = R.val; omega
    | ⟨1, _⟩ => apply Fin.ext; show win0_9.index t 1 * 1024 + 1 * j.val = j.val; omega
  rw [← e]
  refine (congrFun (blocks9 m c t hf) (at2 (n0 := 256) (n1 := 1024) r j)).trans ?_
  rw [flushed9]
  refine (stored9 (iblk m c 0 t) (iblk m c 1 t) (iblk m c 2 t) (iblk m c 3 t) (iblk m c 4 t) (iblk m c 5 t) (iblk m c 6 t) r j).trans ?_
  rw [blk0 m c X hX t R r h, blk4 m c A hA t]

include hY hC in
theorem same10 : ((dats m 0 c).arrAt 10 cfg0.N : Vec Ideal S2048x1024 .f32) = val_main_v5 (F := Ideal) Y C := rows _ _ fun t R r j h => by
  obtain ⟨-, -, -, hf, e0, e1⟩ := ixO t
  rw [ref_raiseY]
  have e : ((cfg0.win 10).blk t).view.emb (at2 (n0 := 256) (n1 := 1024) r j) = at2 R j := funext fun a => by
    match a with
    | ⟨0, _⟩ => apply Fin.ext; show win0_10.index t 0 * 256 + 1 * r.val = R.val; omega
    | ⟨1, _⟩ => apply Fin.ext; show win0_10.index t 1 * 1024 + 1 * j.val = j.val; omega
  rw [← e]
  refine (congrFun (blocks10 m c t hf) (at2 (n0 := 256) (n1 := 1024) r j)).trans ?_
  rw [flushed10]
  refine (stored10 (iblk m c 0 t) (iblk m c 1 t) (iblk m c 2 t) (iblk m c 3 t) (iblk m c 4 t) (iblk m c 5 t) (iblk m c 6 t) r j).trans ?_
  rw [blk1 m c Y hY t R r h, blk5 m c C hC t]

end Cert.Kernel14Ideal.Val

end
-- ==== Proof.Dmixout.lean ====
/- Back through the mixer's gates and its output product: what the call leaves of its five results, and the reference's. -/
module

public import proofs.«01_k».proof.Proof.Gen.Kernel15Ideal.Value
public import proofs.«01_k».proof.Proof.Gen.Reference15Ideal.Read
public import proofs.«01_k».proof.Proof.Sums
public import proofs.«01_k».proof.Proof.Gate
public import Idealize.ShloMosaic.Lib.Pointwise
public import Idealize.ShloMosaic.Lib.Pointwise.Tactic

@[expose] public section

set_option maxRecDepth 16384
set_option backward.isDefEq.respectTransparency false

noncomputable section

namespace Cert.Kernel15Ideal.Val

open Idealize.ShloMosaic Idealize.ShloMosaic.TcCoe Idealize.ShloMosaic.Tactic
open Cert.Kernel15Ideal.Gen Cert.Kernel15Ideal.Value Cert.Sums Cert.Gate

/-! One row: `d` the gradient of the row, `w` the output weight, `z` the gate's inputs, `y` what the gate scales, `u` the weight that raised it. -/

/-- The gradient of the gated sum. -/
def back (d : Fin 1024 → EReal) (w : Fin 1024 → Fin 1024 → EReal) (k : Fin 1024) : EReal := ∑ e, d e * w k e
/-- The gradient of what a gate scales, and of the gate's input. -/
def through (d : Fin 1024 → EReal) (w : Fin 1024 → Fin 1024 → EReal) (z : Fin 1024 → EReal) (k : Fin 1024) : EReal := back d w k * sg (z k)
def gate (d : Fin 1024 → EReal) (w : Fin 1024 → Fin 1024 → EReal) (z y : Fin 1024 → EReal) (k : Fin 1024) : EReal :=
  back d w k * y k * sg (z k) * (1 - sg (z k))
/-- The gradient of what the weight raised. -/
def raised (d : Fin 1024 → EReal) (w : Fin 1024 → Fin 1024 → EReal) (z : Fin 1024 → EReal) (u : Fin 512 → Fin 1024 → EReal) (j : Fin 512) : EReal :=
  ∑ k, through d w z k * u j k

/-! The blocks. -/

section
variable (d : Vec Ideal S256x1024 .f32) (z : Vec Ideal S256x2048 .f32) (y x : Vec Ideal S256x1024 .f32) (u v : Vec Ideal S512x1024 .bf16) (w : Vec Ideal S1024x1024 .bf16)

theorem back_apply (r : Fin 256) (k : Fin 1024) : k0_pay6 (F := Ideal) d w (at2 r k) = back (row d r) (mat w) k := by
  unfold k0_pay6
  pointwise [dot_S256x1024_S1024x1024_S256x1024_1_1_0_0_n_n]
  rfl

theorem sgLo_apply (r : Fin 256) (k : Fin 1024) : k0_pay7 (F := Ideal) z (at2 r k) = sg (rowLo z r k) := by
  unfold k0_pay7
  pointwise
  exact sg_sub _

theorem sgHi_apply (r : Fin 256) (k : Fin 1024) : k0_pay8 (F := Ideal) z (at2 r k) = sg (rowHi z r k) := by
  unfold k0_pay8
  pointwise
  exact sg_sub _

theorem throughLo_apply (r : Fin 256) (k : Fin 1024) : k0_pay9 (F := Ideal) d w z (at2 r k) = through (row d r) (mat w) (rowLo z r) k :=
  congrArg₂ (· * ·) (back_apply d w r k) (sgLo_apply z r k)

theorem throughHi_apply (r : Fin 256) (k : Fin 1024) : k0_pay10 (F := Ideal) d w z (at2 r k) = through (row d r) (mat w) (rowHi z r) k :=
  congrArg₂ (· * ·) (back_apply d w r k) (sgHi_apply z r k)

theorem gateLo_apply (r : Fin 256) (k : Fin 1024) : k0_pay11 (F := Ideal) d w z y (at2 r k) = gate (row d r) (mat w) (rowLo z r) (row y r) k := by
  unfold k0_pay11
  generalize hp : k0_pay6 (F := Ideal) d w = p
  generalize hq : k0_pay7 (F := Ideal) z = q
  pointwise
  subst hp hq
  exact congrArg₂ (· * ·) (congrArg₂ (· * ·) (congrArg (· * y (at2 r k)) (back_apply d w r k)) (sgLo_apply z r k)) (congrArg (1 - ·) (sgLo_apply z r k))

theorem gateHi_apply (r : Fin 256) (k : Fin 1024) :
    k0_pay1 (F := Ideal) (k0_pay8 z) (k0_pay12 d w z x) (at2 r k) = gate (row d r) (mat w) (rowHi z r) (row x r) k := by
  unfold k0_pay1 k0_pay12
  generalize hp : k0_pay6 (F := Ideal) d w = p
  generalize hq : k0_pay8 (F := Ideal) z = q
  pointwise
  subst hp hq
  exact congrArg₂ (· * ·) (congrArg₂ (· * ·) (congrArg (· * x (at2 r k)) (back_apply d w r k)) (sgHi_apply z r k)) (congrArg (1 - ·) (sgHi_apply z r k))

theorem stored7 (r : Fin 256) (j : Fin 512) : out0_7 (F := Ideal) d z y x u v w (at2 r j) = raised (row d r) (mat w) (rowLo z r) (mat u) j := by
  unfold out0_7 k0_pay13
  rw [View.canon_unit_zero z2, View.ld_unit_zero (S := S256x1024) z2, View.ld_unit_zero (S := S1024x1024) z2, View.ld_unit_zero (S := S256x2048) z2,
    View.ld_unit_zero (S := S512x1024) z2]
  unfold k0_pay4
  generalize hp : k0_pay9 (F := Ideal) d w z = p
  pointwise [dot_S256x1024_S512x1024_S256x512_1_1_0_0_n_n]
  subst hp
  exact Finset.sum_congr rfl fun k _ => congrArg (· * u (at2 j k)) (throughLo_apply d z w r k)

theorem stored8 (r : Fin 256) (j : Fin 512) : out0_8 (F := Ideal) d z y x u v w (at2 r j) = raised (row d r) (mat w) (rowHi z r) (mat v) j := by
  unfold out0_8 k0_pay14
  rw [View.canon_unit_zero z2, View.ld_unit_zero (S := S256x1024) z2, View.ld_unit_zero (S := S1024x1024) z2, View.ld_unit_zero (S := S256x2048) z2,
    View.ld_unit_zero (S := S512x1024) z2]
  unfold k0_pay5
  generalize hp : k0_pay10 (F := Ideal) d w z = p
  pointwise [dot_S256x1024_S512x1024_S256x512_1_1_0_0_n_n]
  subst hp
  exact Finset.sum_congr rfl fun k _ => congrArg (· * v (at2 j k)) (throughHi_apply d z w r k)

theorem stored10 (r : Fin 256) (k : Fin 1024) : out0_10 (F := Ideal) d z y x u v w (at2 r k) = through (row d r) (mat w) (rowLo z r) k := by
  unfold out0_10 k0_pay13 k0_pay2
  rw [View.canon_unit_zero z2, View.ld_unit_zero (S := S256x1024) z2, View.ld_unit_zero (S := S1024x1024) z2, View.ld_unit_zero (S := S256x2048) z2, shapeCast_self]
  exact throughLo_apply d z w r k

theorem stored11 (r : Fin 256) (k : Fin 1024) : out0_11 (F := Ideal) d z y x u v w (at2 r k) = through (row d r) (mat w) (rowHi z r) k := by
  unfold out0_11 k0_pay14 k0_pay3
  rw [View.canon_unit_zero z2, View.ld_unit_zero (S := S256x1024) z2, View.ld_unit_zero (S := S1024x1024) z2, View.ld_unit_zero (S := S256x2048) z2, shapeCast_self]
  exact throughHi_apply d z w r k

/-- The two halves of the gates' inputs are stored one after the other, each in its columns. -/
theorem stored9_hi (r : Fin 256) (k : Fin 1024) : out0_9 (F := Ideal) d z y x u v w (at2 r (hi k)) = gate (row d r) (mat w) (rowHi z r) (row x r) k := by
  unfold out0_9
  rw [View.ld_unit_zero (S := S256x1024) z2, View.ld_unit_zero (S := S1024x1024) z2, View.ld_unit_zero (S := S256x2048) z2, View.ld_unit_zero (S := S256x1024) z2]
  have e : r0_4.emb (at2 (n0 := 256) (n1 := 1024) r k) = at2 r (hi k) := funext fun a => by
    match a with
    | ⟨0, _⟩ => apply Fin.ext; show 0 + 1 * r.val = r.val; omega
    | ⟨1, _⟩ => apply Fin.ext; show 1024 + 1 * k.val = 1024 + k.val; omega
  rw [← e, View.canon_cons_emb]
  exact gateHi_apply d z x w r k

theorem stored9_lo (r : Fin 256) (k : Fin 1024) : out0_9 (F := Ideal) d z y x u v w (at2 r (lo k)) = gate (row d r) (mat w) (rowLo z r) (row y r) k := by
  unfold out0_9
  rw [View.ld_unit_zero (S := S256x1024) z2, View.ld_unit_zero (S := S1024x1024) z2, View.ld_unit_zero (S := S256x2048) z2, View.ld_unit_zero (S := S256x1024) z2, View.ld_unit_zero (S := S256x1024) z2]
  have e : r0_3.emb (at2 (n0 := 256) (n1 := 1024) r k) = at2 r (lo k) := funext fun a => by
    match a with
    | ⟨0, _⟩ => apply Fin.ext; show 0 + 1 * r.val = r.val; omega
    | ⟨1, _⟩ => apply Fin.ext; show 0 + 1 * k.val = k.val; omega
  rw [View.canon_cons_of_not_mem, ← e, View.canon_cons_emb]
  · exact gateLo_apply d z y w r k
  · intro h
    obtain ⟨q, hq⟩ := r0_4.exists_idx_of_mem h
    have h1 : 1024 + 1 * (q 1).val = k.val := congrArg (fun i : S256x2048.Idx => (i 1).val) hq
    have := k.isLt
    omega
end

variable (m : (ℓ : Loc nD τ sig) → Buf (Elt Ideal) ℓ) (c : Dev nD) (D : Vec Ideal S2048x1024 .f32) (Z : Vec Ideal S2048x2048 .f32) (Y X : Vec Ideal S2048x1024 .f32)
  (U V : Vec Ideal S512x1024 .bf16) (W : Vec Ideal S1024x1024 .bf16)
  (hD : m ((c : Thread nD τ).loc main_arg0) = D) (hZ : m ((c : Thread nD τ).loc main_arg1) = Z) (hY : m ((c : Thread nD τ).loc main_arg2) = Y)
  (hX : m ((c : Thread nD τ).loc main_arg3) = X) (hU : m ((c : Thread nD τ).loc main_arg4) = U) (hV : m ((c : Thread nD τ).loc main_arg5) = V)
  (hW : m ((c : Thread nD τ).loc main_arg6) = W)

theorem ixR : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) := by decide +kernel
theorem ixW : ∀ t : Fin grid0.N, (win0_4.index t 0 = 0 ∧ win0_4.index t 1 = 0) ∧ (win0_5.index t 0 = 0 ∧ win0_5.index t 1 = 0)
    ∧ (win0_6.index t 0 = 0 ∧ win0_6.index t 1 = 0) := by decide +kernel

section
variable (t : Fin cfg0.N) (R : Fin 2048) (r : Fin 256) (h : R.val = t.val * 256 + r.val)

include hD h in
theorem blk0 : row (iblk m c 0 t : Vec Ideal S256x1024 .f32) r = row D R := funext fun k => by
  obtain ⟨⟨e0, e1⟩, -⟩ := ixR t
  show (iblk m c 0 t : Vec Ideal S256x1024 .f32) (at2 r k) = D (at2 R k)
  unfold iblk
  rw [show Cert.Kernel15Ideal.Gen.V m c (Pipeline.arrRef spec0 0) = D from hD]
  refine congrArg D (funext fun a => ?_)
  match a with
  | ⟨0, _⟩ => apply Fin.ext; show win0_0.index t 0 * 256 + 1 * r.val = R.val; omega
  | ⟨1, _⟩ => apply Fin.ext; show win0_0.index t 1 * 1024 + 1 * k.val = k.val; omega

include hZ h in
theorem blk1 (k : Fin 2048) : (iblk m c 1 t : Vec Ideal S256x2048 .f32) (at2 r k) = Z (at2 R k) := by
  obtain ⟨-, ⟨e0, e1⟩, -⟩ := ixR t
  unfold iblk
  rw [show Cert.Kernel15Ideal.Gen.V m c (Pipeline.arrRef spec0 1) = Z from hZ]
  refine congrArg Z (funext fun a => ?_)
  match a with
  | ⟨0, _⟩ => apply Fin.ext; show win0_1.index t 0 * 256 + 1 * r.val = R.val; omega
  | ⟨1, _⟩ => apply Fin.ext; show win0_1.index t 1 * 2048 + 1 * k.val = k.val; omega

include hZ h in
theorem blk1_lo : rowLo (iblk m c 1 t : Vec Ideal S256x2048 .f32) r = rowLo Z R := funext fun k => blk1 m c Z hZ t R r h (lo k)
include hZ h in
theorem blk1_hi : rowHi (iblk m c 1 t : Vec Ideal S256x2048 .f32) r = rowHi Z R := funext fun k => blk1 m c Z hZ t R r h (hi k)

include hY h in
theorem blk2 : row (iblk m c 2 t : Vec Ideal S256x1024 .f32) r = row Y R := funext fun k => by
  obtain ⟨-, -, ⟨e0, e1⟩, -⟩ := ixR t
  show (iblk m c 2 t : Vec Ideal S256x1024 .f32) (at2 r k) = Y (at2 R k)
  unfold iblk
  rw [show Cert.Kernel15Ideal.Gen.V m c (Pipeline.arrRef spec0 2) = Y from hY]
  refine congrArg Y (funext fun a => ?_)
  match a with
  | ⟨0, _⟩ => apply Fin.ext; show win0_2.index t 0 * 256 + 1 * r.val = R.val; omega
  | ⟨1, _⟩ => apply Fin.ext; show win0_2.index t 1 * 1024 + 1 * k.val = k.val; omega

include hX h in
theorem blk3 : row (iblk m c 3 t : Vec Ideal S256x1024 .f32) r = row X R := funext fun k => by
  obtain ⟨-, -, -, e0, e1⟩ := ixR t
  show (iblk m c 3 t : Vec Ideal S256x1024 .f32) (at2 r k) = X (at2 R k)
  unfold iblk
  rw [show Cert.Kernel15Ideal.Gen.V m c (Pipeline.arrRef spec0 3) = X from hX]
  refine congrArg X (funext fun a => ?_)
  match a with
  | ⟨0, _⟩ => apply Fin.ext; show win0_3.index t 0 * 256 + 1 * r.val = R.val; omega
  | ⟨1, _⟩ => apply Fin.ext; show win0_3.index t 1 * 1024 + 1 * k.val = k.val; omega

include hU in
theorem blk4 : mat (iblk m c 4 t : Vec Ideal S512x1024 .bf16) = mat U := funext fun j => funext fun k => by
  obtain ⟨⟨e0, e1⟩, -⟩ := ixW t
  show (iblk m c 4 t : Vec Ideal S512x1024 .bf16) (at2 j k) = U (at2 j k)
  unfold iblk
  rw [show Cert.Kernel15Ideal.Gen.V m c (Pipeline.arrRef spec0 4) = U from hU]
  refine congrArg U (funext fun a => ?_)
  match a with
  | ⟨0, _⟩ => apply Fin.ext; show win0_4.index t 0 * 512 + 1 * j.val = j.val; omega
  | ⟨1, _⟩ => apply Fin.ext; show win0_4.index t 1 * 1024 + 1 * k.val = k.val; omega

include hV in
theorem blk5 : mat (iblk m c 5 t : Vec Ideal S512x1024 .bf16) = mat V := funext fun j => funext fun k => by
  obtain ⟨-, ⟨e0, e1⟩, -⟩ := ixW t
  show (iblk m c 5 t : Vec Ideal S512x1024 .bf16) (at2 j k) = V (at2 j k)
  unfold iblk
  rw [show Cert.Kernel15Ideal.Gen.V m c (Pipeline.arrRef spec0 5) = V from hV]
  refine congrArg V (funext fun a => ?_)
  match a with
  | ⟨0, _⟩ => apply Fin.ext; show win0_5.index t 0 * 512 + 1 * j.val = j.val; omega
  | ⟨1, _⟩ => apply Fin.ext; show win0_5.index t 1 * 1024 + 1 * k.val = k.val; omega

include hW in
theorem blk6 : mat (iblk m c 6 t : Vec Ideal S1024x1024 .bf16) = mat W := funext fun j => funext fun k => by
  obtain ⟨-, -, e0, e1⟩ := ixW t
  show (iblk m c 6 t : Vec Ideal S1024x1024 .bf16) (at2 j k) = W (at2 j k)
  unfold iblk
  rw [show Cert.Kernel15Ideal.Gen.V m c (Pipeline.arrRef spec0 6) = W from hW]
  refine congrArg W (funext fun a => ?_)
  match a with
  | ⟨0, _⟩ => apply Fin.ext; show win0_6.index t 0 * 1024 + 1 * j.val = j.val; omega
  | ⟨1, _⟩ => apply Fin.ext; show win0_6.index t 1 * 1024 + 1 * k.val = k.val; omega
end

/-- Two arrays agree if they agree at every row of every point of the grid. -/
theorem rows {n : ℕ} (a b : Shape.Idx ⟨2, ![2048, n]⟩ → EReal)
    (hab : ∀ (t : Fin cfg0.N) (R : Fin 2048) (r : Fin 256) (j : Fin n), R.val = t.val * 256 + r.val → a (at2 R j) = b (at2 R j)) : a = b := funext fun i => by
  rw [← at2_eta i]
  have hN : cfg0.N = 8 := N_0
  have hR : (i 0).val < 2048 := (i 0).isLt
  exact hab ⟨(i 0).val / 256, by omega⟩ (i 0) ⟨(i 0).val % 256, by omega⟩ (i 1) (by show (i 0).val = (i 0).val / 256 * 256 + (i 0).val % 256; omega)

/-! The reference. -/

open Cert.Reference15Ideal.Read

theorem ref_back (R : Fin 2048) (k : Fin 1024) : val_main_v25 (F := Ideal) D W (at2 R k) = back (row D R) (mat W) k := by
  rw [val_main_v25_apply]
  refine Finset.sum_congr rfl fun e _ => ?_
  rw [val_main_v23_apply]
  refine congrArg₂ (· * ·) (congrArg D (funext fun a => ?_)) (congrArg W (funext fun a => ?_))
  · match a with
    | ⟨0, _⟩ => rfl
    | ⟨1, _⟩ => rfl
  · match a with
    | ⟨0, _⟩ => rfl
    | ⟨1, _⟩ => rfl

theorem ref_lo (R : Fin 2048) (k : Fin 1024) : val_main_v7 (F := Ideal) Z (at2 R k) = sg (rowLo Z R k) := by
  rw [val_main_v7_apply, val_main_v5_apply, val_main_v3_apply, val_main_v2_apply, val_main_v0_apply, show idx_main_v0 (at2 R k) = at2 R (lo k) from funext fun a => by
    match a with
    | ⟨0, _⟩ => rfl
    | ⟨1, _⟩ => rfl]
  exact sg_host _ _ _ (val_main_v6_apply _) (val_main_v4_apply _)

theorem ref_hi (R : Fin 2048) (k : Fin 1024) : val_main_v17 (F := Ideal) Z (at2 R k) = sg (rowHi Z R k) := by
  rw [val_main_v17_apply, val_main_v15_apply, val_main_v13_apply, val_main_v12_apply, val_main_v1_apply, show idx_main_v1 (at2 R k) = at2 R (hi k) from funext fun a => by
    match a with
    | ⟨0, _⟩ => rfl
    | ⟨1, _⟩ => rfl]
  exact sg_host _ _ _ (val_main_v16_apply _) (val_main_v14_apply _)

theorem ref_throughLo (R : Fin 2048) (k : Fin 1024) : val_main_v29 (F := Ideal) D Z W (at2 R k) = through (row D R) (mat W) (rowLo Z R) k := by
  rw [val_main_v29_apply, ref_back, ref_lo]
  exact mul_comm _ _

theorem ref_throughHi (R : Fin 2048) (k : Fin 1024) : val_main_v26 (F := Ideal) D Z W (at2 R k) = through (row D R) (mat W) (rowHi Z R) k := by
  rw [val_main_v26_apply, ref_back, ref_hi]
  exact mul_comm _ _

theorem ref_gateLo (R : Fin 2048) (k : Fin 1024) : val_main_v31 (F := Ideal) D Z Y W (at2 R k) = gate (row D R) (mat W) (rowLo Z R) (row Y R) k := by
  rw [val_main_v31_apply, val_main_v30_apply, val_main_v10_apply, val_main_v9_apply, val_main_v8_apply, val_main_cst_1_apply, ref_back, ref_lo, one_bits]
  exact (mul_assoc (_ : EReal) _ _).symm

theorem ref_gateHi (R : Fin 2048) (k : Fin 1024) : val_main_v28 (F := Ideal) D Z X W (at2 R k) = gate (row D R) (mat W) (rowHi Z R) (row X R) k := by
  rw [val_main_v28_apply, val_main_v27_apply, val_main_v20_apply, val_main_v19_apply, val_main_v18_apply, val_main_cst_4_apply, ref_back, ref_hi, one_bits]
  exact (mul_assoc (_ : EReal) _ _).symm

theorem ref_joined_lo (R : Fin 2048) (k : Fin 1024) : val_main_v41 (F := Ideal) D Z Y X W (at2 R (lo k)) = gate (row D R) (mat W) (rowLo Z R) (row Y R) k := by
  rw [val_main_v41_apply]
  unfold val_main_v40
  refine (concatenate_pair_apply_left (s₁ := Cert.Reference15Ideal.S2048x1024) (s₂ := Cert.Reference15Ideal.S2048x1024) 1 _ _ _ (at2 R (lo k)) rfl (at2 (n0 := 2048) (n1 := 1024) R k) fun b => ?_).trans (ref_gateLo D Z Y W R k)
  match b with
  | ⟨0, _⟩ => rfl
  | ⟨1, _⟩ => rfl

theorem ref_joined_hi (R : Fin 2048) (k : Fin 1024) : val_main_v41 (F := Ideal) D Z Y X W (at2 R (hi k)) = gate (row D R) (mat W) (rowHi Z R) (row X R) k := by
  rw [val_main_v41_apply]
  unfold val_main_v40
  refine (concatenate_pair_apply_right (s₁ := Cert.Reference15Ideal.S2048x1024) (s₂ := Cert.Reference15Ideal.S2048x1024) 1 _ _ _ (at2 R (hi k)) rfl rfl (at2 (n0 := 2048) (n1 := 1024) R k) (fun b hb => ?_) ?_).trans (ref_gateHi D Z X W R k)
  · match b with
    | ⟨0, _⟩ => rfl
    | ⟨1, _⟩ => exact absurd rfl hb
  · exact Nat.add_comm _ _

theorem ref_raisedLo (R : Fin 2048) (j : Fin 512) : val_main_v35 (F := Ideal) D Z U W (at2 R j) = raised (row D R) (mat W) (rowLo Z R) (mat U) j := by
  rw [val_main_v35_apply]
  refine Finset.sum_congr rfl fun k _ => ?_
  rw [val_main_v33_apply, show lidx_main_v35 (at2 R j) k = at2 R k from funext fun a => by
    match a with
    | ⟨0, _⟩ => rfl
    | ⟨1, _⟩ => rfl, ref_throughLo]
  refine congrArg (through (row D R) (mat W) (rowLo Z R) k * ·) (congrArg U (funext fun a => ?_))
  match a with
  | ⟨0, _⟩ => rfl
  | ⟨1, _⟩ => rfl

theorem ref_raisedHi (R : Fin 2048) (j : Fin 512) : val_main_v39 (F := Ideal) D Z V W (at2 R j) = raised (row D R) (mat W) (rowHi Z R) (mat V) j := by
  rw [val_main_v39_apply]
  refine Finset.sum_congr rfl fun k _ => ?_
  rw [val_main_v37_apply, show lidx_main_v39 (at2 R j) k = at2 R k from funext fun a => by
    match a with
    | ⟨0, _⟩ => rfl
    | ⟨1, _⟩ => rfl, ref_throughHi]
  refine congrArg (through (row D R) (mat W) (rowHi Z R) k * ·) (congrArg V (funext fun a => ?_))
  match a with
  | ⟨0, _⟩ => rfl
  | ⟨1, _⟩ => rfl

/-! The five results. -/

theorem ixO : ∀ t : Fin grid0.N, (win0_7.flush t = true ∧ win0_7.index t 0 = t.val ∧ win0_7.index t 1 = 0) ∧ (win0_8.flush t = true ∧ win0_8.index t 0 = t.val ∧ win0_8.index t 1 = 0)
    ∧ (win0_9.flush t = true ∧ win0_9.index t 0 = t.val ∧ win0_9.index t 1 = 0) ∧ (win0_10.flush t = true ∧ win0_10.index t 0 = t.val ∧ win0_10.index t 1 = 0)
    ∧ (win0_11.flush t = true ∧ win0_11.index t 0 = t.val ∧ win0_11.index t 1 = 0) := by decide +kernel

include hD hZ hU hW in
theorem same7 : ((dats m 0 c).arrAt 7 cfg0.N : Vec Ideal S2048x512 .f32) = val_main_v35 (F := Ideal) D Z U W := rows _ _ fun t R r j h => by
  obtain ⟨⟨hf, e0, e1⟩, -⟩ := ixO t
  rw [ref_raisedLo]
  have e : ((cfg0.win 7).blk t).view.emb (at2 (n0 := 256) (n1 := 512) r j) = at2 R j := funext fun a => by
    match a with
    | ⟨0, _⟩ => apply Fin.ext; show win0_7.index t 0 * 256 + 1 * r.val = R.val; omega
    | ⟨1, _⟩ => apply Fin.ext; show win0_7.index t 1 * 512 + 1 * j.val = j.val; omega
  rw [← e]
  refine (congrFun (blocks7 m c t hf) (at2 (n0 := 256) (n1 := 512) r j)).trans ?_
  rw [flushed7]
  refine (stored7 (iblk m c 0 t) (iblk m c 1 t) (iblk m c 2 t) (iblk m c 3 t) (iblk m c 4 t) (iblk m c 5 t) (iblk m c 6 t) r j).trans ?_
  rw [blk0 m c D hD t R r h, blk1_lo m c Z hZ t R r h, blk4 m c U hU t, blk6 m c W hW t]

include hD hZ hV hW in
theorem same8 : ((dats m 0 c).arrAt 8 cfg0.N : Vec Ideal S2048x512 .f32) = val_main_v39 (F := Ideal) D Z V W := rows _ _ fun t R r j h => by
  obtain ⟨-, ⟨hf, e0, e1⟩, -⟩ := ixO t
  rw [ref_raisedHi]
  have e : ((cfg0.win 8).blk t).view.emb (at2 (n0 := 256) (n1 := 512) r j) = at2 R j := funext fun a => by
    match a with
    | ⟨0, _⟩ => apply Fin.ext; show win0_8.index t 0 * 256 + 1 * r.val = R.val; omega
    | ⟨1, _⟩ => apply Fin.ext; show win0_8.index t 1 * 512 + 1 * j.val = j.val; omega
  rw [← e]
  refine (congrFun (blocks8 m c t hf) (at2 (n0 := 256) (n1 := 512) r j)).trans ?_
  rw [flushed8]
  refine (stored8 (iblk m c 0 t) (iblk m c 1 t) (iblk m c 2 t) (iblk m c 3 t) (iblk m c 4 t) (iblk m c 5 t) (iblk m c 6 t) r j).trans ?_
  rw [blk0 m c D hD t R r h, blk1_hi m c Z hZ t R r h, blk5 m c V hV t, blk6 m c W hW t]

include hD hZ hY hX hW in
theorem same9 : ((dats m 0 c).arrAt 9 cfg0.N : Vec Ideal S2048x2048 .bf16) = val_main_v41 (F := Ideal) D Z Y X W := rows _ _ fun t R r j h => by
  obtain ⟨-, -, ⟨hf, e0, e1⟩, -⟩ := ixO t
  have e : ((cfg0.win 9).blk t).view.emb (at2 (n0 := 256) (n1 := 2048) r j) = at2 R j := funext fun a => by
    match a with
    | ⟨0, _⟩ => apply Fin.ext; show win0_9.index t 0 * 256 + 1 * r.val = R.val; omega
    | ⟨1, _⟩ => apply Fin.ext; show win0_9.index t 1 * 2048 + 1 * j.val = j.val; omega
  rw [← e]
  refine (congrFun (blocks9 m c t hf) (at2 (n0 := 256) (n1 := 2048) r j)).trans ?_
  rw [flushed9, e]
  have hj := j.isLt
  by_cases hl : j.val < 1024
  · rw [show j = lo ⟨j.val, hl⟩ from rfl, ref_joined_lo]
    refine (stored9_lo (iblk m c 0 t) (iblk m c 1 t) (iblk m c 2 t) (iblk m c 3 t) (iblk m c 4 t) (iblk m c 5 t) (iblk m c 6 t) r _).trans ?_
    rw [blk0 m c D hD t R r h, blk1_lo m c Z hZ t R r h, blk2 m c Y hY t R r h, blk6 m c W hW t]
  · rw [show j = hi ⟨j.val - 1024, by omega⟩ from Fin.ext (by show j.val = 1024 + (j.val - 1024); omega), ref_joined_hi]
    refine (stored9_hi (iblk m c 0 t) (iblk m c 1 t) (iblk m c 2 t) (iblk m c 3 t) (iblk m c 4 t) (iblk m c 5 t) (iblk m c 6 t) r _).trans ?_
    rw [blk0 m c D hD t R r h, blk1_hi m c Z hZ t R r h, blk3 m c X hX t R r h, blk6 m c W hW t]

include hD hZ hW in
theorem same10 : ((dats m 0 c).arrAt 10 cfg0.N : Vec Ideal S2048x1024 .bf16) = val_main_v42 (F := Ideal) D Z W := rows _ _ fun t R r j h => by
  obtain ⟨-, -, -, ⟨hf, e0, e1⟩, -⟩ := ixO t
  rw [val_main_v42_apply, ref_throughLo]
  have e : ((cfg0.win 10).blk t).view.emb (at2 (n0 := 256) (n1 := 1024) r j) = at2 R j := funext fun a => by
    match a with
    | ⟨0, _⟩ => apply Fin.ext; show win0_10.index t 0 * 256 + 1 * r.val = R.val; omega
    | ⟨1, _⟩ => apply Fin.ext; show win0_10.index t 1 * 1024 + 1 * j.val = j.val; omega
  rw [← e]
  refine (congrFun (blocks10 m c t hf) (at2 (n0 := 256) (n1 := 1024) r j)).trans ?_
  rw [flushed10]
  refine (stored10 (iblk m c 0 t) (iblk m c 1 t) (iblk m c 2 t) (iblk m c 3 t) (iblk m c 4 t) (iblk m c 5 t) (iblk m c 6 t) r j).trans ?_
  rw [blk0 m c D hD t R r h, blk1_lo m c Z hZ t R r h, blk6 m c W hW t]
  rfl

include hD hZ hW in
theorem same11 : ((dats m 0 c).arrAt 11 cfg0.N : Vec Ideal S2048x1024 .bf16) = val_main_v43 (F := Ideal) D Z W := rows _ _ fun t R r j h => by
  obtain ⟨-, -, -, -, hf, e0, e1⟩ := ixO t
  rw [val_main_v43_apply, ref_throughHi]
  have e : ((cfg0.win 11).blk t).view.emb (at2 (n0 := 256) (n1 := 1024) r j) = at2 R j := funext fun a => by
    match a with
    | ⟨0, _⟩ => apply Fin.ext; show win0_11.index t 0 * 256 + 1 * r.val = R.val; omega
    | ⟨1, _⟩ => apply Fin.ext; show win0_11.index t 1 * 1024 + 1 * j.val = j.val; omega
  rw [← e]
  refine (congrFun (blocks11 m c t hf) (at2 (n0 := 256) (n1 := 1024) r j)).trans ?_
  rw [flushed11]
  refine (stored11 (iblk m c 0 t) (iblk m c 1 t) (iblk m c 2 t) (iblk m c 3 t) (iblk m c 4 t) (iblk m c 5 t) (iblk m c 6 t) r j).trans ?_
  rw [blk0 m c D hD t R r h, blk1_hi m c Z hZ t R r h, blk6 m c W hW t]
  rfl

end Cert.Kernel15Ideal.Val

end
-- ==== Proof.Dwout.lean ====
/- The gradient of the output product's weight: what the call's four row blocks add up to, and the reference's one product. -/
module

public import proofs.«01_k».proof.Proof.Gen.Kernel16Ideal.Value
public import proofs.«01_k».proof.Proof.Gen.Reference16Ideal.Read
public import proofs.«01_k».proof.Proof.Sums
public import Idealize.ShloMosaic.Lib.Pointwise
public import Idealize.ShloMosaic.Lib.Pointwise.Tactic

@[expose] public section

set_option maxRecDepth 16384
set_option backward.isDefEq.respectTransparency false

noncomputable section

namespace Cert.Kernel16Ideal.Val

open Idealize.ShloMosaic Idealize.ShloMosaic.TcCoe Idealize.ShloMosaic.Tactic
open Cert.Kernel16Ideal.Gen Cert.Kernel16Ideal.Value Cert.Sums

section
variable {F : FTy → Type} [FloatOps F]
variable (c : Dev nD) (i : grid0.Coords) (a1 : Memref sig .tc .vmem S512x1024 .bf16) (h1 : a1.IsWhole) (a2 : Memref sig .tc .vmem S512x1024 .f32) (h2 : a2.IsWhole)
  (a3 : Memref sig .tc .vmem S1024x1024 .bf16) (h3 : a3.IsWhole) (a4 : Memref sig .tc .vmem S1024x1024 .f32) (h4 : a4.IsWhole)
  (x : Vec F S512x1024 .bf16) (y : Vec F S512x1024 .f32) (s : Vec F S1024x1024 .f32)

/-- The first row block leaves its product in the accumulator. -/
theorem first (hc0 : cond0_0 i) (hc1 : ¬cond0_1 i) (hc2 : ¬cond0_2 i) : sout0_A_0 c i a1 h1 a2 h2 a3 h3 a4 h4 hc0 hc1 hc2 x y = k0_pay2 x y := by
  unfold sout0_A_0
  rw [View.read_writes_eq_canon _ _ _ (scover0_A_0 c i a1 h1 a2 h2 a3 h3 a4 h4 hc0 hc1 hc2 x y)]
  unfold kernelRun0_A
  dsimp only
  rw [View.canon_unit_zero z2]
  simp only [View.readAt_eq_ld, h1.read_unread, h2.read_unread, View.ld_unit_zero (S := S512x1024) z2, View.ld_unit_zero (S := S512x1024) z2]

/-- A further row block adds its product. -/
theorem further (hc0 : ¬cond0_0 i) (hc1 : cond0_1 i) (hc2 : ¬cond0_2 i) : sout0_B_0 c i a1 h1 a2 h2 a3 h3 a4 h4 hc0 hc1 hc2 x y s = k0_pay3 x y s := by
  unfold sout0_B_0
  rw [View.read_writes_eq_canon _ _ _ (scover0_B_0 c i a1 h1 a2 h2 a3 h3 a4 h4 hc0 hc1 hc2 x y s)]
  unfold kernelRun0_B
  dsimp only
  rw [View.canon_unit_zero z2]
  simp only [View.readAt_eq_ld, h1.read_unread, h2.read_unread, h4.read_unread, View.ld_unit_zero (S := S512x1024) z2, View.ld_unit_zero (S := S512x1024) z2,
    View.ld_unit_zero (S := S1024x1024) z2]

/-- The last row block's product is added to what the accumulator holds, and the sum stored. -/
theorem last (hc0 : ¬cond0_0 i) (hc1 : cond0_1 i) (hc2 : cond0_2 i) : out0_C_2 c i a1 h1 a2 h2 a3 h3 a4 h4 hc0 hc1 hc2 x y s = k0_pay4 (k0_pay3 x y s) := by
  unfold out0_C_2
  rw [View.read_writes_eq_canon _ _ _ (cover0_C_2 c i a1 h1 a2 h2 a3 h3 a4 h4 hc0 hc1 hc2 x y s)]
  unfold kernelRun0_C
  dsimp only
  sl_unfold_words
  rw [View.canon_unit_zero z2, View.readCov_unit_zero (S := S1024x1024) _ z2]
  simp only [View.readAt_eq_ld, h1.read_unread, h2.read_unread, h4.read_unread, View.ld_unit_zero (S := S512x1024) z2, View.ld_unit_zero (S := S512x1024) z2,
    View.ld_unit_zero (S := S1024x1024) z2]
end

/-- A row block's product: the sum over the block's rows. -/
theorem prod_apply (x : Vec Ideal S512x1024 .bf16) (y : Vec Ideal S512x1024 .f32) (p : Fin 1024) (q : Fin 1024) :
    k0_pay1 (F := Ideal) x y (at2 p q) = ∑ r : Fin 512, x (at2 r p) * y (at2 r q) := by
  unfold k0_pay1
  pointwise [dot_S512x1024_S512x1024_S1024x1024_0_0_1_1_n_n]
  rfl

/-- The four row blocks' products, added: what the call stores at a place. -/
theorem stored (x : Fin 4 → Vec Ideal S512x1024 .bf16) (y : Fin 4 → Vec Ideal S512x1024 .f32) (p : Fin 1024) (q : Fin 1024) :
    k0_pay4 (F := Ideal) (k0_pay3 (x 3) (y 3) (k0_pay3 (x 2) (y 2) (k0_pay3 (x 1) (y 1) (k0_pay2 (x 0) (y 0))))) (at2 p q)
      = ∑ k : Fin 4, ∑ r : Fin 512, x k (at2 r p) * y k (at2 r q) := by
  rw [Fin.sum_univ_four, ← prod_apply, ← prod_apply, ← prod_apply, ← prod_apply]
  unfold k0_pay4 k0_pay3 k0_pay2
  simp only [shapeCast_self]
  rfl

variable (m : (ℓ : Loc nD τ sig) → Buf (Elt Ideal) ℓ) (c : Dev nD) (A : Vec Ideal S2048x1024 .bf16) (B : Vec Ideal S2048x1024 .f32)
  (hA : m ((c : Thread nD τ).loc main_arg0) = A) (hB : m ((c : Thread nD τ).loc main_arg1) = B)

theorem ix0 : ∀ t : Fin grid0.N, win0_0.index t 0 = t.val ∧ win0_0.index t 1 = 0 := by decide +kernel
theorem ix1 : ∀ t : Fin grid0.N, win0_1.index t 0 = t.val ∧ win0_1.index t 1 = 0 := by decide +kernel

include hA in
/-- The inputs' block: a block of rows. -/
theorem blk0 (t : Fin cfg0.N) (k : Fin 4) (hk : t.val = k.val) (r : Fin 512) (p : Fin 1024) :
    (iblk m c 0 t : Vec Ideal S512x1024 .bf16) (at2 r p) = A (at2 ⟨k.val * 512 + r.val, place rfl k r⟩ p) := by
  obtain ⟨e0, e1⟩ := ix0 t
  unfold iblk
  rw [show V m c (Pipeline.arrRef spec0 0) = A from hA]
  refine congrArg A (funext fun a => ?_)
  match a with
  | ⟨0, _⟩ => apply Fin.ext; show win0_0.index t 0 * 512 + 1 * r.val = k.val * 512 + r.val; omega
  | ⟨1, _⟩ => apply Fin.ext; show win0_0.index t 1 * 1024 + 1 * p.val = p.val; omega

include hB in
/-- The cotangents' block: the same rows. -/
theorem blk1 (t : Fin cfg0.N) (k : Fin 4) (hk : t.val = k.val) (r : Fin 512) (q : Fin 1024) :
    (iblk m c 1 t : Vec Ideal S512x1024 .f32) (at2 r q) = B (at2 ⟨k.val * 512 + r.val, place rfl k r⟩ q) := by
  obtain ⟨e0, e1⟩ := ix1 t
  unfold iblk
  rw [show V m c (Pipeline.arrRef spec0 1) = B from hB]
  refine congrArg B (funext fun a => ?_)
  match a with
  | ⟨0, _⟩ => apply Fin.ext; show win0_1.index t 0 * 512 + 1 * r.val = k.val * 512 + r.val; omega
  | ⟨1, _⟩ => apply Fin.ext; show win0_1.index t 1 * 1024 + 1 * q.val = q.val; omega

include hA hB in
/-- Each place of the array the call leaves holds the whole sum over the rows. -/
theorem entry (P : Fin 1024) (q : Fin 1024) : (G2 m c : Vec Ideal S1024x1024 .bf16) (at2 P q) = ∑ r : Fin 2048, A (at2 r P) * B (at2 r q) := by
  have hP := P.isLt; have hq := q.isLt
  have hN : cfg0.N = 4 := N_0
  have hl : loc2Of (at2 P q) = at2 P q := funext fun a => by
    match a with
    | ⟨0, _⟩ => exact Fin.ext (Nat.mod_eq_of_lt P.isLt)
    | ⟨1, _⟩ => exact Fin.ext (Nat.mod_eq_of_lt q.isLt)
  have hp : pt2Of (at2 P q) = 3 := by
    show 4 * (1 * (P.val / 1024 - 0) + 1 * (q.val / 1024 - 0)) + 3 = _; omega
  have b (k : Fin 4) : k.val < cfg0.N := by have := k.isLt; omega
  have e : (G2 m c : Vec Ideal S1024x1024 .bf16) (at2 P q) = (outsAt0 m c 3 (b 3)).1 (at2 P q) := by
    unfold G2
    rw [dif_pos (by rw [hp]; exact b 3), hl, outsAt0_sweep, fold0_congr m c _ _ 3 (by omega) hp]
  have o3 : outsAt0 m c 3 (b 3) = _ := outsAt0_C m c ⟨3, b 3⟩ (by show ¬(3 % 4 = 0); decide) (by show 1 ≤ 3; decide) (by show (3 % 4 = 3); decide)
  have o2 : outsAt0 m c 2 (b 2) = _ := outsAt0_B m c ⟨2, b 2⟩ (by show ¬(2 % 4 = 0); decide) (by show 1 ≤ 2; decide) (by show ¬(2 % 4 = 3); decide)
  have o1 : outsAt0 m c 1 (b 1) = _ := outsAt0_B m c ⟨1, b 1⟩ (by show ¬(1 % 4 = 0); decide) (by show 1 ≤ 1; decide) (by show ¬(1 % 4 = 3); decide)
  have o0 : outsAt0 m c 0 (b 0) = _ := outsAt0_A m c ⟨0, b 0⟩ (by show (0 % 4 = 0); decide) (by show ¬1 ≤ 0; decide) (by show ¬(0 % 4 = 3); decide)
  rw [e, o3]
  dsimp only
  rw [last]
  rw [show outsAt0 m c (3 - 1) _ = _ from o2]
  dsimp only
  rw [further]
  rw [show outsAt0 m c (2 - 1) _ = _ from o1]
  dsimp only
  rw [further]
  rw [show outsAt0 m c (1 - 1) _ = _ from o0]
  dsimp only
  rw [first, sum_blocks (a := 4) (b := 512) rfl]
  refine (stored (fun k => iblk m c 0 ⟨k.val, b k⟩) (fun k => iblk m c 1 ⟨k.val, b k⟩) P q).trans ?_
  refine Finset.sum_congr rfl fun k _ => Finset.sum_congr rfl fun f _ => ?_
  exact congrArg₂ (· * ·) (blk0 m c A hA ⟨k.val, b k⟩ k rfl f P) (blk1 m c B hB ⟨k.val, b k⟩ k rfl f q)

open Cert.Reference16Ideal.Read in
/-- The reference's product at a place. -/
theorem ref_entry (P : Fin 1024) (q : Fin 1024) : (val_main_v5 (F := Ideal) A B : Vec Ideal S1024x1024 .bf16) (at2 P q) = ∑ r : Fin 2048, A (at2 r P) * B (at2 r q) := by
  rw [val_main_v5_apply, val_main_v4_apply, val_main_v3_apply]
  refine Finset.sum_congr rfl fun r _ => ?_
  rw [val_main_v1_apply]
  refine (mul_comm (G := EReal) _ _).trans (congrArg₂ (· * ·) (congrArg A (funext fun a => ?_)) (congrArg B (funext fun a => ?_)))
  · match a with
    | ⟨0, _⟩ => rfl
    | ⟨1, _⟩ => rfl
  · match a with
    | ⟨0, _⟩ => rfl
    | ⟨1, _⟩ => rfl

include hA hB in
theorem same : (G2 m c : Vec Ideal S1024x1024 .bf16) = Cert.Reference16Ideal.Read.val_main_v5 (F := Ideal) A B := funext fun i => by
  rw [← at2_eta i]
  exact (entry m c A B hA hB _ _).trans (ref_entry A B _ _).symm

end Cert.Kernel16Ideal.Val

end
-- ==== Proof.Dwao.lean ====
/- The gradient of the weights that raise the attention's and the convolution's outputs: what the call's four row blocks add up to, and the reference's one product. -/
module

public import proofs.«01_k».proof.Proof.Gen.Kernel17Ideal.Value
public import proofs.«01_k».proof.Proof.Gen.Reference17Ideal.Read
public import proofs.«01_k».proof.Proof.Sums
public import Idealize.ShloMosaic.Lib.Pointwise
public import Idealize.ShloMosaic.Lib.Pointwise.Tactic

@[expose] public section

set_option maxRecDepth 16384
set_option backward.isDefEq.respectTransparency false

noncomputable section

namespace Cert.Kernel17Ideal.Val

open Idealize.ShloMosaic Idealize.ShloMosaic.TcCoe Idealize.ShloMosaic.Tactic
open Cert.Kernel17Ideal.Gen Cert.Kernel17Ideal.Value Cert.Sums

section
variable {F : FTy → Type} [FloatOps F]
variable (c : Dev nD) (i : grid0.Coords) (a1 : Memref sig .tc .vmem S512x512 .bf16) (h1 : a1.IsWhole) (a2 : Memref sig .tc .vmem S512x1024 .bf16) (h2 : a2.IsWhole)
  (a3 : Memref sig .tc .vmem S512x1024 .bf16) (h3 : a3.IsWhole) (a4 : Memref sig .tc .vmem S512x1024 .f32) (h4 : a4.IsWhole)
  (x : Vec F S512x512 .bf16) (y : Vec F S512x1024 .bf16) (s : Vec F S512x1024 .f32)

/-- The first row block leaves its product in the accumulator. -/
theorem first (hc0 : cond0_0 i) (hc1 : ¬cond0_1 i) (hc2 : ¬cond0_2 i) : sout0_A_0 c i a1 h1 a2 h2 a3 h3 a4 h4 hc0 hc1 hc2 x y = k0_pay2 x y := by
  unfold sout0_A_0
  rw [View.read_writes_eq_canon _ _ _ (scover0_A_0 c i a1 h1 a2 h2 a3 h3 a4 h4 hc0 hc1 hc2 x y)]
  unfold kernelRun0_A
  dsimp only
  rw [View.canon_unit_zero z2]
  simp only [View.readAt_eq_ld, h1.read_unread, h2.read_unread, View.ld_unit_zero (S := S512x512) z2, View.ld_unit_zero (S := S512x1024) z2]

/-- A further row block adds its product. -/
theorem further (hc0 : ¬cond0_0 i) (hc1 : cond0_1 i) (hc2 : ¬cond0_2 i) : sout0_B_0 c i a1 h1 a2 h2 a3 h3 a4 h4 hc0 hc1 hc2 x y s = k0_pay3 x y s := by
  unfold sout0_B_0
  rw [View.read_writes_eq_canon _ _ _ (scover0_B_0 c i a1 h1 a2 h2 a3 h3 a4 h4 hc0 hc1 hc2 x y s)]
  unfold kernelRun0_B
  dsimp only
  rw [View.canon_unit_zero z2]
  simp only [View.readAt_eq_ld, h1.read_unread, h2.read_unread, h4.read_unread, View.ld_unit_zero (S := S512x512) z2, View.ld_unit_zero (S := S512x1024) z2,
    View.ld_unit_zero (S := S512x1024) z2]

/-- The last row block's product is added to what the accumulator holds, and the sum stored. -/
theorem last (hc0 : ¬cond0_0 i) (hc1 : cond0_1 i) (hc2 : cond0_2 i) : out0_C_2 c i a1 h1 a2 h2 a3 h3 a4 h4 hc0 hc1 hc2 x y s = k0_pay4 (k0_pay3 x y s) := by
  unfold out0_C_2
  rw [View.read_writes_eq_canon _ _ _ (cover0_C_2 c i a1 h1 a2 h2 a3 h3 a4 h4 hc0 hc1 hc2 x y s)]
  unfold kernelRun0_C
  dsimp only
  sl_unfold_words
  rw [View.canon_unit_zero z2, View.readCov_unit_zero (S := S512x1024) _ z2]
  simp only [View.readAt_eq_ld, h1.read_unread, h2.read_unread, h4.read_unread, View.ld_unit_zero (S := S512x512) z2, View.ld_unit_zero (S := S512x1024) z2,
    View.ld_unit_zero (S := S512x1024) z2]
end

/-- A row block's product: the sum over the block's rows. -/
theorem prod_apply (x : Vec Ideal S512x512 .bf16) (y : Vec Ideal S512x1024 .bf16) (p : Fin 512) (q : Fin 1024) :
    k0_pay1 (F := Ideal) x y (at2 p q) = ∑ r : Fin 512, x (at2 r p) * y (at2 r q) := by
  unfold k0_pay1
  pointwise [dot_S512x512_S512x1024_S512x1024_0_0_1_1_n_n]
  rfl

/-- The four row blocks' products, added: what the call stores at a place. -/
theorem stored (x : Fin 4 → Vec Ideal S512x512 .bf16) (y : Fin 4 → Vec Ideal S512x1024 .bf16) (p : Fin 512) (q : Fin 1024) :
    k0_pay4 (F := Ideal) (k0_pay3 (x 3) (y 3) (k0_pay3 (x 2) (y 2) (k0_pay3 (x 1) (y 1) (k0_pay2 (x 0) (y 0))))) (at2 p q)
      = ∑ k : Fin 4, ∑ r : Fin 512, x k (at2 r p) * y k (at2 r q) := by
  rw [Fin.sum_univ_four, ← prod_apply, ← prod_apply, ← prod_apply, ← prod_apply]
  unfold k0_pay4 k0_pay3 k0_pay2
  simp only [shapeCast_self]
  rfl

variable (m : (ℓ : Loc nD τ sig) → Buf (Elt Ideal) ℓ) (c : Dev nD) (A : Vec Ideal S2048x512 .bf16) (B : Vec Ideal S2048x1024 .bf16)
  (hA : m ((c : Thread nD τ).loc main_arg0) = A) (hB : m ((c : Thread nD τ).loc main_arg1) = B)

theorem ix0 : ∀ t : Fin grid0.N, win0_0.index t 0 = t.val ∧ win0_0.index t 1 = 0 := by decide +kernel
theorem ix1 : ∀ t : Fin grid0.N, win0_1.index t 0 = t.val ∧ win0_1.index t 1 = 0 := by decide +kernel

include hA in
/-- The inputs' block: a block of rows. -/
theorem blk0 (t : Fin cfg0.N) (k : Fin 4) (hk : t.val = k.val) (r : Fin 512) (p : Fin 512) :
    (iblk m c 0 t : Vec Ideal S512x512 .bf16) (at2 r p) = A (at2 ⟨k.val * 512 + r.val, place rfl k r⟩ p) := by
  obtain ⟨e0, e1⟩ := ix0 t
  unfold iblk
  rw [show V m c (Pipeline.arrRef spec0 0) = A from hA]
  refine congrArg A (funext fun a => ?_)
  match a with
  | ⟨0, _⟩ => apply Fin.ext; show win0_0.index t 0 * 512 + 1 * r.val = k.val * 512 + r.val; omega
  | ⟨1, _⟩ => apply Fin.ext; show win0_0.index t 1 * 512 + 1 * p.val = p.val; omega

include hB in
/-- The cotangents' block: the same rows. -/
theorem blk1 (t : Fin cfg0.N) (k : Fin 4) (hk : t.val = k.val) (r : Fin 512) (q : Fin 1024) :
    (iblk m c 1 t : Vec Ideal S512x1024 .bf16) (at2 r q) = B (at2 ⟨k.val * 512 + r.val, place rfl k r⟩ q) := by
  obtain ⟨e0, e1⟩ := ix1 t
  unfold iblk
  rw [show V m c (Pipeline.arrRef spec0 1) = B from hB]
  refine congrArg B (funext fun a => ?_)
  match a with
  | ⟨0, _⟩ => apply Fin.ext; show win0_1.index t 0 * 512 + 1 * r.val = k.val * 512 + r.val; omega
  | ⟨1, _⟩ => apply Fin.ext; show win0_1.index t 1 * 1024 + 1 * q.val = q.val; omega

include hA hB in
/-- Each place of the array the call leaves holds the whole sum over the rows. -/
theorem entry (P : Fin 512) (q : Fin 1024) : (G2 m c : Vec Ideal S512x1024 .bf16) (at2 P q) = ∑ r : Fin 2048, A (at2 r P) * B (at2 r q) := by
  have hP := P.isLt; have hq := q.isLt
  have hN : cfg0.N = 4 := N_0
  have hl : loc2Of (at2 P q) = at2 P q := funext fun a => by
    match a with
    | ⟨0, _⟩ => exact Fin.ext (Nat.mod_eq_of_lt P.isLt)
    | ⟨1, _⟩ => exact Fin.ext (Nat.mod_eq_of_lt q.isLt)
  have hp : pt2Of (at2 P q) = 3 := by
    show 4 * (1 * (P.val / 512 - 0) + 1 * (q.val / 1024 - 0)) + 3 = _; omega
  have b (k : Fin 4) : k.val < cfg0.N := by have := k.isLt; omega
  have e : (G2 m c : Vec Ideal S512x1024 .bf16) (at2 P q) = (outsAt0 m c 3 (b 3)).1 (at2 P q) := by
    unfold G2
    rw [dif_pos (by rw [hp]; exact b 3), hl, outsAt0_sweep, fold0_congr m c _ _ 3 (by omega) hp]
  have o3 : outsAt0 m c 3 (b 3) = _ := outsAt0_C m c ⟨3, b 3⟩ (by show ¬(3 % 4 = 0); decide) (by show 1 ≤ 3; decide) (by show (3 % 4 = 3); decide)
  have o2 : outsAt0 m c 2 (b 2) = _ := outsAt0_B m c ⟨2, b 2⟩ (by show ¬(2 % 4 = 0); decide) (by show 1 ≤ 2; decide) (by show ¬(2 % 4 = 3); decide)
  have o1 : outsAt0 m c 1 (b 1) = _ := outsAt0_B m c ⟨1, b 1⟩ (by show ¬(1 % 4 = 0); decide) (by show 1 ≤ 1; decide) (by show ¬(1 % 4 = 3); decide)
  have o0 : outsAt0 m c 0 (b 0) = _ := outsAt0_A m c ⟨0, b 0⟩ (by show (0 % 4 = 0); decide) (by show ¬1 ≤ 0; decide) (by show ¬(0 % 4 = 3); decide)
  rw [e, o3]
  dsimp only
  rw [last]
  rw [show outsAt0 m c (3 - 1) _ = _ from o2]
  dsimp only
  rw [further]
  rw [show outsAt0 m c (2 - 1) _ = _ from o1]
  dsimp only
  rw [further]
  rw [show outsAt0 m c (1 - 1) _ = _ from o0]
  dsimp only
  rw [first, sum_blocks (a := 4) (b := 512) rfl]
  refine (stored (fun k => iblk m c 0 ⟨k.val, b k⟩) (fun k => iblk m c 1 ⟨k.val, b k⟩) P q).trans ?_
  refine Finset.sum_congr rfl fun k _ => Finset.sum_congr rfl fun f _ => ?_
  exact congrArg₂ (· * ·) (blk0 m c A hA ⟨k.val, b k⟩ k rfl f P) (blk1 m c B hB ⟨k.val, b k⟩ k rfl f q)

open Cert.Reference17Ideal.Read in
/-- The reference's product at a place. -/
theorem ref_entry (P : Fin 512) (q : Fin 1024) : (val_main_v6 (F := Ideal) A B : Vec Ideal S512x1024 .bf16) (at2 P q) = ∑ r : Fin 2048, A (at2 r P) * B (at2 r q) := by
  rw [val_main_v6_apply, val_main_v5_apply, val_main_v4_apply]
  refine Finset.sum_congr rfl fun r _ => ?_
  rw [val_main_v3_apply, val_main_v1_apply]
  refine (mul_comm (G := EReal) _ _).trans (congrArg₂ (· * ·) (congrArg A (funext fun a => ?_)) (congrArg B (funext fun a => ?_)))
  · match a with
    | ⟨0, _⟩ => rfl
    | ⟨1, _⟩ => rfl
  · match a with
    | ⟨0, _⟩ => rfl
    | ⟨1, _⟩ => rfl

include hA hB in
theorem same : (G2 m c : Vec Ideal S512x1024 .bf16) = Cert.Reference17Ideal.Read.val_main_v6 (F := Ideal) A B := funext fun i => by
  rw [← at2_eta i]
  exact (entry m c A B hA hB _ _).trans (ref_entry A B _ _).symm

end Cert.Kernel17Ideal.Val

end
-- ==== Proof.Dwgate.lean ====
/- The gradient of the embedding gate's weight: what the call's four row blocks add up to, and the reference's one product. -/
module

public import proofs.«01_k».proof.Proof.Gen.Kernel18Ideal.Value
public import proofs.«01_k».proof.Proof.Gen.Reference18Ideal.Read
public import proofs.«01_k».proof.Proof.Sums
public import Idealize.ShloMosaic.Lib.Pointwise
public import Idealize.ShloMosaic.Lib.Pointwise.Tactic

@[expose] public section

set_option maxRecDepth 16384
set_option backward.isDefEq.respectTransparency false

noncomputable section

namespace Cert.Kernel18Ideal.Val

open Idealize.ShloMosaic Idealize.ShloMosaic.TcCoe Idealize.ShloMosaic.Tactic
open Cert.Kernel18Ideal.Gen Cert.Kernel18Ideal.Value Cert.Sums

section
variable {F : FTy → Type} [FloatOps F]
variable (c : Dev nD) (i : grid0.Coords) (a1 : Memref sig .tc .vmem S512x1024 .bf16) (h1 : a1.IsWhole) (a2 : Memref sig .tc .vmem S512x1024 .bf16) (h2 : a2.IsWhole)
  (a3 : Memref sig .tc .vmem S1024x1024 .bf16) (h3 : a3.IsWhole) (a4 : Memref sig .tc .vmem S1024x1024 .f32) (h4 : a4.IsWhole)
  (x : Vec F S512x1024 .bf16) (y : Vec F S512x1024 .bf16) (s : Vec F S1024x1024 .f32)

/-- The first row block leaves its product in the accumulator. -/
theorem first (hc0 : cond0_0 i) (hc1 : ¬cond0_1 i) (hc2 : ¬cond0_2 i) : sout0_A_0 c i a1 h1 a2 h2 a3 h3 a4 h4 hc0 hc1 hc2 x y = k0_pay2 x y := by
  unfold sout0_A_0
  rw [View.read_writes_eq_canon _ _ _ (scover0_A_0 c i a1 h1 a2 h2 a3 h3 a4 h4 hc0 hc1 hc2 x y)]
  unfold kernelRun0_A
  dsimp only
  rw [View.canon_unit_zero z2]
  simp only [View.readAt_eq_ld, h1.read_unread, h2.read_unread, View.ld_unit_zero (S := S512x1024) z2, View.ld_unit_zero (S := S512x1024) z2]

/-- A further row block adds its product. -/
theorem further (hc0 : ¬cond0_0 i) (hc1 : cond0_1 i) (hc2 : ¬cond0_2 i) : sout0_B_0 c i a1 h1 a2 h2 a3 h3 a4 h4 hc0 hc1 hc2 x y s = k0_pay3 x y s := by
  unfold sout0_B_0
  rw [View.read_writes_eq_canon _ _ _ (scover0_B_0 c i a1 h1 a2 h2 a3 h3 a4 h4 hc0 hc1 hc2 x y s)]
  unfold kernelRun0_B
  dsimp only
  rw [View.canon_unit_zero z2]
  simp only [View.readAt_eq_ld, h1.read_unread, h2.read_unread, h4.read_unread, View.ld_unit_zero (S := S512x1024) z2, View.ld_unit_zero (S := S512x1024) z2,
    View.ld_unit_zero (S := S1024x1024) z2]

/-- The last row block's product is added to what the accumulator holds, and the sum stored. -/
theorem last (hc0 : ¬cond0_0 i) (hc1 : cond0_1 i) (hc2 : cond0_2 i) : out0_C_2 c i a1 h1 a2 h2 a3 h3 a4 h4 hc0 hc1 hc2 x y s = k0_pay4 (k0_pay3 x y s) := by
  unfold out0_C_2
  rw [View.read_writes_eq_canon _ _ _ (cover0_C_2 c i a1 h1 a2 h2 a3 h3 a4 h4 hc0 hc1 hc2 x y s)]
  unfold kernelRun0_C
  dsimp only
  sl_unfold_words
  rw [View.canon_unit_zero z2, View.readCov_unit_zero (S := S1024x1024) _ z2]
  simp only [View.readAt_eq_ld, h1.read_unread, h2.read_unread, h4.read_unread, View.ld_unit_zero (S := S512x1024) z2, View.ld_unit_zero (S := S512x1024) z2,
    View.ld_unit_zero (S := S1024x1024) z2]
end

/-- A row block's product: the sum over the block's rows. -/
theorem prod_apply (x : Vec Ideal S512x1024 .bf16) (y : Vec Ideal S512x1024 .bf16) (p : Fin 1024) (q : Fin 1024) :
    k0_pay1 (F := Ideal) x y (at2 p q) = ∑ r : Fin 512, x (at2 r p) * y (at2 r q) := by
  unfold k0_pay1
  pointwise [dot_S512x1024_S512x1024_S1024x1024_0_0_1_1_n_n]
  rfl

/-- The four row blocks' products, added: what the call stores at a place. -/
theorem stored (x : Fin 4 → Vec Ideal S512x1024 .bf16) (y : Fin 4 → Vec Ideal S512x1024 .bf16) (p : Fin 1024) (q : Fin 1024) :
    k0_pay4 (F := Ideal) (k0_pay3 (x 3) (y 3) (k0_pay3 (x 2) (y 2) (k0_pay3 (x 1) (y 1) (k0_pay2 (x 0) (y 0))))) (at2 p q)
      = ∑ k : Fin 4, ∑ r : Fin 512, x k (at2 r p) * y k (at2 r q) := by
  rw [Fin.sum_univ_four, ← prod_apply, ← prod_apply, ← prod_apply, ← prod_apply]
  unfold k0_pay4 k0_pay3 k0_pay2
  simp only [shapeCast_self]
  rfl

variable (m : (ℓ : Loc nD τ sig) → Buf (Elt Ideal) ℓ) (c : Dev nD) (A : Vec Ideal S2048x1024 .bf16) (B : Vec Ideal S2048x1024 .bf16)
  (hA : m ((c : Thread nD τ).loc main_arg0) = A) (hB : m ((c : Thread nD τ).loc main_arg1) = B)

theorem ix0 : ∀ t : Fin grid0.N, win0_0.index t 0 = t.val ∧ win0_0.index t 1 = 0 := by decide +kernel
theorem ix1 : ∀ t : Fin grid0.N, win0_1.index t 0 = t.val ∧ win0_1.index t 1 = 0 := by decide +kernel

include hA in
/-- The inputs' block: a block of rows. -/
theorem blk0 (t : Fin cfg0.N) (k : Fin 4) (hk : t.val = k.val) (r : Fin 512) (p : Fin 1024) :
    (iblk m c 0 t : Vec Ideal S512x1024 .bf16) (at2 r p) = A (at2 ⟨k.val * 512 + r.val, place rfl k r⟩ p) := by
  obtain ⟨e0, e1⟩ := ix0 t
  unfold iblk
  rw [show V m c (Pipeline.arrRef spec0 0) = A from hA]
  refine congrArg A (funext fun a => ?_)
  match a with
  | ⟨0, _⟩ => apply Fin.ext; show win0_0.index t 0 * 512 + 1 * r.val = k.val * 512 + r.val; omega
  | ⟨1, _⟩ => apply Fin.ext; show win0_0.index t 1 * 1024 + 1 * p.val = p.val; omega

include hB in
/-- The cotangents' block: the same rows. -/
theorem blk1 (t : Fin cfg0.N) (k : Fin 4) (hk : t.val = k.val) (r : Fin 512) (q : Fin 1024) :
    (iblk m c 1 t : Vec Ideal S512x1024 .bf16) (at2 r q) = B (at2 ⟨k.val * 512 + r.val, place rfl k r⟩ q) := by
  obtain ⟨e0, e1⟩ := ix1 t
  unfold iblk
  rw [show V m c (Pipeline.arrRef spec0 1) = B from hB]
  refine congrArg B (funext fun a => ?_)
  match a with
  | ⟨0, _⟩ => apply Fin.ext; show win0_1.index t 0 * 512 + 1 * r.val = k.val * 512 + r.val; omega
  | ⟨1, _⟩ => apply Fin.ext; show win0_1.index t 1 * 1024 + 1 * q.val = q.val; omega

include hA hB in
/-- Each place of the array the call leaves holds the whole sum over the rows. -/
theorem entry (P : Fin 1024) (q : Fin 1024) : (G2 m c : Vec Ideal S1024x1024 .bf16) (at2 P q) = ∑ r : Fin 2048, A (at2 r P) * B (at2 r q) := by
  have hP := P.isLt; have hq := q.isLt
  have hN : cfg0.N = 4 := N_0
  have hl : loc2Of (at2 P q) = at2 P q := funext fun a => by
    match a with
    | ⟨0, _⟩ => exact Fin.ext (Nat.mod_eq_of_lt P.isLt)
    | ⟨1, _⟩ => exact Fin.ext (Nat.mod_eq_of_lt q.isLt)
  have hp : pt2Of (at2 P q) = 3 := by
    show 4 * (1 * (P.val / 1024 - 0) + 1 * (q.val / 1024 - 0)) + 3 = _; omega
  have b (k : Fin 4) : k.val < cfg0.N := by have := k.isLt; omega
  have e : (G2 m c : Vec Ideal S1024x1024 .bf16) (at2 P q) = (outsAt0 m c 3 (b 3)).1 (at2 P q) := by
    unfold G2
    rw [dif_pos (by rw [hp]; exact b 3), hl, outsAt0_sweep, fold0_congr m c _ _ 3 (by omega) hp]
  have o3 : outsAt0 m c 3 (b 3) = _ := outsAt0_C m c ⟨3, b 3⟩ (by show ¬(3 % 4 = 0); decide) (by show 1 ≤ 3; decide) (by show (3 % 4 = 3); decide)
  have o2 : outsAt0 m c 2 (b 2) = _ := outsAt0_B m c ⟨2, b 2⟩ (by show ¬(2 % 4 = 0); decide) (by show 1 ≤ 2; decide) (by show ¬(2 % 4 = 3); decide)
  have o1 : outsAt0 m c 1 (b 1) = _ := outsAt0_B m c ⟨1, b 1⟩ (by show ¬(1 % 4 = 0); decide) (by show 1 ≤ 1; decide) (by show ¬(1 % 4 = 3); decide)
  have o0 : outsAt0 m c 0 (b 0) = _ := outsAt0_A m c ⟨0, b 0⟩ (by show (0 % 4 = 0); decide) (by show ¬1 ≤ 0; decide) (by show ¬(0 % 4 = 3); decide)
  rw [e, o3]
  dsimp only
  rw [last]
  rw [show outsAt0 m c (3 - 1) _ = _ from o2]
  dsimp only
  rw [further]
  rw [show outsAt0 m c (2 - 1) _ = _ from o1]
  dsimp only
  rw [further]
  rw [show outsAt0 m c (1 - 1) _ = _ from o0]
  dsimp only
  rw [first, sum_blocks (a := 4) (b := 512) rfl]
  refine (stored (fun k => iblk m c 0 ⟨k.val, b k⟩) (fun k => iblk m c 1 ⟨k.val, b k⟩) P q).trans ?_
  refine Finset.sum_congr rfl fun k _ => Finset.sum_congr rfl fun f _ => ?_
  exact congrArg₂ (· * ·) (blk0 m c A hA ⟨k.val, b k⟩ k rfl f P) (blk1 m c B hB ⟨k.val, b k⟩ k rfl f q)

open Cert.Reference18Ideal.Read in
/-- The reference's product at a place. -/
theorem ref_entry (P : Fin 1024) (q : Fin 1024) : (val_main_v6 (F := Ideal) A B : Vec Ideal S1024x1024 .bf16) (at2 P q) = ∑ r : Fin 2048, A (at2 r P) * B (at2 r q) := by
  rw [val_main_v6_apply, val_main_v5_apply, val_main_v4_apply]
  refine Finset.sum_congr rfl fun r _ => ?_
  rw [val_main_v3_apply, val_main_v1_apply]
  refine (mul_comm (G := EReal) _ _).trans (congrArg₂ (· * ·) (congrArg A (funext fun a => ?_)) (congrArg B (funext fun a => ?_)))
  · match a with
    | ⟨0, _⟩ => rfl
    | ⟨1, _⟩ => rfl
  · match a with
    | ⟨0, _⟩ => rfl
    | ⟨1, _⟩ => rfl

include hA hB in
theorem same : (G2 m c : Vec Ideal S1024x1024 .bf16) = Cert.Reference18Ideal.Read.val_main_v6 (F := Ideal) A B := funext fun i => by
  rw [← at2_eta i]
  exact (entry m c A B hA hB _ _).trans (ref_entry A B _ _).symm

end Cert.Kernel18Ideal.Val

end
-- ==== Proof.Dwproj.lean ====
/- The gradient of the embedding projection's weight: what the call's four row blocks add up to, and the reference's one product. -/
module

public import proofs.«01_k».proof.Proof.Gen.Kernel19Ideal.Value
public import proofs.«01_k».proof.Proof.Gen.Reference19Ideal.Read
public import proofs.«01_k».proof.Proof.Sums
public import Idealize.ShloMosaic.Lib.Pointwise
public import Idealize.ShloMosaic.Lib.Pointwise.Tactic

@[expose] public section

set_option maxRecDepth 16384
set_option backward.isDefEq.respectTransparency false

noncomputable section

namespace Cert.Kernel19Ideal.Val

open Idealize.ShloMosaic Idealize.ShloMosaic.TcCoe Idealize.ShloMosaic.Tactic
open Cert.Kernel19Ideal.Gen Cert.Kernel19Ideal.Value Cert.Sums

section
variable {F : FTy → Type} [FloatOps F]
variable (c : Dev nD) (i : grid0.Coords) (a1 : Memref sig .tc .vmem S512x256 .f32) (h1 : a1.IsWhole) (a2 : Memref sig .tc .vmem S512x1024 .bf16) (h2 : a2.IsWhole)
  (a3 : Memref sig .tc .vmem S256x1024 .bf16) (h3 : a3.IsWhole) (a4 : Memref sig .tc .vmem S256x1024 .f32) (h4 : a4.IsWhole)
  (x : Vec F S512x256 .f32) (y : Vec F S512x1024 .bf16) (s : Vec F S256x1024 .f32)

/-- The first row block leaves its product in the accumulator. -/
theorem first (hc0 : cond0_0 i) (hc1 : ¬cond0_1 i) (hc2 : ¬cond0_2 i) : sout0_A_0 c i a1 h1 a2 h2 a3 h3 a4 h4 hc0 hc1 hc2 x y = k0_pay2 x y := by
  unfold sout0_A_0
  rw [View.read_writes_eq_canon _ _ _ (scover0_A_0 c i a1 h1 a2 h2 a3 h3 a4 h4 hc0 hc1 hc2 x y)]
  unfold kernelRun0_A
  dsimp only
  rw [View.canon_unit_zero z2]
  simp only [View.readAt_eq_ld, h1.read_unread, h2.read_unread, View.ld_unit_zero (S := S512x256) z2, View.ld_unit_zero (S := S512x1024) z2]

/-- A further row block adds its product. -/
theorem further (hc0 : ¬cond0_0 i) (hc1 : cond0_1 i) (hc2 : ¬cond0_2 i) : sout0_B_0 c i a1 h1 a2 h2 a3 h3 a4 h4 hc0 hc1 hc2 x y s = k0_pay3 x y s := by
  unfold sout0_B_0
  rw [View.read_writes_eq_canon _ _ _ (scover0_B_0 c i a1 h1 a2 h2 a3 h3 a4 h4 hc0 hc1 hc2 x y s)]
  unfold kernelRun0_B
  dsimp only
  rw [View.canon_unit_zero z2]
  simp only [View.readAt_eq_ld, h1.read_unread, h2.read_unread, h4.read_unread, View.ld_unit_zero (S := S512x256) z2, View.ld_unit_zero (S := S512x1024) z2,
    View.ld_unit_zero (S := S256x1024) z2]

/-- The last row block's product is added to what the accumulator holds, and the sum stored. -/
theorem last (hc0 : ¬cond0_0 i) (hc1 : cond0_1 i) (hc2 : cond0_2 i) : out0_C_2 c i a1 h1 a2 h2 a3 h3 a4 h4 hc0 hc1 hc2 x y s = k0_pay4 (k0_pay3 x y s) := by
  unfold out0_C_2
  rw [View.read_writes_eq_canon _ _ _ (cover0_C_2 c i a1 h1 a2 h2 a3 h3 a4 h4 hc0 hc1 hc2 x y s)]
  unfold kernelRun0_C
  dsimp only
  sl_unfold_words
  rw [View.canon_unit_zero z2, View.readCov_unit_zero (S := S256x1024) _ z2]
  simp only [View.readAt_eq_ld, h1.read_unread, h2.read_unread, h4.read_unread, View.ld_unit_zero (S := S512x256) z2, View.ld_unit_zero (S := S512x1024) z2,
    View.ld_unit_zero (S := S256x1024) z2]
end

/-- A row block's product: the sum over the block's rows. -/
theorem prod_apply (x : Vec Ideal S512x256 .f32) (y : Vec Ideal S512x1024 .bf16) (p : Fin 256) (q : Fin 1024) :
    k0_pay1 (F := Ideal) x y (at2 p q) = ∑ r : Fin 512, x (at2 r p) * y (at2 r q) := by
  unfold k0_pay1
  pointwise [dot_S512x256_S512x1024_S256x1024_0_0_1_1_n_n]
  rfl

/-- The four row blocks' products, added: what the call stores at a place. -/
theorem stored (x : Fin 4 → Vec Ideal S512x256 .f32) (y : Fin 4 → Vec Ideal S512x1024 .bf16) (p : Fin 256) (q : Fin 1024) :
    k0_pay4 (F := Ideal) (k0_pay3 (x 3) (y 3) (k0_pay3 (x 2) (y 2) (k0_pay3 (x 1) (y 1) (k0_pay2 (x 0) (y 0))))) (at2 p q)
      = ∑ k : Fin 4, ∑ r : Fin 512, x k (at2 r p) * y k (at2 r q) := by
  rw [Fin.sum_univ_four, ← prod_apply, ← prod_apply, ← prod_apply, ← prod_apply]
  unfold k0_pay4 k0_pay3 k0_pay2
  simp only [shapeCast_self]
  rfl

variable (m : (ℓ : Loc nD τ sig) → Buf (Elt Ideal) ℓ) (c : Dev nD) (A : Vec Ideal S2048x256 .f32) (B : Vec Ideal S2048x1024 .bf16)
  (hA : m ((c : Thread nD τ).loc main_arg0) = A) (hB : m ((c : Thread nD τ).loc main_arg1) = B)

theorem ix0 : ∀ t : Fin grid0.N, win0_0.index t 0 = t.val ∧ win0_0.index t 1 = 0 := by decide +kernel
theorem ix1 : ∀ t : Fin grid0.N, win0_1.index t 0 = t.val ∧ win0_1.index t 1 = 0 := by decide +kernel

include hA in
/-- The inputs' block: a block of rows. -/
theorem blk0 (t : Fin cfg0.N) (k : Fin 4) (hk : t.val = k.val) (r : Fin 512) (p : Fin 256) :
    (iblk m c 0 t : Vec Ideal S512x256 .f32) (at2 r p) = A (at2 ⟨k.val * 512 + r.val, place rfl k r⟩ p) := by
  obtain ⟨e0, e1⟩ := ix0 t
  unfold iblk
  rw [show V m c (Pipeline.arrRef spec0 0) = A from hA]
  refine congrArg A (funext fun a => ?_)
  match a with
  | ⟨0, _⟩ => apply Fin.ext; show win0_0.index t 0 * 512 + 1 * r.val = k.val * 512 + r.val; omega
  | ⟨1, _⟩ => apply Fin.ext; show win0_0.index t 1 * 256 + 1 * p.val = p.val; omega

include hB in
/-- The cotangents' block: the same rows. -/
theorem blk1 (t : Fin cfg0.N) (k : Fin 4) (hk : t.val = k.val) (r : Fin 512) (q : Fin 1024) :
    (iblk m c 1 t : Vec Ideal S512x1024 .bf16) (at2 r q) = B (at2 ⟨k.val * 512 + r.val, place rfl k r⟩ q) := by
  obtain ⟨e0, e1⟩ := ix1 t
  unfold iblk
  rw [show V m c (Pipeline.arrRef spec0 1) = B from hB]
  refine congrArg B (funext fun a => ?_)
  match a with
  | ⟨0, _⟩ => apply Fin.ext; show win0_1.index t 0 * 512 + 1 * r.val = k.val * 512 + r.val; omega
  | ⟨1, _⟩ => apply Fin.ext; show win0_1.index t 1 * 1024 + 1 * q.val = q.val; omega

include hA hB in
/-- Each place of the array the call leaves holds the whole sum over the rows. -/
theorem entry (P : Fin 256) (q : Fin 1024) : (G2 m c : Vec Ideal S256x1024 .bf16) (at2 P q) = ∑ r : Fin 2048, A (at2 r P) * B (at2 r q) := by
  have hP := P.isLt; have hq := q.isLt
  have hN : cfg0.N = 4 := N_0
  have hl : loc2Of (at2 P q) = at2 P q := funext fun a => by
    match a with
    | ⟨0, _⟩ => exact Fin.ext (Nat.mod_eq_of_lt P.isLt)
    | ⟨1, _⟩ => exact Fin.ext (Nat.mod_eq_of_lt q.isLt)
  have hp : pt2Of (at2 P q) = 3 := by
    show 4 * (1 * (P.val / 256 - 0) + 1 * (q.val / 1024 - 0)) + 3 = _; omega
  have b (k : Fin 4) : k.val < cfg0.N := by have := k.isLt; omega
  have e : (G2 m c : Vec Ideal S256x1024 .bf16) (at2 P q) = (outsAt0 m c 3 (b 3)).1 (at2 P q) := by
    unfold G2
    rw [dif_pos (by rw [hp]; exact b 3), hl, outsAt0_sweep, fold0_congr m c _ _ 3 (by omega) hp]
  have o3 : outsAt0 m c 3 (b 3) = _ := outsAt0_C m c ⟨3, b 3⟩ (by show ¬(3 % 4 = 0); decide) (by show 1 ≤ 3; decide) (by show (3 % 4 = 3); decide)
  have o2 : outsAt0 m c 2 (b 2) = _ := outsAt0_B m c ⟨2, b 2⟩ (by show ¬(2 % 4 = 0); decide) (by show 1 ≤ 2; decide) (by show ¬(2 % 4 = 3); decide)
  have o1 : outsAt0 m c 1 (b 1) = _ := outsAt0_B m c ⟨1, b 1⟩ (by show ¬(1 % 4 = 0); decide) (by show 1 ≤ 1; decide) (by show ¬(1 % 4 = 3); decide)
  have o0 : outsAt0 m c 0 (b 0) = _ := outsAt0_A m c ⟨0, b 0⟩ (by show (0 % 4 = 0); decide) (by show ¬1 ≤ 0; decide) (by show ¬(0 % 4 = 3); decide)
  rw [e, o3]
  dsimp only
  rw [last]
  rw [show outsAt0 m c (3 - 1) _ = _ from o2]
  dsimp only
  rw [further]
  rw [show outsAt0 m c (2 - 1) _ = _ from o1]
  dsimp only
  rw [further]
  rw [show outsAt0 m c (1 - 1) _ = _ from o0]
  dsimp only
  rw [first, sum_blocks (a := 4) (b := 512) rfl]
  refine (stored (fun k => iblk m c 0 ⟨k.val, b k⟩) (fun k => iblk m c 1 ⟨k.val, b k⟩) P q).trans ?_
  refine Finset.sum_congr rfl fun k _ => Finset.sum_congr rfl fun f _ => ?_
  exact congrArg₂ (· * ·) (blk0 m c A hA ⟨k.val, b k⟩ k rfl f P) (blk1 m c B hB ⟨k.val, b k⟩ k rfl f q)

open Cert.Reference19Ideal.Read in
/-- The reference's product at a place. -/
theorem ref_entry (P : Fin 256) (q : Fin 1024) : (val_main_v5 (F := Ideal) A B : Vec Ideal S256x1024 .bf16) (at2 P q) = ∑ r : Fin 2048, A (at2 r P) * B (at2 r q) := by
  rw [val_main_v5_apply, val_main_v4_apply, val_main_v3_apply]
  refine Finset.sum_congr rfl fun r _ => ?_
  rw [val_main_v2_apply]
  refine (mul_comm (G := EReal) _ _).trans (congrArg₂ (· * ·) (congrArg A (funext fun a => ?_)) (congrArg B (funext fun a => ?_)))
  · match a with
    | ⟨0, _⟩ => rfl
    | ⟨1, _⟩ => rfl
  · match a with
    | ⟨0, _⟩ => rfl
    | ⟨1, _⟩ => rfl

include hA hB in
theorem same : (G2 m c : Vec Ideal S256x1024 .bf16) = Cert.Reference19Ideal.Read.val_main_v5 (F := Ideal) A B := funext fun i => by
  rw [← at2_eta i]
  exact (entry m c A B hA hB _ _).trans (ref_entry A B _ _).symm

end Cert.Kernel19Ideal.Val

end
-- ==== Proof.Ple.lean ====
/- The per-layer gate: what the call leaves of its four results, and the reference's. -/
module

public import proofs.«01_k».proof.Proof.Gen.Kernel20Ideal.Value
public import proofs.«01_k».proof.Proof.Gen.Reference20Ideal.Read
public import proofs.«01_k».proof.Proof.Gate
public import proofs.«01_k».proof.Proof.Rms
public import Idealize.ShloMosaic.Lib.Pointwise
public import Idealize.ShloMosaic.Lib.Pointwise.Tactic

@[expose] public section

set_option maxRecDepth 16384
set_option backward.isDefEq.respectTransparency false

noncomputable section

namespace Cert.Kernel20Ideal.Val

open Idealize.ShloMosaic Idealize.ShloMosaic.TcCoe Idealize.ShloMosaic.Tactic
open Cert.Kernel20Ideal.Gen Cert.Kernel20Ideal.Value Cert.Sums Cert.Gate Cert.Rms

/-! One row: `x` of the stream, `p` of the layer's embedding, `g` the norm's gain, `u`, `w` the gate's weight and the projection's. -/

def normed (x g : Fin 1024 → EReal) (k : Fin 1024) : EReal := x k * scale x * g k
def gate (x g : Fin 1024 → EReal) (u : Fin 1024 → Fin 1024 → EReal) (j : Fin 1024) : EReal := ∑ k, normed x g k * u k j
def proj (p : Fin 256 → EReal) (w : Fin 256 → Fin 1024 → EReal) (j : Fin 1024) : EReal := ∑ i, p i * w i j
def out (x g : Fin 1024 → EReal) (p : Fin 256 → EReal) (u : Fin 1024 → Fin 1024 → EReal) (w : Fin 256 → Fin 1024 → EReal) (j : Fin 1024) : EReal :=
  x j + sg (gate x g u j) * proj p w j

/-! The blocks. -/

section
variable (x : Vec Ideal S256x1024 .f32) (p : Vec Ideal S256x256 .f32) (g : Vec Ideal S1x1024 .f32) (u : Vec Ideal S1024x1024 .bf16) (w : Vec Ideal S256x1024 .bf16)

theorem normed_apply (r : Fin 256) (k : Fin 1024) : k0_pay2 (F := Ideal) x g (at2 r k) = normed (row x r) (row g 0) k := by
  unfold k0_pay2
  pointwise
  rfl

theorem gate_apply (r : Fin 256) (j : Fin 1024) : k0_pay3 (F := Ideal) x g u (at2 r j) = gate (row x r) (row g 0) (mat u) j := by
  unfold k0_pay3
  generalize hp : k0_pay2 (F := Ideal) x g = q
  pointwise [dot_S256x1024_S1024x1024_S256x1024_1_0_0_1_n_n]
  subst hp
  exact Finset.sum_congr rfl fun k _ => congrArg (· * u (at2 k j)) (normed_apply x g r k)

theorem proj_apply (r : Fin 256) (j : Fin 1024) : k0_pay4 (F := Ideal) p w (at2 r j) = proj (row p r) (mat w) j := by
  unfold k0_pay4
  pointwise [dot_S256x256_S256x1024_S256x1024_1_0_0_1_n_n]
  rfl

theorem stored5 (r : Fin 256) (j : Fin 1024) : out0_5 (F := Ideal) x p g u w (at2 r j) = out (row x r) (row g 0) (row p r) (mat u) (mat w) j := by
  unfold out0_5
  rw [View.canon_unit_zero z2, View.ld_unit_zero (S := S256x1024) z2, View.ld_unit_zero (S := S256x256) z2, View.ld_unit_zero (S := S256x1024) z2,
    View.ld_unit_zero (S := S1x1024) z2, View.ld_unit_zero (S := S1024x1024) z2]
  unfold k0_pay1 k0_pay8
  generalize hp : k0_pay3 (F := Ideal) x g u = a
  generalize hq : k0_pay4 (F := Ideal) p w = b
  pointwise
  subst hp hq
  exact congrArg (x (at2 r j) + ·) (congrArg₂ (· * ·) ((sg_sub _).trans (congrArg sg (gate_apply x g u r j))) (proj_apply p w r j))

theorem stored6 (r : Fin 256) (k : Fin 1024) : out0_6 (F := Ideal) x p g u w (at2 r k) = normed (row x r) (row g 0) k := by
  unfold out0_6 k0_pay5
  rw [View.canon_unit_zero z2, View.ld_unit_zero (S := S256x1024) z2, View.ld_unit_zero (S := S1x1024) z2, shapeCast_self]
  exact normed_apply x g r k

theorem stored7 (r : Fin 256) (j : Fin 1024) : out0_7 (F := Ideal) x p g u w (at2 r j) = gate (row x r) (row g 0) (mat u) j := by
  unfold out0_7 k0_pay6
  rw [View.canon_unit_zero z2, View.ld_unit_zero (S := S256x1024) z2, View.ld_unit_zero (S := S1x1024) z2, View.ld_unit_zero (S := S1024x1024) z2, shapeCast_self]
  exact gate_apply x g u r j

theorem stored8 (r : Fin 256) (j : Fin 1024) : out0_8 (F := Ideal) x p g u w (at2 r j) = proj (row p r) (mat w) j := by
  unfold out0_8 k0_pay7
  rw [View.canon_unit_zero z2, View.ld_unit_zero (S := S256x256) z2, View.ld_unit_zero (S := S256x1024) z2, shapeCast_self]
  exact proj_apply p w r j
end

variable (m : (ℓ : Loc nD τ sig) → Buf (Elt Ideal) ℓ) (c : Dev nD) (X : Vec Ideal S2048x1024 .f32) (P : Vec Ideal S2048x256 .f32) (G : Vec Ideal S1x1024 .f32)
  (U : Vec Ideal S1024x1024 .bf16) (W : Vec Ideal S256x1024 .bf16)
  (hX : m ((c : Thread nD τ).loc main_arg0) = X) (hP : m ((c : Thread nD τ).loc main_arg1) = P) (hG : m ((c : Thread nD τ).loc main_arg2) = G)
  (hU : m ((c : Thread nD τ).loc main_arg3) = U) (hW : m ((c : Thread nD τ).loc main_arg4) = W)

theorem ixR : ∀ t : Fin grid0.N, (win0_0.index t 0 = t.val ∧ win0_0.index t 1 = 0) ∧ (win0_1.index t 0 = t.val ∧ win0_1.index t 1 = 0) := by decide +kernel
theorem ixW : ∀ t : Fin grid0.N, (win0_2.index t 0 = 0 ∧ win0_2.index t 1 = 0) ∧ (win0_3.index t 0 = 0 ∧ win0_3.index t 1 = 0)
    ∧ (win0_4.index t 0 = 0 ∧ win0_4.index t 1 = 0) := by decide +kernel
theorem ixO : ∀ t : Fin grid0.N, (win0_5.flush t = true ∧ win0_5.index t 0 = t.val ∧ win0_5.index t 1 = 0) ∧ (win0_6.flush t = true ∧ win0_6.index t 0 = t.val ∧ win0_6.index t 1 = 0)
    ∧ (win0_7.flush t = true ∧ win0_7.index t 0 = t.val ∧ win0_7.index t 1 = 0) ∧ (win0_8.flush t = true ∧ win0_8.index t 0 = t.val ∧ win0_8.index t 1 = 0) := by decide +kernel

section
variable (t : Fin cfg0.N) (R : Fin 2048) (r : Fin 256) (h : R.val = t.val * 256 + r.val)

include hX h in
theorem blk0 : row (iblk m c 0 t : Vec Ideal S256x1024 .f32) r = row X R := funext fun k => by
  obtain ⟨⟨e0, e1⟩, -⟩ := ixR t
  show (iblk m c 0 t : Vec Ideal S256x1024 .f32) (at2 r k) = X (at2 R k)
  unfold iblk
  rw [show V m c (Pipeline.arrRef spec0 0) = X from hX]
  refine congrArg X (funext fun a => ?_)
  match a with
  | ⟨0, _⟩ => apply Fin.ext; show win0_0.index t 0 * 256 + 1 * r.val = R.val; omega
  | ⟨1, _⟩ => apply Fin.ext; show win0_0.index t 1 * 1024 + 1 * k.val = k.val; omega

include hP h in
theorem blk1 : row (iblk m c 1 t : Vec Ideal S256x256 .f32) r = row P R := funext fun k => by
  obtain ⟨-, e0, e1⟩ := ixR t
  show (iblk m c 1 t : Vec Ideal S256x256 .f32) (at2 r k) = P (at2 R k)
  unfold iblk
  rw [show V m c (Pipeline.arrRef spec0 1) = P from hP]
  refine congrArg P (funext fun a => ?_)
  match a with
  | ⟨0, _⟩ => apply Fin.ext; show win0_1.index t 0 * 256 + 1 * r.val = R.val; omega
  | ⟨1, _⟩ => apply Fin.ext; show win0_1.index t 1 * 256 + 1 * k.val = k.val; omega

include hG in
theorem blk2 : row (iblk m c 2 t : Vec Ideal S1x1024 .f32) 0 = row G 0 := funext fun k => by
  obtain ⟨⟨e0, e1⟩, -⟩ := ixW t
  show (iblk m c 2 t : Vec Ideal S1x1024 .f32) (at2 0 k) = G (at2 0 k)
  unfold iblk
  rw [show V m c (Pipeline.arrRef spec0 2) = G from hG]
  refine congrArg G (funext fun a => ?_)
  match a with
  | ⟨0, _⟩ => apply Fin.ext; show win0_2.index t 0 * 1 + 1 * 0 = 0; omega
  | ⟨1, _⟩ => apply Fin.ext; show win0_2.index t 1 * 1024 + 1 * k.val = k.val; omega

include hU in
theorem blk3 : mat (iblk m c 3 t : Vec Ideal S1024x1024 .bf16) = mat U := funext fun j => funext fun k => by
  obtain ⟨-, ⟨e0, e1⟩, -⟩ := ixW t
  show (iblk m c 3 t : Vec Ideal S1024x1024 .bf16) (at2 j k) = U (at2 j k)
  unfold iblk
  rw [show V m c (Pipeline.arrRef spec0 3) = U from hU]
  refine congrArg U (funext fun a => ?_)
  match a with
  | ⟨0, _⟩ => apply Fin.ext; show win0_3.index t 0 * 1024 + 1 * j.val = j.val; omega
  | ⟨1, _⟩ => apply Fin.ext; show win0_3.index t 1 * 1024 + 1 * k.val = k.val; omega

include hW in
theorem blk4 : mat (iblk m c 4 t : Vec Ideal S256x1024 .bf16) = mat W := funext fun j => funext fun k => by
  obtain ⟨-, -, e0, e1⟩ := ixW t
  show (iblk m c 4 t : Vec Ideal S256x1024 .bf16) (at2 j k) = W (at2 j k)
  unfold iblk
  rw [show V m c (Pipeline.arrRef spec0 4) = W from hW]
  refine congrArg W (funext fun a => ?_)
  match a with
  | ⟨0, _⟩ => apply Fin.ext; show win0_4.index t 0 * 256 + 1 * j.val = j.val; omega
  | ⟨1, _⟩ => apply Fin.ext; show win0_4.index t 1 * 1024 + 1 * k.val = k.val; omega
end

/-- Two arrays agree if they agree at every row of every point of the grid. -/
theorem rows (a b : Shape.Idx ⟨2, ![2048, 1024]⟩ → EReal)
    (hab : ∀ (t : Fin cfg0.N) (R : Fin 2048) (r : Fin 256) (j : Fin 1024), R.val = t.val * 256 + r.val → a (at2 R j) = b (at2 R j)) : a = b := funext fun i => by
  rw [← at2_eta i]
  have hN : cfg0.N = 8 := N_0
  have hR : (i 0).val < 2048 := (i 0).isLt
  exact hab ⟨(i 0).val / 256, by omega⟩ (i 0) ⟨(i 0).val % 256, by omega⟩ (i 1) (by show (i 0).val = (i 0).val / 256 * 256 + (i 0).val % 256; omega)

/-! The reference. -/

open Cert.Reference20Ideal.Read

theorem ref_normed (R : Fin 2048) (k : Fin 1024) : val_main_v11 (F := Ideal) X G (at2 R k) = normed (row X R) (row G 0) k := by
  have e8 (d : Fin 1024) : idx_main_v1 (idx_main_v2 (idx_main_v8 (at2 R k))) d = at2 R d := funext fun a => by
    match a with
    | ⟨0, _⟩ => rfl
    | ⟨1, _⟩ => rfl
  have e10 : idx_main_v10 (at2 R k) = at2 0 k := funext fun a => by
    match a with
    | ⟨0, _⟩ => rfl
    | ⟨1, _⟩ => rfl
  rw [val_main_v11_apply, val_main_v9_apply, val_main_v8_apply, val_main_v7_apply, val_main_v6_apply, val_main_v4_apply, val_main_v2_apply,
    val_main_v1_apply, val_main_v3_apply, val_main_v5_apply, val_main_v10_apply, e10]
  refine congrArg (fun q : EReal => X (at2 R k) * Ideal.rsqrt (Ideal.div q width + small) * G (at2 0 k)) ?_
  refine (congrArg₂ (· + ·) (show _ = (0 : EReal) from ?_) (Finset.sum_congr rfl fun d _ => ?_)).trans (zero_add _)
  · show Ideal.ofBits .f32 0x00000000#32 = 0
    simp [Ideal.ofBits, Ideal.ieee]
  · rw [val_main_v0_apply, e8]
    rfl

theorem ref_gate (R : Fin 2048) (j : Fin 1024) : val_main_v13 (F := Ideal) X G U (at2 R j) = gate (row X R) (row G 0) (mat U) j := by
  rw [val_main_v13_apply]
  refine Finset.sum_congr rfl fun k _ => ?_
  rw [val_main_v12_apply, show lidx_main_v13 (at2 R j) k = at2 R k from funext fun a => by
    match a with
    | ⟨0, _⟩ => rfl
    | ⟨1, _⟩ => rfl, ref_normed]
  refine congrArg (normed (row X R) (row G 0) k * ·) (congrArg U (funext fun a => ?_))
  match a with
  | ⟨0, _⟩ => rfl
  | ⟨1, _⟩ => rfl

theorem ref_proj (R : Fin 2048) (j : Fin 1024) : val_main_v15 (F := Ideal) P W (at2 R j) = proj (row P R) (mat W) j := by
  rw [val_main_v15_apply]
  refine Finset.sum_congr rfl fun i _ => ?_
  rw [val_main_v14_apply]
  refine congrArg₂ (· * ·) (congrArg P (funext fun a => ?_)) (congrArg W (funext fun a => ?_))
  · match a with
    | ⟨0, _⟩ => rfl
    | ⟨1, _⟩ => rfl
  · match a with
    | ⟨0, _⟩ => rfl
    | ⟨1, _⟩ => rfl

theorem ref_out (R : Fin 2048) (j : Fin 1024) : val_main_v23 (F := Ideal) X P G U W (at2 R j) = out (row X R) (row G 0) (row P R) (mat U) (mat W) j := by
  rw [val_main_v23_apply, val_main_v22_apply, ref_proj, val_main_v21_apply, val_main_v19_apply, val_main_v17_apply, val_main_v16_apply, ref_gate]
  exact congrArg (X (at2 R j) + ·) (congrArg (· * proj (row P R) (mat W) j) (sg_host _ _ _ (val_main_v20_apply _) (val_main_v18_apply _)))

/-! The four results. -/

include hX hP hG hU hW in
theorem same5 : ((dats m 0 c).arrAt 5 cfg0.N : Vec Ideal S2048x1024 .f32) = val_main_v23 (F := Ideal) X P G U W := rows _ _ fun t R r j h => by
  obtain ⟨⟨hf, e0, e1⟩, -⟩ := ixO t
  rw [ref_out]
  have e : ((cfg0.win 5).blk t).view.emb (at2 (n0 := 256) (n1 := 1024) r j) = at2 R j := funext fun a => by
    match a with
    | ⟨0, _⟩ => apply Fin.ext; show win0_5.index t 0 * 256 + 1 * r.val = R.val; omega
    | ⟨1, _⟩ => apply Fin.ext; show win0_5.index t 1 * 1024 + 1 * j.val = j.val; omega
  rw [← e]
  refine (congrFun (blocks5 m c t hf) (at2 (n0 := 256) (n1 := 1024) r j)).trans ?_
  rw [flushed5]
  refine (stored5 (iblk m c 0 t) (iblk m c 1 t) (iblk m c 2 t) (iblk m c 3 t) (iblk m c 4 t) r j).trans ?_
  rw [blk0 m c X hX t R r h, blk1 m c P hP t R r h, blk2 m c G hG t, blk3 m c U hU t, blk4 m c W hW t]

include hX hG in
theorem same6 : ((dats m 0 c).arrAt 6 cfg0.N : Vec Ideal S2048x1024 .bf16) = val_main_v24 (F := Ideal) X G := rows _ _ fun t R r j h => by
  obtain ⟨-, ⟨hf, e0, e1⟩, -⟩ := ixO t
  rw [val_main_v24_apply, ref_normed]
  have e : ((cfg0.win 6).blk t).view.emb (at2 (n0 := 256) (n1 := 1024) r j) = at2 R j := funext fun a => by
    match a with
    | ⟨0, _⟩ => apply Fin.ext; show win0_6.index t 0 * 256 + 1 * r.val = R.val; omega
    | ⟨1, _⟩ => apply Fin.ext; show win0_6.index t 1 * 1024 + 1 * j.val = j.val; omega
  rw [← e]
  refine (congrFun (blocks6 m c t hf) (at2 (n0 := 256) (n1 := 1024) r j)).trans ?_
  rw [flushed6]
  refine (stored6 (iblk m c 0 t) (iblk m c 1 t) (iblk m c 2 t) (iblk m c 3 t) (iblk m c 4 t) r j).trans ?_
  rw [blk0 m c X hX t R r h, blk2 m c G hG t]
  rfl

include hX hG hU in
theorem same7 : ((dats m 0 c).arrAt 7 cfg0.N : Vec Ideal S2048x1024 .f32) = val_main_v13 (F := Ideal) X G U := rows _ _ fun t R r j h => by
  obtain ⟨-, -, ⟨hf, e0, e1⟩, -⟩ := ixO t
  rw [ref_gate]
  have e : ((cfg0.win 7).blk t).view.emb (at2 (n0 := 256) (n1 := 1024) r j) = at2 R j := funext fun a => by
    match a with
    | ⟨0, _⟩ => apply Fin.ext; show win0_7.index t 0 * 256 + 1 * r.val = R.val; omega
    | ⟨1, _⟩ => apply Fin.ext; show win0_7.index t 1 * 1024 + 1 * j.val = j.val; omega
  rw [← e]
  refine (congrFun (blocks7 m c t hf) (at2 (n0 := 256) (n1 := 1024) r j)).trans ?_
  rw [flushed7]
  refine (stored7 (iblk m c 0 t) (iblk m c 1 t) (iblk m c 2 t) (iblk m c 3 t) (iblk m c 4 t) r j).trans ?_
  rw [blk0 m c X hX t R r h, blk2 m c G hG t, blk3 m c U hU t]

include hP hW in
theorem same8 : ((dats m 0 c).arrAt 8 cfg0.N : Vec Ideal S2048x1024 .f32) = val_main_v15 (F := Ideal) P W := rows _ _ fun t R r j h => by
  obtain ⟨-, -, -, hf, e0, e1⟩ := ixO t
  rw [ref_proj]
  have e : ((cfg0.win 8).blk t).view.emb (at2 (n0 := 256) (n1 := 1024) r j) = at2 R j := funext fun a => by
    match a with
    | ⟨0, _⟩ => apply Fin.ext; show win0_8.index t 0 * 256 + 1 * r.val = R.val; omega
    | ⟨1, _⟩ => apply Fin.ext; show win0_8.index t 1 * 1024 + 1 * j.val = j.val; omega
  rw [← e]
  refine (congrFun (blocks8 m c t hf) (at2 (n0 := 256) (n1 := 1024) r j)).trans ?_
  rw [flushed8]
  refine (stored8 (iblk m c 0 t) (iblk m c 1 t) (iblk m c 2 t) (iblk m c 3 t) (iblk m c 4 t) r j).trans ?_
  rw [blk1 m c P hP t R r h, blk4 m c W hW t]

end Cert.Kernel20Ideal.Val

end
-- ==== Proof.Dple.lean ====
/- The gradient through the per-layer gate and the norm before it: what the call's row blocks leave, and the reference's arrays. -/
module

public import proofs.«01_k».proof.Proof.Gen.Kernel21Ideal.Value
public import proofs.«01_k».proof.Proof.Gen.Reference21Ideal.Read
public import proofs.«01_k».proof.Proof.Gate
public import proofs.«01_k».proof.Proof.Rms
public import Idealize.ShloMosaic.Lib.Pointwise
public import Idealize.ShloMosaic.Lib.Pointwise.Tactic

@[expose] public section

set_option maxRecDepth 16384
set_option backward.isDefEq.respectTransparency false

noncomputable section

namespace Cert.Kernel21Ideal.Val

open Idealize.ShloMosaic Idealize.ShloMosaic.TcCoe Idealize.ShloMosaic.Tactic
open Cert.Kernel21Ideal.Gen Cert.Kernel21Ideal.Value Cert.Sums Cert.Gate Cert.Rms

section
variable {F : FTy → Type} [FloatOps F]
variable (c : Dev nD) (i : grid0.Coords)
  (a1 : Memref sig .tc .vmem S256x1024 .f32) (h1 : a1.IsWhole) (a2 : Memref sig .tc .vmem S256x1024 .f32) (h2 : a2.IsWhole) (a3 : Memref sig .tc .vmem S1x1024 .f32) (h3 : a3.IsWhole)
  (a4 : Memref sig .tc .vmem S256x1024 .f32) (h4 : a4.IsWhole) (a5 : Memref sig .tc .vmem S256x1024 .f32) (h5 : a5.IsWhole) (a6 : Memref sig .tc .vmem S1024x1024 .bf16) (h6 : a6.IsWhole)
  (a7 : Memref sig .tc .vmem S256x1024 .f32) (h7 : a7.IsWhole) (a8 : Memref sig .tc .vmem S256x1024 .bf16) (h8 : a8.IsWhole) (a9 : Memref sig .tc .vmem S256x1024 .bf16) (h9 : a9.IsWhole)
  (a10 : Memref sig .tc .vmem S1x1024 .f32) (h10 : a10.IsWhole)
  (d h : Vec F S256x1024 .f32) (g : Vec F S1x1024 .f32) (z p : Vec F S256x1024 .f32) (w : Vec F S1024x1024 .bf16) (s : Vec F S1x1024 .f32)

/-- Every row block stores its rows' three gradients. -/
theorem rowsA (hc0 : cond0_0 i) (hc1 : ¬cond0_1 i) : out0_A_6 c i a1 h1 a2 h2 a3 h3 a4 h4 a5 h5 a6 h6 a7 h7 a8 h8 a9 h9 a10 h10 hc0 hc1 d h g z p w = k0_pay4 d (k0_pay11 d z p w) h g (k0_pay12 h) (Scalar.ofBits .f32 0x358637BD#32) := by
  unfold out0_A_6
  rw [View.read_writes_eq_canon _ _ _ (cover0_A_6 c i a1 h1 a2 h2 a3 h3 a4 h4 a5 h5 a6 h6 a7 h7 a8 h8 a9 h9 a10 h10 hc0 hc1 d h g z p w)]
  unfold kernelRun0_A
  dsimp only
  sl_unfold_words
  rw [View.canon_unit_zero z2]
  simp only [View.readAt_eq_ld, h1.read_unread, h2.read_unread, h3.read_unread, h4.read_unread, h5.read_unread, h6.read_unread, View.ld_unit_zero (S := S256x1024) z2, View.ld_unit_zero (S := S1x1024) z2, View.ld_unit_zero (S := S1024x1024) z2]

theorem rowsB (hc0 : ¬cond0_0 i) (hc1 : cond0_1 i) : out0_B_6 c i a1 h1 a2 h2 a3 h3 a4 h4 a5 h5 a6 h6 a7 h7 a8 h8 a9 h9 a10 h10 hc0 hc1 d h g z p w s = k0_pay4 d (k0_pay11 d z p w) h g (k0_pay12 h) (Scalar.ofBits .f32 0x358637BD#32) := by
  unfold out0_B_6
  rw [View.read_writes_eq_canon _ _ _ (cover0_B_6 c i a1 h1 a2 h2 a3 h3 a4 h4 a5 h5 a6 h6 a7 h7 a8 h8 a9 h9 a10 h10 hc0 hc1 d h g z p w s)]
  unfold kernelRun0_B
  dsimp only
  sl_unfold_words
  rw [View.canon_unit_zero z2]
  simp only [View.readAt_eq_ld, h1.read_unread, h2.read_unread, h3.read_unread, h4.read_unread, h5.read_unread, h6.read_unread, h10.read_unread, View.ld_unit_zero (S := S256x1024) z2, View.ld_unit_zero (S := S1x1024) z2, View.ld_unit_zero (S := S1024x1024) z2]

theorem innerA (hc0 : cond0_0 i) (hc1 : ¬cond0_1 i) : out0_A_7 c i a1 h1 a2 h2 a3 h3 a4 h4 a5 h5 a6 h6 a7 h7 a8 h8 a9 h9 a10 h10 hc0 hc1 d h g z p w = k0_pay9 d z p := by
  unfold out0_A_7
  rw [View.read_writes_eq_canon _ _ _ (cover0_A_7 c i a1 h1 a2 h2 a3 h3 a4 h4 a5 h5 a6 h6 a7 h7 a8 h8 a9 h9 a10 h10 hc0 hc1 d h g z p w)]
  unfold kernelRun0_A
  dsimp only
  sl_unfold_words
  rw [View.canon_unit_zero z2]
  simp only [View.readAt_eq_ld, h1.read_unread, h2.read_unread, h3.read_unread, h4.read_unread, h5.read_unread, h6.read_unread, View.ld_unit_zero (S := S256x1024) z2, View.ld_unit_zero (S := S1x1024) z2, View.ld_unit_zero (S := S1024x1024) z2]

theorem innerB (hc0 : ¬cond0_0 i) (hc1 : cond0_1 i) : out0_B_7 c i a1 h1 a2 h2 a3 h3 a4 h4 a5 h5 a6 h6 a7 h7 a8 h8 a9 h9 a10 h10 hc0 hc1 d h g z p w s = k0_pay9 d z p := by
  unfold out0_B_7
  rw [View.read_writes_eq_canon _ _ _ (cover0_B_7 c i a1 h1 a2 h2 a3 h3 a4 h4 a5 h5 a6 h6 a7 h7 a8 h8 a9 h9 a10 h10 hc0 hc1 d h g z p w s)]
  unfold kernelRun0_B
  dsimp only
  sl_unfold_words
  rw [View.canon_unit_zero z2]
  simp only [View.readAt_eq_ld, h1.read_unread, h2.read_unread, h3.read_unread, h4.read_unread, h5.read_unread, h6.read_unread, h10.read_unread, View.ld_unit_zero (S := S256x1024) z2, View.ld_unit_zero (S := S1x1024) z2, View.ld_unit_zero (S := S1024x1024) z2]

theorem outerA (hc0 : cond0_0 i) (hc1 : ¬cond0_1 i) : out0_A_8 c i a1 h1 a2 h2 a3 h3 a4 h4 a5 h5 a6 h6 a7 h7 a8 h8 a9 h9 a10 h10 hc0 hc1 d h g z p w = k0_pay10 d z := by
  unfold out0_A_8
  rw [View.read_writes_eq_canon _ _ _ (cover0_A_8 c i a1 h1 a2 h2 a3 h3 a4 h4 a5 h5 a6 h6 a7 h7 a8 h8 a9 h9 a10 h10 hc0 hc1 d h g z p w)]
  unfold kernelRun0_A
  dsimp only
  sl_unfold_words
  rw [View.canon_unit_zero z2]
  simp only [View.readAt_eq_ld, h1.read_unread, h2.read_unread, h3.read_unread, h4.read_unread, h5.read_unread, h6.read_unread, View.ld_unit_zero (S := S256x1024) z2, View.ld_unit_zero (S := S1x1024) z2, View.ld_unit_zero (S := S1024x1024) z2]

theorem outerB (hc0 : ¬cond0_0 i) (hc1 : cond0_1 i) : out0_B_8 c i a1 h1 a2 h2 a3 h3 a4 h4 a5 h5 a6 h6 a7 h7 a8 h8 a9 h9 a10 h10 hc0 hc1 d h g z p w s = k0_pay10 d z := by
  unfold out0_B_8
  rw [View.read_writes_eq_canon _ _ _ (cover0_B_8 c i a1 h1 a2 h2 a3 h3 a4 h4 a5 h5 a6 h6 a7 h7 a8 h8 a9 h9 a10 h10 hc0 hc1 d h g z p w s)]
  unfold kernelRun0_B
  dsimp only
  sl_unfold_words
  rw [View.canon_unit_zero z2]
  simp only [View.readAt_eq_ld, h1.read_unread, h2.read_unread, h3.read_unread, h4.read_unread, h5.read_unread, h6.read_unread, h10.read_unread, View.ld_unit_zero (S := S256x1024) z2, View.ld_unit_zero (S := S1x1024) z2, View.ld_unit_zero (S := S1024x1024) z2]

/-- The first row block starts the gain's gradient, and a further one adds to it. -/
theorem gainA (hc0 : cond0_0 i) (hc1 : ¬cond0_1 i) : out0_A_9 c i a1 h1 a2 h2 a3 h3 a4 h4 a5 h5 a6 h6 a7 h7 a8 h8 a9 h9 a10 h10 hc0 hc1 d h g z p w = k0_pay5 (k0_pay11 d z p w) h (k0_pay12 h) (Scalar.ofBits .f32 0x358637BD#32) := by
  unfold out0_A_9
  rw [View.read_writes_eq_canon _ _ _ (cover0_A_9 c i a1 h1 a2 h2 a3 h3 a4 h4 a5 h5 a6 h6 a7 h7 a8 h8 a9 h9 a10 h10 hc0 hc1 d h g z p w)]
  unfold kernelRun0_A
  dsimp only
  sl_unfold_words
  rw [View.canon_unit_zero z2]
  simp only [View.readAt_eq_ld, h1.read_unread, h2.read_unread, h3.read_unread, h4.read_unread, h5.read_unread, h6.read_unread, View.ld_unit_zero (S := S256x1024) z2, View.ld_unit_zero (S := S1x1024) z2, View.ld_unit_zero (S := S1024x1024) z2]

theorem gainB (hc0 : ¬cond0_0 i) (hc1 : cond0_1 i) : out0_B_9 c i a1 h1 a2 h2 a3 h3 a4 h4 a5 h5 a6 h6 a7 h7 a8 h8 a9 h9 a10 h10 hc0 hc1 d h g z p w s = k0_pay6 (k0_pay11 d z p w) h (k0_pay12 h) (Scalar.ofBits .f32 0x358637BD#32) s := by
  unfold out0_B_9
  rw [View.read_writes_eq_canon _ _ _ (cover0_B_9 c i a1 h1 a2 h2 a3 h3 a4 h4 a5 h5 a6 h6 a7 h7 a8 h8 a9 h9 a10 h10 hc0 hc1 d h g z p w s)]
  unfold kernelRun0_B
  dsimp only
  sl_unfold_words
  rw [View.canon_unit_zero z2]
  simp only [View.readAt_eq_ld, h1.read_unread, h2.read_unread, h3.read_unread, h4.read_unread, h5.read_unread, h6.read_unread, h10.read_unread, View.ld_unit_zero (S := S256x1024) z2, View.ld_unit_zero (S := S1x1024) z2, View.ld_unit_zero (S := S1024x1024) z2]
end

/-! Over the reals, one row: `d` the gradient that comes in, `z` the gate's input, `p` the projection, `w` the gate's weight. -/

def back (d z p : Fin 1024 → EReal) (k : Fin 1024) : EReal := d k * p k * (sg (z k) * (1 - sg (z k)))
def prod (d z p : Fin 1024 → EReal) (w : Fin 1024 → Fin 1024 → EReal) (k : Fin 1024) : EReal := ∑ j, back d z p j * w k j

section
variable (d h : Vec Ideal S256x1024 .f32) (g : Vec Ideal S1x1024 .f32) (z p : Vec Ideal S256x1024 .f32) (w : Vec Ideal S1024x1024 .bf16)

theorem sg_apply (r : Fin 256) (k : Fin 1024) : k0_pay7 (F := Ideal) z (at2 r k) = sg (z (at2 r k)) := by
  unfold k0_pay7
  pointwise
  exact sg_sub _

theorem back_apply (r : Fin 256) (k : Fin 1024) : k0_pay8 (F := Ideal) d z p (at2 r k) = back (row d r) (row z r) (row p r) k := by
  unfold k0_pay8
  generalize hq : k0_pay7 (F := Ideal) z = q
  pointwise
  subst hq
  rw [sg_apply]
  exact mul_assoc _ _ _

theorem outer_apply (r : Fin 256) (k : Fin 1024) : k0_pay10 (F := Ideal) d z (at2 r k) = sg (z (at2 r k)) * d (at2 r k) := by
  unfold k0_pay10
  generalize hq : k0_pay7 (F := Ideal) z = q
  pointwise
  subst hq
  rw [sg_apply]
  exact mul_comm _ _

theorem prod_apply (r : Fin 256) (k : Fin 1024) : k0_pay11 (F := Ideal) d z p w (at2 r k) = prod (row d r) (row z r) (row p r) (mat w) k := by
  unfold k0_pay11
  generalize hq : k0_pay8 (F := Ideal) d z p = q
  pointwise [dot_S256x1024_S1024x1024_S256x1024_1_1_0_0_n_n]
  subst hq
  exact Finset.sum_congr rfl fun j _ => congrArg (· * w (at2 k j)) (back_apply d z p r j)

theorem scale_apply (r : Fin 256) (o : Fin 1) : k0_pay1 (F := Ideal) (k0_pay12 h) (Scalar.ofBits .f32 0x358637BD#32) (at2 r o) = scale (row h r) := by
  unfold k0_pay1 k0_pay12
  pointwise
  rfl

theorem normed_apply (r : Fin 256) (k : Fin 1024) :
    k0_pay2 (F := Ideal) h (k0_pay12 h) (Scalar.ofBits .f32 0x358637BD#32) (at2 r k) = h (at2 r k) * scale (row h r) := by
  unfold k0_pay2
  generalize hp : k0_pay1 (F := Ideal) (k0_pay12 h) (Scalar.ofBits .f32 0x358637BD#32) = q
  pointwise
  rw [← hp]
  exact congrArg (h (at2 r k) * ·) (scale_apply h r 0)

theorem gain_apply (k : Fin 1024) : k0_pay3 (F := Ideal) (k0_pay11 d z p w) h (k0_pay12 h) (Scalar.ofBits .f32 0x358637BD#32) (at2 0 k)
    = ∑ r : Fin 256, prod (row d r) (row z r) (row p r) (mat w) k * (h (at2 r k) * scale (row h r)) := by
  unfold k0_pay3
  generalize hp : k0_pay11 (F := Ideal) d z p w = a
  generalize hq : k0_pay2 (F := Ideal) h (k0_pay12 h) (Scalar.ofBits .f32 0x358637BD#32) = b
  pointwise
  subst hp hq
  exact Finset.sum_congr rfl fun r _ => congrArg₂ (· * ·) (prod_apply d z p w r k) (normed_apply h r k)

theorem rows_apply (r : Fin 256) (k : Fin 1024) : k0_pay4 (F := Ideal) d (k0_pay11 d z p w) h g (k0_pay12 h) (Scalar.ofBits .f32 0x358637BD#32) (at2 r k)
    = closed (row h r) (fun j => prod (row d r) (row z r) (row p r) (mat w) j * g (at2 0 j)) (d (at2 r k)) k := by
  unfold k0_pay4
  generalize hp : k0_pay11 (F := Ideal) d z p w = a
  generalize hq : k0_pay2 (F := Ideal) h (k0_pay12 h) (Scalar.ofBits .f32 0x358637BD#32) = b
  generalize hs : k0_pay1 (F := Ideal) (k0_pay12 h) (Scalar.ofBits .f32 0x358637BD#32) = s
  pointwise
  subst hp hq hs
  unfold closed
  refine congrArg₂ (· + ·) rfl (congrArg₂ (· * ·) (scale_apply h r 0) (congrArg₂ (· - ·) (congrArg₂ (· * ·) (prod_apply d z p w r k) rfl) (congrArg₂ (· * ·) (normed_apply h r k)
    (congrArg (Ideal.div · width) (Finset.sum_congr rfl fun j _ => congrArg₂ (· * ·) (congrArg₂ (· * ·) (prod_apply d z p w r j) rfl) (normed_apply h r j))))))
end

variable (m : (ℓ : Loc nD τ sig) → Buf (Elt Ideal) ℓ) (c : Dev nD) (D H : Vec Ideal S2048x1024 .f32) (G : Vec Ideal S1x1024 .f32) (Z P : Vec Ideal S2048x1024 .f32)
  (W : Vec Ideal S1024x1024 .bf16)
  (hD : m ((c : Thread nD τ).loc main_arg0) = D) (hH : m ((c : Thread nD τ).loc main_arg1) = H) (hG : m ((c : Thread nD τ).loc main_arg2) = G)
  (hZ : m ((c : Thread nD τ).loc main_arg3) = Z) (hP : m ((c : Thread nD τ).loc main_arg4) = P) (hW : m ((c : Thread nD τ).loc main_arg5) = W)

theorem ixR : ∀ t : Fin grid0.N, (win0_0.index t 0 = t.val ∧ win0_0.index t 1 = 0) ∧ (win0_1.index t 0 = t.val ∧ win0_1.index t 1 = 0)
    ∧ (win0_3.index t 0 = t.val ∧ win0_3.index t 1 = 0) ∧ (win0_4.index t 0 = t.val ∧ win0_4.index t 1 = 0) := by decide +kernel
theorem ixW : ∀ t : Fin grid0.N, (win0_2.index t 0 = 0 ∧ win0_2.index t 1 = 0) ∧ (win0_5.index t 0 = 0 ∧ win0_5.index t 1 = 0) := by decide +kernel
theorem ixO : ∀ t : Fin grid0.N, (win0_6.flush t = true ∧ win0_6.index t 0 = t.val ∧ win0_6.index t 1 = 0) ∧ (win0_7.flush t = true ∧ win0_7.index t 0 = t.val ∧ win0_7.index t 1 = 0)
    ∧ (win0_8.flush t = true ∧ win0_8.index t 0 = t.val ∧ win0_8.index t 1 = 0) := by decide +kernel
theorem ix9 : ∀ t : Fin grid0.N, (win0_9.flush t = true ↔ t.val = 7) ∧ win0_9.index t 0 = 0 ∧ win0_9.index t 1 = 0 := by decide +kernel

section
variable (t : Fin cfg0.N) (R : Fin 2048) (r : Fin 256) (h : R.val = t.val * 256 + r.val)

include hD h in
theorem blk0 : row (iblk m c 0 t : Vec Ideal S256x1024 .f32) r = row D R := funext fun k => by
  obtain ⟨⟨e0, e1⟩, -⟩ := ixR t
  show (iblk m c 0 t : Vec Ideal S256x1024 .f32) (at2 r k) = D (at2 R k)
  unfold iblk
  rw [show V m c (Pipeline.arrRef spec0 0) = D from hD]
  refine congrArg D (funext fun a => ?_)
  match a with
  | ⟨0, _⟩ => apply Fin.ext; show win0_0.index t 0 * 256 + 1 * r.val = R.val; omega
  | ⟨1, _⟩ => apply Fin.ext; show win0_0.index t 1 * 1024 + 1 * k.val = k.val; omega

include hH h in
theorem blk1 : row (iblk m c 1 t : Vec Ideal S256x1024 .f32) r = row H R := funext fun k => by
  obtain ⟨-, ⟨e0, e1⟩, -⟩ := ixR t
  show (iblk m c 1 t : Vec Ideal S256x1024 .f32) (at2 r k) = H (at2 R k)
  unfold iblk
  rw [show V m c (Pipeline.arrRef spec0 1) = H from hH]
  refine congrArg H (funext fun a => ?_)
  match a with
  | ⟨0, _⟩ => apply Fin.ext; show win0_1.index t 0 * 256 + 1 * r.val = R.val; omega
  | ⟨1, _⟩ => apply Fin.ext; show win0_1.index t 1 * 1024 + 1 * k.val = k.val; omega

include hZ h in
theorem blk3 : row (iblk m c 3 t : Vec Ideal S256x1024 .f32) r = row Z R := funext fun k => by
  obtain ⟨-, -, ⟨e0, e1⟩, -⟩ := ixR t
  show (iblk m c 3 t : Vec Ideal S256x1024 .f32) (at2 r k) = Z (at2 R k)
  unfold iblk
  rw [show V m c (Pipeline.arrRef spec0 3) = Z from hZ]
  refine congrArg Z (funext fun a => ?_)
  match a with
  | ⟨0, _⟩ => apply Fin.ext; show win0_3.index t 0 * 256 + 1 * r.val = R.val; omega
  | ⟨1, _⟩ => apply Fin.ext; show win0_3.index t 1 * 1024 + 1 * k.val = k.val; omega

include hP h in
theorem blk4 : row (iblk m c 4 t : Vec Ideal S256x1024 .f32) r = row P R := funext fun k => by
  obtain ⟨-, -, -, e0, e1⟩ := ixR t
  show (iblk m c 4 t : Vec Ideal S256x1024 .f32) (at2 r k) = P (at2 R k)
  unfold iblk
  rw [show V m c (Pipeline.arrRef spec0 4) = P from hP]
  refine congrArg P (funext fun a => ?_)
  match a with
  | ⟨0, _⟩ => apply Fin.ext; show win0_4.index t 0 * 256 + 1 * r.val = R.val; omega
  | ⟨1, _⟩ => apply Fin.ext; show win0_4.index t 1 * 1024 + 1 * k.val = k.val; omega

include hG in
theorem blk2 (k : Fin 1024) : (iblk m c 2 t : Vec Ideal S1x1024 .f32) (at2 0 k) = G (at2 0 k) := by
  obtain ⟨⟨e0, e1⟩, -⟩ := ixW t
  unfold iblk
  rw [show V m c (Pipeline.arrRef spec0 2) = G from hG]
  refine congrArg G (funext fun a => ?_)
  match a with
  | ⟨0, _⟩ => apply Fin.ext; show win0_2.index t 0 * 1 + 1 * 0 = 0; omega
  | ⟨1, _⟩ => apply Fin.ext; show win0_2.index t 1 * 1024 + 1 * k.val = k.val; omega

include hW in
theorem blk5 : mat (iblk m c 5 t : Vec Ideal S1024x1024 .bf16) = mat W := funext fun j => funext fun k => by
  obtain ⟨-, e0, e1⟩ := ixW t
  show (iblk m c 5 t : Vec Ideal S1024x1024 .bf16) (at2 j k) = W (at2 j k)
  unfold iblk
  rw [show V m c (Pipeline.arrRef spec0 5) = W from hW]
  refine congrArg W (funext fun a => ?_)
  match a with
  | ⟨0, _⟩ => apply Fin.ext; show win0_5.index t 0 * 1024 + 1 * j.val = j.val; omega
  | ⟨1, _⟩ => apply Fin.ext; show win0_5.index t 1 * 1024 + 1 * k.val = k.val; omega
end

/-- Two arrays agree if they agree at every row of every point of the grid. -/
theorem rows (a b : Shape.Idx ⟨2, ![2048, 1024]⟩ → EReal)
    (hab : ∀ (t : Fin cfg0.N) (R : Fin 2048) (r : Fin 256) (j : Fin 1024), R.val = t.val * 256 + r.val → a (at2 R j) = b (at2 R j)) : a = b := funext fun i => by
  rw [← at2_eta i]
  have hN : cfg0.N = 8 := N_0
  have hR : (i 0).val < 2048 := (i 0).isLt
  exact hab ⟨(i 0).val / 256, by omega⟩ (i 0) ⟨(i 0).val % 256, by omega⟩ (i 1) (by show (i 0).val = (i 0).val / 256 * 256 + (i 0).val % 256; omega)

/-- The whole product at a place, and a row's term of the gain's gradient. -/
def whole (R : Fin 2048) : Fin 1024 → EReal := prod (row D R) (row Z R) (row P R) (mat W)
def term (k : Fin 1024) (R : Fin 2048) : EReal := whole D Z P W R k * (H (at2 R k) * scale (row H R))

/-- What every point leaves in the rows' blocks. -/
theorem rows_left (t : Fin cfg0.N) :
    (outsAt0 m c t.val t.isLt).1 = k0_pay4 (F := Ideal) (iblk m c 0 t) (k0_pay11 (iblk m c 0 t) (iblk m c 3 t) (iblk m c 4 t) (iblk m c 5 t)) (iblk m c 1 t) (iblk m c 2 t)
      (k0_pay12 (iblk m c 1 t)) (Scalar.ofBits .f32 0x358637BD#32)
    ∧ (outsAt0 m c t.val t.isLt).2.1 = k0_pay9 (F := Ideal) (iblk m c 0 t) (iblk m c 3 t) (iblk m c 4 t)
    ∧ (outsAt0 m c t.val t.isLt).2.2.1 = k0_pay10 (F := Ideal) (iblk m c 0 t) (iblk m c 3 t) := by
  have hN : cfg0.N = 8 := N_0
  have ht := t.isLt
  by_cases h0 : t.val % 8 = 0
  · rw [outsAt0_A m c t h0 (by omega)]
    dsimp only
    rw [rowsA, innerA, outerA]
    exact ⟨rfl, rfl, rfl⟩
  · rw [outsAt0_B m c t h0 (by omega)]
    dsimp only
    rw [rowsB, innerB, outerB]
    exact ⟨rfl, rfl, rfl⟩

include hD hH hZ hP hW in
theorem gain_part (n : ℕ) (hn : n < cfg0.N) (k : Fin 1024) :
    k0_pay3 (F := Ideal) (k0_pay11 (iblk m c 0 ⟨n, hn⟩) (iblk m c 3 ⟨n, hn⟩) (iblk m c 4 ⟨n, hn⟩) (iblk m c 5 ⟨n, hn⟩)) (iblk m c 1 ⟨n, hn⟩) (k0_pay12 (iblk m c 1 ⟨n, hn⟩))
        (Scalar.ofBits .f32 0x358637BD#32) (at2 0 k)
      = ∑ r : Fin 256, term D H Z P W k ⟨n * 256 + r.val, by have hN : cfg0.N = 8 := N_0; omega⟩ := by
  refine (gain_apply (iblk m c 0 ⟨n, hn⟩) (iblk m c 1 ⟨n, hn⟩) (iblk m c 3 ⟨n, hn⟩) (iblk m c 4 ⟨n, hn⟩) (iblk m c 5 ⟨n, hn⟩) k).trans (Finset.sum_congr rfl fun r _ => ?_)
  have hr : n * 256 + r.val < 2048 := by have hN : cfg0.N = 8 := N_0; omega
  rw [blk0 m c D hD ⟨n, hn⟩ ⟨n * 256 + r.val, hr⟩ r rfl, blk1 m c H hH ⟨n, hn⟩ ⟨n * 256 + r.val, hr⟩ r rfl, blk3 m c Z hZ ⟨n, hn⟩ ⟨n * 256 + r.val, hr⟩ r rfl,
    blk4 m c P hP ⟨n, hn⟩ ⟨n * 256 + r.val, hr⟩ r rfl, blk5 m c W hW ⟨n, hn⟩]
  exact congrArg (fun q : EReal => _ * (q * _)) (congrFun (blk1 m c H hH ⟨n, hn⟩ ⟨n * 256 + r.val, hr⟩ r rfl) k)

include hD hH hZ hP hW in
/-- The gain's gradient after each row block: the terms of the rows so far. -/
theorem gain_left (k : Fin 1024) : ∀ (n : ℕ) (hn : n < cfg0.N),
    (outsAt0 m c n hn).2.2.2 (at2 0 k) = ∑ b : Fin (n + 1), ∑ r : Fin 256, term D H Z P W k ⟨b.val * 256 + r.val, by have hN : cfg0.N = 8 := N_0; omega⟩
  | 0, hn => by
    rw [show outsAt0 m c 0 hn = _ from outsAt0_A m c ⟨0, hn⟩ (by show 0 % 8 = 0; omega) (by show ¬1 ≤ 0; omega)]
    dsimp only
    rw [gainA, Fin.sum_univ_one]
    refine Eq.trans ?_ (gain_part m c D H Z P W hD hH hZ hP hW 0 hn k)
    unfold k0_pay5
    simp only [shapeCast_self]
  | n + 1, hn => by
    have hN : cfg0.N = 8 := N_0
    rw [show outsAt0 m c (n + 1) hn = _ from outsAt0_B m c ⟨n + 1, hn⟩ (by show ¬(n + 1) % 8 = 0; omega) (by show 1 ≤ n + 1; omega)]
    dsimp only
    rw [gainB, Fin.sum_univ_castSucc]
    refine Eq.trans ?_ (congrArg₂ (· + ·) (gain_left k n (by omega)) (gain_part m c D H Z P W hD hH hZ hP hW (n + 1) hn k))
    unfold k0_pay6
    simp only [shapeCast_self]
    rfl

include hD hH hZ hP hW in
/-- Each place of the last array the call leaves. -/
theorem entry_gain (k : Fin 1024) : ((dats m 0 c).arrAt 9 cfg0.N : Vec Ideal S1x1024 .f32) (at2 0 k) = ∑ R : Fin 2048, term D H Z P W k R := by
  have hN : cfg0.N = 8 := N_0
  let t : Fin cfg0.N := ⟨7, by omega⟩
  obtain ⟨hf, e0, e1⟩ := ix9 t
  have e : ((cfg0.win 9).blk t).view.emb (at2 (n0 := 1) (n1 := 1024) 0 k) = at2 0 k := funext fun a => by
    match a with
    | ⟨0, _⟩ => apply Fin.ext; show win0_9.index t 0 * 1 + 1 * 0 = 0; omega
    | ⟨1, _⟩ => apply Fin.ext; show win0_9.index t 1 * 1024 + 1 * k.val = k.val; omega
  rw [← e]
  refine (congrFun ((dats m 0 c).read_blk_arrAt_eq_flushed 9 (fun s s' hs hs' hne => absurd (Fin.ext (((ix9 s).1.1 hs).trans ((ix9 s').1.1 hs').symm)) hne)
    cfg0.N t t.isLt (hf.2 rfl)) (at2 (n0 := 1) (n1 := 1024) 0 k)).trans ?_
  rw [flushed9]
  exact (gain_left m c D H Z P W hD hH hZ hP hW k 7 t.isLt).trans (sum_blocks (a := 8) (b := 256) rfl _).symm

/-! The reference. -/

open Cert.Reference21Ideal.Read

theorem zero_bits : FloatOps.ofBits (F := Ideal) .f32 0x00000000#32 = (0 : EReal) := by
  show Ideal.ofBits .f32 0x00000000#32 = 0
  simp [Ideal.ofBits, Ideal.ieee]

theorem ref_sg (i : Shape.Idx ⟨2, ![2048, 1024]⟩) : val_main_v5 (F := Ideal) Z i = sg (Z i) := by
  rw [val_main_v5_apply, val_main_v3_apply, val_main_v1_apply, val_main_v0_apply]
  exact sg_host _ _ _ (val_main_v4_apply _) (val_main_v2_apply _)

theorem ref_back (R : Fin 2048) (k : Fin 1024) : val_main_v12 (F := Ideal) D Z P (at2 R k) = back (row D R) (row Z R) (row P R) k := by
  rw [val_main_v12_apply, val_main_v11_apply, val_main_v8_apply, val_main_v7_apply, val_main_v6_apply, val_main_cst_1_apply, ref_sg, one_bits]
  rfl

theorem ref_whole (R : Fin 2048) (k : Fin 1024) : val_main_v30 (F := Ideal) D Z P W (at2 R k) = whole D Z P W R k := by
  rw [val_main_v30_apply]
  unfold whole prod
  refine Finset.sum_congr rfl fun j _ => ?_
  rw [val_main_v28_apply, show lidx_main_v30 (at2 R k) j = at2 R j from funext fun a => by
    match a with
    | ⟨0, _⟩ => rfl
    | ⟨1, _⟩ => rfl, ref_back]
  refine congrArg (back (row D R) (row Z R) (row P R) j * ·) (congrArg W (funext fun a => ?_))
  match a with
  | ⟨0, _⟩ => rfl
  | ⟨1, _⟩ => rfl

theorem ref_square (R : Fin 2048) : val_main_v19 (F := Ideal) H (at2 R 0) = square (row H R) := by
  rw [val_main_v19_apply, val_main_v17_apply, val_main_v15_apply, val_main_v14_apply, val_main_v16_apply, val_main_v18_apply]
  refine congrArg (fun q : EReal => Ideal.div q width + small) ((congrArg₂ (· + ·) zero_bits (Finset.sum_congr rfl fun k _ => ?_)).trans (zero_add _))
  rw [val_main_v13_apply, show idx_main_v14 (idx_main_v15 (at2 R 0)) k = at2 R k from funext fun a => by
    match a with
    | ⟨0, _⟩ => rfl
    | ⟨1, _⟩ => rfl]
  rfl

theorem ref_scale (R : Fin 2048) : val_main_v20 (F := Ideal) H (at2 R 0) = scale (row H R) := by
  rw [val_main_v20_apply, ref_square]
  rfl

theorem ref_normed (R : Fin 2048) (k : Fin 1024) : val_main_v25 (F := Ideal) H (at2 R k) = H (at2 R k) * scale (row H R) := by
  rw [val_main_v25_apply, val_main_v24_apply, show idx_main_v24 (at2 R k) = at2 R 0 from funext fun a => by
    match a with
    | ⟨0, _⟩ => rfl
    | ⟨1, _⟩ => rfl, ref_scale]
  rfl

theorem ref_scaled (R : Fin 2048) (k : Fin 1024) : val_main_v35 (F := Ideal) D G Z P W (at2 R k) = whole D Z P W R k * G (at2 0 k) := by
  rw [val_main_v35_apply, ref_whole, val_main_v34_apply, show idx_main_v34 (at2 R k) = at2 0 k from funext fun a => by
    match a with
    | ⟨0, _⟩ => rfl
    | ⟨1, _⟩ => rfl]
  rfl

theorem ref_through (R : Fin 2048) (k : Fin 1024) :
    val_main_v46 (F := Ideal) D H G Z P W (at2 R k) = through (row H R) fun j => whole D Z P W R j * G (at2 0 j) := by
  rw [val_main_v46_apply, val_main_v45_apply]
  refine (congrArg₂ (· + ·) zero_bits (Fin.sum_univ_one _)).trans ((zero_add _).trans ?_)
  rw [show idx_main_v45 (idx_main_v46 (at2 R k)) 0 = at2 R 0 from funext fun a => by
    match a with
    | ⟨0, _⟩ => rfl
    | ⟨1, _⟩ => rfl]
  rw [val_main_v44_apply, val_main_v42_apply, val_main_v23_apply, val_main_v21_apply, ref_scale, ref_square, val_main_v38_apply, val_main_v37_apply,
    val_main_v22_apply, val_main_v43_apply]
  refine congrArg (fun q : EReal => Ideal.div (q * (minusHalf * Ideal.div (scale (row H R)) (square (row H R)))) width)
    ((congrArg₂ (· + ·) zero_bits (Finset.sum_congr rfl fun j _ => ?_)).trans (zero_add _))
  rw [val_main_v36_apply, show idx_main_v37 (idx_main_v38 (at2 R 0)) j = at2 R j from funext fun a => by
    match a with
    | ⟨0, _⟩ => exact Fin.ext (by show R.val * 1 + 0 = R.val; omega)
    | ⟨1, _⟩ => rfl, ref_scaled]
  rfl

theorem ref_entry (R : Fin 2048) (k : Fin 1024) :
    val_main_v50 (F := Ideal) D H G Z P W (at2 R k) = differentiated (row H R) (fun j => whole D Z P W R j * G (at2 0 j)) (D (at2 R k)) k := by
  rw [val_main_v50_apply, val_main_v48_apply, val_main_v41_apply, val_main_v40_apply, val_main_v47_apply, val_main_v49_apply, ref_through, ref_scaled, val_main_v39_apply,
    show idx_main_v39 (at2 R k) = at2 R 0 from funext fun a => by
    match a with
    | ⟨0, _⟩ => rfl
    | ⟨1, _⟩ => rfl, ref_scale]
  rfl

theorem ref_gain (k : Fin 1024) : val_main_v33 (F := Ideal) D H Z P W (at2 0 k) = ∑ R : Fin 2048, term D H Z P W k R := by
  rw [val_main_v33_apply, val_main_v32_apply]
  refine (congrArg₂ (· + ·) zero_bits (Finset.sum_congr rfl fun R _ => ?_)).trans (zero_add _)
  rw [val_main_v31_apply, show idx_main_v32 (idx_main_v33 (at2 0 k)) R = at2 R k from funext fun a => by
    match a with
    | ⟨0, _⟩ => rfl
    | ⟨1, _⟩ => exact Fin.ext (by show 0 * 1024 + k.val = k.val; omega), ref_normed, ref_whole]
  exact mul_comm _ _

/-! The four results. -/

include hD hH hG hZ hP hW in
theorem same6 : ((dats m 0 c).arrAt 6 cfg0.N : Vec Ideal S2048x1024 .f32) = val_main_v50 (F := Ideal) D H G Z P W := rows _ _ fun t R r k h => by
  obtain ⟨⟨hf, e0, e1⟩, -⟩ := ixO t
  rw [ref_entry, ← closed_eq]
  have e : ((cfg0.win 6).blk t).view.emb (at2 (n0 := 256) (n1 := 1024) r k) = at2 R k := funext fun a => by
    match a with
    | ⟨0, _⟩ => apply Fin.ext; show win0_6.index t 0 * 256 + 1 * r.val = R.val; omega
    | ⟨1, _⟩ => apply Fin.ext; show win0_6.index t 1 * 1024 + 1 * k.val = k.val; omega
  rw [← e]
  refine (congrFun (blocks6 m c t hf) (at2 (n0 := 256) (n1 := 1024) r k)).trans ?_
  rw [flushed6, (rows_left m c t).1]
  refine (rows_apply (iblk m c 0 t) (iblk m c 1 t) (iblk m c 2 t) (iblk m c 3 t) (iblk m c 4 t) (iblk m c 5 t) r k).trans ?_
  rw [e, blk0 m c D hD t R r h, blk1 m c H hH t R r h, blk3 m c Z hZ t R r h, blk4 m c P hP t R r h, blk5 m c W hW t]
  exact congrArg₂ (fun f q => closed (row H R) f q k) (funext fun j => congrArg (whole D Z P W R j * ·) (blk2 m c G hG t j)) (congrFun (blk0 m c D hD t R r h) k)

include hD hZ hP in
theorem same7 : ((dats m 0 c).arrAt 7 cfg0.N : Vec Ideal S2048x1024 .bf16) = val_main_v51 (F := Ideal) D Z P := rows _ _ fun t R r k h => by
  obtain ⟨-, ⟨hf, e0, e1⟩, -⟩ := ixO t
  rw [val_main_v51_apply, ref_back]
  have e : ((cfg0.win 7).blk t).view.emb (at2 (n0 := 256) (n1 := 1024) r k) = at2 R k := funext fun a => by
    match a with
    | ⟨0, _⟩ => apply Fin.ext; show win0_7.index t 0 * 256 + 1 * r.val = R.val; omega
    | ⟨1, _⟩ => apply Fin.ext; show win0_7.index t 1 * 1024 + 1 * k.val = k.val; omega
  rw [← e]
  refine (congrFun (blocks7 m c t hf) (at2 (n0 := 256) (n1 := 1024) r k)).trans ?_
  rw [flushed7, (rows_left m c t).2.1]
  unfold k0_pay9
  rw [shapeCast_self]
  refine (back_apply (iblk m c 0 t) (iblk m c 3 t) (iblk m c 4 t) r k).trans ?_
  rw [blk0 m c D hD t R r h, blk3 m c Z hZ t R r h, blk4 m c P hP t R r h]
  rfl

include hD hZ in
theorem same8 : ((dats m 0 c).arrAt 8 cfg0.N : Vec Ideal S2048x1024 .bf16) = val_main_v52 (F := Ideal) D Z := rows _ _ fun t R r k h => by
  obtain ⟨-, -, hf, e0, e1⟩ := ixO t
  rw [val_main_v52_apply, val_main_v10_apply, ref_sg]
  have e : ((cfg0.win 8).blk t).view.emb (at2 (n0 := 256) (n1 := 1024) r k) = at2 R k := funext fun a => by
    match a with
    | ⟨0, _⟩ => apply Fin.ext; show win0_8.index t 0 * 256 + 1 * r.val = R.val; omega
    | ⟨1, _⟩ => apply Fin.ext; show win0_8.index t 1 * 1024 + 1 * k.val = k.val; omega
  rw [← e]
  refine (congrFun (blocks8 m c t hf) (at2 (n0 := 256) (n1 := 1024) r k)).trans ?_
  rw [flushed8, (rows_left m c t).2.2]
  refine (outer_apply (iblk m c 0 t) (iblk m c 3 t) r k).trans ?_
  rw [e]
  exact congrArg₂ (fun a b => sg a * b) (congrFun (blk3 m c Z hZ t R r h) k) (congrFun (blk0 m c D hD t R r h) k)

include hD hH hZ hP hW in
theorem same9 : ((dats m 0 c).arrAt 9 cfg0.N : Vec Ideal S1x1024 .f32) = val_main_v33 (F := Ideal) D H Z P W := funext fun i => by
  rw [← (congrArg (fun o : Fin 1 => at2 (n0 := 1) (n1 := 1024) o (i 1)) (Subsingleton.elim (0 : Fin 1) (i 0))).trans (at2_eta i)]
  exact (entry_gain m c D H Z P W hD hH hZ hP hW _).trans (ref_gain D H Z P W _).symm

end Cert.Kernel21Ideal.Val

end
-- ==== Proof.Mixer.lean ====
/- The mixer's output and the per-layer gate: the frames of their references, and their claims over the reals. -/
module

public import proofs.«01_k».proof.Defs
public import proofs.«01_k».proof.Proof.Mixout
public import proofs.«01_k».proof.Proof.Gen.Reference14Ideal.Run
public import proofs.«01_k».proof.Proof.Dmixout
public import proofs.«01_k».proof.Proof.Gen.Reference15Ideal.Run
public import proofs.«01_k».proof.Proof.Dwout
public import proofs.«01_k».proof.Proof.Gen.Reference16Ideal.Run
public import proofs.«01_k».proof.Proof.Dwao
public import proofs.«01_k».proof.Proof.Gen.Reference17Ideal.Run
public import proofs.«01_k».proof.Proof.Dwgate
public import proofs.«01_k».proof.Proof.Gen.Reference18Ideal.Run
public import proofs.«01_k».proof.Proof.Dwproj
public import proofs.«01_k».proof.Proof.Gen.Reference19Ideal.Run
public import proofs.«01_k».proof.Proof.Ple
public import proofs.«01_k».proof.Proof.Gen.Reference20Ideal.Run
public import proofs.«01_k».proof.Proof.Dple
public import proofs.«01_k».proof.Proof.Gen.Reference21Ideal.Run
public import Idealize.ShloMosaic.Adequacy
public import Idealize.ShloMosaic.Init

@[expose] public section

set_option maxRecDepth 16384
set_option backward.isDefEq.respectTransparency false

noncomputable section

namespace Cert.Proof

open Idealize.ShloMosaic Idealize.SL.Sem

/-! The mixer's gates and output product. -/

theorem mixout_frame : Cert.quiescent_Reference14Ideal (hReference14Ideal := Cert.Reference14Ideal.Gen.facts) := fun m ρ _ =>
  (θ_run Cert.Reference14Ideal.defs _ _).mono (fun _ h => ⟨fun c => (h c).2.2.2.2, funext fun s => by nomatch s⟩) (Cert.Reference14Ideal.Value.run (F := Ideal) m ρ)

theorem mixout : Cert.algebraic_Kernel14Ideal_Reference14Ideal (hKernel14Ideal := Cert.Kernel14Ideal.Gen.facts) (hReference14Ideal := Cert.Reference14Ideal.Gen.facts) := by
  intro m g m' g' _ hargs
  refine ⟨fun c => (Cert.Kernel14Ideal.Gen.dats m 0 c).arrAt 7 Cert.Kernel14Ideal.cfg0.N, fun c => (Cert.Kernel14Ideal.Gen.dats m 0 c).arrAt 8 Cert.Kernel14Ideal.cfg0.N, fun c => (Cert.Kernel14Ideal.Gen.dats m 0 c).arrAt 9 Cert.Kernel14Ideal.cfg0.N, fun c => (Cert.Kernel14Ideal.Gen.dats m 0 c).arrAt 10 Cert.Kernel14Ideal.cfg0.N, Cert.Kernel14Ideal.Value.run_blocks m g,
    (θ_run Cert.Reference14Ideal.defs _ _).mono (fun r h c => ?_) (Cert.Reference14Ideal.Value.run (F := Ideal) m' g')⟩
  obtain ⟨a0, a1, a2, a3, b⟩ := h c
  obtain ⟨g0, g1, g2, g3, g4, g5, g6⟩ := hargs c
  exact ⟨a0.trans ((Cert.Reference14Ideal.Read.val_main_v25_eq _ _ _ _ _ _ _).trans (Cert.Kernel14Ideal.Val.same7 m c _ _ _ _ _ _ _ g0.symm g1.symm g2.symm g3.symm g4.symm g5.symm g6.symm).symm),
    a1.trans ((Cert.Reference14Ideal.Read.val_main_v26_eq _ _ _ _ _).trans (Cert.Kernel14Ideal.Val.same8 m c _ _ _ _ _ g0.symm g1.symm g2.symm g4.symm g5.symm).symm),
    a2.trans ((Cert.Reference14Ideal.Read.val_main_v2_eq _ _).trans (Cert.Kernel14Ideal.Val.same9 m c _ _ g0.symm g4.symm).symm),
    a3.trans ((Cert.Reference14Ideal.Read.val_main_v5_eq _ _).trans (Cert.Kernel14Ideal.Val.same10 m c _ _ g1.symm g5.symm).symm), b⟩

/-! The gradient through the mixer's output product and its gates. -/

theorem dmixout_frame : Cert.quiescent_Reference15Ideal (hReference15Ideal := Cert.Reference15Ideal.Gen.facts) := fun m ρ _ =>
  (θ_run Cert.Reference15Ideal.defs _ _).mono (fun _ h => ⟨fun c => (h c).2.2.2.2.2, funext fun s => by nomatch s⟩) (Cert.Reference15Ideal.Value.run (F := Ideal) m ρ)

theorem dmixout : Cert.algebraic_Kernel15Ideal_Reference15Ideal (hKernel15Ideal := Cert.Kernel15Ideal.Gen.facts) (hReference15Ideal := Cert.Reference15Ideal.Gen.facts) := by
  intro m g m' g' _ hargs
  refine ⟨fun c => (Cert.Kernel15Ideal.Gen.dats m 0 c).arrAt 7 Cert.Kernel15Ideal.cfg0.N, fun c => (Cert.Kernel15Ideal.Gen.dats m 0 c).arrAt 8 Cert.Kernel15Ideal.cfg0.N, fun c => (Cert.Kernel15Ideal.Gen.dats m 0 c).arrAt 9 Cert.Kernel15Ideal.cfg0.N, fun c => (Cert.Kernel15Ideal.Gen.dats m 0 c).arrAt 10 Cert.Kernel15Ideal.cfg0.N, fun c => (Cert.Kernel15Ideal.Gen.dats m 0 c).arrAt 11 Cert.Kernel15Ideal.cfg0.N, Cert.Kernel15Ideal.Value.run_blocks m g,
    (θ_run Cert.Reference15Ideal.defs _ _).mono (fun r h c => ?_) (Cert.Reference15Ideal.Value.run (F := Ideal) m' g')⟩
  obtain ⟨a0, a1, a2, a3, a4, b⟩ := h c
  obtain ⟨g0, g1, g2, g3, g4, g5, g6⟩ := hargs c
  exact ⟨a0.trans ((Cert.Reference15Ideal.Read.val_main_v35_eq _ _ _ _).trans (Cert.Kernel15Ideal.Val.same7 m c _ _ _ _ g0.symm g1.symm g4.symm g6.symm).symm),
    a1.trans ((Cert.Reference15Ideal.Read.val_main_v39_eq _ _ _ _).trans (Cert.Kernel15Ideal.Val.same8 m c _ _ _ _ g0.symm g1.symm g5.symm g6.symm).symm),
    a2.trans ((Cert.Reference15Ideal.Read.val_main_v41_eq _ _ _ _ _).trans (Cert.Kernel15Ideal.Val.same9 m c _ _ _ _ _ g0.symm g1.symm g2.symm g3.symm g6.symm).symm),
    a3.trans ((Cert.Reference15Ideal.Read.val_main_v42_eq _ _ _).trans (Cert.Kernel15Ideal.Val.same10 m c _ _ _ g0.symm g1.symm g6.symm).symm),
    a4.trans ((Cert.Reference15Ideal.Read.val_main_v43_eq _ _ _).trans (Cert.Kernel15Ideal.Val.same11 m c _ _ _ g0.symm g1.symm g6.symm).symm), b⟩

/-! The gradient of the mixer's output weight. -/

theorem dwout_frame : Cert.quiescent_Reference16Ideal (hReference16Ideal := Cert.Reference16Ideal.Gen.facts) := fun m ρ _ =>
  (θ_run Cert.Reference16Ideal.defs _ _).mono (fun _ h => ⟨fun c => (h c).2, funext fun s => by nomatch s⟩) (Cert.Reference16Ideal.Value.run (F := Ideal) m ρ)

theorem dwout : Cert.algebraic_Kernel16Ideal_Reference16Ideal (hKernel16Ideal := Cert.Kernel16Ideal.Gen.facts) (hReference16Ideal := Cert.Reference16Ideal.Gen.facts) := by
  intro m g m' g' _ hargs
  refine ⟨fun c => Cert.Kernel16Ideal.Value.G2 m c, Cert.Kernel16Ideal.Value.run m g,
    (θ_run Cert.Reference16Ideal.defs _ _).mono (fun r h c => ?_) (Cert.Reference16Ideal.Value.run (F := Ideal) m' g')⟩
  obtain ⟨a0, b⟩ := h c
  obtain ⟨g0, g1⟩ := hargs c
  exact ⟨a0.trans ((Cert.Reference16Ideal.Read.val_main_v5_eq _ _).trans (Cert.Kernel16Ideal.Val.same m c _ _ g0.symm g1.symm).symm), b⟩

/-! The gradient of the weight raising the attention's output; the same call gives that of the convolution's. -/

theorem dwao_frame : Cert.quiescent_Reference17Ideal (hReference17Ideal := Cert.Reference17Ideal.Gen.facts) := fun m ρ _ =>
  (θ_run Cert.Reference17Ideal.defs _ _).mono (fun _ h => ⟨fun c => (h c).2, funext fun s => by nomatch s⟩) (Cert.Reference17Ideal.Value.run (F := Ideal) m ρ)

theorem dwao : Cert.algebraic_Kernel17Ideal_Reference17Ideal (hKernel17Ideal := Cert.Kernel17Ideal.Gen.facts) (hReference17Ideal := Cert.Reference17Ideal.Gen.facts) := by
  intro m g m' g' _ hargs
  refine ⟨fun c => Cert.Kernel17Ideal.Value.G2 m c, Cert.Kernel17Ideal.Value.run m g,
    (θ_run Cert.Reference17Ideal.defs _ _).mono (fun r h c => ?_) (Cert.Reference17Ideal.Value.run (F := Ideal) m' g')⟩
  obtain ⟨a0, b⟩ := h c
  obtain ⟨g0, g1⟩ := hargs c
  exact ⟨a0.trans ((Cert.Reference17Ideal.Read.val_main_v6_eq _ _).trans (Cert.Kernel17Ideal.Val.same m c _ _ g0.symm g1.symm).symm), b⟩

/-! The gradient of the per-layer gate's weight. -/

theorem dwgate_frame : Cert.quiescent_Reference18Ideal (hReference18Ideal := Cert.Reference18Ideal.Gen.facts) := fun m ρ _ =>
  (θ_run Cert.Reference18Ideal.defs _ _).mono (fun _ h => ⟨fun c => (h c).2, funext fun s => by nomatch s⟩) (Cert.Reference18Ideal.Value.run (F := Ideal) m ρ)

theorem dwgate : Cert.algebraic_Kernel18Ideal_Reference18Ideal (hKernel18Ideal := Cert.Kernel18Ideal.Gen.facts) (hReference18Ideal := Cert.Reference18Ideal.Gen.facts) := by
  intro m g m' g' _ hargs
  refine ⟨fun c => Cert.Kernel18Ideal.Value.G2 m c, Cert.Kernel18Ideal.Value.run m g,
    (θ_run Cert.Reference18Ideal.defs _ _).mono (fun r h c => ?_) (Cert.Reference18Ideal.Value.run (F := Ideal) m' g')⟩
  obtain ⟨a0, b⟩ := h c
  obtain ⟨g0, g1⟩ := hargs c
  exact ⟨a0.trans ((Cert.Reference18Ideal.Read.val_main_v6_eq _ _).trans (Cert.Kernel18Ideal.Val.same m c _ _ g0.symm g1.symm).symm), b⟩

/-! The gradient of the per-layer projection's weight. -/

theorem dwproj_frame : Cert.quiescent_Reference19Ideal (hReference19Ideal := Cert.Reference19Ideal.Gen.facts) := fun m ρ _ =>
  (θ_run Cert.Reference19Ideal.defs _ _).mono (fun _ h => ⟨fun c => (h c).2, funext fun s => by nomatch s⟩) (Cert.Reference19Ideal.Value.run (F := Ideal) m ρ)

theorem dwproj : Cert.algebraic_Kernel19Ideal_Reference19Ideal (hKernel19Ideal := Cert.Kernel19Ideal.Gen.facts) (hReference19Ideal := Cert.Reference19Ideal.Gen.facts) := by
  intro m g m' g' _ hargs
  refine ⟨fun c => Cert.Kernel19Ideal.Value.G2 m c, Cert.Kernel19Ideal.Value.run m g,
    (θ_run Cert.Reference19Ideal.defs _ _).mono (fun r h c => ?_) (Cert.Reference19Ideal.Value.run (F := Ideal) m' g')⟩
  obtain ⟨a0, b⟩ := h c
  obtain ⟨g0, g1⟩ := hargs c
  exact ⟨a0.trans ((Cert.Reference19Ideal.Read.val_main_v5_eq _ _).trans (Cert.Kernel19Ideal.Val.same m c _ _ g0.symm g1.symm).symm), b⟩

/-! The per-layer gate: the norm, the two products and the gated sum. -/

theorem ple_frame : Cert.quiescent_Reference20Ideal (hReference20Ideal := Cert.Reference20Ideal.Gen.facts) := fun m ρ _ =>
  (θ_run Cert.Reference20Ideal.defs _ _).mono (fun _ h => ⟨fun c => (h c).2.2.2.2, funext fun s => by nomatch s⟩) (Cert.Reference20Ideal.Value.run (F := Ideal) m ρ)

theorem ple : Cert.algebraic_Kernel20Ideal_Reference20Ideal (hKernel20Ideal := Cert.Kernel20Ideal.Gen.facts) (hReference20Ideal := Cert.Reference20Ideal.Gen.facts) := by
  intro m g m' g' _ hargs
  refine ⟨fun c => (Cert.Kernel20Ideal.Gen.dats m 0 c).arrAt 5 Cert.Kernel20Ideal.cfg0.N, fun c => (Cert.Kernel20Ideal.Gen.dats m 0 c).arrAt 6 Cert.Kernel20Ideal.cfg0.N, fun c => (Cert.Kernel20Ideal.Gen.dats m 0 c).arrAt 7 Cert.Kernel20Ideal.cfg0.N, fun c => (Cert.Kernel20Ideal.Gen.dats m 0 c).arrAt 8 Cert.Kernel20Ideal.cfg0.N, Cert.Kernel20Ideal.Value.run_blocks m g,
    (θ_run Cert.Reference20Ideal.defs _ _).mono (fun r h c => ?_) (Cert.Reference20Ideal.Value.run (F := Ideal) m' g')⟩
  obtain ⟨a0, a1, a2, a3, b⟩ := h c
  obtain ⟨g0, g1, g2, g3, g4⟩ := hargs c
  exact ⟨a0.trans ((Cert.Reference20Ideal.Read.val_main_v23_eq _ _ _ _ _).trans (Cert.Kernel20Ideal.Val.same5 m c _ _ _ _ _ g0.symm g1.symm g2.symm g3.symm g4.symm).symm),
    a1.trans ((Cert.Reference20Ideal.Read.val_main_v24_eq _ _).trans (Cert.Kernel20Ideal.Val.same6 m c _ _ g0.symm g2.symm).symm),
    a2.trans ((Cert.Reference20Ideal.Read.val_main_v13_eq _ _ _).trans (Cert.Kernel20Ideal.Val.same7 m c _ _ _ g0.symm g2.symm g3.symm).symm),
    a3.trans ((Cert.Reference20Ideal.Read.val_main_v15_eq _ _).trans (Cert.Kernel20Ideal.Val.same8 m c _ _ g1.symm g4.symm).symm), b⟩

/-! The gradient through the per-layer gate and its norm. -/

theorem dple_frame : Cert.quiescent_Reference21Ideal (hReference21Ideal := Cert.Reference21Ideal.Gen.facts) := fun m ρ _ =>
  (θ_run Cert.Reference21Ideal.defs _ _).mono (fun _ h => ⟨fun c => (h c).2.2.2.2, funext fun s => by nomatch s⟩) (Cert.Reference21Ideal.Value.run (F := Ideal) m ρ)

theorem dple : Cert.algebraic_Kernel21Ideal_Reference21Ideal (hKernel21Ideal := Cert.Kernel21Ideal.Gen.facts) (hReference21Ideal := Cert.Reference21Ideal.Gen.facts) := by
  intro m g m' g' _ hargs
  refine ⟨fun c => (Cert.Kernel21Ideal.Gen.dats m 0 c).arrAt 6 Cert.Kernel21Ideal.cfg0.N, fun c => (Cert.Kernel21Ideal.Gen.dats m 0 c).arrAt 7 Cert.Kernel21Ideal.cfg0.N, fun c => (Cert.Kernel21Ideal.Gen.dats m 0 c).arrAt 8 Cert.Kernel21Ideal.cfg0.N, fun c => (Cert.Kernel21Ideal.Gen.dats m 0 c).arrAt 9 Cert.Kernel21Ideal.cfg0.N, Cert.Kernel21Ideal.Value.run_blocks m g,
    (θ_run Cert.Reference21Ideal.defs _ _).mono (fun r h c => ?_) (Cert.Reference21Ideal.Value.run (F := Ideal) m' g')⟩
  obtain ⟨a0, a1, a2, a3, b⟩ := h c
  obtain ⟨g0, g1, g2, g3, g4, g5⟩ := hargs c
  exact ⟨a0.trans ((Cert.Reference21Ideal.Read.val_main_v50_eq m' c).trans (Cert.Kernel21Ideal.Val.same6 m c _ _ _ _ _ _ g0.symm g1.symm g2.symm g3.symm g4.symm g5.symm).symm),
    a1.trans ((Cert.Reference21Ideal.Read.val_main_v51_eq _ _ _).trans (Cert.Kernel21Ideal.Val.same7 m c _ _ _ g0.symm g3.symm g4.symm).symm),
    a2.trans ((Cert.Reference21Ideal.Read.val_main_v52_eq _ _).trans (Cert.Kernel21Ideal.Val.same8 m c _ _ g0.symm g3.symm).symm),
    a3.trans ((Cert.Reference21Ideal.Read.val_main_v33_eq _ _ _ _ _).trans (Cert.Kernel21Ideal.Val.same9 m c _ _ _ _ _ g0.symm g1.symm g3.symm g4.symm g5.symm).symm), b⟩

end Cert.Proof

end
-- ==== Proof.Online.lean ====
/- The forward attention's running softmax over the reals: one step takes a tile of scores, and keeps each row's largest score so far,
   its exponentials' sum and their products with the values. -/
module

public import proofs.«01_k».proof.Proof.Gen.Kernel22Ideal.Skeleton
public import proofs.«01_k».proof.Proof.Tile
public import proofs.«01_k».proof.Proof.RefVal
public import proofs.«01_k».proof.Proof.Sums

@[expose] public section

set_option maxRecDepth 16384
set_option backward.isDefEq.respectTransparency false

noncomputable section

namespace Cert.Kernel22Ideal.Val

open Idealize.ShloMosaic Idealize.ShloMosaic.TcCoe Idealize.ShloMosaic.Tactic
open Cert.Kernel22Ideal.Gen Cert.Sums
open Cert.KernelIdeal.Hand (up2 up3 bm coe_sum up2_mul up2_add up2_sub up2_exp up2_truncf up2_select inh lane mTri mAll)

/-! One step. -/

section
variable (S : FVec Ideal S256x256 .f32) (mx den : FVec Ideal S256x1 .f32) (acc : FVec Ideal S256x128 .f32) (w : FVec Ideal S256x128 .bf16)
def mxS : FVec Ideal S256x1 .f32 :=
  maximumf mx (shapeCast S256x1 (multiReduction .maximumf [1] S256 S 0xFF800000#32 reduces_S256x256_S256 (.inl rfl) rfl) shapeCasts_S256_S256x1)
def corS : FVec Ideal S256x1 .f32 := exp (subf mx (mxS S mx))
def expS : FVec Ideal S256x256 .f32 := exp (subf S (broadcastTo S256x256 (mxS S mx) broadcasts_S256x1_S256x256))
def denS : FVec Ideal S256x1 .f32 :=
  addf (mulf (corS S mx) den) (shapeCast S256x1 (multiReduction .add [1] S256 (expS S mx) 0x00000000#32 reduces_S256x256_S256 (.inl rfl) rfl) shapeCasts_S256_S256x1)
def accS : FVec Ideal S256x128 .f32 :=
  addf (mulf (broadcastTo S256x128 (corS S mx) broadcasts_S256x1_S256x128) acc)
    (matmul dot_S256x256_S256x128_S256x128_1_0_0_1_n_n none (truncf .bf16 (expS S mx) bitsLt_bf16_f32) w (constant S256x128 .f32 0x00000000#32))
end

theorem mm_nt (f : Fin 256 → Fin 128 → ℝ) (g : Fin 256 → Fin 128 → ℝ) :
    matmul (F := Ideal) (φ₁ := .bf16) (φ₂ := .bf16) dot_S256x128_S256x128_S256x256_1_1_0_0_n_n none (up2 f) (up2 g) (constant S256x256 .f32 0x00000000#32)
      = up2 fun r s => ∑ l, f r l * g s l := Cert.KernelIdeal.Hand.mm_nt f g
theorem mm_nn (f : Fin 256 → Fin 256 → ℝ) (g : Fin 256 → Fin 128 → ℝ) :
    matmul (F := Ideal) (φ₁ := .bf16) (φ₂ := .bf16) dot_S256x256_S256x128_S256x128_1_0_0_1_n_n none (up2 f) (up2 g) (constant S256x128 .f32 0x00000000#32)
      = up2 fun r l => ∑ s, f r s * g s l := Cert.KernelIdeal.Hand.mm_nn f g
theorem red_row2 (f : Fin 256 → Fin 256 → ℝ) (h₁) (h₂) :
    shapeCast S256x1 (multiReduction (F := Ideal) (φ := .f32) .add [1] S256 (up2 f) 0x00000000#32 reduces_S256x256_S256 h₁ h₂) shapeCasts_S256_S256x1
      = up2 fun r (_ : Fin 1) => ∑ l, f r l := Cert.KernelIdeal.Hand.red_row2 f h₁ h₂
theorem bc_col (f : Fin 256 → Fin 1 → ℝ) : broadcastTo (α := Ideal .f32) S256x256 (up2 f) broadcasts_S256x1_S256x256 = up2 fun r (_ : Fin 256) => f r 0 :=
  Cert.KernelIdeal.Hand.bc_col f
theorem bc_col128 (f : Fin 256 → Fin 1 → ℝ) : broadcastTo (α := Ideal .f32) S256x128 (up2 f) broadcasts_S256x1_S256x128 = up2 fun r (_ : Fin 128) => f r 0 :=
  Cert.KernelIdeal.Hand.bc_col128 f

/-- A tile of scores `σ`, `⊥` where the mask `m` is false. -/
def msk (m : Fin 256 → Fin 256 → Prop) [∀ r s, Decidable (m r s)] (σ : Fin 256 → Fin 256 → ℝ) : FVec Ideal S256x256 .f32 :=
  fun x => if m (x 0) (x 1) then (σ (x 0) (x 1) : EReal) else ⊥

/-- The exponential of a score less `μ`, 0 where it is masked. -/
def ex (m : Fin 256 → Fin 256 → Prop) [∀ r s, Decidable (m r s)] (σ : Fin 256 → Fin 256 → ℝ) (μ : Fin 256 → ℝ) (r s : Fin 256) : ℝ :=
  if m r s then Real.exp (σ r s - μ r) else 0

variable {m : Fin 256 → Fin 256 → Prop} [∀ r s, Decidable (m r s)] (σ : Fin 256 → Fin 256 → ℝ)

theorem mxS_real (hm : ∀ r, ∃ s, m r s) (mx : FVec Ideal S256x1 .f32) (hx : ∀ x, mx x ≠ ⊤) :
    ∃ μ : Fin 256 → ℝ, mxS (msk m σ) mx = up2 fun r (_ : Fin 1) => μ r := by
  suffices h : ∀ r : Fin 256, ∃ t : ℝ, mxS (msk m σ) mx (at2 (n0 := 256) (n1 := 1) r 0) = (t : EReal) from by
    choose μ hμ using h
    refine ⟨μ, funext fun x => ?_⟩
    have ex : x = at2 (n0 := 256) (n1 := 1) (x 0) 0 := by
      funext a
      match a with
      | 0 => rfl
      | 1 => exact Fin.ext (by have := (x 1).isLt; show (x 1).val = 0; change (x 1).val < 1 at this; omega)
    rw [ex, hμ]; rfl
  intro r
  have e : mxS (msk m σ) mx (at2 (n0 := 256) (n1 := 1) r 0)
      = max (mx (at2 (n0 := 256) (n1 := 1) r 0)) (Finset.fold max (Ideal.ofBits FTy.f32 0xFF800000#32) (fun s => msk m σ (ix2 r s)) Finset.univ) := by
    unfold mxS
    generalize msk m σ = S
    pointwise
  obtain ⟨s₀, h₀⟩ := hm r
  have hb : mxS (msk m σ) mx (at2 (n0 := 256) (n1 := 1) r 0) ≠ ⊥ := by
    intro h
    rw [e] at h
    have h' := le_bot_iff.1 (h ▸ le_max_right _ _)
    have := (Finset.fold_max_le (s := Finset.univ) (f := fun s => msk m σ (ix2 r s)) (b := Ideal.ofBits FTy.f32 0xFF800000#32) (⊥ : EReal)).1 h'.le
    have := this.2 s₀ (Finset.mem_univ _)
    rw [show msk m σ (ix2 r s₀) = (σ r s₀ : EReal) from if_pos h₀] at this
    exact absurd (le_bot_iff.1 this) (EReal.coe_ne_bot _)
  have ht : mxS (msk m σ) mx (at2 (n0 := 256) (n1 := 1) r 0) ≠ ⊤ := by
    rw [e]
    refine ne_of_lt (max_lt (lt_top_iff_ne_top.2 (hx _)) (Finset.fold_max_lt _ |>.2 ⟨?_, fun s _ => ?_⟩))
    · rw [show Ideal.ofBits FTy.f32 0xFF800000#32 = (⊥ : EReal) from Cert.ReferenceIdeal.Real.bot_bits]; exact bot_lt_top
    · show (if m r s then (σ r s : EReal) else ⊥) < ⊤
      split
      · exact EReal.coe_lt_top _
      · exact bot_lt_top
  exact ⟨_, (EReal.coe_toReal ht hb).symm⟩

variable {σ} {μ : Fin 256 → ℝ} {mx : FVec Ideal S256x1 .f32}

theorem expS_real (h : mxS (msk m σ) mx = up2 fun r (_ : Fin 1) => μ r) : expS (msk m σ) mx = up2 (ex m σ μ) := by
  unfold expS
  rw [h, bc_col]
  funext x
  show Ideal.exp ((if m (x 0) (x 1) then (σ (x 0) (x 1) : EReal) else ⊥) - ((μ (x 0) : ℝ) : EReal)) = ((ex m σ μ (x 0) (x 1) : ℝ) : EReal)
  unfold ex
  split
  · rw [← EReal.coe_sub]; rfl
  · rw [EReal.bot_sub]; rfl

/-- The sums after one more tile, from their factor `κ`. -/
theorem step_real {κ den : Fin 256 → ℝ} {acc w : Fin 256 → Fin 128 → ℝ} (h : mxS (msk m σ) mx = up2 fun r (_ : Fin 1) => μ r)
    (hk : corS (msk m σ) mx = up2 fun r (_ : Fin 1) => κ r) :
    denS (msk m σ) mx (up2 fun r (_ : Fin 1) => den r) = (up2 fun r (_ : Fin 1) => κ r * den r + ∑ s, ex m σ μ r s)
      ∧ accS (msk m σ) mx (up2 acc) (up2 w) = up2 fun r l => κ r * acc r l + ∑ s, ex m σ μ r s * w s l := by
  constructor
  · unfold denS
    rw [hk, expS_real h, red_row2, up2_mul, up2_add]
  · unfold accS
    rw [hk, expS_real h, bc_col128, up2_truncf, mm_nn, up2_mul, up2_add]

/-! All the steps. -/

variable (M : ℕ → Fin 256 → Fin 256 → Prop) [∀ j r s, Decidable (M j r s)] (Q : ℕ → Fin 256 → Fin 256 → ℝ) (W : ℕ → Fin 256 → Fin 128 → ℝ)

/-- What is carried after `n` tiles. -/
def Inv (n : ℕ) (mx den : FVec Ideal S256x1 .f32) (acc : FVec Ideal S256x128 .f32) : Prop :=
  ∃ μ : Fin 256 → ℝ, ((mx = up2 fun r (_ : Fin 1) => μ r) ∨ n = 0 ∧ mx = fun _ => (⊥ : EReal))
    ∧ (den = up2 fun r (_ : Fin 1) => ∑ j ∈ Finset.range n, ∑ s, ex (M j) (Q j) μ r s)
    ∧ acc = up2 fun r l => ∑ j ∈ Finset.range n, ∑ s, ex (M j) (Q j) μ r s * W j s l

theorem inv_zero {mx den : FVec Ideal S256x1 .f32} {acc : FVec Ideal S256x128 .f32} (h₁ : mx = fun _ => (⊥ : EReal)) (h₂ : den = up2 fun _ _ => 0)
    (h₃ : acc = up2 fun _ _ => 0) : Inv M Q W 0 mx den acc :=
  ⟨fun _ => 0, .inr ⟨rfl, h₁⟩, by rw [h₂]; simp, by rw [h₃]; simp⟩

theorem ex_scale (j : ℕ) (μ μ' : Fin 256 → ℝ) (r s : Fin 256) : Real.exp (μ r - μ' r) * ex (M j) (Q j) μ r s = ex (M j) (Q j) μ' r s := by
  unfold ex
  split
  · rw [← Real.exp_add]; congr 1; ring
  · exact mul_zero _

theorem inv_succ (n : ℕ) {mx den : FVec Ideal S256x1 .f32} {acc : FVec Ideal S256x128 .f32} (hm : ∀ r, ∃ s, M n r s) (h : Inv M Q W n mx den acc) :
    Inv M Q W (n + 1) (mxS (msk (M n) (Q n)) mx) (denS (msk (M n) (Q n)) mx den) (accS (msk (M n) (Q n)) mx acc (up2 (W n))) := by
  obtain ⟨μ, h₁, h₂, h₃⟩ := h
  have hx : ∀ x, mx x ≠ ⊤ := by
    intro x
    rcases h₁ with h₁ | ⟨_, h₁⟩ <;> rw [h₁]
    · exact EReal.coe_ne_top _
    · exact bot_ne_top
  obtain ⟨μ', hμ⟩ := mxS_real (m := M n) (Q n) hm mx hx
  have hk : ∃ κ : Fin 256 → ℝ, (corS (msk (M n) (Q n)) mx = up2 fun r (_ : Fin 1) => κ r) ∧ (κ = (fun r => Real.exp (μ r - μ' r)) ∨ n = 0) := by
    rcases h₁ with h₁ | ⟨hn, h₁⟩
    · exact ⟨_, by unfold corS; rw [hμ, h₁, up2_sub, up2_exp], .inl rfl⟩
    · refine ⟨fun _ => 0, ?_, .inr hn⟩
      unfold corS
      rw [hμ, h₁]
      funext x
      show Ideal.exp ((⊥ : EReal) - ((μ' (x 0) : ℝ) : EReal)) = _
      rw [EReal.bot_sub]; rfl
  obtain ⟨κ, hk, hκ⟩ := hk
  obtain ⟨d, a⟩ := step_real (den := fun r => ∑ j ∈ Finset.range n, ∑ s, ex (M j) (Q j) μ r s)
    (acc := fun r l => ∑ j ∈ Finset.range n, ∑ s, ex (M j) (Q j) μ r s * W j s l) (w := W n) hμ hk
  rw [h₂, h₃]
  refine ⟨μ', .inl hμ, d.trans ?_, a.trans ?_⟩
  · congr 1; funext r _
    rw [Finset.sum_range_succ]; congr 1
    rcases hκ with rfl | rfl
    · simp only [Finset.mul_sum, ex_scale]
    · simp
  · congr 1; funext r l
    rw [Finset.sum_range_succ]; congr 1
    rcases hκ with rfl | rfl
    · simp only [Finset.mul_sum, ← mul_assoc, ex_scale]
    · simp

end Cert.Kernel22Ideal.Val

end
-- ==== Proof.Fsum.lean ====
/- The forward attention's running sums are the softmax's sums, and neither its output nor its log-sum depends on the shift of a row. -/
module

public import proofs.«01_k».proof.Proof.Online

@[expose] public section

set_option maxRecDepth 16384

noncomputable section

namespace Cert.Kernel22Ideal.Val

open Cert.KernelIdeal.Val (cl sco expo tot prob attn lsum tot_pos rowAt hd ln sum_lanes sum_chunks cols_apply tri_mask all_mask above)
open Cert.KernelIdeal.Val (colsOf)
open Cert.KernelIdeal.Hand (blk inh)

section
variable (q k v : Fin 2048 → Fin 512 → ℝ) (c : Fin 2048 → Fin 8 → ℝ) (T T' : Fin 8 → Fin 2048 → ℝ) (h : Fin 8) (r : Fin 2048)

theorem expo_shift (s : Fin 2048) : expo q k c T h r s = Real.exp (T' h r - T h r) * expo q k c T' h r s := by
  unfold expo
  split
  · rw [← Real.exp_add]; congr 1; ring
  · rw [mul_zero]
theorem tot_shift : tot q k c T h r = Real.exp (T' h r - T h r) * tot q k c T' h r := by
  unfold tot
  rw [Finset.mul_sum]
  exact Finset.sum_congr rfl fun s _ => expo_shift q k c T T' h r s
theorem attn_shift (x : Fin 64) : attn q k v c T h r x = attn q k v c T' h r x := by
  unfold attn prob
  refine Finset.sum_congr rfl fun s _ => ?_
  rw [expo_shift q k c T T', tot_shift q k c T T', mul_div_mul_left _ _ (Real.exp_pos _).ne']
theorem lsum_shift : lsum q k c T h r = lsum q k c T' h r := by
  unfold lsum
  rw [tot_shift q k c T T', Real.log_mul (Real.exp_pos _).ne' (tot_pos q k c T' h r).ne', Real.log_exp]
  ring
theorem attn_div (x : Fin 64) : attn q k v c T h r x = (∑ s, expo q k c T h r s * v s (cl h x)) / tot q k c T h r := by
  unfold attn prob
  rw [Finset.sum_div]
  exact Finset.sum_congr rfl fun s _ => by ring
end

section
variable (q k v : Fin 2048 → Fin 512 → ℝ) (c : Fin 2048 → Fin 8 → ℝ) (p : Fin 4) (e : Fin 2) (b : ℕ)

/-- The key rows of chunk `j` that a query row of block `b` attends to. -/
abbrev Mb (j : ℕ) (r s : Fin 256) : Prop := rowAt j s ≤ rowAt b r
/-- A head's query block, scaled, zero outside the head's lanes; and its scores with chunk `j`, less the row's own term. -/
def qE (f : Fin 256 → Fin 128 → ℝ) (r : Fin 256) (l : Fin 128) : ℝ := if inh e l then f r l * (1 / 8) else 0
def scr (j : ℕ) (r s : Fin 256) : ℝ := ∑ l, qE e (blk b (colsOf q p.val)) r l * blk j (colsOf k p.val) s l - c (rowAt j s) (hd p e)

theorem scr_eq (j : ℕ) (r s : Fin 256) : scr q k c p e b j r s = sco q k c (hd p e) (rowAt b r) (rowAt j s) - c (rowAt b r) (hd p e) := by
  unfold scr sco qE
  have : ∀ l, (if inh e l then blk b (colsOf q p.val) r l * (1 / 8) else 0) * blk j (colsOf k p.val) s l
      = if inh e l then blk b (colsOf q p.val) r l * (1 / 8) * blk j (colsOf k p.val) s l else 0 := by
    intro l; split_ifs <;> simp
  rw [Finset.sum_congr rfl fun l _ => this l, sum_lanes, Finset.sum_mul]
  rw [Finset.sum_congr rfl fun x _ => show blk b (colsOf q p.val) r (ln e x) * (1 / 8) * blk j (colsOf k p.val) s (ln e x)
    = q (rowAt b r) (cl (hd p e) x) * k (rowAt j s) (cl (hd p e) x) * (1 / 8) by rw [cols_apply, cols_apply]; ring]
  ring

theorem sums_eq (hb : b < 8) (r : Fin 256) (μ : Fin 256 → ℝ) (T : Fin 8 → Fin 2048 → ℝ) (hT : T (hd p e) (rowAt b r) = μ r + c (rowAt b r) (hd p e))
    (f : Fin 2048 → ℝ) :
    ∑ j ∈ Finset.range (b + 1), ∑ s, ex (Mb b j) (scr q k c p e b j) μ r s * f (rowAt j s) = ∑ s, expo q k c T (hd p e) (rowAt b r) s * f s := by
  rw [sum_chunks]
  have hj : ∀ j s, ex (Mb b j) (scr q k c p e b j) μ r s = expo q k c T (hd p e) (rowAt b r) (rowAt j s) := by
    intro j s
    unfold ex expo
    refine if_congr Iff.rfl ?_ rfl
    rw [scr_eq, hT]; congr 1; ring
  simp only [hj]
  refine Finset.sum_subset (fun j hj => Finset.mem_range.2 (by have := Finset.mem_range.1 hj; omega)) fun j h8 hn => ?_
  refine Finset.sum_eq_zero fun s _ => ?_
  have h8 := Finset.mem_range.1 h8
  have hn : ¬j < b + 1 := fun h => hn (Finset.mem_range.2 h)
  unfold expo
  rw [if_neg (above b j h8 (by omega) r s), zero_mul]

/-- The row's output, and its log-sum, from the sums after the last tile, whatever the row's largest score `μ`. -/
theorem out_eq (hb : b < 8) (r : Fin 256) (μ : Fin 256 → ℝ) (T : Fin 8 → Fin 2048 → ℝ) (x : Fin 64) :
    (∑ j ∈ Finset.range (b + 1), ∑ s, ex (Mb b j) (scr q k c p e b j) μ r s * blk j (colsOf v p.val) s (ln e x))
      / (∑ j ∈ Finset.range (b + 1), ∑ s, ex (Mb b j) (scr q k c p e b j) μ r s) = attn q k v c T (hd p e) (rowAt b r) x := by
  rw [attn_shift q k v c T fun h r' => μ r + c r' h, attn_div]
  congr 1
  · rw [← sums_eq q k c p e b hb r μ (fun h r' => μ r + c r' h) rfl]
    simp only [cols_apply]
  · have := sums_eq q k c p e b hb r μ (fun h r' => μ r + c r' h) rfl fun _ => 1
    simp only [mul_one] at this
    exact this
theorem lse_eq (hb : b < 8) (r : Fin 256) (μ : Fin 256 → ℝ) (T : Fin 8 → Fin 2048 → ℝ) :
    μ r + Real.log (∑ j ∈ Finset.range (b + 1), ∑ s, ex (Mb b j) (scr q k c p e b j) μ r s) = lsum q k c T (hd p e) (rowAt b r) := by
  rw [lsum_shift q k c T fun h r' => μ r + c r' h]
  have := sums_eq q k c p e b hb r μ (fun h r' => μ r + c r' h) rfl fun _ => 1
  simp only [mul_one] at this
  unfold lsum
  rw [this]
  show μ r + Real.log (tot q k c _ _ _) = _
  ring
theorem den_pos (r : Fin 256) (μ : Fin 256 → ℝ) : 0 < ∑ j ∈ Finset.range (b + 1), ∑ s, ex (Mb b j) (scr q k c p e b j) μ r s := by
  have h0 : ∀ j s, 0 ≤ ex (Mb b j) (scr q k c p e b j) μ r s := fun j s => by
    unfold ex; split
    · exact (Real.exp_pos _).le
    · exact le_rfl
  refine Finset.sum_pos' (fun j _ => Finset.sum_nonneg fun s _ => h0 j s) ⟨b, Finset.mem_range.2 (by omega), Finset.sum_pos' (fun s _ => h0 b s) ⟨r, Finset.mem_univ _, ?_⟩⟩
  unfold ex
  rw [if_pos (le_refl (rowAt b r))]
  exact Real.exp_pos _
end

end Cert.Kernel22Ideal.Val

end
-- ==== Proof.Fwd.lean ====
/- The forward attention's tiles, and its passes over a block's earlier chunks. -/
module

public import proofs.«01_k».proof.Proof.Gen.Kernel22Ideal.Frame
public import proofs.«01_k».proof.Proof.Gen.Kernel22Ideal.Value
public import proofs.«01_k».proof.Proof.Fsum

@[expose] public section

set_option maxRecDepth 16384
set_option backward.isDefEq.respectTransparency false

noncomputable section

namespace Cert.Kernel22Ideal.Val

open Idealize.ShloMosaic Idealize.ShloMosaic.TcCoe Idealize.ShloMosaic.Tactic
open Cert.Kernel22Ideal Cert.Kernel22Ideal.Gen Cert.Sums
open Cert.KernelIdeal.Val (colsOf rowAt hd tri_mask all_mask)
open Cert.KernelIdeal.Hand (up2 up3 bm up2_mul up2_sub up2_select inh mTri inh_zero inh_one blk row_sum8 ld_rows2)

/-! The scores of a tile. -/

theorem m_lt : k0_pay22 = bm fun (_ : Fin 256) (l : Fin 128) => decide (l.val < 64) := Cert.KernelIdeal.Hand.m_lt
theorem m_tri : k0_pay27 = bm mTri := Cert.KernelIdeal.Hand.m_tri

theorem eighthb : broadcast S256x128 (Scalar.ofBits (F := Ideal) .bf16 0x3E00#16) = up2 fun (_ : Fin 256) (_ : Fin 128) => (1 / 8 : ℝ) := Cert.KernelIdeal.Hand.eighthb
theorem zerob : broadcast S256x128 (Scalar.ofBits (F := Ideal) .bf16 0x0000#16) = up2 fun (_ : Fin 256) (_ : Fin 128) => (0 : ℝ) := Cert.KernelIdeal.Hand.z_256x128b

theorem p25 (f : Fin 256 → Fin 128 → ℝ) : k0_pay25 (F := Ideal) (up2 f) = up2 (qE 0 f) := by
  unfold k0_pay25 k0_pay23 k0_pay24
  simp (proj := false) only [m_lt, eighthb, zerob, up2_mul, up2_select]
  unfold qE; simp (proj := false) only [inh_zero]
theorem p26 (f : Fin 256 → Fin 128 → ℝ) : k0_pay26 (F := Ideal) (up2 f) = up2 (qE 1 f) := by
  unfold k0_pay26 k0_pay23 k0_pay24
  simp (proj := false) only [m_lt, eighthb, zerob, up2_mul, up2_select]
  congr 1; funext s l; unfold qE; rw [inh_one]; by_cases h : l.val < 64 <;> simp [h]

/-- A tile's products less one head's row of the chunk's column terms. -/
def scoS (w : BitVec 32) (Q K : FVec Ideal S256x128 .bf16) (C : FVec Ideal S1x8x256 .f32) : FVec Ideal S256x256 .f32 :=
  subf (matmul dot_S256x128_S256x128_S256x256_1_1_0_0_n_n none Q K (constant S256x256 .f32 0x00000000#32))
    (broadcastTo S256x256 (shapeCast S1x256 (multiReduction .add [0] S256
      (select (cmpi .eq (iota .tc S8x256 32 [0] iota_S8x256_d0_w32) (broadcast S8x256 w)) (shapeCast S8x256 C shapeCasts_S1x8x256_S8x256)
        (broadcast S8x256 (Scalar.ofBits .f32 0x00000000#32))) 0x00000000#32 reduces_S8x256_S256 (.inl rfl) rfl) shapeCasts_S256_S1x256) broadcasts_S1x256_S256x256)

theorem scoS_eq (w : BitVec 32) (n : ℕ) (hw : w = BitVec.ofNat 32 n) (hn : n < 8) (f g : Fin 256 → Fin 128 → ℝ) (ct : Fin 1 → Fin 8 → Fin 256 → ℝ) :
    scoS w (up2 f) (up2 g) (up3 ct) = up2 fun r s => ∑ l, f r l * g s l - ct 0 ⟨n, hn⟩ s := by
  unfold scoS
  rw [mm_nt, show cmpi .eq (iota .tc S8x256 32 [0] iota_S8x256_d0_w32) (broadcast S8x256 w) = _ from Cert.KernelIdeal.Hand.m_row8 w n hw hn,
    show shapeCast S8x256 (up3 ct) shapeCasts_S1x8x256_S8x256 = _ from Cert.KernelIdeal.Hand.sc_ct (φ := .f32) ct,
    show broadcast S8x256 (Scalar.ofBits (F := Ideal) .f32 0x00000000#32) = _ from Cert.KernelIdeal.Hand.z_8x256]
  erw [up2_select (φ := .f32), Cert.KernelIdeal.Hand.red_col8, Cert.KernelIdeal.Hand.bc_row]
  rw [up2_sub]
  congr 1; funext r s
  congr 1
  exact row_sum8 (fun r => ct 0 r s) n hn

section
variable (q k v : Fin 2048 → Fin 512 → ℝ) (c : Fin 2048 → Fin 8 → ℝ) (p : Fin 4) (e : Fin 2) (b j : ℕ)

/-- Chunk `j`'s column terms. -/
def ctOf : Fin 1 → Fin 8 → Fin 256 → ℝ := fun _ h s => c (rowAt j s) h

theorem sco_sig (w : BitVec 32) (hw : w = BitVec.ofNat 32 (2 * p.val + e.val)) :
    scoS w (up2 (qE e (blk b (colsOf q p.val)))) (up2 (blk j (colsOf k p.val))) (up3 (ctOf c j)) = up2 (scr q k c p e b j) :=
  scoS_eq w (2 * p.val + e.val) hw (by omega) _ _ _

theorem full (hb : b < 8) (hj : j < b) (f : Fin 256 → Fin 256 → ℝ) : up2 f = msk (Mb b j) f := by
  funext x
  exact (if_pos ((all_mask b j hb hj (x 0) (x 1)).1 rfl)).symm
theorem diag (hb : b < 8) (f : Fin 256 → Fin 256 → ℝ) :
    select (α := Ideal .f32) k0_pay27 (up2 f) (broadcast S256x256 (Named.named κ "mask" 0xF149F2CA#32)) = msk (Mb b b) f := by
  rw [m_tri]
  funext x
  show (if (if mTri (x 0) (x 1) = true then 1#1 else 0#1) = 1#1 then ((f (x 0) (x 1) : ℝ) : EReal) else ⊥) = if Mb b b (x 0) (x 1) then ((f (x 0) (x 1) : ℝ) : EReal) else ⊥
  have h := tri_mask b hb (x 0) (x 1)
  by_cases hm : mTri (x 0) (x 1) = true
  · rw [if_pos hm, if_pos rfl, if_pos (h.1 hm)]
  · rw [if_neg hm, if_neg (by decide), if_neg fun hh => hm (h.2 hh)]
theorem some_true (hjb : j ≤ b) (hb : b < 8) (r : Fin 256) : ∃ s, Mb b j r s := ⟨r, by
  show rowAt j r ≤ rowAt b r
  unfold rowAt; rw [Fin.mk_le_mk]; omega⟩
end

/-! One pass. -/

/-- The carried values of both heads. -/
abbrev Six := FVec Ideal S256x1 .f32 × FVec Ideal S256x1 .f32 × FVec Ideal S256x128 .f32 × FVec Ideal S256x1 .f32 × FVec Ideal S256x1 .f32 × FVec Ideal S256x128 .f32

def stepS (S T : FVec Ideal S256x256 .f32) (V : FVec Ideal S256x128 .bf16) (a : Six) : Six :=
  (mxS S a.1, denS S a.1 a.2.1, accS S a.1 a.2.2.1 V, mxS T a.2.2.2.1, denS T a.2.2.2.1 a.2.2.2.2.1, accS T a.2.2.2.1 a.2.2.2.2.2 V)

/-- The rows of one chunk that a load reads. -/
abbrev rows (v : View sig .tc .vmem S2048x128 .bf16) (off : Fin 2 → ℕ) (h : ∀ a, off a + S256x128.size a ≤ S2048x128.size a)
    (X : BufTy.Contents (Elt Ideal) v.ty) : S256x128.Idx → Elt Ideal .bf16 :=
  v.readAt (Elt Ideal) (Rect.unit (s := S2048x128) off S256x128.size h).toLoadRect X
abbrev chunk (v : View sig .tc .vmem S8x8x256 .f32) (off : Fin 3 → ℕ) (h : ∀ a, off a + S1x8x256.size a ≤ S8x8x256.size a)
    (X : BufTy.Contents (Elt Ideal) v.ty) : S1x8x256.Idx → Elt Ideal .f32 :=
  v.readAt (Elt Ideal) (Rect.unit (s := S8x8x256) off S1x8x256.size h).toLoadRect X

theorem rows_eq (f : Fin 2048 → Fin 128 → ℝ) (b : ℕ) (v : View sig .tc .vmem S2048x128 .bf16) (X) (hX : v.read (Elt Ideal) X = up2 f) (off) (h) (hoff : off = ![256 * b, 0]) :
    rows v off h X = up2 (blk b f) := ld_rows2 _ f hX off h b hoff
theorem chunk_eq (c : Fin 2048 → Fin 8 → ℝ) (j : ℕ) (v : View sig .tc .vmem S8x8x256 .f32) (X) (hX : v.read (Elt Ideal) X = up3 fun (j : Fin 8) h s => c (rowAt j.val s) h)
    (off) (h) (hoff : off = ![j, 0, 0]) : chunk v off h X = up3 (ctOf c j) := by
  subst hoff
  have hY : (fun x : S1x8x256.Idx => v.read (Elt Ideal) X ((Rect.unit (s := S8x8x256) ![j, 0, 0] S1x8x256.size h).emb x)) = up3 (ctOf c j) := by
    rw [hX]
    funext x
    have x0 : (x 0).val < 1 := (x 0).isLt
    show ((c (rowAt (j + 1 * (x 0).val) _) _ : ℝ) : EReal) = ((c (rowAt j (x 2)) (x 1) : ℝ) : EReal)
    congr 2
    · congr 1
      · omega
      · exact Fin.ext (show 0 + 1 * (x 2).val = (x 2).val by omega)
    · exact Fin.ext (show 0 + 1 * (x 1).val = (x 1).val by omega)
  exact hY

theorem trips_t1 (i : grid0.Coords) : (k0_t1_loop i).trips = (i 1).val := by
  have key : ∀ j : Fin 8, Scf.trips 0#32 (Scalar.addi 0#32 (Scalar.muli (Scalar.divsi (Scalar.subi (BitVec.ofNat 32 j.val) 0#32) 1#32) 1#32)) 1#32 = j.val := by decide +kernel
  exact key (i 1)
theorem trips_t2 (i : grid0.Coords) : (k0_t2_loop i).trips = 0 := by
  have key : ∀ j : Fin 8, Scf.trips (Scalar.addi 0#32 (Scalar.muli (Scalar.divsi (Scalar.subi (BitVec.ofNat 32 j.val) 0#32) 1#32) 1#32)) (Scalar.addi 0#32 (Scalar.subi (BitVec.ofNat 32 j.val) 0#32)) 1#32 = 0 := by decide +kernel
  exact key (i 1)
theorem off1_eq (i : grid0.Coords) (k : Fin (k0_t1_loop i).trips) : k0_off1 i k = ![256 * k.val, 0] := by
  have h1 : (i 1).val < 8 := (i 1).isLt
  have hk := lt_of_lt_of_eq k.isLt (trips_t1 i)
  have key : ∀ k : Fin 8, (Scalar.indexCast (Scalar.muli (Scf.iv 0#32 1#32 k.val) 256#32)).toNat = 256 * k.val := by decide +kernel
  unfold k0_off1; dsimp only
  exact congrArg (fun n => ![n, 0]) (key ⟨k.val, by omega⟩)
theorem off2_eq (i : grid0.Coords) (k : Fin (k0_t1_loop i).trips) : k0_off2 i k = ![k.val, 0, 0] := by
  have h1 : (i 1).val < 8 := (i 1).isLt
  have hk := lt_of_lt_of_eq k.isLt (trips_t1 i)
  have key : ∀ k : Fin 8, (Scalar.indexCast (Scf.iv 0#32 1#32 k.val)).toNat = k.val := by decide +kernel
  unfold k0_off2; dsimp only
  exact congrArg (fun n => ![n, 0, 0]) (key ⟨k.val, by omega⟩)
theorem off5_eq (i : grid0.Coords) : k0_off5 i = ![256 * (i 1).val, 0] := by
  have key : ∀ j : Fin 8, (Scalar.indexCast (Scalar.muli (BitVec.ofNat 32 j.val) 256#32)).toNat = 256 * j.val := by decide +kernel
  unfold k0_off5; dsimp only
  exact congrArg (fun n => ![n, 0]) (key (i 1))
theorem off6_eq (i : grid0.Coords) : k0_off6 i = ![(i 1).val, 0, 0] := by
  have key : ∀ j : Fin 8, (Scalar.indexCast (BitVec.ofNat 32 j.val)).toNat = j.val := by decide +kernel
  unfold k0_off6; dsimp only
  exact congrArg (fun n => ![n, 0, 0]) (key (i 1))

section
variable (d : Dev nD) (i : grid0.Coords) (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole)
  (arg5 : Memref sig .tc .vmem S8x8x256 .f32) (harg5 : arg5.IsWhole) (arg6 : Memref sig .tc .vmem S256x128 .bf16) (harg6 : arg6.IsWhole) (arg7 : Memref sig .tc .vmem S1x256x128 .f32) (harg7 : arg7.IsWhole)
  (w : BitVec 32) (v3 : FVec Ideal S256x128 .bf16) (X3 : BufTy.Contents (Elt Ideal) arg3.view.ty) (X4 : BufTy.Contents (Elt Ideal) arg4.view.ty) (X5 : BufTy.Contents (Elt Ideal) arg5.view.ty)

set_option maxHeartbeats 1000000 in
theorem trip_eq (n : Fin (k0_t1_loop i).trips) (a : Six) :
    tripR_k0_t1 (F := Ideal) Variants.none d none i arg2 harg2 arg3 harg3 arg4 harg4 arg5 harg5 arg6 harg6 arg7 harg7 w v3 X3 X4 X5 n a
      = stepS (scoS (Scalar.addi (Scalar.muli 2#32 w) 0#32) (k0_pay25 v3) (rows arg3.view (k0_off1 i n) (k0_off1_inb i n) X3) (chunk arg5.view (k0_off2 i n) (k0_off2_inb i n) X5))
          (scoS (Scalar.addi (Scalar.muli 2#32 w) 1#32) (k0_pay26 v3) (rows arg3.view (k0_off1 i n) (k0_off1_inb i n) X3) (chunk arg5.view (k0_off2 i n) (k0_off2_inb i n) X5))
          (rows arg4.view (k0_off1 i n) (k0_off1_inb i n) X4) a := by
  unfold tripR_k0_t1 trip_k0_t1; dsimp only; sl_unfold_words
  rfl

variable (q k v : Fin 2048 → Fin 512 → ℝ) (c : Fin 2048 → Fin 8 → ℝ) (p : Fin 4)

/-- Both heads' carried values after `n` chunks. -/
def Both (b n : ℕ) (a : Six) : Prop :=
  Inv (Mb b) (scr q k c p 0 b) (fun j => blk j (colsOf v p.val)) n a.1 a.2.1 a.2.2.1
    ∧ Inv (Mb b) (scr q k c p 1 b) (fun j => blk j (colsOf v p.val)) n a.2.2.2.1 a.2.2.2.2.1 a.2.2.2.2.2

theorem word (e : Fin 2) (hw : w = BitVec.ofNat 32 p.val) : Scalar.addi (Scalar.muli 2#32 w) (BitVec.ofNat 32 e.val) = BitVec.ofNat 32 (2 * p.val + e.val) := by
  subst hw
  revert p e; decide

theorem loop_val (hw : w = BitVec.ofNat 32 p.val) (h3 : arg3.view.read (Elt Ideal) X3 = up2 (colsOf k p.val)) (h4 : arg4.view.read (Elt Ideal) X4 = up2 (colsOf v p.val))
    (h5 : arg5.view.read (Elt Ideal) X5 = up3 fun (j : Fin 8) h s => c (rowAt j.val s) h) (hv : v3 = up2 (blk (i 1).val (colsOf q p.val))) (a : Six)
    (ha : Both q k v c p (i 1).val 0 a) (n : ℕ) (hn : n ≤ (i 1).val) :
    Both q k v c p (i 1).val n (st_k0_t1 (F := Ideal) Variants.none d none i arg2 harg2 arg3 harg3 arg4 harg4 arg5 harg5 arg6 harg6 arg7 harg7 w v3 X3 X4 X5 a n) := by
  subst hv
  induction n with
  | zero => exact ha
  | succ n ih =>
    have hb : (i 1).val < 8 := (i 1).isLt
    have hk : n < (k0_t1_loop i).trips := by rw [trips_t1]; omega
    have ih := ih (by omega)
    have e := st_k0_t1_succ (F := Ideal) Variants.none d none i arg2 harg2 arg3 harg3 arg4 harg4 arg5 harg5 arg6 harg6 arg7 harg7 w (up2 (blk (i 1).val (colsOf q p.val))) X3 X4 X5 a ⟨n, hk⟩
    rw [show n + 1 = (⟨n, hk⟩ : Fin (k0_t1_loop i).trips).val + 1 from rfl, e, trip_eq]
    rw [rows_eq _ n _ _ h3 _ _ (off1_eq i ⟨n, hk⟩), rows_eq _ n _ _ h4 _ _ (off1_eq i ⟨n, hk⟩), chunk_eq c n _ _ h5 _ _ (off2_eq i ⟨n, hk⟩), p25, p26,
      sco_sig q k c p 0 (i 1).val n (Scalar.addi (Scalar.muli 2#32 w) 0#32) (word w p 0 hw),
      sco_sig q k c p 1 (i 1).val n (Scalar.addi (Scalar.muli 2#32 w) 1#32) (word w p 1 hw), full (i 1).val n hb (by omega), full (i 1).val n hb (by omega)]
    exact ⟨inv_succ _ _ _ n (some_true _ n (by omega) hb) ih.1, inv_succ _ _ _ n (some_true _ n (by omega) hb) ih.2⟩
end

end Cert.Kernel22Ideal.Val

end
-- ==== Proof.Fout.lean ====
/- What one grid step of the forward attention stores: its block's rows of the output and of the log-sums. -/
module

public import proofs.«01_k».proof.Proof.Fwd

@[expose] public section

set_option maxRecDepth 16384
set_option backward.isDefEq.respectTransparency false

noncomputable section

namespace Cert.Kernel22Ideal.Val

open Idealize.ShloMosaic Idealize.ShloMosaic.TcCoe Idealize.ShloMosaic.Tactic
open Cert.Kernel22Ideal Cert.Kernel22Ideal.Gen Cert.Sums
open Cert.KernelIdeal.Val (colsOf rowAt hd ln attn lsum)
open Cert.KernelIdeal.Hand (up2 up3 bm up2_mul up2_add up2_sub up2_select up2_truncf inh inh_zero blk)

/-- The output and the log-sums of a block from the carried values after its last tile. -/
def outS (a : Six) : FVec Ideal S256x128 .bf16 :=
  shapeCast S256x128 (truncf .bf16 (select k0_pay22 (divf a.2.2.1 (broadcastTo S256x128 a.2.1 broadcasts_S256x1_S256x128))
    (divf a.2.2.2.2.2 (broadcastTo S256x128 a.2.2.2.2.1 broadcasts_S256x1_S256x128))) bitsLt_bf16_f32) shapeCasts_S256x128_S256x128
def lseS (a : Six) : FVec Ideal S1x256x128 .f32 :=
  shapeCast S1x256x128 (select (cmpi .eq (iota .tc S256x128 32 [1] iota_S256x128_d1_w32) (broadcast S256x128 0#32))
    (broadcastTo S256x128 (shapeCast S256x1 (addf a.1 (log a.2.1)) shapeCasts_S256x1_S256x1) broadcasts_S256x1_S256x128)
    (select (cmpi .eq (iota .tc S256x128 32 [1] iota_S256x128_d1_w32) (broadcast S256x128 1#32))
      (broadcastTo S256x128 (shapeCast S256x1 (addf a.2.2.2.1 (log a.2.2.2.2.1)) shapeCasts_S256x1_S256x1) broadcasts_S256x1_S256x128)
      (broadcast S256x128 (Scalar.ofBits .f32 0x00000000#32)))) shapeCasts_S256x128_S1x256x128
/-- The diagonal tile, masked. -/
def triS (S : FVec Ideal S256x256 .f32) : FVec Ideal S256x256 .f32 := select (α := Ideal .f32) k0_pay27 S (broadcast S256x256 (Named.named κ "mask" 0xF149F2CA#32))

section
variable (q k v : Fin 2048 → Fin 512 → ℝ) (c : Fin 2048 → Fin 8 → ℝ) (p : Fin 4) (b : ℕ) (T : Fin 8 → Fin 2048 → ℝ)

theorem div_up (f : Fin 256 → Fin 128 → ℝ) (g : Fin 256 → ℝ) (hg : ∀ r, 0 < g r) :
    divf (F := Ideal) (φ := .f32) (up2 f) (up2 fun r (_ : Fin 128) => g r) = up2 fun r l => f r l / g r := by
  funext x
  show Ideal.div ((f (x 0) (x 1) : ℝ) : EReal) ((g (x 0) : ℝ) : EReal) = ((f (x 0) (x 1) / g (x 0) : ℝ) : EReal)
  rw [Ideal.div_coe (hg (x 0)).ne', ← EReal.coe_mul]; congr 1; ring
theorem log_up (g : Fin 256 → ℝ) (hg : ∀ r, 0 < g r) : log (F := Ideal) (φ := .f32) (up2 fun r (_ : Fin 1) => g r) = up2 fun r (_ : Fin 1) => Real.log (g r) := by
  funext x
  show Ideal.log ((g (x 0) : ℝ) : EReal) = ((Real.log (g (x 0)) : ℝ) : EReal)
  rw [Ideal.log_coe, if_neg (not_le.2 (hg (x 0)))]

/-- Column `l` of a pair's output, and lane `l` of its log-sums. -/
def outR (r : Fin 256) (l : Fin 128) : ℝ :=
  attn q k v c T (hd p ⟨l.val / 64, by omega⟩) (rowAt b r) ⟨l.val % 64, by omega⟩
def lseR (r : Fin 256) (l : Fin 128) : ℝ := if l.val = 0 then lsum q k c T (hd p 0) (rowAt b r) else if l.val = 1 then lsum q k c T (hd p 1) (rowAt b r) else 0

theorem stored (hb : b < 8) (a : Six) (h : Both q k v c p b (b + 1) a) : outS a = up2 (outR q k v c p b T) ∧ lseS a = up3 fun (_ : Fin 1) => lseR q k c p b T := by
  obtain ⟨⟨μ, m₁, d₁, a₁⟩, ⟨ν, m₂, d₂, a₂⟩⟩ := h
  have m₁ := m₁.resolve_right fun h => by omega
  have m₂ := m₂.resolve_right fun h => by omega
  constructor
  · unfold outS
    rw [d₁, d₂, a₁, a₂, bc_col128, bc_col128, div_up _ _ (den_pos q k c p 0 b · μ), div_up _ _ (den_pos q k c p 1 b · ν), m_lt, up2_select, up2_truncf]
    refine (Cert.KernelIdeal.Hand.sc_id (φ := .bf16) _).trans ?_
    congr 1; funext r l
    unfold outR
    by_cases hl : l.val < 64
    · rw [if_pos (decide_eq_true hl)]
      have := out_eq q k v c p 0 b hb r μ T ⟨l.val % 64, by omega⟩
      rw [show ln 0 ⟨l.val % 64, by omega⟩ = l from Fin.ext (show 64 * 0 + l.val % 64 = l.val by omega)] at this
      rw [this]; congr 2
      exact Fin.ext (show 0 = l.val / 64 by omega)
    · rw [if_neg (by simpa using hl)]
      have := out_eq q k v c p 1 b hb r ν T ⟨l.val % 64, by omega⟩
      rw [show ln 1 ⟨l.val % 64, by omega⟩ = l from Fin.ext (show 64 * 1 + l.val % 64 = l.val by omega)] at this
      rw [this]; congr 2
      exact Fin.ext (show 1 = l.val / 64 by omega)
  · unfold lseS
    rw [m₁, m₂, d₁, d₂, log_up _ (den_pos q k c p 0 b · μ), log_up _ (den_pos q k c p 1 b · ν), up2_add, up2_add,
      show cmpi .eq (iota .tc S256x128 32 [1] iota_S256x128_d1_w32) (broadcast S256x128 0#32) = _ from Cert.KernelIdeal.Hand.m_lane0,
      show cmpi .eq (iota .tc S256x128 32 [1] iota_S256x128_d1_w32) (broadcast S256x128 1#32) = _ from Cert.KernelIdeal.Hand.m_lane1,
      show broadcast S256x128 (Scalar.ofBits (F := Ideal) .f32 0x00000000#32) = _ from Cert.KernelIdeal.Hand.z_256x128,
      show shapeCast S256x1 (up2 _) shapeCasts_S256x1_S256x1 = _ from Cert.KernelIdeal.Hand.sc_id2 (φ := .f32) _,
      show shapeCast S256x1 (up2 _) shapeCasts_S256x1_S256x1 = _ from Cert.KernelIdeal.Hand.sc_id2 (φ := .f32) _, bc_col128, bc_col128]
    erw [up2_select (φ := .f32), up2_select (φ := .f32)]
    refine (Cert.KernelIdeal.Hand.sc_23 (φ := .f32) _).trans ?_
    congr 1; funext _ r l
    unfold lseR
    rw [lse_eq q k c p 0 b hb r μ T, lse_eq q k c p 1 b hb r ν T]
    simp only [decide_eq_true_eq]
end

section
variable (d : Dev nD) (i : grid0.Coords) (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole)
  (arg5 : Memref sig .tc .vmem S8x8x256 .f32) (harg5 : arg5.IsWhole) (arg6 : Memref sig .tc .vmem S256x128 .bf16) (harg6 : arg6.IsWhole) (arg7 : Memref sig .tc .vmem S1x256x128 .f32) (harg7 : arg7.IsWhole)
  (x0 : Vec Ideal S256x128 .bf16) (x1 : Vec Ideal S2048x128 .bf16) (x2 : Vec Ideal S2048x128 .bf16) (x3 : Vec Ideal S8x8x256 .f32)

/-- The query block as loaded, and the carried values after the two loops. -/
def qry : FVec Ideal S256x128 .bf16 := arg2.view.readAt (Elt Ideal) (Rect.unit (s := S256x128) ![0, 0] S256x128.size inb_S256x128_S256x128_0_0).toLoadRect (harg2.unread x0)
def aft1 : Six :=
  st_k0_t1 (F := Ideal) Variants.none d none i arg2 harg2 arg3 harg3 arg4 harg4 arg5 harg5 arg6 harg6 arg7 harg7 (BitVec.ofNat 32 (i 0).val) (qry arg2 harg2 x0) (harg3.unread x1) (harg4.unread x2) (harg5.unread x3)
    (k0_pay28, k0_pay29, k0_pay30, k0_pay28, k0_pay29, k0_pay30) (k0_t1_loop i).trips
def aft2 : Six :=
  st_k0_t2 (F := Ideal) Variants.none d none i arg2 harg2 arg3 harg3 arg4 harg4 arg5 harg5 arg6 harg6 arg7 harg7 (BitVec.ofNat 32 (i 0).val) (qry arg2 harg2 x0)
    (Scalar.addi 0#32 (Scalar.muli (Scalar.divsi (Scalar.subi (BitVec.ofNat 32 (i 1).val) 0#32) 1#32) 1#32)) (harg3.unread x1) (harg4.unread x2) (harg5.unread x3)
    (aft1 d i arg2 harg2 arg3 harg3 arg4 harg4 arg5 harg5 arg6 harg6 arg7 harg7 x0 x1 x2 x3) (k0_t2_loop i).trips
theorem aft2_eq : aft2 d i arg2 harg2 arg3 harg3 arg4 harg4 arg5 harg5 arg6 harg6 arg7 harg7 x0 x1 x2 x3 = aft1 d i arg2 harg2 arg3 harg3 arg4 harg4 arg5 harg5 arg6 harg6 arg7 harg7 x0 x1 x2 x3 := by
  unfold aft2
  rw [trips_t2]
  rfl
/-- After the diagonal tile. -/
def last (a : Six) : Six :=
  stepS (triS (scoS (Scalar.addi (Scalar.muli 2#32 (BitVec.ofNat 32 (i 0).val)) 0#32) (k0_pay25 (qry arg2 harg2 x0)) (rows arg3.view (k0_off5 i) (k0_off5_inb i) (harg3.unread x1)) (chunk arg5.view (k0_off6 i) (k0_off6_inb i) (harg5.unread x3))))
    (triS (scoS (Scalar.addi (Scalar.muli 2#32 (BitVec.ofNat 32 (i 0).val)) 1#32) (k0_pay26 (qry arg2 harg2 x0)) (rows arg3.view (k0_off5 i) (k0_off5_inb i) (harg3.unread x1)) (chunk arg5.view (k0_off6 i) (k0_off6_inb i) (harg5.unread x3))))
    (rows arg4.view (k0_off5 i) (k0_off5_inb i) (harg4.unread x2)) a

set_option maxHeartbeats 2000000 in
theorem form :
    (kernelRun0_A (F := Ideal) d i arg2 harg2 arg3 harg3 arg4 harg4 arg5 harg5 arg6 harg6 arg7 harg7 x0 x1 x2 x3).1
      = [⟨Rect.unit (s := S256x128) ![0, 0] S256x128.size inb_S256x128_S256x128_0_0, outS (last i arg2 harg2 arg3 harg3 arg4 harg4 arg5 harg5 x0 x1 x2 x3 (aft2 d i arg2 harg2 arg3 harg3 arg4 harg4 arg5 harg5 arg6 harg6 arg7 harg7 x0 x1 x2 x3))⟩]
    ∧ (kernelRun0_A (F := Ideal) d i arg2 harg2 arg3 harg3 arg4 harg4 arg5 harg5 arg6 harg6 arg7 harg7 x0 x1 x2 x3).2.1
      = [⟨Rect.unit (s := S1x256x128) ![0, 0, 0] S1x256x128.size inb_S1x256x128_S1x256x128_0_0_0, lseS (last i arg2 harg2 arg3 harg3 arg4 harg4 arg5 harg5 x0 x1 x2 x3 (aft2 d i arg2 harg2 arg3 harg3 arg4 harg4 arg5 harg5 arg6 harg6 arg7 harg7 x0 x1 x2 x3))⟩] := by
  unfold kernelRun0_A; dsimp only; sl_unfold_words
  exact ⟨rfl, rfl⟩

variable (q k v : Fin 2048 → Fin 512 → ℝ) (c : Fin 2048 → Fin 8 → ℝ) (p : Fin 4)

theorem start (b : ℕ) : Both q k v c p b 0 (k0_pay28 (F := Ideal), k0_pay29 (F := Ideal), k0_pay30 (F := Ideal), k0_pay28 (F := Ideal), k0_pay29 (F := Ideal), k0_pay30 (F := Ideal)) := by
  have h : k0_pay28 (F := Ideal) = fun _ => (⊥ : EReal) := by unfold k0_pay28; rfl
  have h₁ : k0_pay29 (F := Ideal) = up2 fun (_ : Fin 256) (_ : Fin 1) => 0 := by
    unfold k0_pay29
    funext x
    exact Cert.ReferenceIdeal.Real.zero_bits
  have h₂ : k0_pay30 (F := Ideal) = up2 fun (_ : Fin 256) (_ : Fin 128) => 0 := Cert.KernelIdeal.Hand.z_256x128
  exact ⟨inv_zero _ _ _ h h₁ h₂, inv_zero _ _ _ h h₁ h₂⟩

theorem all_tiles (hi : p.val = (i 0).val) (h0 : x0 = up2 (blk (i 1).val (colsOf q p.val))) (h1 : x1 = up2 (colsOf k p.val)) (h2 : x2 = up2 (colsOf v p.val))
    (h3 : x3 = up3 fun (j : Fin 8) h s => c (rowAt j.val s) h) :
    Both q k v c p (i 1).val ((i 1).val + 1) (last i arg2 harg2 arg3 harg3 arg4 harg4 arg5 harg5 x0 x1 x2 x3 (aft2 d i arg2 harg2 arg3 harg3 arg4 harg4 arg5 harg5 arg6 harg6 arg7 harg7 x0 x1 x2 x3)) := by
  have hb : (i 1).val < 8 := (i 1).isLt
  have e1 := (harg3.read_unread x1).trans h1
  have e2 := (harg4.read_unread x2).trans h2
  have e3 := (harg5.read_unread x3).trans h3
  have e0 : qry arg2 harg2 x0 = up2 (blk (i 1).val (colsOf q p.val)) := by
    unfold qry
    refine ((View.ld_unit_zero (S := S256x128) z2 _ _).trans (harg2.read_unread x0)).trans h0
  have hw : BitVec.ofNat 32 (i 0).val = BitVec.ofNat 32 p.val := by rw [hi]
  rw [aft2_eq]
  have hl := loop_val d i arg2 harg2 arg3 harg3 arg4 harg4 arg5 harg5 arg6 harg6 arg7 harg7 _ _ _ _ _ q k v c p hw e1 e2 e3 e0 _ (start q k v c p _) (i 1).val le_rfl
  have hl : Both q k v c p (i 1).val (i 1).val (aft1 d i arg2 harg2 arg3 harg3 arg4 harg4 arg5 harg5 arg6 harg6 arg7 harg7 x0 x1 x2 x3) := by
    unfold aft1; rw [trips_t1]; exact hl
  generalize aft1 d i arg2 harg2 arg3 harg3 arg4 harg4 arg5 harg5 arg6 harg6 arg7 harg7 x0 x1 x2 x3 = a at hl ⊢
  unfold last
  rw [rows_eq _ _ _ _ e1 _ _ (off5_eq i), rows_eq _ _ _ _ e2 _ _ (off5_eq i), chunk_eq c _ _ _ e3 _ _ (off6_eq i), e0, p25, p26,
    sco_sig q k c p 0 (i 1).val (i 1).val (Scalar.addi (Scalar.muli 2#32 (BitVec.ofNat 32 (i 0).val)) 0#32) (word _ p 0 hw),
    sco_sig q k c p 1 (i 1).val (i 1).val (Scalar.addi (Scalar.muli 2#32 (BitVec.ofNat 32 (i 0).val)) 1#32) (word _ p 1 hw)]
  unfold triS
  rw [diag _ hb, diag _ hb]
  exact ⟨inv_succ _ _ _ _ (some_true _ _ le_rfl hb) hl.1, inv_succ _ _ _ _ (some_true _ _ le_rfl hb) hl.2⟩
end

end Cert.Kernel22Ideal.Val

end
-- ==== Proof.Forward.lean ====
/- The forward attention: what the call leaves of its two results, the reference's, and the claim over the reals. -/
module

public import proofs.«01_k».proof.Defs
public import proofs.«01_k».proof.Proof.Fout
public import proofs.«01_k».proof.Proof.Prefix
public import proofs.«01_k».proof.Proof.Finite
public import proofs.«01_k».proof.Proof.Gen.Kernel22Ideal.Value
public import proofs.«01_k».proof.Proof.Gen.Reference22Ideal.Run
public import proofs.«01_k».proof.Proof.Gen.Reference22Ideal.Read

@[expose] public section

set_option maxRecDepth 16384
set_option backward.isDefEq.respectTransparency false

noncomputable section

namespace Cert.Kernel22Ideal.Val

open Idealize.ShloMosaic Idealize.ShloMosaic.TcCoe Idealize.ShloMosaic.Tactic Idealize.ShloMosaic.StableHlo
open Cert.Kernel22Ideal Cert.Kernel22Ideal.Gen Cert.Kernel22Ideal.Value Cert.Sums
open Cert.KernelIdeal.Val (colsOf rowAt hd attn lsum found)
open Cert.KernelIdeal.Hand (up2 up3 blk)

/-! The windows' blocks, decided over the grid. -/
theorem ixI : ∀ t : Fin grid0.N, (win0_0.index t 0 = (grid0.coords t 1).val ∧ win0_0.index t 1 = (grid0.coords t 0).val)
    ∧ (win0_1.index t 0 = 0 ∧ win0_1.index t 1 = (grid0.coords t 0).val) ∧ (win0_2.index t 0 = 0 ∧ win0_2.index t 1 = (grid0.coords t 0).val)
    ∧ win0_3.index t 0 = 0 ∧ win0_3.index t 1 = 0 ∧ win0_3.index t 2 = 0 := by decide +kernel
theorem ixO : ∀ t : Fin grid0.N, (win0_4.flush t = true ∧ win0_4.index t 0 = (grid0.coords t 1).val ∧ win0_4.index t 1 = (grid0.coords t 0).val)
    ∧ win0_5.flush t = true ∧ win0_5.index t 0 = (grid0.coords t 0).val ∧ win0_5.index t 1 = (grid0.coords t 1).val ∧ win0_5.index t 2 = 0 := by decide +kernel
theorem point : ∀ (p : Fin 4) (b : Fin 8), ∃ t : Fin grid0.N, (grid0.coords t 0).val = p.val ∧ (grid0.coords t 1).val = b.val := by decide +kernel

variable (m : (ℓ : Loc nD τ sig) → Buf (Elt Ideal) ℓ) (c : Dev nD)

theorem V_ct : V m c main_v2 = transpose S8x8x256 [1, 0, 2] (shapeCast S8x8x256 (transpose S8x2048 [1, 0] (m ((c.tc : Thread nD τ).loc main_arg3)) transposes_S2048x8_S8x2048_1_0)
    shapeCasts_S8x2048_S8x8x256) transposes_S8x8x256_S8x8x256_1_0_2 := by
  unfold_abbrev_sides
  simp only [hostOps0, TRef.unary, TRef.toBuf, TRef.ofBuf, cast_eq]
  after_reads_simp
  rfl

section
variable (q k v : Fin 2048 → Fin 512 → ℝ) (e : Fin 2048 → Fin 8 → ℝ) (T : Fin 8 → Fin 2048 → ℝ)
  (hq : m ((c.tc : Thread nD τ).loc main_arg0) = up2 q) (hk : m ((c.tc : Thread nD τ).loc main_arg1) = up2 k)
  (hv : m ((c.tc : Thread nD τ).loc main_arg2) = up2 v) (he : m ((c.tc : Thread nD τ).loc main_arg3) = up2 e)
  (t : Fin cfg0.N) (p : Fin 4) (hp : p.val = (grid0.coords t 0).val)

include hq hp in
theorem blk0 : (iblk m c 0 t : Vec Ideal S256x128 .bf16) = up2 (blk (grid0.coords t 1).val (colsOf q p.val)) := funext fun x => by
  obtain ⟨⟨e0, e1⟩, -⟩ := ixI t
  have h0 : (x 0).val < 256 := (x 0).isLt; have h1 : (x 1).val < 128 := (x 1).isLt; have hb : (grid0.coords t 1).val < 8 := (grid0.coords t 1).isLt
  unfold iblk
  rw [show V m c (Pipeline.arrRef spec0 0) = up2 q from (V_main_arg0 m c).trans hq]
  show ((q _ _ : ℝ) : EReal) = ((q _ _ : ℝ) : EReal)
  congr 2
  · apply Fin.ext; show win0_0.index t 0 * 256 + 1 * (x 0).val = (256 * (grid0.coords t 1).val + (x 0).val) % 2048; omega
  · apply Fin.ext; show win0_0.index t 1 * 128 + 1 * (x 1).val = (p.val * 128 + (x 1).val) % 512; omega

include hk hp in
theorem blk1 : (iblk m c 1 t : Vec Ideal S2048x128 .bf16) = up2 (colsOf k p.val) := funext fun x => by
  obtain ⟨-, ⟨e0, e1⟩, -⟩ := ixI t
  have h1 : (x 1).val < 128 := (x 1).isLt
  unfold iblk
  rw [show V m c (Pipeline.arrRef spec0 1) = up2 k from (V_main_arg1 m c).trans hk]
  show ((k _ _ : ℝ) : EReal) = ((k _ _ : ℝ) : EReal)
  congr 2
  · apply Fin.ext; show win0_1.index t 0 * 2048 + 1 * (x 0).val = (x 0).val; omega
  · apply Fin.ext; show win0_1.index t 1 * 128 + 1 * (x 1).val = (p.val * 128 + (x 1).val) % 512; omega

include hv hp in
theorem blk2 : (iblk m c 2 t : Vec Ideal S2048x128 .bf16) = up2 (colsOf v p.val) := funext fun x => by
  obtain ⟨-, -, ⟨e0, e1⟩, -⟩ := ixI t
  have h1 : (x 1).val < 128 := (x 1).isLt
  unfold iblk
  rw [show V m c (Pipeline.arrRef spec0 2) = up2 v from (V_main_arg2 m c).trans hv]
  show ((v _ _ : ℝ) : EReal) = ((v _ _ : ℝ) : EReal)
  congr 2
  · apply Fin.ext; show win0_2.index t 0 * 2048 + 1 * (x 0).val = (x 0).val; omega
  · apply Fin.ext; show win0_2.index t 1 * 128 + 1 * (x 1).val = (p.val * 128 + (x 1).val) % 512; omega

include he in
theorem blk3 : (iblk m c 3 t : Vec Ideal S8x8x256 .f32) = up3 fun (j : Fin 8) h s => e (rowAt j.val s) h := funext fun x => by
  obtain ⟨-, -, -, e0, e1, e2⟩ := ixI t
  have h0 : (x 0).val < 8 := (x 0).isLt; have h2 : (x 2).val < 256 := (x 2).isLt
  unfold iblk
  rw [show V m c (Pipeline.arrRef spec0 3) = up3 (found (fun _ _ => 0) (fun _ _ => 0) (fun _ _ => 0) (fun _ _ => 0) e fun _ _ => 0).ct from
    (V_ct m c).trans (by rw [he]; exact Cert.KernelIdeal.Val.ct_real (fun _ _ => 0) (fun _ _ => 0) (fun _ _ => 0) (fun _ _ => 0) e fun _ _ => 0)]
  show ((e _ _ : ℝ) : EReal) = ((e _ _ : ℝ) : EReal)
  congr 2
  · apply Fin.ext; show 256 * (win0_3.index t 0 * 8 + 1 * (x 0).val) + (win0_3.index t 2 * 256 + 1 * (x 2).val) = (256 * (x 0).val + (x 2).val) % 2048; omega
  · apply Fin.ext; show win0_3.index t 1 * 8 + 1 * (x 1).val = (x 1).val; omega

include hq hk hv he hp in
theorem outs : out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (iblk m c 0 t) (iblk m c 1 t) (iblk m c 2 t) (iblk m c 3 t) = up2 (outR q k v e p (grid0.coords t 1).val T)
    ∧ out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (iblk m c 0 t) (iblk m c 1 t) (iblk m c 2 t) (iblk m c 3 t) = up3 fun (_ : Fin 1) => lseR q k e p (grid0.coords t 1).val T := by
  have f := form c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t)
  have s := stored q k v e p (grid0.coords t 1).val T (grid0.coords t 1).isLt _ (all_tiles c (grid0.coords t) (ms0_0 t) (hs0_0 t) (ms0_1 t) (hs0_1 t) (ms0_2 t) (hs0_2 t) (ms0_3 t) (hs0_3 t)
    (ms0_4 t) (hs0_4 t) (ms0_5 t) (hs0_5 t) (iblk m c 0 t) (iblk m c 1 t) (iblk m c 2 t) (iblk m c 3 t) q k v e p hp (blk0 m c q hq t p hp) (blk1 m c k hk t p hp) (blk2 m c v hv t p hp) (blk3 m c e he t))
  constructor
  · unfold out0_A_4
    rw [View.read_writes_junk_eq_canon]
    exact (congrArg View.canon f.1).trans ((View.canon_unit_zero (S := S256x128) z2 _ _).trans s.1)
  · unfold out0_A_5
    rw [View.read_writes_junk_eq_canon]
    exact (congrArg View.canon f.2).trans ((View.canon_unit_zero (S := S1x256x128) z3 _ _).trans s.2)
end

section
variable (q k v : Fin 2048 → Fin 512 → ℝ) (e : Fin 2048 → Fin 8 → ℝ) (T : Fin 8 → Fin 2048 → ℝ)
  (hq : m ((c.tc : Thread nD τ).loc main_arg0) = up2 q) (hk : m ((c.tc : Thread nD τ).loc main_arg1) = up2 k)
  (hv : m ((c.tc : Thread nD τ).loc main_arg2) = up2 v) (he : m ((c.tc : Thread nD τ).loc main_arg3) = up2 e)
include hq hk hv he

theorem same4 : ((dats m 0 c).arrAt 4 cfg0.N : Vec Ideal S2048x512 .bf16) = up2 (found q k v q e T).o := funext fun x => by
  have h0 : (x 0).val < 2048 := (x 0).isLt; have h1 : (x 1).val < 512 := (x 1).isLt
  obtain ⟨t, hp, hb⟩ := point ⟨(x 1).val / 128, by omega⟩ ⟨(x 0).val / 256, by omega⟩
  obtain ⟨⟨hf, e0, e1⟩, -⟩ := ixO t
  simp only at hp hb
  have ex : ((cfg0.win 4).blk t).view.emb (at2 (n0 := 256) (n1 := 128) ⟨(x 0).val % 256, by omega⟩ ⟨(x 1).val % 128, by omega⟩) = x := funext fun a => by
    match a with
    | ⟨0, _⟩ => apply Fin.ext; show win0_4.index t 0 * 256 + 1 * ((x 0).val % 256) = (x 0).val; omega
    | ⟨1, _⟩ => apply Fin.ext; show win0_4.index t 1 * 128 + 1 * ((x 1).val % 128) = (x 1).val; omega
  refine (congrArg ((dats m 0 c).arrAt 4 cfg0.N) ex.symm).trans ?_
  refine (congrFun (blocks4 m c t hf) (at2 (n0 := 256) (n1 := 128) _ _)).trans ?_
  rw [flushed4_A m c t]
  refine (congrFun (outs m c q k v e T hq hk hv he t ⟨(x 1).val / 128, by omega⟩ hp.symm).1 (at2 (n0 := 256) (n1 := 128) _ _)).trans ?_
  show ((attn q k v e T _ _ _ : ℝ) : EReal) = ((attn q k v e T _ _ _ : ℝ) : EReal)
  congr 2
  · apply Fin.ext; show 2 * ((x 1).val / 128) + (x 1).val % 128 / 64 = (x 1).val / 64; omega
  · apply Fin.ext; show (256 * (grid0.coords t 1).val + (x 0).val % 256) % 2048 = (x 0).val; omega
  · apply Fin.ext; show (x 1).val % 128 % 64 = (x 1).val % 64; omega

theorem same5 : ((dats m 0 c).arrAt 5 cfg0.N : Vec Ideal S4x2048x128 .f32) = up3 (found q k v q e T).l := funext fun x => by
  have h0 : (x 0).val < 4 := (x 0).isLt; have h1 : (x 1).val < 2048 := (x 1).isLt; have h2 : (x 2).val < 128 := (x 2).isLt
  obtain ⟨t, hp, hb⟩ := point ⟨(x 0).val, by omega⟩ ⟨(x 1).val / 256, by omega⟩
  obtain ⟨-, hf, e0, e1, e2⟩ := ixO t
  simp only at hp hb
  have ex : ((cfg0.win 5).blk t).view.emb (at3 (n0 := 1) (n1 := 256) (n2 := 128) 0 ⟨(x 1).val % 256, by omega⟩ ⟨(x 2).val, h2⟩) = x := funext fun a => by
    match a with
    | ⟨0, _⟩ => apply Fin.ext; show win0_5.index t 0 * 1 + 1 * 0 = (x 0).val; omega
    | ⟨1, _⟩ => apply Fin.ext; show win0_5.index t 1 * 256 + 1 * ((x 1).val % 256) = (x 1).val; omega
    | ⟨2, _⟩ => apply Fin.ext; show win0_5.index t 2 * 128 + 1 * (x 2).val = (x 2).val; omega
  refine (congrArg ((dats m 0 c).arrAt 5 cfg0.N) ex.symm).trans ?_
  refine (congrFun (blocks5 m c t hf) (at3 (n0 := 1) (n1 := 256) (n2 := 128) _ _ _)).trans ?_
  rw [flushed5_A m c t]
  refine (congrFun (outs m c q k v e T hq hk hv he t ⟨(x 0).val, by omega⟩ hp.symm).2 (at3 (n0 := 1) (n1 := 256) (n2 := 128) _ _ _)).trans ?_
  have hr : rowAt (grid0.coords t 1).val ⟨(x 1).val % 256, by omega⟩ = x 1 := Fin.ext (show (256 * (grid0.coords t 1).val + (x 1).val % 256) % 2048 = (x 1).val by omega)
  show ((lseR q k e _ _ T ⟨(x 1).val % 256, _⟩ ⟨(x 2).val, _⟩ : ℝ) : EReal) = (((if h : (x 2).val < 2 then lsum q k e T ⟨2 * (x 0).val + (x 2).val, _⟩ (x 1) else 0) : ℝ) : EReal)
  unfold lseR
  rw [hr]
  refine congrArg (fun z : ℝ => (z : EReal)) ?_
  by_cases a : (x 2).val = 0
  · rw [if_pos a, dif_pos (by omega)]
    exact congrArg (fun z => lsum q k e T z (x 1)) (Fin.ext (show 2 * (x 0).val + 0 = 2 * (x 0).val + (x 2).val by omega))
  · rw [if_neg a]
    by_cases b : (x 2).val = 1
    · rw [if_pos b, dif_pos (by omega)]
      exact congrArg (fun z => lsum q k e T z (x 1)) (Fin.ext (show 2 * (x 0).val + 1 = 2 * (x 0).val + (x 2).val by omega))
    · rw [if_neg b, dif_neg (by omega)]
end

end Cert.Kernel22Ideal.Val

namespace Cert.Proof

open Idealize.ShloMosaic Idealize.SL.Sem
open Cert.KernelIdeal.Hand (up2 up3)
open Cert.KernelIdeal.Val (found)
open Cert.Reference22Ideal.Read

/-- The precondition's side conditions: those of the attention gradient's. -/
instance facts22 : Cert.Pre_finite22.Facts where
  bitsLt_bf16_f32 := Cert.Pre_finite.Gen.bitsLt_bf16_f32
  bcast_S_S2048x512 := Cert.Pre_finite.Gen.bcast_S_S2048x512
  reducesTo_S2048x512_S_d0_1 := Cert.Pre_finite.Gen.reducesTo_S2048x512_S_d0_1
  h_S_ := Cert.Pre_finite.Gen.h_S_
  bcast_S_S2048x8 := Cert.Pre_finite.Gen.bcast_S_S2048x8
  reducesTo_S2048x8_S_d0_1 := Cert.Pre_finite.Gen.reducesTo_S2048x8_S_d0_1

section
variable [Cert.Pre_finite22.Facts]
open Cert.Finite
theorem reals22 (x0 x1 x2 : FVec Ideal Cert.Pre_finite22.S2048x512 .bf16) (x3 : FVec Ideal Cert.Pre_finite22.S2048x8 .f32)
    (h : Cert.Pre_finite22.fn (F := Ideal) x0 x1 x2 x3 = fun _ => 1#1) :
    ∃ (q k v : Fin 2048 → Fin 512 → ℝ) (c : Fin 2048 → Fin 8 → ℝ), x0 = up2 q ∧ x1 = up2 k ∧ x2 = up2 v ∧ x3 = up2 c := by
  have h' := congrFun h (Shape.Idx.first Cert.Pre_finite22.Facts.h_S_)
  unfold Cert.Pre_finite22.fn Cert.Pre_finite22.fn_part1 at h'
  obtain ⟨h', h3⟩ := andi_one h'
  obtain ⟨h', h2⟩ := andi_one h'
  obtain ⟨h0, h1⟩ := andi_one h'
  obtain ⟨q, hq⟩ := up_of x0 fun i => below _ (Host.reduce_andi_all _ _ _ _ _ h0 i)
  obtain ⟨k, hk⟩ := up_of x1 fun i => below _ (Host.reduce_andi_all _ _ _ _ _ h1 i)
  obtain ⟨v, hv⟩ := up_of x2 fun i => below _ (Host.reduce_andi_all _ _ _ _ _ h2 i)
  obtain ⟨c, hc⟩ := up_of x3 fun i => below _ (Host.reduce_andi_all _ _ _ _ _ h3 i)
  exact ⟨q, k, v, c, hq, hk, hv, hc⟩
end

section
variable (q k v : Fin 2048 → Fin 512 → ℝ) (e : Fin 2048 → Fin 8 → ℝ) (T : Fin 8 → Fin 2048 → ℝ)
  (hT : Cert.ReferenceIdeal.Read.val_main_v28 (F := Ideal) (up2 q) (up2 k) (up2 e) = up2 T)
include hT
theorem ref_o : val_main_v81 (F := Ideal) (up2 q) (up2 k) (up2 v) (up2 e) = up2 (found q k v q e T).o := by
  unfold val_main_v81
  rw [show val_main_v43 (F := Ideal) (up2 q) (up2 k) (up2 v) (up2 e) = Cert.ReferenceIdeal.Read.val_main_v60 (F := Ideal) (up2 q) (up2 k) (up2 v) (up2 e) from rfl,
    Cert.ReferenceIdeal.Real.output q k v q e T hT]
  rfl
theorem ref_l : val_main_v84 (F := Ideal) (up2 q) (up2 k) (up2 e) = up3 (found q k v q e T).l :=
  Eq.trans (show _ = _ from rfl) (Cert.KernelIdeal.Val.l_real q k v q e T hT)
end

theorem mix_attn_frame : Cert.quiescent_Reference22Ideal (hReference22Ideal := Cert.Reference22Ideal.Gen.facts) := fun m ρ _ =>
  (θ_run Cert.Reference22Ideal.defs _ _).mono (fun _ h => ⟨fun c => (h c).2.2, funext fun s => by nomatch s⟩) (Cert.Reference22Ideal.Value.run (F := Ideal) m ρ)

/-- The mask's number is below every other at the bits, and stands for what is below every real. -/
theorem mix_attn_mask : Cert.preserves_Kernel22_Kernel22Ideal :=
  IdealRules.named_const.statement Cert.Kernel22Ideal.κ "mask" .f32 0xF149F2CA#32 (⊥) rfl

theorem mix_attn : Cert.algebraic_Kernel22Ideal_Reference22Ideal_pre_finite22 (hKernel22Ideal := Cert.Kernel22Ideal.Gen.facts)
    (hReference22Ideal := Cert.Reference22Ideal.Gen.facts) (hPre_finite22 := facts22) := by
  intro m g m' g' hpre hargs
  choose q k v e h0 h1 h2 h3 using fun c => reals22 _ _ _ _ (hpre c)
  choose T hT using fun c => Cert.ReferenceIdeal.Real.tops (q c) (k c) (e c)
  refine ⟨fun c => up2 (found (q c) (k c) (v c) (q c) (e c) (T c)).o, fun c => up3 (found (q c) (k c) (v c) (q c) (e c) (T c)).l, ?_, ?_⟩
  · refine (θ_run Cert.Kernel22Ideal.defs _ _).mono (fun r h c => ?_) (Cert.Kernel22Ideal.Value.run_blocks m g)
    obtain ⟨a0, a1, b⟩ := h c
    exact ⟨a0.trans (Cert.Kernel22Ideal.Val.same4 m c _ _ _ _ _ (h0 c) (h1 c) (h2 c) (h3 c)), a1.trans (Cert.Kernel22Ideal.Val.same5 m c _ _ _ _ _ (h0 c) (h1 c) (h2 c) (h3 c)), b⟩
  · refine (θ_run Cert.Reference22Ideal.defs _ _).mono (fun r h c => ?_) (Cert.Reference22Ideal.Value.run (F := Ideal) m' g')
    obtain ⟨a0, a1, b⟩ := h c
    obtain ⟨g0, g1, g2, g3⟩ := hargs c
    refine ⟨a0.trans ((val_main_v81_eq m' c).trans ?_), a1.trans ((val_main_v84_eq m' c).trans ?_), b⟩
    · rw [g0, g1, g2, g3, h0, h1, h2, h3]; exact ref_o _ _ _ _ _ (hT c)
    · rw [g0, g1, g3, h0, h1, h3]; exact ref_l _ _ (v c) _ _ (hT c)

end Cert.Proof

end
-- ==== Proof.Act.lean ====
/- The feed-forward's gated activation: what the call leaves of its result, the reference's, and the claim over the reals. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Gate
public import Idealize.ShloMosaic.Lib.Pointwise
public import Idealize.ShloMosaic.Lib.Pointwise.Tactic
public import Idealize.ShloMosaic.Lib.StableHlo.RunRead

@[expose] public section

set_option maxRecDepth 16384
set_option backward.isDefEq.respectTransparency false

noncomputable section

namespace Cert.Kernel12Ideal.Val

open Idealize.ShloMosaic Idealize.ShloMosaic.TcCoe Idealize.ShloMosaic.Tactic Idealize.ShloMosaic.StableHlo
open Cert.Kernel12Ideal.Gen Cert.Kernel12Ideal.Value Cert.Sums Cert.Gate

/-- The activation of `a`, gated by `b`. -/
def act (a b : EReal) : EReal := a * sg a * b
/-- A place of a block: of the gates' part or the values', `e`. -/
def at4 (e : Fin 2) (r : Fin 512) (f : Fin 704) : S2x1x512x704.Idx := fun a => match a with
  | ⟨0, _⟩ => e
  | ⟨1, _⟩ => (0 : Fin 1)
  | ⟨2, _⟩ => r
  | ⟨3, _⟩ => f

theorem stored (x : Vec Ideal S2x1x512x704 .f32) (r : Fin 512) (f : Fin 704) : out0_1 (F := Ideal) x (at3 0 r f) = act (x (at4 0 r f)) (x (at4 1 r f)) := by
  unfold out0_1
  rw [canon1_eq]
  have e : ∀ i, i = ix1_0 (at3 0 r f) → View.ld x r0_0 i = x (at4 0 r f) := fun i h => h ▸ congrArg x (funext fun a => by
    match a with
    | ⟨0, _⟩ => rfl
    | ⟨1, _⟩ => rfl
    | ⟨2, _⟩ => apply Fin.ext; show 0 + 1 * r.val = r.val; omega
    | ⟨3, _⟩ => apply Fin.ext; show 0 + 1 * f.val = f.val; omega)
  have e' : View.ld x r0_1 (ix1_2 (at3 0 r f)) = x (at4 1 r f) := congrArg x (funext fun a => by
    match a with
    | ⟨0, _⟩ => rfl
    | ⟨1, _⟩ => rfl
    | ⟨2, _⟩ => apply Fin.ext; show 0 + 1 * r.val = r.val; omega
    | ⟨3, _⟩ => apply Fin.ext; show 0 + 1 * f.val = f.val; omega)
  show View.ld x r0_0 (ix1_0 (at3 0 r f)) * Ideal.div (Ideal.ofBits .f32 0x3F800000#32) (Ideal.ofBits .f32 0x3F800000#32 + Ideal.exp (Ideal.ofBits .f32 0x00000000#32 - View.ld x r0_0 (ix1_1 (at3 0 r f))))
    * View.ld x r0_1 (ix1_2 (at3 0 r f)) = _
  rw [e _ rfl, e', show Ideal.ofBits .f32 0x3F800000#32 = 1 from one_bits, show Ideal.ofBits .f32 0x00000000#32 = 0 by simp [Ideal.ofBits, Ideal.ieee], sg_sub]
  rfl

variable (m : (ℓ : Loc nD τ sig) → Buf (Elt Ideal) ℓ) (c : Dev nD) (A : Vec Ideal S8x2048x704 .f32) (hA : m ((c : Thread nD τ).loc main_arg0) = A)

theorem ix0 : ∀ t : Fin grid0.N, win0_0.index t 0 = 0 ∧ win0_0.index t 1 = t.val / 4 ∧ win0_0.index t 2 = t.val % 4 ∧ win0_0.index t 3 = 0 := by decide +kernel
theorem ixO : ∀ t : Fin grid0.N, win0_1.flush t = true ∧ win0_1.index t 0 = t.val / 4 ∧ win0_1.index t 1 = t.val % 4 ∧ win0_1.index t 2 = 0 := by decide +kernel

theorem V_ab : V m c main_v0 = shapeCast S2x4x2048x704 (m ((c.tc : Thread nD τ).loc main_arg0)) shapeCasts_S8x2048x704_S2x4x2048x704 := by
  unfold_abbrev_sides
  simp only [hostOps0, TRef.unary, TRef.toBuf, TRef.ofBuf, cast_eq]
  after_reads_simp
  rfl

include hA in
theorem blk (t : Fin cfg0.N) (e : Fin 2) (s : Fin 8) (R : Fin 2048) (r : Fin 512) (f : Fin 704) (hs : s.val = 4 * e.val + t.val / 4) (hR : R.val = t.val % 4 * 512 + r.val) :
    (iblk m c 0 t : Vec Ideal S2x1x512x704 .f32) (at4 e r f) = A (at3 s R f) := by
  obtain ⟨e0, e1, e2, e3⟩ := ix0 t
  unfold iblk
  rw [show V m c (Pipeline.arrRef spec0 0) = shapeCast S2x4x2048x704 A shapeCasts_S8x2048x704_S2x4x2048x704 from (V_ab m c).trans (by rw [hA])]
  refine shapeCast_apply A _ _ (at3 s R f) ?_
  rewrite [Shape.rowMajor_val_three, Shape.rowMajor_val_four]
  have hs' := s.isLt; have he := e.isLt
  show (s.val * 2048 + R.val) * 704 + f.val = (((win0_0.index t 0 * 2 + 1 * e.val) * 4 + (win0_0.index t 1 * 1 + 1 * 0)) * 2048 + (win0_0.index t 2 * 512 + 1 * r.val)) * 704 + (win0_0.index t 3 * 704 + 1 * f.val)
  omega

open Cert.Reference12Ideal.Read in
theorem ref_entry (s : Fin 4) (R : Fin 2048) (f : Fin 704) :
    (val_main_v8 (F := Ideal) A : Vec Ideal S4x2048x704 .bf16) (at3 s R f) = act (A (at3 ⟨s.val, by omega⟩ R f)) (A (at3 ⟨4 + s.val, by omega⟩ R f)) := by
  have hs := s.isLt; have hf := f.isLt; have hR := R.isLt
  rw [val_main_v8_apply, val_main_v7_apply, val_main_v6_apply, val_main_v5_apply, val_main_v4_apply, val_main_call0_v5_apply, val_main_call0_v3_apply, val_main_call0_v1_apply, val_main_call0_v0_apply,
    sg_host (val_main_call0_v4 (F := Ideal) (idx_main_v6 (idx_main_v7 (at3 s R f)))) (val_main_call0_v2 (F := Ideal) (idx_main_v6 (idx_main_v7 (at3 s R f)))) _
      ((val_main_call0_v4_apply _).trans (val_main_call0_cst_0_apply _)) ((val_main_call0_v2_apply _).trans (val_main_call0_cst_apply _)),
    val_main_v2_apply, val_main_v3_apply, val_main_v1_apply, val_main_v1_apply, val_main_v0_apply, val_main_v0_apply]
  refine congrArg₂ act (congrArg A (funext fun a => ?_)) (congrArg A (funext fun a => ?_))
  · match a with
    | ⟨0, _⟩ => apply Fin.ext; show (((R.val * 4 + s.val) * 704 + f.val) / 2816 * 5632 + ((R.val * 4 + s.val) * 704 + f.val) % 2816) / 704 % 8 = s.val; omega
    | ⟨1, _⟩ => apply Fin.ext; show (((R.val * 4 + s.val) * 704 + f.val) / 2816 * 5632 + ((R.val * 4 + s.val) * 704 + f.val) % 2816) / 5632 = R.val; omega
    | ⟨2, _⟩ => apply Fin.ext; show (((R.val * 4 + s.val) * 704 + f.val) / 2816 * 5632 + ((R.val * 4 + s.val) * 704 + f.val) % 2816) % 704 = f.val; omega
  · match a with
    | ⟨0, _⟩ => apply Fin.ext; show (((R.val * 4 + s.val) * 704 + f.val) / 2816 * 5632 + (2816 + ((R.val * 4 + s.val) * 704 + f.val) % 2816)) / 704 % 8 = 4 + s.val; omega
    | ⟨1, _⟩ => apply Fin.ext; show (((R.val * 4 + s.val) * 704 + f.val) / 2816 * 5632 + (2816 + ((R.val * 4 + s.val) * 704 + f.val) % 2816)) / 5632 = R.val; omega
    | ⟨2, _⟩ => apply Fin.ext; show (((R.val * 4 + s.val) * 704 + f.val) / 2816 * 5632 + (2816 + ((R.val * 4 + s.val) * 704 + f.val) % 2816)) % 704 = f.val; omega

include hA in
theorem same : ((dats m 0 c).arrAt 1 cfg0.N : Vec Ideal S4x2048x704 .bf16) = Cert.Reference12Ideal.Read.val_main_v8 (F := Ideal) A := funext fun i => by
  rw [← at3_eta i]
  have hs : (i 0).val < 4 := (i 0).isLt; have hR : (i 1).val < 2048 := (i 1).isLt
  have hN : cfg0.N = 16 := N_0
  let t : Fin cfg0.N := ⟨4 * (i 0).val + (i 1).val / 512, by omega⟩
  have tv : t.val = 4 * (i 0).val + (i 1).val / 512 := rfl
  let r : Fin 512 := ⟨(i 1).val % 512, by omega⟩
  obtain ⟨hf, e0, e1, e2⟩ := ixO t
  refine Eq.trans ?_ (ref_entry A (i 0) (i 1) (i 2)).symm
  have e : ((cfg0.win 1).blk t).view.emb (at3 (n0 := 1) (n1 := 512) (n2 := 704) 0 r (i 2)) = at3 (i 0) (i 1) (i 2) := funext fun a => by
    match a with
    | ⟨0, _⟩ => apply Fin.ext; show win0_1.index t 0 * 1 + 1 * 0 = (i 0).val; omega
    | ⟨1, _⟩ => apply Fin.ext; show win0_1.index t 1 * 512 + 1 * ((i 1).val % 512) = (i 1).val; omega
    | ⟨2, _⟩ => apply Fin.ext; show win0_1.index t 2 * 704 + 1 * (i 2).val = (i 2).val; omega
  refine (congrArg ((dats m 0 c).arrAt 1 cfg0.N) e.symm).trans ?_
  refine (congrFun (blocks1 m c t hf) (at3 (n0 := 1) (n1 := 512) (n2 := 704) 0 r (i 2))).trans ?_
  rw [flushed1]
  refine (stored (iblk m c 0 t) r (i 2)).trans ?_
  have h0 : (0 : Fin 2).val = 0 := rfl
  have h1 : (1 : Fin 2).val = 1 := rfl
  have hr : (i 1).val = t.val % 4 * 512 + r.val := by show (i 1).val = t.val % 4 * 512 + (i 1).val % 512; omega
  rw [blk m c A hA t 0 ⟨(i 0).val, by omega⟩ (i 1) r (i 2) (by show (i 0).val = _; omega) hr, blk m c A hA t 1 ⟨4 + (i 0).val, by omega⟩ (i 1) r (i 2) (by show 4 + (i 0).val = _; omega) hr]

end Cert.Kernel12Ideal.Val

namespace Cert.Proof

open Idealize.ShloMosaic Idealize.SL.Sem

theorem act_frame : Cert.quiescent_Reference12Ideal (hReference12Ideal := Cert.Reference12Ideal.Gen.facts) := fun m ρ _ =>
  (θ_run Cert.Reference12Ideal.defs _ _).mono (fun _ h => ⟨fun c => (h c).2, funext fun s => by nomatch s⟩) (Cert.Reference12Ideal.Value.run (F := Ideal) m ρ)

theorem act : Cert.algebraic_Kernel12Ideal_Reference12Ideal (hKernel12Ideal := Cert.Kernel12Ideal.Gen.facts) (hReference12Ideal := Cert.Reference12Ideal.Gen.facts) := by
  intro m g m' g' _ hargs
  refine ⟨fun c => (Cert.Kernel12Ideal.Gen.dats m 0 c).arrAt 1 Cert.Kernel12Ideal.cfg0.N, Cert.Kernel12Ideal.Value.run_blocks m g,
    (θ_run Cert.Reference12Ideal.defs _ _).mono (fun r h c => ?_) (Cert.Reference12Ideal.Value.run (F := Ideal) m' g')⟩
  obtain ⟨a0, b⟩ := h c
  exact ⟨a0.trans ((Cert.Reference12Ideal.Read.val_main_v8_eq _).trans (Cert.Kernel12Ideal.Val.same m c _ (hargs c).symm).symm), b⟩

end Cert.Proof

end
-- ==== Proof.lean ====
/- The certificate: the frames, the idealizations and the value claims, put together. -/
module

public import proofs.«01_k».proof.Defs
public import proofs.«01_k».proof.Proof.Gen.ReferenceIdeal.Run
public import proofs.«01_k».proof.Proof.RefGrad
public import proofs.«01_k».proof.Proof.Prefix
public import proofs.«01_k».proof.Proof.Finite
public import proofs.«01_k».proof.Proof.ValueRun
public import proofs.«01_k».proof.Proof.KFrame
public import proofs.«01_k».proof.Proof.Products
public import proofs.«01_k».proof.Proof.Norms
public import proofs.«01_k».proof.Proof.Mixer
public import proofs.«01_k».proof.Proof.Forward
public import proofs.«01_k».proof.Proof.Act
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel15.Frame
public import proofs.«01_k».proof.Proof.Gen.Kernel15Ideal.Frame
public import proofs.«01_k».proof.Proof.Gen.Kernel16.Frame
public import proofs.«01_k».proof.Proof.Gen.Kernel16Ideal.Frame
public import proofs.«01_k».proof.Proof.Gen.Kernel17.Frame
public import proofs.«01_k».proof.Proof.Gen.Kernel17Ideal.Frame
public import proofs.«01_k».proof.Proof.Gen.Kernel18.Frame
public import proofs.«01_k».proof.Proof.Gen.Kernel18Ideal.Frame
public import proofs.«01_k».proof.Proof.Gen.Kernel19.Frame
public import proofs.«01_k».proof.Proof.Gen.Kernel19Ideal.Frame
public import proofs.«01_k».proof.Proof.Gen.Kernel20.Frame
public import proofs.«01_k».proof.Proof.Gen.Kernel20Ideal.Frame
public import proofs.«01_k».proof.Proof.Gen.Kernel21.Frame
public import proofs.«01_k».proof.Proof.Gen.Kernel21Ideal.Frame
public import proofs.«01_k».proof.Proof.Gen.Kernel22.Frame
public import proofs.«01_k».proof.Proof.Gen.Kernel22Ideal.Frame
public import Idealize.ShloMosaic.Adequacy
public import Idealize.ShloMosaic.Init

@[expose] public section

set_option maxRecDepth 16384
set_option backward.isDefEq.respectTransparency false

noncomputable section

namespace Cert.Proof

open Idealize.ShloMosaic Idealize.SL.Sem

/-- The reference's frame, at the ideal instance. -/
theorem reference_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono
    (fun _ h => ⟨fun c => (h c).2.2.2.2.2, funext fun s => by nomatch s⟩)
    (Cert.ReferenceIdeal.Value.run (F := Ideal) m ρ)

set_option maxHeartbeats 2000000 in
open Cert.ReferenceIdeal.Real Cert.ReferenceIdeal.Read Cert.KernelIdeal.Val in
open Cert.KernelIdeal.Hand (up2 up3 up4) in
/-- From arguments of real entries the kernel and the plain gradient end with the same five arrays. -/
theorem same_values : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  choose q k v d e h0 h1 h2 h3 h4 using fun c => Cert.Finite.reals _ _ _ _ _ (hpre c)
  choose T hT using fun c => tops (q c) (k c) (e c)
  refine ⟨fun c => up2 (outQ (found (q c) (k c) (v c) (d c) (e c) (T c))), fun c => up2 (outK (found (q c) (k c) (v c) (d c) (e c) (T c))),
    fun c => up2 (outV (found (q c) (k c) (v c) (d c) (e c) (T c))), fun c => up4 (outC (found (q c) (k c) (v c) (d c) (e c) (T c))),
    fun c => up3 (outR (found (q c) (k c) (v c) (d c) (e c) (T c))), ?_, ?_⟩
  · refine (θ_run Cert.KernelIdeal.defs _ _).mono (fun r h c => ?_)
      (Cert.KernelIdeal.Val.run m g _ fun c => holds m c (q c) (k c) (v c) (d c) (e c) (T c) (hT c) (h0 c) (h1 c) (h2 c) (h3 c) (h4 c))
    obtain ⟨⟨a0, a1, a2, a3, a4⟩, b⟩ := h c
    exact ⟨a0, a1, a2, a3, a4, b⟩
  · refine (θ_run Cert.ReferenceIdeal.defs _ _).mono (fun r h c => ?_) (Cert.ReferenceIdeal.Value.run (F := Ideal) m' g')
    obtain ⟨a0, a1, a2, a3, a4, b⟩ := h c
    obtain ⟨g0, g1, g2, g3, g4⟩ := hargs c
    refine ⟨a0.trans ((val_main_v96_eq m' c).trans ?_), a1.trans ((val_main_v94_eq m' c).trans ?_), a2.trans ((val_main_v67_eq m' c).trans ?_),
      a3.trans ((val_main_v102_eq m' c).trans ?_), a4.trans ((val_main_v103_eq m' c).trans ?_), b⟩
    · rw [g0, g1, g2, g3, g4, h0, h1, h2, h3, h4]; exact ref_q _ _ _ _ _ _ (hT c)
    · rw [g0, g1, g2, g3, g4, h0, h1, h2, h3, h4]; exact ref_k _ _ _ _ _ _ (hT c)
    · rw [g0, g1, g3, g4, h0, h1, h3, h4]; exact ref_v _ _ (v c) _ _ _ (hT c)
    · rw [g0, g1, g2, g3, g4, h0, h1, h2, h3, h4]; exact ref_c _ _ _ _ _ _ (hT c)
    · rw [g0, g1, g2, g3, g4, h0, h1, h2, h3, h4]; exact ref_r _ _ _ _ _ _ (hT c)

theorem claim : Cert.Claim := ⟨
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel.Gen.facts, Cert.KernelIdeal.Gen.facts, Cert.ReferenceIdeal.Gen.facts, facts22, Cert.Pre_finite.Gen.facts,
  fun m ρ _ => Cert.Kernel2.Gen.frame m ρ, fun m ρ _ => Cert.Kernel2Ideal.Gen.frame m ρ, dn_frame,
  fun m ρ _ => Cert.Kernel3.Gen.frame m ρ, fun m ρ _ => Cert.Kernel3Ideal.Gen.frame m ρ, dwi_frame,
  fun m ρ _ => Cert.Kernel4.Gen.frame m ρ, fun m ρ _ => Cert.Kernel4Ideal.Gen.frame m ρ, dwo_frame,
  fun m ρ _ => Cert.Kernel5.Gen.frame m ρ, fun m ρ _ => Cert.Kernel5Ideal.Gen.frame m ρ, dact_frame,
  fun m ρ _ => Cert.Kernel6.Gen.frame m ρ, fun m ρ _ => Cert.Kernel6Ideal.Gen.frame m ρ, ffin_frame,
  fun m ρ _ => Cert.Kernel7.Gen.frame m ρ, fun m ρ _ => Cert.Kernel7Ideal.Gen.frame m ρ, ffout_frame,
  fun m ρ _ => Cert.Kernel8.Gen.frame m ρ, fun m ρ _ => Cert.Kernel8Ideal.Gen.frame m ρ, inproj_frame,
  fun m ρ _ => Cert.Kernel9.Gen.frame m ρ, fun m ρ _ => Cert.Kernel9Ideal.Gen.frame m ρ, du_frame,
  fun m ρ _ => Cert.Kernel10.Gen.frame m ρ, fun m ρ _ => Cert.Kernel10Ideal.Gen.frame m ρ, dwin_frame,
  fun m ρ _ => Cert.Kernel12.Gen.frame m ρ, fun m ρ _ => Cert.Kernel12Ideal.Gen.frame m ρ, act_frame,
  fun m ρ _ => Cert.Kernel13.Gen.frame m ρ, fun m ρ _ => Cert.Kernel13Ideal.Gen.frame m ρ, norm_frame,
  fun m ρ _ => Cert.Kernel14.Gen.frame m ρ, fun m ρ _ => Cert.Kernel14Ideal.Gen.frame m ρ, mixout_frame,
  fun m ρ _ => Cert.Kernel15.Gen.frame m ρ, fun m ρ _ => Cert.Kernel15Ideal.Gen.frame m ρ, dmixout_frame,
  fun m ρ _ => Cert.Kernel16.Gen.frame m ρ, fun m ρ _ => Cert.Kernel16Ideal.Gen.frame m ρ, dwout_frame,
  fun m ρ _ => Cert.Kernel17.Gen.frame m ρ, fun m ρ _ => Cert.Kernel17Ideal.Gen.frame m ρ, dwao_frame,
  fun m ρ _ => Cert.Kernel18.Gen.frame m ρ, fun m ρ _ => Cert.Kernel18Ideal.Gen.frame m ρ, dwgate_frame,
  fun m ρ _ => Cert.Kernel19.Gen.frame m ρ, fun m ρ _ => Cert.Kernel19Ideal.Gen.frame m ρ, dwproj_frame,
  fun m ρ _ => Cert.Kernel20.Gen.frame m ρ, fun m ρ _ => Cert.Kernel20Ideal.Gen.frame m ρ, ple_frame,
  fun m ρ _ => Cert.Kernel21.Gen.frame m ρ, fun m ρ _ => Cert.Kernel21Ideal.Gen.frame m ρ, dple_frame,
  fun m ρ _ => Cert.Kernel22.Gen.frame m ρ, fun m ρ _ => Cert.Kernel22Ideal.Gen.frame m ρ, fun m ρ _ => Cert.Kernel22Ideal.Gen.frame m ρ, mix_attn_frame, fun m ρ _ => mix_attn_frame m ρ trivial,
  fun m ρ _ => Cert.KernelIdeal.Hand.frame_kernel m ρ, fun m ρ _ => Cert.KernelIdeal.Hand.frame m ρ, fun m ρ _ => Cert.KernelIdeal.Hand.frame m ρ,
  fun m ρ _ => reference_frame m ρ, fun m ρ _ => reference_frame m ρ,
  trivial, dn, trivial, dwi, trivial, dwo, trivial, dact, trivial, ffin, trivial, ffout, trivial, inproj, trivial, du, trivial, dwin, trivial, act, trivial, norm, trivial, mixout, trivial, dmixout, trivial, dwout, trivial, dwao, trivial, dwgate, trivial, dwproj, trivial, ple, trivial, dple, mix_attn_mask, mix_attn, trivial, same_values⟩

end Cert.Proof

end
